-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_fwd_finite [hPre_attn_fwd_finite : Cert.Pre_attn_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 = (fun _ => 1#1)
    ∧ (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2.1 = (fun _ => 1#1)
    ∧ (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_fwd_finite [hPre_attn_fwd_finite : Cert.Pre_attn_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).1 = (fun _ => 1#1)
    ∧ (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2.1 = (fun _ => 1#1)
    ∧ (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2))).2.2 = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_AdamS5WGlu (m : (ℓ : Loc Cert.AdamS5WGlu.nD Cert.AdamS5WGlu.τ Cert.AdamS5WGlu.sig) → Buf (Elt Bits) ℓ) : Prop :=
  True

def Pre_AdamS5WGluIdeal (m : (ℓ : Loc Cert.AdamS5WGluIdeal.nD Cert.AdamS5WGluIdeal.τ Cert.AdamS5WGluIdeal.sig) → Buf (Elt Ideal) ℓ) : Prop :=
  True

def Pre_AdamS5WGluRefIdeal (m : (ℓ : Loc Cert.AdamS5WGluRefIdeal.nD Cert.AdamS5WGluRefIdeal.τ Cert.AdamS5WGluRefIdeal.sig) → Buf (Elt Ideal) ℓ) : Prop :=
  True

def Pre_AdamXaWk (m : (ℓ : Loc Cert.AdamXaWk.nD Cert.AdamXaWk.τ Cert.AdamXaWk.sig) → Buf (Elt Bits) ℓ) : Prop :=
  True

def Pre_AdamXaWkIdeal (m : (ℓ : Loc Cert.AdamXaWkIdeal.nD Cert.AdamXaWkIdeal.τ Cert.AdamXaWkIdeal.sig) → Buf (Elt Ideal) ℓ) : Prop :=
  True

def Pre_AdamXaWkRefIdeal (m : (ℓ : Loc Cert.AdamXaWkRefIdeal.nD Cert.AdamXaWkRefIdeal.τ Cert.AdamXaWkRefIdeal.sig) → Buf (Elt Ideal) ℓ) : Prop :=
  True

def Pre_AdamXaWv (m : (ℓ : Loc Cert.AdamXaWv.nD Cert.AdamXaWv.τ Cert.AdamXaWv.sig) → Buf (Elt Bits) ℓ) : Prop :=
  True

def Pre_AdamXaWvIdeal (m : (ℓ : Loc Cert.AdamXaWvIdeal.nD Cert.AdamXaWvIdeal.τ Cert.AdamXaWvIdeal.sig) → Buf (Elt Ideal) ℓ) : Prop :=
  True

def Pre_AdamXaWvRefIdeal (m : (ℓ : Loc Cert.AdamXaWvRefIdeal.nD Cert.AdamXaWvRefIdeal.τ Cert.AdamXaWvRefIdeal.sig) → Buf (Elt Ideal) ℓ) : Prop :=
  True

def Pre_AdamXaWo (m : (ℓ : Loc Cert.AdamXaWo.nD Cert.AdamXaWo.τ Cert.AdamXaWo.sig) → Buf (Elt Bits) ℓ) : Prop :=
  True

def Pre_AdamXaWoIdeal (m : (ℓ : Loc Cert.AdamXaWoIdeal.nD Cert.AdamXaWoIdeal.τ Cert.AdamXaWoIdeal.sig) → Buf (Elt Ideal) ℓ) : Prop :=
  True

def Pre_AdamXaWoRefIdeal (m : (ℓ : Loc Cert.AdamXaWoRefIdeal.nD Cert.AdamXaWoRefIdeal.τ Cert.AdamXaWoRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamSsdConvW (m : (ℓ : Loc Cert.AdamSsdConvW.nD Cert.AdamSsdConvW.τ Cert.AdamSsdConvW.sig) → Buf (Elt Bits) ℓ) : Prop :=
  True

def Pre_AdamSsdConvWIdeal (m : (ℓ : Loc Cert.AdamSsdConvWIdeal.nD Cert.AdamSsdConvWIdeal.τ Cert.AdamSsdConvWIdeal.sig) → Buf (Elt Ideal) ℓ) : Prop :=
  True

def Pre_AdamSsdConvWRefIdeal (m : (ℓ : Loc Cert.AdamSsdConvWRefIdeal.nD Cert.AdamSsdConvWRefIdeal.τ Cert.AdamSsdConvWRefIdeal.sig) → Buf (Elt Ideal) ℓ) : Prop :=
  True

def Pre_AdamWOut (m : (ℓ : Loc Cert.AdamWOut.nD Cert.AdamWOut.τ Cert.AdamWOut.sig) → Buf (Elt Bits) ℓ) : Prop :=
  True

def Pre_AdamWOutIdeal (m : (ℓ : Loc Cert.AdamWOutIdeal.nD Cert.AdamWOutIdeal.τ Cert.AdamWOutIdeal.sig) → Buf (Elt Ideal) ℓ) : Prop :=
  True

def Pre_AdamWOutRefIdeal (m : (ℓ : Loc Cert.AdamWOutRefIdeal.nD Cert.AdamWOutRefIdeal.τ Cert.AdamWOutRefIdeal.sig) → Buf (Elt Ideal) ℓ) : Prop :=
  True

def Pre_AdamMlpW1 (m : (ℓ : Loc Cert.AdamMlpW1.nD Cert.AdamMlpW1.τ Cert.AdamMlpW1.sig) → Buf (Elt Bits) ℓ) : Prop :=
  True

def Pre_AdamMlpW1Ideal (m : (ℓ : Loc Cert.AdamMlpW1Ideal.nD Cert.AdamMlpW1Ideal.τ Cert.AdamMlpW1Ideal.sig) → Buf (Elt Ideal) ℓ) : Prop :=
  True

def Pre_AdamMlpW1RefIdeal (m : (ℓ : Loc Cert.AdamMlpW1RefIdeal.nD Cert.AdamMlpW1RefIdeal.τ Cert.AdamMlpW1RefIdeal.sig) → Buf (Elt Ideal) ℓ) : Prop :=
  True

def Pre_AdamMlpW2 (m : (ℓ : Loc Cert.AdamMlpW2.nD Cert.AdamMlpW2.τ Cert.AdamMlpW2.sig) → Buf (Elt Bits) ℓ) : Prop :=
  True

def Pre_AdamMlpW2Ideal (m : (ℓ : Loc Cert.AdamMlpW2Ideal.nD Cert.AdamMlpW2Ideal.τ Cert.AdamMlpW2Ideal.sig) → Buf (Elt Ideal) ℓ) : Prop :=
  True

def Pre_AdamMlpW2RefIdeal (m : (ℓ : Loc Cert.AdamMlpW2RefIdeal.nD Cert.AdamMlpW2RefIdeal.τ Cert.AdamMlpW2RefIdeal.sig) → Buf (Elt Ideal) ℓ) : Prop :=
  True

def Pre_AdamNormMix (m : (ℓ : Loc Cert.AdamNormMix.nD Cert.AdamNormMix.τ Cert.AdamNormMix.sig) → Buf (Elt Bits) ℓ) : Prop :=
  True

def Pre_AdamNormMixIdeal (m : (ℓ : Loc Cert.AdamNormMixIdeal.nD Cert.AdamNormMixIdeal.τ Cert.AdamNormMixIdeal.sig) → Buf (Elt Ideal) ℓ) : Prop :=
  True

def Pre_AdamNormMixRefIdeal (m : (ℓ : Loc Cert.AdamNormMixRefIdeal.nD Cert.AdamNormMixRefIdeal.τ Cert.AdamNormMixRefIdeal.sig) → Buf (Elt Ideal) ℓ) : Prop :=
  True

def Pre_AdamSsdNorm (m : (ℓ : Loc Cert.AdamSsdNorm.nD Cert.AdamSsdNorm.τ Cert.AdamSsdNorm.sig) → Buf (Elt Bits) ℓ) : Prop :=
  True

def Pre_AdamSsdNormIdeal (m : (ℓ : Loc Cert.AdamSsdNormIdeal.nD Cert.AdamSsdNormIdeal.τ Cert.AdamSsdNormIdeal.sig) → Buf (Elt Ideal) ℓ) : Prop :=
  True

def Pre_AdamSsdNormRefIdeal (m : (ℓ : Loc Cert.AdamSsdNormRefIdeal.nD Cert.AdamSsdNormRefIdeal.τ Cert.AdamSsdNormRefIdeal.sig) → Buf (Elt Ideal) ℓ) : Prop :=
  True

def Pre_AdamNormXattn (m : (ℓ : Loc Cert.AdamNormXattn.nD Cert.AdamNormXattn.τ Cert.AdamNormXattn.sig) → Buf (Elt Bits) ℓ) : Prop :=
  True

def Pre_AdamNormXattnIdeal (m : (ℓ : Loc Cert.AdamNormXattnIdeal.nD Cert.AdamNormXattnIdeal.τ Cert.AdamNormXattnIdeal.sig) → Buf (Elt Ideal) ℓ) : Prop :=
  True

def Pre_AdamNormXattnRefIdeal (m : (ℓ : Loc Cert.AdamNormXattnRefIdeal.nD Cert.AdamNormXattnRefIdeal.τ Cert.AdamNormXattnRefIdeal.sig) → Buf (Elt Ideal) ℓ) : Prop :=
  True

def Pre_AdamNormMem (m : (ℓ : Loc Cert.AdamNormMem.nD Cert.AdamNormMem.τ Cert.AdamNormMem.sig) → Buf (Elt Bits) ℓ) : Prop :=
  True

def Pre_AdamNormMemIdeal (m : (ℓ : Loc Cert.AdamNormMemIdeal.nD Cert.AdamNormMemIdeal.τ Cert.AdamNormMemIdeal.sig) → Buf (Elt Ideal) ℓ) : Prop :=
  True

def Pre_AdamNormMemRefIdeal (m : (ℓ : Loc Cert.AdamNormMemRefIdeal.nD Cert.AdamNormMemRefIdeal.τ Cert.AdamNormMemRefIdeal.sig) → Buf (Elt Ideal) ℓ) : Prop :=
  True

def Pre_AdamNormMlp (m : (ℓ : Loc Cert.AdamNormMlp.nD Cert.AdamNormMlp.τ Cert.AdamNormMlp.sig) → Buf (Elt Bits) ℓ) : Prop :=
  True

def Pre_AdamNormMlpIdeal (m : (ℓ : Loc Cert.AdamNormMlpIdeal.nD Cert.AdamNormMlpIdeal.τ Cert.AdamNormMlpIdeal.sig) → Buf (Elt Ideal) ℓ) : Prop :=
  True

def Pre_AdamNormMlpRefIdeal (m : (ℓ : Loc Cert.AdamNormMlpRefIdeal.nD Cert.AdamNormMlpRefIdeal.τ Cert.AdamNormMlpRefIdeal.sig) → Buf (Elt Ideal) ℓ) : Prop :=
  True

def Pre_AdamNormFinal (m : (ℓ : Loc Cert.AdamNormFinal.nD Cert.AdamNormFinal.τ Cert.AdamNormFinal.sig) → Buf (Elt Bits) ℓ) : Prop :=
  True

def Pre_AdamNormFinalIdeal (m : (ℓ : Loc Cert.AdamNormFinalIdeal.nD Cert.AdamNormFinalIdeal.τ Cert.AdamNormFinalIdeal.sig) → Buf (Elt Ideal) ℓ) : Prop :=
  True

def Pre_AdamNormFinalRefIdeal (m : (ℓ : Loc Cert.AdamNormFinalRefIdeal.nD Cert.AdamNormFinalRefIdeal.τ Cert.AdamNormFinalRefIdeal.sig) → Buf (Elt Ideal) ℓ) : Prop :=
  True

def Pre_AdamSsdConvB (m : (ℓ : Loc Cert.AdamSsdConvB.nD Cert.AdamSsdConvB.τ Cert.AdamSsdConvB.sig) → Buf (Elt Bits) ℓ) : Prop :=
  True

def Pre_AdamSsdConvBIdeal (m : (ℓ : Loc Cert.AdamSsdConvBIdeal.nD Cert.AdamSsdConvBIdeal.τ Cert.AdamSsdConvBIdeal.sig) → Buf (Elt Ideal) ℓ) : Prop :=
  True

def Pre_AdamSsdConvBRefIdeal (m : (ℓ : Loc Cert.AdamSsdConvBRefIdeal.nD Cert.AdamSsdConvBRefIdeal.τ Cert.AdamSsdConvBRefIdeal.sig) → Buf (Elt Ideal) ℓ) : Prop :=
  True

def Pre_AdamS5ARe (m : (ℓ : Loc Cert.AdamS5ARe.nD Cert.AdamS5ARe.τ Cert.AdamS5ARe.sig) → Buf (Elt Bits) ℓ) : Prop :=
  True

def Pre_AdamS5AReIdeal (m : (ℓ : Loc Cert.AdamS5AReIdeal.nD Cert.AdamS5AReIdeal.τ Cert.AdamS5AReIdeal.sig) → Buf (Elt Ideal) ℓ) : Prop :=
  True

def Pre_AdamS5AReRefIdeal (m : (ℓ : Loc Cert.AdamS5AReRefIdeal.nD Cert.AdamS5AReRefIdeal.τ Cert.AdamS5AReRefIdeal.sig) → Buf (Elt Ideal) ℓ) : Prop :=
  True

def Pre_AdamS5AIm (m : (ℓ : Loc Cert.AdamS5AIm.nD Cert.AdamS5AIm.τ Cert.AdamS5AIm.sig) → Buf (Elt Bits) ℓ) : Prop :=
  True

def Pre_AdamS5AImIdeal (m : (ℓ : Loc Cert.AdamS5AImIdeal.nD Cert.AdamS5AImIdeal.τ Cert.AdamS5AImIdeal.sig) → Buf (Elt Ideal) ℓ) : Prop :=
  True

def Pre_AdamS5AImRefIdeal (m : (ℓ : Loc Cert.AdamS5AImRefIdeal.nD Cert.AdamS5AImRefIdeal.τ Cert.AdamS5AImRefIdeal.sig) → Buf (Elt Ideal) ℓ) : Prop :=
  True

def Pre_AdamS5LogDt (m : (ℓ : Loc Cert.AdamS5LogDt.nD Cert.AdamS5LogDt.τ Cert.AdamS5LogDt.sig) → Buf (Elt Bits) ℓ) : Prop :=
  True

def Pre_AdamS5LogDtIdeal (m : (ℓ : Loc Cert.AdamS5LogDtIdeal.nD Cert.AdamS5LogDtIdeal.τ Cert.AdamS5LogDtIdeal.sig) → Buf (Elt Ideal) ℓ) : Prop :=
  True

def Pre_AdamS5LogDtRefIdeal (m : (ℓ : Loc Cert.AdamS5LogDtRefIdeal.nD Cert.AdamS5LogDtRefIdeal.τ Cert.AdamS5LogDtRefIdeal.sig) → Buf (Elt Ideal) ℓ) : Prop :=
  True

def Pre_AdamS5BRe (m : (ℓ : Loc Cert.AdamS5BRe.nD Cert.AdamS5BRe.τ Cert.AdamS5BRe.sig) → Buf (Elt Bits) ℓ) : Prop :=
  True

def Pre_AdamS5BReIdeal (m : (ℓ : Loc Cert.AdamS5BReIdeal.nD Cert.AdamS5BReIdeal.τ Cert.AdamS5BReIdeal.sig) → Buf (Elt Ideal) ℓ) : Prop :=
  True

def Pre_AdamS5BReRefIdeal (m : (ℓ : Loc Cert.AdamS5BReRefIdeal.nD Cert.AdamS5BReRefIdeal.τ Cert.AdamS5BReRefIdeal.sig) → Buf (Elt Ideal) ℓ) : Prop :=
  True

def Pre_AdamS5BIm (m : (ℓ : Loc Cert.AdamS5BIm.nD Cert.AdamS5BIm.τ Cert.AdamS5BIm.sig) → Buf (Elt Bits) ℓ) : Prop :=
  True

def Pre_AdamS5BImIdeal (m : (ℓ : Loc Cert.AdamS5BImIdeal.nD Cert.AdamS5BImIdeal.τ Cert.AdamS5BImIdeal.sig) → Buf (Elt Ideal) ℓ) : Prop :=
  True

def Pre_AdamS5BImRefIdeal (m : (ℓ : Loc Cert.AdamS5BImRefIdeal.nD Cert.AdamS5BImRefIdeal.τ Cert.AdamS5BImRefIdeal.sig) → Buf (Elt Ideal) ℓ) : Prop :=
  True

def Pre_AdamS5CRe (m : (ℓ : Loc Cert.AdamS5CRe.nD Cert.AdamS5CRe.τ Cert.AdamS5CRe.sig) → Buf (Elt Bits) ℓ) : Prop :=
  True

def Pre_AdamS5CReIdeal (m : (ℓ : Loc Cert.AdamS5CReIdeal.nD Cert.AdamS5CReIdeal.τ Cert.AdamS5CReIdeal.sig) → Buf (Elt Ideal) ℓ) : Prop :=
  True

def Pre_AdamS5CReRefIdeal (m : (ℓ : Loc Cert.AdamS5CReRefIdeal.nD Cert.AdamS5CReRefIdeal.τ Cert.AdamS5CReRefIdeal.sig) → Buf (Elt Ideal) ℓ) : Prop :=
  True

def Pre_AdamS5CIm (m : (ℓ : Loc Cert.AdamS5CIm.nD Cert.AdamS5CIm.τ Cert.AdamS5CIm.sig) → Buf (Elt Bits) ℓ) : Prop :=
  True

def Pre_AdamS5CImIdeal (m : (ℓ : Loc Cert.AdamS5CImIdeal.nD Cert.AdamS5CImIdeal.τ Cert.AdamS5CImIdeal.sig) → Buf (Elt Ideal) ℓ) : Prop :=
  True

def Pre_AdamS5CImRefIdeal (m : (ℓ : Loc Cert.AdamS5CImRefIdeal.nD Cert.AdamS5CImRefIdeal.τ Cert.AdamS5CImRefIdeal.sig) → Buf (Elt Ideal) ℓ) : Prop :=
  True

def Pre_AdamS5D (m : (ℓ : Loc Cert.AdamS5D.nD Cert.AdamS5D.τ Cert.AdamS5D.sig) → Buf (Elt Bits) ℓ) : Prop :=
  True

def Pre_AdamS5DIdeal (m : (ℓ : Loc Cert.AdamS5DIdeal.nD Cert.AdamS5DIdeal.τ Cert.AdamS5DIdeal.sig) → Buf (Elt Ideal) ℓ) : Prop :=
  True

def Pre_AdamS5DRefIdeal (m : (ℓ : Loc Cert.AdamS5DRefIdeal.nD Cert.AdamS5DRefIdeal.τ Cert.AdamS5DRefIdeal.sig) → Buf (Elt Ideal) ℓ) : Prop :=
  True

def Pre_AdamSsdDtBias (m : (ℓ : Loc Cert.AdamSsdDtBias.nD Cert.AdamSsdDtBias.τ Cert.AdamSsdDtBias.sig) → Buf (Elt Bits) ℓ) : Prop :=
  True

def Pre_AdamSsdDtBiasIdeal (m : (ℓ : Loc Cert.AdamSsdDtBiasIdeal.nD Cert.AdamSsdDtBiasIdeal.τ Cert.AdamSsdDtBiasIdeal.sig) → Buf (Elt Ideal) ℓ) : Prop :=
  True

def Pre_AdamSsdDtBiasRefIdeal (m : (ℓ : Loc Cert.AdamSsdDtBiasRefIdeal.nD Cert.AdamSsdDtBiasRefIdeal.τ Cert.AdamSsdDtBiasRefIdeal.sig) → Buf (Elt Ideal) ℓ) : Prop :=
  True

def Pre_AdamSsdALog (m : (ℓ : Loc Cert.AdamSsdALog.nD Cert.AdamSsdALog.τ Cert.AdamSsdALog.sig) → Buf (Elt Bits) ℓ) : Prop :=
  True

def Pre_AdamSsdALogIdeal (m : (ℓ : Loc Cert.AdamSsdALogIdeal.nD Cert.AdamSsdALogIdeal.τ Cert.AdamSsdALogIdeal.sig) → Buf (Elt Ideal) ℓ) : Prop :=
  True

def Pre_AdamSsdALogRefIdeal (m : (ℓ : Loc Cert.AdamSsdALogRefIdeal.nD Cert.AdamSsdALogRefIdeal.τ Cert.AdamSsdALogRefIdeal.sig) → Buf (Elt Ideal) ℓ) : Prop :=
  True

def Pre_AdamSsdD (m : (ℓ : Loc Cert.AdamSsdD.nD Cert.AdamSsdD.τ Cert.AdamSsdD.sig) → Buf (Elt Bits) ℓ) : Prop :=
  True

def Pre_AdamSsdDIdeal (m : (ℓ : Loc Cert.AdamSsdDIdeal.nD Cert.AdamSsdDIdeal.τ Cert.AdamSsdDIdeal.sig) → Buf (Elt Ideal) ℓ) : Prop :=
  True

def Pre_AdamSsdDRefIdeal (m : (ℓ : Loc Cert.AdamSsdDRefIdeal.nD Cert.AdamSsdDRefIdeal.τ Cert.AdamSsdDRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2)
      ∧ r.2.mem ((c.tc : Thread Cert.DownDx.nD Cert.DownDx.τ).loc Cert.DownDx.main_arg3) = m ((c.tc : Thread Cert.DownDx.nD Cert.DownDx.τ).loc Cert.DownDx.main_arg3))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
      ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2)
      ∧ r.2.mem ((c.tc : Thread Cert.DownDxRefIdeal.nD Cert.DownDxRefIdeal.τ).loc Cert.DownDxRefIdeal.main_arg3) = m ((c.tc : Thread Cert.DownDxRefIdeal.nD Cert.DownDxRefIdeal.τ).loc Cert.DownDxRefIdeal.main_arg3))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2)
      ∧ r.2.mem ((c.tc : Thread Cert.UpDw.nD Cert.UpDw.τ).loc Cert.UpDw.main_arg3) = m ((c.tc : Thread Cert.UpDw.nD Cert.UpDw.τ).loc Cert.UpDw.main_arg3))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2)
      ∧ r.2.mem ((c.tc : Thread Cert.UpDwIdeal.nD Cert.UpDwIdeal.τ).loc Cert.UpDwIdeal.main_arg3) = m ((c.tc : Thread Cert.UpDwIdeal.nD Cert.UpDwIdeal.τ).loc Cert.UpDwIdeal.main_arg3))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2)
      ∧ r.2.mem ((c.tc : Thread Cert.UpDwRefIdeal.nD Cert.UpDwRefIdeal.τ).loc Cert.UpDwRefIdeal.main_arg3) = m ((c.tc : Thread Cert.UpDwRefIdeal.nD Cert.UpDwRefIdeal.τ).loc Cert.UpDwRefIdeal.main_arg3))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4)
      ∧ r.2.mem ((c.tc : Thread Cert.InDx.nD Cert.InDx.τ).loc Cert.InDx.main_arg5) = m ((c.tc : Thread Cert.InDx.nD Cert.InDx.τ).loc Cert.InDx.main_arg5)
      ∧ r.2.mem ((c.tc : Thread Cert.InDx.nD Cert.InDx.τ).loc Cert.InDx.main_arg6) = m ((c.tc : Thread Cert.InDx.nD Cert.InDx.τ).loc Cert.InDx.main_arg6))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
      ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
      ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4)
      ∧ r.2.mem ((c.tc : Thread Cert.InDxRefIdeal.nD Cert.InDxRefIdeal.τ).loc Cert.InDxRefIdeal.main_arg5) = m ((c.tc : Thread Cert.InDxRefIdeal.nD Cert.InDxRefIdeal.τ).loc Cert.InDxRefIdeal.main_arg5)
      ∧ r.2.mem ((c.tc : Thread Cert.InDxRefIdeal.nD Cert.InDxRefIdeal.τ).loc Cert.InDxRefIdeal.main_arg6) = m ((c.tc : Thread Cert.InDxRefIdeal.nD Cert.InDxRefIdeal.τ).loc Cert.InDxRefIdeal.main_arg6))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_attn_fwd_finite [hAttnFwdIdeal : Cert.AttnFwdIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_AttnFwdRefIdeal_pre_attn_fwd_finite [hAttnFwdRefIdeal : Cert.AttnFwdRefIdeal.Facts] [hPre_attn_fwd_finite : Cert.Pre_attn_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_AdamS5WGlu [hAdamS5WGlu : Cert.AdamS5WGlu.Facts] : Prop :=
  ∀ (m : (ℓ : Loc Cert.AdamS5WGlu.nD Cert.AdamS5WGlu.τ Cert.AdamS5WGlu.sig) → Buf (Elt Bits) ℓ) (g : Dev Cert.AdamS5WGlu.nD → PrngReg), Pre_AdamS5WGlu m →
    θ_run (Cert.AdamS5WGlu.defs (F := Bits)) (onTc (τ := Cert.AdamS5WGlu.τ) (Cert.AdamS5WGlu.main (F := Bits))) ⟨m, fun _ => 0, g⟩ (fun r => (∀ c : Dev Cert.AdamS5WGlu.nD,
      r.2.mem ((c.tc : Thread Cert.AdamS5WGlu.nD Cert.AdamS5WGlu.τ).loc Cert.AdamS5WGlu.main_arg0) = m ((c.tc : Thread Cert.AdamS5WGlu.nD Cert.AdamS5WGlu.τ).loc Cert.AdamS5WGlu.main_arg0)
      ∧ r.2.mem ((c.tc : Thread Cert.AdamS5WGlu.nD Cert.AdamS5WGlu.τ).loc Cert.AdamS5WGlu.main_arg1) = m ((c.tc : Thread Cert.AdamS5WGlu.nD Cert.AdamS5WGlu.τ).loc Cert.AdamS5WGlu.main_arg1)
      ∧ r.2.mem ((c.tc : Thread Cert.AdamS5WGlu.nD Cert.AdamS5WGlu.τ).loc Cert.AdamS5WGlu.main_arg2) = m ((c.tc : Thread Cert.AdamS5WGlu.nD Cert.AdamS5WGlu.τ).loc Cert.AdamS5WGlu.main_arg2)
      ∧ r.2.mem ((c.tc : Thread Cert.AdamS5WGlu.nD Cert.AdamS5WGlu.τ).loc Cert.AdamS5WGlu.main_arg3) = m ((c.tc : Thread Cert.AdamS5WGlu.nD Cert.AdamS5WGlu.τ).loc Cert.AdamS5WGlu.main_arg3))
      ∧ r.2.sem = fun _ => 0)

def quiescent_AdamS5WGluIdeal [hAdamS5WGluIdeal : Cert.AdamS5WGluIdeal.Facts] : Prop :=
  ∀ (m : (ℓ : Loc Cert.AdamS5WGluIdeal.nD Cert.AdamS5WGluIdeal.τ Cert.AdamS5WGluIdeal.sig) → Buf (Elt Ideal) ℓ) (g : Dev Cert.AdamS5WGluIdeal.nD → PrngReg), Pre_AdamS5WGluIdeal m →
    θ_run (Cert.AdamS5WGluIdeal.defs (F := Ideal)) (onTc (τ := Cert.AdamS5WGluIdeal.τ) (Cert.AdamS5WGluIdeal.main (F := Ideal))) ⟨m, fun _ => 0, g⟩ (fun r => (∀ c : Dev Cert.AdamS5WGluIdeal.nD,
      r.2.mem ((c.tc : Thread Cert.AdamS5WGluIdeal.nD Cert.AdamS5WGluIdeal.τ).loc Cert.AdamS5WGluIdeal.main_arg0) = m ((c.tc : Thread Cert.AdamS5WGluIdeal.nD Cert.AdamS5WGluIdeal.τ).loc Cert.AdamS5WGluIdeal.main_arg0)
      ∧ r.2.mem ((c.tc : Thread Cert.AdamS5WGluIdeal.nD Cert.AdamS5WGluIdeal.τ).loc Cert.AdamS5WGluIdeal.main_arg1) = m ((c.tc : Thread Cert.AdamS5WGluIdeal.nD Cert.AdamS5WGluIdeal.τ).loc Cert.AdamS5WGluIdeal.main_arg1)
      ∧ r.2.mem ((c.tc : Thread Cert.AdamS5WGluIdeal.nD Cert.AdamS5WGluIdeal.τ).loc Cert.AdamS5WGluIdeal.main_arg2) = m ((c.tc : Thread Cert.AdamS5WGluIdeal.nD Cert.AdamS5WGluIdeal.τ).loc Cert.AdamS5WGluIdeal.main_arg2)
      ∧ r.2.mem ((c.tc : Thread Cert.AdamS5WGluIdeal.nD Cert.AdamS5WGluIdeal.τ).loc Cert.AdamS5WGluIdeal.main_arg3) = m ((c.tc : Thread Cert.AdamS5WGluIdeal.nD Cert.AdamS5WGluIdeal.τ).loc Cert.AdamS5WGluIdeal.main_arg3))
      ∧ r.2.sem = fun _ => 0)

def quiescent_AdamS5WGluRefIdeal [hAdamS5WGluRefIdeal : Cert.AdamS5WGluRefIdeal.Facts] : Prop :=
  ∀ (m : (ℓ : Loc Cert.AdamS5WGluRefIdeal.nD Cert.AdamS5WGluRefIdeal.τ Cert.AdamS5WGluRefIdeal.sig) → Buf (Elt Ideal) ℓ) (g : Dev Cert.AdamS5WGluRefIdeal.nD → PrngReg), Pre_AdamS5WGluRefIdeal m →
    θ_run (Cert.AdamS5WGluRefIdeal.defs (F := Ideal)) (onTc (τ := Cert.AdamS5WGluRefIdeal.τ) (Cert.AdamS5WGluRefIdeal.main (F := Ideal))) ⟨m, fun _ => 0, g⟩ (fun r => (∀ c : Dev Cert.AdamS5WGluRefIdeal.nD,
      r.2.mem ((c.tc : Thread Cert.AdamS5WGluRefIdeal.nD Cert.AdamS5WGluRefIdeal.τ).loc Cert.AdamS5WGluRefIdeal.main_arg0) = m ((c.tc : Thread Cert.AdamS5WGluRefIdeal.nD Cert.AdamS5WGluRefIdeal.τ).loc Cert.AdamS5WGluRefIdeal.main_arg0)
      ∧ r.2.mem ((c.tc : Thread Cert.AdamS5WGluRefIdeal.nD Cert.AdamS5WGluRefIdeal.τ).loc Cert.AdamS5WGluRefIdeal.main_arg1) = m ((c.tc : Thread Cert.AdamS5WGluRefIdeal.nD Cert.AdamS5WGluRefIdeal.τ).loc Cert.AdamS5WGluRefIdeal.main_arg1)
      ∧ r.2.mem ((c.tc : Thread Cert.AdamS5WGluRefIdeal.nD Cert.AdamS5WGluRefIdeal.τ).loc Cert.AdamS5WGluRefIdeal.main_arg2) = m ((c.tc : Thread Cert.AdamS5WGluRefIdeal.nD Cert.AdamS5WGluRefIdeal.τ).loc Cert.AdamS5WGluRefIdeal.main_arg2)
      ∧ r.2.mem ((c.tc : Thread Cert.AdamS5WGluRefIdeal.nD Cert.AdamS5WGluRefIdeal.τ).loc Cert.AdamS5WGluRefIdeal.main_arg3) = m ((c.tc : Thread Cert.AdamS5WGluRefIdeal.nD Cert.AdamS5WGluRefIdeal.τ).loc Cert.AdamS5WGluRefIdeal.main_arg3))
      ∧ r.2.sem = fun _ => 0)

def quiescent_AdamXaWk [hAdamXaWk : Cert.AdamXaWk.Facts] : Prop :=
  ∀ (m : (ℓ : Loc Cert.AdamXaWk.nD Cert.AdamXaWk.τ Cert.AdamXaWk.sig) → Buf (Elt Bits) ℓ) (g : Dev Cert.AdamXaWk.nD → PrngReg), Pre_AdamXaWk m →
    θ_run (Cert.AdamXaWk.defs (F := Bits)) (onTc (τ := Cert.AdamXaWk.τ) (Cert.AdamXaWk.main (F := Bits))) ⟨m, fun _ => 0, g⟩ (fun r => (∀ c : Dev Cert.AdamXaWk.nD,
      r.2.mem ((c.tc : Thread Cert.AdamXaWk.nD Cert.AdamXaWk.τ).loc Cert.AdamXaWk.main_arg0) = m ((c.tc : Thread Cert.AdamXaWk.nD Cert.AdamXaWk.τ).loc Cert.AdamXaWk.main_arg0)
      ∧ r.2.mem ((c.tc : Thread Cert.AdamXaWk.nD Cert.AdamXaWk.τ).loc Cert.AdamXaWk.main_arg1) = m ((c.tc : Thread Cert.AdamXaWk.nD Cert.AdamXaWk.τ).loc Cert.AdamXaWk.main_arg1)
      ∧ r.2.mem ((c.tc : Thread Cert.AdamXaWk.nD Cert.AdamXaWk.τ).loc Cert.AdamXaWk.main_arg2) = m ((c.tc : Thread Cert.AdamXaWk.nD Cert.AdamXaWk.τ).loc Cert.AdamXaWk.main_arg2)
      ∧ r.2.mem ((c.tc : Thread Cert.AdamXaWk.nD Cert.AdamXaWk.τ).loc Cert.AdamXaWk.main_arg3) = m ((c.tc : Thread Cert.AdamXaWk.nD Cert.AdamXaWk.τ).loc Cert.AdamXaWk.main_arg3))
      ∧ r.2.sem = fun _ => 0)

def quiescent_AdamXaWkIdeal [hAdamXaWkIdeal : Cert.AdamXaWkIdeal.Facts] : Prop :=
  ∀ (m : (ℓ : Loc Cert.AdamXaWkIdeal.nD Cert.AdamXaWkIdeal.τ Cert.AdamXaWkIdeal.sig) → Buf (Elt Ideal) ℓ) (g : Dev Cert.AdamXaWkIdeal.nD → PrngReg), Pre_AdamXaWkIdeal m →
    θ_run (Cert.AdamXaWkIdeal.defs (F := Ideal)) (onTc (τ := Cert.AdamXaWkIdeal.τ) (Cert.AdamXaWkIdeal.main (F := Ideal))) ⟨m, fun _ => 0, g⟩ (fun r => (∀ c : Dev Cert.AdamXaWkIdeal.nD,
      r.2.mem ((c.tc : Thread Cert.AdamXaWkIdeal.nD Cert.AdamXaWkIdeal.τ).loc Cert.AdamXaWkIdeal.main_arg0) = m ((c.tc : Thread Cert.AdamXaWkIdeal.nD Cert.AdamXaWkIdeal.τ).loc Cert.AdamXaWkIdeal.main_arg0)
      ∧ r.2.mem ((c.tc : Thread Cert.AdamXaWkIdeal.nD Cert.AdamXaWkIdeal.τ).loc Cert.AdamXaWkIdeal.main_arg1) = m ((c.tc : Thread Cert.AdamXaWkIdeal.nD Cert.AdamXaWkIdeal.τ).loc Cert.AdamXaWkIdeal.main_arg1)
      ∧ r.2.mem ((c.tc : Thread Cert.AdamXaWkIdeal.nD Cert.AdamXaWkIdeal.τ).loc Cert.AdamXaWkIdeal.main_arg2) = m ((c.tc : Thread Cert.AdamXaWkIdeal.nD Cert.AdamXaWkIdeal.τ).loc Cert.AdamXaWkIdeal.main_arg2)
      ∧ r.2.mem ((c.tc : Thread Cert.AdamXaWkIdeal.nD Cert.AdamXaWkIdeal.τ).loc Cert.AdamXaWkIdeal.main_arg3) = m ((c.tc : Thread Cert.AdamXaWkIdeal.nD Cert.AdamXaWkIdeal.τ).loc Cert.AdamXaWkIdeal.main_arg3))
      ∧ r.2.sem = fun _ => 0)

def quiescent_AdamXaWkRefIdeal [hAdamXaWkRefIdeal : Cert.AdamXaWkRefIdeal.Facts] : Prop :=
  ∀ (m : (ℓ : Loc Cert.AdamXaWkRefIdeal.nD Cert.AdamXaWkRefIdeal.τ Cert.AdamXaWkRefIdeal.sig) → Buf (Elt Ideal) ℓ) (g : Dev Cert.AdamXaWkRefIdeal.nD → PrngReg), Pre_AdamXaWkRefIdeal m →
    θ_run (Cert.AdamXaWkRefIdeal.defs (F := Ideal)) (onTc (τ := Cert.AdamXaWkRefIdeal.τ) (Cert.AdamXaWkRefIdeal.main (F := Ideal))) ⟨m, fun _ => 0, g⟩ (fun r => (∀ c : Dev Cert.AdamXaWkRefIdeal.nD,
      r.2.mem ((c.tc : Thread Cert.AdamXaWkRefIdeal.nD Cert.AdamXaWkRefIdeal.τ).loc Cert.AdamXaWkRefIdeal.main_arg0) = m ((c.tc : Thread Cert.AdamXaWkRefIdeal.nD Cert.AdamXaWkRefIdeal.τ).loc Cert.AdamXaWkRefIdeal.main_arg0)
      ∧ r.2.mem ((c.tc : Thread Cert.AdamXaWkRefIdeal.nD Cert.AdamXaWkRefIdeal.τ).loc Cert.AdamXaWkRefIdeal.main_arg1) = m ((c.tc : Thread Cert.AdamXaWkRefIdeal.nD Cert.AdamXaWkRefIdeal.τ).loc Cert.AdamXaWkRefIdeal.main_arg1)
      ∧ r.2.mem ((c.tc : Thread Cert.AdamXaWkRefIdeal.nD Cert.AdamXaWkRefIdeal.τ).loc Cert.AdamXaWkRefIdeal.main_arg2) = m ((c.tc : Thread Cert.AdamXaWkRefIdeal.nD Cert.AdamXaWkRefIdeal.τ).loc Cert.AdamXaWkRefIdeal.main_arg2)
      ∧ r.2.mem ((c.tc : Thread Cert.AdamXaWkRefIdeal.nD Cert.AdamXaWkRefIdeal.τ).loc Cert.AdamXaWkRefIdeal.main_arg3) = m ((c.tc : Thread Cert.AdamXaWkRefIdeal.nD Cert.AdamXaWkRefIdeal.τ).loc Cert.AdamXaWkRefIdeal.main_arg3))
      ∧ r.2.sem = fun _ => 0)

def quiescent_AdamXaWv [hAdamXaWv : Cert.AdamXaWv.Facts] : Prop :=
  ∀ (m : (ℓ : Loc Cert.AdamXaWv.nD Cert.AdamXaWv.τ Cert.AdamXaWv.sig) → Buf (Elt Bits) ℓ) (g : Dev Cert.AdamXaWv.nD → PrngReg), Pre_AdamXaWv m →
    θ_run (Cert.AdamXaWv.defs (F := Bits)) (onTc (τ := Cert.AdamXaWv.τ) (Cert.AdamXaWv.main (F := Bits))) ⟨m, fun _ => 0, g⟩ (fun r => (∀ c : Dev Cert.AdamXaWv.nD,
      r.2.mem ((c.tc : Thread Cert.AdamXaWv.nD Cert.AdamXaWv.τ).loc Cert.AdamXaWv.main_arg0) = m ((c.tc : Thread Cert.AdamXaWv.nD Cert.AdamXaWv.τ).loc Cert.AdamXaWv.main_arg0)
      ∧ r.2.mem ((c.tc : Thread Cert.AdamXaWv.nD Cert.AdamXaWv.τ).loc Cert.AdamXaWv.main_arg1) = m ((c.tc : Thread Cert.AdamXaWv.nD Cert.AdamXaWv.τ).loc Cert.AdamXaWv.main_arg1)
      ∧ r.2.mem ((c.tc : Thread Cert.AdamXaWv.nD Cert.AdamXaWv.τ).loc Cert.AdamXaWv.main_arg2) = m ((c.tc : Thread Cert.AdamXaWv.nD Cert.AdamXaWv.τ).loc Cert.AdamXaWv.main_arg2)
      ∧ r.2.mem ((c.tc : Thread Cert.AdamXaWv.nD Cert.AdamXaWv.τ).loc Cert.AdamXaWv.main_arg3) = m ((c.tc : Thread Cert.AdamXaWv.nD Cert.AdamXaWv.τ).loc Cert.AdamXaWv.main_arg3))
      ∧ r.2.sem = fun _ => 0)

def quiescent_AdamXaWvIdeal [hAdamXaWvIdeal : Cert.AdamXaWvIdeal.Facts] : Prop :=
  ∀ (m : (ℓ : Loc Cert.AdamXaWvIdeal.nD Cert.AdamXaWvIdeal.τ Cert.AdamXaWvIdeal.sig) → Buf (Elt Ideal) ℓ) (g : Dev Cert.AdamXaWvIdeal.nD → PrngReg), Pre_AdamXaWvIdeal m →
    θ_run (Cert.AdamXaWvIdeal.defs (F := Ideal)) (onTc (τ := Cert.AdamXaWvIdeal.τ) (Cert.AdamXaWvIdeal.main (F := Ideal))) ⟨m, fun _ => 0, g⟩ (fun r => (∀ c : Dev Cert.AdamXaWvIdeal.nD,
      r.2.mem ((c.tc : Thread Cert.AdamXaWvIdeal.nD Cert.AdamXaWvIdeal.τ).loc Cert.AdamXaWvIdeal.main_arg0) = m ((c.tc : Thread Cert.AdamXaWvIdeal.nD Cert.AdamXaWvIdeal.τ).loc Cert.AdamXaWvIdeal.main_arg0)
      ∧ r.2.mem ((c.tc : Thread Cert.AdamXaWvIdeal.nD Cert.AdamXaWvIdeal.τ).loc Cert.AdamXaWvIdeal.main_arg1) = m ((c.tc : Thread Cert.AdamXaWvIdeal.nD Cert.AdamXaWvIdeal.τ).loc Cert.AdamXaWvIdeal.main_arg1)
      ∧ r.2.mem ((c.tc : Thread Cert.AdamXaWvIdeal.nD Cert.AdamXaWvIdeal.τ).loc Cert.AdamXaWvIdeal.main_arg2) = m ((c.tc : Thread Cert.AdamXaWvIdeal.nD Cert.AdamXaWvIdeal.τ).loc Cert.AdamXaWvIdeal.main_arg2)
      ∧ r.2.mem ((c.tc : Thread Cert.AdamXaWvIdeal.nD Cert.AdamXaWvIdeal.τ).loc Cert.AdamXaWvIdeal.main_arg3) = m ((c.tc : Thread Cert.AdamXaWvIdeal.nD Cert.AdamXaWvIdeal.τ).loc Cert.AdamXaWvIdeal.main_arg3))
      ∧ r.2.sem = fun _ => 0)

def quiescent_AdamXaWvRefIdeal [hAdamXaWvRefIdeal : Cert.AdamXaWvRefIdeal.Facts] : Prop :=
  ∀ (m : (ℓ : Loc Cert.AdamXaWvRefIdeal.nD Cert.AdamXaWvRefIdeal.τ Cert.AdamXaWvRefIdeal.sig) → Buf (Elt Ideal) ℓ) (g : Dev Cert.AdamXaWvRefIdeal.nD → PrngReg), Pre_AdamXaWvRefIdeal m →
    θ_run (Cert.AdamXaWvRefIdeal.defs (F := Ideal)) (onTc (τ := Cert.AdamXaWvRefIdeal.τ) (Cert.AdamXaWvRefIdeal.main (F := Ideal))) ⟨m, fun _ => 0, g⟩ (fun r => (∀ c : Dev Cert.AdamXaWvRefIdeal.nD,
      r.2.mem ((c.tc : Thread Cert.AdamXaWvRefIdeal.nD Cert.AdamXaWvRefIdeal.τ).loc Cert.AdamXaWvRefIdeal.main_arg0) = m ((c.tc : Thread Cert.AdamXaWvRefIdeal.nD Cert.AdamXaWvRefIdeal.τ).loc Cert.AdamXaWvRefIdeal.main_arg0)
      ∧ r.2.mem ((c.tc : Thread Cert.AdamXaWvRefIdeal.nD Cert.AdamXaWvRefIdeal.τ).loc Cert.AdamXaWvRefIdeal.main_arg1) = m ((c.tc : Thread Cert.AdamXaWvRefIdeal.nD Cert.AdamXaWvRefIdeal.τ).loc Cert.AdamXaWvRefIdeal.main_arg1)
      ∧ r.2.mem ((c.tc : Thread Cert.AdamXaWvRefIdeal.nD Cert.AdamXaWvRefIdeal.τ).loc Cert.AdamXaWvRefIdeal.main_arg2) = m ((c.tc : Thread Cert.AdamXaWvRefIdeal.nD Cert.AdamXaWvRefIdeal.τ).loc Cert.AdamXaWvRefIdeal.main_arg2)
      ∧ r.2.mem ((c.tc : Thread Cert.AdamXaWvRefIdeal.nD Cert.AdamXaWvRefIdeal.τ).loc Cert.AdamXaWvRefIdeal.main_arg3) = m ((c.tc : Thread Cert.AdamXaWvRefIdeal.nD Cert.AdamXaWvRefIdeal.τ).loc Cert.AdamXaWvRefIdeal.main_arg3))
      ∧ r.2.sem = fun _ => 0)

def quiescent_AdamXaWo [hAdamXaWo : Cert.AdamXaWo.Facts] : Prop :=
  ∀ (m : (ℓ : Loc Cert.AdamXaWo.nD Cert.AdamXaWo.τ Cert.AdamXaWo.sig) → Buf (Elt Bits) ℓ) (g : Dev Cert.AdamXaWo.nD → PrngReg), Pre_AdamXaWo m →
    θ_run (Cert.AdamXaWo.defs (F := Bits)) (onTc (τ := Cert.AdamXaWo.τ) (Cert.AdamXaWo.main (F := Bits))) ⟨m, fun _ => 0, g⟩ (fun r => (∀ c : Dev Cert.AdamXaWo.nD,
      r.2.mem ((c.tc : Thread Cert.AdamXaWo.nD Cert.AdamXaWo.τ).loc Cert.AdamXaWo.main_arg0) = m ((c.tc : Thread Cert.AdamXaWo.nD Cert.AdamXaWo.τ).loc Cert.AdamXaWo.main_arg0)
      ∧ r.2.mem ((c.tc : Thread Cert.AdamXaWo.nD Cert.AdamXaWo.τ).loc Cert.AdamXaWo.main_arg1) = m ((c.tc : Thread Cert.AdamXaWo.nD Cert.AdamXaWo.τ).loc Cert.AdamXaWo.main_arg1)
      ∧ r.2.mem ((c.tc : Thread Cert.AdamXaWo.nD Cert.AdamXaWo.τ).loc Cert.AdamXaWo.main_arg2) = m ((c.tc : Thread Cert.AdamXaWo.nD Cert.AdamXaWo.τ).loc Cert.AdamXaWo.main_arg2)
      ∧ r.2.mem ((c.tc : Thread Cert.AdamXaWo.nD Cert.AdamXaWo.τ).loc Cert.AdamXaWo.main_arg3) = m ((c.tc : Thread Cert.AdamXaWo.nD Cert.AdamXaWo.τ).loc Cert.AdamXaWo.main_arg3))
      ∧ r.2.sem = fun _ => 0)

def quiescent_AdamXaWoIdeal [hAdamXaWoIdeal : Cert.AdamXaWoIdeal.Facts] : Prop :=
  ∀ (m : (ℓ : Loc Cert.AdamXaWoIdeal.nD Cert.AdamXaWoIdeal.τ Cert.AdamXaWoIdeal.sig) → Buf (Elt Ideal) ℓ) (g : Dev Cert.AdamXaWoIdeal.nD → PrngReg), Pre_AdamXaWoIdeal m →
    θ_run (Cert.AdamXaWoIdeal.defs (F := Ideal)) (onTc (τ := Cert.AdamXaWoIdeal.τ) (Cert.AdamXaWoIdeal.main (F := Ideal))) ⟨m, fun _ => 0, g⟩ (fun r => (∀ c : Dev Cert.AdamXaWoIdeal.nD,
      r.2.mem ((c.tc : Thread Cert.AdamXaWoIdeal.nD Cert.AdamXaWoIdeal.τ).loc Cert.AdamXaWoIdeal.main_arg0) = m ((c.tc : Thread Cert.AdamXaWoIdeal.nD Cert.AdamXaWoIdeal.τ).loc Cert.AdamXaWoIdeal.main_arg0)
      ∧ r.2.mem ((c.tc : Thread Cert.AdamXaWoIdeal.nD Cert.AdamXaWoIdeal.τ).loc Cert.AdamXaWoIdeal.main_arg1) = m ((c.tc : Thread Cert.AdamXaWoIdeal.nD Cert.AdamXaWoIdeal.τ).loc Cert.AdamXaWoIdeal.main_arg1)
      ∧ r.2.mem ((c.tc : Thread Cert.AdamXaWoIdeal.nD Cert.AdamXaWoIdeal.τ).loc Cert.AdamXaWoIdeal.main_arg2) = m ((c.tc : Thread Cert.AdamXaWoIdeal.nD Cert.AdamXaWoIdeal.τ).loc Cert.AdamXaWoIdeal.main_arg2)
      ∧ r.2.mem ((c.tc : Thread Cert.AdamXaWoIdeal.nD Cert.AdamXaWoIdeal.τ).loc Cert.AdamXaWoIdeal.main_arg3) = m ((c.tc : Thread Cert.AdamXaWoIdeal.nD Cert.AdamXaWoIdeal.τ).loc Cert.AdamXaWoIdeal.main_arg3))
      ∧ r.2.sem = fun _ => 0)

def quiescent_AdamXaWoRefIdeal [hAdamXaWoRefIdeal : Cert.AdamXaWoRefIdeal.Facts] : Prop :=
  ∀ (m : (ℓ : Loc Cert.AdamXaWoRefIdeal.nD Cert.AdamXaWoRefIdeal.τ Cert.AdamXaWoRefIdeal.sig) → Buf (Elt Ideal) ℓ) (g : Dev Cert.AdamXaWoRefIdeal.nD → PrngReg), Pre_AdamXaWoRefIdeal m →
    θ_run (Cert.AdamXaWoRefIdeal.defs (F := Ideal)) (onTc (τ := Cert.AdamXaWoRefIdeal.τ) (Cert.AdamXaWoRefIdeal.main (F := Ideal))) ⟨m, fun _ => 0, g⟩ (fun r => (∀ c : Dev Cert.AdamXaWoRefIdeal.nD,
      r.2.mem ((c.tc : Thread Cert.AdamXaWoRefIdeal.nD Cert.AdamXaWoRefIdeal.τ).loc Cert.AdamXaWoRefIdeal.main_arg0) = m ((c.tc : Thread Cert.AdamXaWoRefIdeal.nD Cert.AdamXaWoRefIdeal.τ).loc Cert.AdamXaWoRefIdeal.main_arg0)
      ∧ r.2.mem ((c.tc : Thread Cert.AdamXaWoRefIdeal.nD Cert.AdamXaWoRefIdeal.τ).loc Cert.AdamXaWoRefIdeal.main_arg1) = m ((c.tc : Thread Cert.AdamXaWoRefIdeal.nD Cert.AdamXaWoRefIdeal.τ).loc Cert.AdamXaWoRefIdeal.main_arg1)
      ∧ r.2.mem ((c.tc : Thread Cert.AdamXaWoRefIdeal.nD Cert.AdamXaWoRefIdeal.τ).loc Cert.AdamXaWoRefIdeal.main_arg2) = m ((c.tc : Thread Cert.AdamXaWoRefIdeal.nD Cert.AdamXaWoRefIdeal.τ).loc Cert.AdamXaWoRefIdeal.main_arg2)
      ∧ r.2.mem ((c.tc : Thread Cert.AdamXaWoRefIdeal.nD Cert.AdamXaWoRefIdeal.τ).loc Cert.AdamXaWoRefIdeal.main_arg3) = m ((c.tc : Thread Cert.AdamXaWoRefIdeal.nD Cert.AdamXaWoRefIdeal.τ).loc Cert.AdamXaWoRefIdeal.main_arg3))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_AdamSsdConvW [hAdamSsdConvW : Cert.AdamSsdConvW.Facts] : Prop :=
  ∀ (m : (ℓ : Loc Cert.AdamSsdConvW.nD Cert.AdamSsdConvW.τ Cert.AdamSsdConvW.sig) → Buf (Elt Bits) ℓ) (g : Dev Cert.AdamSsdConvW.nD → PrngReg), Pre_AdamSsdConvW m →
    θ_run (Cert.AdamSsdConvW.defs (F := Bits)) (onTc (τ := Cert.AdamSsdConvW.τ) (Cert.AdamSsdConvW.main (F := Bits))) ⟨m, fun _ => 0, g⟩ (fun r => (∀ c : Dev Cert.AdamSsdConvW.nD,
      r.2.mem ((c.tc : Thread Cert.AdamSsdConvW.nD Cert.AdamSsdConvW.τ).loc Cert.AdamSsdConvW.main_arg0) = m ((c.tc : Thread Cert.AdamSsdConvW.nD Cert.AdamSsdConvW.τ).loc Cert.AdamSsdConvW.main_arg0)
      ∧ r.2.mem ((c.tc : Thread Cert.AdamSsdConvW.nD Cert.AdamSsdConvW.τ).loc Cert.AdamSsdConvW.main_arg1) = m ((c.tc : Thread Cert.AdamSsdConvW.nD Cert.AdamSsdConvW.τ).loc Cert.AdamSsdConvW.main_arg1)
      ∧ r.2.mem ((c.tc : Thread Cert.AdamSsdConvW.nD Cert.AdamSsdConvW.τ).loc Cert.AdamSsdConvW.main_arg2) = m ((c.tc : Thread Cert.AdamSsdConvW.nD Cert.AdamSsdConvW.τ).loc Cert.AdamSsdConvW.main_arg2)
      ∧ r.2.mem ((c.tc : Thread Cert.AdamSsdConvW.nD Cert.AdamSsdConvW.τ).loc Cert.AdamSsdConvW.main_arg3) = m ((c.tc : Thread Cert.AdamSsdConvW.nD Cert.AdamSsdConvW.τ).loc Cert.AdamSsdConvW.main_arg3))
      ∧ r.2.sem = fun _ => 0)

def quiescent_AdamSsdConvWIdeal [hAdamSsdConvWIdeal : Cert.AdamSsdConvWIdeal.Facts] : Prop :=
  ∀ (m : (ℓ : Loc Cert.AdamSsdConvWIdeal.nD Cert.AdamSsdConvWIdeal.τ Cert.AdamSsdConvWIdeal.sig) → Buf (Elt Ideal) ℓ) (g : Dev Cert.AdamSsdConvWIdeal.nD → PrngReg), Pre_AdamSsdConvWIdeal m →
    θ_run (Cert.AdamSsdConvWIdeal.defs (F := Ideal)) (onTc (τ := Cert.AdamSsdConvWIdeal.τ) (Cert.AdamSsdConvWIdeal.main (F := Ideal))) ⟨m, fun _ => 0, g⟩ (fun r => (∀ c : Dev Cert.AdamSsdConvWIdeal.nD,
      r.2.mem ((c.tc : Thread Cert.AdamSsdConvWIdeal.nD Cert.AdamSsdConvWIdeal.τ).loc Cert.AdamSsdConvWIdeal.main_arg0) = m ((c.tc : Thread Cert.AdamSsdConvWIdeal.nD Cert.AdamSsdConvWIdeal.τ).loc Cert.AdamSsdConvWIdeal.main_arg0)
      ∧ r.2.mem ((c.tc : Thread Cert.AdamSsdConvWIdeal.nD Cert.AdamSsdConvWIdeal.τ).loc Cert.AdamSsdConvWIdeal.main_arg1) = m ((c.tc : Thread Cert.AdamSsdConvWIdeal.nD Cert.AdamSsdConvWIdeal.τ).loc Cert.AdamSsdConvWIdeal.main_arg1)
      ∧ r.2.mem ((c.tc : Thread Cert.AdamSsdConvWIdeal.nD Cert.AdamSsdConvWIdeal.τ).loc Cert.AdamSsdConvWIdeal.main_arg2) = m ((c.tc : Thread Cert.AdamSsdConvWIdeal.nD Cert.AdamSsdConvWIdeal.τ).loc Cert.AdamSsdConvWIdeal.main_arg2)
      ∧ r.2.mem ((c.tc : Thread Cert.AdamSsdConvWIdeal.nD Cert.AdamSsdConvWIdeal.τ).loc Cert.AdamSsdConvWIdeal.main_arg3) = m ((c.tc : Thread Cert.AdamSsdConvWIdeal.nD Cert.AdamSsdConvWIdeal.τ).loc Cert.AdamSsdConvWIdeal.main_arg3))
      ∧ r.2.sem = fun _ => 0)

def quiescent_AdamSsdConvWRefIdeal [hAdamSsdConvWRefIdeal : Cert.AdamSsdConvWRefIdeal.Facts] : Prop :=
  ∀ (m : (ℓ : Loc Cert.AdamSsdConvWRefIdeal.nD Cert.AdamSsdConvWRefIdeal.τ Cert.AdamSsdConvWRefIdeal.sig) → Buf (Elt Ideal) ℓ) (g : Dev Cert.AdamSsdConvWRefIdeal.nD → PrngReg), Pre_AdamSsdConvWRefIdeal m →
    θ_run (Cert.AdamSsdConvWRefIdeal.defs (F := Ideal)) (onTc (τ := Cert.AdamSsdConvWRefIdeal.τ) (Cert.AdamSsdConvWRefIdeal.main (F := Ideal))) ⟨m, fun _ => 0, g⟩ (fun r => (∀ c : Dev Cert.AdamSsdConvWRefIdeal.nD,
      r.2.mem ((c.tc : Thread Cert.AdamSsdConvWRefIdeal.nD Cert.AdamSsdConvWRefIdeal.τ).loc Cert.AdamSsdConvWRefIdeal.main_arg0) = m ((c.tc : Thread Cert.AdamSsdConvWRefIdeal.nD Cert.AdamSsdConvWRefIdeal.τ).loc Cert.AdamSsdConvWRefIdeal.main_arg0)
      ∧ r.2.mem ((c.tc : Thread Cert.AdamSsdConvWRefIdeal.nD Cert.AdamSsdConvWRefIdeal.τ).loc Cert.AdamSsdConvWRefIdeal.main_arg1) = m ((c.tc : Thread Cert.AdamSsdConvWRefIdeal.nD Cert.AdamSsdConvWRefIdeal.τ).loc Cert.AdamSsdConvWRefIdeal.main_arg1)
      ∧ r.2.mem ((c.tc : Thread Cert.AdamSsdConvWRefIdeal.nD Cert.AdamSsdConvWRefIdeal.τ).loc Cert.AdamSsdConvWRefIdeal.main_arg2) = m ((c.tc : Thread Cert.AdamSsdConvWRefIdeal.nD Cert.AdamSsdConvWRefIdeal.τ).loc Cert.AdamSsdConvWRefIdeal.main_arg2)
      ∧ r.2.mem ((c.tc : Thread Cert.AdamSsdConvWRefIdeal.nD Cert.AdamSsdConvWRefIdeal.τ).loc Cert.AdamSsdConvWRefIdeal.main_arg3) = m ((c.tc : Thread Cert.AdamSsdConvWRefIdeal.nD Cert.AdamSsdConvWRefIdeal.τ).loc Cert.AdamSsdConvWRefIdeal.main_arg3))
      ∧ r.2.sem = fun _ => 0)

def quiescent_AdamWOut [hAdamWOut : Cert.AdamWOut.Facts] : Prop :=
  ∀ (m : (ℓ : Loc Cert.AdamWOut.nD Cert.AdamWOut.τ Cert.AdamWOut.sig) → Buf (Elt Bits) ℓ) (g : Dev Cert.AdamWOut.nD → PrngReg), Pre_AdamWOut m →
    θ_run (Cert.AdamWOut.defs (F := Bits)) (onTc (τ := Cert.AdamWOut.τ) (Cert.AdamWOut.main (F := Bits))) ⟨m, fun _ => 0, g⟩ (fun r => (∀ c : Dev Cert.AdamWOut.nD,
      r.2.mem ((c.tc : Thread Cert.AdamWOut.nD Cert.AdamWOut.τ).loc Cert.AdamWOut.main_arg0) = m ((c.tc : Thread Cert.AdamWOut.nD Cert.AdamWOut.τ).loc Cert.AdamWOut.main_arg0)
      ∧ r.2.mem ((c.tc : Thread Cert.AdamWOut.nD Cert.AdamWOut.τ).loc Cert.AdamWOut.main_arg1) = m ((c.tc : Thread Cert.AdamWOut.nD Cert.AdamWOut.τ).loc Cert.AdamWOut.main_arg1)
      ∧ r.2.mem ((c.tc : Thread Cert.AdamWOut.nD Cert.AdamWOut.τ).loc Cert.AdamWOut.main_arg2) = m ((c.tc : Thread Cert.AdamWOut.nD Cert.AdamWOut.τ).loc Cert.AdamWOut.main_arg2)
      ∧ r.2.mem ((c.tc : Thread Cert.AdamWOut.nD Cert.AdamWOut.τ).loc Cert.AdamWOut.main_arg3) = m ((c.tc : Thread Cert.AdamWOut.nD Cert.AdamWOut.τ).loc Cert.AdamWOut.main_arg3))
      ∧ r.2.sem = fun _ => 0)

def quiescent_AdamWOutIdeal [hAdamWOutIdeal : Cert.AdamWOutIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg), Pre_AdamWOutIdeal m →
    θ_run (Cert.AdamWOutIdeal.defs (F := Ideal)) (onTc (τ := Cert.AdamWOutIdeal.τ) (Cert.AdamWOutIdeal.main (F := Ideal))) ⟨m, fun _ => 0, g⟩ (fun r => (∀ c : Dev Cert.AdamWOutIdeal.nD,
      r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
      ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
      ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
      ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ r.2.sem = fun _ => 0)

def quiescent_AdamWOutRefIdeal [hAdamWOutRefIdeal : Cert.AdamWOutRefIdeal.Facts] : Prop :=
  ∀ (m : (ℓ : Loc Cert.AdamWOutRefIdeal.nD Cert.AdamWOutRefIdeal.τ Cert.AdamWOutRefIdeal.sig) → Buf (Elt Ideal) ℓ) (g : Dev Cert.AdamWOutRefIdeal.nD → PrngReg), Pre_AdamWOutRefIdeal m →
    θ_run (Cert.AdamWOutRefIdeal.defs (F := Ideal)) (onTc (τ := Cert.AdamWOutRefIdeal.τ) (Cert.AdamWOutRefIdeal.main (F := Ideal))) ⟨m, fun _ => 0, g⟩ (fun r => (∀ c : Dev Cert.AdamWOutRefIdeal.nD,
      r.2.mem ((c.tc : Thread Cert.AdamWOutRefIdeal.nD Cert.AdamWOutRefIdeal.τ).loc Cert.AdamWOutRefIdeal.main_arg0) = m ((c.tc : Thread Cert.AdamWOutRefIdeal.nD Cert.AdamWOutRefIdeal.τ).loc Cert.AdamWOutRefIdeal.main_arg0)
      ∧ r.2.mem ((c.tc : Thread Cert.AdamWOutRefIdeal.nD Cert.AdamWOutRefIdeal.τ).loc Cert.AdamWOutRefIdeal.main_arg1) = m ((c.tc : Thread Cert.AdamWOutRefIdeal.nD Cert.AdamWOutRefIdeal.τ).loc Cert.AdamWOutRefIdeal.main_arg1)
      ∧ r.2.mem ((c.tc : Thread Cert.AdamWOutRefIdeal.nD Cert.AdamWOutRefIdeal.τ).loc Cert.AdamWOutRefIdeal.main_arg2) = m ((c.tc : Thread Cert.AdamWOutRefIdeal.nD Cert.AdamWOutRefIdeal.τ).loc Cert.AdamWOutRefIdeal.main_arg2)
      ∧ r.2.mem ((c.tc : Thread Cert.AdamWOutRefIdeal.nD Cert.AdamWOutRefIdeal.τ).loc Cert.AdamWOutRefIdeal.main_arg3) = m ((c.tc : Thread Cert.AdamWOutRefIdeal.nD Cert.AdamWOutRefIdeal.τ).loc Cert.AdamWOutRefIdeal.main_arg3))
      ∧ r.2.sem = fun _ => 0)

def quiescent_AdamMlpW1 [hAdamMlpW1 : Cert.AdamMlpW1.Facts] : Prop :=
  ∀ (m : (ℓ : Loc Cert.AdamMlpW1.nD Cert.AdamMlpW1.τ Cert.AdamMlpW1.sig) → Buf (Elt Bits) ℓ) (g : Dev Cert.AdamMlpW1.nD → PrngReg), Pre_AdamMlpW1 m →
    θ_run (Cert.AdamMlpW1.defs (F := Bits)) (onTc (τ := Cert.AdamMlpW1.τ) (Cert.AdamMlpW1.main (F := Bits))) ⟨m, fun _ => 0, g⟩ (fun r => (∀ c : Dev Cert.AdamMlpW1.nD,
      r.2.mem ((c.tc : Thread Cert.AdamMlpW1.nD Cert.AdamMlpW1.τ).loc Cert.AdamMlpW1.main_arg0) = m ((c.tc : Thread Cert.AdamMlpW1.nD Cert.AdamMlpW1.τ).loc Cert.AdamMlpW1.main_arg0)
      ∧ r.2.mem ((c.tc : Thread Cert.AdamMlpW1.nD Cert.AdamMlpW1.τ).loc Cert.AdamMlpW1.main_arg1) = m ((c.tc : Thread Cert.AdamMlpW1.nD Cert.AdamMlpW1.τ).loc Cert.AdamMlpW1.main_arg1)
      ∧ r.2.mem ((c.tc : Thread Cert.AdamMlpW1.nD Cert.AdamMlpW1.τ).loc Cert.AdamMlpW1.main_arg2) = m ((c.tc : Thread Cert.AdamMlpW1.nD Cert.AdamMlpW1.τ).loc Cert.AdamMlpW1.main_arg2)
      ∧ r.2.mem ((c.tc : Thread Cert.AdamMlpW1.nD Cert.AdamMlpW1.τ).loc Cert.AdamMlpW1.main_arg3) = m ((c.tc : Thread Cert.AdamMlpW1.nD Cert.AdamMlpW1.τ).loc Cert.AdamMlpW1.main_arg3))
      ∧ r.2.sem = fun _ => 0)

def quiescent_AdamMlpW1Ideal [hAdamMlpW1Ideal : Cert.AdamMlpW1Ideal.Facts] : Prop :=
  ∀ (m : (ℓ : Loc Cert.AdamMlpW1Ideal.nD Cert.AdamMlpW1Ideal.τ Cert.AdamMlpW1Ideal.sig) → Buf (Elt Ideal) ℓ) (g : Dev Cert.AdamMlpW1Ideal.nD → PrngReg), Pre_AdamMlpW1Ideal m →
    θ_run (Cert.AdamMlpW1Ideal.defs (F := Ideal)) (onTc (τ := Cert.AdamMlpW1Ideal.τ) (Cert.AdamMlpW1Ideal.main (F := Ideal))) ⟨m, fun _ => 0, g⟩ (fun r => (∀ c : Dev Cert.AdamMlpW1Ideal.nD,
      r.2.mem ((c.tc : Thread Cert.AdamMlpW1Ideal.nD Cert.AdamMlpW1Ideal.τ).loc Cert.AdamMlpW1Ideal.main_arg0) = m ((c.tc : Thread Cert.AdamMlpW1Ideal.nD Cert.AdamMlpW1Ideal.τ).loc Cert.AdamMlpW1Ideal.main_arg0)
      ∧ r.2.mem ((c.tc : Thread Cert.AdamMlpW1Ideal.nD Cert.AdamMlpW1Ideal.τ).loc Cert.AdamMlpW1Ideal.main_arg1) = m ((c.tc : Thread Cert.AdamMlpW1Ideal.nD Cert.AdamMlpW1Ideal.τ).loc Cert.AdamMlpW1Ideal.main_arg1)
      ∧ r.2.mem ((c.tc : Thread Cert.AdamMlpW1Ideal.nD Cert.AdamMlpW1Ideal.τ).loc Cert.AdamMlpW1Ideal.main_arg2) = m ((c.tc : Thread Cert.AdamMlpW1Ideal.nD Cert.AdamMlpW1Ideal.τ).loc Cert.AdamMlpW1Ideal.main_arg2)
      ∧ r.2.mem ((c.tc : Thread Cert.AdamMlpW1Ideal.nD Cert.AdamMlpW1Ideal.τ).loc Cert.AdamMlpW1Ideal.main_arg3) = m ((c.tc : Thread Cert.AdamMlpW1Ideal.nD Cert.AdamMlpW1Ideal.τ).loc Cert.AdamMlpW1Ideal.main_arg3))
      ∧ r.2.sem = fun _ => 0)

def quiescent_AdamMlpW1RefIdeal [hAdamMlpW1RefIdeal : Cert.AdamMlpW1RefIdeal.Facts] : Prop :=
  ∀ (m : (ℓ : Loc Cert.AdamMlpW1RefIdeal.nD Cert.AdamMlpW1RefIdeal.τ Cert.AdamMlpW1RefIdeal.sig) → Buf (Elt Ideal) ℓ) (g : Dev Cert.AdamMlpW1RefIdeal.nD → PrngReg), Pre_AdamMlpW1RefIdeal m →
    θ_run (Cert.AdamMlpW1RefIdeal.defs (F := Ideal)) (onTc (τ := Cert.AdamMlpW1RefIdeal.τ) (Cert.AdamMlpW1RefIdeal.main (F := Ideal))) ⟨m, fun _ => 0, g⟩ (fun r => (∀ c : Dev Cert.AdamMlpW1RefIdeal.nD,
      r.2.mem ((c.tc : Thread Cert.AdamMlpW1RefIdeal.nD Cert.AdamMlpW1RefIdeal.τ).loc Cert.AdamMlpW1RefIdeal.main_arg0) = m ((c.tc : Thread Cert.AdamMlpW1RefIdeal.nD Cert.AdamMlpW1RefIdeal.τ).loc Cert.AdamMlpW1RefIdeal.main_arg0)
      ∧ r.2.mem ((c.tc : Thread Cert.AdamMlpW1RefIdeal.nD Cert.AdamMlpW1RefIdeal.τ).loc Cert.AdamMlpW1RefIdeal.main_arg1) = m ((c.tc : Thread Cert.AdamMlpW1RefIdeal.nD Cert.AdamMlpW1RefIdeal.τ).loc Cert.AdamMlpW1RefIdeal.main_arg1)
      ∧ r.2.mem ((c.tc : Thread Cert.AdamMlpW1RefIdeal.nD Cert.AdamMlpW1RefIdeal.τ).loc Cert.AdamMlpW1RefIdeal.main_arg2) = m ((c.tc : Thread Cert.AdamMlpW1RefIdeal.nD Cert.AdamMlpW1RefIdeal.τ).loc Cert.AdamMlpW1RefIdeal.main_arg2)
      ∧ r.2.mem ((c.tc : Thread Cert.AdamMlpW1RefIdeal.nD Cert.AdamMlpW1RefIdeal.τ).loc Cert.AdamMlpW1RefIdeal.main_arg3) = m ((c.tc : Thread Cert.AdamMlpW1RefIdeal.nD Cert.AdamMlpW1RefIdeal.τ).loc Cert.AdamMlpW1RefIdeal.main_arg3))
      ∧ r.2.sem = fun _ => 0)

def quiescent_AdamMlpW2 [hAdamMlpW2 : Cert.AdamMlpW2.Facts] : Prop :=
  ∀ (m : (ℓ : Loc Cert.AdamMlpW2.nD Cert.AdamMlpW2.τ Cert.AdamMlpW2.sig) → Buf (Elt Bits) ℓ) (g : Dev Cert.AdamMlpW2.nD → PrngReg), Pre_AdamMlpW2 m →
    θ_run (Cert.AdamMlpW2.defs (F := Bits)) (onTc (τ := Cert.AdamMlpW2.τ) (Cert.AdamMlpW2.main (F := Bits))) ⟨m, fun _ => 0, g⟩ (fun r => (∀ c : Dev Cert.AdamMlpW2.nD,
      r.2.mem ((c.tc : Thread Cert.AdamMlpW2.nD Cert.AdamMlpW2.τ).loc Cert.AdamMlpW2.main_arg0) = m ((c.tc : Thread Cert.AdamMlpW2.nD Cert.AdamMlpW2.τ).loc Cert.AdamMlpW2.main_arg0)
      ∧ r.2.mem ((c.tc : Thread Cert.AdamMlpW2.nD Cert.AdamMlpW2.τ).loc Cert.AdamMlpW2.main_arg1) = m ((c.tc : Thread Cert.AdamMlpW2.nD Cert.AdamMlpW2.τ).loc Cert.AdamMlpW2.main_arg1)
      ∧ r.2.mem ((c.tc : Thread Cert.AdamMlpW2.nD Cert.AdamMlpW2.τ).loc Cert.AdamMlpW2.main_arg2) = m ((c.tc : Thread Cert.AdamMlpW2.nD Cert.AdamMlpW2.τ).loc Cert.AdamMlpW2.main_arg2)
      ∧ r.2.mem ((c.tc : Thread Cert.AdamMlpW2.nD Cert.AdamMlpW2.τ).loc Cert.AdamMlpW2.main_arg3) = m ((c.tc : Thread Cert.AdamMlpW2.nD Cert.AdamMlpW2.τ).loc Cert.AdamMlpW2.main_arg3))
      ∧ r.2.sem = fun _ => 0)

def quiescent_AdamMlpW2Ideal [hAdamMlpW2Ideal : Cert.AdamMlpW2Ideal.Facts] : Prop :=
  ∀ (m : (ℓ : Loc Cert.AdamMlpW2Ideal.nD Cert.AdamMlpW2Ideal.τ Cert.AdamMlpW2Ideal.sig) → Buf (Elt Ideal) ℓ) (g : Dev Cert.AdamMlpW2Ideal.nD → PrngReg), Pre_AdamMlpW2Ideal m →
    θ_run (Cert.AdamMlpW2Ideal.defs (F := Ideal)) (onTc (τ := Cert.AdamMlpW2Ideal.τ) (Cert.AdamMlpW2Ideal.main (F := Ideal))) ⟨m, fun _ => 0, g⟩ (fun r => (∀ c : Dev Cert.AdamMlpW2Ideal.nD,
      r.2.mem ((c.tc : Thread Cert.AdamMlpW2Ideal.nD Cert.AdamMlpW2Ideal.τ).loc Cert.AdamMlpW2Ideal.main_arg0) = m ((c.tc : Thread Cert.AdamMlpW2Ideal.nD Cert.AdamMlpW2Ideal.τ).loc Cert.AdamMlpW2Ideal.main_arg0)
      ∧ r.2.mem ((c.tc : Thread Cert.AdamMlpW2Ideal.nD Cert.AdamMlpW2Ideal.τ).loc Cert.AdamMlpW2Ideal.main_arg1) = m ((c.tc : Thread Cert.AdamMlpW2Ideal.nD Cert.AdamMlpW2Ideal.τ).loc Cert.AdamMlpW2Ideal.main_arg1)
      ∧ r.2.mem ((c.tc : Thread Cert.AdamMlpW2Ideal.nD Cert.AdamMlpW2Ideal.τ).loc Cert.AdamMlpW2Ideal.main_arg2) = m ((c.tc : Thread Cert.AdamMlpW2Ideal.nD Cert.AdamMlpW2Ideal.τ).loc Cert.AdamMlpW2Ideal.main_arg2)
      ∧ r.2.mem ((c.tc : Thread Cert.AdamMlpW2Ideal.nD Cert.AdamMlpW2Ideal.τ).loc Cert.AdamMlpW2Ideal.main_arg3) = m ((c.tc : Thread Cert.AdamMlpW2Ideal.nD Cert.AdamMlpW2Ideal.τ).loc Cert.AdamMlpW2Ideal.main_arg3))
      ∧ r.2.sem = fun _ => 0)

def quiescent_AdamMlpW2RefIdeal [hAdamMlpW2RefIdeal : Cert.AdamMlpW2RefIdeal.Facts] : Prop :=
  ∀ (m : (ℓ : Loc Cert.AdamMlpW2RefIdeal.nD Cert.AdamMlpW2RefIdeal.τ Cert.AdamMlpW2RefIdeal.sig) → Buf (Elt Ideal) ℓ) (g : Dev Cert.AdamMlpW2RefIdeal.nD → PrngReg), Pre_AdamMlpW2RefIdeal m →
    θ_run (Cert.AdamMlpW2RefIdeal.defs (F := Ideal)) (onTc (τ := Cert.AdamMlpW2RefIdeal.τ) (Cert.AdamMlpW2RefIdeal.main (F := Ideal))) ⟨m, fun _ => 0, g⟩ (fun r => (∀ c : Dev Cert.AdamMlpW2RefIdeal.nD,
      r.2.mem ((c.tc : Thread Cert.AdamMlpW2RefIdeal.nD Cert.AdamMlpW2RefIdeal.τ).loc Cert.AdamMlpW2RefIdeal.main_arg0) = m ((c.tc : Thread Cert.AdamMlpW2RefIdeal.nD Cert.AdamMlpW2RefIdeal.τ).loc Cert.AdamMlpW2RefIdeal.main_arg0)
      ∧ r.2.mem ((c.tc : Thread Cert.AdamMlpW2RefIdeal.nD Cert.AdamMlpW2RefIdeal.τ).loc Cert.AdamMlpW2RefIdeal.main_arg1) = m ((c.tc : Thread Cert.AdamMlpW2RefIdeal.nD Cert.AdamMlpW2RefIdeal.τ).loc Cert.AdamMlpW2RefIdeal.main_arg1)
      ∧ r.2.mem ((c.tc : Thread Cert.AdamMlpW2RefIdeal.nD Cert.AdamMlpW2RefIdeal.τ).loc Cert.AdamMlpW2RefIdeal.main_arg2) = m ((c.tc : Thread Cert.AdamMlpW2RefIdeal.nD Cert.AdamMlpW2RefIdeal.τ).loc Cert.AdamMlpW2RefIdeal.main_arg2)
      ∧ r.2.mem ((c.tc : Thread Cert.AdamMlpW2RefIdeal.nD Cert.AdamMlpW2RefIdeal.τ).loc Cert.AdamMlpW2RefIdeal.main_arg3) = m ((c.tc : Thread Cert.AdamMlpW2RefIdeal.nD Cert.AdamMlpW2RefIdeal.τ).loc Cert.AdamMlpW2RefIdeal.main_arg3))
      ∧ r.2.sem = fun _ => 0)

def quiescent_AdamNormMix [hAdamNormMix : Cert.AdamNormMix.Facts] : Prop :=
  ∀ (m : (ℓ : Loc Cert.AdamNormMix.nD Cert.AdamNormMix.τ Cert.AdamNormMix.sig) → Buf (Elt Bits) ℓ) (g : Dev Cert.AdamNormMix.nD → PrngReg), Pre_AdamNormMix m →
    θ_run (Cert.AdamNormMix.defs (F := Bits)) (onTc (τ := Cert.AdamNormMix.τ) (Cert.AdamNormMix.main (F := Bits))) ⟨m, fun _ => 0, g⟩ (fun r => (∀ c : Dev Cert.AdamNormMix.nD,
      r.2.mem ((c.tc : Thread Cert.AdamNormMix.nD Cert.AdamNormMix.τ).loc Cert.AdamNormMix.main_arg0) = m ((c.tc : Thread Cert.AdamNormMix.nD Cert.AdamNormMix.τ).loc Cert.AdamNormMix.main_arg0)
      ∧ r.2.mem ((c.tc : Thread Cert.AdamNormMix.nD Cert.AdamNormMix.τ).loc Cert.AdamNormMix.main_arg1) = m ((c.tc : Thread Cert.AdamNormMix.nD Cert.AdamNormMix.τ).loc Cert.AdamNormMix.main_arg1)
      ∧ r.2.mem ((c.tc : Thread Cert.AdamNormMix.nD Cert.AdamNormMix.τ).loc Cert.AdamNormMix.main_arg2) = m ((c.tc : Thread Cert.AdamNormMix.nD Cert.AdamNormMix.τ).loc Cert.AdamNormMix.main_arg2)
      ∧ r.2.mem ((c.tc : Thread Cert.AdamNormMix.nD Cert.AdamNormMix.τ).loc Cert.AdamNormMix.main_arg3) = m ((c.tc : Thread Cert.AdamNormMix.nD Cert.AdamNormMix.τ).loc Cert.AdamNormMix.main_arg3))
      ∧ r.2.sem = fun _ => 0)

def quiescent_AdamNormMixIdeal [hAdamNormMixIdeal : Cert.AdamNormMixIdeal.Facts] : Prop :=
  ∀ (m : (ℓ : Loc Cert.AdamNormMixIdeal.nD Cert.AdamNormMixIdeal.τ Cert.AdamNormMixIdeal.sig) → Buf (Elt Ideal) ℓ) (g : Dev Cert.AdamNormMixIdeal.nD → PrngReg), Pre_AdamNormMixIdeal m →
    θ_run (Cert.AdamNormMixIdeal.defs (F := Ideal)) (onTc (τ := Cert.AdamNormMixIdeal.τ) (Cert.AdamNormMixIdeal.main (F := Ideal))) ⟨m, fun _ => 0, g⟩ (fun r => (∀ c : Dev Cert.AdamNormMixIdeal.nD,
      r.2.mem ((c.tc : Thread Cert.AdamNormMixIdeal.nD Cert.AdamNormMixIdeal.τ).loc Cert.AdamNormMixIdeal.main_arg0) = m ((c.tc : Thread Cert.AdamNormMixIdeal.nD Cert.AdamNormMixIdeal.τ).loc Cert.AdamNormMixIdeal.main_arg0)
      ∧ r.2.mem ((c.tc : Thread Cert.AdamNormMixIdeal.nD Cert.AdamNormMixIdeal.τ).loc Cert.AdamNormMixIdeal.main_arg1) = m ((c.tc : Thread Cert.AdamNormMixIdeal.nD Cert.AdamNormMixIdeal.τ).loc Cert.AdamNormMixIdeal.main_arg1)
      ∧ r.2.mem ((c.tc : Thread Cert.AdamNormMixIdeal.nD Cert.AdamNormMixIdeal.τ).loc Cert.AdamNormMixIdeal.main_arg2) = m ((c.tc : Thread Cert.AdamNormMixIdeal.nD Cert.AdamNormMixIdeal.τ).loc Cert.AdamNormMixIdeal.main_arg2)
      ∧ r.2.mem ((c.tc : Thread Cert.AdamNormMixIdeal.nD Cert.AdamNormMixIdeal.τ).loc Cert.AdamNormMixIdeal.main_arg3) = m ((c.tc : Thread Cert.AdamNormMixIdeal.nD Cert.AdamNormMixIdeal.τ).loc Cert.AdamNormMixIdeal.main_arg3))
      ∧ r.2.sem = fun _ => 0)

def quiescent_AdamNormMixRefIdeal [hAdamNormMixRefIdeal : Cert.AdamNormMixRefIdeal.Facts] : Prop :=
  ∀ (m : (ℓ : Loc Cert.AdamNormMixRefIdeal.nD Cert.AdamNormMixRefIdeal.τ Cert.AdamNormMixRefIdeal.sig) → Buf (Elt Ideal) ℓ) (g : Dev Cert.AdamNormMixRefIdeal.nD → PrngReg), Pre_AdamNormMixRefIdeal m →
    θ_run (Cert.AdamNormMixRefIdeal.defs (F := Ideal)) (onTc (τ := Cert.AdamNormMixRefIdeal.τ) (Cert.AdamNormMixRefIdeal.main (F := Ideal))) ⟨m, fun _ => 0, g⟩ (fun r => (∀ c : Dev Cert.AdamNormMixRefIdeal.nD,
      r.2.mem ((c.tc : Thread Cert.AdamNormMixRefIdeal.nD Cert.AdamNormMixRefIdeal.τ).loc Cert.AdamNormMixRefIdeal.main_arg0) = m ((c.tc : Thread Cert.AdamNormMixRefIdeal.nD Cert.AdamNormMixRefIdeal.τ).loc Cert.AdamNormMixRefIdeal.main_arg0)
      ∧ r.2.mem ((c.tc : Thread Cert.AdamNormMixRefIdeal.nD Cert.AdamNormMixRefIdeal.τ).loc Cert.AdamNormMixRefIdeal.main_arg1) = m ((c.tc : Thread Cert.AdamNormMixRefIdeal.nD Cert.AdamNormMixRefIdeal.τ).loc Cert.AdamNormMixRefIdeal.main_arg1)
      ∧ r.2.mem ((c.tc : Thread Cert.AdamNormMixRefIdeal.nD Cert.AdamNormMixRefIdeal.τ).loc Cert.AdamNormMixRefIdeal.main_arg2) = m ((c.tc : Thread Cert.AdamNormMixRefIdeal.nD Cert.AdamNormMixRefIdeal.τ).loc Cert.AdamNormMixRefIdeal.main_arg2)
      ∧ r.2.mem ((c.tc : Thread Cert.AdamNormMixRefIdeal.nD Cert.AdamNormMixRefIdeal.τ).loc Cert.AdamNormMixRefIdeal.main_arg3) = m ((c.tc : Thread Cert.AdamNormMixRefIdeal.nD Cert.AdamNormMixRefIdeal.τ).loc Cert.AdamNormMixRefIdeal.main_arg3))
      ∧ r.2.sem = fun _ => 0)

def quiescent_AdamSsdNorm [hAdamSsdNorm : Cert.AdamSsdNorm.Facts] : Prop :=
  ∀ (m : (ℓ : Loc Cert.AdamSsdNorm.nD Cert.AdamSsdNorm.τ Cert.AdamSsdNorm.sig) → Buf (Elt Bits) ℓ) (g : Dev Cert.AdamSsdNorm.nD → PrngReg), Pre_AdamSsdNorm m →
    θ_run (Cert.AdamSsdNorm.defs (F := Bits)) (onTc (τ := Cert.AdamSsdNorm.τ) (Cert.AdamSsdNorm.main (F := Bits))) ⟨m, fun _ => 0, g⟩ (fun r => (∀ c : Dev Cert.AdamSsdNorm.nD,
      r.2.mem ((c.tc : Thread Cert.AdamSsdNorm.nD Cert.AdamSsdNorm.τ).loc Cert.AdamSsdNorm.main_arg0) = m ((c.tc : Thread Cert.AdamSsdNorm.nD Cert.AdamSsdNorm.τ).loc Cert.AdamSsdNorm.main_arg0)
      ∧ r.2.mem ((c.tc : Thread Cert.AdamSsdNorm.nD Cert.AdamSsdNorm.τ).loc Cert.AdamSsdNorm.main_arg1) = m ((c.tc : Thread Cert.AdamSsdNorm.nD Cert.AdamSsdNorm.τ).loc Cert.AdamSsdNorm.main_arg1)
      ∧ r.2.mem ((c.tc : Thread Cert.AdamSsdNorm.nD Cert.AdamSsdNorm.τ).loc Cert.AdamSsdNorm.main_arg2) = m ((c.tc : Thread Cert.AdamSsdNorm.nD Cert.AdamSsdNorm.τ).loc Cert.AdamSsdNorm.main_arg2)
      ∧ r.2.mem ((c.tc : Thread Cert.AdamSsdNorm.nD Cert.AdamSsdNorm.τ).loc Cert.AdamSsdNorm.main_arg3) = m ((c.tc : Thread Cert.AdamSsdNorm.nD Cert.AdamSsdNorm.τ).loc Cert.AdamSsdNorm.main_arg3))
      ∧ r.2.sem = fun _ => 0)

def quiescent_AdamSsdNormIdeal [hAdamSsdNormIdeal : Cert.AdamSsdNormIdeal.Facts] : Prop :=
  ∀ (m : (ℓ : Loc Cert.AdamSsdNormIdeal.nD Cert.AdamSsdNormIdeal.τ Cert.AdamSsdNormIdeal.sig) → Buf (Elt Ideal) ℓ) (g : Dev Cert.AdamSsdNormIdeal.nD → PrngReg), Pre_AdamSsdNormIdeal m →
    θ_run (Cert.AdamSsdNormIdeal.defs (F := Ideal)) (onTc (τ := Cert.AdamSsdNormIdeal.τ) (Cert.AdamSsdNormIdeal.main (F := Ideal))) ⟨m, fun _ => 0, g⟩ (fun r => (∀ c : Dev Cert.AdamSsdNormIdeal.nD,
      r.2.mem ((c.tc : Thread Cert.AdamSsdNormIdeal.nD Cert.AdamSsdNormIdeal.τ).loc Cert.AdamSsdNormIdeal.main_arg0) = m ((c.tc : Thread Cert.AdamSsdNormIdeal.nD Cert.AdamSsdNormIdeal.τ).loc Cert.AdamSsdNormIdeal.main_arg0)
      ∧ r.2.mem ((c.tc : Thread Cert.AdamSsdNormIdeal.nD Cert.AdamSsdNormIdeal.τ).loc Cert.AdamSsdNormIdeal.main_arg1) = m ((c.tc : Thread Cert.AdamSsdNormIdeal.nD Cert.AdamSsdNormIdeal.τ).loc Cert.AdamSsdNormIdeal.main_arg1)
      ∧ r.2.mem ((c.tc : Thread Cert.AdamSsdNormIdeal.nD Cert.AdamSsdNormIdeal.τ).loc Cert.AdamSsdNormIdeal.main_arg2) = m ((c.tc : Thread Cert.AdamSsdNormIdeal.nD Cert.AdamSsdNormIdeal.τ).loc Cert.AdamSsdNormIdeal.main_arg2)
      ∧ r.2.mem ((c.tc : Thread Cert.AdamSsdNormIdeal.nD Cert.AdamSsdNormIdeal.τ).loc Cert.AdamSsdNormIdeal.main_arg3) = m ((c.tc : Thread Cert.AdamSsdNormIdeal.nD Cert.AdamSsdNormIdeal.τ).loc Cert.AdamSsdNormIdeal.main_arg3))
      ∧ r.2.sem = fun _ => 0)

def quiescent_AdamSsdNormRefIdeal [hAdamSsdNormRefIdeal : Cert.AdamSsdNormRefIdeal.Facts] : Prop :=
  ∀ (m : (ℓ : Loc Cert.AdamSsdNormRefIdeal.nD Cert.AdamSsdNormRefIdeal.τ Cert.AdamSsdNormRefIdeal.sig) → Buf (Elt Ideal) ℓ) (g : Dev Cert.AdamSsdNormRefIdeal.nD → PrngReg), Pre_AdamSsdNormRefIdeal m →
    θ_run (Cert.AdamSsdNormRefIdeal.defs (F := Ideal)) (onTc (τ := Cert.AdamSsdNormRefIdeal.τ) (Cert.AdamSsdNormRefIdeal.main (F := Ideal))) ⟨m, fun _ => 0, g⟩ (fun r => (∀ c : Dev Cert.AdamSsdNormRefIdeal.nD,
      r.2.mem ((c.tc : Thread Cert.AdamSsdNormRefIdeal.nD Cert.AdamSsdNormRefIdeal.τ).loc Cert.AdamSsdNormRefIdeal.main_arg0) = m ((c.tc : Thread Cert.AdamSsdNormRefIdeal.nD Cert.AdamSsdNormRefIdeal.τ).loc Cert.AdamSsdNormRefIdeal.main_arg0)
      ∧ r.2.mem ((c.tc : Thread Cert.AdamSsdNormRefIdeal.nD Cert.AdamSsdNormRefIdeal.τ).loc Cert.AdamSsdNormRefIdeal.main_arg1) = m ((c.tc : Thread Cert.AdamSsdNormRefIdeal.nD Cert.AdamSsdNormRefIdeal.τ).loc Cert.AdamSsdNormRefIdeal.main_arg1)
      ∧ r.2.mem ((c.tc : Thread Cert.AdamSsdNormRefIdeal.nD Cert.AdamSsdNormRefIdeal.τ).loc Cert.AdamSsdNormRefIdeal.main_arg2) = m ((c.tc : Thread Cert.AdamSsdNormRefIdeal.nD Cert.AdamSsdNormRefIdeal.τ).loc Cert.AdamSsdNormRefIdeal.main_arg2)
      ∧ r.2.mem ((c.tc : Thread Cert.AdamSsdNormRefIdeal.nD Cert.AdamSsdNormRefIdeal.τ).loc Cert.AdamSsdNormRefIdeal.main_arg3) = m ((c.tc : Thread Cert.AdamSsdNormRefIdeal.nD Cert.AdamSsdNormRefIdeal.τ).loc Cert.AdamSsdNormRefIdeal.main_arg3))
      ∧ r.2.sem = fun _ => 0)

def quiescent_AdamNormXattn [hAdamNormXattn : Cert.AdamNormXattn.Facts] : Prop :=
  ∀ (m : (ℓ : Loc Cert.AdamNormXattn.nD Cert.AdamNormXattn.τ Cert.AdamNormXattn.sig) → Buf (Elt Bits) ℓ) (g : Dev Cert.AdamNormXattn.nD → PrngReg), Pre_AdamNormXattn m →
    θ_run (Cert.AdamNormXattn.defs (F := Bits)) (onTc (τ := Cert.AdamNormXattn.τ) (Cert.AdamNormXattn.main (F := Bits))) ⟨m, fun _ => 0, g⟩ (fun r => (∀ c : Dev Cert.AdamNormXattn.nD,
      r.2.mem ((c.tc : Thread Cert.AdamNormXattn.nD Cert.AdamNormXattn.τ).loc Cert.AdamNormXattn.main_arg0) = m ((c.tc : Thread Cert.AdamNormXattn.nD Cert.AdamNormXattn.τ).loc Cert.AdamNormXattn.main_arg0)
      ∧ r.2.mem ((c.tc : Thread Cert.AdamNormXattn.nD Cert.AdamNormXattn.τ).loc Cert.AdamNormXattn.main_arg1) = m ((c.tc : Thread Cert.AdamNormXattn.nD Cert.AdamNormXattn.τ).loc Cert.AdamNormXattn.main_arg1)
      ∧ r.2.mem ((c.tc : Thread Cert.AdamNormXattn.nD Cert.AdamNormXattn.τ).loc Cert.AdamNormXattn.main_arg2) = m ((c.tc : Thread Cert.AdamNormXattn.nD Cert.AdamNormXattn.τ).loc Cert.AdamNormXattn.main_arg2)
      ∧ r.2.mem ((c.tc : Thread Cert.AdamNormXattn.nD Cert.AdamNormXattn.τ).loc Cert.AdamNormXattn.main_arg3) = m ((c.tc : Thread Cert.AdamNormXattn.nD Cert.AdamNormXattn.τ).loc Cert.AdamNormXattn.main_arg3))
      ∧ r.2.sem = fun _ => 0)

def quiescent_AdamNormXattnIdeal [hAdamNormXattnIdeal : Cert.AdamNormXattnIdeal.Facts] : Prop :=
  ∀ (m : (ℓ : Loc Cert.AdamNormXattnIdeal.nD Cert.AdamNormXattnIdeal.τ Cert.AdamNormXattnIdeal.sig) → Buf (Elt Ideal) ℓ) (g : Dev Cert.AdamNormXattnIdeal.nD → PrngReg), Pre_AdamNormXattnIdeal m →
    θ_run (Cert.AdamNormXattnIdeal.defs (F := Ideal)) (onTc (τ := Cert.AdamNormXattnIdeal.τ) (Cert.AdamNormXattnIdeal.main (F := Ideal))) ⟨m, fun _ => 0, g⟩ (fun r => (∀ c : Dev Cert.AdamNormXattnIdeal.nD,
      r.2.mem ((c.tc : Thread Cert.AdamNormXattnIdeal.nD Cert.AdamNormXattnIdeal.τ).loc Cert.AdamNormXattnIdeal.main_arg0) = m ((c.tc : Thread Cert.AdamNormXattnIdeal.nD Cert.AdamNormXattnIdeal.τ).loc Cert.AdamNormXattnIdeal.main_arg0)
      ∧ r.2.mem ((c.tc : Thread Cert.AdamNormXattnIdeal.nD Cert.AdamNormXattnIdeal.τ).loc Cert.AdamNormXattnIdeal.main_arg1) = m ((c.tc : Thread Cert.AdamNormXattnIdeal.nD Cert.AdamNormXattnIdeal.τ).loc Cert.AdamNormXattnIdeal.main_arg1)
      ∧ r.2.mem ((c.tc : Thread Cert.AdamNormXattnIdeal.nD Cert.AdamNormXattnIdeal.τ).loc Cert.AdamNormXattnIdeal.main_arg2) = m ((c.tc : Thread Cert.AdamNormXattnIdeal.nD Cert.AdamNormXattnIdeal.τ).loc Cert.AdamNormXattnIdeal.main_arg2)
      ∧ r.2.mem ((c.tc : Thread Cert.AdamNormXattnIdeal.nD Cert.AdamNormXattnIdeal.τ).loc Cert.AdamNormXattnIdeal.main_arg3) = m ((c.tc : Thread Cert.AdamNormXattnIdeal.nD Cert.AdamNormXattnIdeal.τ).loc Cert.AdamNormXattnIdeal.main_arg3))
      ∧ r.2.sem = fun _ => 0)

def quiescent_AdamNormXattnRefIdeal [hAdamNormXattnRefIdeal : Cert.AdamNormXattnRefIdeal.Facts] : Prop :=
  ∀ (m : (ℓ : Loc Cert.AdamNormXattnRefIdeal.nD Cert.AdamNormXattnRefIdeal.τ Cert.AdamNormXattnRefIdeal.sig) → Buf (Elt Ideal) ℓ) (g : Dev Cert.AdamNormXattnRefIdeal.nD → PrngReg), Pre_AdamNormXattnRefIdeal m →
    θ_run (Cert.AdamNormXattnRefIdeal.defs (F := Ideal)) (onTc (τ := Cert.AdamNormXattnRefIdeal.τ) (Cert.AdamNormXattnRefIdeal.main (F := Ideal))) ⟨m, fun _ => 0, g⟩ (fun r => (∀ c : Dev Cert.AdamNormXattnRefIdeal.nD,
      r.2.mem ((c.tc : Thread Cert.AdamNormXattnRefIdeal.nD Cert.AdamNormXattnRefIdeal.τ).loc Cert.AdamNormXattnRefIdeal.main_arg0) = m ((c.tc : Thread Cert.AdamNormXattnRefIdeal.nD Cert.AdamNormXattnRefIdeal.τ).loc Cert.AdamNormXattnRefIdeal.main_arg0)
      ∧ r.2.mem ((c.tc : Thread Cert.AdamNormXattnRefIdeal.nD Cert.AdamNormXattnRefIdeal.τ).loc Cert.AdamNormXattnRefIdeal.main_arg1) = m ((c.tc : Thread Cert.AdamNormXattnRefIdeal.nD Cert.AdamNormXattnRefIdeal.τ).loc Cert.AdamNormXattnRefIdeal.main_arg1)
      ∧ r.2.mem ((c.tc : Thread Cert.AdamNormXattnRefIdeal.nD Cert.AdamNormXattnRefIdeal.τ).loc Cert.AdamNormXattnRefIdeal.main_arg2) = m ((c.tc : Thread Cert.AdamNormXattnRefIdeal.nD Cert.AdamNormXattnRefIdeal.τ).loc Cert.AdamNormXattnRefIdeal.main_arg2)
      ∧ r.2.mem ((c.tc : Thread Cert.AdamNormXattnRefIdeal.nD Cert.AdamNormXattnRefIdeal.τ).loc Cert.AdamNormXattnRefIdeal.main_arg3) = m ((c.tc : Thread Cert.AdamNormXattnRefIdeal.nD Cert.AdamNormXattnRefIdeal.τ).loc Cert.AdamNormXattnRefIdeal.main_arg3))
      ∧ r.2.sem = fun _ => 0)

def quiescent_AdamNormMem [hAdamNormMem : Cert.AdamNormMem.Facts] : Prop :=
  ∀ (m : (ℓ : Loc Cert.AdamNormMem.nD Cert.AdamNormMem.τ Cert.AdamNormMem.sig) → Buf (Elt Bits) ℓ) (g : Dev Cert.AdamNormMem.nD → PrngReg), Pre_AdamNormMem m →
    θ_run (Cert.AdamNormMem.defs (F := Bits)) (onTc (τ := Cert.AdamNormMem.τ) (Cert.AdamNormMem.main (F := Bits))) ⟨m, fun _ => 0, g⟩ (fun r => (∀ c : Dev Cert.AdamNormMem.nD,
      r.2.mem ((c.tc : Thread Cert.AdamNormMem.nD Cert.AdamNormMem.τ).loc Cert.AdamNormMem.main_arg0) = m ((c.tc : Thread Cert.AdamNormMem.nD Cert.AdamNormMem.τ).loc Cert.AdamNormMem.main_arg0)
      ∧ r.2.mem ((c.tc : Thread Cert.AdamNormMem.nD Cert.AdamNormMem.τ).loc Cert.AdamNormMem.main_arg1) = m ((c.tc : Thread Cert.AdamNormMem.nD Cert.AdamNormMem.τ).loc Cert.AdamNormMem.main_arg1)
      ∧ r.2.mem ((c.tc : Thread Cert.AdamNormMem.nD Cert.AdamNormMem.τ).loc Cert.AdamNormMem.main_arg2) = m ((c.tc : Thread Cert.AdamNormMem.nD Cert.AdamNormMem.τ).loc Cert.AdamNormMem.main_arg2)
      ∧ r.2.mem ((c.tc : Thread Cert.AdamNormMem.nD Cert.AdamNormMem.τ).loc Cert.AdamNormMem.main_arg3) = m ((c.tc : Thread Cert.AdamNormMem.nD Cert.AdamNormMem.τ).loc Cert.AdamNormMem.main_arg3))
      ∧ r.2.sem = fun _ => 0)

def quiescent_AdamNormMemIdeal [hAdamNormMemIdeal : Cert.AdamNormMemIdeal.Facts] : Prop :=
  ∀ (m : (ℓ : Loc Cert.AdamNormMemIdeal.nD Cert.AdamNormMemIdeal.τ Cert.AdamNormMemIdeal.sig) → Buf (Elt Ideal) ℓ) (g : Dev Cert.AdamNormMemIdeal.nD → PrngReg), Pre_AdamNormMemIdeal m →
    θ_run (Cert.AdamNormMemIdeal.defs (F := Ideal)) (onTc (τ := Cert.AdamNormMemIdeal.τ) (Cert.AdamNormMemIdeal.main (F := Ideal))) ⟨m, fun _ => 0, g⟩ (fun r => (∀ c : Dev Cert.AdamNormMemIdeal.nD,
      r.2.mem ((c.tc : Thread Cert.AdamNormMemIdeal.nD Cert.AdamNormMemIdeal.τ).loc Cert.AdamNormMemIdeal.main_arg0) = m ((c.tc : Thread Cert.AdamNormMemIdeal.nD Cert.AdamNormMemIdeal.τ).loc Cert.AdamNormMemIdeal.main_arg0)
      ∧ r.2.mem ((c.tc : Thread Cert.AdamNormMemIdeal.nD Cert.AdamNormMemIdeal.τ).loc Cert.AdamNormMemIdeal.main_arg1) = m ((c.tc : Thread Cert.AdamNormMemIdeal.nD Cert.AdamNormMemIdeal.τ).loc Cert.AdamNormMemIdeal.main_arg1)
      ∧ r.2.mem ((c.tc : Thread Cert.AdamNormMemIdeal.nD Cert.AdamNormMemIdeal.τ).loc Cert.AdamNormMemIdeal.main_arg2) = m ((c.tc : Thread Cert.AdamNormMemIdeal.nD Cert.AdamNormMemIdeal.τ).loc Cert.AdamNormMemIdeal.main_arg2)
      ∧ r.2.mem ((c.tc : Thread Cert.AdamNormMemIdeal.nD Cert.AdamNormMemIdeal.τ).loc Cert.AdamNormMemIdeal.main_arg3) = m ((c.tc : Thread Cert.AdamNormMemIdeal.nD Cert.AdamNormMemIdeal.τ).loc Cert.AdamNormMemIdeal.main_arg3))
      ∧ r.2.sem = fun _ => 0)

def quiescent_AdamNormMemRefIdeal [hAdamNormMemRefIdeal : Cert.AdamNormMemRefIdeal.Facts] : Prop :=
  ∀ (m : (ℓ : Loc Cert.AdamNormMemRefIdeal.nD Cert.AdamNormMemRefIdeal.τ Cert.AdamNormMemRefIdeal.sig) → Buf (Elt Ideal) ℓ) (g : Dev Cert.AdamNormMemRefIdeal.nD → PrngReg), Pre_AdamNormMemRefIdeal m →
    θ_run (Cert.AdamNormMemRefIdeal.defs (F := Ideal)) (onTc (τ := Cert.AdamNormMemRefIdeal.τ) (Cert.AdamNormMemRefIdeal.main (F := Ideal))) ⟨m, fun _ => 0, g⟩ (fun r => (∀ c : Dev Cert.AdamNormMemRefIdeal.nD,
      r.2.mem ((c.tc : Thread Cert.AdamNormMemRefIdeal.nD Cert.AdamNormMemRefIdeal.τ).loc Cert.AdamNormMemRefIdeal.main_arg0) = m ((c.tc : Thread Cert.AdamNormMemRefIdeal.nD Cert.AdamNormMemRefIdeal.τ).loc Cert.AdamNormMemRefIdeal.main_arg0)
      ∧ r.2.mem ((c.tc : Thread Cert.AdamNormMemRefIdeal.nD Cert.AdamNormMemRefIdeal.τ).loc Cert.AdamNormMemRefIdeal.main_arg1) = m ((c.tc : Thread Cert.AdamNormMemRefIdeal.nD Cert.AdamNormMemRefIdeal.τ).loc Cert.AdamNormMemRefIdeal.main_arg1)
      ∧ r.2.mem ((c.tc : Thread Cert.AdamNormMemRefIdeal.nD Cert.AdamNormMemRefIdeal.τ).loc Cert.AdamNormMemRefIdeal.main_arg2) = m ((c.tc : Thread Cert.AdamNormMemRefIdeal.nD Cert.AdamNormMemRefIdeal.τ).loc Cert.AdamNormMemRefIdeal.main_arg2)
      ∧ r.2.mem ((c.tc : Thread Cert.AdamNormMemRefIdeal.nD Cert.AdamNormMemRefIdeal.τ).loc Cert.AdamNormMemRefIdeal.main_arg3) = m ((c.tc : Thread Cert.AdamNormMemRefIdeal.nD Cert.AdamNormMemRefIdeal.τ).loc Cert.AdamNormMemRefIdeal.main_arg3))
      ∧ r.2.sem = fun _ => 0)

def quiescent_AdamNormMlp [hAdamNormMlp : Cert.AdamNormMlp.Facts] : Prop :=
  ∀ (m : (ℓ : Loc Cert.AdamNormMlp.nD Cert.AdamNormMlp.τ Cert.AdamNormMlp.sig) → Buf (Elt Bits) ℓ) (g : Dev Cert.AdamNormMlp.nD → PrngReg), Pre_AdamNormMlp m →
    θ_run (Cert.AdamNormMlp.defs (F := Bits)) (onTc (τ := Cert.AdamNormMlp.τ) (Cert.AdamNormMlp.main (F := Bits))) ⟨m, fun _ => 0, g⟩ (fun r => (∀ c : Dev Cert.AdamNormMlp.nD,
      r.2.mem ((c.tc : Thread Cert.AdamNormMlp.nD Cert.AdamNormMlp.τ).loc Cert.AdamNormMlp.main_arg0) = m ((c.tc : Thread Cert.AdamNormMlp.nD Cert.AdamNormMlp.τ).loc Cert.AdamNormMlp.main_arg0)
      ∧ r.2.mem ((c.tc : Thread Cert.AdamNormMlp.nD Cert.AdamNormMlp.τ).loc Cert.AdamNormMlp.main_arg1) = m ((c.tc : Thread Cert.AdamNormMlp.nD Cert.AdamNormMlp.τ).loc Cert.AdamNormMlp.main_arg1)
      ∧ r.2.mem ((c.tc : Thread Cert.AdamNormMlp.nD Cert.AdamNormMlp.τ).loc Cert.AdamNormMlp.main_arg2) = m ((c.tc : Thread Cert.AdamNormMlp.nD Cert.AdamNormMlp.τ).loc Cert.AdamNormMlp.main_arg2)
      ∧ r.2.mem ((c.tc : Thread Cert.AdamNormMlp.nD Cert.AdamNormMlp.τ).loc Cert.AdamNormMlp.main_arg3) = m ((c.tc : Thread Cert.AdamNormMlp.nD Cert.AdamNormMlp.τ).loc Cert.AdamNormMlp.main_arg3))
      ∧ r.2.sem = fun _ => 0)

def quiescent_AdamNormMlpIdeal [hAdamNormMlpIdeal : Cert.AdamNormMlpIdeal.Facts] : Prop :=
  ∀ (m : (ℓ : Loc Cert.AdamNormMlpIdeal.nD Cert.AdamNormMlpIdeal.τ Cert.AdamNormMlpIdeal.sig) → Buf (Elt Ideal) ℓ) (g : Dev Cert.AdamNormMlpIdeal.nD → PrngReg), Pre_AdamNormMlpIdeal m →
    θ_run (Cert.AdamNormMlpIdeal.defs (F := Ideal)) (onTc (τ := Cert.AdamNormMlpIdeal.τ) (Cert.AdamNormMlpIdeal.main (F := Ideal))) ⟨m, fun _ => 0, g⟩ (fun r => (∀ c : Dev Cert.AdamNormMlpIdeal.nD,
      r.2.mem ((c.tc : Thread Cert.AdamNormMlpIdeal.nD Cert.AdamNormMlpIdeal.τ).loc Cert.AdamNormMlpIdeal.main_arg0) = m ((c.tc : Thread Cert.AdamNormMlpIdeal.nD Cert.AdamNormMlpIdeal.τ).loc Cert.AdamNormMlpIdeal.main_arg0)
      ∧ r.2.mem ((c.tc : Thread Cert.AdamNormMlpIdeal.nD Cert.AdamNormMlpIdeal.τ).loc Cert.AdamNormMlpIdeal.main_arg1) = m ((c.tc : Thread Cert.AdamNormMlpIdeal.nD Cert.AdamNormMlpIdeal.τ).loc Cert.AdamNormMlpIdeal.main_arg1)
      ∧ r.2.mem ((c.tc : Thread Cert.AdamNormMlpIdeal.nD Cert.AdamNormMlpIdeal.τ).loc Cert.AdamNormMlpIdeal.main_arg2) = m ((c.tc : Thread Cert.AdamNormMlpIdeal.nD Cert.AdamNormMlpIdeal.τ).loc Cert.AdamNormMlpIdeal.main_arg2)
      ∧ r.2.mem ((c.tc : Thread Cert.AdamNormMlpIdeal.nD Cert.AdamNormMlpIdeal.τ).loc Cert.AdamNormMlpIdeal.main_arg3) = m ((c.tc : Thread Cert.AdamNormMlpIdeal.nD Cert.AdamNormMlpIdeal.τ).loc Cert.AdamNormMlpIdeal.main_arg3))
      ∧ r.2.sem = fun _ => 0)

def quiescent_AdamNormMlpRefIdeal [hAdamNormMlpRefIdeal : Cert.AdamNormMlpRefIdeal.Facts] : Prop :=
  ∀ (m : (ℓ : Loc Cert.AdamNormMlpRefIdeal.nD Cert.AdamNormMlpRefIdeal.τ Cert.AdamNormMlpRefIdeal.sig) → Buf (Elt Ideal) ℓ) (g : Dev Cert.AdamNormMlpRefIdeal.nD → PrngReg), Pre_AdamNormMlpRefIdeal m →
    θ_run (Cert.AdamNormMlpRefIdeal.defs (F := Ideal)) (onTc (τ := Cert.AdamNormMlpRefIdeal.τ) (Cert.AdamNormMlpRefIdeal.main (F := Ideal))) ⟨m, fun _ => 0, g⟩ (fun r => (∀ c : Dev Cert.AdamNormMlpRefIdeal.nD,
      r.2.mem ((c.tc : Thread Cert.AdamNormMlpRefIdeal.nD Cert.AdamNormMlpRefIdeal.τ).loc Cert.AdamNormMlpRefIdeal.main_arg0) = m ((c.tc : Thread Cert.AdamNormMlpRefIdeal.nD Cert.AdamNormMlpRefIdeal.τ).loc Cert.AdamNormMlpRefIdeal.main_arg0)
      ∧ r.2.mem ((c.tc : Thread Cert.AdamNormMlpRefIdeal.nD Cert.AdamNormMlpRefIdeal.τ).loc Cert.AdamNormMlpRefIdeal.main_arg1) = m ((c.tc : Thread Cert.AdamNormMlpRefIdeal.nD Cert.AdamNormMlpRefIdeal.τ).loc Cert.AdamNormMlpRefIdeal.main_arg1)
      ∧ r.2.mem ((c.tc : Thread Cert.AdamNormMlpRefIdeal.nD Cert.AdamNormMlpRefIdeal.τ).loc Cert.AdamNormMlpRefIdeal.main_arg2) = m ((c.tc : Thread Cert.AdamNormMlpRefIdeal.nD Cert.AdamNormMlpRefIdeal.τ).loc Cert.AdamNormMlpRefIdeal.main_arg2)
      ∧ r.2.mem ((c.tc : Thread Cert.AdamNormMlpRefIdeal.nD Cert.AdamNormMlpRefIdeal.τ).loc Cert.AdamNormMlpRefIdeal.main_arg3) = m ((c.tc : Thread Cert.AdamNormMlpRefIdeal.nD Cert.AdamNormMlpRefIdeal.τ).loc Cert.AdamNormMlpRefIdeal.main_arg3))
      ∧ r.2.sem = fun _ => 0)

def quiescent_AdamNormFinal [hAdamNormFinal : Cert.AdamNormFinal.Facts] : Prop :=
  ∀ (m : (ℓ : Loc Cert.AdamNormFinal.nD Cert.AdamNormFinal.τ Cert.AdamNormFinal.sig) → Buf (Elt Bits) ℓ) (g : Dev Cert.AdamNormFinal.nD → PrngReg), Pre_AdamNormFinal m →
    θ_run (Cert.AdamNormFinal.defs (F := Bits)) (onTc (τ := Cert.AdamNormFinal.τ) (Cert.AdamNormFinal.main (F := Bits))) ⟨m, fun _ => 0, g⟩ (fun r => (∀ c : Dev Cert.AdamNormFinal.nD,
      r.2.mem ((c.tc : Thread Cert.AdamNormFinal.nD Cert.AdamNormFinal.τ).loc Cert.AdamNormFinal.main_arg0) = m ((c.tc : Thread Cert.AdamNormFinal.nD Cert.AdamNormFinal.τ).loc Cert.AdamNormFinal.main_arg0)
      ∧ r.2.mem ((c.tc : Thread Cert.AdamNormFinal.nD Cert.AdamNormFinal.τ).loc Cert.AdamNormFinal.main_arg1) = m ((c.tc : Thread Cert.AdamNormFinal.nD Cert.AdamNormFinal.τ).loc Cert.AdamNormFinal.main_arg1)
      ∧ r.2.mem ((c.tc : Thread Cert.AdamNormFinal.nD Cert.AdamNormFinal.τ).loc Cert.AdamNormFinal.main_arg2) = m ((c.tc : Thread Cert.AdamNormFinal.nD Cert.AdamNormFinal.τ).loc Cert.AdamNormFinal.main_arg2)
      ∧ r.2.mem ((c.tc : Thread Cert.AdamNormFinal.nD Cert.AdamNormFinal.τ).loc Cert.AdamNormFinal.main_arg3) = m ((c.tc : Thread Cert.AdamNormFinal.nD Cert.AdamNormFinal.τ).loc Cert.AdamNormFinal.main_arg3))
      ∧ r.2.sem = fun _ => 0)

def quiescent_AdamNormFinalIdeal [hAdamNormFinalIdeal : Cert.AdamNormFinalIdeal.Facts] : Prop :=
  ∀ (m : (ℓ : Loc Cert.AdamNormFinalIdeal.nD Cert.AdamNormFinalIdeal.τ Cert.AdamNormFinalIdeal.sig) → Buf (Elt Ideal) ℓ) (g : Dev Cert.AdamNormFinalIdeal.nD → PrngReg), Pre_AdamNormFinalIdeal m →
    θ_run (Cert.AdamNormFinalIdeal.defs (F := Ideal)) (onTc (τ := Cert.AdamNormFinalIdeal.τ) (Cert.AdamNormFinalIdeal.main (F := Ideal))) ⟨m, fun _ => 0, g⟩ (fun r => (∀ c : Dev Cert.AdamNormFinalIdeal.nD,
      r.2.mem ((c.tc : Thread Cert.AdamNormFinalIdeal.nD Cert.AdamNormFinalIdeal.τ).loc Cert.AdamNormFinalIdeal.main_arg0) = m ((c.tc : Thread Cert.AdamNormFinalIdeal.nD Cert.AdamNormFinalIdeal.τ).loc Cert.AdamNormFinalIdeal.main_arg0)
      ∧ r.2.mem ((c.tc : Thread Cert.AdamNormFinalIdeal.nD Cert.AdamNormFinalIdeal.τ).loc Cert.AdamNormFinalIdeal.main_arg1) = m ((c.tc : Thread Cert.AdamNormFinalIdeal.nD Cert.AdamNormFinalIdeal.τ).loc Cert.AdamNormFinalIdeal.main_arg1)
      ∧ r.2.mem ((c.tc : Thread Cert.AdamNormFinalIdeal.nD Cert.AdamNormFinalIdeal.τ).loc Cert.AdamNormFinalIdeal.main_arg2) = m ((c.tc : Thread Cert.AdamNormFinalIdeal.nD Cert.AdamNormFinalIdeal.τ).loc Cert.AdamNormFinalIdeal.main_arg2)
      ∧ r.2.mem ((c.tc : Thread Cert.AdamNormFinalIdeal.nD Cert.AdamNormFinalIdeal.τ).loc Cert.AdamNormFinalIdeal.main_arg3) = m ((c.tc : Thread Cert.AdamNormFinalIdeal.nD Cert.AdamNormFinalIdeal.τ).loc Cert.AdamNormFinalIdeal.main_arg3))
      ∧ r.2.sem = fun _ => 0)

def quiescent_AdamNormFinalRefIdeal [hAdamNormFinalRefIdeal : Cert.AdamNormFinalRefIdeal.Facts] : Prop :=
  ∀ (m : (ℓ : Loc Cert.AdamNormFinalRefIdeal.nD Cert.AdamNormFinalRefIdeal.τ Cert.AdamNormFinalRefIdeal.sig) → Buf (Elt Ideal) ℓ) (g : Dev Cert.AdamNormFinalRefIdeal.nD → PrngReg), Pre_AdamNormFinalRefIdeal m →
    θ_run (Cert.AdamNormFinalRefIdeal.defs (F := Ideal)) (onTc (τ := Cert.AdamNormFinalRefIdeal.τ) (Cert.AdamNormFinalRefIdeal.main (F := Ideal))) ⟨m, fun _ => 0, g⟩ (fun r => (∀ c : Dev Cert.AdamNormFinalRefIdeal.nD,
      r.2.mem ((c.tc : Thread Cert.AdamNormFinalRefIdeal.nD Cert.AdamNormFinalRefIdeal.τ).loc Cert.AdamNormFinalRefIdeal.main_arg0) = m ((c.tc : Thread Cert.AdamNormFinalRefIdeal.nD Cert.AdamNormFinalRefIdeal.τ).loc Cert.AdamNormFinalRefIdeal.main_arg0)
      ∧ r.2.mem ((c.tc : Thread Cert.AdamNormFinalRefIdeal.nD Cert.AdamNormFinalRefIdeal.τ).loc Cert.AdamNormFinalRefIdeal.main_arg1) = m ((c.tc : Thread Cert.AdamNormFinalRefIdeal.nD Cert.AdamNormFinalRefIdeal.τ).loc Cert.AdamNormFinalRefIdeal.main_arg1)
      ∧ r.2.mem ((c.tc : Thread Cert.AdamNormFinalRefIdeal.nD Cert.AdamNormFinalRefIdeal.τ).loc Cert.AdamNormFinalRefIdeal.main_arg2) = m ((c.tc : Thread Cert.AdamNormFinalRefIdeal.nD Cert.AdamNormFinalRefIdeal.τ).loc Cert.AdamNormFinalRefIdeal.main_arg2)
      ∧ r.2.mem ((c.tc : Thread Cert.AdamNormFinalRefIdeal.nD Cert.AdamNormFinalRefIdeal.τ).loc Cert.AdamNormFinalRefIdeal.main_arg3) = m ((c.tc : Thread Cert.AdamNormFinalRefIdeal.nD Cert.AdamNormFinalRefIdeal.τ).loc Cert.AdamNormFinalRefIdeal.main_arg3))
      ∧ r.2.sem = fun _ => 0)

def quiescent_AdamSsdConvB [hAdamSsdConvB : Cert.AdamSsdConvB.Facts] : Prop :=
  ∀ (m : (ℓ : Loc Cert.AdamSsdConvB.nD Cert.AdamSsdConvB.τ Cert.AdamSsdConvB.sig) → Buf (Elt Bits) ℓ) (g : Dev Cert.AdamSsdConvB.nD → PrngReg), Pre_AdamSsdConvB m →
    θ_run (Cert.AdamSsdConvB.defs (F := Bits)) (onTc (τ := Cert.AdamSsdConvB.τ) (Cert.AdamSsdConvB.main (F := Bits))) ⟨m, fun _ => 0, g⟩ (fun r => (∀ c : Dev Cert.AdamSsdConvB.nD,
      r.2.mem ((c.tc : Thread Cert.AdamSsdConvB.nD Cert.AdamSsdConvB.τ).loc Cert.AdamSsdConvB.main_arg0) = m ((c.tc : Thread Cert.AdamSsdConvB.nD Cert.AdamSsdConvB.τ).loc Cert.AdamSsdConvB.main_arg0)
      ∧ r.2.mem ((c.tc : Thread Cert.AdamSsdConvB.nD Cert.AdamSsdConvB.τ).loc Cert.AdamSsdConvB.main_arg1) = m ((c.tc : Thread Cert.AdamSsdConvB.nD Cert.AdamSsdConvB.τ).loc Cert.AdamSsdConvB.main_arg1)
      ∧ r.2.mem ((c.tc : Thread Cert.AdamSsdConvB.nD Cert.AdamSsdConvB.τ).loc Cert.AdamSsdConvB.main_arg2) = m ((c.tc : Thread Cert.AdamSsdConvB.nD Cert.AdamSsdConvB.τ).loc Cert.AdamSsdConvB.main_arg2)
      ∧ r.2.mem ((c.tc : Thread Cert.AdamSsdConvB.nD Cert.AdamSsdConvB.τ).loc Cert.AdamSsdConvB.main_arg3) = m ((c.tc : Thread Cert.AdamSsdConvB.nD Cert.AdamSsdConvB.τ).loc Cert.AdamSsdConvB.main_arg3))
      ∧ r.2.sem = fun _ => 0)

def quiescent_AdamSsdConvBIdeal [hAdamSsdConvBIdeal : Cert.AdamSsdConvBIdeal.Facts] : Prop :=
  ∀ (m : (ℓ : Loc Cert.AdamSsdConvBIdeal.nD Cert.AdamSsdConvBIdeal.τ Cert.AdamSsdConvBIdeal.sig) → Buf (Elt Ideal) ℓ) (g : Dev Cert.AdamSsdConvBIdeal.nD → PrngReg), Pre_AdamSsdConvBIdeal m →
    θ_run (Cert.AdamSsdConvBIdeal.defs (F := Ideal)) (onTc (τ := Cert.AdamSsdConvBIdeal.τ) (Cert.AdamSsdConvBIdeal.main (F := Ideal))) ⟨m, fun _ => 0, g⟩ (fun r => (∀ c : Dev Cert.AdamSsdConvBIdeal.nD,
      r.2.mem ((c.tc : Thread Cert.AdamSsdConvBIdeal.nD Cert.AdamSsdConvBIdeal.τ).loc Cert.AdamSsdConvBIdeal.main_arg0) = m ((c.tc : Thread Cert.AdamSsdConvBIdeal.nD Cert.AdamSsdConvBIdeal.τ).loc Cert.AdamSsdConvBIdeal.main_arg0)
      ∧ r.2.mem ((c.tc : Thread Cert.AdamSsdConvBIdeal.nD Cert.AdamSsdConvBIdeal.τ).loc Cert.AdamSsdConvBIdeal.main_arg1) = m ((c.tc : Thread Cert.AdamSsdConvBIdeal.nD Cert.AdamSsdConvBIdeal.τ).loc Cert.AdamSsdConvBIdeal.main_arg1)
      ∧ r.2.mem ((c.tc : Thread Cert.AdamSsdConvBIdeal.nD Cert.AdamSsdConvBIdeal.τ).loc Cert.AdamSsdConvBIdeal.main_arg2) = m ((c.tc : Thread Cert.AdamSsdConvBIdeal.nD Cert.AdamSsdConvBIdeal.τ).loc Cert.AdamSsdConvBIdeal.main_arg2)
      ∧ r.2.mem ((c.tc : Thread Cert.AdamSsdConvBIdeal.nD Cert.AdamSsdConvBIdeal.τ).loc Cert.AdamSsdConvBIdeal.main_arg3) = m ((c.tc : Thread Cert.AdamSsdConvBIdeal.nD Cert.AdamSsdConvBIdeal.τ).loc Cert.AdamSsdConvBIdeal.main_arg3))
      ∧ r.2.sem = fun _ => 0)

def quiescent_AdamSsdConvBRefIdeal [hAdamSsdConvBRefIdeal : Cert.AdamSsdConvBRefIdeal.Facts] : Prop :=
  ∀ (m : (ℓ : Loc Cert.AdamSsdConvBRefIdeal.nD Cert.AdamSsdConvBRefIdeal.τ Cert.AdamSsdConvBRefIdeal.sig) → Buf (Elt Ideal) ℓ) (g : Dev Cert.AdamSsdConvBRefIdeal.nD → PrngReg), Pre_AdamSsdConvBRefIdeal m →
    θ_run (Cert.AdamSsdConvBRefIdeal.defs (F := Ideal)) (onTc (τ := Cert.AdamSsdConvBRefIdeal.τ) (Cert.AdamSsdConvBRefIdeal.main (F := Ideal))) ⟨m, fun _ => 0, g⟩ (fun r => (∀ c : Dev Cert.AdamSsdConvBRefIdeal.nD,
      r.2.mem ((c.tc : Thread Cert.AdamSsdConvBRefIdeal.nD Cert.AdamSsdConvBRefIdeal.τ).loc Cert.AdamSsdConvBRefIdeal.main_arg0) = m ((c.tc : Thread Cert.AdamSsdConvBRefIdeal.nD Cert.AdamSsdConvBRefIdeal.τ).loc Cert.AdamSsdConvBRefIdeal.main_arg0)
      ∧ r.2.mem ((c.tc : Thread Cert.AdamSsdConvBRefIdeal.nD Cert.AdamSsdConvBRefIdeal.τ).loc Cert.AdamSsdConvBRefIdeal.main_arg1) = m ((c.tc : Thread Cert.AdamSsdConvBRefIdeal.nD Cert.AdamSsdConvBRefIdeal.τ).loc Cert.AdamSsdConvBRefIdeal.main_arg1)
      ∧ r.2.mem ((c.tc : Thread Cert.AdamSsdConvBRefIdeal.nD Cert.AdamSsdConvBRefIdeal.τ).loc Cert.AdamSsdConvBRefIdeal.main_arg2) = m ((c.tc : Thread Cert.AdamSsdConvBRefIdeal.nD Cert.AdamSsdConvBRefIdeal.τ).loc Cert.AdamSsdConvBRefIdeal.main_arg2)
      ∧ r.2.mem ((c.tc : Thread Cert.AdamSsdConvBRefIdeal.nD Cert.AdamSsdConvBRefIdeal.τ).loc Cert.AdamSsdConvBRefIdeal.main_arg3) = m ((c.tc : Thread Cert.AdamSsdConvBRefIdeal.nD Cert.AdamSsdConvBRefIdeal.τ).loc Cert.AdamSsdConvBRefIdeal.main_arg3))
      ∧ r.2.sem = fun _ => 0)

def quiescent_AdamS5ARe [hAdamS5ARe : Cert.AdamS5ARe.Facts] : Prop :=
  ∀ (m : (ℓ : Loc Cert.AdamS5ARe.nD Cert.AdamS5ARe.τ Cert.AdamS5ARe.sig) → Buf (Elt Bits) ℓ) (g : Dev Cert.AdamS5ARe.nD → PrngReg), Pre_AdamS5ARe m →
    θ_run (Cert.AdamS5ARe.defs (F := Bits)) (onTc (τ := Cert.AdamS5ARe.τ) (Cert.AdamS5ARe.main (F := Bits))) ⟨m, fun _ => 0, g⟩ (fun r => (∀ c : Dev Cert.AdamS5ARe.nD,
      r.2.mem ((c.tc : Thread Cert.AdamS5ARe.nD Cert.AdamS5ARe.τ).loc Cert.AdamS5ARe.main_arg0) = m ((c.tc : Thread Cert.AdamS5ARe.nD Cert.AdamS5ARe.τ).loc Cert.AdamS5ARe.main_arg0)
      ∧ r.2.mem ((c.tc : Thread Cert.AdamS5ARe.nD Cert.AdamS5ARe.τ).loc Cert.AdamS5ARe.main_arg1) = m ((c.tc : Thread Cert.AdamS5ARe.nD Cert.AdamS5ARe.τ).loc Cert.AdamS5ARe.main_arg1)
      ∧ r.2.mem ((c.tc : Thread Cert.AdamS5ARe.nD Cert.AdamS5ARe.τ).loc Cert.AdamS5ARe.main_arg2) = m ((c.tc : Thread Cert.AdamS5ARe.nD Cert.AdamS5ARe.τ).loc Cert.AdamS5ARe.main_arg2)
      ∧ r.2.mem ((c.tc : Thread Cert.AdamS5ARe.nD Cert.AdamS5ARe.τ).loc Cert.AdamS5ARe.main_arg3) = m ((c.tc : Thread Cert.AdamS5ARe.nD Cert.AdamS5ARe.τ).loc Cert.AdamS5ARe.main_arg3))
      ∧ r.2.sem = fun _ => 0)

def quiescent_AdamS5AReIdeal [hAdamS5AReIdeal : Cert.AdamS5AReIdeal.Facts] : Prop :=
  ∀ (m : (ℓ : Loc Cert.AdamS5AReIdeal.nD Cert.AdamS5AReIdeal.τ Cert.AdamS5AReIdeal.sig) → Buf (Elt Ideal) ℓ) (g : Dev Cert.AdamS5AReIdeal.nD → PrngReg), Pre_AdamS5AReIdeal m →
    θ_run (Cert.AdamS5AReIdeal.defs (F := Ideal)) (onTc (τ := Cert.AdamS5AReIdeal.τ) (Cert.AdamS5AReIdeal.main (F := Ideal))) ⟨m, fun _ => 0, g⟩ (fun r => (∀ c : Dev Cert.AdamS5AReIdeal.nD,
      r.2.mem ((c.tc : Thread Cert.AdamS5AReIdeal.nD Cert.AdamS5AReIdeal.τ).loc Cert.AdamS5AReIdeal.main_arg0) = m ((c.tc : Thread Cert.AdamS5AReIdeal.nD Cert.AdamS5AReIdeal.τ).loc Cert.AdamS5AReIdeal.main_arg0)
      ∧ r.2.mem ((c.tc : Thread Cert.AdamS5AReIdeal.nD Cert.AdamS5AReIdeal.τ).loc Cert.AdamS5AReIdeal.main_arg1) = m ((c.tc : Thread Cert.AdamS5AReIdeal.nD Cert.AdamS5AReIdeal.τ).loc Cert.AdamS5AReIdeal.main_arg1)
      ∧ r.2.mem ((c.tc : Thread Cert.AdamS5AReIdeal.nD Cert.AdamS5AReIdeal.τ).loc Cert.AdamS5AReIdeal.main_arg2) = m ((c.tc : Thread Cert.AdamS5AReIdeal.nD Cert.AdamS5AReIdeal.τ).loc Cert.AdamS5AReIdeal.main_arg2)
      ∧ r.2.mem ((c.tc : Thread Cert.AdamS5AReIdeal.nD Cert.AdamS5AReIdeal.τ).loc Cert.AdamS5AReIdeal.main_arg3) = m ((c.tc : Thread Cert.AdamS5AReIdeal.nD Cert.AdamS5AReIdeal.τ).loc Cert.AdamS5AReIdeal.main_arg3))
      ∧ r.2.sem = fun _ => 0)

def quiescent_AdamS5AReRefIdeal [hAdamS5AReRefIdeal : Cert.AdamS5AReRefIdeal.Facts] : Prop :=
  ∀ (m : (ℓ : Loc Cert.AdamS5AReRefIdeal.nD Cert.AdamS5AReRefIdeal.τ Cert.AdamS5AReRefIdeal.sig) → Buf (Elt Ideal) ℓ) (g : Dev Cert.AdamS5AReRefIdeal.nD → PrngReg), Pre_AdamS5AReRefIdeal m →
    θ_run (Cert.AdamS5AReRefIdeal.defs (F := Ideal)) (onTc (τ := Cert.AdamS5AReRefIdeal.τ) (Cert.AdamS5AReRefIdeal.main (F := Ideal))) ⟨m, fun _ => 0, g⟩ (fun r => (∀ c : Dev Cert.AdamS5AReRefIdeal.nD,
      r.2.mem ((c.tc : Thread Cert.AdamS5AReRefIdeal.nD Cert.AdamS5AReRefIdeal.τ).loc Cert.AdamS5AReRefIdeal.main_arg0) = m ((c.tc : Thread Cert.AdamS5AReRefIdeal.nD Cert.AdamS5AReRefIdeal.τ).loc Cert.AdamS5AReRefIdeal.main_arg0)
      ∧ r.2.mem ((c.tc : Thread Cert.AdamS5AReRefIdeal.nD Cert.AdamS5AReRefIdeal.τ).loc Cert.AdamS5AReRefIdeal.main_arg1) = m ((c.tc : Thread Cert.AdamS5AReRefIdeal.nD Cert.AdamS5AReRefIdeal.τ).loc Cert.AdamS5AReRefIdeal.main_arg1)
      ∧ r.2.mem ((c.tc : Thread Cert.AdamS5AReRefIdeal.nD Cert.AdamS5AReRefIdeal.τ).loc Cert.AdamS5AReRefIdeal.main_arg2) = m ((c.tc : Thread Cert.AdamS5AReRefIdeal.nD Cert.AdamS5AReRefIdeal.τ).loc Cert.AdamS5AReRefIdeal.main_arg2)
      ∧ r.2.mem ((c.tc : Thread Cert.AdamS5AReRefIdeal.nD Cert.AdamS5AReRefIdeal.τ).loc Cert.AdamS5AReRefIdeal.main_arg3) = m ((c.tc : Thread Cert.AdamS5AReRefIdeal.nD Cert.AdamS5AReRefIdeal.τ).loc Cert.AdamS5AReRefIdeal.main_arg3))
      ∧ r.2.sem = fun _ => 0)

def quiescent_AdamS5AIm [hAdamS5AIm : Cert.AdamS5AIm.Facts] : Prop :=
  ∀ (m : (ℓ : Loc Cert.AdamS5AIm.nD Cert.AdamS5AIm.τ Cert.AdamS5AIm.sig) → Buf (Elt Bits) ℓ) (g : Dev Cert.AdamS5AIm.nD → PrngReg), Pre_AdamS5AIm m →
    θ_run (Cert.AdamS5AIm.defs (F := Bits)) (onTc (τ := Cert.AdamS5AIm.τ) (Cert.AdamS5AIm.main (F := Bits))) ⟨m, fun _ => 0, g⟩ (fun r => (∀ c : Dev Cert.AdamS5AIm.nD,
      r.2.mem ((c.tc : Thread Cert.AdamS5AIm.nD Cert.AdamS5AIm.τ).loc Cert.AdamS5AIm.main_arg0) = m ((c.tc : Thread Cert.AdamS5AIm.nD Cert.AdamS5AIm.τ).loc Cert.AdamS5AIm.main_arg0)
      ∧ r.2.mem ((c.tc : Thread Cert.AdamS5AIm.nD Cert.AdamS5AIm.τ).loc Cert.AdamS5AIm.main_arg1) = m ((c.tc : Thread Cert.AdamS5AIm.nD Cert.AdamS5AIm.τ).loc Cert.AdamS5AIm.main_arg1)
      ∧ r.2.mem ((c.tc : Thread Cert.AdamS5AIm.nD Cert.AdamS5AIm.τ).loc Cert.AdamS5AIm.main_arg2) = m ((c.tc : Thread Cert.AdamS5AIm.nD Cert.AdamS5AIm.τ).loc Cert.AdamS5AIm.main_arg2)
      ∧ r.2.mem ((c.tc : Thread Cert.AdamS5AIm.nD Cert.AdamS5AIm.τ).loc Cert.AdamS5AIm.main_arg3) = m ((c.tc : Thread Cert.AdamS5AIm.nD Cert.AdamS5AIm.τ).loc Cert.AdamS5AIm.main_arg3))
      ∧ r.2.sem = fun _ => 0)

def quiescent_AdamS5AImIdeal [hAdamS5AImIdeal : Cert.AdamS5AImIdeal.Facts] : Prop :=
  ∀ (m : (ℓ : Loc Cert.AdamS5AImIdeal.nD Cert.AdamS5AImIdeal.τ Cert.AdamS5AImIdeal.sig) → Buf (Elt Ideal) ℓ) (g : Dev Cert.AdamS5AImIdeal.nD → PrngReg), Pre_AdamS5AImIdeal m →
    θ_run (Cert.AdamS5AImIdeal.defs (F := Ideal)) (onTc (τ := Cert.AdamS5AImIdeal.τ) (Cert.AdamS5AImIdeal.main (F := Ideal))) ⟨m, fun _ => 0, g⟩ (fun r => (∀ c : Dev Cert.AdamS5AImIdeal.nD,
      r.2.mem ((c.tc : Thread Cert.AdamS5AImIdeal.nD Cert.AdamS5AImIdeal.τ).loc Cert.AdamS5AImIdeal.main_arg0) = m ((c.tc : Thread Cert.AdamS5AImIdeal.nD Cert.AdamS5AImIdeal.τ).loc Cert.AdamS5AImIdeal.main_arg0)
      ∧ r.2.mem ((c.tc : Thread Cert.AdamS5AImIdeal.nD Cert.AdamS5AImIdeal.τ).loc Cert.AdamS5AImIdeal.main_arg1) = m ((c.tc : Thread Cert.AdamS5AImIdeal.nD Cert.AdamS5AImIdeal.τ).loc Cert.AdamS5AImIdeal.main_arg1)
      ∧ r.2.mem ((c.tc : Thread Cert.AdamS5AImIdeal.nD Cert.AdamS5AImIdeal.τ).loc Cert.AdamS5AImIdeal.main_arg2) = m ((c.tc : Thread Cert.AdamS5AImIdeal.nD Cert.AdamS5AImIdeal.τ).loc Cert.AdamS5AImIdeal.main_arg2)
      ∧ r.2.mem ((c.tc : Thread Cert.AdamS5AImIdeal.nD Cert.AdamS5AImIdeal.τ).loc Cert.AdamS5AImIdeal.main_arg3) = m ((c.tc : Thread Cert.AdamS5AImIdeal.nD Cert.AdamS5AImIdeal.τ).loc Cert.AdamS5AImIdeal.main_arg3))
      ∧ r.2.sem = fun _ => 0)

def quiescent_AdamS5AImRefIdeal [hAdamS5AImRefIdeal : Cert.AdamS5AImRefIdeal.Facts] : Prop :=
  ∀ (m : (ℓ : Loc Cert.AdamS5AImRefIdeal.nD Cert.AdamS5AImRefIdeal.τ Cert.AdamS5AImRefIdeal.sig) → Buf (Elt Ideal) ℓ) (g : Dev Cert.AdamS5AImRefIdeal.nD → PrngReg), Pre_AdamS5AImRefIdeal m →
    θ_run (Cert.AdamS5AImRefIdeal.defs (F := Ideal)) (onTc (τ := Cert.AdamS5AImRefIdeal.τ) (Cert.AdamS5AImRefIdeal.main (F := Ideal))) ⟨m, fun _ => 0, g⟩ (fun r => (∀ c : Dev Cert.AdamS5AImRefIdeal.nD,
      r.2.mem ((c.tc : Thread Cert.AdamS5AImRefIdeal.nD Cert.AdamS5AImRefIdeal.τ).loc Cert.AdamS5AImRefIdeal.main_arg0) = m ((c.tc : Thread Cert.AdamS5AImRefIdeal.nD Cert.AdamS5AImRefIdeal.τ).loc Cert.AdamS5AImRefIdeal.main_arg0)
      ∧ r.2.mem ((c.tc : Thread Cert.AdamS5AImRefIdeal.nD Cert.AdamS5AImRefIdeal.τ).loc Cert.AdamS5AImRefIdeal.main_arg1) = m ((c.tc : Thread Cert.AdamS5AImRefIdeal.nD Cert.AdamS5AImRefIdeal.τ).loc Cert.AdamS5AImRefIdeal.main_arg1)
      ∧ r.2.mem ((c.tc : Thread Cert.AdamS5AImRefIdeal.nD Cert.AdamS5AImRefIdeal.τ).loc Cert.AdamS5AImRefIdeal.main_arg2) = m ((c.tc : Thread Cert.AdamS5AImRefIdeal.nD Cert.AdamS5AImRefIdeal.τ).loc Cert.AdamS5AImRefIdeal.main_arg2)
      ∧ r.2.mem ((c.tc : Thread Cert.AdamS5AImRefIdeal.nD Cert.AdamS5AImRefIdeal.τ).loc Cert.AdamS5AImRefIdeal.main_arg3) = m ((c.tc : Thread Cert.AdamS5AImRefIdeal.nD Cert.AdamS5AImRefIdeal.τ).loc Cert.AdamS5AImRefIdeal.main_arg3))
      ∧ r.2.sem = fun _ => 0)

def quiescent_AdamS5LogDt [hAdamS5LogDt : Cert.AdamS5LogDt.Facts] : Prop :=
  ∀ (m : (ℓ : Loc Cert.AdamS5LogDt.nD Cert.AdamS5LogDt.τ Cert.AdamS5LogDt.sig) → Buf (Elt Bits) ℓ) (g : Dev Cert.AdamS5LogDt.nD → PrngReg), Pre_AdamS5LogDt m →
    θ_run (Cert.AdamS5LogDt.defs (F := Bits)) (onTc (τ := Cert.AdamS5LogDt.τ) (Cert.AdamS5LogDt.main (F := Bits))) ⟨m, fun _ => 0, g⟩ (fun r => (∀ c : Dev Cert.AdamS5LogDt.nD,
      r.2.mem ((c.tc : Thread Cert.AdamS5LogDt.nD Cert.AdamS5LogDt.τ).loc Cert.AdamS5LogDt.main_arg0) = m ((c.tc : Thread Cert.AdamS5LogDt.nD Cert.AdamS5LogDt.τ).loc Cert.AdamS5LogDt.main_arg0)
      ∧ r.2.mem ((c.tc : Thread Cert.AdamS5LogDt.nD Cert.AdamS5LogDt.τ).loc Cert.AdamS5LogDt.main_arg1) = m ((c.tc : Thread Cert.AdamS5LogDt.nD Cert.AdamS5LogDt.τ).loc Cert.AdamS5LogDt.main_arg1)
      ∧ r.2.mem ((c.tc : Thread Cert.AdamS5LogDt.nD Cert.AdamS5LogDt.τ).loc Cert.AdamS5LogDt.main_arg2) = m ((c.tc : Thread Cert.AdamS5LogDt.nD Cert.AdamS5LogDt.τ).loc Cert.AdamS5LogDt.main_arg2)
      ∧ r.2.mem ((c.tc : Thread Cert.AdamS5LogDt.nD Cert.AdamS5LogDt.τ).loc Cert.AdamS5LogDt.main_arg3) = m ((c.tc : Thread Cert.AdamS5LogDt.nD Cert.AdamS5LogDt.τ).loc Cert.AdamS5LogDt.main_arg3))
      ∧ r.2.sem = fun _ => 0)

def quiescent_AdamS5LogDtIdeal [hAdamS5LogDtIdeal : Cert.AdamS5LogDtIdeal.Facts] : Prop :=
  ∀ (m : (ℓ : Loc Cert.AdamS5LogDtIdeal.nD Cert.AdamS5LogDtIdeal.τ Cert.AdamS5LogDtIdeal.sig) → Buf (Elt Ideal) ℓ) (g : Dev Cert.AdamS5LogDtIdeal.nD → PrngReg), Pre_AdamS5LogDtIdeal m →
    θ_run (Cert.AdamS5LogDtIdeal.defs (F := Ideal)) (onTc (τ := Cert.AdamS5LogDtIdeal.τ) (Cert.AdamS5LogDtIdeal.main (F := Ideal))) ⟨m, fun _ => 0, g⟩ (fun r => (∀ c : Dev Cert.AdamS5LogDtIdeal.nD,
      r.2.mem ((c.tc : Thread Cert.AdamS5LogDtIdeal.nD Cert.AdamS5LogDtIdeal.τ).loc Cert.AdamS5LogDtIdeal.main_arg0) = m ((c.tc : Thread Cert.AdamS5LogDtIdeal.nD Cert.AdamS5LogDtIdeal.τ).loc Cert.AdamS5LogDtIdeal.main_arg0)
      ∧ r.2.mem ((c.tc : Thread Cert.AdamS5LogDtIdeal.nD Cert.AdamS5LogDtIdeal.τ).loc Cert.AdamS5LogDtIdeal.main_arg1) = m ((c.tc : Thread Cert.AdamS5LogDtIdeal.nD Cert.AdamS5LogDtIdeal.τ).loc Cert.AdamS5LogDtIdeal.main_arg1)
      ∧ r.2.mem ((c.tc : Thread Cert.AdamS5LogDtIdeal.nD Cert.AdamS5LogDtIdeal.τ).loc Cert.AdamS5LogDtIdeal.main_arg2) = m ((c.tc : Thread Cert.AdamS5LogDtIdeal.nD Cert.AdamS5LogDtIdeal.τ).loc Cert.AdamS5LogDtIdeal.main_arg2)
      ∧ r.2.mem ((c.tc : Thread Cert.AdamS5LogDtIdeal.nD Cert.AdamS5LogDtIdeal.τ).loc Cert.AdamS5LogDtIdeal.main_arg3) = m ((c.tc : Thread Cert.AdamS5LogDtIdeal.nD Cert.AdamS5LogDtIdeal.τ).loc Cert.AdamS5LogDtIdeal.main_arg3))
      ∧ r.2.sem = fun _ => 0)

def quiescent_AdamS5LogDtRefIdeal [hAdamS5LogDtRefIdeal : Cert.AdamS5LogDtRefIdeal.Facts] : Prop :=
  ∀ (m : (ℓ : Loc Cert.AdamS5LogDtRefIdeal.nD Cert.AdamS5LogDtRefIdeal.τ Cert.AdamS5LogDtRefIdeal.sig) → Buf (Elt Ideal) ℓ) (g : Dev Cert.AdamS5LogDtRefIdeal.nD → PrngReg), Pre_AdamS5LogDtRefIdeal m →
    θ_run (Cert.AdamS5LogDtRefIdeal.defs (F := Ideal)) (onTc (τ := Cert.AdamS5LogDtRefIdeal.τ) (Cert.AdamS5LogDtRefIdeal.main (F := Ideal))) ⟨m, fun _ => 0, g⟩ (fun r => (∀ c : Dev Cert.AdamS5LogDtRefIdeal.nD,
      r.2.mem ((c.tc : Thread Cert.AdamS5LogDtRefIdeal.nD Cert.AdamS5LogDtRefIdeal.τ).loc Cert.AdamS5LogDtRefIdeal.main_arg0) = m ((c.tc : Thread Cert.AdamS5LogDtRefIdeal.nD Cert.AdamS5LogDtRefIdeal.τ).loc Cert.AdamS5LogDtRefIdeal.main_arg0)
      ∧ r.2.mem ((c.tc : Thread Cert.AdamS5LogDtRefIdeal.nD Cert.AdamS5LogDtRefIdeal.τ).loc Cert.AdamS5LogDtRefIdeal.main_arg1) = m ((c.tc : Thread Cert.AdamS5LogDtRefIdeal.nD Cert.AdamS5LogDtRefIdeal.τ).loc Cert.AdamS5LogDtRefIdeal.main_arg1)
      ∧ r.2.mem ((c.tc : Thread Cert.AdamS5LogDtRefIdeal.nD Cert.AdamS5LogDtRefIdeal.τ).loc Cert.AdamS5LogDtRefIdeal.main_arg2) = m ((c.tc : Thread Cert.AdamS5LogDtRefIdeal.nD Cert.AdamS5LogDtRefIdeal.τ).loc Cert.AdamS5LogDtRefIdeal.main_arg2)
      ∧ r.2.mem ((c.tc : Thread Cert.AdamS5LogDtRefIdeal.nD Cert.AdamS5LogDtRefIdeal.τ).loc Cert.AdamS5LogDtRefIdeal.main_arg3) = m ((c.tc : Thread Cert.AdamS5LogDtRefIdeal.nD Cert.AdamS5LogDtRefIdeal.τ).loc Cert.AdamS5LogDtRefIdeal.main_arg3))
      ∧ r.2.sem = fun _ => 0)

def quiescent_AdamS5BRe [hAdamS5BRe : Cert.AdamS5BRe.Facts] : Prop :=
  ∀ (m : (ℓ : Loc Cert.AdamS5BRe.nD Cert.AdamS5BRe.τ Cert.AdamS5BRe.sig) → Buf (Elt Bits) ℓ) (g : Dev Cert.AdamS5BRe.nD → PrngReg), Pre_AdamS5BRe m →
    θ_run (Cert.AdamS5BRe.defs (F := Bits)) (onTc (τ := Cert.AdamS5BRe.τ) (Cert.AdamS5BRe.main (F := Bits))) ⟨m, fun _ => 0, g⟩ (fun r => (∀ c : Dev Cert.AdamS5BRe.nD,
      r.2.mem ((c.tc : Thread Cert.AdamS5BRe.nD Cert.AdamS5BRe.τ).loc Cert.AdamS5BRe.main_arg0) = m ((c.tc : Thread Cert.AdamS5BRe.nD Cert.AdamS5BRe.τ).loc Cert.AdamS5BRe.main_arg0)
      ∧ r.2.mem ((c.tc : Thread Cert.AdamS5BRe.nD Cert.AdamS5BRe.τ).loc Cert.AdamS5BRe.main_arg1) = m ((c.tc : Thread Cert.AdamS5BRe.nD Cert.AdamS5BRe.τ).loc Cert.AdamS5BRe.main_arg1)
      ∧ r.2.mem ((c.tc : Thread Cert.AdamS5BRe.nD Cert.AdamS5BRe.τ).loc Cert.AdamS5BRe.main_arg2) = m ((c.tc : Thread Cert.AdamS5BRe.nD Cert.AdamS5BRe.τ).loc Cert.AdamS5BRe.main_arg2)
      ∧ r.2.mem ((c.tc : Thread Cert.AdamS5BRe.nD Cert.AdamS5BRe.τ).loc Cert.AdamS5BRe.main_arg3) = m ((c.tc : Thread Cert.AdamS5BRe.nD Cert.AdamS5BRe.τ).loc Cert.AdamS5BRe.main_arg3))
      ∧ r.2.sem = fun _ => 0)

def quiescent_AdamS5BReIdeal [hAdamS5BReIdeal : Cert.AdamS5BReIdeal.Facts] : Prop :=
  ∀ (m : (ℓ : Loc Cert.AdamS5BReIdeal.nD Cert.AdamS5BReIdeal.τ Cert.AdamS5BReIdeal.sig) → Buf (Elt Ideal) ℓ) (g : Dev Cert.AdamS5BReIdeal.nD → PrngReg), Pre_AdamS5BReIdeal m →
    θ_run (Cert.AdamS5BReIdeal.defs (F := Ideal)) (onTc (τ := Cert.AdamS5BReIdeal.τ) (Cert.AdamS5BReIdeal.main (F := Ideal))) ⟨m, fun _ => 0, g⟩ (fun r => (∀ c : Dev Cert.AdamS5BReIdeal.nD,
      r.2.mem ((c.tc : Thread Cert.AdamS5BReIdeal.nD Cert.AdamS5BReIdeal.τ).loc Cert.AdamS5BReIdeal.main_arg0) = m ((c.tc : Thread Cert.AdamS5BReIdeal.nD Cert.AdamS5BReIdeal.τ).loc Cert.AdamS5BReIdeal.main_arg0)
      ∧ r.2.mem ((c.tc : Thread Cert.AdamS5BReIdeal.nD Cert.AdamS5BReIdeal.τ).loc Cert.AdamS5BReIdeal.main_arg1) = m ((c.tc : Thread Cert.AdamS5BReIdeal.nD Cert.AdamS5BReIdeal.τ).loc Cert.AdamS5BReIdeal.main_arg1)
      ∧ r.2.mem ((c.tc : Thread Cert.AdamS5BReIdeal.nD Cert.AdamS5BReIdeal.τ).loc Cert.AdamS5BReIdeal.main_arg2) = m ((c.tc : Thread Cert.AdamS5BReIdeal.nD Cert.AdamS5BReIdeal.τ).loc Cert.AdamS5BReIdeal.main_arg2)
      ∧ r.2.mem ((c.tc : Thread Cert.AdamS5BReIdeal.nD Cert.AdamS5BReIdeal.τ).loc Cert.AdamS5BReIdeal.main_arg3) = m ((c.tc : Thread Cert.AdamS5BReIdeal.nD Cert.AdamS5BReIdeal.τ).loc Cert.AdamS5BReIdeal.main_arg3))
      ∧ r.2.sem = fun _ => 0)

def quiescent_AdamS5BReRefIdeal [hAdamS5BReRefIdeal : Cert.AdamS5BReRefIdeal.Facts] : Prop :=
  ∀ (m : (ℓ : Loc Cert.AdamS5BReRefIdeal.nD Cert.AdamS5BReRefIdeal.τ Cert.AdamS5BReRefIdeal.sig) → Buf (Elt Ideal) ℓ) (g : Dev Cert.AdamS5BReRefIdeal.nD → PrngReg), Pre_AdamS5BReRefIdeal m →
    θ_run (Cert.AdamS5BReRefIdeal.defs (F := Ideal)) (onTc (τ := Cert.AdamS5BReRefIdeal.τ) (Cert.AdamS5BReRefIdeal.main (F := Ideal))) ⟨m, fun _ => 0, g⟩ (fun r => (∀ c : Dev Cert.AdamS5BReRefIdeal.nD,
      r.2.mem ((c.tc : Thread Cert.AdamS5BReRefIdeal.nD Cert.AdamS5BReRefIdeal.τ).loc Cert.AdamS5BReRefIdeal.main_arg0) = m ((c.tc : Thread Cert.AdamS5BReRefIdeal.nD Cert.AdamS5BReRefIdeal.τ).loc Cert.AdamS5BReRefIdeal.main_arg0)
      ∧ r.2.mem ((c.tc : Thread Cert.AdamS5BReRefIdeal.nD Cert.AdamS5BReRefIdeal.τ).loc Cert.AdamS5BReRefIdeal.main_arg1) = m ((c.tc : Thread Cert.AdamS5BReRefIdeal.nD Cert.AdamS5BReRefIdeal.τ).loc Cert.AdamS5BReRefIdeal.main_arg1)
      ∧ r.2.mem ((c.tc : Thread Cert.AdamS5BReRefIdeal.nD Cert.AdamS5BReRefIdeal.τ).loc Cert.AdamS5BReRefIdeal.main_arg2) = m ((c.tc : Thread Cert.AdamS5BReRefIdeal.nD Cert.AdamS5BReRefIdeal.τ).loc Cert.AdamS5BReRefIdeal.main_arg2)
      ∧ r.2.mem ((c.tc : Thread Cert.AdamS5BReRefIdeal.nD Cert.AdamS5BReRefIdeal.τ).loc Cert.AdamS5BReRefIdeal.main_arg3) = m ((c.tc : Thread Cert.AdamS5BReRefIdeal.nD Cert.AdamS5BReRefIdeal.τ).loc Cert.AdamS5BReRefIdeal.main_arg3))
      ∧ r.2.sem = fun _ => 0)

def quiescent_AdamS5BIm [hAdamS5BIm : Cert.AdamS5BIm.Facts] : Prop :=
  ∀ (m : (ℓ : Loc Cert.AdamS5BIm.nD Cert.AdamS5BIm.τ Cert.AdamS5BIm.sig) → Buf (Elt Bits) ℓ) (g : Dev Cert.AdamS5BIm.nD → PrngReg), Pre_AdamS5BIm m →
    θ_run (Cert.AdamS5BIm.defs (F := Bits)) (onTc (τ := Cert.AdamS5BIm.τ) (Cert.AdamS5BIm.main (F := Bits))) ⟨m, fun _ => 0, g⟩ (fun r => (∀ c : Dev Cert.AdamS5BIm.nD,
      r.2.mem ((c.tc : Thread Cert.AdamS5BIm.nD Cert.AdamS5BIm.τ).loc Cert.AdamS5BIm.main_arg0) = m ((c.tc : Thread Cert.AdamS5BIm.nD Cert.AdamS5BIm.τ).loc Cert.AdamS5BIm.main_arg0)
      ∧ r.2.mem ((c.tc : Thread Cert.AdamS5BIm.nD Cert.AdamS5BIm.τ).loc Cert.AdamS5BIm.main_arg1) = m ((c.tc : Thread Cert.AdamS5BIm.nD Cert.AdamS5BIm.τ).loc Cert.AdamS5BIm.main_arg1)
      ∧ r.2.mem ((c.tc : Thread Cert.AdamS5BIm.nD Cert.AdamS5BIm.τ).loc Cert.AdamS5BIm.main_arg2) = m ((c.tc : Thread Cert.AdamS5BIm.nD Cert.AdamS5BIm.τ).loc Cert.AdamS5BIm.main_arg2)
      ∧ r.2.mem ((c.tc : Thread Cert.AdamS5BIm.nD Cert.AdamS5BIm.τ).loc Cert.AdamS5BIm.main_arg3) = m ((c.tc : Thread Cert.AdamS5BIm.nD Cert.AdamS5BIm.τ).loc Cert.AdamS5BIm.main_arg3))
      ∧ r.2.sem = fun _ => 0)

def quiescent_AdamS5BImIdeal [hAdamS5BImIdeal : Cert.AdamS5BImIdeal.Facts] : Prop :=
  ∀ (m : (ℓ : Loc Cert.AdamS5BImIdeal.nD Cert.AdamS5BImIdeal.τ Cert.AdamS5BImIdeal.sig) → Buf (Elt Ideal) ℓ) (g : Dev Cert.AdamS5BImIdeal.nD → PrngReg), Pre_AdamS5BImIdeal m →
    θ_run (Cert.AdamS5BImIdeal.defs (F := Ideal)) (onTc (τ := Cert.AdamS5BImIdeal.τ) (Cert.AdamS5BImIdeal.main (F := Ideal))) ⟨m, fun _ => 0, g⟩ (fun r => (∀ c : Dev Cert.AdamS5BImIdeal.nD,
      r.2.mem ((c.tc : Thread Cert.AdamS5BImIdeal.nD Cert.AdamS5BImIdeal.τ).loc Cert.AdamS5BImIdeal.main_arg0) = m ((c.tc : Thread Cert.AdamS5BImIdeal.nD Cert.AdamS5BImIdeal.τ).loc Cert.AdamS5BImIdeal.main_arg0)
      ∧ r.2.mem ((c.tc : Thread Cert.AdamS5BImIdeal.nD Cert.AdamS5BImIdeal.τ).loc Cert.AdamS5BImIdeal.main_arg1) = m ((c.tc : Thread Cert.AdamS5BImIdeal.nD Cert.AdamS5BImIdeal.τ).loc Cert.AdamS5BImIdeal.main_arg1)
      ∧ r.2.mem ((c.tc : Thread Cert.AdamS5BImIdeal.nD Cert.AdamS5BImIdeal.τ).loc Cert.AdamS5BImIdeal.main_arg2) = m ((c.tc : Thread Cert.AdamS5BImIdeal.nD Cert.AdamS5BImIdeal.τ).loc Cert.AdamS5BImIdeal.main_arg2)
      ∧ r.2.mem ((c.tc : Thread Cert.AdamS5BImIdeal.nD Cert.AdamS5BImIdeal.τ).loc Cert.AdamS5BImIdeal.main_arg3) = m ((c.tc : Thread Cert.AdamS5BImIdeal.nD Cert.AdamS5BImIdeal.τ).loc Cert.AdamS5BImIdeal.main_arg3))
      ∧ r.2.sem = fun _ => 0)

def quiescent_AdamS5BImRefIdeal [hAdamS5BImRefIdeal : Cert.AdamS5BImRefIdeal.Facts] : Prop :=
  ∀ (m : (ℓ : Loc Cert.AdamS5BImRefIdeal.nD Cert.AdamS5BImRefIdeal.τ Cert.AdamS5BImRefIdeal.sig) → Buf (Elt Ideal) ℓ) (g : Dev Cert.AdamS5BImRefIdeal.nD → PrngReg), Pre_AdamS5BImRefIdeal m →
    θ_run (Cert.AdamS5BImRefIdeal.defs (F := Ideal)) (onTc (τ := Cert.AdamS5BImRefIdeal.τ) (Cert.AdamS5BImRefIdeal.main (F := Ideal))) ⟨m, fun _ => 0, g⟩ (fun r => (∀ c : Dev Cert.AdamS5BImRefIdeal.nD,
      r.2.mem ((c.tc : Thread Cert.AdamS5BImRefIdeal.nD Cert.AdamS5BImRefIdeal.τ).loc Cert.AdamS5BImRefIdeal.main_arg0) = m ((c.tc : Thread Cert.AdamS5BImRefIdeal.nD Cert.AdamS5BImRefIdeal.τ).loc Cert.AdamS5BImRefIdeal.main_arg0)
      ∧ r.2.mem ((c.tc : Thread Cert.AdamS5BImRefIdeal.nD Cert.AdamS5BImRefIdeal.τ).loc Cert.AdamS5BImRefIdeal.main_arg1) = m ((c.tc : Thread Cert.AdamS5BImRefIdeal.nD Cert.AdamS5BImRefIdeal.τ).loc Cert.AdamS5BImRefIdeal.main_arg1)
      ∧ r.2.mem ((c.tc : Thread Cert.AdamS5BImRefIdeal.nD Cert.AdamS5BImRefIdeal.τ).loc Cert.AdamS5BImRefIdeal.main_arg2) = m ((c.tc : Thread Cert.AdamS5BImRefIdeal.nD Cert.AdamS5BImRefIdeal.τ).loc Cert.AdamS5BImRefIdeal.main_arg2)
      ∧ r.2.mem ((c.tc : Thread Cert.AdamS5BImRefIdeal.nD Cert.AdamS5BImRefIdeal.τ).loc Cert.AdamS5BImRefIdeal.main_arg3) = m ((c.tc : Thread Cert.AdamS5BImRefIdeal.nD Cert.AdamS5BImRefIdeal.τ).loc Cert.AdamS5BImRefIdeal.main_arg3))
      ∧ r.2.sem = fun _ => 0)

def quiescent_AdamS5CRe [hAdamS5CRe : Cert.AdamS5CRe.Facts] : Prop :=
  ∀ (m : (ℓ : Loc Cert.AdamS5CRe.nD Cert.AdamS5CRe.τ Cert.AdamS5CRe.sig) → Buf (Elt Bits) ℓ) (g : Dev Cert.AdamS5CRe.nD → PrngReg), Pre_AdamS5CRe m →
    θ_run (Cert.AdamS5CRe.defs (F := Bits)) (onTc (τ := Cert.AdamS5CRe.τ) (Cert.AdamS5CRe.main (F := Bits))) ⟨m, fun _ => 0, g⟩ (fun r => (∀ c : Dev Cert.AdamS5CRe.nD,
      r.2.mem ((c.tc : Thread Cert.AdamS5CRe.nD Cert.AdamS5CRe.τ).loc Cert.AdamS5CRe.main_arg0) = m ((c.tc : Thread Cert.AdamS5CRe.nD Cert.AdamS5CRe.τ).loc Cert.AdamS5CRe.main_arg0)
      ∧ r.2.mem ((c.tc : Thread Cert.AdamS5CRe.nD Cert.AdamS5CRe.τ).loc Cert.AdamS5CRe.main_arg1) = m ((c.tc : Thread Cert.AdamS5CRe.nD Cert.AdamS5CRe.τ).loc Cert.AdamS5CRe.main_arg1)
      ∧ r.2.mem ((c.tc : Thread Cert.AdamS5CRe.nD Cert.AdamS5CRe.τ).loc Cert.AdamS5CRe.main_arg2) = m ((c.tc : Thread Cert.AdamS5CRe.nD Cert.AdamS5CRe.τ).loc Cert.AdamS5CRe.main_arg2)
      ∧ r.2.mem ((c.tc : Thread Cert.AdamS5CRe.nD Cert.AdamS5CRe.τ).loc Cert.AdamS5CRe.main_arg3) = m ((c.tc : Thread Cert.AdamS5CRe.nD Cert.AdamS5CRe.τ).loc Cert.AdamS5CRe.main_arg3))
      ∧ r.2.sem = fun _ => 0)

def quiescent_AdamS5CReIdeal [hAdamS5CReIdeal : Cert.AdamS5CReIdeal.Facts] : Prop :=
  ∀ (m : (ℓ : Loc Cert.AdamS5CReIdeal.nD Cert.AdamS5CReIdeal.τ Cert.AdamS5CReIdeal.sig) → Buf (Elt Ideal) ℓ) (g : Dev Cert.AdamS5CReIdeal.nD → PrngReg), Pre_AdamS5CReIdeal m →
    θ_run (Cert.AdamS5CReIdeal.defs (F := Ideal)) (onTc (τ := Cert.AdamS5CReIdeal.τ) (Cert.AdamS5CReIdeal.main (F := Ideal))) ⟨m, fun _ => 0, g⟩ (fun r => (∀ c : Dev Cert.AdamS5CReIdeal.nD,
      r.2.mem ((c.tc : Thread Cert.AdamS5CReIdeal.nD Cert.AdamS5CReIdeal.τ).loc Cert.AdamS5CReIdeal.main_arg0) = m ((c.tc : Thread Cert.AdamS5CReIdeal.nD Cert.AdamS5CReIdeal.τ).loc Cert.AdamS5CReIdeal.main_arg0)
      ∧ r.2.mem ((c.tc : Thread Cert.AdamS5CReIdeal.nD Cert.AdamS5CReIdeal.τ).loc Cert.AdamS5CReIdeal.main_arg1) = m ((c.tc : Thread Cert.AdamS5CReIdeal.nD Cert.AdamS5CReIdeal.τ).loc Cert.AdamS5CReIdeal.main_arg1)
      ∧ r.2.mem ((c.tc : Thread Cert.AdamS5CReIdeal.nD Cert.AdamS5CReIdeal.τ).loc Cert.AdamS5CReIdeal.main_arg2) = m ((c.tc : Thread Cert.AdamS5CReIdeal.nD Cert.AdamS5CReIdeal.τ).loc Cert.AdamS5CReIdeal.main_arg2)
      ∧ r.2.mem ((c.tc : Thread Cert.AdamS5CReIdeal.nD Cert.AdamS5CReIdeal.τ).loc Cert.AdamS5CReIdeal.main_arg3) = m ((c.tc : Thread Cert.AdamS5CReIdeal.nD Cert.AdamS5CReIdeal.τ).loc Cert.AdamS5CReIdeal.main_arg3))
      ∧ r.2.sem = fun _ => 0)

def quiescent_AdamS5CReRefIdeal [hAdamS5CReRefIdeal : Cert.AdamS5CReRefIdeal.Facts] : Prop :=
  ∀ (m : (ℓ : Loc Cert.AdamS5CReRefIdeal.nD Cert.AdamS5CReRefIdeal.τ Cert.AdamS5CReRefIdeal.sig) → Buf (Elt Ideal) ℓ) (g : Dev Cert.AdamS5CReRefIdeal.nD → PrngReg), Pre_AdamS5CReRefIdeal m →
    θ_run (Cert.AdamS5CReRefIdeal.defs (F := Ideal)) (onTc (τ := Cert.AdamS5CReRefIdeal.τ) (Cert.AdamS5CReRefIdeal.main (F := Ideal))) ⟨m, fun _ => 0, g⟩ (fun r => (∀ c : Dev Cert.AdamS5CReRefIdeal.nD,
      r.2.mem ((c.tc : Thread Cert.AdamS5CReRefIdeal.nD Cert.AdamS5CReRefIdeal.τ).loc Cert.AdamS5CReRefIdeal.main_arg0) = m ((c.tc : Thread Cert.AdamS5CReRefIdeal.nD Cert.AdamS5CReRefIdeal.τ).loc Cert.AdamS5CReRefIdeal.main_arg0)
      ∧ r.2.mem ((c.tc : Thread Cert.AdamS5CReRefIdeal.nD Cert.AdamS5CReRefIdeal.τ).loc Cert.AdamS5CReRefIdeal.main_arg1) = m ((c.tc : Thread Cert.AdamS5CReRefIdeal.nD Cert.AdamS5CReRefIdeal.τ).loc Cert.AdamS5CReRefIdeal.main_arg1)
      ∧ r.2.mem ((c.tc : Thread Cert.AdamS5CReRefIdeal.nD Cert.AdamS5CReRefIdeal.τ).loc Cert.AdamS5CReRefIdeal.main_arg2) = m ((c.tc : Thread Cert.AdamS5CReRefIdeal.nD Cert.AdamS5CReRefIdeal.τ).loc Cert.AdamS5CReRefIdeal.main_arg2)
      ∧ r.2.mem ((c.tc : Thread Cert.AdamS5CReRefIdeal.nD Cert.AdamS5CReRefIdeal.τ).loc Cert.AdamS5CReRefIdeal.main_arg3) = m ((c.tc : Thread Cert.AdamS5CReRefIdeal.nD Cert.AdamS5CReRefIdeal.τ).loc Cert.AdamS5CReRefIdeal.main_arg3))
      ∧ r.2.sem = fun _ => 0)

def quiescent_AdamS5CIm [hAdamS5CIm : Cert.AdamS5CIm.Facts] : Prop :=
  ∀ (m : (ℓ : Loc Cert.AdamS5CIm.nD Cert.AdamS5CIm.τ Cert.AdamS5CIm.sig) → Buf (Elt Bits) ℓ) (g : Dev Cert.AdamS5CIm.nD → PrngReg), Pre_AdamS5CIm m →
    θ_run (Cert.AdamS5CIm.defs (F := Bits)) (onTc (τ := Cert.AdamS5CIm.τ) (Cert.AdamS5CIm.main (F := Bits))) ⟨m, fun _ => 0, g⟩ (fun r => (∀ c : Dev Cert.AdamS5CIm.nD,
      r.2.mem ((c.tc : Thread Cert.AdamS5CIm.nD Cert.AdamS5CIm.τ).loc Cert.AdamS5CIm.main_arg0) = m ((c.tc : Thread Cert.AdamS5CIm.nD Cert.AdamS5CIm.τ).loc Cert.AdamS5CIm.main_arg0)
      ∧ r.2.mem ((c.tc : Thread Cert.AdamS5CIm.nD Cert.AdamS5CIm.τ).loc Cert.AdamS5CIm.main_arg1) = m ((c.tc : Thread Cert.AdamS5CIm.nD Cert.AdamS5CIm.τ).loc Cert.AdamS5CIm.main_arg1)
      ∧ r.2.mem ((c.tc : Thread Cert.AdamS5CIm.nD Cert.AdamS5CIm.τ).loc Cert.AdamS5CIm.main_arg2) = m ((c.tc : Thread Cert.AdamS5CIm.nD Cert.AdamS5CIm.τ).loc Cert.AdamS5CIm.main_arg2)
      ∧ r.2.mem ((c.tc : Thread Cert.AdamS5CIm.nD Cert.AdamS5CIm.τ).loc Cert.AdamS5CIm.main_arg3) = m ((c.tc : Thread Cert.AdamS5CIm.nD Cert.AdamS5CIm.τ).loc Cert.AdamS5CIm.main_arg3))
      ∧ r.2.sem = fun _ => 0)

def quiescent_AdamS5CImIdeal [hAdamS5CImIdeal : Cert.AdamS5CImIdeal.Facts] : Prop :=
  ∀ (m : (ℓ : Loc Cert.AdamS5CImIdeal.nD Cert.AdamS5CImIdeal.τ Cert.AdamS5CImIdeal.sig) → Buf (Elt Ideal) ℓ) (g : Dev Cert.AdamS5CImIdeal.nD → PrngReg), Pre_AdamS5CImIdeal m →
    θ_run (Cert.AdamS5CImIdeal.defs (F := Ideal)) (onTc (τ := Cert.AdamS5CImIdeal.τ) (Cert.AdamS5CImIdeal.main (F := Ideal))) ⟨m, fun _ => 0, g⟩ (fun r => (∀ c : Dev Cert.AdamS5CImIdeal.nD,
      r.2.mem ((c.tc : Thread Cert.AdamS5CImIdeal.nD Cert.AdamS5CImIdeal.τ).loc Cert.AdamS5CImIdeal.main_arg0) = m ((c.tc : Thread Cert.AdamS5CImIdeal.nD Cert.AdamS5CImIdeal.τ).loc Cert.AdamS5CImIdeal.main_arg0)
      ∧ r.2.mem ((c.tc : Thread Cert.AdamS5CImIdeal.nD Cert.AdamS5CImIdeal.τ).loc Cert.AdamS5CImIdeal.main_arg1) = m ((c.tc : Thread Cert.AdamS5CImIdeal.nD Cert.AdamS5CImIdeal.τ).loc Cert.AdamS5CImIdeal.main_arg1)
      ∧ r.2.mem ((c.tc : Thread Cert.AdamS5CImIdeal.nD Cert.AdamS5CImIdeal.τ).loc Cert.AdamS5CImIdeal.main_arg2) = m ((c.tc : Thread Cert.AdamS5CImIdeal.nD Cert.AdamS5CImIdeal.τ).loc Cert.AdamS5CImIdeal.main_arg2)
      ∧ r.2.mem ((c.tc : Thread Cert.AdamS5CImIdeal.nD Cert.AdamS5CImIdeal.τ).loc Cert.AdamS5CImIdeal.main_arg3) = m ((c.tc : Thread Cert.AdamS5CImIdeal.nD Cert.AdamS5CImIdeal.τ).loc Cert.AdamS5CImIdeal.main_arg3))
      ∧ r.2.sem = fun _ => 0)

def quiescent_AdamS5CImRefIdeal [hAdamS5CImRefIdeal : Cert.AdamS5CImRefIdeal.Facts] : Prop :=
  ∀ (m : (ℓ : Loc Cert.AdamS5CImRefIdeal.nD Cert.AdamS5CImRefIdeal.τ Cert.AdamS5CImRefIdeal.sig) → Buf (Elt Ideal) ℓ) (g : Dev Cert.AdamS5CImRefIdeal.nD → PrngReg), Pre_AdamS5CImRefIdeal m →
    θ_run (Cert.AdamS5CImRefIdeal.defs (F := Ideal)) (onTc (τ := Cert.AdamS5CImRefIdeal.τ) (Cert.AdamS5CImRefIdeal.main (F := Ideal))) ⟨m, fun _ => 0, g⟩ (fun r => (∀ c : Dev Cert.AdamS5CImRefIdeal.nD,
      r.2.mem ((c.tc : Thread Cert.AdamS5CImRefIdeal.nD Cert.AdamS5CImRefIdeal.τ).loc Cert.AdamS5CImRefIdeal.main_arg0) = m ((c.tc : Thread Cert.AdamS5CImRefIdeal.nD Cert.AdamS5CImRefIdeal.τ).loc Cert.AdamS5CImRefIdeal.main_arg0)
      ∧ r.2.mem ((c.tc : Thread Cert.AdamS5CImRefIdeal.nD Cert.AdamS5CImRefIdeal.τ).loc Cert.AdamS5CImRefIdeal.main_arg1) = m ((c.tc : Thread Cert.AdamS5CImRefIdeal.nD Cert.AdamS5CImRefIdeal.τ).loc Cert.AdamS5CImRefIdeal.main_arg1)
      ∧ r.2.mem ((c.tc : Thread Cert.AdamS5CImRefIdeal.nD Cert.AdamS5CImRefIdeal.τ).loc Cert.AdamS5CImRefIdeal.main_arg2) = m ((c.tc : Thread Cert.AdamS5CImRefIdeal.nD Cert.AdamS5CImRefIdeal.τ).loc Cert.AdamS5CImRefIdeal.main_arg2)
      ∧ r.2.mem ((c.tc : Thread Cert.AdamS5CImRefIdeal.nD Cert.AdamS5CImRefIdeal.τ).loc Cert.AdamS5CImRefIdeal.main_arg3) = m ((c.tc : Thread Cert.AdamS5CImRefIdeal.nD Cert.AdamS5CImRefIdeal.τ).loc Cert.AdamS5CImRefIdeal.main_arg3))
      ∧ r.2.sem = fun _ => 0)

def quiescent_AdamS5D [hAdamS5D : Cert.AdamS5D.Facts] : Prop :=
  ∀ (m : (ℓ : Loc Cert.AdamS5D.nD Cert.AdamS5D.τ Cert.AdamS5D.sig) → Buf (Elt Bits) ℓ) (g : Dev Cert.AdamS5D.nD → PrngReg), Pre_AdamS5D m →
    θ_run (Cert.AdamS5D.defs (F := Bits)) (onTc (τ := Cert.AdamS5D.τ) (Cert.AdamS5D.main (F := Bits))) ⟨m, fun _ => 0, g⟩ (fun r => (∀ c : Dev Cert.AdamS5D.nD,
      r.2.mem ((c.tc : Thread Cert.AdamS5D.nD Cert.AdamS5D.τ).loc Cert.AdamS5D.main_arg0) = m ((c.tc : Thread Cert.AdamS5D.nD Cert.AdamS5D.τ).loc Cert.AdamS5D.main_arg0)
      ∧ r.2.mem ((c.tc : Thread Cert.AdamS5D.nD Cert.AdamS5D.τ).loc Cert.AdamS5D.main_arg1) = m ((c.tc : Thread Cert.AdamS5D.nD Cert.AdamS5D.τ).loc Cert.AdamS5D.main_arg1)
      ∧ r.2.mem ((c.tc : Thread Cert.AdamS5D.nD Cert.AdamS5D.τ).loc Cert.AdamS5D.main_arg2) = m ((c.tc : Thread Cert.AdamS5D.nD Cert.AdamS5D.τ).loc Cert.AdamS5D.main_arg2)
      ∧ r.2.mem ((c.tc : Thread Cert.AdamS5D.nD Cert.AdamS5D.τ).loc Cert.AdamS5D.main_arg3) = m ((c.tc : Thread Cert.AdamS5D.nD Cert.AdamS5D.τ).loc Cert.AdamS5D.main_arg3))
      ∧ r.2.sem = fun _ => 0)

def quiescent_AdamS5DIdeal [hAdamS5DIdeal : Cert.AdamS5DIdeal.Facts] : Prop :=
  ∀ (m : (ℓ : Loc Cert.AdamS5DIdeal.nD Cert.AdamS5DIdeal.τ Cert.AdamS5DIdeal.sig) → Buf (Elt Ideal) ℓ) (g : Dev Cert.AdamS5DIdeal.nD → PrngReg), Pre_AdamS5DIdeal m →
    θ_run (Cert.AdamS5DIdeal.defs (F := Ideal)) (onTc (τ := Cert.AdamS5DIdeal.τ) (Cert.AdamS5DIdeal.main (F := Ideal))) ⟨m, fun _ => 0, g⟩ (fun r => (∀ c : Dev Cert.AdamS5DIdeal.nD,
      r.2.mem ((c.tc : Thread Cert.AdamS5DIdeal.nD Cert.AdamS5DIdeal.τ).loc Cert.AdamS5DIdeal.main_arg0) = m ((c.tc : Thread Cert.AdamS5DIdeal.nD Cert.AdamS5DIdeal.τ).loc Cert.AdamS5DIdeal.main_arg0)
      ∧ r.2.mem ((c.tc : Thread Cert.AdamS5DIdeal.nD Cert.AdamS5DIdeal.τ).loc Cert.AdamS5DIdeal.main_arg1) = m ((c.tc : Thread Cert.AdamS5DIdeal.nD Cert.AdamS5DIdeal.τ).loc Cert.AdamS5DIdeal.main_arg1)
      ∧ r.2.mem ((c.tc : Thread Cert.AdamS5DIdeal.nD Cert.AdamS5DIdeal.τ).loc Cert.AdamS5DIdeal.main_arg2) = m ((c.tc : Thread Cert.AdamS5DIdeal.nD Cert.AdamS5DIdeal.τ).loc Cert.AdamS5DIdeal.main_arg2)
      ∧ r.2.mem ((c.tc : Thread Cert.AdamS5DIdeal.nD Cert.AdamS5DIdeal.τ).loc Cert.AdamS5DIdeal.main_arg3) = m ((c.tc : Thread Cert.AdamS5DIdeal.nD Cert.AdamS5DIdeal.τ).loc Cert.AdamS5DIdeal.main_arg3))
      ∧ r.2.sem = fun _ => 0)

def quiescent_AdamS5DRefIdeal [hAdamS5DRefIdeal : Cert.AdamS5DRefIdeal.Facts] : Prop :=
  ∀ (m : (ℓ : Loc Cert.AdamS5DRefIdeal.nD Cert.AdamS5DRefIdeal.τ Cert.AdamS5DRefIdeal.sig) → Buf (Elt Ideal) ℓ) (g : Dev Cert.AdamS5DRefIdeal.nD → PrngReg), Pre_AdamS5DRefIdeal m →
    θ_run (Cert.AdamS5DRefIdeal.defs (F := Ideal)) (onTc (τ := Cert.AdamS5DRefIdeal.τ) (Cert.AdamS5DRefIdeal.main (F := Ideal))) ⟨m, fun _ => 0, g⟩ (fun r => (∀ c : Dev Cert.AdamS5DRefIdeal.nD,
      r.2.mem ((c.tc : Thread Cert.AdamS5DRefIdeal.nD Cert.AdamS5DRefIdeal.τ).loc Cert.AdamS5DRefIdeal.main_arg0) = m ((c.tc : Thread Cert.AdamS5DRefIdeal.nD Cert.AdamS5DRefIdeal.τ).loc Cert.AdamS5DRefIdeal.main_arg0)
      ∧ r.2.mem ((c.tc : Thread Cert.AdamS5DRefIdeal.nD Cert.AdamS5DRefIdeal.τ).loc Cert.AdamS5DRefIdeal.main_arg1) = m ((c.tc : Thread Cert.AdamS5DRefIdeal.nD Cert.AdamS5DRefIdeal.τ).loc Cert.AdamS5DRefIdeal.main_arg1)
      ∧ r.2.mem ((c.tc : Thread Cert.AdamS5DRefIdeal.nD Cert.AdamS5DRefIdeal.τ).loc Cert.AdamS5DRefIdeal.main_arg2) = m ((c.tc : Thread Cert.AdamS5DRefIdeal.nD Cert.AdamS5DRefIdeal.τ).loc Cert.AdamS5DRefIdeal.main_arg2)
      ∧ r.2.mem ((c.tc : Thread Cert.AdamS5DRefIdeal.nD Cert.AdamS5DRefIdeal.τ).loc Cert.AdamS5DRefIdeal.main_arg3) = m ((c.tc : Thread Cert.AdamS5DRefIdeal.nD Cert.AdamS5DRefIdeal.τ).loc Cert.AdamS5DRefIdeal.main_arg3))
      ∧ r.2.sem = fun _ => 0)

def quiescent_AdamSsdDtBias [hAdamSsdDtBias : Cert.AdamSsdDtBias.Facts] : Prop :=
  ∀ (m : (ℓ : Loc Cert.AdamSsdDtBias.nD Cert.AdamSsdDtBias.τ Cert.AdamSsdDtBias.sig) → Buf (Elt Bits) ℓ) (g : Dev Cert.AdamSsdDtBias.nD → PrngReg), Pre_AdamSsdDtBias m →
    θ_run (Cert.AdamSsdDtBias.defs (F := Bits)) (onTc (τ := Cert.AdamSsdDtBias.τ) (Cert.AdamSsdDtBias.main (F := Bits))) ⟨m, fun _ => 0, g⟩ (fun r => (∀ c : Dev Cert.AdamSsdDtBias.nD,
      r.2.mem ((c.tc : Thread Cert.AdamSsdDtBias.nD Cert.AdamSsdDtBias.τ).loc Cert.AdamSsdDtBias.main_arg0) = m ((c.tc : Thread Cert.AdamSsdDtBias.nD Cert.AdamSsdDtBias.τ).loc Cert.AdamSsdDtBias.main_arg0)
      ∧ r.2.mem ((c.tc : Thread Cert.AdamSsdDtBias.nD Cert.AdamSsdDtBias.τ).loc Cert.AdamSsdDtBias.main_arg1) = m ((c.tc : Thread Cert.AdamSsdDtBias.nD Cert.AdamSsdDtBias.τ).loc Cert.AdamSsdDtBias.main_arg1)
      ∧ r.2.mem ((c.tc : Thread Cert.AdamSsdDtBias.nD Cert.AdamSsdDtBias.τ).loc Cert.AdamSsdDtBias.main_arg2) = m ((c.tc : Thread Cert.AdamSsdDtBias.nD Cert.AdamSsdDtBias.τ).loc Cert.AdamSsdDtBias.main_arg2)
      ∧ r.2.mem ((c.tc : Thread Cert.AdamSsdDtBias.nD Cert.AdamSsdDtBias.τ).loc Cert.AdamSsdDtBias.main_arg3) = m ((c.tc : Thread Cert.AdamSsdDtBias.nD Cert.AdamSsdDtBias.τ).loc Cert.AdamSsdDtBias.main_arg3))
      ∧ r.2.sem = fun _ => 0)

def quiescent_AdamSsdDtBiasIdeal [hAdamSsdDtBiasIdeal : Cert.AdamSsdDtBiasIdeal.Facts] : Prop :=
  ∀ (m : (ℓ : Loc Cert.AdamSsdDtBiasIdeal.nD Cert.AdamSsdDtBiasIdeal.τ Cert.AdamSsdDtBiasIdeal.sig) → Buf (Elt Ideal) ℓ) (g : Dev Cert.AdamSsdDtBiasIdeal.nD → PrngReg), Pre_AdamSsdDtBiasIdeal m →
    θ_run (Cert.AdamSsdDtBiasIdeal.defs (F := Ideal)) (onTc (τ := Cert.AdamSsdDtBiasIdeal.τ) (Cert.AdamSsdDtBiasIdeal.main (F := Ideal))) ⟨m, fun _ => 0, g⟩ (fun r => (∀ c : Dev Cert.AdamSsdDtBiasIdeal.nD,
      r.2.mem ((c.tc : Thread Cert.AdamSsdDtBiasIdeal.nD Cert.AdamSsdDtBiasIdeal.τ).loc Cert.AdamSsdDtBiasIdeal.main_arg0) = m ((c.tc : Thread Cert.AdamSsdDtBiasIdeal.nD Cert.AdamSsdDtBiasIdeal.τ).loc Cert.AdamSsdDtBiasIdeal.main_arg0)
      ∧ r.2.mem ((c.tc : Thread Cert.AdamSsdDtBiasIdeal.nD Cert.AdamSsdDtBiasIdeal.τ).loc Cert.AdamSsdDtBiasIdeal.main_arg1) = m ((c.tc : Thread Cert.AdamSsdDtBiasIdeal.nD Cert.AdamSsdDtBiasIdeal.τ).loc Cert.AdamSsdDtBiasIdeal.main_arg1)
      ∧ r.2.mem ((c.tc : Thread Cert.AdamSsdDtBiasIdeal.nD Cert.AdamSsdDtBiasIdeal.τ).loc Cert.AdamSsdDtBiasIdeal.main_arg2) = m ((c.tc : Thread Cert.AdamSsdDtBiasIdeal.nD Cert.AdamSsdDtBiasIdeal.τ).loc Cert.AdamSsdDtBiasIdeal.main_arg2)
      ∧ r.2.mem ((c.tc : Thread Cert.AdamSsdDtBiasIdeal.nD Cert.AdamSsdDtBiasIdeal.τ).loc Cert.AdamSsdDtBiasIdeal.main_arg3) = m ((c.tc : Thread Cert.AdamSsdDtBiasIdeal.nD Cert.AdamSsdDtBiasIdeal.τ).loc Cert.AdamSsdDtBiasIdeal.main_arg3))
      ∧ r.2.sem = fun _ => 0)

def quiescent_AdamSsdDtBiasRefIdeal [hAdamSsdDtBiasRefIdeal : Cert.AdamSsdDtBiasRefIdeal.Facts] : Prop :=
  ∀ (m : (ℓ : Loc Cert.AdamSsdDtBiasRefIdeal.nD Cert.AdamSsdDtBiasRefIdeal.τ Cert.AdamSsdDtBiasRefIdeal.sig) → Buf (Elt Ideal) ℓ) (g : Dev Cert.AdamSsdDtBiasRefIdeal.nD → PrngReg), Pre_AdamSsdDtBiasRefIdeal m →
    θ_run (Cert.AdamSsdDtBiasRefIdeal.defs (F := Ideal)) (onTc (τ := Cert.AdamSsdDtBiasRefIdeal.τ) (Cert.AdamSsdDtBiasRefIdeal.main (F := Ideal))) ⟨m, fun _ => 0, g⟩ (fun r => (∀ c : Dev Cert.AdamSsdDtBiasRefIdeal.nD,
      r.2.mem ((c.tc : Thread Cert.AdamSsdDtBiasRefIdeal.nD Cert.AdamSsdDtBiasRefIdeal.τ).loc Cert.AdamSsdDtBiasRefIdeal.main_arg0) = m ((c.tc : Thread Cert.AdamSsdDtBiasRefIdeal.nD Cert.AdamSsdDtBiasRefIdeal.τ).loc Cert.AdamSsdDtBiasRefIdeal.main_arg0)
      ∧ r.2.mem ((c.tc : Thread Cert.AdamSsdDtBiasRefIdeal.nD Cert.AdamSsdDtBiasRefIdeal.τ).loc Cert.AdamSsdDtBiasRefIdeal.main_arg1) = m ((c.tc : Thread Cert.AdamSsdDtBiasRefIdeal.nD Cert.AdamSsdDtBiasRefIdeal.τ).loc Cert.AdamSsdDtBiasRefIdeal.main_arg1)
      ∧ r.2.mem ((c.tc : Thread Cert.AdamSsdDtBiasRefIdeal.nD Cert.AdamSsdDtBiasRefIdeal.τ).loc Cert.AdamSsdDtBiasRefIdeal.main_arg2) = m ((c.tc : Thread Cert.AdamSsdDtBiasRefIdeal.nD Cert.AdamSsdDtBiasRefIdeal.τ).loc Cert.AdamSsdDtBiasRefIdeal.main_arg2)
      ∧ r.2.mem ((c.tc : Thread Cert.AdamSsdDtBiasRefIdeal.nD Cert.AdamSsdDtBiasRefIdeal.τ).loc Cert.AdamSsdDtBiasRefIdeal.main_arg3) = m ((c.tc : Thread Cert.AdamSsdDtBiasRefIdeal.nD Cert.AdamSsdDtBiasRefIdeal.τ).loc Cert.AdamSsdDtBiasRefIdeal.main_arg3))
      ∧ r.2.sem = fun _ => 0)

def quiescent_AdamSsdALog [hAdamSsdALog : Cert.AdamSsdALog.Facts] : Prop :=
  ∀ (m : (ℓ : Loc Cert.AdamSsdALog.nD Cert.AdamSsdALog.τ Cert.AdamSsdALog.sig) → Buf (Elt Bits) ℓ) (g : Dev Cert.AdamSsdALog.nD → PrngReg), Pre_AdamSsdALog m →
    θ_run (Cert.AdamSsdALog.defs (F := Bits)) (onTc (τ := Cert.AdamSsdALog.τ) (Cert.AdamSsdALog.main (F := Bits))) ⟨m, fun _ => 0, g⟩ (fun r => (∀ c : Dev Cert.AdamSsdALog.nD,
      r.2.mem ((c.tc : Thread Cert.AdamSsdALog.nD Cert.AdamSsdALog.τ).loc Cert.AdamSsdALog.main_arg0) = m ((c.tc : Thread Cert.AdamSsdALog.nD Cert.AdamSsdALog.τ).loc Cert.AdamSsdALog.main_arg0)
      ∧ r.2.mem ((c.tc : Thread Cert.AdamSsdALog.nD Cert.AdamSsdALog.τ).loc Cert.AdamSsdALog.main_arg1) = m ((c.tc : Thread Cert.AdamSsdALog.nD Cert.AdamSsdALog.τ).loc Cert.AdamSsdALog.main_arg1)
      ∧ r.2.mem ((c.tc : Thread Cert.AdamSsdALog.nD Cert.AdamSsdALog.τ).loc Cert.AdamSsdALog.main_arg2) = m ((c.tc : Thread Cert.AdamSsdALog.nD Cert.AdamSsdALog.τ).loc Cert.AdamSsdALog.main_arg2)
      ∧ r.2.mem ((c.tc : Thread Cert.AdamSsdALog.nD Cert.AdamSsdALog.τ).loc Cert.AdamSsdALog.main_arg3) = m ((c.tc : Thread Cert.AdamSsdALog.nD Cert.AdamSsdALog.τ).loc Cert.AdamSsdALog.main_arg3))
      ∧ r.2.sem = fun _ => 0)

def quiescent_AdamSsdALogIdeal [hAdamSsdALogIdeal : Cert.AdamSsdALogIdeal.Facts] : Prop :=
  ∀ (m : (ℓ : Loc Cert.AdamSsdALogIdeal.nD Cert.AdamSsdALogIdeal.τ Cert.AdamSsdALogIdeal.sig) → Buf (Elt Ideal) ℓ) (g : Dev Cert.AdamSsdALogIdeal.nD → PrngReg), Pre_AdamSsdALogIdeal m →
    θ_run (Cert.AdamSsdALogIdeal.defs (F := Ideal)) (onTc (τ := Cert.AdamSsdALogIdeal.τ) (Cert.AdamSsdALogIdeal.main (F := Ideal))) ⟨m, fun _ => 0, g⟩ (fun r => (∀ c : Dev Cert.AdamSsdALogIdeal.nD,
      r.2.mem ((c.tc : Thread Cert.AdamSsdALogIdeal.nD Cert.AdamSsdALogIdeal.τ).loc Cert.AdamSsdALogIdeal.main_arg0) = m ((c.tc : Thread Cert.AdamSsdALogIdeal.nD Cert.AdamSsdALogIdeal.τ).loc Cert.AdamSsdALogIdeal.main_arg0)
      ∧ r.2.mem ((c.tc : Thread Cert.AdamSsdALogIdeal.nD Cert.AdamSsdALogIdeal.τ).loc Cert.AdamSsdALogIdeal.main_arg1) = m ((c.tc : Thread Cert.AdamSsdALogIdeal.nD Cert.AdamSsdALogIdeal.τ).loc Cert.AdamSsdALogIdeal.main_arg1)
      ∧ r.2.mem ((c.tc : Thread Cert.AdamSsdALogIdeal.nD Cert.AdamSsdALogIdeal.τ).loc Cert.AdamSsdALogIdeal.main_arg2) = m ((c.tc : Thread Cert.AdamSsdALogIdeal.nD Cert.AdamSsdALogIdeal.τ).loc Cert.AdamSsdALogIdeal.main_arg2)
      ∧ r.2.mem ((c.tc : Thread Cert.AdamSsdALogIdeal.nD Cert.AdamSsdALogIdeal.τ).loc Cert.AdamSsdALogIdeal.main_arg3) = m ((c.tc : Thread Cert.AdamSsdALogIdeal.nD Cert.AdamSsdALogIdeal.τ).loc Cert.AdamSsdALogIdeal.main_arg3))
      ∧ r.2.sem = fun _ => 0)

def quiescent_AdamSsdALogRefIdeal [hAdamSsdALogRefIdeal : Cert.AdamSsdALogRefIdeal.Facts] : Prop :=
  ∀ (m : (ℓ : Loc Cert.AdamSsdALogRefIdeal.nD Cert.AdamSsdALogRefIdeal.τ Cert.AdamSsdALogRefIdeal.sig) → Buf (Elt Ideal) ℓ) (g : Dev Cert.AdamSsdALogRefIdeal.nD → PrngReg), Pre_AdamSsdALogRefIdeal m →
    θ_run (Cert.AdamSsdALogRefIdeal.defs (F := Ideal)) (onTc (τ := Cert.AdamSsdALogRefIdeal.τ) (Cert.AdamSsdALogRefIdeal.main (F := Ideal))) ⟨m, fun _ => 0, g⟩ (fun r => (∀ c : Dev Cert.AdamSsdALogRefIdeal.nD,
      r.2.mem ((c.tc : Thread Cert.AdamSsdALogRefIdeal.nD Cert.AdamSsdALogRefIdeal.τ).loc Cert.AdamSsdALogRefIdeal.main_arg0) = m ((c.tc : Thread Cert.AdamSsdALogRefIdeal.nD Cert.AdamSsdALogRefIdeal.τ).loc Cert.AdamSsdALogRefIdeal.main_arg0)
      ∧ r.2.mem ((c.tc : Thread Cert.AdamSsdALogRefIdeal.nD Cert.AdamSsdALogRefIdeal.τ).loc Cert.AdamSsdALogRefIdeal.main_arg1) = m ((c.tc : Thread Cert.AdamSsdALogRefIdeal.nD Cert.AdamSsdALogRefIdeal.τ).loc Cert.AdamSsdALogRefIdeal.main_arg1)
      ∧ r.2.mem ((c.tc : Thread Cert.AdamSsdALogRefIdeal.nD Cert.AdamSsdALogRefIdeal.τ).loc Cert.AdamSsdALogRefIdeal.main_arg2) = m ((c.tc : Thread Cert.AdamSsdALogRefIdeal.nD Cert.AdamSsdALogRefIdeal.τ).loc Cert.AdamSsdALogRefIdeal.main_arg2)
      ∧ r.2.mem ((c.tc : Thread Cert.AdamSsdALogRefIdeal.nD Cert.AdamSsdALogRefIdeal.τ).loc Cert.AdamSsdALogRefIdeal.main_arg3) = m ((c.tc : Thread Cert.AdamSsdALogRefIdeal.nD Cert.AdamSsdALogRefIdeal.τ).loc Cert.AdamSsdALogRefIdeal.main_arg3))
      ∧ r.2.sem = fun _ => 0)

def quiescent_AdamSsdD [hAdamSsdD : Cert.AdamSsdD.Facts] : Prop :=
  ∀ (m : (ℓ : Loc Cert.AdamSsdD.nD Cert.AdamSsdD.τ Cert.AdamSsdD.sig) → Buf (Elt Bits) ℓ) (g : Dev Cert.AdamSsdD.nD → PrngReg), Pre_AdamSsdD m →
    θ_run (Cert.AdamSsdD.defs (F := Bits)) (onTc (τ := Cert.AdamSsdD.τ) (Cert.AdamSsdD.main (F := Bits))) ⟨m, fun _ => 0, g⟩ (fun r => (∀ c : Dev Cert.AdamSsdD.nD,
      r.2.mem ((c.tc : Thread Cert.AdamSsdD.nD Cert.AdamSsdD.τ).loc Cert.AdamSsdD.main_arg0) = m ((c.tc : Thread Cert.AdamSsdD.nD Cert.AdamSsdD.τ).loc Cert.AdamSsdD.main_arg0)
      ∧ r.2.mem ((c.tc : Thread Cert.AdamSsdD.nD Cert.AdamSsdD.τ).loc Cert.AdamSsdD.main_arg1) = m ((c.tc : Thread Cert.AdamSsdD.nD Cert.AdamSsdD.τ).loc Cert.AdamSsdD.main_arg1)
      ∧ r.2.mem ((c.tc : Thread Cert.AdamSsdD.nD Cert.AdamSsdD.τ).loc Cert.AdamSsdD.main_arg2) = m ((c.tc : Thread Cert.AdamSsdD.nD Cert.AdamSsdD.τ).loc Cert.AdamSsdD.main_arg2)
      ∧ r.2.mem ((c.tc : Thread Cert.AdamSsdD.nD Cert.AdamSsdD.τ).loc Cert.AdamSsdD.main_arg3) = m ((c.tc : Thread Cert.AdamSsdD.nD Cert.AdamSsdD.τ).loc Cert.AdamSsdD.main_arg3))
      ∧ r.2.sem = fun _ => 0)

def quiescent_AdamSsdDIdeal [hAdamSsdDIdeal : Cert.AdamSsdDIdeal.Facts] : Prop :=
  ∀ (m : (ℓ : Loc Cert.AdamSsdDIdeal.nD Cert.AdamSsdDIdeal.τ Cert.AdamSsdDIdeal.sig) → Buf (Elt Ideal) ℓ) (g : Dev Cert.AdamSsdDIdeal.nD → PrngReg), Pre_AdamSsdDIdeal m →
    θ_run (Cert.AdamSsdDIdeal.defs (F := Ideal)) (onTc (τ := Cert.AdamSsdDIdeal.τ) (Cert.AdamSsdDIdeal.main (F := Ideal))) ⟨m, fun _ => 0, g⟩ (fun r => (∀ c : Dev Cert.AdamSsdDIdeal.nD,
      r.2.mem ((c.tc : Thread Cert.AdamSsdDIdeal.nD Cert.AdamSsdDIdeal.τ).loc Cert.AdamSsdDIdeal.main_arg0) = m ((c.tc : Thread Cert.AdamSsdDIdeal.nD Cert.AdamSsdDIdeal.τ).loc Cert.AdamSsdDIdeal.main_arg0)
      ∧ r.2.mem ((c.tc : Thread Cert.AdamSsdDIdeal.nD Cert.AdamSsdDIdeal.τ).loc Cert.AdamSsdDIdeal.main_arg1) = m ((c.tc : Thread Cert.AdamSsdDIdeal.nD Cert.AdamSsdDIdeal.τ).loc Cert.AdamSsdDIdeal.main_arg1)
      ∧ r.2.mem ((c.tc : Thread Cert.AdamSsdDIdeal.nD Cert.AdamSsdDIdeal.τ).loc Cert.AdamSsdDIdeal.main_arg2) = m ((c.tc : Thread Cert.AdamSsdDIdeal.nD Cert.AdamSsdDIdeal.τ).loc Cert.AdamSsdDIdeal.main_arg2)
      ∧ r.2.mem ((c.tc : Thread Cert.AdamSsdDIdeal.nD Cert.AdamSsdDIdeal.τ).loc Cert.AdamSsdDIdeal.main_arg3) = m ((c.tc : Thread Cert.AdamSsdDIdeal.nD Cert.AdamSsdDIdeal.τ).loc Cert.AdamSsdDIdeal.main_arg3))
      ∧ r.2.sem = fun _ => 0)

def quiescent_AdamSsdDRefIdeal [hAdamSsdDRefIdeal : Cert.AdamSsdDRefIdeal.Facts] : Prop :=
  ∀ (m : (ℓ : Loc Cert.AdamSsdDRefIdeal.nD Cert.AdamSsdDRefIdeal.τ Cert.AdamSsdDRefIdeal.sig) → Buf (Elt Ideal) ℓ) (g : Dev Cert.AdamSsdDRefIdeal.nD → PrngReg), Pre_AdamSsdDRefIdeal m →
    θ_run (Cert.AdamSsdDRefIdeal.defs (F := Ideal)) (onTc (τ := Cert.AdamSsdDRefIdeal.τ) (Cert.AdamSsdDRefIdeal.main (F := Ideal))) ⟨m, fun _ => 0, g⟩ (fun r => (∀ c : Dev Cert.AdamSsdDRefIdeal.nD,
      r.2.mem ((c.tc : Thread Cert.AdamSsdDRefIdeal.nD Cert.AdamSsdDRefIdeal.τ).loc Cert.AdamSsdDRefIdeal.main_arg0) = m ((c.tc : Thread Cert.AdamSsdDRefIdeal.nD Cert.AdamSsdDRefIdeal.τ).loc Cert.AdamSsdDRefIdeal.main_arg0)
      ∧ r.2.mem ((c.tc : Thread Cert.AdamSsdDRefIdeal.nD Cert.AdamSsdDRefIdeal.τ).loc Cert.AdamSsdDRefIdeal.main_arg1) = m ((c.tc : Thread Cert.AdamSsdDRefIdeal.nD Cert.AdamSsdDRefIdeal.τ).loc Cert.AdamSsdDRefIdeal.main_arg1)
      ∧ r.2.mem ((c.tc : Thread Cert.AdamSsdDRefIdeal.nD Cert.AdamSsdDRefIdeal.τ).loc Cert.AdamSsdDRefIdeal.main_arg2) = m ((c.tc : Thread Cert.AdamSsdDRefIdeal.nD Cert.AdamSsdDRefIdeal.τ).loc Cert.AdamSsdDRefIdeal.main_arg2)
      ∧ r.2.mem ((c.tc : Thread Cert.AdamSsdDRefIdeal.nD Cert.AdamSsdDRefIdeal.τ).loc Cert.AdamSsdDRefIdeal.main_arg3) = m ((c.tc : Thread Cert.AdamSsdDRefIdeal.nD Cert.AdamSsdDRefIdeal.τ).loc Cert.AdamSsdDRefIdeal.main_arg3))
      ∧ r.2.sem = fun _ => 0)

def preserves_Attn_AttnIdeal : Prop :=
  True

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v0_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_v0_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v67) = v0 c
          ∧ r.2.mem ((c.tc : Thread Cert.AttnRefIdeal.nD Cert.AttnRefIdeal.τ).loc Cert.AttnRefIdeal.main_v65) = v1 c
          ∧ r.2.mem ((c.tc : Thread Cert.AttnRefIdeal.nD Cert.AttnRefIdeal.τ).loc Cert.AttnRefIdeal.main_v64) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)
      ∧ m' ((c.tc : Thread Cert.DownDxRefIdeal.nD Cert.DownDxRefIdeal.τ).loc Cert.DownDxRefIdeal.main_arg3) = m ((c.tc : Thread Cert.DownDxIdeal.nD Cert.DownDxIdeal.τ).loc Cert.DownDxIdeal.main_arg3)) →
    ∃ (v0 : (c : Dev Cert.DownDxIdeal.nD) → Buf (Elt Ideal) ((c.tc : Thread Cert.DownDxIdeal.nD Cert.DownDxIdeal.τ).loc Cert.DownDxIdeal.main_v6)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v6) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2)
          ∧ r.2.mem ((c.tc : Thread Cert.DownDxIdeal.nD Cert.DownDxIdeal.τ).loc Cert.DownDxIdeal.main_arg3) = m ((c.tc : Thread Cert.DownDxIdeal.nD Cert.DownDxIdeal.τ).loc Cert.DownDxIdeal.main_arg3))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v17) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2)
          ∧ r.2.mem ((c.tc : Thread Cert.DownDxRefIdeal.nD Cert.DownDxRefIdeal.τ).loc Cert.DownDxRefIdeal.main_arg3) = m' ((c.tc : Thread Cert.DownDxRefIdeal.nD Cert.DownDxRefIdeal.τ).loc Cert.DownDxRefIdeal.main_arg3))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v6)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v6) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v10) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)
      ∧ m' ((c.tc : Thread Cert.UpDwRefIdeal.nD Cert.UpDwRefIdeal.τ).loc Cert.UpDwRefIdeal.main_arg3) = m ((c.tc : Thread Cert.UpDwIdeal.nD Cert.UpDwIdeal.τ).loc Cert.UpDwIdeal.main_arg3)) →
    ∃ (v0 : (c : Dev Cert.UpDwIdeal.nD) → Buf (Elt Ideal) ((c.tc : Thread Cert.UpDwIdeal.nD Cert.UpDwIdeal.τ).loc Cert.UpDwIdeal.main_v18)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v18) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2)
          ∧ r.2.mem ((c.tc : Thread Cert.UpDwIdeal.nD Cert.UpDwIdeal.τ).loc Cert.UpDwIdeal.main_arg3) = m ((c.tc : Thread Cert.UpDwIdeal.nD Cert.UpDwIdeal.τ).loc Cert.UpDwIdeal.main_arg3))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v19) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2)
          ∧ r.2.mem ((c.tc : Thread Cert.UpDwRefIdeal.nD Cert.UpDwRefIdeal.τ).loc Cert.UpDwRefIdeal.main_arg3) = m' ((c.tc : Thread Cert.UpDwRefIdeal.nD Cert.UpDwRefIdeal.τ).loc Cert.UpDwRefIdeal.main_arg3))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)
      ∧ m' ((c.tc : Thread Cert.UpDxRefIdeal.nD Cert.UpDxRefIdeal.τ).loc Cert.UpDxRefIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v1_0)) (v1 : (c : Dev Cert.UpDxIdeal.nD) → Buf (Elt Ideal) ((c.tc : Thread Cert.UpDxIdeal.nD Cert.UpDxIdeal.τ).loc Cert.UpDxIdeal.main_v1_1)) (v2 : (c : Dev Cert.UpDxIdeal.nD) → Buf (Elt Ideal) ((c.tc : Thread Cert.UpDxIdeal.nD Cert.UpDxIdeal.τ).loc Cert.UpDxIdeal.main_v1_2)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v1_0) = v0 c
          ∧ r.2.mem ((c.tc : Thread Cert.UpDxIdeal.nD Cert.UpDxIdeal.τ).loc Cert.UpDxIdeal.main_v1_1) = v1 c
          ∧ r.2.mem ((c.tc : Thread Cert.UpDxIdeal.nD Cert.UpDxIdeal.τ).loc Cert.UpDxIdeal.main_v1_2) = v2 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v40) = v0 c
          ∧ r.2.mem ((c.tc : Thread Cert.UpDxRefIdeal.nD Cert.UpDxRefIdeal.τ).loc Cert.UpDxRefIdeal.main_v41) = v1 c
          ∧ r.2.mem ((c.tc : Thread Cert.UpDxRefIdeal.nD Cert.UpDxRefIdeal.τ).loc Cert.UpDxRefIdeal.main_v42) = v2 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3)
          ∧ r.2.mem ((c.tc : Thread Cert.UpDxRefIdeal.nD Cert.UpDxRefIdeal.τ).loc Cert.UpDxRefIdeal.main_arg4) = m' ((c.tc : Thread Cert.UpDxRefIdeal.nD Cert.UpDxRefIdeal.τ).loc Cert.UpDxRefIdeal.main_arg4))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v6) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)
      ∧ m' ((c.tc : Thread Cert.InDxRefIdeal.nD Cert.InDxRefIdeal.τ).loc Cert.InDxRefIdeal.main_arg5) = m ((c.tc : Thread Cert.InDxIdeal.nD Cert.InDxIdeal.τ).loc Cert.InDxIdeal.main_arg5)
      ∧ m' ((c.tc : Thread Cert.InDxRefIdeal.nD Cert.InDxRefIdeal.τ).loc Cert.InDxRefIdeal.main_arg6) = m ((c.tc : Thread Cert.InDxIdeal.nD Cert.InDxIdeal.τ).loc Cert.InDxIdeal.main_arg6)) →
    ∃ (v0 : (c : Dev Cert.InDxIdeal.nD) → Buf (Elt Ideal) ((c.tc : Thread Cert.InDxIdeal.nD Cert.InDxIdeal.τ).loc Cert.InDxIdeal.main_v3_0)) (v1 : (c : Dev Cert.InDxIdeal.nD) → Buf (Elt Ideal) ((c.tc : Thread Cert.InDxIdeal.nD Cert.InDxIdeal.τ).loc Cert.InDxIdeal.main_v3_1)) (v2 : (c : Dev Cert.InDxIdeal.nD) → Buf (Elt Ideal) ((c.tc : Thread Cert.InDxIdeal.nD Cert.InDxIdeal.τ).loc Cert.InDxIdeal.main_v3_2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v3_0) = v0 c
          ∧ r.2.mem ((c.tc : Thread Cert.InDxIdeal.nD Cert.InDxIdeal.τ).loc Cert.InDxIdeal.main_v3_1) = v1 c
          ∧ r.2.mem ((c.tc : Thread Cert.InDxIdeal.nD Cert.InDxIdeal.τ).loc Cert.InDxIdeal.main_v3_2) = v2 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4)
          ∧ r.2.mem ((c.tc : Thread Cert.InDxIdeal.nD Cert.InDxIdeal.τ).loc Cert.InDxIdeal.main_arg5) = m ((c.tc : Thread Cert.InDxIdeal.nD Cert.InDxIdeal.τ).loc Cert.InDxIdeal.main_arg5)
          ∧ r.2.mem ((c.tc : Thread Cert.InDxIdeal.nD Cert.InDxIdeal.τ).loc Cert.InDxIdeal.main_arg6) = m ((c.tc : Thread Cert.InDxIdeal.nD Cert.InDxIdeal.τ).loc Cert.InDxIdeal.main_arg6))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v44) = v0 c
          ∧ r.2.mem ((c.tc : Thread Cert.InDxRefIdeal.nD Cert.InDxRefIdeal.τ).loc Cert.InDxRefIdeal.main_v45) = v1 c
          ∧ r.2.mem ((c.tc : Thread Cert.InDxRefIdeal.nD Cert.InDxRefIdeal.τ).loc Cert.InDxRefIdeal.main_v46) = v2 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4)
          ∧ r.2.mem ((c.tc : Thread Cert.InDxRefIdeal.nD Cert.InDxRefIdeal.τ).loc Cert.InDxRefIdeal.main_arg5) = m' ((c.tc : Thread Cert.InDxRefIdeal.nD Cert.InDxRefIdeal.τ).loc Cert.InDxRefIdeal.main_arg5)
          ∧ r.2.mem ((c.tc : Thread Cert.InDxRefIdeal.nD Cert.InDxRefIdeal.τ).loc Cert.InDxRefIdeal.main_arg6) = m' ((c.tc : Thread Cert.InDxRefIdeal.nD Cert.InDxRefIdeal.τ).loc Cert.InDxRefIdeal.main_arg6))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v5) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v2) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_AttnFwd_AttnFwdIdeal : Prop :=
  True

def algebraic_AttnFwdIdeal_AttnFwdRefIdeal_pre_attn_fwd_finite [hAttnFwdIdeal : Cert.AttnFwdIdeal.Facts] [hAttnFwdRefIdeal : Cert.AttnFwdRefIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v23) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v1_0)) (v1 : (c : Dev Cert.LossIdeal.nD) → Buf (Elt Ideal) ((c.tc : Thread Cert.LossIdeal.nD Cert.LossIdeal.τ).loc Cert.LossIdeal.main_v1_1)) (v2 : (c : Dev Cert.LossIdeal.nD) → Buf (Elt Ideal) ((c.tc : Thread Cert.LossIdeal.nD Cert.LossIdeal.τ).loc Cert.LossIdeal.main_v1_2)) (v3 : (c : Dev Cert.LossIdeal.nD) → Buf (Elt Ideal) ((c.tc : Thread Cert.LossIdeal.nD Cert.LossIdeal.τ).loc Cert.LossIdeal.main_v1_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v1_0) = v0 c
          ∧ r.2.mem ((c.tc : Thread Cert.LossIdeal.nD Cert.LossIdeal.τ).loc Cert.LossIdeal.main_v1_1) = v1 c
          ∧ r.2.mem ((c.tc : Thread Cert.LossIdeal.nD Cert.LossIdeal.τ).loc Cert.LossIdeal.main_v1_2) = v2 c
          ∧ r.2.mem ((c.tc : Thread Cert.LossIdeal.nD Cert.LossIdeal.τ).loc Cert.LossIdeal.main_v1_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v51) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v52) = v2 c
          ∧ r.2.mem ((c.tc : Thread Cert.LossRefIdeal.nD Cert.LossRefIdeal.τ).loc Cert.LossRefIdeal.main_v53) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v4_0)) (v1 : (c : Dev Cert.AdamIdeal.nD) → Buf (Elt Ideal) ((c.tc : Thread Cert.AdamIdeal.nD Cert.AdamIdeal.τ).loc Cert.AdamIdeal.main_v4_1)) (v2 : (c : Dev Cert.AdamIdeal.nD) → Buf (Elt Ideal) ((c.tc : Thread Cert.AdamIdeal.nD Cert.AdamIdeal.τ).loc Cert.AdamIdeal.main_v4_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v4_0) = v0 c
          ∧ r.2.mem ((c.tc : Thread Cert.AdamIdeal.nD Cert.AdamIdeal.τ).loc Cert.AdamIdeal.main_v4_1) = v1 c
          ∧ r.2.mem ((c.tc : Thread Cert.AdamIdeal.nD Cert.AdamIdeal.τ).loc Cert.AdamIdeal.main_v4_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v24) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v26) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_AdamS5WGlu_AdamS5WGluIdeal : Prop :=
  True

def algebraic_AdamS5WGluIdeal_AdamS5WGluRefIdeal [hAdamS5WGluIdeal : Cert.AdamS5WGluIdeal.Facts] [hAdamS5WGluRefIdeal : Cert.AdamS5WGluRefIdeal.Facts] : Prop :=
  ∀ (m : (ℓ : Loc Cert.AdamS5WGluIdeal.nD Cert.AdamS5WGluIdeal.τ Cert.AdamS5WGluIdeal.sig) → Buf (Elt Ideal) ℓ) (g : Dev Cert.AdamS5WGluIdeal.nD → PrngReg)
    (m' : (ℓ : Loc Cert.AdamS5WGluRefIdeal.nD Cert.AdamS5WGluRefIdeal.τ Cert.AdamS5WGluRefIdeal.sig) → Buf (Elt Ideal) ℓ) (g' : Dev Cert.AdamS5WGluRefIdeal.nD → PrngReg), Pre_AdamS5WGluIdeal m →
    (∀ c : Dev Cert.AdamS5WGluIdeal.nD,
      m' ((c.tc : Thread Cert.AdamS5WGluRefIdeal.nD Cert.AdamS5WGluRefIdeal.τ).loc Cert.AdamS5WGluRefIdeal.main_arg0) = m ((c.tc : Thread Cert.AdamS5WGluIdeal.nD Cert.AdamS5WGluIdeal.τ).loc Cert.AdamS5WGluIdeal.main_arg0)
      ∧ m' ((c.tc : Thread Cert.AdamS5WGluRefIdeal.nD Cert.AdamS5WGluRefIdeal.τ).loc Cert.AdamS5WGluRefIdeal.main_arg1) = m ((c.tc : Thread Cert.AdamS5WGluIdeal.nD Cert.AdamS5WGluIdeal.τ).loc Cert.AdamS5WGluIdeal.main_arg1)
      ∧ m' ((c.tc : Thread Cert.AdamS5WGluRefIdeal.nD Cert.AdamS5WGluRefIdeal.τ).loc Cert.AdamS5WGluRefIdeal.main_arg2) = m ((c.tc : Thread Cert.AdamS5WGluIdeal.nD Cert.AdamS5WGluIdeal.τ).loc Cert.AdamS5WGluIdeal.main_arg2)
      ∧ m' ((c.tc : Thread Cert.AdamS5WGluRefIdeal.nD Cert.AdamS5WGluRefIdeal.τ).loc Cert.AdamS5WGluRefIdeal.main_arg3) = m ((c.tc : Thread Cert.AdamS5WGluIdeal.nD Cert.AdamS5WGluIdeal.τ).loc Cert.AdamS5WGluIdeal.main_arg3)) →
    ∃ (v0 : (c : Dev Cert.AdamS5WGluIdeal.nD) → Buf (Elt Ideal) ((c.tc : Thread Cert.AdamS5WGluIdeal.nD Cert.AdamS5WGluIdeal.τ).loc Cert.AdamS5WGluIdeal.main_v4_0)) (v1 : (c : Dev Cert.AdamS5WGluIdeal.nD) → Buf (Elt Ideal) ((c.tc : Thread Cert.AdamS5WGluIdeal.nD Cert.AdamS5WGluIdeal.τ).loc Cert.AdamS5WGluIdeal.main_v4_1)) (v2 : (c : Dev Cert.AdamS5WGluIdeal.nD) → Buf (Elt Ideal) ((c.tc : Thread Cert.AdamS5WGluIdeal.nD Cert.AdamS5WGluIdeal.τ).loc Cert.AdamS5WGluIdeal.main_v4_2)),
      θ_run (Cert.AdamS5WGluIdeal.defs (F := Ideal)) (onTc (τ := Cert.AdamS5WGluIdeal.τ) (Cert.AdamS5WGluIdeal.main (F := Ideal))) ⟨m, fun _ => 0, g⟩ (fun r => ∀ c : Dev Cert.AdamS5WGluIdeal.nD,
          r.2.mem ((c.tc : Thread Cert.AdamS5WGluIdeal.nD Cert.AdamS5WGluIdeal.τ).loc Cert.AdamS5WGluIdeal.main_v4_0) = v0 c
          ∧ r.2.mem ((c.tc : Thread Cert.AdamS5WGluIdeal.nD Cert.AdamS5WGluIdeal.τ).loc Cert.AdamS5WGluIdeal.main_v4_1) = v1 c
          ∧ r.2.mem ((c.tc : Thread Cert.AdamS5WGluIdeal.nD Cert.AdamS5WGluIdeal.τ).loc Cert.AdamS5WGluIdeal.main_v4_2) = v2 c
          ∧ r.2.mem ((c.tc : Thread Cert.AdamS5WGluIdeal.nD Cert.AdamS5WGluIdeal.τ).loc Cert.AdamS5WGluIdeal.main_arg0) = m ((c.tc : Thread Cert.AdamS5WGluIdeal.nD Cert.AdamS5WGluIdeal.τ).loc Cert.AdamS5WGluIdeal.main_arg0)
          ∧ r.2.mem ((c.tc : Thread Cert.AdamS5WGluIdeal.nD Cert.AdamS5WGluIdeal.τ).loc Cert.AdamS5WGluIdeal.main_arg1) = m ((c.tc : Thread Cert.AdamS5WGluIdeal.nD Cert.AdamS5WGluIdeal.τ).loc Cert.AdamS5WGluIdeal.main_arg1)
          ∧ r.2.mem ((c.tc : Thread Cert.AdamS5WGluIdeal.nD Cert.AdamS5WGluIdeal.τ).loc Cert.AdamS5WGluIdeal.main_arg2) = m ((c.tc : Thread Cert.AdamS5WGluIdeal.nD Cert.AdamS5WGluIdeal.τ).loc Cert.AdamS5WGluIdeal.main_arg2)
          ∧ r.2.mem ((c.tc : Thread Cert.AdamS5WGluIdeal.nD Cert.AdamS5WGluIdeal.τ).loc Cert.AdamS5WGluIdeal.main_arg3) = m ((c.tc : Thread Cert.AdamS5WGluIdeal.nD Cert.AdamS5WGluIdeal.τ).loc Cert.AdamS5WGluIdeal.main_arg3))
      ∧ θ_run (Cert.AdamS5WGluRefIdeal.defs (F := Ideal)) (onTc (τ := Cert.AdamS5WGluRefIdeal.τ) (Cert.AdamS5WGluRefIdeal.main (F := Ideal))) ⟨m', fun _ => 0, g'⟩ (fun r => ∀ c : Dev Cert.AdamS5WGluRefIdeal.nD,
          r.2.mem ((c.tc : Thread Cert.AdamS5WGluRefIdeal.nD Cert.AdamS5WGluRefIdeal.τ).loc Cert.AdamS5WGluRefIdeal.main_v24) = v0 c
          ∧ r.2.mem ((c.tc : Thread Cert.AdamS5WGluRefIdeal.nD Cert.AdamS5WGluRefIdeal.τ).loc Cert.AdamS5WGluRefIdeal.main_v25) = v1 c
          ∧ r.2.mem ((c.tc : Thread Cert.AdamS5WGluRefIdeal.nD Cert.AdamS5WGluRefIdeal.τ).loc Cert.AdamS5WGluRefIdeal.main_v26) = v2 c
          ∧ r.2.mem ((c.tc : Thread Cert.AdamS5WGluRefIdeal.nD Cert.AdamS5WGluRefIdeal.τ).loc Cert.AdamS5WGluRefIdeal.main_arg0) = m' ((c.tc : Thread Cert.AdamS5WGluRefIdeal.nD Cert.AdamS5WGluRefIdeal.τ).loc Cert.AdamS5WGluRefIdeal.main_arg0)
          ∧ r.2.mem ((c.tc : Thread Cert.AdamS5WGluRefIdeal.nD Cert.AdamS5WGluRefIdeal.τ).loc Cert.AdamS5WGluRefIdeal.main_arg1) = m' ((c.tc : Thread Cert.AdamS5WGluRefIdeal.nD Cert.AdamS5WGluRefIdeal.τ).loc Cert.AdamS5WGluRefIdeal.main_arg1)
          ∧ r.2.mem ((c.tc : Thread Cert.AdamS5WGluRefIdeal.nD Cert.AdamS5WGluRefIdeal.τ).loc Cert.AdamS5WGluRefIdeal.main_arg2) = m' ((c.tc : Thread Cert.AdamS5WGluRefIdeal.nD Cert.AdamS5WGluRefIdeal.τ).loc Cert.AdamS5WGluRefIdeal.main_arg2)
          ∧ r.2.mem ((c.tc : Thread Cert.AdamS5WGluRefIdeal.nD Cert.AdamS5WGluRefIdeal.τ).loc Cert.AdamS5WGluRefIdeal.main_arg3) = m' ((c.tc : Thread Cert.AdamS5WGluRefIdeal.nD Cert.AdamS5WGluRefIdeal.τ).loc Cert.AdamS5WGluRefIdeal.main_arg3))

def preserves_AdamXaWk_AdamXaWkIdeal : Prop :=
  True

def algebraic_AdamXaWkIdeal_AdamXaWkRefIdeal [hAdamXaWkIdeal : Cert.AdamXaWkIdeal.Facts] [hAdamXaWkRefIdeal : Cert.AdamXaWkRefIdeal.Facts] : Prop :=
  ∀ (m : (ℓ : Loc Cert.AdamXaWkIdeal.nD Cert.AdamXaWkIdeal.τ Cert.AdamXaWkIdeal.sig) → Buf (Elt Ideal) ℓ) (g : Dev Cert.AdamXaWkIdeal.nD → PrngReg)
    (m' : (ℓ : Loc Cert.AdamXaWkRefIdeal.nD Cert.AdamXaWkRefIdeal.τ Cert.AdamXaWkRefIdeal.sig) → Buf (Elt Ideal) ℓ) (g' : Dev Cert.AdamXaWkRefIdeal.nD → PrngReg), Pre_AdamXaWkIdeal m →
    (∀ c : Dev Cert.AdamXaWkIdeal.nD,
      m' ((c.tc : Thread Cert.AdamXaWkRefIdeal.nD Cert.AdamXaWkRefIdeal.τ).loc Cert.AdamXaWkRefIdeal.main_arg0) = m ((c.tc : Thread Cert.AdamXaWkIdeal.nD Cert.AdamXaWkIdeal.τ).loc Cert.AdamXaWkIdeal.main_arg0)
      ∧ m' ((c.tc : Thread Cert.AdamXaWkRefIdeal.nD Cert.AdamXaWkRefIdeal.τ).loc Cert.AdamXaWkRefIdeal.main_arg1) = m ((c.tc : Thread Cert.AdamXaWkIdeal.nD Cert.AdamXaWkIdeal.τ).loc Cert.AdamXaWkIdeal.main_arg1)
      ∧ m' ((c.tc : Thread Cert.AdamXaWkRefIdeal.nD Cert.AdamXaWkRefIdeal.τ).loc Cert.AdamXaWkRefIdeal.main_arg2) = m ((c.tc : Thread Cert.AdamXaWkIdeal.nD Cert.AdamXaWkIdeal.τ).loc Cert.AdamXaWkIdeal.main_arg2)
      ∧ m' ((c.tc : Thread Cert.AdamXaWkRefIdeal.nD Cert.AdamXaWkRefIdeal.τ).loc Cert.AdamXaWkRefIdeal.main_arg3) = m ((c.tc : Thread Cert.AdamXaWkIdeal.nD Cert.AdamXaWkIdeal.τ).loc Cert.AdamXaWkIdeal.main_arg3)) →
    ∃ (v0 : (c : Dev Cert.AdamXaWkIdeal.nD) → Buf (Elt Ideal) ((c.tc : Thread Cert.AdamXaWkIdeal.nD Cert.AdamXaWkIdeal.τ).loc Cert.AdamXaWkIdeal.main_v4_0)) (v1 : (c : Dev Cert.AdamXaWkIdeal.nD) → Buf (Elt Ideal) ((c.tc : Thread Cert.AdamXaWkIdeal.nD Cert.AdamXaWkIdeal.τ).loc Cert.AdamXaWkIdeal.main_v4_1)) (v2 : (c : Dev Cert.AdamXaWkIdeal.nD) → Buf (Elt Ideal) ((c.tc : Thread Cert.AdamXaWkIdeal.nD Cert.AdamXaWkIdeal.τ).loc Cert.AdamXaWkIdeal.main_v4_2)),
      θ_run (Cert.AdamXaWkIdeal.defs (F := Ideal)) (onTc (τ := Cert.AdamXaWkIdeal.τ) (Cert.AdamXaWkIdeal.main (F := Ideal))) ⟨m, fun _ => 0, g⟩ (fun r => ∀ c : Dev Cert.AdamXaWkIdeal.nD,
          r.2.mem ((c.tc : Thread Cert.AdamXaWkIdeal.nD Cert.AdamXaWkIdeal.τ).loc Cert.AdamXaWkIdeal.main_v4_0) = v0 c
          ∧ r.2.mem ((c.tc : Thread Cert.AdamXaWkIdeal.nD Cert.AdamXaWkIdeal.τ).loc Cert.AdamXaWkIdeal.main_v4_1) = v1 c
          ∧ r.2.mem ((c.tc : Thread Cert.AdamXaWkIdeal.nD Cert.AdamXaWkIdeal.τ).loc Cert.AdamXaWkIdeal.main_v4_2) = v2 c
          ∧ r.2.mem ((c.tc : Thread Cert.AdamXaWkIdeal.nD Cert.AdamXaWkIdeal.τ).loc Cert.AdamXaWkIdeal.main_arg0) = m ((c.tc : Thread Cert.AdamXaWkIdeal.nD Cert.AdamXaWkIdeal.τ).loc Cert.AdamXaWkIdeal.main_arg0)
          ∧ r.2.mem ((c.tc : Thread Cert.AdamXaWkIdeal.nD Cert.AdamXaWkIdeal.τ).loc Cert.AdamXaWkIdeal.main_arg1) = m ((c.tc : Thread Cert.AdamXaWkIdeal.nD Cert.AdamXaWkIdeal.τ).loc Cert.AdamXaWkIdeal.main_arg1)
          ∧ r.2.mem ((c.tc : Thread Cert.AdamXaWkIdeal.nD Cert.AdamXaWkIdeal.τ).loc Cert.AdamXaWkIdeal.main_arg2) = m ((c.tc : Thread Cert.AdamXaWkIdeal.nD Cert.AdamXaWkIdeal.τ).loc Cert.AdamXaWkIdeal.main_arg2)
          ∧ r.2.mem ((c.tc : Thread Cert.AdamXaWkIdeal.nD Cert.AdamXaWkIdeal.τ).loc Cert.AdamXaWkIdeal.main_arg3) = m ((c.tc : Thread Cert.AdamXaWkIdeal.nD Cert.AdamXaWkIdeal.τ).loc Cert.AdamXaWkIdeal.main_arg3))
      ∧ θ_run (Cert.AdamXaWkRefIdeal.defs (F := Ideal)) (onTc (τ := Cert.AdamXaWkRefIdeal.τ) (Cert.AdamXaWkRefIdeal.main (F := Ideal))) ⟨m', fun _ => 0, g'⟩ (fun r => ∀ c : Dev Cert.AdamXaWkRefIdeal.nD,
          r.2.mem ((c.tc : Thread Cert.AdamXaWkRefIdeal.nD Cert.AdamXaWkRefIdeal.τ).loc Cert.AdamXaWkRefIdeal.main_v24) = v0 c
          ∧ r.2.mem ((c.tc : Thread Cert.AdamXaWkRefIdeal.nD Cert.AdamXaWkRefIdeal.τ).loc Cert.AdamXaWkRefIdeal.main_v25) = v1 c
          ∧ r.2.mem ((c.tc : Thread Cert.AdamXaWkRefIdeal.nD Cert.AdamXaWkRefIdeal.τ).loc Cert.AdamXaWkRefIdeal.main_v26) = v2 c
          ∧ r.2.mem ((c.tc : Thread Cert.AdamXaWkRefIdeal.nD Cert.AdamXaWkRefIdeal.τ).loc Cert.AdamXaWkRefIdeal.main_arg0) = m' ((c.tc : Thread Cert.AdamXaWkRefIdeal.nD Cert.AdamXaWkRefIdeal.τ).loc Cert.AdamXaWkRefIdeal.main_arg0)
          ∧ r.2.mem ((c.tc : Thread Cert.AdamXaWkRefIdeal.nD Cert.AdamXaWkRefIdeal.τ).loc Cert.AdamXaWkRefIdeal.main_arg1) = m' ((c.tc : Thread Cert.AdamXaWkRefIdeal.nD Cert.AdamXaWkRefIdeal.τ).loc Cert.AdamXaWkRefIdeal.main_arg1)
          ∧ r.2.mem ((c.tc : Thread Cert.AdamXaWkRefIdeal.nD Cert.AdamXaWkRefIdeal.τ).loc Cert.AdamXaWkRefIdeal.main_arg2) = m' ((c.tc : Thread Cert.AdamXaWkRefIdeal.nD Cert.AdamXaWkRefIdeal.τ).loc Cert.AdamXaWkRefIdeal.main_arg2)
          ∧ r.2.mem ((c.tc : Thread Cert.AdamXaWkRefIdeal.nD Cert.AdamXaWkRefIdeal.τ).loc Cert.AdamXaWkRefIdeal.main_arg3) = m' ((c.tc : Thread Cert.AdamXaWkRefIdeal.nD Cert.AdamXaWkRefIdeal.τ).loc Cert.AdamXaWkRefIdeal.main_arg3))

def preserves_AdamXaWv_AdamXaWvIdeal : Prop :=
  True

def algebraic_AdamXaWvIdeal_AdamXaWvRefIdeal [hAdamXaWvIdeal : Cert.AdamXaWvIdeal.Facts] [hAdamXaWvRefIdeal : Cert.AdamXaWvRefIdeal.Facts] : Prop :=
  ∀ (m : (ℓ : Loc Cert.AdamXaWvIdeal.nD Cert.AdamXaWvIdeal.τ Cert.AdamXaWvIdeal.sig) → Buf (Elt Ideal) ℓ) (g : Dev Cert.AdamXaWvIdeal.nD → PrngReg)
    (m' : (ℓ : Loc Cert.AdamXaWvRefIdeal.nD Cert.AdamXaWvRefIdeal.τ Cert.AdamXaWvRefIdeal.sig) → Buf (Elt Ideal) ℓ) (g' : Dev Cert.AdamXaWvRefIdeal.nD → PrngReg), Pre_AdamXaWvIdeal m →
    (∀ c : Dev Cert.AdamXaWvIdeal.nD,
      m' ((c.tc : Thread Cert.AdamXaWvRefIdeal.nD Cert.AdamXaWvRefIdeal.τ).loc Cert.AdamXaWvRefIdeal.main_arg0) = m ((c.tc : Thread Cert.AdamXaWvIdeal.nD Cert.AdamXaWvIdeal.τ).loc Cert.AdamXaWvIdeal.main_arg0)
      ∧ m' ((c.tc : Thread Cert.AdamXaWvRefIdeal.nD Cert.AdamXaWvRefIdeal.τ).loc Cert.AdamXaWvRefIdeal.main_arg1) = m ((c.tc : Thread Cert.AdamXaWvIdeal.nD Cert.AdamXaWvIdeal.τ).loc Cert.AdamXaWvIdeal.main_arg1)
      ∧ m' ((c.tc : Thread Cert.AdamXaWvRefIdeal.nD Cert.AdamXaWvRefIdeal.τ).loc Cert.AdamXaWvRefIdeal.main_arg2) = m ((c.tc : Thread Cert.AdamXaWvIdeal.nD Cert.AdamXaWvIdeal.τ).loc Cert.AdamXaWvIdeal.main_arg2)
      ∧ m' ((c.tc : Thread Cert.AdamXaWvRefIdeal.nD Cert.AdamXaWvRefIdeal.τ).loc Cert.AdamXaWvRefIdeal.main_arg3) = m ((c.tc : Thread Cert.AdamXaWvIdeal.nD Cert.AdamXaWvIdeal.τ).loc Cert.AdamXaWvIdeal.main_arg3)) →
    ∃ (v0 : (c : Dev Cert.AdamXaWvIdeal.nD) → Buf (Elt Ideal) ((c.tc : Thread Cert.AdamXaWvIdeal.nD Cert.AdamXaWvIdeal.τ).loc Cert.AdamXaWvIdeal.main_v4_0)) (v1 : (c : Dev Cert.AdamXaWvIdeal.nD) → Buf (Elt Ideal) ((c.tc : Thread Cert.AdamXaWvIdeal.nD Cert.AdamXaWvIdeal.τ).loc Cert.AdamXaWvIdeal.main_v4_1)) (v2 : (c : Dev Cert.AdamXaWvIdeal.nD) → Buf (Elt Ideal) ((c.tc : Thread Cert.AdamXaWvIdeal.nD Cert.AdamXaWvIdeal.τ).loc Cert.AdamXaWvIdeal.main_v4_2)),
      θ_run (Cert.AdamXaWvIdeal.defs (F := Ideal)) (onTc (τ := Cert.AdamXaWvIdeal.τ) (Cert.AdamXaWvIdeal.main (F := Ideal))) ⟨m, fun _ => 0, g⟩ (fun r => ∀ c : Dev Cert.AdamXaWvIdeal.nD,
          r.2.mem ((c.tc : Thread Cert.AdamXaWvIdeal.nD Cert.AdamXaWvIdeal.τ).loc Cert.AdamXaWvIdeal.main_v4_0) = v0 c
          ∧ r.2.mem ((c.tc : Thread Cert.AdamXaWvIdeal.nD Cert.AdamXaWvIdeal.τ).loc Cert.AdamXaWvIdeal.main_v4_1) = v1 c
          ∧ r.2.mem ((c.tc : Thread Cert.AdamXaWvIdeal.nD Cert.AdamXaWvIdeal.τ).loc Cert.AdamXaWvIdeal.main_v4_2) = v2 c
          ∧ r.2.mem ((c.tc : Thread Cert.AdamXaWvIdeal.nD Cert.AdamXaWvIdeal.τ).loc Cert.AdamXaWvIdeal.main_arg0) = m ((c.tc : Thread Cert.AdamXaWvIdeal.nD Cert.AdamXaWvIdeal.τ).loc Cert.AdamXaWvIdeal.main_arg0)
          ∧ r.2.mem ((c.tc : Thread Cert.AdamXaWvIdeal.nD Cert.AdamXaWvIdeal.τ).loc Cert.AdamXaWvIdeal.main_arg1) = m ((c.tc : Thread Cert.AdamXaWvIdeal.nD Cert.AdamXaWvIdeal.τ).loc Cert.AdamXaWvIdeal.main_arg1)
          ∧ r.2.mem ((c.tc : Thread Cert.AdamXaWvIdeal.nD Cert.AdamXaWvIdeal.τ).loc Cert.AdamXaWvIdeal.main_arg2) = m ((c.tc : Thread Cert.AdamXaWvIdeal.nD Cert.AdamXaWvIdeal.τ).loc Cert.AdamXaWvIdeal.main_arg2)
          ∧ r.2.mem ((c.tc : Thread Cert.AdamXaWvIdeal.nD Cert.AdamXaWvIdeal.τ).loc Cert.AdamXaWvIdeal.main_arg3) = m ((c.tc : Thread Cert.AdamXaWvIdeal.nD Cert.AdamXaWvIdeal.τ).loc Cert.AdamXaWvIdeal.main_arg3))
      ∧ θ_run (Cert.AdamXaWvRefIdeal.defs (F := Ideal)) (onTc (τ := Cert.AdamXaWvRefIdeal.τ) (Cert.AdamXaWvRefIdeal.main (F := Ideal))) ⟨m', fun _ => 0, g'⟩ (fun r => ∀ c : Dev Cert.AdamXaWvRefIdeal.nD,
          r.2.mem ((c.tc : Thread Cert.AdamXaWvRefIdeal.nD Cert.AdamXaWvRefIdeal.τ).loc Cert.AdamXaWvRefIdeal.main_v24) = v0 c
          ∧ r.2.mem ((c.tc : Thread Cert.AdamXaWvRefIdeal.nD Cert.AdamXaWvRefIdeal.τ).loc Cert.AdamXaWvRefIdeal.main_v25) = v1 c
          ∧ r.2.mem ((c.tc : Thread Cert.AdamXaWvRefIdeal.nD Cert.AdamXaWvRefIdeal.τ).loc Cert.AdamXaWvRefIdeal.main_v26) = v2 c
          ∧ r.2.mem ((c.tc : Thread Cert.AdamXaWvRefIdeal.nD Cert.AdamXaWvRefIdeal.τ).loc Cert.AdamXaWvRefIdeal.main_arg0) = m' ((c.tc : Thread Cert.AdamXaWvRefIdeal.nD Cert.AdamXaWvRefIdeal.τ).loc Cert.AdamXaWvRefIdeal.main_arg0)
          ∧ r.2.mem ((c.tc : Thread Cert.AdamXaWvRefIdeal.nD Cert.AdamXaWvRefIdeal.τ).loc Cert.AdamXaWvRefIdeal.main_arg1) = m' ((c.tc : Thread Cert.AdamXaWvRefIdeal.nD Cert.AdamXaWvRefIdeal.τ).loc Cert.AdamXaWvRefIdeal.main_arg1)
          ∧ r.2.mem ((c.tc : Thread Cert.AdamXaWvRefIdeal.nD Cert.AdamXaWvRefIdeal.τ).loc Cert.AdamXaWvRefIdeal.main_arg2) = m' ((c.tc : Thread Cert.AdamXaWvRefIdeal.nD Cert.AdamXaWvRefIdeal.τ).loc Cert.AdamXaWvRefIdeal.main_arg2)
          ∧ r.2.mem ((c.tc : Thread Cert.AdamXaWvRefIdeal.nD Cert.AdamXaWvRefIdeal.τ).loc Cert.AdamXaWvRefIdeal.main_arg3) = m' ((c.tc : Thread Cert.AdamXaWvRefIdeal.nD Cert.AdamXaWvRefIdeal.τ).loc Cert.AdamXaWvRefIdeal.main_arg3))

def preserves_AdamXaWo_AdamXaWoIdeal : Prop :=
  True

def algebraic_AdamXaWoIdeal_AdamXaWoRefIdeal [hAdamXaWoIdeal : Cert.AdamXaWoIdeal.Facts] [hAdamXaWoRefIdeal : Cert.AdamXaWoRefIdeal.Facts] : Prop :=
  ∀ (m : (ℓ : Loc Cert.AdamXaWoIdeal.nD Cert.AdamXaWoIdeal.τ Cert.AdamXaWoIdeal.sig) → Buf (Elt Ideal) ℓ) (g : Dev Cert.AdamXaWoIdeal.nD → PrngReg)
    (m' : (ℓ : Loc Cert.AdamXaWoRefIdeal.nD Cert.AdamXaWoRefIdeal.τ Cert.AdamXaWoRefIdeal.sig) → Buf (Elt Ideal) ℓ) (g' : Dev Cert.AdamXaWoRefIdeal.nD → PrngReg), Pre_AdamXaWoIdeal m →
    (∀ c : Dev Cert.AdamXaWoIdeal.nD,
      m' ((c.tc : Thread Cert.AdamXaWoRefIdeal.nD Cert.AdamXaWoRefIdeal.τ).loc Cert.AdamXaWoRefIdeal.main_arg0) = m ((c.tc : Thread Cert.AdamXaWoIdeal.nD Cert.AdamXaWoIdeal.τ).loc Cert.AdamXaWoIdeal.main_arg0)
      ∧ m' ((c.tc : Thread Cert.AdamXaWoRefIdeal.nD Cert.AdamXaWoRefIdeal.τ).loc Cert.AdamXaWoRefIdeal.main_arg1) = m ((c.tc : Thread Cert.AdamXaWoIdeal.nD Cert.AdamXaWoIdeal.τ).loc Cert.AdamXaWoIdeal.main_arg1)
      ∧ m' ((c.tc : Thread Cert.AdamXaWoRefIdeal.nD Cert.AdamXaWoRefIdeal.τ).loc Cert.AdamXaWoRefIdeal.main_arg2) = m ((c.tc : Thread Cert.AdamXaWoIdeal.nD Cert.AdamXaWoIdeal.τ).loc Cert.AdamXaWoIdeal.main_arg2)
      ∧ m' ((c.tc : Thread Cert.AdamXaWoRefIdeal.nD Cert.AdamXaWoRefIdeal.τ).loc Cert.AdamXaWoRefIdeal.main_arg3) = m ((c.tc : Thread Cert.AdamXaWoIdeal.nD Cert.AdamXaWoIdeal.τ).loc Cert.AdamXaWoIdeal.main_arg3)) →
    ∃ (v0 : (c : Dev Cert.AdamXaWoIdeal.nD) → Buf (Elt Ideal) ((c.tc : Thread Cert.AdamXaWoIdeal.nD Cert.AdamXaWoIdeal.τ).loc Cert.AdamXaWoIdeal.main_v4_0)) (v1 : (c : Dev Cert.AdamXaWoIdeal.nD) → Buf (Elt Ideal) ((c.tc : Thread Cert.AdamXaWoIdeal.nD Cert.AdamXaWoIdeal.τ).loc Cert.AdamXaWoIdeal.main_v4_1)) (v2 : (c : Dev Cert.AdamXaWoIdeal.nD) → Buf (Elt Ideal) ((c.tc : Thread Cert.AdamXaWoIdeal.nD Cert.AdamXaWoIdeal.τ).loc Cert.AdamXaWoIdeal.main_v4_2)),
      θ_run (Cert.AdamXaWoIdeal.defs (F := Ideal)) (onTc (τ := Cert.AdamXaWoIdeal.τ) (Cert.AdamXaWoIdeal.main (F := Ideal))) ⟨m, fun _ => 0, g⟩ (fun r => ∀ c : Dev Cert.AdamXaWoIdeal.nD,
          r.2.mem ((c.tc : Thread Cert.AdamXaWoIdeal.nD Cert.AdamXaWoIdeal.τ).loc Cert.AdamXaWoIdeal.main_v4_0) = v0 c
          ∧ r.2.mem ((c.tc : Thread Cert.AdamXaWoIdeal.nD Cert.AdamXaWoIdeal.τ).loc Cert.AdamXaWoIdeal.main_v4_1) = v1 c
          ∧ r.2.mem ((c.tc : Thread Cert.AdamXaWoIdeal.nD Cert.AdamXaWoIdeal.τ).loc Cert.AdamXaWoIdeal.main_v4_2) = v2 c
          ∧ r.2.mem ((c.tc : Thread Cert.AdamXaWoIdeal.nD Cert.AdamXaWoIdeal.τ).loc Cert.AdamXaWoIdeal.main_arg0) = m ((c.tc : Thread Cert.AdamXaWoIdeal.nD Cert.AdamXaWoIdeal.τ).loc Cert.AdamXaWoIdeal.main_arg0)
          ∧ r.2.mem ((c.tc : Thread Cert.AdamXaWoIdeal.nD Cert.AdamXaWoIdeal.τ).loc Cert.AdamXaWoIdeal.main_arg1) = m ((c.tc : Thread Cert.AdamXaWoIdeal.nD Cert.AdamXaWoIdeal.τ).loc Cert.AdamXaWoIdeal.main_arg1)
          ∧ r.2.mem ((c.tc : Thread Cert.AdamXaWoIdeal.nD Cert.AdamXaWoIdeal.τ).loc Cert.AdamXaWoIdeal.main_arg2) = m ((c.tc : Thread Cert.AdamXaWoIdeal.nD Cert.AdamXaWoIdeal.τ).loc Cert.AdamXaWoIdeal.main_arg2)
          ∧ r.2.mem ((c.tc : Thread Cert.AdamXaWoIdeal.nD Cert.AdamXaWoIdeal.τ).loc Cert.AdamXaWoIdeal.main_arg3) = m ((c.tc : Thread Cert.AdamXaWoIdeal.nD Cert.AdamXaWoIdeal.τ).loc Cert.AdamXaWoIdeal.main_arg3))
      ∧ θ_run (Cert.AdamXaWoRefIdeal.defs (F := Ideal)) (onTc (τ := Cert.AdamXaWoRefIdeal.τ) (Cert.AdamXaWoRefIdeal.main (F := Ideal))) ⟨m', fun _ => 0, g'⟩ (fun r => ∀ c : Dev Cert.AdamXaWoRefIdeal.nD,
          r.2.mem ((c.tc : Thread Cert.AdamXaWoRefIdeal.nD Cert.AdamXaWoRefIdeal.τ).loc Cert.AdamXaWoRefIdeal.main_v24) = v0 c
          ∧ r.2.mem ((c.tc : Thread Cert.AdamXaWoRefIdeal.nD Cert.AdamXaWoRefIdeal.τ).loc Cert.AdamXaWoRefIdeal.main_v25) = v1 c
          ∧ r.2.mem ((c.tc : Thread Cert.AdamXaWoRefIdeal.nD Cert.AdamXaWoRefIdeal.τ).loc Cert.AdamXaWoRefIdeal.main_v26) = v2 c
          ∧ r.2.mem ((c.tc : Thread Cert.AdamXaWoRefIdeal.nD Cert.AdamXaWoRefIdeal.τ).loc Cert.AdamXaWoRefIdeal.main_arg0) = m' ((c.tc : Thread Cert.AdamXaWoRefIdeal.nD Cert.AdamXaWoRefIdeal.τ).loc Cert.AdamXaWoRefIdeal.main_arg0)
          ∧ r.2.mem ((c.tc : Thread Cert.AdamXaWoRefIdeal.nD Cert.AdamXaWoRefIdeal.τ).loc Cert.AdamXaWoRefIdeal.main_arg1) = m' ((c.tc : Thread Cert.AdamXaWoRefIdeal.nD Cert.AdamXaWoRefIdeal.τ).loc Cert.AdamXaWoRefIdeal.main_arg1)
          ∧ r.2.mem ((c.tc : Thread Cert.AdamXaWoRefIdeal.nD Cert.AdamXaWoRefIdeal.τ).loc Cert.AdamXaWoRefIdeal.main_arg2) = m' ((c.tc : Thread Cert.AdamXaWoRefIdeal.nD Cert.AdamXaWoRefIdeal.τ).loc Cert.AdamXaWoRefIdeal.main_arg2)
          ∧ r.2.mem ((c.tc : Thread Cert.AdamXaWoRefIdeal.nD Cert.AdamXaWoRefIdeal.τ).loc Cert.AdamXaWoRefIdeal.main_arg3) = m' ((c.tc : Thread Cert.AdamXaWoRefIdeal.nD Cert.AdamXaWoRefIdeal.τ).loc Cert.AdamXaWoRefIdeal.main_arg3))

def preserves_AdamWIn_AdamWInIdeal : Prop :=
  True

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v4_0)) (v1 : (c : Dev Cert.AdamWInIdeal.nD) → Buf (Elt Ideal) ((c.tc : Thread Cert.AdamWInIdeal.nD Cert.AdamWInIdeal.τ).loc Cert.AdamWInIdeal.main_v4_1)) (v2 : (c : Dev Cert.AdamWInIdeal.nD) → Buf (Elt Ideal) ((c.tc : Thread Cert.AdamWInIdeal.nD Cert.AdamWInIdeal.τ).loc Cert.AdamWInIdeal.main_v4_2)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v4_0) = v0 c
          ∧ r.2.mem ((c.tc : Thread Cert.AdamWInIdeal.nD Cert.AdamWInIdeal.τ).loc Cert.AdamWInIdeal.main_v4_1) = v1 c
          ∧ r.2.mem ((c.tc : Thread Cert.AdamWInIdeal.nD Cert.AdamWInIdeal.τ).loc Cert.AdamWInIdeal.main_v4_2) = v2 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v24) = v0 c
          ∧ r.2.mem ((c.tc : Thread Cert.AdamWInRefIdeal.nD Cert.AdamWInRefIdeal.τ).loc Cert.AdamWInRefIdeal.main_v25) = v1 c
          ∧ r.2.mem ((c.tc : Thread Cert.AdamWInRefIdeal.nD Cert.AdamWInRefIdeal.τ).loc Cert.AdamWInRefIdeal.main_v26) = v2 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_AdamSsdConvW_AdamSsdConvWIdeal : Prop :=
  True

def algebraic_AdamSsdConvWIdeal_AdamSsdConvWRefIdeal [hAdamSsdConvWIdeal : Cert.AdamSsdConvWIdeal.Facts] [hAdamSsdConvWRefIdeal : Cert.AdamSsdConvWRefIdeal.Facts] : Prop :=
  ∀ (m : (ℓ : Loc Cert.AdamSsdConvWIdeal.nD Cert.AdamSsdConvWIdeal.τ Cert.AdamSsdConvWIdeal.sig) → Buf (Elt Ideal) ℓ) (g : Dev Cert.AdamSsdConvWIdeal.nD → PrngReg)
    (m' : (ℓ : Loc Cert.AdamSsdConvWRefIdeal.nD Cert.AdamSsdConvWRefIdeal.τ Cert.AdamSsdConvWRefIdeal.sig) → Buf (Elt Ideal) ℓ) (g' : Dev Cert.AdamSsdConvWRefIdeal.nD → PrngReg), Pre_AdamSsdConvWIdeal m →
    (∀ c : Dev Cert.AdamSsdConvWIdeal.nD,
      m' ((c.tc : Thread Cert.AdamSsdConvWRefIdeal.nD Cert.AdamSsdConvWRefIdeal.τ).loc Cert.AdamSsdConvWRefIdeal.main_arg0) = m ((c.tc : Thread Cert.AdamSsdConvWIdeal.nD Cert.AdamSsdConvWIdeal.τ).loc Cert.AdamSsdConvWIdeal.main_arg0)
      ∧ m' ((c.tc : Thread Cert.AdamSsdConvWRefIdeal.nD Cert.AdamSsdConvWRefIdeal.τ).loc Cert.AdamSsdConvWRefIdeal.main_arg1) = m ((c.tc : Thread Cert.AdamSsdConvWIdeal.nD Cert.AdamSsdConvWIdeal.τ).loc Cert.AdamSsdConvWIdeal.main_arg1)
      ∧ m' ((c.tc : Thread Cert.AdamSsdConvWRefIdeal.nD Cert.AdamSsdConvWRefIdeal.τ).loc Cert.AdamSsdConvWRefIdeal.main_arg2) = m ((c.tc : Thread Cert.AdamSsdConvWIdeal.nD Cert.AdamSsdConvWIdeal.τ).loc Cert.AdamSsdConvWIdeal.main_arg2)
      ∧ m' ((c.tc : Thread Cert.AdamSsdConvWRefIdeal.nD Cert.AdamSsdConvWRefIdeal.τ).loc Cert.AdamSsdConvWRefIdeal.main_arg3) = m ((c.tc : Thread Cert.AdamSsdConvWIdeal.nD Cert.AdamSsdConvWIdeal.τ).loc Cert.AdamSsdConvWIdeal.main_arg3)) →
    ∃ (v0 : (c : Dev Cert.AdamSsdConvWIdeal.nD) → Buf (Elt Ideal) ((c.tc : Thread Cert.AdamSsdConvWIdeal.nD Cert.AdamSsdConvWIdeal.τ).loc Cert.AdamSsdConvWIdeal.main_v4_0)) (v1 : (c : Dev Cert.AdamSsdConvWIdeal.nD) → Buf (Elt Ideal) ((c.tc : Thread Cert.AdamSsdConvWIdeal.nD Cert.AdamSsdConvWIdeal.τ).loc Cert.AdamSsdConvWIdeal.main_v4_1)) (v2 : (c : Dev Cert.AdamSsdConvWIdeal.nD) → Buf (Elt Ideal) ((c.tc : Thread Cert.AdamSsdConvWIdeal.nD Cert.AdamSsdConvWIdeal.τ).loc Cert.AdamSsdConvWIdeal.main_v4_2)),
      θ_run (Cert.AdamSsdConvWIdeal.defs (F := Ideal)) (onTc (τ := Cert.AdamSsdConvWIdeal.τ) (Cert.AdamSsdConvWIdeal.main (F := Ideal))) ⟨m, fun _ => 0, g⟩ (fun r => ∀ c : Dev Cert.AdamSsdConvWIdeal.nD,
          r.2.mem ((c.tc : Thread Cert.AdamSsdConvWIdeal.nD Cert.AdamSsdConvWIdeal.τ).loc Cert.AdamSsdConvWIdeal.main_v4_0) = v0 c
          ∧ r.2.mem ((c.tc : Thread Cert.AdamSsdConvWIdeal.nD Cert.AdamSsdConvWIdeal.τ).loc Cert.AdamSsdConvWIdeal.main_v4_1) = v1 c
          ∧ r.2.mem ((c.tc : Thread Cert.AdamSsdConvWIdeal.nD Cert.AdamSsdConvWIdeal.τ).loc Cert.AdamSsdConvWIdeal.main_v4_2) = v2 c
          ∧ r.2.mem ((c.tc : Thread Cert.AdamSsdConvWIdeal.nD Cert.AdamSsdConvWIdeal.τ).loc Cert.AdamSsdConvWIdeal.main_arg0) = m ((c.tc : Thread Cert.AdamSsdConvWIdeal.nD Cert.AdamSsdConvWIdeal.τ).loc Cert.AdamSsdConvWIdeal.main_arg0)
          ∧ r.2.mem ((c.tc : Thread Cert.AdamSsdConvWIdeal.nD Cert.AdamSsdConvWIdeal.τ).loc Cert.AdamSsdConvWIdeal.main_arg1) = m ((c.tc : Thread Cert.AdamSsdConvWIdeal.nD Cert.AdamSsdConvWIdeal.τ).loc Cert.AdamSsdConvWIdeal.main_arg1)
          ∧ r.2.mem ((c.tc : Thread Cert.AdamSsdConvWIdeal.nD Cert.AdamSsdConvWIdeal.τ).loc Cert.AdamSsdConvWIdeal.main_arg2) = m ((c.tc : Thread Cert.AdamSsdConvWIdeal.nD Cert.AdamSsdConvWIdeal.τ).loc Cert.AdamSsdConvWIdeal.main_arg2)
          ∧ r.2.mem ((c.tc : Thread Cert.AdamSsdConvWIdeal.nD Cert.AdamSsdConvWIdeal.τ).loc Cert.AdamSsdConvWIdeal.main_arg3) = m ((c.tc : Thread Cert.AdamSsdConvWIdeal.nD Cert.AdamSsdConvWIdeal.τ).loc Cert.AdamSsdConvWIdeal.main_arg3))
      ∧ θ_run (Cert.AdamSsdConvWRefIdeal.defs (F := Ideal)) (onTc (τ := Cert.AdamSsdConvWRefIdeal.τ) (Cert.AdamSsdConvWRefIdeal.main (F := Ideal))) ⟨m', fun _ => 0, g'⟩ (fun r => ∀ c : Dev Cert.AdamSsdConvWRefIdeal.nD,
          r.2.mem ((c.tc : Thread Cert.AdamSsdConvWRefIdeal.nD Cert.AdamSsdConvWRefIdeal.τ).loc Cert.AdamSsdConvWRefIdeal.main_v24) = v0 c
          ∧ r.2.mem ((c.tc : Thread Cert.AdamSsdConvWRefIdeal.nD Cert.AdamSsdConvWRefIdeal.τ).loc Cert.AdamSsdConvWRefIdeal.main_v25) = v1 c
          ∧ r.2.mem ((c.tc : Thread Cert.AdamSsdConvWRefIdeal.nD Cert.AdamSsdConvWRefIdeal.τ).loc Cert.AdamSsdConvWRefIdeal.main_v26) = v2 c
          ∧ r.2.mem ((c.tc : Thread Cert.AdamSsdConvWRefIdeal.nD Cert.AdamSsdConvWRefIdeal.τ).loc Cert.AdamSsdConvWRefIdeal.main_arg0) = m' ((c.tc : Thread Cert.AdamSsdConvWRefIdeal.nD Cert.AdamSsdConvWRefIdeal.τ).loc Cert.AdamSsdConvWRefIdeal.main_arg0)
          ∧ r.2.mem ((c.tc : Thread Cert.AdamSsdConvWRefIdeal.nD Cert.AdamSsdConvWRefIdeal.τ).loc Cert.AdamSsdConvWRefIdeal.main_arg1) = m' ((c.tc : Thread Cert.AdamSsdConvWRefIdeal.nD Cert.AdamSsdConvWRefIdeal.τ).loc Cert.AdamSsdConvWRefIdeal.main_arg1)
          ∧ r.2.mem ((c.tc : Thread Cert.AdamSsdConvWRefIdeal.nD Cert.AdamSsdConvWRefIdeal.τ).loc Cert.AdamSsdConvWRefIdeal.main_arg2) = m' ((c.tc : Thread Cert.AdamSsdConvWRefIdeal.nD Cert.AdamSsdConvWRefIdeal.τ).loc Cert.AdamSsdConvWRefIdeal.main_arg2)
          ∧ r.2.mem ((c.tc : Thread Cert.AdamSsdConvWRefIdeal.nD Cert.AdamSsdConvWRefIdeal.τ).loc Cert.AdamSsdConvWRefIdeal.main_arg3) = m' ((c.tc : Thread Cert.AdamSsdConvWRefIdeal.nD Cert.AdamSsdConvWRefIdeal.τ).loc Cert.AdamSsdConvWRefIdeal.main_arg3))

def preserves_AdamWOut_AdamWOutIdeal : Prop :=
  True

def algebraic_AdamWOutIdeal_AdamWOutRefIdeal [hAdamWOutIdeal : Cert.AdamWOutIdeal.Facts] [hAdamWOutRefIdeal : Cert.AdamWOutRefIdeal.Facts] : Prop :=
  ∀ (m : (ℓ : Loc Cert.AdamWOutIdeal.nD Cert.AdamWOutIdeal.τ Cert.AdamWOutIdeal.sig) → Buf (Elt Ideal) ℓ) (g : Dev Cert.AdamWOutIdeal.nD → PrngReg)
    (m' : (ℓ : Loc Cert.AdamWOutRefIdeal.nD Cert.AdamWOutRefIdeal.τ Cert.AdamWOutRefIdeal.sig) → Buf (Elt Ideal) ℓ) (g' : Dev Cert.AdamWOutRefIdeal.nD → PrngReg), Pre_AdamWOutIdeal m →
    (∀ c : Dev Cert.AdamWOutIdeal.nD,
      m' ((c.tc : Thread Cert.AdamWOutRefIdeal.nD Cert.AdamWOutRefIdeal.τ).loc Cert.AdamWOutRefIdeal.main_arg0) = m ((c.tc : Thread Cert.AdamWOutIdeal.nD Cert.AdamWOutIdeal.τ).loc Cert.AdamWOutIdeal.main_arg0)
      ∧ m' ((c.tc : Thread Cert.AdamWOutRefIdeal.nD Cert.AdamWOutRefIdeal.τ).loc Cert.AdamWOutRefIdeal.main_arg1) = m ((c.tc : Thread Cert.AdamWOutIdeal.nD Cert.AdamWOutIdeal.τ).loc Cert.AdamWOutIdeal.main_arg1)
      ∧ m' ((c.tc : Thread Cert.AdamWOutRefIdeal.nD Cert.AdamWOutRefIdeal.τ).loc Cert.AdamWOutRefIdeal.main_arg2) = m ((c.tc : Thread Cert.AdamWOutIdeal.nD Cert.AdamWOutIdeal.τ).loc Cert.AdamWOutIdeal.main_arg2)
      ∧ m' ((c.tc : Thread Cert.AdamWOutRefIdeal.nD Cert.AdamWOutRefIdeal.τ).loc Cert.AdamWOutRefIdeal.main_arg3) = m ((c.tc : Thread Cert.AdamWOutIdeal.nD Cert.AdamWOutIdeal.τ).loc Cert.AdamWOutIdeal.main_arg3)) →
    ∃ (v0 : (c : Dev Cert.AdamWOutIdeal.nD) → Buf (Elt Ideal) ((c.tc : Thread Cert.AdamWOutIdeal.nD Cert.AdamWOutIdeal.τ).loc Cert.AdamWOutIdeal.main_v4_0)) (v1 : (c : Dev Cert.AdamWOutIdeal.nD) → Buf (Elt Ideal) ((c.tc : Thread Cert.AdamWOutIdeal.nD Cert.AdamWOutIdeal.τ).loc Cert.AdamWOutIdeal.main_v4_1)) (v2 : (c : Dev Cert.AdamWOutIdeal.nD) → Buf (Elt Ideal) ((c.tc : Thread Cert.AdamWOutIdeal.nD Cert.AdamWOutIdeal.τ).loc Cert.AdamWOutIdeal.main_v4_2)),
      θ_run (Cert.AdamWOutIdeal.defs (F := Ideal)) (onTc (τ := Cert.AdamWOutIdeal.τ) (Cert.AdamWOutIdeal.main (F := Ideal))) ⟨m, fun _ => 0, g⟩ (fun r => ∀ c : Dev Cert.AdamWOutIdeal.nD,
          r.2.mem ((c.tc : Thread Cert.AdamWOutIdeal.nD Cert.AdamWOutIdeal.τ).loc Cert.AdamWOutIdeal.main_v4_0) = v0 c
          ∧ r.2.mem ((c.tc : Thread Cert.AdamWOutIdeal.nD Cert.AdamWOutIdeal.τ).loc Cert.AdamWOutIdeal.main_v4_1) = v1 c
          ∧ r.2.mem ((c.tc : Thread Cert.AdamWOutIdeal.nD Cert.AdamWOutIdeal.τ).loc Cert.AdamWOutIdeal.main_v4_2) = v2 c
          ∧ r.2.mem ((c.tc : Thread Cert.AdamWOutIdeal.nD Cert.AdamWOutIdeal.τ).loc Cert.AdamWOutIdeal.main_arg0) = m ((c.tc : Thread Cert.AdamWOutIdeal.nD Cert.AdamWOutIdeal.τ).loc Cert.AdamWOutIdeal.main_arg0)
          ∧ r.2.mem ((c.tc : Thread Cert.AdamWOutIdeal.nD Cert.AdamWOutIdeal.τ).loc Cert.AdamWOutIdeal.main_arg1) = m ((c.tc : Thread Cert.AdamWOutIdeal.nD Cert.AdamWOutIdeal.τ).loc Cert.AdamWOutIdeal.main_arg1)
          ∧ r.2.mem ((c.tc : Thread Cert.AdamWOutIdeal.nD Cert.AdamWOutIdeal.τ).loc Cert.AdamWOutIdeal.main_arg2) = m ((c.tc : Thread Cert.AdamWOutIdeal.nD Cert.AdamWOutIdeal.τ).loc Cert.AdamWOutIdeal.main_arg2)
          ∧ r.2.mem ((c.tc : Thread Cert.AdamWOutIdeal.nD Cert.AdamWOutIdeal.τ).loc Cert.AdamWOutIdeal.main_arg3) = m ((c.tc : Thread Cert.AdamWOutIdeal.nD Cert.AdamWOutIdeal.τ).loc Cert.AdamWOutIdeal.main_arg3))
      ∧ θ_run (Cert.AdamWOutRefIdeal.defs (F := Ideal)) (onTc (τ := Cert.AdamWOutRefIdeal.τ) (Cert.AdamWOutRefIdeal.main (F := Ideal))) ⟨m', fun _ => 0, g'⟩ (fun r => ∀ c : Dev Cert.AdamWOutRefIdeal.nD,
          r.2.mem ((c.tc : Thread Cert.AdamWOutRefIdeal.nD Cert.AdamWOutRefIdeal.τ).loc Cert.AdamWOutRefIdeal.main_v24) = v0 c
          ∧ r.2.mem ((c.tc : Thread Cert.AdamWOutRefIdeal.nD Cert.AdamWOutRefIdeal.τ).loc Cert.AdamWOutRefIdeal.main_v25) = v1 c
          ∧ r.2.mem ((c.tc : Thread Cert.AdamWOutRefIdeal.nD Cert.AdamWOutRefIdeal.τ).loc Cert.AdamWOutRefIdeal.main_v26) = v2 c
          ∧ r.2.mem ((c.tc : Thread Cert.AdamWOutRefIdeal.nD Cert.AdamWOutRefIdeal.τ).loc Cert.AdamWOutRefIdeal.main_arg0) = m' ((c.tc : Thread Cert.AdamWOutRefIdeal.nD Cert.AdamWOutRefIdeal.τ).loc Cert.AdamWOutRefIdeal.main_arg0)
          ∧ r.2.mem ((c.tc : Thread Cert.AdamWOutRefIdeal.nD Cert.AdamWOutRefIdeal.τ).loc Cert.AdamWOutRefIdeal.main_arg1) = m' ((c.tc : Thread Cert.AdamWOutRefIdeal.nD Cert.AdamWOutRefIdeal.τ).loc Cert.AdamWOutRefIdeal.main_arg1)
          ∧ r.2.mem ((c.tc : Thread Cert.AdamWOutRefIdeal.nD Cert.AdamWOutRefIdeal.τ).loc Cert.AdamWOutRefIdeal.main_arg2) = m' ((c.tc : Thread Cert.AdamWOutRefIdeal.nD Cert.AdamWOutRefIdeal.τ).loc Cert.AdamWOutRefIdeal.main_arg2)
          ∧ r.2.mem ((c.tc : Thread Cert.AdamWOutRefIdeal.nD Cert.AdamWOutRefIdeal.τ).loc Cert.AdamWOutRefIdeal.main_arg3) = m' ((c.tc : Thread Cert.AdamWOutRefIdeal.nD Cert.AdamWOutRefIdeal.τ).loc Cert.AdamWOutRefIdeal.main_arg3))

def preserves_AdamMlpW1_AdamMlpW1Ideal : Prop :=
  True

def algebraic_AdamMlpW1Ideal_AdamMlpW1RefIdeal [hAdamMlpW1Ideal : Cert.AdamMlpW1Ideal.Facts] [hAdamMlpW1RefIdeal : Cert.AdamMlpW1RefIdeal.Facts] : Prop :=
  ∀ (m : (ℓ : Loc Cert.AdamMlpW1Ideal.nD Cert.AdamMlpW1Ideal.τ Cert.AdamMlpW1Ideal.sig) → Buf (Elt Ideal) ℓ) (g : Dev Cert.AdamMlpW1Ideal.nD → PrngReg)
    (m' : (ℓ : Loc Cert.AdamMlpW1RefIdeal.nD Cert.AdamMlpW1RefIdeal.τ Cert.AdamMlpW1RefIdeal.sig) → Buf (Elt Ideal) ℓ) (g' : Dev Cert.AdamMlpW1RefIdeal.nD → PrngReg), Pre_AdamMlpW1Ideal m →
    (∀ c : Dev Cert.AdamMlpW1Ideal.nD,
      m' ((c.tc : Thread Cert.AdamMlpW1RefIdeal.nD Cert.AdamMlpW1RefIdeal.τ).loc Cert.AdamMlpW1RefIdeal.main_arg0) = m ((c.tc : Thread Cert.AdamMlpW1Ideal.nD Cert.AdamMlpW1Ideal.τ).loc Cert.AdamMlpW1Ideal.main_arg0)
      ∧ m' ((c.tc : Thread Cert.AdamMlpW1RefIdeal.nD Cert.AdamMlpW1RefIdeal.τ).loc Cert.AdamMlpW1RefIdeal.main_arg1) = m ((c.tc : Thread Cert.AdamMlpW1Ideal.nD Cert.AdamMlpW1Ideal.τ).loc Cert.AdamMlpW1Ideal.main_arg1)
      ∧ m' ((c.tc : Thread Cert.AdamMlpW1RefIdeal.nD Cert.AdamMlpW1RefIdeal.τ).loc Cert.AdamMlpW1RefIdeal.main_arg2) = m ((c.tc : Thread Cert.AdamMlpW1Ideal.nD Cert.AdamMlpW1Ideal.τ).loc Cert.AdamMlpW1Ideal.main_arg2)
      ∧ m' ((c.tc : Thread Cert.AdamMlpW1RefIdeal.nD Cert.AdamMlpW1RefIdeal.τ).loc Cert.AdamMlpW1RefIdeal.main_arg3) = m ((c.tc : Thread Cert.AdamMlpW1Ideal.nD Cert.AdamMlpW1Ideal.τ).loc Cert.AdamMlpW1Ideal.main_arg3)) →
    ∃ (v0 : (c : Dev Cert.AdamMlpW1Ideal.nD) → Buf (Elt Ideal) ((c.tc : Thread Cert.AdamMlpW1Ideal.nD Cert.AdamMlpW1Ideal.τ).loc Cert.AdamMlpW1Ideal.main_v4_0)) (v1 : (c : Dev Cert.AdamMlpW1Ideal.nD) → Buf (Elt Ideal) ((c.tc : Thread Cert.AdamMlpW1Ideal.nD Cert.AdamMlpW1Ideal.τ).loc Cert.AdamMlpW1Ideal.main_v4_1)) (v2 : (c : Dev Cert.AdamMlpW1Ideal.nD) → Buf (Elt Ideal) ((c.tc : Thread Cert.AdamMlpW1Ideal.nD Cert.AdamMlpW1Ideal.τ).loc Cert.AdamMlpW1Ideal.main_v4_2)),
      θ_run (Cert.AdamMlpW1Ideal.defs (F := Ideal)) (onTc (τ := Cert.AdamMlpW1Ideal.τ) (Cert.AdamMlpW1Ideal.main (F := Ideal))) ⟨m, fun _ => 0, g⟩ (fun r => ∀ c : Dev Cert.AdamMlpW1Ideal.nD,
          r.2.mem ((c.tc : Thread Cert.AdamMlpW1Ideal.nD Cert.AdamMlpW1Ideal.τ).loc Cert.AdamMlpW1Ideal.main_v4_0) = v0 c
          ∧ r.2.mem ((c.tc : Thread Cert.AdamMlpW1Ideal.nD Cert.AdamMlpW1Ideal.τ).loc Cert.AdamMlpW1Ideal.main_v4_1) = v1 c
          ∧ r.2.mem ((c.tc : Thread Cert.AdamMlpW1Ideal.nD Cert.AdamMlpW1Ideal.τ).loc Cert.AdamMlpW1Ideal.main_v4_2) = v2 c
          ∧ r.2.mem ((c.tc : Thread Cert.AdamMlpW1Ideal.nD Cert.AdamMlpW1Ideal.τ).loc Cert.AdamMlpW1Ideal.main_arg0) = m ((c.tc : Thread Cert.AdamMlpW1Ideal.nD Cert.AdamMlpW1Ideal.τ).loc Cert.AdamMlpW1Ideal.main_arg0)
          ∧ r.2.mem ((c.tc : Thread Cert.AdamMlpW1Ideal.nD Cert.AdamMlpW1Ideal.τ).loc Cert.AdamMlpW1Ideal.main_arg1) = m ((c.tc : Thread Cert.AdamMlpW1Ideal.nD Cert.AdamMlpW1Ideal.τ).loc Cert.AdamMlpW1Ideal.main_arg1)
          ∧ r.2.mem ((c.tc : Thread Cert.AdamMlpW1Ideal.nD Cert.AdamMlpW1Ideal.τ).loc Cert.AdamMlpW1Ideal.main_arg2) = m ((c.tc : Thread Cert.AdamMlpW1Ideal.nD Cert.AdamMlpW1Ideal.τ).loc Cert.AdamMlpW1Ideal.main_arg2)
          ∧ r.2.mem ((c.tc : Thread Cert.AdamMlpW1Ideal.nD Cert.AdamMlpW1Ideal.τ).loc Cert.AdamMlpW1Ideal.main_arg3) = m ((c.tc : Thread Cert.AdamMlpW1Ideal.nD Cert.AdamMlpW1Ideal.τ).loc Cert.AdamMlpW1Ideal.main_arg3))
      ∧ θ_run (Cert.AdamMlpW1RefIdeal.defs (F := Ideal)) (onTc (τ := Cert.AdamMlpW1RefIdeal.τ) (Cert.AdamMlpW1RefIdeal.main (F := Ideal))) ⟨m', fun _ => 0, g'⟩ (fun r => ∀ c : Dev Cert.AdamMlpW1RefIdeal.nD,
          r.2.mem ((c.tc : Thread Cert.AdamMlpW1RefIdeal.nD Cert.AdamMlpW1RefIdeal.τ).loc Cert.AdamMlpW1RefIdeal.main_v24) = v0 c
          ∧ r.2.mem ((c.tc : Thread Cert.AdamMlpW1RefIdeal.nD Cert.AdamMlpW1RefIdeal.τ).loc Cert.AdamMlpW1RefIdeal.main_v25) = v1 c
          ∧ r.2.mem ((c.tc : Thread Cert.AdamMlpW1RefIdeal.nD Cert.AdamMlpW1RefIdeal.τ).loc Cert.AdamMlpW1RefIdeal.main_v26) = v2 c
          ∧ r.2.mem ((c.tc : Thread Cert.AdamMlpW1RefIdeal.nD Cert.AdamMlpW1RefIdeal.τ).loc Cert.AdamMlpW1RefIdeal.main_arg0) = m' ((c.tc : Thread Cert.AdamMlpW1RefIdeal.nD Cert.AdamMlpW1RefIdeal.τ).loc Cert.AdamMlpW1RefIdeal.main_arg0)
          ∧ r.2.mem ((c.tc : Thread Cert.AdamMlpW1RefIdeal.nD Cert.AdamMlpW1RefIdeal.τ).loc Cert.AdamMlpW1RefIdeal.main_arg1) = m' ((c.tc : Thread Cert.AdamMlpW1RefIdeal.nD Cert.AdamMlpW1RefIdeal.τ).loc Cert.AdamMlpW1RefIdeal.main_arg1)
          ∧ r.2.mem ((c.tc : Thread Cert.AdamMlpW1RefIdeal.nD Cert.AdamMlpW1RefIdeal.τ).loc Cert.AdamMlpW1RefIdeal.main_arg2) = m' ((c.tc : Thread Cert.AdamMlpW1RefIdeal.nD Cert.AdamMlpW1RefIdeal.τ).loc Cert.AdamMlpW1RefIdeal.main_arg2)
          ∧ r.2.mem ((c.tc : Thread Cert.AdamMlpW1RefIdeal.nD Cert.AdamMlpW1RefIdeal.τ).loc Cert.AdamMlpW1RefIdeal.main_arg3) = m' ((c.tc : Thread Cert.AdamMlpW1RefIdeal.nD Cert.AdamMlpW1RefIdeal.τ).loc Cert.AdamMlpW1RefIdeal.main_arg3))

def preserves_AdamMlpW2_AdamMlpW2Ideal : Prop :=
  True

def algebraic_AdamMlpW2Ideal_AdamMlpW2RefIdeal [hAdamMlpW2Ideal : Cert.AdamMlpW2Ideal.Facts] [hAdamMlpW2RefIdeal : Cert.AdamMlpW2RefIdeal.Facts] : Prop :=
  ∀ (m : (ℓ : Loc Cert.AdamMlpW2Ideal.nD Cert.AdamMlpW2Ideal.τ Cert.AdamMlpW2Ideal.sig) → Buf (Elt Ideal) ℓ) (g : Dev Cert.AdamMlpW2Ideal.nD → PrngReg)
    (m' : (ℓ : Loc Cert.AdamMlpW2RefIdeal.nD Cert.AdamMlpW2RefIdeal.τ Cert.AdamMlpW2RefIdeal.sig) → Buf (Elt Ideal) ℓ) (g' : Dev Cert.AdamMlpW2RefIdeal.nD → PrngReg), Pre_AdamMlpW2Ideal m →
    (∀ c : Dev Cert.AdamMlpW2Ideal.nD,
      m' ((c.tc : Thread Cert.AdamMlpW2RefIdeal.nD Cert.AdamMlpW2RefIdeal.τ).loc Cert.AdamMlpW2RefIdeal.main_arg0) = m ((c.tc : Thread Cert.AdamMlpW2Ideal.nD Cert.AdamMlpW2Ideal.τ).loc Cert.AdamMlpW2Ideal.main_arg0)
      ∧ m' ((c.tc : Thread Cert.AdamMlpW2RefIdeal.nD Cert.AdamMlpW2RefIdeal.τ).loc Cert.AdamMlpW2RefIdeal.main_arg1) = m ((c.tc : Thread Cert.AdamMlpW2Ideal.nD Cert.AdamMlpW2Ideal.τ).loc Cert.AdamMlpW2Ideal.main_arg1)
      ∧ m' ((c.tc : Thread Cert.AdamMlpW2RefIdeal.nD Cert.AdamMlpW2RefIdeal.τ).loc Cert.AdamMlpW2RefIdeal.main_arg2) = m ((c.tc : Thread Cert.AdamMlpW2Ideal.nD Cert.AdamMlpW2Ideal.τ).loc Cert.AdamMlpW2Ideal.main_arg2)
      ∧ m' ((c.tc : Thread Cert.AdamMlpW2RefIdeal.nD Cert.AdamMlpW2RefIdeal.τ).loc Cert.AdamMlpW2RefIdeal.main_arg3) = m ((c.tc : Thread Cert.AdamMlpW2Ideal.nD Cert.AdamMlpW2Ideal.τ).loc Cert.AdamMlpW2Ideal.main_arg3)) →
    ∃ (v0 : (c : Dev Cert.AdamMlpW2Ideal.nD) → Buf (Elt Ideal) ((c.tc : Thread Cert.AdamMlpW2Ideal.nD Cert.AdamMlpW2Ideal.τ).loc Cert.AdamMlpW2Ideal.main_v4_0)) (v1 : (c : Dev Cert.AdamMlpW2Ideal.nD) → Buf (Elt Ideal) ((c.tc : Thread Cert.AdamMlpW2Ideal.nD Cert.AdamMlpW2Ideal.τ).loc Cert.AdamMlpW2Ideal.main_v4_1)) (v2 : (c : Dev Cert.AdamMlpW2Ideal.nD) → Buf (Elt Ideal) ((c.tc : Thread Cert.AdamMlpW2Ideal.nD Cert.AdamMlpW2Ideal.τ).loc Cert.AdamMlpW2Ideal.main_v4_2)),
      θ_run (Cert.AdamMlpW2Ideal.defs (F := Ideal)) (onTc (τ := Cert.AdamMlpW2Ideal.τ) (Cert.AdamMlpW2Ideal.main (F := Ideal))) ⟨m, fun _ => 0, g⟩ (fun r => ∀ c : Dev Cert.AdamMlpW2Ideal.nD,
          r.2.mem ((c.tc : Thread Cert.AdamMlpW2Ideal.nD Cert.AdamMlpW2Ideal.τ).loc Cert.AdamMlpW2Ideal.main_v4_0) = v0 c
          ∧ r.2.mem ((c.tc : Thread Cert.AdamMlpW2Ideal.nD Cert.AdamMlpW2Ideal.τ).loc Cert.AdamMlpW2Ideal.main_v4_1) = v1 c
          ∧ r.2.mem ((c.tc : Thread Cert.AdamMlpW2Ideal.nD Cert.AdamMlpW2Ideal.τ).loc Cert.AdamMlpW2Ideal.main_v4_2) = v2 c
          ∧ r.2.mem ((c.tc : Thread Cert.AdamMlpW2Ideal.nD Cert.AdamMlpW2Ideal.τ).loc Cert.AdamMlpW2Ideal.main_arg0) = m ((c.tc : Thread Cert.AdamMlpW2Ideal.nD Cert.AdamMlpW2Ideal.τ).loc Cert.AdamMlpW2Ideal.main_arg0)
          ∧ r.2.mem ((c.tc : Thread Cert.AdamMlpW2Ideal.nD Cert.AdamMlpW2Ideal.τ).loc Cert.AdamMlpW2Ideal.main_arg1) = m ((c.tc : Thread Cert.AdamMlpW2Ideal.nD Cert.AdamMlpW2Ideal.τ).loc Cert.AdamMlpW2Ideal.main_arg1)
          ∧ r.2.mem ((c.tc : Thread Cert.AdamMlpW2Ideal.nD Cert.AdamMlpW2Ideal.τ).loc Cert.AdamMlpW2Ideal.main_arg2) = m ((c.tc : Thread Cert.AdamMlpW2Ideal.nD Cert.AdamMlpW2Ideal.τ).loc Cert.AdamMlpW2Ideal.main_arg2)
          ∧ r.2.mem ((c.tc : Thread Cert.AdamMlpW2Ideal.nD Cert.AdamMlpW2Ideal.τ).loc Cert.AdamMlpW2Ideal.main_arg3) = m ((c.tc : Thread Cert.AdamMlpW2Ideal.nD Cert.AdamMlpW2Ideal.τ).loc Cert.AdamMlpW2Ideal.main_arg3))
      ∧ θ_run (Cert.AdamMlpW2RefIdeal.defs (F := Ideal)) (onTc (τ := Cert.AdamMlpW2RefIdeal.τ) (Cert.AdamMlpW2RefIdeal.main (F := Ideal))) ⟨m', fun _ => 0, g'⟩ (fun r => ∀ c : Dev Cert.AdamMlpW2RefIdeal.nD,
          r.2.mem ((c.tc : Thread Cert.AdamMlpW2RefIdeal.nD Cert.AdamMlpW2RefIdeal.τ).loc Cert.AdamMlpW2RefIdeal.main_v24) = v0 c
          ∧ r.2.mem ((c.tc : Thread Cert.AdamMlpW2RefIdeal.nD Cert.AdamMlpW2RefIdeal.τ).loc Cert.AdamMlpW2RefIdeal.main_v25) = v1 c
          ∧ r.2.mem ((c.tc : Thread Cert.AdamMlpW2RefIdeal.nD Cert.AdamMlpW2RefIdeal.τ).loc Cert.AdamMlpW2RefIdeal.main_v26) = v2 c
          ∧ r.2.mem ((c.tc : Thread Cert.AdamMlpW2RefIdeal.nD Cert.AdamMlpW2RefIdeal.τ).loc Cert.AdamMlpW2RefIdeal.main_arg0) = m' ((c.tc : Thread Cert.AdamMlpW2RefIdeal.nD Cert.AdamMlpW2RefIdeal.τ).loc Cert.AdamMlpW2RefIdeal.main_arg0)
          ∧ r.2.mem ((c.tc : Thread Cert.AdamMlpW2RefIdeal.nD Cert.AdamMlpW2RefIdeal.τ).loc Cert.AdamMlpW2RefIdeal.main_arg1) = m' ((c.tc : Thread Cert.AdamMlpW2RefIdeal.nD Cert.AdamMlpW2RefIdeal.τ).loc Cert.AdamMlpW2RefIdeal.main_arg1)
          ∧ r.2.mem ((c.tc : Thread Cert.AdamMlpW2RefIdeal.nD Cert.AdamMlpW2RefIdeal.τ).loc Cert.AdamMlpW2RefIdeal.main_arg2) = m' ((c.tc : Thread Cert.AdamMlpW2RefIdeal.nD Cert.AdamMlpW2RefIdeal.τ).loc Cert.AdamMlpW2RefIdeal.main_arg2)
          ∧ r.2.mem ((c.tc : Thread Cert.AdamMlpW2RefIdeal.nD Cert.AdamMlpW2RefIdeal.τ).loc Cert.AdamMlpW2RefIdeal.main_arg3) = m' ((c.tc : Thread Cert.AdamMlpW2RefIdeal.nD Cert.AdamMlpW2RefIdeal.τ).loc Cert.AdamMlpW2RefIdeal.main_arg3))

def preserves_AdamNormMix_AdamNormMixIdeal : Prop :=
  True

def algebraic_AdamNormMixIdeal_AdamNormMixRefIdeal [hAdamNormMixIdeal : Cert.AdamNormMixIdeal.Facts] [hAdamNormMixRefIdeal : Cert.AdamNormMixRefIdeal.Facts] : Prop :=
  ∀ (m : (ℓ : Loc Cert.AdamNormMixIdeal.nD Cert.AdamNormMixIdeal.τ Cert.AdamNormMixIdeal.sig) → Buf (Elt Ideal) ℓ) (g : Dev Cert.AdamNormMixIdeal.nD → PrngReg)
    (m' : (ℓ : Loc Cert.AdamNormMixRefIdeal.nD Cert.AdamNormMixRefIdeal.τ Cert.AdamNormMixRefIdeal.sig) → Buf (Elt Ideal) ℓ) (g' : Dev Cert.AdamNormMixRefIdeal.nD → PrngReg), Pre_AdamNormMixIdeal m →
    (∀ c : Dev Cert.AdamNormMixIdeal.nD,
      m' ((c.tc : Thread Cert.AdamNormMixRefIdeal.nD Cert.AdamNormMixRefIdeal.τ).loc Cert.AdamNormMixRefIdeal.main_arg0) = m ((c.tc : Thread Cert.AdamNormMixIdeal.nD Cert.AdamNormMixIdeal.τ).loc Cert.AdamNormMixIdeal.main_arg0)
      ∧ m' ((c.tc : Thread Cert.AdamNormMixRefIdeal.nD Cert.AdamNormMixRefIdeal.τ).loc Cert.AdamNormMixRefIdeal.main_arg1) = m ((c.tc : Thread Cert.AdamNormMixIdeal.nD Cert.AdamNormMixIdeal.τ).loc Cert.AdamNormMixIdeal.main_arg1)
      ∧ m' ((c.tc : Thread Cert.AdamNormMixRefIdeal.nD Cert.AdamNormMixRefIdeal.τ).loc Cert.AdamNormMixRefIdeal.main_arg2) = m ((c.tc : Thread Cert.AdamNormMixIdeal.nD Cert.AdamNormMixIdeal.τ).loc Cert.AdamNormMixIdeal.main_arg2)
      ∧ m' ((c.tc : Thread Cert.AdamNormMixRefIdeal.nD Cert.AdamNormMixRefIdeal.τ).loc Cert.AdamNormMixRefIdeal.main_arg3) = m ((c.tc : Thread Cert.AdamNormMixIdeal.nD Cert.AdamNormMixIdeal.τ).loc Cert.AdamNormMixIdeal.main_arg3)) →
    ∃ (v0 : (c : Dev Cert.AdamNormMixIdeal.nD) → Buf (Elt Ideal) ((c.tc : Thread Cert.AdamNormMixIdeal.nD Cert.AdamNormMixIdeal.τ).loc Cert.AdamNormMixIdeal.main_v0_0)) (v1 : (c : Dev Cert.AdamNormMixIdeal.nD) → Buf (Elt Ideal) ((c.tc : Thread Cert.AdamNormMixIdeal.nD Cert.AdamNormMixIdeal.τ).loc Cert.AdamNormMixIdeal.main_v0_1)) (v2 : (c : Dev Cert.AdamNormMixIdeal.nD) → Buf (Elt Ideal) ((c.tc : Thread Cert.AdamNormMixIdeal.nD Cert.AdamNormMixIdeal.τ).loc Cert.AdamNormMixIdeal.main_v0_2)),
      θ_run (Cert.AdamNormMixIdeal.defs (F := Ideal)) (onTc (τ := Cert.AdamNormMixIdeal.τ) (Cert.AdamNormMixIdeal.main (F := Ideal))) ⟨m, fun _ => 0, g⟩ (fun r => ∀ c : Dev Cert.AdamNormMixIdeal.nD,
          r.2.mem ((c.tc : Thread Cert.AdamNormMixIdeal.nD Cert.AdamNormMixIdeal.τ).loc Cert.AdamNormMixIdeal.main_v0_0) = v0 c
          ∧ r.2.mem ((c.tc : Thread Cert.AdamNormMixIdeal.nD Cert.AdamNormMixIdeal.τ).loc Cert.AdamNormMixIdeal.main_v0_1) = v1 c
          ∧ r.2.mem ((c.tc : Thread Cert.AdamNormMixIdeal.nD Cert.AdamNormMixIdeal.τ).loc Cert.AdamNormMixIdeal.main_v0_2) = v2 c
          ∧ r.2.mem ((c.tc : Thread Cert.AdamNormMixIdeal.nD Cert.AdamNormMixIdeal.τ).loc Cert.AdamNormMixIdeal.main_arg0) = m ((c.tc : Thread Cert.AdamNormMixIdeal.nD Cert.AdamNormMixIdeal.τ).loc Cert.AdamNormMixIdeal.main_arg0)
          ∧ r.2.mem ((c.tc : Thread Cert.AdamNormMixIdeal.nD Cert.AdamNormMixIdeal.τ).loc Cert.AdamNormMixIdeal.main_arg1) = m ((c.tc : Thread Cert.AdamNormMixIdeal.nD Cert.AdamNormMixIdeal.τ).loc Cert.AdamNormMixIdeal.main_arg1)
          ∧ r.2.mem ((c.tc : Thread Cert.AdamNormMixIdeal.nD Cert.AdamNormMixIdeal.τ).loc Cert.AdamNormMixIdeal.main_arg2) = m ((c.tc : Thread Cert.AdamNormMixIdeal.nD Cert.AdamNormMixIdeal.τ).loc Cert.AdamNormMixIdeal.main_arg2)
          ∧ r.2.mem ((c.tc : Thread Cert.AdamNormMixIdeal.nD Cert.AdamNormMixIdeal.τ).loc Cert.AdamNormMixIdeal.main_arg3) = m ((c.tc : Thread Cert.AdamNormMixIdeal.nD Cert.AdamNormMixIdeal.τ).loc Cert.AdamNormMixIdeal.main_arg3))
      ∧ θ_run (Cert.AdamNormMixRefIdeal.defs (F := Ideal)) (onTc (τ := Cert.AdamNormMixRefIdeal.τ) (Cert.AdamNormMixRefIdeal.main (F := Ideal))) ⟨m', fun _ => 0, g'⟩ (fun r => ∀ c : Dev Cert.AdamNormMixRefIdeal.nD,
          r.2.mem ((c.tc : Thread Cert.AdamNormMixRefIdeal.nD Cert.AdamNormMixRefIdeal.τ).loc Cert.AdamNormMixRefIdeal.main_v23) = v0 c
          ∧ r.2.mem ((c.tc : Thread Cert.AdamNormMixRefIdeal.nD Cert.AdamNormMixRefIdeal.τ).loc Cert.AdamNormMixRefIdeal.main_v4) = v1 c
          ∧ r.2.mem ((c.tc : Thread Cert.AdamNormMixRefIdeal.nD Cert.AdamNormMixRefIdeal.τ).loc Cert.AdamNormMixRefIdeal.main_v10) = v2 c
          ∧ r.2.mem ((c.tc : Thread Cert.AdamNormMixRefIdeal.nD Cert.AdamNormMixRefIdeal.τ).loc Cert.AdamNormMixRefIdeal.main_arg0) = m' ((c.tc : Thread Cert.AdamNormMixRefIdeal.nD Cert.AdamNormMixRefIdeal.τ).loc Cert.AdamNormMixRefIdeal.main_arg0)
          ∧ r.2.mem ((c.tc : Thread Cert.AdamNormMixRefIdeal.nD Cert.AdamNormMixRefIdeal.τ).loc Cert.AdamNormMixRefIdeal.main_arg1) = m' ((c.tc : Thread Cert.AdamNormMixRefIdeal.nD Cert.AdamNormMixRefIdeal.τ).loc Cert.AdamNormMixRefIdeal.main_arg1)
          ∧ r.2.mem ((c.tc : Thread Cert.AdamNormMixRefIdeal.nD Cert.AdamNormMixRefIdeal.τ).loc Cert.AdamNormMixRefIdeal.main_arg2) = m' ((c.tc : Thread Cert.AdamNormMixRefIdeal.nD Cert.AdamNormMixRefIdeal.τ).loc Cert.AdamNormMixRefIdeal.main_arg2)
          ∧ r.2.mem ((c.tc : Thread Cert.AdamNormMixRefIdeal.nD Cert.AdamNormMixRefIdeal.τ).loc Cert.AdamNormMixRefIdeal.main_arg3) = m' ((c.tc : Thread Cert.AdamNormMixRefIdeal.nD Cert.AdamNormMixRefIdeal.τ).loc Cert.AdamNormMixRefIdeal.main_arg3))

def preserves_AdamSsdNorm_AdamSsdNormIdeal : Prop :=
  True

def algebraic_AdamSsdNormIdeal_AdamSsdNormRefIdeal [hAdamSsdNormIdeal : Cert.AdamSsdNormIdeal.Facts] [hAdamSsdNormRefIdeal : Cert.AdamSsdNormRefIdeal.Facts] : Prop :=
  ∀ (m : (ℓ : Loc Cert.AdamSsdNormIdeal.nD Cert.AdamSsdNormIdeal.τ Cert.AdamSsdNormIdeal.sig) → Buf (Elt Ideal) ℓ) (g : Dev Cert.AdamSsdNormIdeal.nD → PrngReg)
    (m' : (ℓ : Loc Cert.AdamSsdNormRefIdeal.nD Cert.AdamSsdNormRefIdeal.τ Cert.AdamSsdNormRefIdeal.sig) → Buf (Elt Ideal) ℓ) (g' : Dev Cert.AdamSsdNormRefIdeal.nD → PrngReg), Pre_AdamSsdNormIdeal m →
    (∀ c : Dev Cert.AdamSsdNormIdeal.nD,
      m' ((c.tc : Thread Cert.AdamSsdNormRefIdeal.nD Cert.AdamSsdNormRefIdeal.τ).loc Cert.AdamSsdNormRefIdeal.main_arg0) = m ((c.tc : Thread Cert.AdamSsdNormIdeal.nD Cert.AdamSsdNormIdeal.τ).loc Cert.AdamSsdNormIdeal.main_arg0)
      ∧ m' ((c.tc : Thread Cert.AdamSsdNormRefIdeal.nD Cert.AdamSsdNormRefIdeal.τ).loc Cert.AdamSsdNormRefIdeal.main_arg1) = m ((c.tc : Thread Cert.AdamSsdNormIdeal.nD Cert.AdamSsdNormIdeal.τ).loc Cert.AdamSsdNormIdeal.main_arg1)
      ∧ m' ((c.tc : Thread Cert.AdamSsdNormRefIdeal.nD Cert.AdamSsdNormRefIdeal.τ).loc Cert.AdamSsdNormRefIdeal.main_arg2) = m ((c.tc : Thread Cert.AdamSsdNormIdeal.nD Cert.AdamSsdNormIdeal.τ).loc Cert.AdamSsdNormIdeal.main_arg2)
      ∧ m' ((c.tc : Thread Cert.AdamSsdNormRefIdeal.nD Cert.AdamSsdNormRefIdeal.τ).loc Cert.AdamSsdNormRefIdeal.main_arg3) = m ((c.tc : Thread Cert.AdamSsdNormIdeal.nD Cert.AdamSsdNormIdeal.τ).loc Cert.AdamSsdNormIdeal.main_arg3)) →
    ∃ (v0 : (c : Dev Cert.AdamSsdNormIdeal.nD) → Buf (Elt Ideal) ((c.tc : Thread Cert.AdamSsdNormIdeal.nD Cert.AdamSsdNormIdeal.τ).loc Cert.AdamSsdNormIdeal.main_v0_0)) (v1 : (c : Dev Cert.AdamSsdNormIdeal.nD) → Buf (Elt Ideal) ((c.tc : Thread Cert.AdamSsdNormIdeal.nD Cert.AdamSsdNormIdeal.τ).loc Cert.AdamSsdNormIdeal.main_v0_1)) (v2 : (c : Dev Cert.AdamSsdNormIdeal.nD) → Buf (Elt Ideal) ((c.tc : Thread Cert.AdamSsdNormIdeal.nD Cert.AdamSsdNormIdeal.τ).loc Cert.AdamSsdNormIdeal.main_v0_2)),
      θ_run (Cert.AdamSsdNormIdeal.defs (F := Ideal)) (onTc (τ := Cert.AdamSsdNormIdeal.τ) (Cert.AdamSsdNormIdeal.main (F := Ideal))) ⟨m, fun _ => 0, g⟩ (fun r => ∀ c : Dev Cert.AdamSsdNormIdeal.nD,
          r.2.mem ((c.tc : Thread Cert.AdamSsdNormIdeal.nD Cert.AdamSsdNormIdeal.τ).loc Cert.AdamSsdNormIdeal.main_v0_0) = v0 c
          ∧ r.2.mem ((c.tc : Thread Cert.AdamSsdNormIdeal.nD Cert.AdamSsdNormIdeal.τ).loc Cert.AdamSsdNormIdeal.main_v0_1) = v1 c
          ∧ r.2.mem ((c.tc : Thread Cert.AdamSsdNormIdeal.nD Cert.AdamSsdNormIdeal.τ).loc Cert.AdamSsdNormIdeal.main_v0_2) = v2 c
          ∧ r.2.mem ((c.tc : Thread Cert.AdamSsdNormIdeal.nD Cert.AdamSsdNormIdeal.τ).loc Cert.AdamSsdNormIdeal.main_arg0) = m ((c.tc : Thread Cert.AdamSsdNormIdeal.nD Cert.AdamSsdNormIdeal.τ).loc Cert.AdamSsdNormIdeal.main_arg0)
          ∧ r.2.mem ((c.tc : Thread Cert.AdamSsdNormIdeal.nD Cert.AdamSsdNormIdeal.τ).loc Cert.AdamSsdNormIdeal.main_arg1) = m ((c.tc : Thread Cert.AdamSsdNormIdeal.nD Cert.AdamSsdNormIdeal.τ).loc Cert.AdamSsdNormIdeal.main_arg1)
          ∧ r.2.mem ((c.tc : Thread Cert.AdamSsdNormIdeal.nD Cert.AdamSsdNormIdeal.τ).loc Cert.AdamSsdNormIdeal.main_arg2) = m ((c.tc : Thread Cert.AdamSsdNormIdeal.nD Cert.AdamSsdNormIdeal.τ).loc Cert.AdamSsdNormIdeal.main_arg2)
          ∧ r.2.mem ((c.tc : Thread Cert.AdamSsdNormIdeal.nD Cert.AdamSsdNormIdeal.τ).loc Cert.AdamSsdNormIdeal.main_arg3) = m ((c.tc : Thread Cert.AdamSsdNormIdeal.nD Cert.AdamSsdNormIdeal.τ).loc Cert.AdamSsdNormIdeal.main_arg3))
      ∧ θ_run (Cert.AdamSsdNormRefIdeal.defs (F := Ideal)) (onTc (τ := Cert.AdamSsdNormRefIdeal.τ) (Cert.AdamSsdNormRefIdeal.main (F := Ideal))) ⟨m', fun _ => 0, g'⟩ (fun r => ∀ c : Dev Cert.AdamSsdNormRefIdeal.nD,
          r.2.mem ((c.tc : Thread Cert.AdamSsdNormRefIdeal.nD Cert.AdamSsdNormRefIdeal.τ).loc Cert.AdamSsdNormRefIdeal.main_v23) = v0 c
          ∧ r.2.mem ((c.tc : Thread Cert.AdamSsdNormRefIdeal.nD Cert.AdamSsdNormRefIdeal.τ).loc Cert.AdamSsdNormRefIdeal.main_v4) = v1 c
          ∧ r.2.mem ((c.tc : Thread Cert.AdamSsdNormRefIdeal.nD Cert.AdamSsdNormRefIdeal.τ).loc Cert.AdamSsdNormRefIdeal.main_v10) = v2 c
          ∧ r.2.mem ((c.tc : Thread Cert.AdamSsdNormRefIdeal.nD Cert.AdamSsdNormRefIdeal.τ).loc Cert.AdamSsdNormRefIdeal.main_arg0) = m' ((c.tc : Thread Cert.AdamSsdNormRefIdeal.nD Cert.AdamSsdNormRefIdeal.τ).loc Cert.AdamSsdNormRefIdeal.main_arg0)
          ∧ r.2.mem ((c.tc : Thread Cert.AdamSsdNormRefIdeal.nD Cert.AdamSsdNormRefIdeal.τ).loc Cert.AdamSsdNormRefIdeal.main_arg1) = m' ((c.tc : Thread Cert.AdamSsdNormRefIdeal.nD Cert.AdamSsdNormRefIdeal.τ).loc Cert.AdamSsdNormRefIdeal.main_arg1)
          ∧ r.2.mem ((c.tc : Thread Cert.AdamSsdNormRefIdeal.nD Cert.AdamSsdNormRefIdeal.τ).loc Cert.AdamSsdNormRefIdeal.main_arg2) = m' ((c.tc : Thread Cert.AdamSsdNormRefIdeal.nD Cert.AdamSsdNormRefIdeal.τ).loc Cert.AdamSsdNormRefIdeal.main_arg2)
          ∧ r.2.mem ((c.tc : Thread Cert.AdamSsdNormRefIdeal.nD Cert.AdamSsdNormRefIdeal.τ).loc Cert.AdamSsdNormRefIdeal.main_arg3) = m' ((c.tc : Thread Cert.AdamSsdNormRefIdeal.nD Cert.AdamSsdNormRefIdeal.τ).loc Cert.AdamSsdNormRefIdeal.main_arg3))

def preserves_AdamNormXattn_AdamNormXattnIdeal : Prop :=
  True

def algebraic_AdamNormXattnIdeal_AdamNormXattnRefIdeal [hAdamNormXattnIdeal : Cert.AdamNormXattnIdeal.Facts] [hAdamNormXattnRefIdeal : Cert.AdamNormXattnRefIdeal.Facts] : Prop :=
  ∀ (m : (ℓ : Loc Cert.AdamNormXattnIdeal.nD Cert.AdamNormXattnIdeal.τ Cert.AdamNormXattnIdeal.sig) → Buf (Elt Ideal) ℓ) (g : Dev Cert.AdamNormXattnIdeal.nD → PrngReg)
    (m' : (ℓ : Loc Cert.AdamNormXattnRefIdeal.nD Cert.AdamNormXattnRefIdeal.τ Cert.AdamNormXattnRefIdeal.sig) → Buf (Elt Ideal) ℓ) (g' : Dev Cert.AdamNormXattnRefIdeal.nD → PrngReg), Pre_AdamNormXattnIdeal m →
    (∀ c : Dev Cert.AdamNormXattnIdeal.nD,
      m' ((c.tc : Thread Cert.AdamNormXattnRefIdeal.nD Cert.AdamNormXattnRefIdeal.τ).loc Cert.AdamNormXattnRefIdeal.main_arg0) = m ((c.tc : Thread Cert.AdamNormXattnIdeal.nD Cert.AdamNormXattnIdeal.τ).loc Cert.AdamNormXattnIdeal.main_arg0)
      ∧ m' ((c.tc : Thread Cert.AdamNormXattnRefIdeal.nD Cert.AdamNormXattnRefIdeal.τ).loc Cert.AdamNormXattnRefIdeal.main_arg1) = m ((c.tc : Thread Cert.AdamNormXattnIdeal.nD Cert.AdamNormXattnIdeal.τ).loc Cert.AdamNormXattnIdeal.main_arg1)
      ∧ m' ((c.tc : Thread Cert.AdamNormXattnRefIdeal.nD Cert.AdamNormXattnRefIdeal.τ).loc Cert.AdamNormXattnRefIdeal.main_arg2) = m ((c.tc : Thread Cert.AdamNormXattnIdeal.nD Cert.AdamNormXattnIdeal.τ).loc Cert.AdamNormXattnIdeal.main_arg2)
      ∧ m' ((c.tc : Thread Cert.AdamNormXattnRefIdeal.nD Cert.AdamNormXattnRefIdeal.τ).loc Cert.AdamNormXattnRefIdeal.main_arg3) = m ((c.tc : Thread Cert.AdamNormXattnIdeal.nD Cert.AdamNormXattnIdeal.τ).loc Cert.AdamNormXattnIdeal.main_arg3)) →
    ∃ (v0 : (c : Dev Cert.AdamNormXattnIdeal.nD) → Buf (Elt Ideal) ((c.tc : Thread Cert.AdamNormXattnIdeal.nD Cert.AdamNormXattnIdeal.τ).loc Cert.AdamNormXattnIdeal.main_v0_0)) (v1 : (c : Dev Cert.AdamNormXattnIdeal.nD) → Buf (Elt Ideal) ((c.tc : Thread Cert.AdamNormXattnIdeal.nD Cert.AdamNormXattnIdeal.τ).loc Cert.AdamNormXattnIdeal.main_v0_1)) (v2 : (c : Dev Cert.AdamNormXattnIdeal.nD) → Buf (Elt Ideal) ((c.tc : Thread Cert.AdamNormXattnIdeal.nD Cert.AdamNormXattnIdeal.τ).loc Cert.AdamNormXattnIdeal.main_v0_2)),
      θ_run (Cert.AdamNormXattnIdeal.defs (F := Ideal)) (onTc (τ := Cert.AdamNormXattnIdeal.τ) (Cert.AdamNormXattnIdeal.main (F := Ideal))) ⟨m, fun _ => 0, g⟩ (fun r => ∀ c : Dev Cert.AdamNormXattnIdeal.nD,
          r.2.mem ((c.tc : Thread Cert.AdamNormXattnIdeal.nD Cert.AdamNormXattnIdeal.τ).loc Cert.AdamNormXattnIdeal.main_v0_0) = v0 c
          ∧ r.2.mem ((c.tc : Thread Cert.AdamNormXattnIdeal.nD Cert.AdamNormXattnIdeal.τ).loc Cert.AdamNormXattnIdeal.main_v0_1) = v1 c
          ∧ r.2.mem ((c.tc : Thread Cert.AdamNormXattnIdeal.nD Cert.AdamNormXattnIdeal.τ).loc Cert.AdamNormXattnIdeal.main_v0_2) = v2 c
          ∧ r.2.mem ((c.tc : Thread Cert.AdamNormXattnIdeal.nD Cert.AdamNormXattnIdeal.τ).loc Cert.AdamNormXattnIdeal.main_arg0) = m ((c.tc : Thread Cert.AdamNormXattnIdeal.nD Cert.AdamNormXattnIdeal.τ).loc Cert.AdamNormXattnIdeal.main_arg0)
          ∧ r.2.mem ((c.tc : Thread Cert.AdamNormXattnIdeal.nD Cert.AdamNormXattnIdeal.τ).loc Cert.AdamNormXattnIdeal.main_arg1) = m ((c.tc : Thread Cert.AdamNormXattnIdeal.nD Cert.AdamNormXattnIdeal.τ).loc Cert.AdamNormXattnIdeal.main_arg1)
          ∧ r.2.mem ((c.tc : Thread Cert.AdamNormXattnIdeal.nD Cert.AdamNormXattnIdeal.τ).loc Cert.AdamNormXattnIdeal.main_arg2) = m ((c.tc : Thread Cert.AdamNormXattnIdeal.nD Cert.AdamNormXattnIdeal.τ).loc Cert.AdamNormXattnIdeal.main_arg2)
          ∧ r.2.mem ((c.tc : Thread Cert.AdamNormXattnIdeal.nD Cert.AdamNormXattnIdeal.τ).loc Cert.AdamNormXattnIdeal.main_arg3) = m ((c.tc : Thread Cert.AdamNormXattnIdeal.nD Cert.AdamNormXattnIdeal.τ).loc Cert.AdamNormXattnIdeal.main_arg3))
      ∧ θ_run (Cert.AdamNormXattnRefIdeal.defs (F := Ideal)) (onTc (τ := Cert.AdamNormXattnRefIdeal.τ) (Cert.AdamNormXattnRefIdeal.main (F := Ideal))) ⟨m', fun _ => 0, g'⟩ (fun r => ∀ c : Dev Cert.AdamNormXattnRefIdeal.nD,
          r.2.mem ((c.tc : Thread Cert.AdamNormXattnRefIdeal.nD Cert.AdamNormXattnRefIdeal.τ).loc Cert.AdamNormXattnRefIdeal.main_v23) = v0 c
          ∧ r.2.mem ((c.tc : Thread Cert.AdamNormXattnRefIdeal.nD Cert.AdamNormXattnRefIdeal.τ).loc Cert.AdamNormXattnRefIdeal.main_v4) = v1 c
          ∧ r.2.mem ((c.tc : Thread Cert.AdamNormXattnRefIdeal.nD Cert.AdamNormXattnRefIdeal.τ).loc Cert.AdamNormXattnRefIdeal.main_v10) = v2 c
          ∧ r.2.mem ((c.tc : Thread Cert.AdamNormXattnRefIdeal.nD Cert.AdamNormXattnRefIdeal.τ).loc Cert.AdamNormXattnRefIdeal.main_arg0) = m' ((c.tc : Thread Cert.AdamNormXattnRefIdeal.nD Cert.AdamNormXattnRefIdeal.τ).loc Cert.AdamNormXattnRefIdeal.main_arg0)
          ∧ r.2.mem ((c.tc : Thread Cert.AdamNormXattnRefIdeal.nD Cert.AdamNormXattnRefIdeal.τ).loc Cert.AdamNormXattnRefIdeal.main_arg1) = m' ((c.tc : Thread Cert.AdamNormXattnRefIdeal.nD Cert.AdamNormXattnRefIdeal.τ).loc Cert.AdamNormXattnRefIdeal.main_arg1)
          ∧ r.2.mem ((c.tc : Thread Cert.AdamNormXattnRefIdeal.nD Cert.AdamNormXattnRefIdeal.τ).loc Cert.AdamNormXattnRefIdeal.main_arg2) = m' ((c.tc : Thread Cert.AdamNormXattnRefIdeal.nD Cert.AdamNormXattnRefIdeal.τ).loc Cert.AdamNormXattnRefIdeal.main_arg2)
          ∧ r.2.mem ((c.tc : Thread Cert.AdamNormXattnRefIdeal.nD Cert.AdamNormXattnRefIdeal.τ).loc Cert.AdamNormXattnRefIdeal.main_arg3) = m' ((c.tc : Thread Cert.AdamNormXattnRefIdeal.nD Cert.AdamNormXattnRefIdeal.τ).loc Cert.AdamNormXattnRefIdeal.main_arg3))

def preserves_AdamNormMem_AdamNormMemIdeal : Prop :=
  True

def algebraic_AdamNormMemIdeal_AdamNormMemRefIdeal [hAdamNormMemIdeal : Cert.AdamNormMemIdeal.Facts] [hAdamNormMemRefIdeal : Cert.AdamNormMemRefIdeal.Facts] : Prop :=
  ∀ (m : (ℓ : Loc Cert.AdamNormMemIdeal.nD Cert.AdamNormMemIdeal.τ Cert.AdamNormMemIdeal.sig) → Buf (Elt Ideal) ℓ) (g : Dev Cert.AdamNormMemIdeal.nD → PrngReg)
    (m' : (ℓ : Loc Cert.AdamNormMemRefIdeal.nD Cert.AdamNormMemRefIdeal.τ Cert.AdamNormMemRefIdeal.sig) → Buf (Elt Ideal) ℓ) (g' : Dev Cert.AdamNormMemRefIdeal.nD → PrngReg), Pre_AdamNormMemIdeal m →
    (∀ c : Dev Cert.AdamNormMemIdeal.nD,
      m' ((c.tc : Thread Cert.AdamNormMemRefIdeal.nD Cert.AdamNormMemRefIdeal.τ).loc Cert.AdamNormMemRefIdeal.main_arg0) = m ((c.tc : Thread Cert.AdamNormMemIdeal.nD Cert.AdamNormMemIdeal.τ).loc Cert.AdamNormMemIdeal.main_arg0)
      ∧ m' ((c.tc : Thread Cert.AdamNormMemRefIdeal.nD Cert.AdamNormMemRefIdeal.τ).loc Cert.AdamNormMemRefIdeal.main_arg1) = m ((c.tc : Thread Cert.AdamNormMemIdeal.nD Cert.AdamNormMemIdeal.τ).loc Cert.AdamNormMemIdeal.main_arg1)
      ∧ m' ((c.tc : Thread Cert.AdamNormMemRefIdeal.nD Cert.AdamNormMemRefIdeal.τ).loc Cert.AdamNormMemRefIdeal.main_arg2) = m ((c.tc : Thread Cert.AdamNormMemIdeal.nD Cert.AdamNormMemIdeal.τ).loc Cert.AdamNormMemIdeal.main_arg2)
      ∧ m' ((c.tc : Thread Cert.AdamNormMemRefIdeal.nD Cert.AdamNormMemRefIdeal.τ).loc Cert.AdamNormMemRefIdeal.main_arg3) = m ((c.tc : Thread Cert.AdamNormMemIdeal.nD Cert.AdamNormMemIdeal.τ).loc Cert.AdamNormMemIdeal.main_arg3)) →
    ∃ (v0 : (c : Dev Cert.AdamNormMemIdeal.nD) → Buf (Elt Ideal) ((c.tc : Thread Cert.AdamNormMemIdeal.nD Cert.AdamNormMemIdeal.τ).loc Cert.AdamNormMemIdeal.main_v0_0)) (v1 : (c : Dev Cert.AdamNormMemIdeal.nD) → Buf (Elt Ideal) ((c.tc : Thread Cert.AdamNormMemIdeal.nD Cert.AdamNormMemIdeal.τ).loc Cert.AdamNormMemIdeal.main_v0_1)) (v2 : (c : Dev Cert.AdamNormMemIdeal.nD) → Buf (Elt Ideal) ((c.tc : Thread Cert.AdamNormMemIdeal.nD Cert.AdamNormMemIdeal.τ).loc Cert.AdamNormMemIdeal.main_v0_2)),
      θ_run (Cert.AdamNormMemIdeal.defs (F := Ideal)) (onTc (τ := Cert.AdamNormMemIdeal.τ) (Cert.AdamNormMemIdeal.main (F := Ideal))) ⟨m, fun _ => 0, g⟩ (fun r => ∀ c : Dev Cert.AdamNormMemIdeal.nD,
          r.2.mem ((c.tc : Thread Cert.AdamNormMemIdeal.nD Cert.AdamNormMemIdeal.τ).loc Cert.AdamNormMemIdeal.main_v0_0) = v0 c
          ∧ r.2.mem ((c.tc : Thread Cert.AdamNormMemIdeal.nD Cert.AdamNormMemIdeal.τ).loc Cert.AdamNormMemIdeal.main_v0_1) = v1 c
          ∧ r.2.mem ((c.tc : Thread Cert.AdamNormMemIdeal.nD Cert.AdamNormMemIdeal.τ).loc Cert.AdamNormMemIdeal.main_v0_2) = v2 c
          ∧ r.2.mem ((c.tc : Thread Cert.AdamNormMemIdeal.nD Cert.AdamNormMemIdeal.τ).loc Cert.AdamNormMemIdeal.main_arg0) = m ((c.tc : Thread Cert.AdamNormMemIdeal.nD Cert.AdamNormMemIdeal.τ).loc Cert.AdamNormMemIdeal.main_arg0)
          ∧ r.2.mem ((c.tc : Thread Cert.AdamNormMemIdeal.nD Cert.AdamNormMemIdeal.τ).loc Cert.AdamNormMemIdeal.main_arg1) = m ((c.tc : Thread Cert.AdamNormMemIdeal.nD Cert.AdamNormMemIdeal.τ).loc Cert.AdamNormMemIdeal.main_arg1)
          ∧ r.2.mem ((c.tc : Thread Cert.AdamNormMemIdeal.nD Cert.AdamNormMemIdeal.τ).loc Cert.AdamNormMemIdeal.main_arg2) = m ((c.tc : Thread Cert.AdamNormMemIdeal.nD Cert.AdamNormMemIdeal.τ).loc Cert.AdamNormMemIdeal.main_arg2)
          ∧ r.2.mem ((c.tc : Thread Cert.AdamNormMemIdeal.nD Cert.AdamNormMemIdeal.τ).loc Cert.AdamNormMemIdeal.main_arg3) = m ((c.tc : Thread Cert.AdamNormMemIdeal.nD Cert.AdamNormMemIdeal.τ).loc Cert.AdamNormMemIdeal.main_arg3))
      ∧ θ_run (Cert.AdamNormMemRefIdeal.defs (F := Ideal)) (onTc (τ := Cert.AdamNormMemRefIdeal.τ) (Cert.AdamNormMemRefIdeal.main (F := Ideal))) ⟨m', fun _ => 0, g'⟩ (fun r => ∀ c : Dev Cert.AdamNormMemRefIdeal.nD,
          r.2.mem ((c.tc : Thread Cert.AdamNormMemRefIdeal.nD Cert.AdamNormMemRefIdeal.τ).loc Cert.AdamNormMemRefIdeal.main_v23) = v0 c
          ∧ r.2.mem ((c.tc : Thread Cert.AdamNormMemRefIdeal.nD Cert.AdamNormMemRefIdeal.τ).loc Cert.AdamNormMemRefIdeal.main_v4) = v1 c
          ∧ r.2.mem ((c.tc : Thread Cert.AdamNormMemRefIdeal.nD Cert.AdamNormMemRefIdeal.τ).loc Cert.AdamNormMemRefIdeal.main_v10) = v2 c
          ∧ r.2.mem ((c.tc : Thread Cert.AdamNormMemRefIdeal.nD Cert.AdamNormMemRefIdeal.τ).loc Cert.AdamNormMemRefIdeal.main_arg0) = m' ((c.tc : Thread Cert.AdamNormMemRefIdeal.nD Cert.AdamNormMemRefIdeal.τ).loc Cert.AdamNormMemRefIdeal.main_arg0)
          ∧ r.2.mem ((c.tc : Thread Cert.AdamNormMemRefIdeal.nD Cert.AdamNormMemRefIdeal.τ).loc Cert.AdamNormMemRefIdeal.main_arg1) = m' ((c.tc : Thread Cert.AdamNormMemRefIdeal.nD Cert.AdamNormMemRefIdeal.τ).loc Cert.AdamNormMemRefIdeal.main_arg1)
          ∧ r.2.mem ((c.tc : Thread Cert.AdamNormMemRefIdeal.nD Cert.AdamNormMemRefIdeal.τ).loc Cert.AdamNormMemRefIdeal.main_arg2) = m' ((c.tc : Thread Cert.AdamNormMemRefIdeal.nD Cert.AdamNormMemRefIdeal.τ).loc Cert.AdamNormMemRefIdeal.main_arg2)
          ∧ r.2.mem ((c.tc : Thread Cert.AdamNormMemRefIdeal.nD Cert.AdamNormMemRefIdeal.τ).loc Cert.AdamNormMemRefIdeal.main_arg3) = m' ((c.tc : Thread Cert.AdamNormMemRefIdeal.nD Cert.AdamNormMemRefIdeal.τ).loc Cert.AdamNormMemRefIdeal.main_arg3))

def preserves_AdamNormMlp_AdamNormMlpIdeal : Prop :=
  True

def algebraic_AdamNormMlpIdeal_AdamNormMlpRefIdeal [hAdamNormMlpIdeal : Cert.AdamNormMlpIdeal.Facts] [hAdamNormMlpRefIdeal : Cert.AdamNormMlpRefIdeal.Facts] : Prop :=
  ∀ (m : (ℓ : Loc Cert.AdamNormMlpIdeal.nD Cert.AdamNormMlpIdeal.τ Cert.AdamNormMlpIdeal.sig) → Buf (Elt Ideal) ℓ) (g : Dev Cert.AdamNormMlpIdeal.nD → PrngReg)
    (m' : (ℓ : Loc Cert.AdamNormMlpRefIdeal.nD Cert.AdamNormMlpRefIdeal.τ Cert.AdamNormMlpRefIdeal.sig) → Buf (Elt Ideal) ℓ) (g' : Dev Cert.AdamNormMlpRefIdeal.nD → PrngReg), Pre_AdamNormMlpIdeal m →
    (∀ c : Dev Cert.AdamNormMlpIdeal.nD,
      m' ((c.tc : Thread Cert.AdamNormMlpRefIdeal.nD Cert.AdamNormMlpRefIdeal.τ).loc Cert.AdamNormMlpRefIdeal.main_arg0) = m ((c.tc : Thread Cert.AdamNormMlpIdeal.nD Cert.AdamNormMlpIdeal.τ).loc Cert.AdamNormMlpIdeal.main_arg0)
      ∧ m' ((c.tc : Thread Cert.AdamNormMlpRefIdeal.nD Cert.AdamNormMlpRefIdeal.τ).loc Cert.AdamNormMlpRefIdeal.main_arg1) = m ((c.tc : Thread Cert.AdamNormMlpIdeal.nD Cert.AdamNormMlpIdeal.τ).loc Cert.AdamNormMlpIdeal.main_arg1)
      ∧ m' ((c.tc : Thread Cert.AdamNormMlpRefIdeal.nD Cert.AdamNormMlpRefIdeal.τ).loc Cert.AdamNormMlpRefIdeal.main_arg2) = m ((c.tc : Thread Cert.AdamNormMlpIdeal.nD Cert.AdamNormMlpIdeal.τ).loc Cert.AdamNormMlpIdeal.main_arg2)
      ∧ m' ((c.tc : Thread Cert.AdamNormMlpRefIdeal.nD Cert.AdamNormMlpRefIdeal.τ).loc Cert.AdamNormMlpRefIdeal.main_arg3) = m ((c.tc : Thread Cert.AdamNormMlpIdeal.nD Cert.AdamNormMlpIdeal.τ).loc Cert.AdamNormMlpIdeal.main_arg3)) →
    ∃ (v0 : (c : Dev Cert.AdamNormMlpIdeal.nD) → Buf (Elt Ideal) ((c.tc : Thread Cert.AdamNormMlpIdeal.nD Cert.AdamNormMlpIdeal.τ).loc Cert.AdamNormMlpIdeal.main_v0_0)) (v1 : (c : Dev Cert.AdamNormMlpIdeal.nD) → Buf (Elt Ideal) ((c.tc : Thread Cert.AdamNormMlpIdeal.nD Cert.AdamNormMlpIdeal.τ).loc Cert.AdamNormMlpIdeal.main_v0_1)) (v2 : (c : Dev Cert.AdamNormMlpIdeal.nD) → Buf (Elt Ideal) ((c.tc : Thread Cert.AdamNormMlpIdeal.nD Cert.AdamNormMlpIdeal.τ).loc Cert.AdamNormMlpIdeal.main_v0_2)),
      θ_run (Cert.AdamNormMlpIdeal.defs (F := Ideal)) (onTc (τ := Cert.AdamNormMlpIdeal.τ) (Cert.AdamNormMlpIdeal.main (F := Ideal))) ⟨m, fun _ => 0, g⟩ (fun r => ∀ c : Dev Cert.AdamNormMlpIdeal.nD,
          r.2.mem ((c.tc : Thread Cert.AdamNormMlpIdeal.nD Cert.AdamNormMlpIdeal.τ).loc Cert.AdamNormMlpIdeal.main_v0_0) = v0 c
          ∧ r.2.mem ((c.tc : Thread Cert.AdamNormMlpIdeal.nD Cert.AdamNormMlpIdeal.τ).loc Cert.AdamNormMlpIdeal.main_v0_1) = v1 c
          ∧ r.2.mem ((c.tc : Thread Cert.AdamNormMlpIdeal.nD Cert.AdamNormMlpIdeal.τ).loc Cert.AdamNormMlpIdeal.main_v0_2) = v2 c
          ∧ r.2.mem ((c.tc : Thread Cert.AdamNormMlpIdeal.nD Cert.AdamNormMlpIdeal.τ).loc Cert.AdamNormMlpIdeal.main_arg0) = m ((c.tc : Thread Cert.AdamNormMlpIdeal.nD Cert.AdamNormMlpIdeal.τ).loc Cert.AdamNormMlpIdeal.main_arg0)
          ∧ r.2.mem ((c.tc : Thread Cert.AdamNormMlpIdeal.nD Cert.AdamNormMlpIdeal.τ).loc Cert.AdamNormMlpIdeal.main_arg1) = m ((c.tc : Thread Cert.AdamNormMlpIdeal.nD Cert.AdamNormMlpIdeal.τ).loc Cert.AdamNormMlpIdeal.main_arg1)
          ∧ r.2.mem ((c.tc : Thread Cert.AdamNormMlpIdeal.nD Cert.AdamNormMlpIdeal.τ).loc Cert.AdamNormMlpIdeal.main_arg2) = m ((c.tc : Thread Cert.AdamNormMlpIdeal.nD Cert.AdamNormMlpIdeal.τ).loc Cert.AdamNormMlpIdeal.main_arg2)
          ∧ r.2.mem ((c.tc : Thread Cert.AdamNormMlpIdeal.nD Cert.AdamNormMlpIdeal.τ).loc Cert.AdamNormMlpIdeal.main_arg3) = m ((c.tc : Thread Cert.AdamNormMlpIdeal.nD Cert.AdamNormMlpIdeal.τ).loc Cert.AdamNormMlpIdeal.main_arg3))
      ∧ θ_run (Cert.AdamNormMlpRefIdeal.defs (F := Ideal)) (onTc (τ := Cert.AdamNormMlpRefIdeal.τ) (Cert.AdamNormMlpRefIdeal.main (F := Ideal))) ⟨m', fun _ => 0, g'⟩ (fun r => ∀ c : Dev Cert.AdamNormMlpRefIdeal.nD,
          r.2.mem ((c.tc : Thread Cert.AdamNormMlpRefIdeal.nD Cert.AdamNormMlpRefIdeal.τ).loc Cert.AdamNormMlpRefIdeal.main_v23) = v0 c
          ∧ r.2.mem ((c.tc : Thread Cert.AdamNormMlpRefIdeal.nD Cert.AdamNormMlpRefIdeal.τ).loc Cert.AdamNormMlpRefIdeal.main_v4) = v1 c
          ∧ r.2.mem ((c.tc : Thread Cert.AdamNormMlpRefIdeal.nD Cert.AdamNormMlpRefIdeal.τ).loc Cert.AdamNormMlpRefIdeal.main_v10) = v2 c
          ∧ r.2.mem ((c.tc : Thread Cert.AdamNormMlpRefIdeal.nD Cert.AdamNormMlpRefIdeal.τ).loc Cert.AdamNormMlpRefIdeal.main_arg0) = m' ((c.tc : Thread Cert.AdamNormMlpRefIdeal.nD Cert.AdamNormMlpRefIdeal.τ).loc Cert.AdamNormMlpRefIdeal.main_arg0)
          ∧ r.2.mem ((c.tc : Thread Cert.AdamNormMlpRefIdeal.nD Cert.AdamNormMlpRefIdeal.τ).loc Cert.AdamNormMlpRefIdeal.main_arg1) = m' ((c.tc : Thread Cert.AdamNormMlpRefIdeal.nD Cert.AdamNormMlpRefIdeal.τ).loc Cert.AdamNormMlpRefIdeal.main_arg1)
          ∧ r.2.mem ((c.tc : Thread Cert.AdamNormMlpRefIdeal.nD Cert.AdamNormMlpRefIdeal.τ).loc Cert.AdamNormMlpRefIdeal.main_arg2) = m' ((c.tc : Thread Cert.AdamNormMlpRefIdeal.nD Cert.AdamNormMlpRefIdeal.τ).loc Cert.AdamNormMlpRefIdeal.main_arg2)
          ∧ r.2.mem ((c.tc : Thread Cert.AdamNormMlpRefIdeal.nD Cert.AdamNormMlpRefIdeal.τ).loc Cert.AdamNormMlpRefIdeal.main_arg3) = m' ((c.tc : Thread Cert.AdamNormMlpRefIdeal.nD Cert.AdamNormMlpRefIdeal.τ).loc Cert.AdamNormMlpRefIdeal.main_arg3))

def preserves_AdamNormFinal_AdamNormFinalIdeal : Prop :=
  True

def algebraic_AdamNormFinalIdeal_AdamNormFinalRefIdeal [hAdamNormFinalIdeal : Cert.AdamNormFinalIdeal.Facts] [hAdamNormFinalRefIdeal : Cert.AdamNormFinalRefIdeal.Facts] : Prop :=
  ∀ (m : (ℓ : Loc Cert.AdamNormFinalIdeal.nD Cert.AdamNormFinalIdeal.τ Cert.AdamNormFinalIdeal.sig) → Buf (Elt Ideal) ℓ) (g : Dev Cert.AdamNormFinalIdeal.nD → PrngReg)
    (m' : (ℓ : Loc Cert.AdamNormFinalRefIdeal.nD Cert.AdamNormFinalRefIdeal.τ Cert.AdamNormFinalRefIdeal.sig) → Buf (Elt Ideal) ℓ) (g' : Dev Cert.AdamNormFinalRefIdeal.nD → PrngReg), Pre_AdamNormFinalIdeal m →
    (∀ c : Dev Cert.AdamNormFinalIdeal.nD,
      m' ((c.tc : Thread Cert.AdamNormFinalRefIdeal.nD Cert.AdamNormFinalRefIdeal.τ).loc Cert.AdamNormFinalRefIdeal.main_arg0) = m ((c.tc : Thread Cert.AdamNormFinalIdeal.nD Cert.AdamNormFinalIdeal.τ).loc Cert.AdamNormFinalIdeal.main_arg0)
      ∧ m' ((c.tc : Thread Cert.AdamNormFinalRefIdeal.nD Cert.AdamNormFinalRefIdeal.τ).loc Cert.AdamNormFinalRefIdeal.main_arg1) = m ((c.tc : Thread Cert.AdamNormFinalIdeal.nD Cert.AdamNormFinalIdeal.τ).loc Cert.AdamNormFinalIdeal.main_arg1)
      ∧ m' ((c.tc : Thread Cert.AdamNormFinalRefIdeal.nD Cert.AdamNormFinalRefIdeal.τ).loc Cert.AdamNormFinalRefIdeal.main_arg2) = m ((c.tc : Thread Cert.AdamNormFinalIdeal.nD Cert.AdamNormFinalIdeal.τ).loc Cert.AdamNormFinalIdeal.main_arg2)
      ∧ m' ((c.tc : Thread Cert.AdamNormFinalRefIdeal.nD Cert.AdamNormFinalRefIdeal.τ).loc Cert.AdamNormFinalRefIdeal.main_arg3) = m ((c.tc : Thread Cert.AdamNormFinalIdeal.nD Cert.AdamNormFinalIdeal.τ).loc Cert.AdamNormFinalIdeal.main_arg3)) →
    ∃ (v0 : (c : Dev Cert.AdamNormFinalIdeal.nD) → Buf (Elt Ideal) ((c.tc : Thread Cert.AdamNormFinalIdeal.nD Cert.AdamNormFinalIdeal.τ).loc Cert.AdamNormFinalIdeal.main_v4_0)) (v1 : (c : Dev Cert.AdamNormFinalIdeal.nD) → Buf (Elt Ideal) ((c.tc : Thread Cert.AdamNormFinalIdeal.nD Cert.AdamNormFinalIdeal.τ).loc Cert.AdamNormFinalIdeal.main_v4_1)) (v2 : (c : Dev Cert.AdamNormFinalIdeal.nD) → Buf (Elt Ideal) ((c.tc : Thread Cert.AdamNormFinalIdeal.nD Cert.AdamNormFinalIdeal.τ).loc Cert.AdamNormFinalIdeal.main_v4_2)),
      θ_run (Cert.AdamNormFinalIdeal.defs (F := Ideal)) (onTc (τ := Cert.AdamNormFinalIdeal.τ) (Cert.AdamNormFinalIdeal.main (F := Ideal))) ⟨m, fun _ => 0, g⟩ (fun r => ∀ c : Dev Cert.AdamNormFinalIdeal.nD,
          r.2.mem ((c.tc : Thread Cert.AdamNormFinalIdeal.nD Cert.AdamNormFinalIdeal.τ).loc Cert.AdamNormFinalIdeal.main_v4_0) = v0 c
          ∧ r.2.mem ((c.tc : Thread Cert.AdamNormFinalIdeal.nD Cert.AdamNormFinalIdeal.τ).loc Cert.AdamNormFinalIdeal.main_v4_1) = v1 c
          ∧ r.2.mem ((c.tc : Thread Cert.AdamNormFinalIdeal.nD Cert.AdamNormFinalIdeal.τ).loc Cert.AdamNormFinalIdeal.main_v4_2) = v2 c
          ∧ r.2.mem ((c.tc : Thread Cert.AdamNormFinalIdeal.nD Cert.AdamNormFinalIdeal.τ).loc Cert.AdamNormFinalIdeal.main_arg0) = m ((c.tc : Thread Cert.AdamNormFinalIdeal.nD Cert.AdamNormFinalIdeal.τ).loc Cert.AdamNormFinalIdeal.main_arg0)
          ∧ r.2.mem ((c.tc : Thread Cert.AdamNormFinalIdeal.nD Cert.AdamNormFinalIdeal.τ).loc Cert.AdamNormFinalIdeal.main_arg1) = m ((c.tc : Thread Cert.AdamNormFinalIdeal.nD Cert.AdamNormFinalIdeal.τ).loc Cert.AdamNormFinalIdeal.main_arg1)
          ∧ r.2.mem ((c.tc : Thread Cert.AdamNormFinalIdeal.nD Cert.AdamNormFinalIdeal.τ).loc Cert.AdamNormFinalIdeal.main_arg2) = m ((c.tc : Thread Cert.AdamNormFinalIdeal.nD Cert.AdamNormFinalIdeal.τ).loc Cert.AdamNormFinalIdeal.main_arg2)
          ∧ r.2.mem ((c.tc : Thread Cert.AdamNormFinalIdeal.nD Cert.AdamNormFinalIdeal.τ).loc Cert.AdamNormFinalIdeal.main_arg3) = m ((c.tc : Thread Cert.AdamNormFinalIdeal.nD Cert.AdamNormFinalIdeal.τ).loc Cert.AdamNormFinalIdeal.main_arg3))
      ∧ θ_run (Cert.AdamNormFinalRefIdeal.defs (F := Ideal)) (onTc (τ := Cert.AdamNormFinalRefIdeal.τ) (Cert.AdamNormFinalRefIdeal.main (F := Ideal))) ⟨m', fun _ => 0, g'⟩ (fun r => ∀ c : Dev Cert.AdamNormFinalRefIdeal.nD,
          r.2.mem ((c.tc : Thread Cert.AdamNormFinalRefIdeal.nD Cert.AdamNormFinalRefIdeal.τ).loc Cert.AdamNormFinalRefIdeal.main_v24) = v0 c
          ∧ r.2.mem ((c.tc : Thread Cert.AdamNormFinalRefIdeal.nD Cert.AdamNormFinalRefIdeal.τ).loc Cert.AdamNormFinalRefIdeal.main_v25) = v1 c
          ∧ r.2.mem ((c.tc : Thread Cert.AdamNormFinalRefIdeal.nD Cert.AdamNormFinalRefIdeal.τ).loc Cert.AdamNormFinalRefIdeal.main_v26) = v2 c
          ∧ r.2.mem ((c.tc : Thread Cert.AdamNormFinalRefIdeal.nD Cert.AdamNormFinalRefIdeal.τ).loc Cert.AdamNormFinalRefIdeal.main_arg0) = m' ((c.tc : Thread Cert.AdamNormFinalRefIdeal.nD Cert.AdamNormFinalRefIdeal.τ).loc Cert.AdamNormFinalRefIdeal.main_arg0)
          ∧ r.2.mem ((c.tc : Thread Cert.AdamNormFinalRefIdeal.nD Cert.AdamNormFinalRefIdeal.τ).loc Cert.AdamNormFinalRefIdeal.main_arg1) = m' ((c.tc : Thread Cert.AdamNormFinalRefIdeal.nD Cert.AdamNormFinalRefIdeal.τ).loc Cert.AdamNormFinalRefIdeal.main_arg1)
          ∧ r.2.mem ((c.tc : Thread Cert.AdamNormFinalRefIdeal.nD Cert.AdamNormFinalRefIdeal.τ).loc Cert.AdamNormFinalRefIdeal.main_arg2) = m' ((c.tc : Thread Cert.AdamNormFinalRefIdeal.nD Cert.AdamNormFinalRefIdeal.τ).loc Cert.AdamNormFinalRefIdeal.main_arg2)
          ∧ r.2.mem ((c.tc : Thread Cert.AdamNormFinalRefIdeal.nD Cert.AdamNormFinalRefIdeal.τ).loc Cert.AdamNormFinalRefIdeal.main_arg3) = m' ((c.tc : Thread Cert.AdamNormFinalRefIdeal.nD Cert.AdamNormFinalRefIdeal.τ).loc Cert.AdamNormFinalRefIdeal.main_arg3))

def preserves_AdamSsdConvB_AdamSsdConvBIdeal : Prop :=
  True

def algebraic_AdamSsdConvBIdeal_AdamSsdConvBRefIdeal [hAdamSsdConvBIdeal : Cert.AdamSsdConvBIdeal.Facts] [hAdamSsdConvBRefIdeal : Cert.AdamSsdConvBRefIdeal.Facts] : Prop :=
  ∀ (m : (ℓ : Loc Cert.AdamSsdConvBIdeal.nD Cert.AdamSsdConvBIdeal.τ Cert.AdamSsdConvBIdeal.sig) → Buf (Elt Ideal) ℓ) (g : Dev Cert.AdamSsdConvBIdeal.nD → PrngReg)
    (m' : (ℓ : Loc Cert.AdamSsdConvBRefIdeal.nD Cert.AdamSsdConvBRefIdeal.τ Cert.AdamSsdConvBRefIdeal.sig) → Buf (Elt Ideal) ℓ) (g' : Dev Cert.AdamSsdConvBRefIdeal.nD → PrngReg), Pre_AdamSsdConvBIdeal m →
    (∀ c : Dev Cert.AdamSsdConvBIdeal.nD,
      m' ((c.tc : Thread Cert.AdamSsdConvBRefIdeal.nD Cert.AdamSsdConvBRefIdeal.τ).loc Cert.AdamSsdConvBRefIdeal.main_arg0) = m ((c.tc : Thread Cert.AdamSsdConvBIdeal.nD Cert.AdamSsdConvBIdeal.τ).loc Cert.AdamSsdConvBIdeal.main_arg0)
      ∧ m' ((c.tc : Thread Cert.AdamSsdConvBRefIdeal.nD Cert.AdamSsdConvBRefIdeal.τ).loc Cert.AdamSsdConvBRefIdeal.main_arg1) = m ((c.tc : Thread Cert.AdamSsdConvBIdeal.nD Cert.AdamSsdConvBIdeal.τ).loc Cert.AdamSsdConvBIdeal.main_arg1)
      ∧ m' ((c.tc : Thread Cert.AdamSsdConvBRefIdeal.nD Cert.AdamSsdConvBRefIdeal.τ).loc Cert.AdamSsdConvBRefIdeal.main_arg2) = m ((c.tc : Thread Cert.AdamSsdConvBIdeal.nD Cert.AdamSsdConvBIdeal.τ).loc Cert.AdamSsdConvBIdeal.main_arg2)
      ∧ m' ((c.tc : Thread Cert.AdamSsdConvBRefIdeal.nD Cert.AdamSsdConvBRefIdeal.τ).loc Cert.AdamSsdConvBRefIdeal.main_arg3) = m ((c.tc : Thread Cert.AdamSsdConvBIdeal.nD Cert.AdamSsdConvBIdeal.τ).loc Cert.AdamSsdConvBIdeal.main_arg3)) →
    ∃ (v0 : (c : Dev Cert.AdamSsdConvBIdeal.nD) → Buf (Elt Ideal) ((c.tc : Thread Cert.AdamSsdConvBIdeal.nD Cert.AdamSsdConvBIdeal.τ).loc Cert.AdamSsdConvBIdeal.main_v0_0)) (v1 : (c : Dev Cert.AdamSsdConvBIdeal.nD) → Buf (Elt Ideal) ((c.tc : Thread Cert.AdamSsdConvBIdeal.nD Cert.AdamSsdConvBIdeal.τ).loc Cert.AdamSsdConvBIdeal.main_v0_1)) (v2 : (c : Dev Cert.AdamSsdConvBIdeal.nD) → Buf (Elt Ideal) ((c.tc : Thread Cert.AdamSsdConvBIdeal.nD Cert.AdamSsdConvBIdeal.τ).loc Cert.AdamSsdConvBIdeal.main_v0_2)),
      θ_run (Cert.AdamSsdConvBIdeal.defs (F := Ideal)) (onTc (τ := Cert.AdamSsdConvBIdeal.τ) (Cert.AdamSsdConvBIdeal.main (F := Ideal))) ⟨m, fun _ => 0, g⟩ (fun r => ∀ c : Dev Cert.AdamSsdConvBIdeal.nD,
          r.2.mem ((c.tc : Thread Cert.AdamSsdConvBIdeal.nD Cert.AdamSsdConvBIdeal.τ).loc Cert.AdamSsdConvBIdeal.main_v0_0) = v0 c
          ∧ r.2.mem ((c.tc : Thread Cert.AdamSsdConvBIdeal.nD Cert.AdamSsdConvBIdeal.τ).loc Cert.AdamSsdConvBIdeal.main_v0_1) = v1 c
          ∧ r.2.mem ((c.tc : Thread Cert.AdamSsdConvBIdeal.nD Cert.AdamSsdConvBIdeal.τ).loc Cert.AdamSsdConvBIdeal.main_v0_2) = v2 c
          ∧ r.2.mem ((c.tc : Thread Cert.AdamSsdConvBIdeal.nD Cert.AdamSsdConvBIdeal.τ).loc Cert.AdamSsdConvBIdeal.main_arg0) = m ((c.tc : Thread Cert.AdamSsdConvBIdeal.nD Cert.AdamSsdConvBIdeal.τ).loc Cert.AdamSsdConvBIdeal.main_arg0)
          ∧ r.2.mem ((c.tc : Thread Cert.AdamSsdConvBIdeal.nD Cert.AdamSsdConvBIdeal.τ).loc Cert.AdamSsdConvBIdeal.main_arg1) = m ((c.tc : Thread Cert.AdamSsdConvBIdeal.nD Cert.AdamSsdConvBIdeal.τ).loc Cert.AdamSsdConvBIdeal.main_arg1)
          ∧ r.2.mem ((c.tc : Thread Cert.AdamSsdConvBIdeal.nD Cert.AdamSsdConvBIdeal.τ).loc Cert.AdamSsdConvBIdeal.main_arg2) = m ((c.tc : Thread Cert.AdamSsdConvBIdeal.nD Cert.AdamSsdConvBIdeal.τ).loc Cert.AdamSsdConvBIdeal.main_arg2)
          ∧ r.2.mem ((c.tc : Thread Cert.AdamSsdConvBIdeal.nD Cert.AdamSsdConvBIdeal.τ).loc Cert.AdamSsdConvBIdeal.main_arg3) = m ((c.tc : Thread Cert.AdamSsdConvBIdeal.nD Cert.AdamSsdConvBIdeal.τ).loc Cert.AdamSsdConvBIdeal.main_arg3))
      ∧ θ_run (Cert.AdamSsdConvBRefIdeal.defs (F := Ideal)) (onTc (τ := Cert.AdamSsdConvBRefIdeal.τ) (Cert.AdamSsdConvBRefIdeal.main (F := Ideal))) ⟨m', fun _ => 0, g'⟩ (fun r => ∀ c : Dev Cert.AdamSsdConvBRefIdeal.nD,
          r.2.mem ((c.tc : Thread Cert.AdamSsdConvBRefIdeal.nD Cert.AdamSsdConvBRefIdeal.τ).loc Cert.AdamSsdConvBRefIdeal.main_v23) = v0 c
          ∧ r.2.mem ((c.tc : Thread Cert.AdamSsdConvBRefIdeal.nD Cert.AdamSsdConvBRefIdeal.τ).loc Cert.AdamSsdConvBRefIdeal.main_v4) = v1 c
          ∧ r.2.mem ((c.tc : Thread Cert.AdamSsdConvBRefIdeal.nD Cert.AdamSsdConvBRefIdeal.τ).loc Cert.AdamSsdConvBRefIdeal.main_v10) = v2 c
          ∧ r.2.mem ((c.tc : Thread Cert.AdamSsdConvBRefIdeal.nD Cert.AdamSsdConvBRefIdeal.τ).loc Cert.AdamSsdConvBRefIdeal.main_arg0) = m' ((c.tc : Thread Cert.AdamSsdConvBRefIdeal.nD Cert.AdamSsdConvBRefIdeal.τ).loc Cert.AdamSsdConvBRefIdeal.main_arg0)
          ∧ r.2.mem ((c.tc : Thread Cert.AdamSsdConvBRefIdeal.nD Cert.AdamSsdConvBRefIdeal.τ).loc Cert.AdamSsdConvBRefIdeal.main_arg1) = m' ((c.tc : Thread Cert.AdamSsdConvBRefIdeal.nD Cert.AdamSsdConvBRefIdeal.τ).loc Cert.AdamSsdConvBRefIdeal.main_arg1)
          ∧ r.2.mem ((c.tc : Thread Cert.AdamSsdConvBRefIdeal.nD Cert.AdamSsdConvBRefIdeal.τ).loc Cert.AdamSsdConvBRefIdeal.main_arg2) = m' ((c.tc : Thread Cert.AdamSsdConvBRefIdeal.nD Cert.AdamSsdConvBRefIdeal.τ).loc Cert.AdamSsdConvBRefIdeal.main_arg2)
          ∧ r.2.mem ((c.tc : Thread Cert.AdamSsdConvBRefIdeal.nD Cert.AdamSsdConvBRefIdeal.τ).loc Cert.AdamSsdConvBRefIdeal.main_arg3) = m' ((c.tc : Thread Cert.AdamSsdConvBRefIdeal.nD Cert.AdamSsdConvBRefIdeal.τ).loc Cert.AdamSsdConvBRefIdeal.main_arg3))

def preserves_AdamS5ARe_AdamS5AReIdeal : Prop :=
  True

def algebraic_AdamS5AReIdeal_AdamS5AReRefIdeal [hAdamS5AReIdeal : Cert.AdamS5AReIdeal.Facts] [hAdamS5AReRefIdeal : Cert.AdamS5AReRefIdeal.Facts] : Prop :=
  ∀ (m : (ℓ : Loc Cert.AdamS5AReIdeal.nD Cert.AdamS5AReIdeal.τ Cert.AdamS5AReIdeal.sig) → Buf (Elt Ideal) ℓ) (g : Dev Cert.AdamS5AReIdeal.nD → PrngReg)
    (m' : (ℓ : Loc Cert.AdamS5AReRefIdeal.nD Cert.AdamS5AReRefIdeal.τ Cert.AdamS5AReRefIdeal.sig) → Buf (Elt Ideal) ℓ) (g' : Dev Cert.AdamS5AReRefIdeal.nD → PrngReg), Pre_AdamS5AReIdeal m →
    (∀ c : Dev Cert.AdamS5AReIdeal.nD,
      m' ((c.tc : Thread Cert.AdamS5AReRefIdeal.nD Cert.AdamS5AReRefIdeal.τ).loc Cert.AdamS5AReRefIdeal.main_arg0) = m ((c.tc : Thread Cert.AdamS5AReIdeal.nD Cert.AdamS5AReIdeal.τ).loc Cert.AdamS5AReIdeal.main_arg0)
      ∧ m' ((c.tc : Thread Cert.AdamS5AReRefIdeal.nD Cert.AdamS5AReRefIdeal.τ).loc Cert.AdamS5AReRefIdeal.main_arg1) = m ((c.tc : Thread Cert.AdamS5AReIdeal.nD Cert.AdamS5AReIdeal.τ).loc Cert.AdamS5AReIdeal.main_arg1)
      ∧ m' ((c.tc : Thread Cert.AdamS5AReRefIdeal.nD Cert.AdamS5AReRefIdeal.τ).loc Cert.AdamS5AReRefIdeal.main_arg2) = m ((c.tc : Thread Cert.AdamS5AReIdeal.nD Cert.AdamS5AReIdeal.τ).loc Cert.AdamS5AReIdeal.main_arg2)
      ∧ m' ((c.tc : Thread Cert.AdamS5AReRefIdeal.nD Cert.AdamS5AReRefIdeal.τ).loc Cert.AdamS5AReRefIdeal.main_arg3) = m ((c.tc : Thread Cert.AdamS5AReIdeal.nD Cert.AdamS5AReIdeal.τ).loc Cert.AdamS5AReIdeal.main_arg3)) →
    ∃ (v0 : (c : Dev Cert.AdamS5AReIdeal.nD) → Buf (Elt Ideal) ((c.tc : Thread Cert.AdamS5AReIdeal.nD Cert.AdamS5AReIdeal.τ).loc Cert.AdamS5AReIdeal.main_v4_0)) (v1 : (c : Dev Cert.AdamS5AReIdeal.nD) → Buf (Elt Ideal) ((c.tc : Thread Cert.AdamS5AReIdeal.nD Cert.AdamS5AReIdeal.τ).loc Cert.AdamS5AReIdeal.main_v4_1)) (v2 : (c : Dev Cert.AdamS5AReIdeal.nD) → Buf (Elt Ideal) ((c.tc : Thread Cert.AdamS5AReIdeal.nD Cert.AdamS5AReIdeal.τ).loc Cert.AdamS5AReIdeal.main_v4_2)),
      θ_run (Cert.AdamS5AReIdeal.defs (F := Ideal)) (onTc (τ := Cert.AdamS5AReIdeal.τ) (Cert.AdamS5AReIdeal.main (F := Ideal))) ⟨m, fun _ => 0, g⟩ (fun r => ∀ c : Dev Cert.AdamS5AReIdeal.nD,
          r.2.mem ((c.tc : Thread Cert.AdamS5AReIdeal.nD Cert.AdamS5AReIdeal.τ).loc Cert.AdamS5AReIdeal.main_v4_0) = v0 c
          ∧ r.2.mem ((c.tc : Thread Cert.AdamS5AReIdeal.nD Cert.AdamS5AReIdeal.τ).loc Cert.AdamS5AReIdeal.main_v4_1) = v1 c
          ∧ r.2.mem ((c.tc : Thread Cert.AdamS5AReIdeal.nD Cert.AdamS5AReIdeal.τ).loc Cert.AdamS5AReIdeal.main_v4_2) = v2 c
          ∧ r.2.mem ((c.tc : Thread Cert.AdamS5AReIdeal.nD Cert.AdamS5AReIdeal.τ).loc Cert.AdamS5AReIdeal.main_arg0) = m ((c.tc : Thread Cert.AdamS5AReIdeal.nD Cert.AdamS5AReIdeal.τ).loc Cert.AdamS5AReIdeal.main_arg0)
          ∧ r.2.mem ((c.tc : Thread Cert.AdamS5AReIdeal.nD Cert.AdamS5AReIdeal.τ).loc Cert.AdamS5AReIdeal.main_arg1) = m ((c.tc : Thread Cert.AdamS5AReIdeal.nD Cert.AdamS5AReIdeal.τ).loc Cert.AdamS5AReIdeal.main_arg1)
          ∧ r.2.mem ((c.tc : Thread Cert.AdamS5AReIdeal.nD Cert.AdamS5AReIdeal.τ).loc Cert.AdamS5AReIdeal.main_arg2) = m ((c.tc : Thread Cert.AdamS5AReIdeal.nD Cert.AdamS5AReIdeal.τ).loc Cert.AdamS5AReIdeal.main_arg2)
          ∧ r.2.mem ((c.tc : Thread Cert.AdamS5AReIdeal.nD Cert.AdamS5AReIdeal.τ).loc Cert.AdamS5AReIdeal.main_arg3) = m ((c.tc : Thread Cert.AdamS5AReIdeal.nD Cert.AdamS5AReIdeal.τ).loc Cert.AdamS5AReIdeal.main_arg3))
      ∧ θ_run (Cert.AdamS5AReRefIdeal.defs (F := Ideal)) (onTc (τ := Cert.AdamS5AReRefIdeal.τ) (Cert.AdamS5AReRefIdeal.main (F := Ideal))) ⟨m', fun _ => 0, g'⟩ (fun r => ∀ c : Dev Cert.AdamS5AReRefIdeal.nD,
          r.2.mem ((c.tc : Thread Cert.AdamS5AReRefIdeal.nD Cert.AdamS5AReRefIdeal.τ).loc Cert.AdamS5AReRefIdeal.main_v24) = v0 c
          ∧ r.2.mem ((c.tc : Thread Cert.AdamS5AReRefIdeal.nD Cert.AdamS5AReRefIdeal.τ).loc Cert.AdamS5AReRefIdeal.main_v25) = v1 c
          ∧ r.2.mem ((c.tc : Thread Cert.AdamS5AReRefIdeal.nD Cert.AdamS5AReRefIdeal.τ).loc Cert.AdamS5AReRefIdeal.main_v26) = v2 c
          ∧ r.2.mem ((c.tc : Thread Cert.AdamS5AReRefIdeal.nD Cert.AdamS5AReRefIdeal.τ).loc Cert.AdamS5AReRefIdeal.main_arg0) = m' ((c.tc : Thread Cert.AdamS5AReRefIdeal.nD Cert.AdamS5AReRefIdeal.τ).loc Cert.AdamS5AReRefIdeal.main_arg0)
          ∧ r.2.mem ((c.tc : Thread Cert.AdamS5AReRefIdeal.nD Cert.AdamS5AReRefIdeal.τ).loc Cert.AdamS5AReRefIdeal.main_arg1) = m' ((c.tc : Thread Cert.AdamS5AReRefIdeal.nD Cert.AdamS5AReRefIdeal.τ).loc Cert.AdamS5AReRefIdeal.main_arg1)
          ∧ r.2.mem ((c.tc : Thread Cert.AdamS5AReRefIdeal.nD Cert.AdamS5AReRefIdeal.τ).loc Cert.AdamS5AReRefIdeal.main_arg2) = m' ((c.tc : Thread Cert.AdamS5AReRefIdeal.nD Cert.AdamS5AReRefIdeal.τ).loc Cert.AdamS5AReRefIdeal.main_arg2)
          ∧ r.2.mem ((c.tc : Thread Cert.AdamS5AReRefIdeal.nD Cert.AdamS5AReRefIdeal.τ).loc Cert.AdamS5AReRefIdeal.main_arg3) = m' ((c.tc : Thread Cert.AdamS5AReRefIdeal.nD Cert.AdamS5AReRefIdeal.τ).loc Cert.AdamS5AReRefIdeal.main_arg3))

def preserves_AdamS5AIm_AdamS5AImIdeal : Prop :=
  True

def algebraic_AdamS5AImIdeal_AdamS5AImRefIdeal [hAdamS5AImIdeal : Cert.AdamS5AImIdeal.Facts] [hAdamS5AImRefIdeal : Cert.AdamS5AImRefIdeal.Facts] : Prop :=
  ∀ (m : (ℓ : Loc Cert.AdamS5AImIdeal.nD Cert.AdamS5AImIdeal.τ Cert.AdamS5AImIdeal.sig) → Buf (Elt Ideal) ℓ) (g : Dev Cert.AdamS5AImIdeal.nD → PrngReg)
    (m' : (ℓ : Loc Cert.AdamS5AImRefIdeal.nD Cert.AdamS5AImRefIdeal.τ Cert.AdamS5AImRefIdeal.sig) → Buf (Elt Ideal) ℓ) (g' : Dev Cert.AdamS5AImRefIdeal.nD → PrngReg), Pre_AdamS5AImIdeal m →
    (∀ c : Dev Cert.AdamS5AImIdeal.nD,
      m' ((c.tc : Thread Cert.AdamS5AImRefIdeal.nD Cert.AdamS5AImRefIdeal.τ).loc Cert.AdamS5AImRefIdeal.main_arg0) = m ((c.tc : Thread Cert.AdamS5AImIdeal.nD Cert.AdamS5AImIdeal.τ).loc Cert.AdamS5AImIdeal.main_arg0)
      ∧ m' ((c.tc : Thread Cert.AdamS5AImRefIdeal.nD Cert.AdamS5AImRefIdeal.τ).loc Cert.AdamS5AImRefIdeal.main_arg1) = m ((c.tc : Thread Cert.AdamS5AImIdeal.nD Cert.AdamS5AImIdeal.τ).loc Cert.AdamS5AImIdeal.main_arg1)
      ∧ m' ((c.tc : Thread Cert.AdamS5AImRefIdeal.nD Cert.AdamS5AImRefIdeal.τ).loc Cert.AdamS5AImRefIdeal.main_arg2) = m ((c.tc : Thread Cert.AdamS5AImIdeal.nD Cert.AdamS5AImIdeal.τ).loc Cert.AdamS5AImIdeal.main_arg2)
      ∧ m' ((c.tc : Thread Cert.AdamS5AImRefIdeal.nD Cert.AdamS5AImRefIdeal.τ).loc Cert.AdamS5AImRefIdeal.main_arg3) = m ((c.tc : Thread Cert.AdamS5AImIdeal.nD Cert.AdamS5AImIdeal.τ).loc Cert.AdamS5AImIdeal.main_arg3)) →
    ∃ (v0 : (c : Dev Cert.AdamS5AImIdeal.nD) → Buf (Elt Ideal) ((c.tc : Thread Cert.AdamS5AImIdeal.nD Cert.AdamS5AImIdeal.τ).loc Cert.AdamS5AImIdeal.main_v4_0)) (v1 : (c : Dev Cert.AdamS5AImIdeal.nD) → Buf (Elt Ideal) ((c.tc : Thread Cert.AdamS5AImIdeal.nD Cert.AdamS5AImIdeal.τ).loc Cert.AdamS5AImIdeal.main_v4_1)) (v2 : (c : Dev Cert.AdamS5AImIdeal.nD) → Buf (Elt Ideal) ((c.tc : Thread Cert.AdamS5AImIdeal.nD Cert.AdamS5AImIdeal.τ).loc Cert.AdamS5AImIdeal.main_v4_2)),
      θ_run (Cert.AdamS5AImIdeal.defs (F := Ideal)) (onTc (τ := Cert.AdamS5AImIdeal.τ) (Cert.AdamS5AImIdeal.main (F := Ideal))) ⟨m, fun _ => 0, g⟩ (fun r => ∀ c : Dev Cert.AdamS5AImIdeal.nD,
          r.2.mem ((c.tc : Thread Cert.AdamS5AImIdeal.nD Cert.AdamS5AImIdeal.τ).loc Cert.AdamS5AImIdeal.main_v4_0) = v0 c
          ∧ r.2.mem ((c.tc : Thread Cert.AdamS5AImIdeal.nD Cert.AdamS5AImIdeal.τ).loc Cert.AdamS5AImIdeal.main_v4_1) = v1 c
          ∧ r.2.mem ((c.tc : Thread Cert.AdamS5AImIdeal.nD Cert.AdamS5AImIdeal.τ).loc Cert.AdamS5AImIdeal.main_v4_2) = v2 c
          ∧ r.2.mem ((c.tc : Thread Cert.AdamS5AImIdeal.nD Cert.AdamS5AImIdeal.τ).loc Cert.AdamS5AImIdeal.main_arg0) = m ((c.tc : Thread Cert.AdamS5AImIdeal.nD Cert.AdamS5AImIdeal.τ).loc Cert.AdamS5AImIdeal.main_arg0)
          ∧ r.2.mem ((c.tc : Thread Cert.AdamS5AImIdeal.nD Cert.AdamS5AImIdeal.τ).loc Cert.AdamS5AImIdeal.main_arg1) = m ((c.tc : Thread Cert.AdamS5AImIdeal.nD Cert.AdamS5AImIdeal.τ).loc Cert.AdamS5AImIdeal.main_arg1)
          ∧ r.2.mem ((c.tc : Thread Cert.AdamS5AImIdeal.nD Cert.AdamS5AImIdeal.τ).loc Cert.AdamS5AImIdeal.main_arg2) = m ((c.tc : Thread Cert.AdamS5AImIdeal.nD Cert.AdamS5AImIdeal.τ).loc Cert.AdamS5AImIdeal.main_arg2)
          ∧ r.2.mem ((c.tc : Thread Cert.AdamS5AImIdeal.nD Cert.AdamS5AImIdeal.τ).loc Cert.AdamS5AImIdeal.main_arg3) = m ((c.tc : Thread Cert.AdamS5AImIdeal.nD Cert.AdamS5AImIdeal.τ).loc Cert.AdamS5AImIdeal.main_arg3))
      ∧ θ_run (Cert.AdamS5AImRefIdeal.defs (F := Ideal)) (onTc (τ := Cert.AdamS5AImRefIdeal.τ) (Cert.AdamS5AImRefIdeal.main (F := Ideal))) ⟨m', fun _ => 0, g'⟩ (fun r => ∀ c : Dev Cert.AdamS5AImRefIdeal.nD,
          r.2.mem ((c.tc : Thread Cert.AdamS5AImRefIdeal.nD Cert.AdamS5AImRefIdeal.τ).loc Cert.AdamS5AImRefIdeal.main_v24) = v0 c
          ∧ r.2.mem ((c.tc : Thread Cert.AdamS5AImRefIdeal.nD Cert.AdamS5AImRefIdeal.τ).loc Cert.AdamS5AImRefIdeal.main_v25) = v1 c
          ∧ r.2.mem ((c.tc : Thread Cert.AdamS5AImRefIdeal.nD Cert.AdamS5AImRefIdeal.τ).loc Cert.AdamS5AImRefIdeal.main_v26) = v2 c
          ∧ r.2.mem ((c.tc : Thread Cert.AdamS5AImRefIdeal.nD Cert.AdamS5AImRefIdeal.τ).loc Cert.AdamS5AImRefIdeal.main_arg0) = m' ((c.tc : Thread Cert.AdamS5AImRefIdeal.nD Cert.AdamS5AImRefIdeal.τ).loc Cert.AdamS5AImRefIdeal.main_arg0)
          ∧ r.2.mem ((c.tc : Thread Cert.AdamS5AImRefIdeal.nD Cert.AdamS5AImRefIdeal.τ).loc Cert.AdamS5AImRefIdeal.main_arg1) = m' ((c.tc : Thread Cert.AdamS5AImRefIdeal.nD Cert.AdamS5AImRefIdeal.τ).loc Cert.AdamS5AImRefIdeal.main_arg1)
          ∧ r.2.mem ((c.tc : Thread Cert.AdamS5AImRefIdeal.nD Cert.AdamS5AImRefIdeal.τ).loc Cert.AdamS5AImRefIdeal.main_arg2) = m' ((c.tc : Thread Cert.AdamS5AImRefIdeal.nD Cert.AdamS5AImRefIdeal.τ).loc Cert.AdamS5AImRefIdeal.main_arg2)
          ∧ r.2.mem ((c.tc : Thread Cert.AdamS5AImRefIdeal.nD Cert.AdamS5AImRefIdeal.τ).loc Cert.AdamS5AImRefIdeal.main_arg3) = m' ((c.tc : Thread Cert.AdamS5AImRefIdeal.nD Cert.AdamS5AImRefIdeal.τ).loc Cert.AdamS5AImRefIdeal.main_arg3))

def preserves_AdamS5LogDt_AdamS5LogDtIdeal : Prop :=
  True

def algebraic_AdamS5LogDtIdeal_AdamS5LogDtRefIdeal [hAdamS5LogDtIdeal : Cert.AdamS5LogDtIdeal.Facts] [hAdamS5LogDtRefIdeal : Cert.AdamS5LogDtRefIdeal.Facts] : Prop :=
  ∀ (m : (ℓ : Loc Cert.AdamS5LogDtIdeal.nD Cert.AdamS5LogDtIdeal.τ Cert.AdamS5LogDtIdeal.sig) → Buf (Elt Ideal) ℓ) (g : Dev Cert.AdamS5LogDtIdeal.nD → PrngReg)
    (m' : (ℓ : Loc Cert.AdamS5LogDtRefIdeal.nD Cert.AdamS5LogDtRefIdeal.τ Cert.AdamS5LogDtRefIdeal.sig) → Buf (Elt Ideal) ℓ) (g' : Dev Cert.AdamS5LogDtRefIdeal.nD → PrngReg), Pre_AdamS5LogDtIdeal m →
    (∀ c : Dev Cert.AdamS5LogDtIdeal.nD,
      m' ((c.tc : Thread Cert.AdamS5LogDtRefIdeal.nD Cert.AdamS5LogDtRefIdeal.τ).loc Cert.AdamS5LogDtRefIdeal.main_arg0) = m ((c.tc : Thread Cert.AdamS5LogDtIdeal.nD Cert.AdamS5LogDtIdeal.τ).loc Cert.AdamS5LogDtIdeal.main_arg0)
      ∧ m' ((c.tc : Thread Cert.AdamS5LogDtRefIdeal.nD Cert.AdamS5LogDtRefIdeal.τ).loc Cert.AdamS5LogDtRefIdeal.main_arg1) = m ((c.tc : Thread Cert.AdamS5LogDtIdeal.nD Cert.AdamS5LogDtIdeal.τ).loc Cert.AdamS5LogDtIdeal.main_arg1)
      ∧ m' ((c.tc : Thread Cert.AdamS5LogDtRefIdeal.nD Cert.AdamS5LogDtRefIdeal.τ).loc Cert.AdamS5LogDtRefIdeal.main_arg2) = m ((c.tc : Thread Cert.AdamS5LogDtIdeal.nD Cert.AdamS5LogDtIdeal.τ).loc Cert.AdamS5LogDtIdeal.main_arg2)
      ∧ m' ((c.tc : Thread Cert.AdamS5LogDtRefIdeal.nD Cert.AdamS5LogDtRefIdeal.τ).loc Cert.AdamS5LogDtRefIdeal.main_arg3) = m ((c.tc : Thread Cert.AdamS5LogDtIdeal.nD Cert.AdamS5LogDtIdeal.τ).loc Cert.AdamS5LogDtIdeal.main_arg3)) →
    ∃ (v0 : (c : Dev Cert.AdamS5LogDtIdeal.nD) → Buf (Elt Ideal) ((c.tc : Thread Cert.AdamS5LogDtIdeal.nD Cert.AdamS5LogDtIdeal.τ).loc Cert.AdamS5LogDtIdeal.main_v4_0)) (v1 : (c : Dev Cert.AdamS5LogDtIdeal.nD) → Buf (Elt Ideal) ((c.tc : Thread Cert.AdamS5LogDtIdeal.nD Cert.AdamS5LogDtIdeal.τ).loc Cert.AdamS5LogDtIdeal.main_v4_1)) (v2 : (c : Dev Cert.AdamS5LogDtIdeal.nD) → Buf (Elt Ideal) ((c.tc : Thread Cert.AdamS5LogDtIdeal.nD Cert.AdamS5LogDtIdeal.τ).loc Cert.AdamS5LogDtIdeal.main_v4_2)),
      θ_run (Cert.AdamS5LogDtIdeal.defs (F := Ideal)) (onTc (τ := Cert.AdamS5LogDtIdeal.τ) (Cert.AdamS5LogDtIdeal.main (F := Ideal))) ⟨m, fun _ => 0, g⟩ (fun r => ∀ c : Dev Cert.AdamS5LogDtIdeal.nD,
          r.2.mem ((c.tc : Thread Cert.AdamS5LogDtIdeal.nD Cert.AdamS5LogDtIdeal.τ).loc Cert.AdamS5LogDtIdeal.main_v4_0) = v0 c
          ∧ r.2.mem ((c.tc : Thread Cert.AdamS5LogDtIdeal.nD Cert.AdamS5LogDtIdeal.τ).loc Cert.AdamS5LogDtIdeal.main_v4_1) = v1 c
          ∧ r.2.mem ((c.tc : Thread Cert.AdamS5LogDtIdeal.nD Cert.AdamS5LogDtIdeal.τ).loc Cert.AdamS5LogDtIdeal.main_v4_2) = v2 c
          ∧ r.2.mem ((c.tc : Thread Cert.AdamS5LogDtIdeal.nD Cert.AdamS5LogDtIdeal.τ).loc Cert.AdamS5LogDtIdeal.main_arg0) = m ((c.tc : Thread Cert.AdamS5LogDtIdeal.nD Cert.AdamS5LogDtIdeal.τ).loc Cert.AdamS5LogDtIdeal.main_arg0)
          ∧ r.2.mem ((c.tc : Thread Cert.AdamS5LogDtIdeal.nD Cert.AdamS5LogDtIdeal.τ).loc Cert.AdamS5LogDtIdeal.main_arg1) = m ((c.tc : Thread Cert.AdamS5LogDtIdeal.nD Cert.AdamS5LogDtIdeal.τ).loc Cert.AdamS5LogDtIdeal.main_arg1)
          ∧ r.2.mem ((c.tc : Thread Cert.AdamS5LogDtIdeal.nD Cert.AdamS5LogDtIdeal.τ).loc Cert.AdamS5LogDtIdeal.main_arg2) = m ((c.tc : Thread Cert.AdamS5LogDtIdeal.nD Cert.AdamS5LogDtIdeal.τ).loc Cert.AdamS5LogDtIdeal.main_arg2)
          ∧ r.2.mem ((c.tc : Thread Cert.AdamS5LogDtIdeal.nD Cert.AdamS5LogDtIdeal.τ).loc Cert.AdamS5LogDtIdeal.main_arg3) = m ((c.tc : Thread Cert.AdamS5LogDtIdeal.nD Cert.AdamS5LogDtIdeal.τ).loc Cert.AdamS5LogDtIdeal.main_arg3))
      ∧ θ_run (Cert.AdamS5LogDtRefIdeal.defs (F := Ideal)) (onTc (τ := Cert.AdamS5LogDtRefIdeal.τ) (Cert.AdamS5LogDtRefIdeal.main (F := Ideal))) ⟨m', fun _ => 0, g'⟩ (fun r => ∀ c : Dev Cert.AdamS5LogDtRefIdeal.nD,
          r.2.mem ((c.tc : Thread Cert.AdamS5LogDtRefIdeal.nD Cert.AdamS5LogDtRefIdeal.τ).loc Cert.AdamS5LogDtRefIdeal.main_v24) = v0 c
          ∧ r.2.mem ((c.tc : Thread Cert.AdamS5LogDtRefIdeal.nD Cert.AdamS5LogDtRefIdeal.τ).loc Cert.AdamS5LogDtRefIdeal.main_v25) = v1 c
          ∧ r.2.mem ((c.tc : Thread Cert.AdamS5LogDtRefIdeal.nD Cert.AdamS5LogDtRefIdeal.τ).loc Cert.AdamS5LogDtRefIdeal.main_v26) = v2 c
          ∧ r.2.mem ((c.tc : Thread Cert.AdamS5LogDtRefIdeal.nD Cert.AdamS5LogDtRefIdeal.τ).loc Cert.AdamS5LogDtRefIdeal.main_arg0) = m' ((c.tc : Thread Cert.AdamS5LogDtRefIdeal.nD Cert.AdamS5LogDtRefIdeal.τ).loc Cert.AdamS5LogDtRefIdeal.main_arg0)
          ∧ r.2.mem ((c.tc : Thread Cert.AdamS5LogDtRefIdeal.nD Cert.AdamS5LogDtRefIdeal.τ).loc Cert.AdamS5LogDtRefIdeal.main_arg1) = m' ((c.tc : Thread Cert.AdamS5LogDtRefIdeal.nD Cert.AdamS5LogDtRefIdeal.τ).loc Cert.AdamS5LogDtRefIdeal.main_arg1)
          ∧ r.2.mem ((c.tc : Thread Cert.AdamS5LogDtRefIdeal.nD Cert.AdamS5LogDtRefIdeal.τ).loc Cert.AdamS5LogDtRefIdeal.main_arg2) = m' ((c.tc : Thread Cert.AdamS5LogDtRefIdeal.nD Cert.AdamS5LogDtRefIdeal.τ).loc Cert.AdamS5LogDtRefIdeal.main_arg2)
          ∧ r.2.mem ((c.tc : Thread Cert.AdamS5LogDtRefIdeal.nD Cert.AdamS5LogDtRefIdeal.τ).loc Cert.AdamS5LogDtRefIdeal.main_arg3) = m' ((c.tc : Thread Cert.AdamS5LogDtRefIdeal.nD Cert.AdamS5LogDtRefIdeal.τ).loc Cert.AdamS5LogDtRefIdeal.main_arg3))

def preserves_AdamS5BRe_AdamS5BReIdeal : Prop :=
  True

def algebraic_AdamS5BReIdeal_AdamS5BReRefIdeal [hAdamS5BReIdeal : Cert.AdamS5BReIdeal.Facts] [hAdamS5BReRefIdeal : Cert.AdamS5BReRefIdeal.Facts] : Prop :=
  ∀ (m : (ℓ : Loc Cert.AdamS5BReIdeal.nD Cert.AdamS5BReIdeal.τ Cert.AdamS5BReIdeal.sig) → Buf (Elt Ideal) ℓ) (g : Dev Cert.AdamS5BReIdeal.nD → PrngReg)
    (m' : (ℓ : Loc Cert.AdamS5BReRefIdeal.nD Cert.AdamS5BReRefIdeal.τ Cert.AdamS5BReRefIdeal.sig) → Buf (Elt Ideal) ℓ) (g' : Dev Cert.AdamS5BReRefIdeal.nD → PrngReg), Pre_AdamS5BReIdeal m →
    (∀ c : Dev Cert.AdamS5BReIdeal.nD,
      m' ((c.tc : Thread Cert.AdamS5BReRefIdeal.nD Cert.AdamS5BReRefIdeal.τ).loc Cert.AdamS5BReRefIdeal.main_arg0) = m ((c.tc : Thread Cert.AdamS5BReIdeal.nD Cert.AdamS5BReIdeal.τ).loc Cert.AdamS5BReIdeal.main_arg0)
      ∧ m' ((c.tc : Thread Cert.AdamS5BReRefIdeal.nD Cert.AdamS5BReRefIdeal.τ).loc Cert.AdamS5BReRefIdeal.main_arg1) = m ((c.tc : Thread Cert.AdamS5BReIdeal.nD Cert.AdamS5BReIdeal.τ).loc Cert.AdamS5BReIdeal.main_arg1)
      ∧ m' ((c.tc : Thread Cert.AdamS5BReRefIdeal.nD Cert.AdamS5BReRefIdeal.τ).loc Cert.AdamS5BReRefIdeal.main_arg2) = m ((c.tc : Thread Cert.AdamS5BReIdeal.nD Cert.AdamS5BReIdeal.τ).loc Cert.AdamS5BReIdeal.main_arg2)
      ∧ m' ((c.tc : Thread Cert.AdamS5BReRefIdeal.nD Cert.AdamS5BReRefIdeal.τ).loc Cert.AdamS5BReRefIdeal.main_arg3) = m ((c.tc : Thread Cert.AdamS5BReIdeal.nD Cert.AdamS5BReIdeal.τ).loc Cert.AdamS5BReIdeal.main_arg3)) →
    ∃ (v0 : (c : Dev Cert.AdamS5BReIdeal.nD) → Buf (Elt Ideal) ((c.tc : Thread Cert.AdamS5BReIdeal.nD Cert.AdamS5BReIdeal.τ).loc Cert.AdamS5BReIdeal.main_v4_0)) (v1 : (c : Dev Cert.AdamS5BReIdeal.nD) → Buf (Elt Ideal) ((c.tc : Thread Cert.AdamS5BReIdeal.nD Cert.AdamS5BReIdeal.τ).loc Cert.AdamS5BReIdeal.main_v4_1)) (v2 : (c : Dev Cert.AdamS5BReIdeal.nD) → Buf (Elt Ideal) ((c.tc : Thread Cert.AdamS5BReIdeal.nD Cert.AdamS5BReIdeal.τ).loc Cert.AdamS5BReIdeal.main_v4_2)),
      θ_run (Cert.AdamS5BReIdeal.defs (F := Ideal)) (onTc (τ := Cert.AdamS5BReIdeal.τ) (Cert.AdamS5BReIdeal.main (F := Ideal))) ⟨m, fun _ => 0, g⟩ (fun r => ∀ c : Dev Cert.AdamS5BReIdeal.nD,
          r.2.mem ((c.tc : Thread Cert.AdamS5BReIdeal.nD Cert.AdamS5BReIdeal.τ).loc Cert.AdamS5BReIdeal.main_v4_0) = v0 c
          ∧ r.2.mem ((c.tc : Thread Cert.AdamS5BReIdeal.nD Cert.AdamS5BReIdeal.τ).loc Cert.AdamS5BReIdeal.main_v4_1) = v1 c
          ∧ r.2.mem ((c.tc : Thread Cert.AdamS5BReIdeal.nD Cert.AdamS5BReIdeal.τ).loc Cert.AdamS5BReIdeal.main_v4_2) = v2 c
          ∧ r.2.mem ((c.tc : Thread Cert.AdamS5BReIdeal.nD Cert.AdamS5BReIdeal.τ).loc Cert.AdamS5BReIdeal.main_arg0) = m ((c.tc : Thread Cert.AdamS5BReIdeal.nD Cert.AdamS5BReIdeal.τ).loc Cert.AdamS5BReIdeal.main_arg0)
          ∧ r.2.mem ((c.tc : Thread Cert.AdamS5BReIdeal.nD Cert.AdamS5BReIdeal.τ).loc Cert.AdamS5BReIdeal.main_arg1) = m ((c.tc : Thread Cert.AdamS5BReIdeal.nD Cert.AdamS5BReIdeal.τ).loc Cert.AdamS5BReIdeal.main_arg1)
          ∧ r.2.mem ((c.tc : Thread Cert.AdamS5BReIdeal.nD Cert.AdamS5BReIdeal.τ).loc Cert.AdamS5BReIdeal.main_arg2) = m ((c.tc : Thread Cert.AdamS5BReIdeal.nD Cert.AdamS5BReIdeal.τ).loc Cert.AdamS5BReIdeal.main_arg2)
          ∧ r.2.mem ((c.tc : Thread Cert.AdamS5BReIdeal.nD Cert.AdamS5BReIdeal.τ).loc Cert.AdamS5BReIdeal.main_arg3) = m ((c.tc : Thread Cert.AdamS5BReIdeal.nD Cert.AdamS5BReIdeal.τ).loc Cert.AdamS5BReIdeal.main_arg3))
      ∧ θ_run (Cert.AdamS5BReRefIdeal.defs (F := Ideal)) (onTc (τ := Cert.AdamS5BReRefIdeal.τ) (Cert.AdamS5BReRefIdeal.main (F := Ideal))) ⟨m', fun _ => 0, g'⟩ (fun r => ∀ c : Dev Cert.AdamS5BReRefIdeal.nD,
          r.2.mem ((c.tc : Thread Cert.AdamS5BReRefIdeal.nD Cert.AdamS5BReRefIdeal.τ).loc Cert.AdamS5BReRefIdeal.main_v24) = v0 c
          ∧ r.2.mem ((c.tc : Thread Cert.AdamS5BReRefIdeal.nD Cert.AdamS5BReRefIdeal.τ).loc Cert.AdamS5BReRefIdeal.main_v25) = v1 c
          ∧ r.2.mem ((c.tc : Thread Cert.AdamS5BReRefIdeal.nD Cert.AdamS5BReRefIdeal.τ).loc Cert.AdamS5BReRefIdeal.main_v26) = v2 c
          ∧ r.2.mem ((c.tc : Thread Cert.AdamS5BReRefIdeal.nD Cert.AdamS5BReRefIdeal.τ).loc Cert.AdamS5BReRefIdeal.main_arg0) = m' ((c.tc : Thread Cert.AdamS5BReRefIdeal.nD Cert.AdamS5BReRefIdeal.τ).loc Cert.AdamS5BReRefIdeal.main_arg0)
          ∧ r.2.mem ((c.tc : Thread Cert.AdamS5BReRefIdeal.nD Cert.AdamS5BReRefIdeal.τ).loc Cert.AdamS5BReRefIdeal.main_arg1) = m' ((c.tc : Thread Cert.AdamS5BReRefIdeal.nD Cert.AdamS5BReRefIdeal.τ).loc Cert.AdamS5BReRefIdeal.main_arg1)
          ∧ r.2.mem ((c.tc : Thread Cert.AdamS5BReRefIdeal.nD Cert.AdamS5BReRefIdeal.τ).loc Cert.AdamS5BReRefIdeal.main_arg2) = m' ((c.tc : Thread Cert.AdamS5BReRefIdeal.nD Cert.AdamS5BReRefIdeal.τ).loc Cert.AdamS5BReRefIdeal.main_arg2)
          ∧ r.2.mem ((c.tc : Thread Cert.AdamS5BReRefIdeal.nD Cert.AdamS5BReRefIdeal.τ).loc Cert.AdamS5BReRefIdeal.main_arg3) = m' ((c.tc : Thread Cert.AdamS5BReRefIdeal.nD Cert.AdamS5BReRefIdeal.τ).loc Cert.AdamS5BReRefIdeal.main_arg3))

def preserves_AdamS5BIm_AdamS5BImIdeal : Prop :=
  True

def algebraic_AdamS5BImIdeal_AdamS5BImRefIdeal [hAdamS5BImIdeal : Cert.AdamS5BImIdeal.Facts] [hAdamS5BImRefIdeal : Cert.AdamS5BImRefIdeal.Facts] : Prop :=
  ∀ (m : (ℓ : Loc Cert.AdamS5BImIdeal.nD Cert.AdamS5BImIdeal.τ Cert.AdamS5BImIdeal.sig) → Buf (Elt Ideal) ℓ) (g : Dev Cert.AdamS5BImIdeal.nD → PrngReg)
    (m' : (ℓ : Loc Cert.AdamS5BImRefIdeal.nD Cert.AdamS5BImRefIdeal.τ Cert.AdamS5BImRefIdeal.sig) → Buf (Elt Ideal) ℓ) (g' : Dev Cert.AdamS5BImRefIdeal.nD → PrngReg), Pre_AdamS5BImIdeal m →
    (∀ c : Dev Cert.AdamS5BImIdeal.nD,
      m' ((c.tc : Thread Cert.AdamS5BImRefIdeal.nD Cert.AdamS5BImRefIdeal.τ).loc Cert.AdamS5BImRefIdeal.main_arg0) = m ((c.tc : Thread Cert.AdamS5BImIdeal.nD Cert.AdamS5BImIdeal.τ).loc Cert.AdamS5BImIdeal.main_arg0)
      ∧ m' ((c.tc : Thread Cert.AdamS5BImRefIdeal.nD Cert.AdamS5BImRefIdeal.τ).loc Cert.AdamS5BImRefIdeal.main_arg1) = m ((c.tc : Thread Cert.AdamS5BImIdeal.nD Cert.AdamS5BImIdeal.τ).loc Cert.AdamS5BImIdeal.main_arg1)
      ∧ m' ((c.tc : Thread Cert.AdamS5BImRefIdeal.nD Cert.AdamS5BImRefIdeal.τ).loc Cert.AdamS5BImRefIdeal.main_arg2) = m ((c.tc : Thread Cert.AdamS5BImIdeal.nD Cert.AdamS5BImIdeal.τ).loc Cert.AdamS5BImIdeal.main_arg2)
      ∧ m' ((c.tc : Thread Cert.AdamS5BImRefIdeal.nD Cert.AdamS5BImRefIdeal.τ).loc Cert.AdamS5BImRefIdeal.main_arg3) = m ((c.tc : Thread Cert.AdamS5BImIdeal.nD Cert.AdamS5BImIdeal.τ).loc Cert.AdamS5BImIdeal.main_arg3)) →
    ∃ (v0 : (c : Dev Cert.AdamS5BImIdeal.nD) → Buf (Elt Ideal) ((c.tc : Thread Cert.AdamS5BImIdeal.nD Cert.AdamS5BImIdeal.τ).loc Cert.AdamS5BImIdeal.main_v4_0)) (v1 : (c : Dev Cert.AdamS5BImIdeal.nD) → Buf (Elt Ideal) ((c.tc : Thread Cert.AdamS5BImIdeal.nD Cert.AdamS5BImIdeal.τ).loc Cert.AdamS5BImIdeal.main_v4_1)) (v2 : (c : Dev Cert.AdamS5BImIdeal.nD) → Buf (Elt Ideal) ((c.tc : Thread Cert.AdamS5BImIdeal.nD Cert.AdamS5BImIdeal.τ).loc Cert.AdamS5BImIdeal.main_v4_2)),
      θ_run (Cert.AdamS5BImIdeal.defs (F := Ideal)) (onTc (τ := Cert.AdamS5BImIdeal.τ) (Cert.AdamS5BImIdeal.main (F := Ideal))) ⟨m, fun _ => 0, g⟩ (fun r => ∀ c : Dev Cert.AdamS5BImIdeal.nD,
          r.2.mem ((c.tc : Thread Cert.AdamS5BImIdeal.nD Cert.AdamS5BImIdeal.τ).loc Cert.AdamS5BImIdeal.main_v4_0) = v0 c
          ∧ r.2.mem ((c.tc : Thread Cert.AdamS5BImIdeal.nD Cert.AdamS5BImIdeal.τ).loc Cert.AdamS5BImIdeal.main_v4_1) = v1 c
          ∧ r.2.mem ((c.tc : Thread Cert.AdamS5BImIdeal.nD Cert.AdamS5BImIdeal.τ).loc Cert.AdamS5BImIdeal.main_v4_2) = v2 c
          ∧ r.2.mem ((c.tc : Thread Cert.AdamS5BImIdeal.nD Cert.AdamS5BImIdeal.τ).loc Cert.AdamS5BImIdeal.main_arg0) = m ((c.tc : Thread Cert.AdamS5BImIdeal.nD Cert.AdamS5BImIdeal.τ).loc Cert.AdamS5BImIdeal.main_arg0)
          ∧ r.2.mem ((c.tc : Thread Cert.AdamS5BImIdeal.nD Cert.AdamS5BImIdeal.τ).loc Cert.AdamS5BImIdeal.main_arg1) = m ((c.tc : Thread Cert.AdamS5BImIdeal.nD Cert.AdamS5BImIdeal.τ).loc Cert.AdamS5BImIdeal.main_arg1)
          ∧ r.2.mem ((c.tc : Thread Cert.AdamS5BImIdeal.nD Cert.AdamS5BImIdeal.τ).loc Cert.AdamS5BImIdeal.main_arg2) = m ((c.tc : Thread Cert.AdamS5BImIdeal.nD Cert.AdamS5BImIdeal.τ).loc Cert.AdamS5BImIdeal.main_arg2)
          ∧ r.2.mem ((c.tc : Thread Cert.AdamS5BImIdeal.nD Cert.AdamS5BImIdeal.τ).loc Cert.AdamS5BImIdeal.main_arg3) = m ((c.tc : Thread Cert.AdamS5BImIdeal.nD Cert.AdamS5BImIdeal.τ).loc Cert.AdamS5BImIdeal.main_arg3))
      ∧ θ_run (Cert.AdamS5BImRefIdeal.defs (F := Ideal)) (onTc (τ := Cert.AdamS5BImRefIdeal.τ) (Cert.AdamS5BImRefIdeal.main (F := Ideal))) ⟨m', fun _ => 0, g'⟩ (fun r => ∀ c : Dev Cert.AdamS5BImRefIdeal.nD,
          r.2.mem ((c.tc : Thread Cert.AdamS5BImRefIdeal.nD Cert.AdamS5BImRefIdeal.τ).loc Cert.AdamS5BImRefIdeal.main_v24) = v0 c
          ∧ r.2.mem ((c.tc : Thread Cert.AdamS5BImRefIdeal.nD Cert.AdamS5BImRefIdeal.τ).loc Cert.AdamS5BImRefIdeal.main_v25) = v1 c
          ∧ r.2.mem ((c.tc : Thread Cert.AdamS5BImRefIdeal.nD Cert.AdamS5BImRefIdeal.τ).loc Cert.AdamS5BImRefIdeal.main_v26) = v2 c
          ∧ r.2.mem ((c.tc : Thread Cert.AdamS5BImRefIdeal.nD Cert.AdamS5BImRefIdeal.τ).loc Cert.AdamS5BImRefIdeal.main_arg0) = m' ((c.tc : Thread Cert.AdamS5BImRefIdeal.nD Cert.AdamS5BImRefIdeal.τ).loc Cert.AdamS5BImRefIdeal.main_arg0)
          ∧ r.2.mem ((c.tc : Thread Cert.AdamS5BImRefIdeal.nD Cert.AdamS5BImRefIdeal.τ).loc Cert.AdamS5BImRefIdeal.main_arg1) = m' ((c.tc : Thread Cert.AdamS5BImRefIdeal.nD Cert.AdamS5BImRefIdeal.τ).loc Cert.AdamS5BImRefIdeal.main_arg1)
          ∧ r.2.mem ((c.tc : Thread Cert.AdamS5BImRefIdeal.nD Cert.AdamS5BImRefIdeal.τ).loc Cert.AdamS5BImRefIdeal.main_arg2) = m' ((c.tc : Thread Cert.AdamS5BImRefIdeal.nD Cert.AdamS5BImRefIdeal.τ).loc Cert.AdamS5BImRefIdeal.main_arg2)
          ∧ r.2.mem ((c.tc : Thread Cert.AdamS5BImRefIdeal.nD Cert.AdamS5BImRefIdeal.τ).loc Cert.AdamS5BImRefIdeal.main_arg3) = m' ((c.tc : Thread Cert.AdamS5BImRefIdeal.nD Cert.AdamS5BImRefIdeal.τ).loc Cert.AdamS5BImRefIdeal.main_arg3))

def preserves_AdamS5CRe_AdamS5CReIdeal : Prop :=
  True

def algebraic_AdamS5CReIdeal_AdamS5CReRefIdeal [hAdamS5CReIdeal : Cert.AdamS5CReIdeal.Facts] [hAdamS5CReRefIdeal : Cert.AdamS5CReRefIdeal.Facts] : Prop :=
  ∀ (m : (ℓ : Loc Cert.AdamS5CReIdeal.nD Cert.AdamS5CReIdeal.τ Cert.AdamS5CReIdeal.sig) → Buf (Elt Ideal) ℓ) (g : Dev Cert.AdamS5CReIdeal.nD → PrngReg)
    (m' : (ℓ : Loc Cert.AdamS5CReRefIdeal.nD Cert.AdamS5CReRefIdeal.τ Cert.AdamS5CReRefIdeal.sig) → Buf (Elt Ideal) ℓ) (g' : Dev Cert.AdamS5CReRefIdeal.nD → PrngReg), Pre_AdamS5CReIdeal m →
    (∀ c : Dev Cert.AdamS5CReIdeal.nD,
      m' ((c.tc : Thread Cert.AdamS5CReRefIdeal.nD Cert.AdamS5CReRefIdeal.τ).loc Cert.AdamS5CReRefIdeal.main_arg0) = m ((c.tc : Thread Cert.AdamS5CReIdeal.nD Cert.AdamS5CReIdeal.τ).loc Cert.AdamS5CReIdeal.main_arg0)
      ∧ m' ((c.tc : Thread Cert.AdamS5CReRefIdeal.nD Cert.AdamS5CReRefIdeal.τ).loc Cert.AdamS5CReRefIdeal.main_arg1) = m ((c.tc : Thread Cert.AdamS5CReIdeal.nD Cert.AdamS5CReIdeal.τ).loc Cert.AdamS5CReIdeal.main_arg1)
      ∧ m' ((c.tc : Thread Cert.AdamS5CReRefIdeal.nD Cert.AdamS5CReRefIdeal.τ).loc Cert.AdamS5CReRefIdeal.main_arg2) = m ((c.tc : Thread Cert.AdamS5CReIdeal.nD Cert.AdamS5CReIdeal.τ).loc Cert.AdamS5CReIdeal.main_arg2)
      ∧ m' ((c.tc : Thread Cert.AdamS5CReRefIdeal.nD Cert.AdamS5CReRefIdeal.τ).loc Cert.AdamS5CReRefIdeal.main_arg3) = m ((c.tc : Thread Cert.AdamS5CReIdeal.nD Cert.AdamS5CReIdeal.τ).loc Cert.AdamS5CReIdeal.main_arg3)) →
    ∃ (v0 : (c : Dev Cert.AdamS5CReIdeal.nD) → Buf (Elt Ideal) ((c.tc : Thread Cert.AdamS5CReIdeal.nD Cert.AdamS5CReIdeal.τ).loc Cert.AdamS5CReIdeal.main_v4_0)) (v1 : (c : Dev Cert.AdamS5CReIdeal.nD) → Buf (Elt Ideal) ((c.tc : Thread Cert.AdamS5CReIdeal.nD Cert.AdamS5CReIdeal.τ).loc Cert.AdamS5CReIdeal.main_v4_1)) (v2 : (c : Dev Cert.AdamS5CReIdeal.nD) → Buf (Elt Ideal) ((c.tc : Thread Cert.AdamS5CReIdeal.nD Cert.AdamS5CReIdeal.τ).loc Cert.AdamS5CReIdeal.main_v4_2)),
      θ_run (Cert.AdamS5CReIdeal.defs (F := Ideal)) (onTc (τ := Cert.AdamS5CReIdeal.τ) (Cert.AdamS5CReIdeal.main (F := Ideal))) ⟨m, fun _ => 0, g⟩ (fun r => ∀ c : Dev Cert.AdamS5CReIdeal.nD,
          r.2.mem ((c.tc : Thread Cert.AdamS5CReIdeal.nD Cert.AdamS5CReIdeal.τ).loc Cert.AdamS5CReIdeal.main_v4_0) = v0 c
          ∧ r.2.mem ((c.tc : Thread Cert.AdamS5CReIdeal.nD Cert.AdamS5CReIdeal.τ).loc Cert.AdamS5CReIdeal.main_v4_1) = v1 c
          ∧ r.2.mem ((c.tc : Thread Cert.AdamS5CReIdeal.nD Cert.AdamS5CReIdeal.τ).loc Cert.AdamS5CReIdeal.main_v4_2) = v2 c
          ∧ r.2.mem ((c.tc : Thread Cert.AdamS5CReIdeal.nD Cert.AdamS5CReIdeal.τ).loc Cert.AdamS5CReIdeal.main_arg0) = m ((c.tc : Thread Cert.AdamS5CReIdeal.nD Cert.AdamS5CReIdeal.τ).loc Cert.AdamS5CReIdeal.main_arg0)
          ∧ r.2.mem ((c.tc : Thread Cert.AdamS5CReIdeal.nD Cert.AdamS5CReIdeal.τ).loc Cert.AdamS5CReIdeal.main_arg1) = m ((c.tc : Thread Cert.AdamS5CReIdeal.nD Cert.AdamS5CReIdeal.τ).loc Cert.AdamS5CReIdeal.main_arg1)
          ∧ r.2.mem ((c.tc : Thread Cert.AdamS5CReIdeal.nD Cert.AdamS5CReIdeal.τ).loc Cert.AdamS5CReIdeal.main_arg2) = m ((c.tc : Thread Cert.AdamS5CReIdeal.nD Cert.AdamS5CReIdeal.τ).loc Cert.AdamS5CReIdeal.main_arg2)
          ∧ r.2.mem ((c.tc : Thread Cert.AdamS5CReIdeal.nD Cert.AdamS5CReIdeal.τ).loc Cert.AdamS5CReIdeal.main_arg3) = m ((c.tc : Thread Cert.AdamS5CReIdeal.nD Cert.AdamS5CReIdeal.τ).loc Cert.AdamS5CReIdeal.main_arg3))
      ∧ θ_run (Cert.AdamS5CReRefIdeal.defs (F := Ideal)) (onTc (τ := Cert.AdamS5CReRefIdeal.τ) (Cert.AdamS5CReRefIdeal.main (F := Ideal))) ⟨m', fun _ => 0, g'⟩ (fun r => ∀ c : Dev Cert.AdamS5CReRefIdeal.nD,
          r.2.mem ((c.tc : Thread Cert.AdamS5CReRefIdeal.nD Cert.AdamS5CReRefIdeal.τ).loc Cert.AdamS5CReRefIdeal.main_v24) = v0 c
          ∧ r.2.mem ((c.tc : Thread Cert.AdamS5CReRefIdeal.nD Cert.AdamS5CReRefIdeal.τ).loc Cert.AdamS5CReRefIdeal.main_v25) = v1 c
          ∧ r.2.mem ((c.tc : Thread Cert.AdamS5CReRefIdeal.nD Cert.AdamS5CReRefIdeal.τ).loc Cert.AdamS5CReRefIdeal.main_v26) = v2 c
          ∧ r.2.mem ((c.tc : Thread Cert.AdamS5CReRefIdeal.nD Cert.AdamS5CReRefIdeal.τ).loc Cert.AdamS5CReRefIdeal.main_arg0) = m' ((c.tc : Thread Cert.AdamS5CReRefIdeal.nD Cert.AdamS5CReRefIdeal.τ).loc Cert.AdamS5CReRefIdeal.main_arg0)
          ∧ r.2.mem ((c.tc : Thread Cert.AdamS5CReRefIdeal.nD Cert.AdamS5CReRefIdeal.τ).loc Cert.AdamS5CReRefIdeal.main_arg1) = m' ((c.tc : Thread Cert.AdamS5CReRefIdeal.nD Cert.AdamS5CReRefIdeal.τ).loc Cert.AdamS5CReRefIdeal.main_arg1)
          ∧ r.2.mem ((c.tc : Thread Cert.AdamS5CReRefIdeal.nD Cert.AdamS5CReRefIdeal.τ).loc Cert.AdamS5CReRefIdeal.main_arg2) = m' ((c.tc : Thread Cert.AdamS5CReRefIdeal.nD Cert.AdamS5CReRefIdeal.τ).loc Cert.AdamS5CReRefIdeal.main_arg2)
          ∧ r.2.mem ((c.tc : Thread Cert.AdamS5CReRefIdeal.nD Cert.AdamS5CReRefIdeal.τ).loc Cert.AdamS5CReRefIdeal.main_arg3) = m' ((c.tc : Thread Cert.AdamS5CReRefIdeal.nD Cert.AdamS5CReRefIdeal.τ).loc Cert.AdamS5CReRefIdeal.main_arg3))

def preserves_AdamS5CIm_AdamS5CImIdeal : Prop :=
  True

def algebraic_AdamS5CImIdeal_AdamS5CImRefIdeal [hAdamS5CImIdeal : Cert.AdamS5CImIdeal.Facts] [hAdamS5CImRefIdeal : Cert.AdamS5CImRefIdeal.Facts] : Prop :=
  ∀ (m : (ℓ : Loc Cert.AdamS5CImIdeal.nD Cert.AdamS5CImIdeal.τ Cert.AdamS5CImIdeal.sig) → Buf (Elt Ideal) ℓ) (g : Dev Cert.AdamS5CImIdeal.nD → PrngReg)
    (m' : (ℓ : Loc Cert.AdamS5CImRefIdeal.nD Cert.AdamS5CImRefIdeal.τ Cert.AdamS5CImRefIdeal.sig) → Buf (Elt Ideal) ℓ) (g' : Dev Cert.AdamS5CImRefIdeal.nD → PrngReg), Pre_AdamS5CImIdeal m →
    (∀ c : Dev Cert.AdamS5CImIdeal.nD,
      m' ((c.tc : Thread Cert.AdamS5CImRefIdeal.nD Cert.AdamS5CImRefIdeal.τ).loc Cert.AdamS5CImRefIdeal.main_arg0) = m ((c.tc : Thread Cert.AdamS5CImIdeal.nD Cert.AdamS5CImIdeal.τ).loc Cert.AdamS5CImIdeal.main_arg0)
      ∧ m' ((c.tc : Thread Cert.AdamS5CImRefIdeal.nD Cert.AdamS5CImRefIdeal.τ).loc Cert.AdamS5CImRefIdeal.main_arg1) = m ((c.tc : Thread Cert.AdamS5CImIdeal.nD Cert.AdamS5CImIdeal.τ).loc Cert.AdamS5CImIdeal.main_arg1)
      ∧ m' ((c.tc : Thread Cert.AdamS5CImRefIdeal.nD Cert.AdamS5CImRefIdeal.τ).loc Cert.AdamS5CImRefIdeal.main_arg2) = m ((c.tc : Thread Cert.AdamS5CImIdeal.nD Cert.AdamS5CImIdeal.τ).loc Cert.AdamS5CImIdeal.main_arg2)
      ∧ m' ((c.tc : Thread Cert.AdamS5CImRefIdeal.nD Cert.AdamS5CImRefIdeal.τ).loc Cert.AdamS5CImRefIdeal.main_arg3) = m ((c.tc : Thread Cert.AdamS5CImIdeal.nD Cert.AdamS5CImIdeal.τ).loc Cert.AdamS5CImIdeal.main_arg3)) →
    ∃ (v0 : (c : Dev Cert.AdamS5CImIdeal.nD) → Buf (Elt Ideal) ((c.tc : Thread Cert.AdamS5CImIdeal.nD Cert.AdamS5CImIdeal.τ).loc Cert.AdamS5CImIdeal.main_v4_0)) (v1 : (c : Dev Cert.AdamS5CImIdeal.nD) → Buf (Elt Ideal) ((c.tc : Thread Cert.AdamS5CImIdeal.nD Cert.AdamS5CImIdeal.τ).loc Cert.AdamS5CImIdeal.main_v4_1)) (v2 : (c : Dev Cert.AdamS5CImIdeal.nD) → Buf (Elt Ideal) ((c.tc : Thread Cert.AdamS5CImIdeal.nD Cert.AdamS5CImIdeal.τ).loc Cert.AdamS5CImIdeal.main_v4_2)),
      θ_run (Cert.AdamS5CImIdeal.defs (F := Ideal)) (onTc (τ := Cert.AdamS5CImIdeal.τ) (Cert.AdamS5CImIdeal.main (F := Ideal))) ⟨m, fun _ => 0, g⟩ (fun r => ∀ c : Dev Cert.AdamS5CImIdeal.nD,
          r.2.mem ((c.tc : Thread Cert.AdamS5CImIdeal.nD Cert.AdamS5CImIdeal.τ).loc Cert.AdamS5CImIdeal.main_v4_0) = v0 c
          ∧ r.2.mem ((c.tc : Thread Cert.AdamS5CImIdeal.nD Cert.AdamS5CImIdeal.τ).loc Cert.AdamS5CImIdeal.main_v4_1) = v1 c
          ∧ r.2.mem ((c.tc : Thread Cert.AdamS5CImIdeal.nD Cert.AdamS5CImIdeal.τ).loc Cert.AdamS5CImIdeal.main_v4_2) = v2 c
          ∧ r.2.mem ((c.tc : Thread Cert.AdamS5CImIdeal.nD Cert.AdamS5CImIdeal.τ).loc Cert.AdamS5CImIdeal.main_arg0) = m ((c.tc : Thread Cert.AdamS5CImIdeal.nD Cert.AdamS5CImIdeal.τ).loc Cert.AdamS5CImIdeal.main_arg0)
          ∧ r.2.mem ((c.tc : Thread Cert.AdamS5CImIdeal.nD Cert.AdamS5CImIdeal.τ).loc Cert.AdamS5CImIdeal.main_arg1) = m ((c.tc : Thread Cert.AdamS5CImIdeal.nD Cert.AdamS5CImIdeal.τ).loc Cert.AdamS5CImIdeal.main_arg1)
          ∧ r.2.mem ((c.tc : Thread Cert.AdamS5CImIdeal.nD Cert.AdamS5CImIdeal.τ).loc Cert.AdamS5CImIdeal.main_arg2) = m ((c.tc : Thread Cert.AdamS5CImIdeal.nD Cert.AdamS5CImIdeal.τ).loc Cert.AdamS5CImIdeal.main_arg2)
          ∧ r.2.mem ((c.tc : Thread Cert.AdamS5CImIdeal.nD Cert.AdamS5CImIdeal.τ).loc Cert.AdamS5CImIdeal.main_arg3) = m ((c.tc : Thread Cert.AdamS5CImIdeal.nD Cert.AdamS5CImIdeal.τ).loc Cert.AdamS5CImIdeal.main_arg3))
      ∧ θ_run (Cert.AdamS5CImRefIdeal.defs (F := Ideal)) (onTc (τ := Cert.AdamS5CImRefIdeal.τ) (Cert.AdamS5CImRefIdeal.main (F := Ideal))) ⟨m', fun _ => 0, g'⟩ (fun r => ∀ c : Dev Cert.AdamS5CImRefIdeal.nD,
          r.2.mem ((c.tc : Thread Cert.AdamS5CImRefIdeal.nD Cert.AdamS5CImRefIdeal.τ).loc Cert.AdamS5CImRefIdeal.main_v24) = v0 c
          ∧ r.2.mem ((c.tc : Thread Cert.AdamS5CImRefIdeal.nD Cert.AdamS5CImRefIdeal.τ).loc Cert.AdamS5CImRefIdeal.main_v25) = v1 c
          ∧ r.2.mem ((c.tc : Thread Cert.AdamS5CImRefIdeal.nD Cert.AdamS5CImRefIdeal.τ).loc Cert.AdamS5CImRefIdeal.main_v26) = v2 c
          ∧ r.2.mem ((c.tc : Thread Cert.AdamS5CImRefIdeal.nD Cert.AdamS5CImRefIdeal.τ).loc Cert.AdamS5CImRefIdeal.main_arg0) = m' ((c.tc : Thread Cert.AdamS5CImRefIdeal.nD Cert.AdamS5CImRefIdeal.τ).loc Cert.AdamS5CImRefIdeal.main_arg0)
          ∧ r.2.mem ((c.tc : Thread Cert.AdamS5CImRefIdeal.nD Cert.AdamS5CImRefIdeal.τ).loc Cert.AdamS5CImRefIdeal.main_arg1) = m' ((c.tc : Thread Cert.AdamS5CImRefIdeal.nD Cert.AdamS5CImRefIdeal.τ).loc Cert.AdamS5CImRefIdeal.main_arg1)
          ∧ r.2.mem ((c.tc : Thread Cert.AdamS5CImRefIdeal.nD Cert.AdamS5CImRefIdeal.τ).loc Cert.AdamS5CImRefIdeal.main_arg2) = m' ((c.tc : Thread Cert.AdamS5CImRefIdeal.nD Cert.AdamS5CImRefIdeal.τ).loc Cert.AdamS5CImRefIdeal.main_arg2)
          ∧ r.2.mem ((c.tc : Thread Cert.AdamS5CImRefIdeal.nD Cert.AdamS5CImRefIdeal.τ).loc Cert.AdamS5CImRefIdeal.main_arg3) = m' ((c.tc : Thread Cert.AdamS5CImRefIdeal.nD Cert.AdamS5CImRefIdeal.τ).loc Cert.AdamS5CImRefIdeal.main_arg3))

def preserves_AdamS5D_AdamS5DIdeal : Prop :=
  True

def algebraic_AdamS5DIdeal_AdamS5DRefIdeal [hAdamS5DIdeal : Cert.AdamS5DIdeal.Facts] [hAdamS5DRefIdeal : Cert.AdamS5DRefIdeal.Facts] : Prop :=
  ∀ (m : (ℓ : Loc Cert.AdamS5DIdeal.nD Cert.AdamS5DIdeal.τ Cert.AdamS5DIdeal.sig) → Buf (Elt Ideal) ℓ) (g : Dev Cert.AdamS5DIdeal.nD → PrngReg)
    (m' : (ℓ : Loc Cert.AdamS5DRefIdeal.nD Cert.AdamS5DRefIdeal.τ Cert.AdamS5DRefIdeal.sig) → Buf (Elt Ideal) ℓ) (g' : Dev Cert.AdamS5DRefIdeal.nD → PrngReg), Pre_AdamS5DIdeal m →
    (∀ c : Dev Cert.AdamS5DIdeal.nD,
      m' ((c.tc : Thread Cert.AdamS5DRefIdeal.nD Cert.AdamS5DRefIdeal.τ).loc Cert.AdamS5DRefIdeal.main_arg0) = m ((c.tc : Thread Cert.AdamS5DIdeal.nD Cert.AdamS5DIdeal.τ).loc Cert.AdamS5DIdeal.main_arg0)
      ∧ m' ((c.tc : Thread Cert.AdamS5DRefIdeal.nD Cert.AdamS5DRefIdeal.τ).loc Cert.AdamS5DRefIdeal.main_arg1) = m ((c.tc : Thread Cert.AdamS5DIdeal.nD Cert.AdamS5DIdeal.τ).loc Cert.AdamS5DIdeal.main_arg1)
      ∧ m' ((c.tc : Thread Cert.AdamS5DRefIdeal.nD Cert.AdamS5DRefIdeal.τ).loc Cert.AdamS5DRefIdeal.main_arg2) = m ((c.tc : Thread Cert.AdamS5DIdeal.nD Cert.AdamS5DIdeal.τ).loc Cert.AdamS5DIdeal.main_arg2)
      ∧ m' ((c.tc : Thread Cert.AdamS5DRefIdeal.nD Cert.AdamS5DRefIdeal.τ).loc Cert.AdamS5DRefIdeal.main_arg3) = m ((c.tc : Thread Cert.AdamS5DIdeal.nD Cert.AdamS5DIdeal.τ).loc Cert.AdamS5DIdeal.main_arg3)) →
    ∃ (v0 : (c : Dev Cert.AdamS5DIdeal.nD) → Buf (Elt Ideal) ((c.tc : Thread Cert.AdamS5DIdeal.nD Cert.AdamS5DIdeal.τ).loc Cert.AdamS5DIdeal.main_v4_0)) (v1 : (c : Dev Cert.AdamS5DIdeal.nD) → Buf (Elt Ideal) ((c.tc : Thread Cert.AdamS5DIdeal.nD Cert.AdamS5DIdeal.τ).loc Cert.AdamS5DIdeal.main_v4_1)) (v2 : (c : Dev Cert.AdamS5DIdeal.nD) → Buf (Elt Ideal) ((c.tc : Thread Cert.AdamS5DIdeal.nD Cert.AdamS5DIdeal.τ).loc Cert.AdamS5DIdeal.main_v4_2)),
      θ_run (Cert.AdamS5DIdeal.defs (F := Ideal)) (onTc (τ := Cert.AdamS5DIdeal.τ) (Cert.AdamS5DIdeal.main (F := Ideal))) ⟨m, fun _ => 0, g⟩ (fun r => ∀ c : Dev Cert.AdamS5DIdeal.nD,
          r.2.mem ((c.tc : Thread Cert.AdamS5DIdeal.nD Cert.AdamS5DIdeal.τ).loc Cert.AdamS5DIdeal.main_v4_0) = v0 c
          ∧ r.2.mem ((c.tc : Thread Cert.AdamS5DIdeal.nD Cert.AdamS5DIdeal.τ).loc Cert.AdamS5DIdeal.main_v4_1) = v1 c
          ∧ r.2.mem ((c.tc : Thread Cert.AdamS5DIdeal.nD Cert.AdamS5DIdeal.τ).loc Cert.AdamS5DIdeal.main_v4_2) = v2 c
          ∧ r.2.mem ((c.tc : Thread Cert.AdamS5DIdeal.nD Cert.AdamS5DIdeal.τ).loc Cert.AdamS5DIdeal.main_arg0) = m ((c.tc : Thread Cert.AdamS5DIdeal.nD Cert.AdamS5DIdeal.τ).loc Cert.AdamS5DIdeal.main_arg0)
          ∧ r.2.mem ((c.tc : Thread Cert.AdamS5DIdeal.nD Cert.AdamS5DIdeal.τ).loc Cert.AdamS5DIdeal.main_arg1) = m ((c.tc : Thread Cert.AdamS5DIdeal.nD Cert.AdamS5DIdeal.τ).loc Cert.AdamS5DIdeal.main_arg1)
          ∧ r.2.mem ((c.tc : Thread Cert.AdamS5DIdeal.nD Cert.AdamS5DIdeal.τ).loc Cert.AdamS5DIdeal.main_arg2) = m ((c.tc : Thread Cert.AdamS5DIdeal.nD Cert.AdamS5DIdeal.τ).loc Cert.AdamS5DIdeal.main_arg2)
          ∧ r.2.mem ((c.tc : Thread Cert.AdamS5DIdeal.nD Cert.AdamS5DIdeal.τ).loc Cert.AdamS5DIdeal.main_arg3) = m ((c.tc : Thread Cert.AdamS5DIdeal.nD Cert.AdamS5DIdeal.τ).loc Cert.AdamS5DIdeal.main_arg3))
      ∧ θ_run (Cert.AdamS5DRefIdeal.defs (F := Ideal)) (onTc (τ := Cert.AdamS5DRefIdeal.τ) (Cert.AdamS5DRefIdeal.main (F := Ideal))) ⟨m', fun _ => 0, g'⟩ (fun r => ∀ c : Dev Cert.AdamS5DRefIdeal.nD,
          r.2.mem ((c.tc : Thread Cert.AdamS5DRefIdeal.nD Cert.AdamS5DRefIdeal.τ).loc Cert.AdamS5DRefIdeal.main_v24) = v0 c
          ∧ r.2.mem ((c.tc : Thread Cert.AdamS5DRefIdeal.nD Cert.AdamS5DRefIdeal.τ).loc Cert.AdamS5DRefIdeal.main_v25) = v1 c
          ∧ r.2.mem ((c.tc : Thread Cert.AdamS5DRefIdeal.nD Cert.AdamS5DRefIdeal.τ).loc Cert.AdamS5DRefIdeal.main_v26) = v2 c
          ∧ r.2.mem ((c.tc : Thread Cert.AdamS5DRefIdeal.nD Cert.AdamS5DRefIdeal.τ).loc Cert.AdamS5DRefIdeal.main_arg0) = m' ((c.tc : Thread Cert.AdamS5DRefIdeal.nD Cert.AdamS5DRefIdeal.τ).loc Cert.AdamS5DRefIdeal.main_arg0)
          ∧ r.2.mem ((c.tc : Thread Cert.AdamS5DRefIdeal.nD Cert.AdamS5DRefIdeal.τ).loc Cert.AdamS5DRefIdeal.main_arg1) = m' ((c.tc : Thread Cert.AdamS5DRefIdeal.nD Cert.AdamS5DRefIdeal.τ).loc Cert.AdamS5DRefIdeal.main_arg1)
          ∧ r.2.mem ((c.tc : Thread Cert.AdamS5DRefIdeal.nD Cert.AdamS5DRefIdeal.τ).loc Cert.AdamS5DRefIdeal.main_arg2) = m' ((c.tc : Thread Cert.AdamS5DRefIdeal.nD Cert.AdamS5DRefIdeal.τ).loc Cert.AdamS5DRefIdeal.main_arg2)
          ∧ r.2.mem ((c.tc : Thread Cert.AdamS5DRefIdeal.nD Cert.AdamS5DRefIdeal.τ).loc Cert.AdamS5DRefIdeal.main_arg3) = m' ((c.tc : Thread Cert.AdamS5DRefIdeal.nD Cert.AdamS5DRefIdeal.τ).loc Cert.AdamS5DRefIdeal.main_arg3))

def preserves_AdamSsdDtBias_AdamSsdDtBiasIdeal : Prop :=
  True

def algebraic_AdamSsdDtBiasIdeal_AdamSsdDtBiasRefIdeal [hAdamSsdDtBiasIdeal : Cert.AdamSsdDtBiasIdeal.Facts] [hAdamSsdDtBiasRefIdeal : Cert.AdamSsdDtBiasRefIdeal.Facts] : Prop :=
  ∀ (m : (ℓ : Loc Cert.AdamSsdDtBiasIdeal.nD Cert.AdamSsdDtBiasIdeal.τ Cert.AdamSsdDtBiasIdeal.sig) → Buf (Elt Ideal) ℓ) (g : Dev Cert.AdamSsdDtBiasIdeal.nD → PrngReg)
    (m' : (ℓ : Loc Cert.AdamSsdDtBiasRefIdeal.nD Cert.AdamSsdDtBiasRefIdeal.τ Cert.AdamSsdDtBiasRefIdeal.sig) → Buf (Elt Ideal) ℓ) (g' : Dev Cert.AdamSsdDtBiasRefIdeal.nD → PrngReg), Pre_AdamSsdDtBiasIdeal m →
    (∀ c : Dev Cert.AdamSsdDtBiasIdeal.nD,
      m' ((c.tc : Thread Cert.AdamSsdDtBiasRefIdeal.nD Cert.AdamSsdDtBiasRefIdeal.τ).loc Cert.AdamSsdDtBiasRefIdeal.main_arg0) = m ((c.tc : Thread Cert.AdamSsdDtBiasIdeal.nD Cert.AdamSsdDtBiasIdeal.τ).loc Cert.AdamSsdDtBiasIdeal.main_arg0)
      ∧ m' ((c.tc : Thread Cert.AdamSsdDtBiasRefIdeal.nD Cert.AdamSsdDtBiasRefIdeal.τ).loc Cert.AdamSsdDtBiasRefIdeal.main_arg1) = m ((c.tc : Thread Cert.AdamSsdDtBiasIdeal.nD Cert.AdamSsdDtBiasIdeal.τ).loc Cert.AdamSsdDtBiasIdeal.main_arg1)
      ∧ m' ((c.tc : Thread Cert.AdamSsdDtBiasRefIdeal.nD Cert.AdamSsdDtBiasRefIdeal.τ).loc Cert.AdamSsdDtBiasRefIdeal.main_arg2) = m ((c.tc : Thread Cert.AdamSsdDtBiasIdeal.nD Cert.AdamSsdDtBiasIdeal.τ).loc Cert.AdamSsdDtBiasIdeal.main_arg2)
      ∧ m' ((c.tc : Thread Cert.AdamSsdDtBiasRefIdeal.nD Cert.AdamSsdDtBiasRefIdeal.τ).loc Cert.AdamSsdDtBiasRefIdeal.main_arg3) = m ((c.tc : Thread Cert.AdamSsdDtBiasIdeal.nD Cert.AdamSsdDtBiasIdeal.τ).loc Cert.AdamSsdDtBiasIdeal.main_arg3)) →
    ∃ (v0 : (c : Dev Cert.AdamSsdDtBiasIdeal.nD) → Buf (Elt Ideal) ((c.tc : Thread Cert.AdamSsdDtBiasIdeal.nD Cert.AdamSsdDtBiasIdeal.τ).loc Cert.AdamSsdDtBiasIdeal.main_v4_0)) (v1 : (c : Dev Cert.AdamSsdDtBiasIdeal.nD) → Buf (Elt Ideal) ((c.tc : Thread Cert.AdamSsdDtBiasIdeal.nD Cert.AdamSsdDtBiasIdeal.τ).loc Cert.AdamSsdDtBiasIdeal.main_v4_1)) (v2 : (c : Dev Cert.AdamSsdDtBiasIdeal.nD) → Buf (Elt Ideal) ((c.tc : Thread Cert.AdamSsdDtBiasIdeal.nD Cert.AdamSsdDtBiasIdeal.τ).loc Cert.AdamSsdDtBiasIdeal.main_v4_2)),
      θ_run (Cert.AdamSsdDtBiasIdeal.defs (F := Ideal)) (onTc (τ := Cert.AdamSsdDtBiasIdeal.τ) (Cert.AdamSsdDtBiasIdeal.main (F := Ideal))) ⟨m, fun _ => 0, g⟩ (fun r => ∀ c : Dev Cert.AdamSsdDtBiasIdeal.nD,
          r.2.mem ((c.tc : Thread Cert.AdamSsdDtBiasIdeal.nD Cert.AdamSsdDtBiasIdeal.τ).loc Cert.AdamSsdDtBiasIdeal.main_v4_0) = v0 c
          ∧ r.2.mem ((c.tc : Thread Cert.AdamSsdDtBiasIdeal.nD Cert.AdamSsdDtBiasIdeal.τ).loc Cert.AdamSsdDtBiasIdeal.main_v4_1) = v1 c
          ∧ r.2.mem ((c.tc : Thread Cert.AdamSsdDtBiasIdeal.nD Cert.AdamSsdDtBiasIdeal.τ).loc Cert.AdamSsdDtBiasIdeal.main_v4_2) = v2 c
          ∧ r.2.mem ((c.tc : Thread Cert.AdamSsdDtBiasIdeal.nD Cert.AdamSsdDtBiasIdeal.τ).loc Cert.AdamSsdDtBiasIdeal.main_arg0) = m ((c.tc : Thread Cert.AdamSsdDtBiasIdeal.nD Cert.AdamSsdDtBiasIdeal.τ).loc Cert.AdamSsdDtBiasIdeal.main_arg0)
          ∧ r.2.mem ((c.tc : Thread Cert.AdamSsdDtBiasIdeal.nD Cert.AdamSsdDtBiasIdeal.τ).loc Cert.AdamSsdDtBiasIdeal.main_arg1) = m ((c.tc : Thread Cert.AdamSsdDtBiasIdeal.nD Cert.AdamSsdDtBiasIdeal.τ).loc Cert.AdamSsdDtBiasIdeal.main_arg1)
          ∧ r.2.mem ((c.tc : Thread Cert.AdamSsdDtBiasIdeal.nD Cert.AdamSsdDtBiasIdeal.τ).loc Cert.AdamSsdDtBiasIdeal.main_arg2) = m ((c.tc : Thread Cert.AdamSsdDtBiasIdeal.nD Cert.AdamSsdDtBiasIdeal.τ).loc Cert.AdamSsdDtBiasIdeal.main_arg2)
          ∧ r.2.mem ((c.tc : Thread Cert.AdamSsdDtBiasIdeal.nD Cert.AdamSsdDtBiasIdeal.τ).loc Cert.AdamSsdDtBiasIdeal.main_arg3) = m ((c.tc : Thread Cert.AdamSsdDtBiasIdeal.nD Cert.AdamSsdDtBiasIdeal.τ).loc Cert.AdamSsdDtBiasIdeal.main_arg3))
      ∧ θ_run (Cert.AdamSsdDtBiasRefIdeal.defs (F := Ideal)) (onTc (τ := Cert.AdamSsdDtBiasRefIdeal.τ) (Cert.AdamSsdDtBiasRefIdeal.main (F := Ideal))) ⟨m', fun _ => 0, g'⟩ (fun r => ∀ c : Dev Cert.AdamSsdDtBiasRefIdeal.nD,
          r.2.mem ((c.tc : Thread Cert.AdamSsdDtBiasRefIdeal.nD Cert.AdamSsdDtBiasRefIdeal.τ).loc Cert.AdamSsdDtBiasRefIdeal.main_v24) = v0 c
          ∧ r.2.mem ((c.tc : Thread Cert.AdamSsdDtBiasRefIdeal.nD Cert.AdamSsdDtBiasRefIdeal.τ).loc Cert.AdamSsdDtBiasRefIdeal.main_v25) = v1 c
          ∧ r.2.mem ((c.tc : Thread Cert.AdamSsdDtBiasRefIdeal.nD Cert.AdamSsdDtBiasRefIdeal.τ).loc Cert.AdamSsdDtBiasRefIdeal.main_v26) = v2 c
          ∧ r.2.mem ((c.tc : Thread Cert.AdamSsdDtBiasRefIdeal.nD Cert.AdamSsdDtBiasRefIdeal.τ).loc Cert.AdamSsdDtBiasRefIdeal.main_arg0) = m' ((c.tc : Thread Cert.AdamSsdDtBiasRefIdeal.nD Cert.AdamSsdDtBiasRefIdeal.τ).loc Cert.AdamSsdDtBiasRefIdeal.main_arg0)
          ∧ r.2.mem ((c.tc : Thread Cert.AdamSsdDtBiasRefIdeal.nD Cert.AdamSsdDtBiasRefIdeal.τ).loc Cert.AdamSsdDtBiasRefIdeal.main_arg1) = m' ((c.tc : Thread Cert.AdamSsdDtBiasRefIdeal.nD Cert.AdamSsdDtBiasRefIdeal.τ).loc Cert.AdamSsdDtBiasRefIdeal.main_arg1)
          ∧ r.2.mem ((c.tc : Thread Cert.AdamSsdDtBiasRefIdeal.nD Cert.AdamSsdDtBiasRefIdeal.τ).loc Cert.AdamSsdDtBiasRefIdeal.main_arg2) = m' ((c.tc : Thread Cert.AdamSsdDtBiasRefIdeal.nD Cert.AdamSsdDtBiasRefIdeal.τ).loc Cert.AdamSsdDtBiasRefIdeal.main_arg2)
          ∧ r.2.mem ((c.tc : Thread Cert.AdamSsdDtBiasRefIdeal.nD Cert.AdamSsdDtBiasRefIdeal.τ).loc Cert.AdamSsdDtBiasRefIdeal.main_arg3) = m' ((c.tc : Thread Cert.AdamSsdDtBiasRefIdeal.nD Cert.AdamSsdDtBiasRefIdeal.τ).loc Cert.AdamSsdDtBiasRefIdeal.main_arg3))

def preserves_AdamSsdALog_AdamSsdALogIdeal : Prop :=
  True

def algebraic_AdamSsdALogIdeal_AdamSsdALogRefIdeal [hAdamSsdALogIdeal : Cert.AdamSsdALogIdeal.Facts] [hAdamSsdALogRefIdeal : Cert.AdamSsdALogRefIdeal.Facts] : Prop :=
  ∀ (m : (ℓ : Loc Cert.AdamSsdALogIdeal.nD Cert.AdamSsdALogIdeal.τ Cert.AdamSsdALogIdeal.sig) → Buf (Elt Ideal) ℓ) (g : Dev Cert.AdamSsdALogIdeal.nD → PrngReg)
    (m' : (ℓ : Loc Cert.AdamSsdALogRefIdeal.nD Cert.AdamSsdALogRefIdeal.τ Cert.AdamSsdALogRefIdeal.sig) → Buf (Elt Ideal) ℓ) (g' : Dev Cert.AdamSsdALogRefIdeal.nD → PrngReg), Pre_AdamSsdALogIdeal m →
    (∀ c : Dev Cert.AdamSsdALogIdeal.nD,
      m' ((c.tc : Thread Cert.AdamSsdALogRefIdeal.nD Cert.AdamSsdALogRefIdeal.τ).loc Cert.AdamSsdALogRefIdeal.main_arg0) = m ((c.tc : Thread Cert.AdamSsdALogIdeal.nD Cert.AdamSsdALogIdeal.τ).loc Cert.AdamSsdALogIdeal.main_arg0)
      ∧ m' ((c.tc : Thread Cert.AdamSsdALogRefIdeal.nD Cert.AdamSsdALogRefIdeal.τ).loc Cert.AdamSsdALogRefIdeal.main_arg1) = m ((c.tc : Thread Cert.AdamSsdALogIdeal.nD Cert.AdamSsdALogIdeal.τ).loc Cert.AdamSsdALogIdeal.main_arg1)
      ∧ m' ((c.tc : Thread Cert.AdamSsdALogRefIdeal.nD Cert.AdamSsdALogRefIdeal.τ).loc Cert.AdamSsdALogRefIdeal.main_arg2) = m ((c.tc : Thread Cert.AdamSsdALogIdeal.nD Cert.AdamSsdALogIdeal.τ).loc Cert.AdamSsdALogIdeal.main_arg2)
      ∧ m' ((c.tc : Thread Cert.AdamSsdALogRefIdeal.nD Cert.AdamSsdALogRefIdeal.τ).loc Cert.AdamSsdALogRefIdeal.main_arg3) = m ((c.tc : Thread Cert.AdamSsdALogIdeal.nD Cert.AdamSsdALogIdeal.τ).loc Cert.AdamSsdALogIdeal.main_arg3)) →
    ∃ (v0 : (c : Dev Cert.AdamSsdALogIdeal.nD) → Buf (Elt Ideal) ((c.tc : Thread Cert.AdamSsdALogIdeal.nD Cert.AdamSsdALogIdeal.τ).loc Cert.AdamSsdALogIdeal.main_v4_0)) (v1 : (c : Dev Cert.AdamSsdALogIdeal.nD) → Buf (Elt Ideal) ((c.tc : Thread Cert.AdamSsdALogIdeal.nD Cert.AdamSsdALogIdeal.τ).loc Cert.AdamSsdALogIdeal.main_v4_1)) (v2 : (c : Dev Cert.AdamSsdALogIdeal.nD) → Buf (Elt Ideal) ((c.tc : Thread Cert.AdamSsdALogIdeal.nD Cert.AdamSsdALogIdeal.τ).loc Cert.AdamSsdALogIdeal.main_v4_2)),
      θ_run (Cert.AdamSsdALogIdeal.defs (F := Ideal)) (onTc (τ := Cert.AdamSsdALogIdeal.τ) (Cert.AdamSsdALogIdeal.main (F := Ideal))) ⟨m, fun _ => 0, g⟩ (fun r => ∀ c : Dev Cert.AdamSsdALogIdeal.nD,
          r.2.mem ((c.tc : Thread Cert.AdamSsdALogIdeal.nD Cert.AdamSsdALogIdeal.τ).loc Cert.AdamSsdALogIdeal.main_v4_0) = v0 c
          ∧ r.2.mem ((c.tc : Thread Cert.AdamSsdALogIdeal.nD Cert.AdamSsdALogIdeal.τ).loc Cert.AdamSsdALogIdeal.main_v4_1) = v1 c
          ∧ r.2.mem ((c.tc : Thread Cert.AdamSsdALogIdeal.nD Cert.AdamSsdALogIdeal.τ).loc Cert.AdamSsdALogIdeal.main_v4_2) = v2 c
          ∧ r.2.mem ((c.tc : Thread Cert.AdamSsdALogIdeal.nD Cert.AdamSsdALogIdeal.τ).loc Cert.AdamSsdALogIdeal.main_arg0) = m ((c.tc : Thread Cert.AdamSsdALogIdeal.nD Cert.AdamSsdALogIdeal.τ).loc Cert.AdamSsdALogIdeal.main_arg0)
          ∧ r.2.mem ((c.tc : Thread Cert.AdamSsdALogIdeal.nD Cert.AdamSsdALogIdeal.τ).loc Cert.AdamSsdALogIdeal.main_arg1) = m ((c.tc : Thread Cert.AdamSsdALogIdeal.nD Cert.AdamSsdALogIdeal.τ).loc Cert.AdamSsdALogIdeal.main_arg1)
          ∧ r.2.mem ((c.tc : Thread Cert.AdamSsdALogIdeal.nD Cert.AdamSsdALogIdeal.τ).loc Cert.AdamSsdALogIdeal.main_arg2) = m ((c.tc : Thread Cert.AdamSsdALogIdeal.nD Cert.AdamSsdALogIdeal.τ).loc Cert.AdamSsdALogIdeal.main_arg2)
          ∧ r.2.mem ((c.tc : Thread Cert.AdamSsdALogIdeal.nD Cert.AdamSsdALogIdeal.τ).loc Cert.AdamSsdALogIdeal.main_arg3) = m ((c.tc : Thread Cert.AdamSsdALogIdeal.nD Cert.AdamSsdALogIdeal.τ).loc Cert.AdamSsdALogIdeal.main_arg3))
      ∧ θ_run (Cert.AdamSsdALogRefIdeal.defs (F := Ideal)) (onTc (τ := Cert.AdamSsdALogRefIdeal.τ) (Cert.AdamSsdALogRefIdeal.main (F := Ideal))) ⟨m', fun _ => 0, g'⟩ (fun r => ∀ c : Dev Cert.AdamSsdALogRefIdeal.nD,
          r.2.mem ((c.tc : Thread Cert.AdamSsdALogRefIdeal.nD Cert.AdamSsdALogRefIdeal.τ).loc Cert.AdamSsdALogRefIdeal.main_v24) = v0 c
          ∧ r.2.mem ((c.tc : Thread Cert.AdamSsdALogRefIdeal.nD Cert.AdamSsdALogRefIdeal.τ).loc Cert.AdamSsdALogRefIdeal.main_v25) = v1 c
          ∧ r.2.mem ((c.tc : Thread Cert.AdamSsdALogRefIdeal.nD Cert.AdamSsdALogRefIdeal.τ).loc Cert.AdamSsdALogRefIdeal.main_v26) = v2 c
          ∧ r.2.mem ((c.tc : Thread Cert.AdamSsdALogRefIdeal.nD Cert.AdamSsdALogRefIdeal.τ).loc Cert.AdamSsdALogRefIdeal.main_arg0) = m' ((c.tc : Thread Cert.AdamSsdALogRefIdeal.nD Cert.AdamSsdALogRefIdeal.τ).loc Cert.AdamSsdALogRefIdeal.main_arg0)
          ∧ r.2.mem ((c.tc : Thread Cert.AdamSsdALogRefIdeal.nD Cert.AdamSsdALogRefIdeal.τ).loc Cert.AdamSsdALogRefIdeal.main_arg1) = m' ((c.tc : Thread Cert.AdamSsdALogRefIdeal.nD Cert.AdamSsdALogRefIdeal.τ).loc Cert.AdamSsdALogRefIdeal.main_arg1)
          ∧ r.2.mem ((c.tc : Thread Cert.AdamSsdALogRefIdeal.nD Cert.AdamSsdALogRefIdeal.τ).loc Cert.AdamSsdALogRefIdeal.main_arg2) = m' ((c.tc : Thread Cert.AdamSsdALogRefIdeal.nD Cert.AdamSsdALogRefIdeal.τ).loc Cert.AdamSsdALogRefIdeal.main_arg2)
          ∧ r.2.mem ((c.tc : Thread Cert.AdamSsdALogRefIdeal.nD Cert.AdamSsdALogRefIdeal.τ).loc Cert.AdamSsdALogRefIdeal.main_arg3) = m' ((c.tc : Thread Cert.AdamSsdALogRefIdeal.nD Cert.AdamSsdALogRefIdeal.τ).loc Cert.AdamSsdALogRefIdeal.main_arg3))

def preserves_AdamSsdD_AdamSsdDIdeal : Prop :=
  True

def algebraic_AdamSsdDIdeal_AdamSsdDRefIdeal [hAdamSsdDIdeal : Cert.AdamSsdDIdeal.Facts] [hAdamSsdDRefIdeal : Cert.AdamSsdDRefIdeal.Facts] : Prop :=
  ∀ (m : (ℓ : Loc Cert.AdamSsdDIdeal.nD Cert.AdamSsdDIdeal.τ Cert.AdamSsdDIdeal.sig) → Buf (Elt Ideal) ℓ) (g : Dev Cert.AdamSsdDIdeal.nD → PrngReg)
    (m' : (ℓ : Loc Cert.AdamSsdDRefIdeal.nD Cert.AdamSsdDRefIdeal.τ Cert.AdamSsdDRefIdeal.sig) → Buf (Elt Ideal) ℓ) (g' : Dev Cert.AdamSsdDRefIdeal.nD → PrngReg), Pre_AdamSsdDIdeal m →
    (∀ c : Dev Cert.AdamSsdDIdeal.nD,
      m' ((c.tc : Thread Cert.AdamSsdDRefIdeal.nD Cert.AdamSsdDRefIdeal.τ).loc Cert.AdamSsdDRefIdeal.main_arg0) = m ((c.tc : Thread Cert.AdamSsdDIdeal.nD Cert.AdamSsdDIdeal.τ).loc Cert.AdamSsdDIdeal.main_arg0)
      ∧ m' ((c.tc : Thread Cert.AdamSsdDRefIdeal.nD Cert.AdamSsdDRefIdeal.τ).loc Cert.AdamSsdDRefIdeal.main_arg1) = m ((c.tc : Thread Cert.AdamSsdDIdeal.nD Cert.AdamSsdDIdeal.τ).loc Cert.AdamSsdDIdeal.main_arg1)
      ∧ m' ((c.tc : Thread Cert.AdamSsdDRefIdeal.nD Cert.AdamSsdDRefIdeal.τ).loc Cert.AdamSsdDRefIdeal.main_arg2) = m ((c.tc : Thread Cert.AdamSsdDIdeal.nD Cert.AdamSsdDIdeal.τ).loc Cert.AdamSsdDIdeal.main_arg2)
      ∧ m' ((c.tc : Thread Cert.AdamSsdDRefIdeal.nD Cert.AdamSsdDRefIdeal.τ).loc Cert.AdamSsdDRefIdeal.main_arg3) = m ((c.tc : Thread Cert.AdamSsdDIdeal.nD Cert.AdamSsdDIdeal.τ).loc Cert.AdamSsdDIdeal.main_arg3)) →
    ∃ (v0 : (c : Dev Cert.AdamSsdDIdeal.nD) → Buf (Elt Ideal) ((c.tc : Thread Cert.AdamSsdDIdeal.nD Cert.AdamSsdDIdeal.τ).loc Cert.AdamSsdDIdeal.main_v4_0)) (v1 : (c : Dev Cert.AdamSsdDIdeal.nD) → Buf (Elt Ideal) ((c.tc : Thread Cert.AdamSsdDIdeal.nD Cert.AdamSsdDIdeal.τ).loc Cert.AdamSsdDIdeal.main_v4_1)) (v2 : (c : Dev Cert.AdamSsdDIdeal.nD) → Buf (Elt Ideal) ((c.tc : Thread Cert.AdamSsdDIdeal.nD Cert.AdamSsdDIdeal.τ).loc Cert.AdamSsdDIdeal.main_v4_2)),
      θ_run (Cert.AdamSsdDIdeal.defs (F := Ideal)) (onTc (τ := Cert.AdamSsdDIdeal.τ) (Cert.AdamSsdDIdeal.main (F := Ideal))) ⟨m, fun _ => 0, g⟩ (fun r => ∀ c : Dev Cert.AdamSsdDIdeal.nD,
          r.2.mem ((c.tc : Thread Cert.AdamSsdDIdeal.nD Cert.AdamSsdDIdeal.τ).loc Cert.AdamSsdDIdeal.main_v4_0) = v0 c
          ∧ r.2.mem ((c.tc : Thread Cert.AdamSsdDIdeal.nD Cert.AdamSsdDIdeal.τ).loc Cert.AdamSsdDIdeal.main_v4_1) = v1 c
          ∧ r.2.mem ((c.tc : Thread Cert.AdamSsdDIdeal.nD Cert.AdamSsdDIdeal.τ).loc Cert.AdamSsdDIdeal.main_v4_2) = v2 c
          ∧ r.2.mem ((c.tc : Thread Cert.AdamSsdDIdeal.nD Cert.AdamSsdDIdeal.τ).loc Cert.AdamSsdDIdeal.main_arg0) = m ((c.tc : Thread Cert.AdamSsdDIdeal.nD Cert.AdamSsdDIdeal.τ).loc Cert.AdamSsdDIdeal.main_arg0)
          ∧ r.2.mem ((c.tc : Thread Cert.AdamSsdDIdeal.nD Cert.AdamSsdDIdeal.τ).loc Cert.AdamSsdDIdeal.main_arg1) = m ((c.tc : Thread Cert.AdamSsdDIdeal.nD Cert.AdamSsdDIdeal.τ).loc Cert.AdamSsdDIdeal.main_arg1)
          ∧ r.2.mem ((c.tc : Thread Cert.AdamSsdDIdeal.nD Cert.AdamSsdDIdeal.τ).loc Cert.AdamSsdDIdeal.main_arg2) = m ((c.tc : Thread Cert.AdamSsdDIdeal.nD Cert.AdamSsdDIdeal.τ).loc Cert.AdamSsdDIdeal.main_arg2)
          ∧ r.2.mem ((c.tc : Thread Cert.AdamSsdDIdeal.nD Cert.AdamSsdDIdeal.τ).loc Cert.AdamSsdDIdeal.main_arg3) = m ((c.tc : Thread Cert.AdamSsdDIdeal.nD Cert.AdamSsdDIdeal.τ).loc Cert.AdamSsdDIdeal.main_arg3))
      ∧ θ_run (Cert.AdamSsdDRefIdeal.defs (F := Ideal)) (onTc (τ := Cert.AdamSsdDRefIdeal.τ) (Cert.AdamSsdDRefIdeal.main (F := Ideal))) ⟨m', fun _ => 0, g'⟩ (fun r => ∀ c : Dev Cert.AdamSsdDRefIdeal.nD,
          r.2.mem ((c.tc : Thread Cert.AdamSsdDRefIdeal.nD Cert.AdamSsdDRefIdeal.τ).loc Cert.AdamSsdDRefIdeal.main_v24) = v0 c
          ∧ r.2.mem ((c.tc : Thread Cert.AdamSsdDRefIdeal.nD Cert.AdamSsdDRefIdeal.τ).loc Cert.AdamSsdDRefIdeal.main_v25) = v1 c
          ∧ r.2.mem ((c.tc : Thread Cert.AdamSsdDRefIdeal.nD Cert.AdamSsdDRefIdeal.τ).loc Cert.AdamSsdDRefIdeal.main_v26) = v2 c
          ∧ r.2.mem ((c.tc : Thread Cert.AdamSsdDRefIdeal.nD Cert.AdamSsdDRefIdeal.τ).loc Cert.AdamSsdDRefIdeal.main_arg0) = m' ((c.tc : Thread Cert.AdamSsdDRefIdeal.nD Cert.AdamSsdDRefIdeal.τ).loc Cert.AdamSsdDRefIdeal.main_arg0)
          ∧ r.2.mem ((c.tc : Thread Cert.AdamSsdDRefIdeal.nD Cert.AdamSsdDRefIdeal.τ).loc Cert.AdamSsdDRefIdeal.main_arg1) = m' ((c.tc : Thread Cert.AdamSsdDRefIdeal.nD Cert.AdamSsdDRefIdeal.τ).loc Cert.AdamSsdDRefIdeal.main_arg1)
          ∧ r.2.mem ((c.tc : Thread Cert.AdamSsdDRefIdeal.nD Cert.AdamSsdDRefIdeal.τ).loc Cert.AdamSsdDRefIdeal.main_arg2) = m' ((c.tc : Thread Cert.AdamSsdDRefIdeal.nD Cert.AdamSsdDRefIdeal.τ).loc Cert.AdamSsdDRefIdeal.main_arg2)
          ∧ r.2.mem ((c.tc : Thread Cert.AdamSsdDRefIdeal.nD Cert.AdamSsdDRefIdeal.τ).loc Cert.AdamSsdDRefIdeal.main_arg3) = m' ((c.tc : Thread Cert.AdamSsdDRefIdeal.nD Cert.AdamSsdDRefIdeal.τ).loc Cert.AdamSsdDRefIdeal.main_arg3))

def Claim : Prop :=
  ∃ (hAttn : Cert.Attn.Facts) (hAttnIdeal : Cert.AttnIdeal.Facts) (hAttnRefIdeal : Cert.AttnRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hIn : Cert.In.Facts) (hInIdeal : Cert.InIdeal.Facts) (hInRefIdeal : Cert.InRefIdeal.Facts) (hAttnFwd : Cert.AttnFwd.Facts) (hAttnFwdIdeal : Cert.AttnFwdIdeal.Facts) (hAttnFwdRefIdeal : Cert.AttnFwdRefIdeal.Facts) (hLoss : Cert.Loss.Facts) (hLossIdeal : Cert.LossIdeal.Facts) (hLossRefIdeal : Cert.LossRefIdeal.Facts) (hAdam : Cert.Adam.Facts) (hAdamIdeal : Cert.AdamIdeal.Facts) (hAdamRefIdeal : Cert.AdamRefIdeal.Facts) (hAdamS5WGlu : Cert.AdamS5WGlu.Facts) (hAdamS5WGluIdeal : Cert.AdamS5WGluIdeal.Facts) (hAdamS5WGluRefIdeal : Cert.AdamS5WGluRefIdeal.Facts) (hAdamXaWk : Cert.AdamXaWk.Facts) (hAdamXaWkIdeal : Cert.AdamXaWkIdeal.Facts) (hAdamXaWkRefIdeal : Cert.AdamXaWkRefIdeal.Facts) (hAdamXaWv : Cert.AdamXaWv.Facts) (hAdamXaWvIdeal : Cert.AdamXaWvIdeal.Facts) (hAdamXaWvRefIdeal : Cert.AdamXaWvRefIdeal.Facts) (hAdamXaWo : Cert.AdamXaWo.Facts) (hAdamXaWoIdeal : Cert.AdamXaWoIdeal.Facts) (hAdamXaWoRefIdeal : Cert.AdamXaWoRefIdeal.Facts) (hAdamWIn : Cert.AdamWIn.Facts) (hAdamWInIdeal : Cert.AdamWInIdeal.Facts) (hAdamWInRefIdeal : Cert.AdamWInRefIdeal.Facts) (hAdamSsdConvW : Cert.AdamSsdConvW.Facts) (hAdamSsdConvWIdeal : Cert.AdamSsdConvWIdeal.Facts) (hAdamSsdConvWRefIdeal : Cert.AdamSsdConvWRefIdeal.Facts) (hAdamWOut : Cert.AdamWOut.Facts) (hAdamWOutIdeal : Cert.AdamWOutIdeal.Facts) (hAdamWOutRefIdeal : Cert.AdamWOutRefIdeal.Facts) (hAdamMlpW1 : Cert.AdamMlpW1.Facts) (hAdamMlpW1Ideal : Cert.AdamMlpW1Ideal.Facts) (hAdamMlpW1RefIdeal : Cert.AdamMlpW1RefIdeal.Facts) (hAdamMlpW2 : Cert.AdamMlpW2.Facts) (hAdamMlpW2Ideal : Cert.AdamMlpW2Ideal.Facts) (hAdamMlpW2RefIdeal : Cert.AdamMlpW2RefIdeal.Facts) (hAdamNormMix : Cert.AdamNormMix.Facts) (hAdamNormMixIdeal : Cert.AdamNormMixIdeal.Facts) (hAdamNormMixRefIdeal : Cert.AdamNormMixRefIdeal.Facts) (hAdamSsdNorm : Cert.AdamSsdNorm.Facts) (hAdamSsdNormIdeal : Cert.AdamSsdNormIdeal.Facts) (hAdamSsdNormRefIdeal : Cert.AdamSsdNormRefIdeal.Facts) (hAdamNormXattn : Cert.AdamNormXattn.Facts) (hAdamNormXattnIdeal : Cert.AdamNormXattnIdeal.Facts) (hAdamNormXattnRefIdeal : Cert.AdamNormXattnRefIdeal.Facts) (hAdamNormMem : Cert.AdamNormMem.Facts) (hAdamNormMemIdeal : Cert.AdamNormMemIdeal.Facts) (hAdamNormMemRefIdeal : Cert.AdamNormMemRefIdeal.Facts) (hAdamNormMlp : Cert.AdamNormMlp.Facts) (hAdamNormMlpIdeal : Cert.AdamNormMlpIdeal.Facts) (hAdamNormMlpRefIdeal : Cert.AdamNormMlpRefIdeal.Facts) (hAdamNormFinal : Cert.AdamNormFinal.Facts) (hAdamNormFinalIdeal : Cert.AdamNormFinalIdeal.Facts) (hAdamNormFinalRefIdeal : Cert.AdamNormFinalRefIdeal.Facts) (hAdamSsdConvB : Cert.AdamSsdConvB.Facts) (hAdamSsdConvBIdeal : Cert.AdamSsdConvBIdeal.Facts) (hAdamSsdConvBRefIdeal : Cert.AdamSsdConvBRefIdeal.Facts) (hAdamS5ARe : Cert.AdamS5ARe.Facts) (hAdamS5AReIdeal : Cert.AdamS5AReIdeal.Facts) (hAdamS5AReRefIdeal : Cert.AdamS5AReRefIdeal.Facts) (hAdamS5AIm : Cert.AdamS5AIm.Facts) (hAdamS5AImIdeal : Cert.AdamS5AImIdeal.Facts) (hAdamS5AImRefIdeal : Cert.AdamS5AImRefIdeal.Facts) (hAdamS5LogDt : Cert.AdamS5LogDt.Facts) (hAdamS5LogDtIdeal : Cert.AdamS5LogDtIdeal.Facts) (hAdamS5LogDtRefIdeal : Cert.AdamS5LogDtRefIdeal.Facts) (hAdamS5BRe : Cert.AdamS5BRe.Facts) (hAdamS5BReIdeal : Cert.AdamS5BReIdeal.Facts) (hAdamS5BReRefIdeal : Cert.AdamS5BReRefIdeal.Facts) (hAdamS5BIm : Cert.AdamS5BIm.Facts) (hAdamS5BImIdeal : Cert.AdamS5BImIdeal.Facts) (hAdamS5BImRefIdeal : Cert.AdamS5BImRefIdeal.Facts) (hAdamS5CRe : Cert.AdamS5CRe.Facts) (hAdamS5CReIdeal : Cert.AdamS5CReIdeal.Facts) (hAdamS5CReRefIdeal : Cert.AdamS5CReRefIdeal.Facts) (hAdamS5CIm : Cert.AdamS5CIm.Facts) (hAdamS5CImIdeal : Cert.AdamS5CImIdeal.Facts) (hAdamS5CImRefIdeal : Cert.AdamS5CImRefIdeal.Facts) (hAdamS5D : Cert.AdamS5D.Facts) (hAdamS5DIdeal : Cert.AdamS5DIdeal.Facts) (hAdamS5DRefIdeal : Cert.AdamS5DRefIdeal.Facts) (hAdamSsdDtBias : Cert.AdamSsdDtBias.Facts) (hAdamSsdDtBiasIdeal : Cert.AdamSsdDtBiasIdeal.Facts) (hAdamSsdDtBiasRefIdeal : Cert.AdamSsdDtBiasRefIdeal.Facts) (hAdamSsdALog : Cert.AdamSsdALog.Facts) (hAdamSsdALogIdeal : Cert.AdamSsdALogIdeal.Facts) (hAdamSsdALogRefIdeal : Cert.AdamSsdALogRefIdeal.Facts) (hAdamSsdD : Cert.AdamSsdD.Facts) (hAdamSsdDIdeal : Cert.AdamSsdDIdeal.Facts) (hAdamSsdDRefIdeal : Cert.AdamSsdDRefIdeal.Facts) (hPre_attn_finite : Cert.Pre_attn_finite.Facts) (hPre_attn_fwd_finite : Cert.Pre_attn_fwd_finite.Facts),
    quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_In (hIn := hIn)
    ∧ quiescent_InIdeal (hInIdeal := hInIdeal)
    ∧ quiescent_InRefIdeal (hInRefIdeal := hInRefIdeal)
    ∧ quiescent_AttnFwd (hAttnFwd := hAttnFwd)
    ∧ quiescent_AttnFwdIdeal (hAttnFwdIdeal := hAttnFwdIdeal)
    ∧ quiescent_AttnFwdIdeal_pre_attn_fwd_finite (hAttnFwdIdeal := hAttnFwdIdeal) (hPre_attn_fwd_finite := hPre_attn_fwd_finite)
    ∧ quiescent_AttnFwdRefIdeal (hAttnFwdRefIdeal := hAttnFwdRefIdeal)
    ∧ quiescent_AttnFwdRefIdeal_pre_attn_fwd_finite (hAttnFwdRefIdeal := hAttnFwdRefIdeal) (hPre_attn_fwd_finite := hPre_attn_fwd_finite)
    ∧ quiescent_Loss (hLoss := hLoss)
    ∧ quiescent_LossIdeal (hLossIdeal := hLossIdeal)
    ∧ quiescent_LossRefIdeal (hLossRefIdeal := hLossRefIdeal)
    ∧ quiescent_Adam (hAdam := hAdam)
    ∧ quiescent_AdamIdeal (hAdamIdeal := hAdamIdeal)
    ∧ quiescent_AdamRefIdeal (hAdamRefIdeal := hAdamRefIdeal)
    ∧ quiescent_AdamS5WGlu (hAdamS5WGlu := hAdamS5WGlu)
    ∧ quiescent_AdamS5WGluIdeal (hAdamS5WGluIdeal := hAdamS5WGluIdeal)
    ∧ quiescent_AdamS5WGluRefIdeal (hAdamS5WGluRefIdeal := hAdamS5WGluRefIdeal)
    ∧ quiescent_AdamXaWk (hAdamXaWk := hAdamXaWk)
    ∧ quiescent_AdamXaWkIdeal (hAdamXaWkIdeal := hAdamXaWkIdeal)
    ∧ quiescent_AdamXaWkRefIdeal (hAdamXaWkRefIdeal := hAdamXaWkRefIdeal)
    ∧ quiescent_AdamXaWv (hAdamXaWv := hAdamXaWv)
    ∧ quiescent_AdamXaWvIdeal (hAdamXaWvIdeal := hAdamXaWvIdeal)
    ∧ quiescent_AdamXaWvRefIdeal (hAdamXaWvRefIdeal := hAdamXaWvRefIdeal)
    ∧ quiescent_AdamXaWo (hAdamXaWo := hAdamXaWo)
    ∧ quiescent_AdamXaWoIdeal (hAdamXaWoIdeal := hAdamXaWoIdeal)
    ∧ quiescent_AdamXaWoRefIdeal (hAdamXaWoRefIdeal := hAdamXaWoRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamSsdConvW (hAdamSsdConvW := hAdamSsdConvW)
    ∧ quiescent_AdamSsdConvWIdeal (hAdamSsdConvWIdeal := hAdamSsdConvWIdeal)
    ∧ quiescent_AdamSsdConvWRefIdeal (hAdamSsdConvWRefIdeal := hAdamSsdConvWRefIdeal)
    ∧ quiescent_AdamWOut (hAdamWOut := hAdamWOut)
    ∧ quiescent_AdamWOutIdeal (hAdamWOutIdeal := hAdamWOutIdeal)
    ∧ quiescent_AdamWOutRefIdeal (hAdamWOutRefIdeal := hAdamWOutRefIdeal)
    ∧ quiescent_AdamMlpW1 (hAdamMlpW1 := hAdamMlpW1)
    ∧ quiescent_AdamMlpW1Ideal (hAdamMlpW1Ideal := hAdamMlpW1Ideal)
    ∧ quiescent_AdamMlpW1RefIdeal (hAdamMlpW1RefIdeal := hAdamMlpW1RefIdeal)
    ∧ quiescent_AdamMlpW2 (hAdamMlpW2 := hAdamMlpW2)
    ∧ quiescent_AdamMlpW2Ideal (hAdamMlpW2Ideal := hAdamMlpW2Ideal)
    ∧ quiescent_AdamMlpW2RefIdeal (hAdamMlpW2RefIdeal := hAdamMlpW2RefIdeal)
    ∧ quiescent_AdamNormMix (hAdamNormMix := hAdamNormMix)
    ∧ quiescent_AdamNormMixIdeal (hAdamNormMixIdeal := hAdamNormMixIdeal)
    ∧ quiescent_AdamNormMixRefIdeal (hAdamNormMixRefIdeal := hAdamNormMixRefIdeal)
    ∧ quiescent_AdamSsdNorm (hAdamSsdNorm := hAdamSsdNorm)
    ∧ quiescent_AdamSsdNormIdeal (hAdamSsdNormIdeal := hAdamSsdNormIdeal)
    ∧ quiescent_AdamSsdNormRefIdeal (hAdamSsdNormRefIdeal := hAdamSsdNormRefIdeal)
    ∧ quiescent_AdamNormXattn (hAdamNormXattn := hAdamNormXattn)
    ∧ quiescent_AdamNormXattnIdeal (hAdamNormXattnIdeal := hAdamNormXattnIdeal)
    ∧ quiescent_AdamNormXattnRefIdeal (hAdamNormXattnRefIdeal := hAdamNormXattnRefIdeal)
    ∧ quiescent_AdamNormMem (hAdamNormMem := hAdamNormMem)
    ∧ quiescent_AdamNormMemIdeal (hAdamNormMemIdeal := hAdamNormMemIdeal)
    ∧ quiescent_AdamNormMemRefIdeal (hAdamNormMemRefIdeal := hAdamNormMemRefIdeal)
    ∧ quiescent_AdamNormMlp (hAdamNormMlp := hAdamNormMlp)
    ∧ quiescent_AdamNormMlpIdeal (hAdamNormMlpIdeal := hAdamNormMlpIdeal)
    ∧ quiescent_AdamNormMlpRefIdeal (hAdamNormMlpRefIdeal := hAdamNormMlpRefIdeal)
    ∧ quiescent_AdamNormFinal (hAdamNormFinal := hAdamNormFinal)
    ∧ quiescent_AdamNormFinalIdeal (hAdamNormFinalIdeal := hAdamNormFinalIdeal)
    ∧ quiescent_AdamNormFinalRefIdeal (hAdamNormFinalRefIdeal := hAdamNormFinalRefIdeal)
    ∧ quiescent_AdamSsdConvB (hAdamSsdConvB := hAdamSsdConvB)
    ∧ quiescent_AdamSsdConvBIdeal (hAdamSsdConvBIdeal := hAdamSsdConvBIdeal)
    ∧ quiescent_AdamSsdConvBRefIdeal (hAdamSsdConvBRefIdeal := hAdamSsdConvBRefIdeal)
    ∧ quiescent_AdamS5ARe (hAdamS5ARe := hAdamS5ARe)
    ∧ quiescent_AdamS5AReIdeal (hAdamS5AReIdeal := hAdamS5AReIdeal)
    ∧ quiescent_AdamS5AReRefIdeal (hAdamS5AReRefIdeal := hAdamS5AReRefIdeal)
    ∧ quiescent_AdamS5AIm (hAdamS5AIm := hAdamS5AIm)
    ∧ quiescent_AdamS5AImIdeal (hAdamS5AImIdeal := hAdamS5AImIdeal)
    ∧ quiescent_AdamS5AImRefIdeal (hAdamS5AImRefIdeal := hAdamS5AImRefIdeal)
    ∧ quiescent_AdamS5LogDt (hAdamS5LogDt := hAdamS5LogDt)
    ∧ quiescent_AdamS5LogDtIdeal (hAdamS5LogDtIdeal := hAdamS5LogDtIdeal)
    ∧ quiescent_AdamS5LogDtRefIdeal (hAdamS5LogDtRefIdeal := hAdamS5LogDtRefIdeal)
    ∧ quiescent_AdamS5BRe (hAdamS5BRe := hAdamS5BRe)
    ∧ quiescent_AdamS5BReIdeal (hAdamS5BReIdeal := hAdamS5BReIdeal)
    ∧ quiescent_AdamS5BReRefIdeal (hAdamS5BReRefIdeal := hAdamS5BReRefIdeal)
    ∧ quiescent_AdamS5BIm (hAdamS5BIm := hAdamS5BIm)
    ∧ quiescent_AdamS5BImIdeal (hAdamS5BImIdeal := hAdamS5BImIdeal)
    ∧ quiescent_AdamS5BImRefIdeal (hAdamS5BImRefIdeal := hAdamS5BImRefIdeal)
    ∧ quiescent_AdamS5CRe (hAdamS5CRe := hAdamS5CRe)
    ∧ quiescent_AdamS5CReIdeal (hAdamS5CReIdeal := hAdamS5CReIdeal)
    ∧ quiescent_AdamS5CReRefIdeal (hAdamS5CReRefIdeal := hAdamS5CReRefIdeal)
    ∧ quiescent_AdamS5CIm (hAdamS5CIm := hAdamS5CIm)
    ∧ quiescent_AdamS5CImIdeal (hAdamS5CImIdeal := hAdamS5CImIdeal)
    ∧ quiescent_AdamS5CImRefIdeal (hAdamS5CImRefIdeal := hAdamS5CImRefIdeal)
    ∧ quiescent_AdamS5D (hAdamS5D := hAdamS5D)
    ∧ quiescent_AdamS5DIdeal (hAdamS5DIdeal := hAdamS5DIdeal)
    ∧ quiescent_AdamS5DRefIdeal (hAdamS5DRefIdeal := hAdamS5DRefIdeal)
    ∧ quiescent_AdamSsdDtBias (hAdamSsdDtBias := hAdamSsdDtBias)
    ∧ quiescent_AdamSsdDtBiasIdeal (hAdamSsdDtBiasIdeal := hAdamSsdDtBiasIdeal)
    ∧ quiescent_AdamSsdDtBiasRefIdeal (hAdamSsdDtBiasRefIdeal := hAdamSsdDtBiasRefIdeal)
    ∧ quiescent_AdamSsdALog (hAdamSsdALog := hAdamSsdALog)
    ∧ quiescent_AdamSsdALogIdeal (hAdamSsdALogIdeal := hAdamSsdALogIdeal)
    ∧ quiescent_AdamSsdALogRefIdeal (hAdamSsdALogRefIdeal := hAdamSsdALogRefIdeal)
    ∧ quiescent_AdamSsdD (hAdamSsdD := hAdamSsdD)
    ∧ quiescent_AdamSsdDIdeal (hAdamSsdDIdeal := hAdamSsdDIdeal)
    ∧ quiescent_AdamSsdDRefIdeal (hAdamSsdDRefIdeal := hAdamSsdDRefIdeal)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal (hUpDxIdeal := hUpDxIdeal) (hUpDxRefIdeal := hUpDxRefIdeal)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_In_InIdeal
    ∧ algebraic_InIdeal_InRefIdeal (hInIdeal := hInIdeal) (hInRefIdeal := hInRefIdeal)
    ∧ preserves_AttnFwd_AttnFwdIdeal
    ∧ algebraic_AttnFwdIdeal_AttnFwdRefIdeal_pre_attn_fwd_finite (hAttnFwdIdeal := hAttnFwdIdeal) (hAttnFwdRefIdeal := hAttnFwdRefIdeal) (hPre_attn_fwd_finite := hPre_attn_fwd_finite)
    ∧ preserves_Loss_LossIdeal
    ∧ algebraic_LossIdeal_LossRefIdeal (hLossIdeal := hLossIdeal) (hLossRefIdeal := hLossRefIdeal)
    ∧ preserves_Adam_AdamIdeal
    ∧ algebraic_AdamIdeal_AdamRefIdeal (hAdamIdeal := hAdamIdeal) (hAdamRefIdeal := hAdamRefIdeal)
    ∧ preserves_AdamS5WGlu_AdamS5WGluIdeal
    ∧ algebraic_AdamS5WGluIdeal_AdamS5WGluRefIdeal (hAdamS5WGluIdeal := hAdamS5WGluIdeal) (hAdamS5WGluRefIdeal := hAdamS5WGluRefIdeal)
    ∧ preserves_AdamXaWk_AdamXaWkIdeal
    ∧ algebraic_AdamXaWkIdeal_AdamXaWkRefIdeal (hAdamXaWkIdeal := hAdamXaWkIdeal) (hAdamXaWkRefIdeal := hAdamXaWkRefIdeal)
    ∧ preserves_AdamXaWv_AdamXaWvIdeal
    ∧ algebraic_AdamXaWvIdeal_AdamXaWvRefIdeal (hAdamXaWvIdeal := hAdamXaWvIdeal) (hAdamXaWvRefIdeal := hAdamXaWvRefIdeal)
    ∧ preserves_AdamXaWo_AdamXaWoIdeal
    ∧ algebraic_AdamXaWoIdeal_AdamXaWoRefIdeal (hAdamXaWoIdeal := hAdamXaWoIdeal) (hAdamXaWoRefIdeal := hAdamXaWoRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamSsdConvW_AdamSsdConvWIdeal
    ∧ algebraic_AdamSsdConvWIdeal_AdamSsdConvWRefIdeal (hAdamSsdConvWIdeal := hAdamSsdConvWIdeal) (hAdamSsdConvWRefIdeal := hAdamSsdConvWRefIdeal)
    ∧ preserves_AdamWOut_AdamWOutIdeal
    ∧ algebraic_AdamWOutIdeal_AdamWOutRefIdeal (hAdamWOutIdeal := hAdamWOutIdeal) (hAdamWOutRefIdeal := hAdamWOutRefIdeal)
    ∧ preserves_AdamMlpW1_AdamMlpW1Ideal
    ∧ algebraic_AdamMlpW1Ideal_AdamMlpW1RefIdeal (hAdamMlpW1Ideal := hAdamMlpW1Ideal) (hAdamMlpW1RefIdeal := hAdamMlpW1RefIdeal)
    ∧ preserves_AdamMlpW2_AdamMlpW2Ideal
    ∧ algebraic_AdamMlpW2Ideal_AdamMlpW2RefIdeal (hAdamMlpW2Ideal := hAdamMlpW2Ideal) (hAdamMlpW2RefIdeal := hAdamMlpW2RefIdeal)
    ∧ preserves_AdamNormMix_AdamNormMixIdeal
    ∧ algebraic_AdamNormMixIdeal_AdamNormMixRefIdeal (hAdamNormMixIdeal := hAdamNormMixIdeal) (hAdamNormMixRefIdeal := hAdamNormMixRefIdeal)
    ∧ preserves_AdamSsdNorm_AdamSsdNormIdeal
    ∧ algebraic_AdamSsdNormIdeal_AdamSsdNormRefIdeal (hAdamSsdNormIdeal := hAdamSsdNormIdeal) (hAdamSsdNormRefIdeal := hAdamSsdNormRefIdeal)
    ∧ preserves_AdamNormXattn_AdamNormXattnIdeal
    ∧ algebraic_AdamNormXattnIdeal_AdamNormXattnRefIdeal (hAdamNormXattnIdeal := hAdamNormXattnIdeal) (hAdamNormXattnRefIdeal := hAdamNormXattnRefIdeal)
    ∧ preserves_AdamNormMem_AdamNormMemIdeal
    ∧ algebraic_AdamNormMemIdeal_AdamNormMemRefIdeal (hAdamNormMemIdeal := hAdamNormMemIdeal) (hAdamNormMemRefIdeal := hAdamNormMemRefIdeal)
    ∧ preserves_AdamNormMlp_AdamNormMlpIdeal
    ∧ algebraic_AdamNormMlpIdeal_AdamNormMlpRefIdeal (hAdamNormMlpIdeal := hAdamNormMlpIdeal) (hAdamNormMlpRefIdeal := hAdamNormMlpRefIdeal)
    ∧ preserves_AdamNormFinal_AdamNormFinalIdeal
    ∧ algebraic_AdamNormFinalIdeal_AdamNormFinalRefIdeal (hAdamNormFinalIdeal := hAdamNormFinalIdeal) (hAdamNormFinalRefIdeal := hAdamNormFinalRefIdeal)
    ∧ preserves_AdamSsdConvB_AdamSsdConvBIdeal
    ∧ algebraic_AdamSsdConvBIdeal_AdamSsdConvBRefIdeal (hAdamSsdConvBIdeal := hAdamSsdConvBIdeal) (hAdamSsdConvBRefIdeal := hAdamSsdConvBRefIdeal)
    ∧ preserves_AdamS5ARe_AdamS5AReIdeal
    ∧ algebraic_AdamS5AReIdeal_AdamS5AReRefIdeal (hAdamS5AReIdeal := hAdamS5AReIdeal) (hAdamS5AReRefIdeal := hAdamS5AReRefIdeal)
    ∧ preserves_AdamS5AIm_AdamS5AImIdeal
    ∧ algebraic_AdamS5AImIdeal_AdamS5AImRefIdeal (hAdamS5AImIdeal := hAdamS5AImIdeal) (hAdamS5AImRefIdeal := hAdamS5AImRefIdeal)
    ∧ preserves_AdamS5LogDt_AdamS5LogDtIdeal
    ∧ algebraic_AdamS5LogDtIdeal_AdamS5LogDtRefIdeal (hAdamS5LogDtIdeal := hAdamS5LogDtIdeal) (hAdamS5LogDtRefIdeal := hAdamS5LogDtRefIdeal)
    ∧ preserves_AdamS5BRe_AdamS5BReIdeal
    ∧ algebraic_AdamS5BReIdeal_AdamS5BReRefIdeal (hAdamS5BReIdeal := hAdamS5BReIdeal) (hAdamS5BReRefIdeal := hAdamS5BReRefIdeal)
    ∧ preserves_AdamS5BIm_AdamS5BImIdeal
    ∧ algebraic_AdamS5BImIdeal_AdamS5BImRefIdeal (hAdamS5BImIdeal := hAdamS5BImIdeal) (hAdamS5BImRefIdeal := hAdamS5BImRefIdeal)
    ∧ preserves_AdamS5CRe_AdamS5CReIdeal
    ∧ algebraic_AdamS5CReIdeal_AdamS5CReRefIdeal (hAdamS5CReIdeal := hAdamS5CReIdeal) (hAdamS5CReRefIdeal := hAdamS5CReRefIdeal)
    ∧ preserves_AdamS5CIm_AdamS5CImIdeal
    ∧ algebraic_AdamS5CImIdeal_AdamS5CImRefIdeal (hAdamS5CImIdeal := hAdamS5CImIdeal) (hAdamS5CImRefIdeal := hAdamS5CImRefIdeal)
    ∧ preserves_AdamS5D_AdamS5DIdeal
    ∧ algebraic_AdamS5DIdeal_AdamS5DRefIdeal (hAdamS5DIdeal := hAdamS5DIdeal) (hAdamS5DRefIdeal := hAdamS5DRefIdeal)
    ∧ preserves_AdamSsdDtBias_AdamSsdDtBiasIdeal
    ∧ algebraic_AdamSsdDtBiasIdeal_AdamSsdDtBiasRefIdeal (hAdamSsdDtBiasIdeal := hAdamSsdDtBiasIdeal) (hAdamSsdDtBiasRefIdeal := hAdamSsdDtBiasRefIdeal)
    ∧ preserves_AdamSsdALog_AdamSsdALogIdeal
    ∧ algebraic_AdamSsdALogIdeal_AdamSsdALogRefIdeal (hAdamSsdALogIdeal := hAdamSsdALogIdeal) (hAdamSsdALogRefIdeal := hAdamSsdALogRefIdeal)
    ∧ preserves_AdamSsdD_AdamSsdDIdeal
    ∧ algebraic_AdamSsdDIdeal_AdamSsdDRefIdeal (hAdamSsdDIdeal := hAdamSsdDIdeal) (hAdamSsdDRefIdeal := hAdamSsdDRefIdeal)
-- ==== Pre_attn_finite.lean ====
abbrev S8192x1024 : Shape := ⟨2, ![8192, 1024]⟩
abbrev S256x1024 : Shape := ⟨2, ![256, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S256x1024 : S_.BroadcastsInDim S256x1024 (![] : Fin 0 → Fin S256x1024.rank)

variable [Facts]

def fn {F : FTy → Type} [FloatOps F] (main_arg0 : FVec F S8192x1024 .bf16) (main_arg1 : FVec F S256x1024 .bf16) (main_arg2 : FVec F S256x1024 .bf16) (main_arg3 : FVec F S8192x1024 .bf16) : IVec S8192x1024 1 × IVec S256x1024 1 × IVec S256x1024 1 × IVec S8192x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F7FFFFF#32
  let main_v2 : FVec F S8192x1024 .f32 := broadcastInDim S8192x1024 ![] bcast_S_S8192x1024 main_cst
  let main_v3 : IVec S8192x1024 1 := cmpf .ole main_v1 main_v2
  let main_v4 : FVec F S256x1024 .f32 := (extf .f32 · bitsLt_bf16_f32) main_arg1
  let main_v5 : FVec F S256x1024 .f32 := Host.absf main_v4
  let main_cst_0 : FVec F S_ .f32 := constant S_ .f32 0x7F7FFFFF#32
  let main_v6 : FVec F S256x1024 .f32 := broadcastInDim S256x1024 ![] bcast_S_S256x1024 main_cst_0
  let main_v7 : IVec S256x1024 1 := cmpf .ole main_v5 main_v6
  let main_v8 : FVec F S256x1024 .f32 := (extf .f32 · bitsLt_bf16_f32) main_arg2
  let main_v9 : FVec F S256x1024 .f32 := Host.absf main_v8
  let main_cst_1 : FVec F S_ .f32 := constant S_ .f32 0x7F7FFFFF#32
  let main_v10 : FVec F S256x1024 .f32 := broadcastInDim S256x1024 ![] bcast_S_S256x1024 main_cst_1
  let main_v11 : IVec S256x1024 1 := cmpf .ole main_v9 main_v10
  let main_v12 : FVec F S8192x1024 .f32 := (extf .f32 · bitsLt_bf16_f32) main_arg3
  let main_v13 : FVec F S8192x1024 .f32 := Host.absf main_v12
  let main_cst_2 : FVec F S_ .f32 := constant S_ .f32 0x7F7FFFFF#32
  let main_v14 : FVec F S8192x1024 .f32 := broadcastInDim S8192x1024 ![] bcast_S_S8192x1024 main_cst_2
  let main_v15 : IVec S8192x1024 1 := cmpf .ole main_v13 main_v14
  (main_v3, main_v7, main_v11, main_v15)
-- ==== Pre_attn_fwd_finite.lean ====
abbrev S8192x1024 : Shape := ⟨2, ![8192, 1024]⟩
abbrev S256x1024 : Shape := ⟨2, ![256, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S256x1024 : S_.BroadcastsInDim S256x1024 (![] : Fin 0 → Fin S256x1024.rank)

variable [Facts]

def fn {F : FTy → Type} [FloatOps F] (main_arg0 : FVec F S8192x1024 .bf16) (main_arg1 : FVec F S256x1024 .bf16) (main_arg2 : FVec F S256x1024 .bf16) : IVec S8192x1024 1 × IVec S256x1024 1 × IVec S256x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F7FFFFF#32
  let main_v2 : FVec F S8192x1024 .f32 := broadcastInDim S8192x1024 ![] bcast_S_S8192x1024 main_cst
  let main_v3 : IVec S8192x1024 1 := cmpf .ole main_v1 main_v2
  let main_v4 : FVec F S256x1024 .f32 := (extf .f32 · bitsLt_bf16_f32) main_arg1
  let main_v5 : FVec F S256x1024 .f32 := Host.absf main_v4
  let main_cst_0 : FVec F S_ .f32 := constant S_ .f32 0x7F7FFFFF#32
  let main_v6 : FVec F S256x1024 .f32 := broadcastInDim S256x1024 ![] bcast_S_S256x1024 main_cst_0
  let main_v7 : IVec S256x1024 1 := cmpf .ole main_v5 main_v6
  let main_v8 : FVec F S256x1024 .f32 := (extf .f32 · bitsLt_bf16_f32) main_arg2
  let main_v9 : FVec F S256x1024 .f32 := Host.absf main_v8
  let main_cst_1 : FVec F S_ .f32 := constant S_ .f32 0x7F7FFFFF#32
  let main_v10 : FVec F S256x1024 .f32 := broadcastInDim S256x1024 ![] bcast_S_S256x1024 main_cst_1
  let main_v11 : IVec S256x1024 1 := cmpf .ole main_v9 main_v10
  (main_v3, main_v7, main_v11)
-- ==== Attn.lean ====
abbrev S8192x1024 : Shape := ⟨2, ![8192, 1024]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .bf16⟩
  | .hbm, ⟨4, _⟩ => ⟨S8192x1024, .bf16⟩
  | .hbm, ⟨5, _⟩ => ⟨S256x1024, .f32⟩
  | .hbm, ⟨6, _⟩ => ⟨S256x1024, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S256x1024, .f32⟩
  | .local _ .vmem, ⟨9, _⟩ => ⟨S256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AttnRefIdeal.lean ====
abbrev S8192x1024 : Shape := ⟨2, ![8192, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .bf16⟩
  | .hbm, ⟨4, _⟩ => ⟨S8192x1024, .f32⟩
  | .hbm, ⟨5, _⟩ => ⟨S256x1024, .f32⟩
  | .hbm, ⟨6, _⟩ => ⟨S256x1024, .f32⟩
  | .hbm, ⟨7, _⟩ => ⟨S8192x4x256, .f32⟩
  | .hbm, ⟨8, _⟩ => ⟨S256x4x256, .f32⟩
  | .hbm, ⟨9, _⟩ => ⟨S256x4x256, .f32⟩
  | .hbm, ⟨10, _⟩ => ⟨S4x8192x256, .f32⟩
  | .hbm, ⟨11, _⟩ => ⟨S_, .f32⟩
  | .hbm, ⟨12, _⟩ => ⟨S4x8192x256, .f32⟩
  | .hbm, ⟨13, _⟩ => ⟨S4x8192x256, .f32⟩
  | .hbm, ⟨14, _⟩ => ⟨S_, .f32⟩
  | .hbm, ⟨15, _⟩ => ⟨S4x8192, .f32⟩
  | .hbm, ⟨16, _⟩ => ⟨S4x8192x1, .f32⟩
  | .hbm, ⟨17, _⟩ => ⟨S4x8192x256, .f32⟩
  | .hbm, ⟨18, _⟩ => ⟨S4x8192x256, .i1⟩
  | .hbm, ⟨19, _⟩ => ⟨S4x8192x256, .f32⟩
  | .hbm, ⟨20, _⟩ => ⟨S_, .f32⟩
  | .hbm, ⟨21, _⟩ => ⟨S4x8192, .f32⟩
  | .hbm, ⟨22, _⟩ => ⟨S_, .f32⟩
  | .hbm, ⟨23, _⟩ => ⟨S4x8192, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S4x8192, .i1⟩
  | .hbm, ⟨28, _⟩ => ⟨S_, .f32⟩
  | .hbm, ⟨29, _⟩ => ⟨S4x8192, .f32⟩
  | .hbm, ⟨30, _⟩ => ⟨S4x8192, .i1⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S_, .f32⟩
  | .hbm, ⟨36, _⟩ => ⟨S4x8192, .f32⟩
  | .hbm, ⟨37, _⟩ => ⟨S4x8192, .f32⟩
  | .hbm, ⟨38, _⟩ => ⟨S4x8192, .f32⟩
  | .hbm, ⟨39, _⟩ => ⟨S4x8192x1, .f32⟩
  | .hbm, ⟨40, _⟩ => ⟨S4x8192x256, .f32⟩
  | .hbm, ⟨41, _⟩ => ⟨S4x8192x256, .f32⟩
  | .hbm, ⟨42, _⟩ => ⟨S4x8192x256, .f32⟩
  | .hbm, ⟨43, _⟩ => ⟨S_, .f32⟩
  | .hbm, ⟨44, _⟩ => ⟨S4x8192, .f32⟩
  | .hbm, ⟨45, _⟩ => ⟨S4x8192x1, .f32⟩
  | .hbm, ⟨46, _⟩ => ⟨S4x8192x256, .f32⟩
  | .hbm, ⟨47, _⟩ => ⟨S4x8192x256, .f32⟩
  | .hbm, ⟨48, _⟩ => ⟨S4x8192x1, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x256x8192, .f32⟩
  | .hbm, ⟨53, _⟩ => ⟨S8192x4x256, .f32⟩
  | .hbm, ⟨54, _⟩ => ⟨S8192x1024, .f32⟩
  | .hbm, ⟨55, _⟩ => ⟨S8192x1024, .f32⟩
  | .hbm, ⟨56, _⟩ => ⟨S8192x4x256, .f32⟩
  | .hbm, ⟨57, _⟩ => ⟨S4x256x8192, .f32⟩
  | .hbm, ⟨58, _⟩ => ⟨S4x8192x256, .f32⟩
  | .hbm, ⟨59, _⟩ => ⟨S4x256x256, .f32⟩
  | .hbm, ⟨60, _⟩ => ⟨S256x4x256, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x1, .f32⟩
  | .hbm, ⟨68, _⟩ => ⟨S4x8192x256, .f32⟩
  | .hbm, ⟨69, _⟩ => ⟨S4x8192x256, .f32⟩
  | .hbm, ⟨70, _⟩ => ⟨S_, .f32⟩
  | .hbm, ⟨71, _⟩ => ⟨S4x8192, .f32⟩
  | .hbm, ⟨72, _⟩ => ⟨S4x8192x256, .f32⟩
  | .hbm, ⟨73, _⟩ => ⟨S4x8192x256, .f32⟩
  | .hbm, ⟨74, _⟩ => ⟨S4x8192x256, .f32⟩
  | .hbm, ⟨75, _⟩ => ⟨S_, .f32⟩
  | .hbm, ⟨76, _⟩ => ⟨S4x8192x256, .f32⟩
  | .hbm, ⟨77, _⟩ => ⟨S4x8192x256, .f32⟩
  | .hbm, ⟨78, _⟩ => ⟨S4x256x256, .f32⟩
  | .hbm, ⟨79, _⟩ => ⟨S256x4x256, .f32⟩
  | .hbm, ⟨80, _⟩ => ⟨S4x8192x256, .f32⟩
  | .hbm, ⟨81, _⟩ => ⟨S8192x4x256, .f32⟩
  | .hbm, ⟨82, _⟩ => ⟨S256x1024, .f32⟩
  | .hbm, ⟨83, _⟩ => ⟨S256x1024, .f32⟩
  | .hbm, ⟨84, _⟩ => ⟨S8192x1024, .f32⟩
  | .hbm, ⟨85, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_8 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== DownDx.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S2048x1024 : Shape := ⟨2, ![2048, 1024]⟩
abbrev S1024x1024 : Shape := ⟨2, ![1024, 1024]⟩

abbrev nBuf : Space → Nat
  | .hbm => 13
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S4096x1024, .bf16⟩
  | .hbm, ⟨3, _⟩ => ⟨S8192x1024, .bf16⟩
  | .hbm, ⟨4, _⟩ => ⟨S8192x1024, .f32⟩
  | .hbm, ⟨5, _⟩ => ⟨S1024x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .bf16⟩
  | .hbm, ⟨12, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownDxRefIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S4096x1024, .bf16⟩
  | .hbm, ⟨3, _⟩ => ⟨S8192x1024, .bf16⟩
  | .hbm, ⟨4, _⟩ => ⟨S8192x1024, .f32⟩
  | .hbm, ⟨5, _⟩ => ⟨S1024x4096, .f32⟩
  | .hbm, ⟨6, _⟩ => ⟨S4096x1024, .f32⟩
  | .hbm, ⟨7, _⟩ => ⟨S8192x1024, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .i1⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x1024, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== DownDw.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩
abbrev S4096x1024 : Shape := ⟨2, ![4096, 1024]⟩
abbrev S1024x1024 : Shape := ⟨2, ![1024, 1024]⟩

abbrev nBuf : Space → Nat
  | .hbm => 12
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .bf16⟩
  | .hbm, ⟨3, _⟩ => ⟨S8192x1024, .f32⟩
  | .hbm, ⟨4, _⟩ => ⟨S1024x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | .hbm, ⟨11, _⟩ => ⟨S4096x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_cst : Ref sig .tc := ⟨.hbm, 6, rfl⟩
abbrev main_call0_v0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x1024 : Shape := ⟨2, ![8192, 1024]⟩
abbrev S1024x4096 : Shape := ⟨2, ![1024, 4096]⟩
abbrev S_ : Shape := ⟨0, ![]⟩
abbrev S4096x1024 : Shape := ⟨2, ![4096, 1024]⟩
abbrev S8192x4096 : Shape := ⟨2, ![8192, 4096]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .bf16⟩
  | .hbm, ⟨3, _⟩ => ⟨S8192x1024, .f32⟩
  | .hbm, ⟨4, _⟩ => ⟨S1024x4096, .f32⟩
  | .hbm, ⟨5, _⟩ => ⟨S8192x1024, .f32⟩
  | .hbm, ⟨6, _⟩ => ⟨S_, .f32⟩
  | .hbm, ⟨7, _⟩ => ⟨S4096x1024, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S8192x4096, .f32⟩
  | .hbm, ⟨13, _⟩ => ⟨S8192x1024, .f32⟩
  | .hbm, ⟨14, _⟩ => ⟨S1024x4096, .f32⟩
  | .hbm, ⟨15, _⟩ => ⟨S4096x1024, .f32⟩
  | .hbm, ⟨16, _⟩ => ⟨S4096x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== UpDw.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩
abbrev S1024x1024 : Shape := ⟨2, ![1024, 1024]⟩

abbrev nBuf : Space → Nat
  | .hbm => 29
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S4096x1024, .bf16⟩
  | .hbm, ⟨3, _⟩ => ⟨S8192x1024, .bf16⟩
  | .hbm, ⟨4, _⟩ => ⟨S8192x1024, .f32⟩
  | .hbm, ⟨5, _⟩ => ⟨S1024x4096, .f32⟩
  | .hbm, ⟨6, _⟩ => ⟨S4096x1024, .f32⟩
  | .hbm, ⟨7, _⟩ => ⟨S8192x1024, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .i1⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x1024, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S8192x4096, .bf16⟩
  | .hbm, ⟨28, _⟩ => ⟨S1024x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v12 : BitVec 1 := Scalar.cmpi .eq arg2 c1_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x1024 : Shape := ⟨2, ![8192, 1024]⟩
abbrev S1024x4096 : Shape := ⟨2, ![1024, 4096]⟩
abbrev S4096x1024 : Shape := ⟨2, ![4096, 1024]⟩
abbrev S8192x4096 : Shape := ⟨2, ![8192, 4096]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S4096x1024, .bf16⟩
  | .hbm, ⟨3, _⟩ => ⟨S8192x1024, .bf16⟩
  | .hbm, ⟨4, _⟩ => ⟨S8192x1024, .f32⟩
  | .hbm, ⟨5, _⟩ => ⟨S1024x4096, .f32⟩
  | .hbm, ⟨6, _⟩ => ⟨S4096x1024, .f32⟩
  | .hbm, ⟨7, _⟩ => ⟨S8192x1024, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192x4096, .f32⟩
  | .hbm, ⟨14, _⟩ => ⟨S8192x4096, .i1⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S_, .f32⟩
  | .hbm, ⟨19, _⟩ => ⟨S8192x4096, .f32⟩
  | .hbm, ⟨20, _⟩ => ⟨S8192x4096, .f32⟩
  | .hbm, ⟨21, _⟩ => ⟨S8192x1024, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .f32⟩
  | .hbm, ⟨27, _⟩ => ⟨S4096x1024, .f32⟩
  | .hbm, ⟨28, _⟩ => ⟨S1024x4096, .f32⟩
  | .hbm, ⟨29, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== UpDx.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S1x1024 : Shape := ⟨2, ![1, 1024]⟩
abbrev S512x2048 : Shape := ⟨2, ![512, 2048]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .bf16⟩
  | .hbm, ⟨3, _⟩ => ⟨S8192x4096, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def k0_cond4 (i : grid0.Coords) : BitVec 1 :=
  let arg0 : BitVec 32 := BitVec.ofNat 32 (i 0).val
  let c0_i32_26 : BitVec 32 := 0#32
  let v49 : BitVec 1 := Scalar.cmpi .eq arg0 c0_i32_26
  let v50 : BitVec 32 := Scalar.extui v49
  let c0_i32_27 : BitVec 32 := 0#32
  let v51 : BitVec 1 := Scalar.cmpi .ne v50 c0_i32_27
  v51

def k0_cond5 (i : grid0.Coords) : BitVec 1 :=
  let arg0 : BitVec 32 := BitVec.ofNat 32 (i 0).val
  let c0_i32_28 : BitVec 32 := 0#32
  let v52 : BitVec 1 := Scalar.cmpi .sgt arg0 c0_i32_28
  let v53 : BitVec 32 := Scalar.extui v52
  let c0_i32_29 : BitVec 32 := 0#32
  let v54 : BitVec 1 := Scalar.cmpi .ne v53 c0_i32_29
  v54

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true, false]
-- ==== UpDxRefIdeal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .bf16⟩
  | .hbm, ⟨3, _⟩ => ⟨S8192x4096, .bf16⟩
  | .hbm, ⟨4, _⟩ => ⟨S8192x1024, .f32⟩
  | .hbm, ⟨5, _⟩ => ⟨S1024x4096, .f32⟩
  | .hbm, ⟨6, _⟩ => ⟨S8192x4096, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x4096, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .bf16⟩
  | .hbm, ⟨56, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== InDw.lean ====
abbrev S8192x1024 : Shape := ⟨2, ![8192, 1024]⟩
abbrev S8192x4096 : Shape := ⟨2, ![8192, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8192x1024, .f32⟩
  | .hbm, ⟨3, _⟩ => ⟨S8192x4096, .f32⟩
  | .hbm, ⟨4, _⟩ => ⟨S_, .f32⟩
  | .hbm, ⟨5, _⟩ => ⟨S1024x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InDx.lean ====
abbrev S8192x1024 : Shape := ⟨2, ![8192, 1024]⟩
abbrev S1024 : Shape := ⟨1, ![1024]⟩
abbrev S1024x4096 : Shape := ⟨2, ![1024, 4096]⟩
abbrev S1024x128 : Shape := ⟨2, ![1024, 128]⟩
abbrev S8192x4096 : Shape := ⟨2, ![8192, 4096]⟩
abbrev S8192x128 : Shape := ⟨2, ![8192, 128]⟩
abbrev S1x1024 : Shape := ⟨2, ![1, 1024]⟩
abbrev S512x2048 : Shape := ⟨2, ![512, 2048]⟩
abbrev S1024x2048 : Shape := ⟨2, ![1024, 2048]⟩
abbrev S512x1024 : Shape := ⟨2, ![512, 1024]⟩
abbrev S512 : Shape := ⟨1, ![512]⟩
abbrev S512x1 : Shape := ⟨2, ![512, 1]⟩

abbrev nBuf : Space → Nat
  | .hbm => 13
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .bf16⟩
  | .hbm, ⟨3, _⟩ => ⟨S1024x128, .bf16⟩
  | .hbm, ⟨4, _⟩ => ⟨S8192x4096, .bf16⟩
  | .hbm, ⟨5, _⟩ => ⟨S8192x128, .f32⟩
  | .hbm, ⟨6, _⟩ => ⟨S8192x1024, .f32⟩
  | .hbm, ⟨7, _⟩ => ⟨S1024x128, .f32⟩
  | .hbm, ⟨8, _⟩ => ⟨S8192x1024, .f32⟩
  | .hbm, ⟨9, _⟩ => ⟨S1x1024, .f32⟩
  | .hbm, ⟨10, _⟩ => ⟨S8192x1024, .f32⟩
  | .hbm, ⟨11, _⟩ => ⟨S8192x1024, .bf16⟩
  | .hbm, ⟨12, _⟩ => ⟨S1x1024, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨3, ![16, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def k0_cond4 (i : grid0.Coords) : BitVec 1 :=
  let arg0 : BitVec 32 := BitVec.ofNat 32 (i 0).val
  let c0_i32_28 : BitVec 32 := 0#32
  let v52 : BitVec 1 := Scalar.cmpi .eq arg0 c0_i32_28
  let v53 : BitVec 32 := Scalar.extui v52
  let c0_i32_29 : BitVec 32 := 0#32
  let v54 : BitVec 1 := Scalar.cmpi .ne v53 c0_i32_29
  v54

def k0_cond5 (i : grid0.Coords) : BitVec 1 :=
  let arg0 : BitVec 32 := BitVec.ofNat 32 (i 0).val
  let c0_i32_30 : BitVec 32 := 0#32
  let v55 : BitVec 1 := Scalar.cmpi .sgt arg0 c0_i32_30
  let v56 : BitVec 32 := Scalar.extui v55
  let c0_i32_31 : BitVec 32 := 0#32
  let v57 : BitVec 1 := Scalar.cmpi .ne v56 c0_i32_31
  v57

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true, false]
-- ==== InDxRefIdeal.lean ====
abbrev S8192x1024 : Shape := ⟨2, ![8192, 1024]⟩
abbrev S1024 : Shape := ⟨1, ![1024]⟩
abbrev S1024x4096 : Shape := ⟨2, ![1024, 4096]⟩
abbrev S1024x128 : Shape := ⟨2, ![1024, 128]⟩
abbrev S8192x4096 : Shape := ⟨2, ![8192, 4096]⟩
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 63
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .bf16⟩
  | .hbm, ⟨3, _⟩ => ⟨S1024x128, .bf16⟩
  | .hbm, ⟨4, _⟩ => ⟨S8192x4096, .bf16⟩
  | .hbm, ⟨5, _⟩ => ⟨S8192x128, .f32⟩
  | .hbm, ⟨6, _⟩ => ⟨S8192x1024, .f32⟩
  | .hbm, ⟨7, _⟩ => ⟨S1024x4096, .f32⟩
  | .hbm, ⟨8, _⟩ => ⟨S1024x128, .f32⟩
  | .hbm, ⟨9, _⟩ => ⟨S8192x4096, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x4096, .f32⟩
  | .hbm, ⟨31, _⟩ => ⟨S8192x128, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .bf16⟩
  | .hbm, ⟨62, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== OutDx.lean ====
abbrev S2048x1024 : Shape := ⟨2, ![2048, 1024]⟩
abbrev S8192x1024 : Shape := ⟨2, ![8192, 1024]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S8192x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S2048x1024 : Shape := ⟨2, ![2048, 1024]⟩
abbrev S8192x1024 : Shape := ⟨2, ![8192, 1024]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8192x1024, .bf16⟩
  | .hbm, ⟨2, _⟩ => ⟨S2048x1024, .f32⟩
  | .hbm, ⟨3, _⟩ => ⟨S8192x1024, .f32⟩
  | .hbm, ⟨4, _⟩ => ⟨S_, .f32⟩
  | .hbm, ⟨5, _⟩ => ⟨S8192x2048, .f32⟩
  | .hbm, ⟨6, _⟩ => ⟨S8192x1024, .f32⟩
  | .hbm, ⟨7, _⟩ => ⟨S8192x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDw.lean ====
abbrev S8192x2048 : Shape := ⟨2, ![8192, 2048]⟩
abbrev S8192x1024 : Shape := ⟨2, ![8192, 1024]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S8192x1024, .f32⟩
  | .hbm, ⟨4, _⟩ => ⟨S_, .f32⟩
  | .hbm, ⟨5, _⟩ => ⟨S2048x1024, .f32⟩
  | .hbm, ⟨6, _⟩ => ⟨S8192x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S8192x1024 : Shape := ⟨2, ![8192, 1024]⟩
abbrev S1024x4096 : Shape := ⟨2, ![1024, 4096]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S8192x1024 : Shape := ⟨2, ![8192, 1024]⟩
abbrev S1024x4096 : Shape := ⟨2, ![1024, 4096]⟩
abbrev S8192x4096 : Shape := ⟨2, ![8192, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Down.lean ====
abbrev S8192x1024 : Shape := ⟨2, ![8192, 1024]⟩
abbrev S8192x4096 : Shape := ⟨2, ![8192, 4096]⟩
abbrev S4096x1024 : Shape := ⟨2, ![4096, 1024]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x4096, .bf16⟩
  | .hbm, ⟨2, _⟩ => ⟨S4096x1024, .bf16⟩
  | .hbm, ⟨3, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DownRefIdeal.lean ====
abbrev S8192x1024 : Shape := ⟨2, ![8192, 1024]⟩
abbrev S8192x4096 : Shape := ⟨2, ![8192, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .bf16⟩
  | .hbm, ⟨2, _⟩ => ⟨S4096x1024, .bf16⟩
  | .hbm, ⟨3, _⟩ => ⟨S8192x4096, .f32⟩
  | .hbm, ⟨4, _⟩ => ⟨S4096x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== In.lean ====
abbrev S8192x1024 : Shape := ⟨2, ![8192, 1024]⟩
abbrev S1024x4096 : Shape := ⟨2, ![1024, 4096]⟩
abbrev S8192x4096 : Shape := ⟨2, ![8192, 4096]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x4096, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S8192x1024 : Shape := ⟨2, ![8192, 1024]⟩
abbrev S1024x4096 : Shape := ⟨2, ![1024, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4096, .bf16⟩
  | .hbm, ⟨2, _⟩ => ⟨S8192x1024, .f32⟩
  | .hbm, ⟨3, _⟩ => ⟨S1024x4096, .f32⟩
  | .hbm, ⟨4, _⟩ => ⟨S8192x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== AttnFwd.lean ====
abbrev S8192x1024 : Shape := ⟨2, ![8192, 1024]⟩
abbrev S256x1024 : Shape := ⟨2, ![256, 1024]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x1024, .bf16⟩
  | .local _ .vmem, ⟨5, _⟩ => ⟨S512x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnFwdRefIdeal.lean ====
abbrev S8192x1024 : Shape := ⟨2, ![8192, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .f32⟩
  | .hbm, ⟨4, _⟩ => ⟨S256x1024, .f32⟩
  | .hbm, ⟨5, _⟩ => ⟨S256x1024, .f32⟩
  | .hbm, ⟨6, _⟩ => ⟨S8192x4x256, .f32⟩
  | .hbm, ⟨7, _⟩ => ⟨S256x4x256, .f32⟩
  | .hbm, ⟨8, _⟩ => ⟨S256x4x256, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S_, .f32⟩
  | .hbm, ⟨16, _⟩ => ⟨S4x8192, .f32⟩
  | .hbm, ⟨17, _⟩ => ⟨S4x8192, .f32⟩
  | .hbm, ⟨18, _⟩ => ⟨S4x8192x1, .f32⟩
  | .hbm, ⟨19, _⟩ => ⟨S4x8192x256, .f32⟩
  | .hbm, ⟨20, _⟩ => ⟨S4x8192x256, .f32⟩
  | .hbm, ⟨21, _⟩ => ⟨S4x8192x256, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S4x8192x256, .f32⟩
  | .hbm, ⟨26, _⟩ => ⟨S4x8192x256, .f32⟩
  | .hbm, ⟨27, _⟩ => ⟨S4x256x8192, .f32⟩
  | .hbm, ⟨28, _⟩ => ⟨S8192x4x256, .f32⟩
  | .hbm, ⟨29, _⟩ => ⟨S8192x1024, .f32⟩
  | .hbm, ⟨30, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S1x1024 : Shape := ⟨2, ![1, 1024]⟩
abbrev S1x128 : Shape := ⟨2, ![1, 128]⟩
abbrev S256x1024 : Shape := ⟨2, ![256, 1024]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S1x128, .f32⟩
  | .hbm, ⟨5, _⟩ => ⟨S8192x1024, .f32⟩
  | .hbm, ⟨6, _⟩ => ⟨S8192x1024, .bf16⟩
  | .hbm, ⟨7, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S1x128, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x128, .f32⟩
  | .hbm, ⟨72, _⟩ => ⟨S8192x1024, .bf16⟩
  | .hbm, ⟨73, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Adam.lean ====
abbrev S4x128x1024 : Shape := ⟨3, ![4, 128, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamIdeal.lean ====
abbrev S4x128x1024 : Shape := ⟨3, ![4, 128, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S4x128x1024 : Shape := ⟨3, ![4, 128, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamS5WGlu.lean ====
abbrev S4x128x1024 : Shape := ⟨3, ![4, 128, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamS5WGluIdeal.lean ====
abbrev S4x128x1024 : Shape := ⟨3, ![4, 128, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamS5WGluRefIdeal.lean ====
abbrev S4x128x1024 : Shape := ⟨3, ![4, 128, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamXaWk.lean ====
abbrev S4x128x1024 : Shape := ⟨3, ![4, 128, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamXaWkIdeal.lean ====
abbrev S4x128x1024 : Shape := ⟨3, ![4, 128, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamXaWkRefIdeal.lean ====
abbrev S4x128x1024 : Shape := ⟨3, ![4, 128, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamXaWv.lean ====
abbrev S4x128x1024 : Shape := ⟨3, ![4, 128, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamXaWvIdeal.lean ====
abbrev S4x128x1024 : Shape := ⟨3, ![4, 128, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamXaWvRefIdeal.lean ====
abbrev S4x128x1024 : Shape := ⟨3, ![4, 128, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamXaWo.lean ====
abbrev S4x128x1024 : Shape := ⟨3, ![4, 128, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamXaWoIdeal.lean ====
abbrev S4x128x1024 : Shape := ⟨3, ![4, 128, 1024]⟩
abbrev S512x1024 : Shape := ⟨2, ![512, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamXaWoRefIdeal.lean ====
abbrev S4x128x1024 : Shape := ⟨3, ![4, 128, 1024]⟩
abbrev S_ : Shape := ⟨0, ![]⟩
abbrev S512x1024 : Shape := ⟨2, ![512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S_, .f32⟩
  | .hbm, ⟨5, _⟩ => ⟨S4x128x1024, .f32⟩
  | .hbm, ⟨6, _⟩ => ⟨S4x128x1024, .f32⟩
  | .hbm, ⟨7, _⟩ => ⟨S_, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S_, .f32⟩
  | .hbm, ⟨12, _⟩ => ⟨S4x128x1024, .f32⟩
  | .hbm, ⟨13, _⟩ => ⟨S4x128x1024, .f32⟩
  | .hbm, ⟨14, _⟩ => ⟨S4x128x1024, .f32⟩
  | .hbm, ⟨15, _⟩ => ⟨S_, .f32⟩
  | .hbm, ⟨16, _⟩ => ⟨S4x128x1024, .f32⟩
  | .hbm, ⟨17, _⟩ => ⟨S4x128x1024, .f32⟩
  | .hbm, ⟨18, _⟩ => ⟨S4x128x1024, .f32⟩
  | .hbm, ⟨19, _⟩ => ⟨S_, .f32⟩
  | .hbm, ⟨20, _⟩ => ⟨S4x128x1024, .f32⟩
  | .hbm, ⟨21, _⟩ => ⟨S4x128x1024, .f32⟩
  | .hbm, ⟨22, _⟩ => ⟨S_, .f32⟩
  | .hbm, ⟨23, _⟩ => ⟨S4x128x1024, .f32⟩
  | .hbm, ⟨24, _⟩ => ⟨S4x128x1024, .f32⟩
  | .hbm, ⟨25, _⟩ => ⟨S4x128x1024, .f32⟩
  | .hbm, ⟨26, _⟩ => ⟨S_, .f32⟩
  | .hbm, ⟨27, _⟩ => ⟨S4x128x1024, .f32⟩
  | .hbm, ⟨28, _⟩ => ⟨S4x128x1024, .f32⟩
  | .hbm, ⟨29, _⟩ => ⟨S4x128x1024, .f32⟩
  | .hbm, ⟨30, _⟩ => ⟨S_, .f32⟩
  | .hbm, ⟨31, _⟩ => ⟨S4x128x1024, .f32⟩
  | .hbm, ⟨32, _⟩ => ⟨S4x128x1024, .f32⟩
  | .hbm, ⟨33, _⟩ => ⟨S4x128x1024, .f32⟩
  | .hbm, ⟨34, _⟩ => ⟨S_, .f32⟩
  | .hbm, ⟨35, _⟩ => ⟨S4x128x1024, .f32⟩
  | .hbm, ⟨36, _⟩ => ⟨S4x128x1024, .f32⟩
  | .hbm, ⟨37, _⟩ => ⟨S512x1024, .f32⟩
  | .hbm, ⟨38, _⟩ => ⟨S512x1024, .f32⟩
  | .hbm, ⟨39, _⟩ => ⟨S512x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamWIn.lean ====
abbrev S4x1024x514 : Shape := ⟨3, ![4, 1024, 514]⟩
abbrev S4096x514 : Shape := ⟨2, ![4096, 514]⟩
abbrev S256x514 : Shape := ⟨2, ![256, 514]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x514, .f32⟩
  | .hbm, ⟨1, _⟩ => ⟨S4x1024x514, .f32⟩
  | .hbm, ⟨2, _⟩ => ⟨S4x1024x514, .f32⟩
  | .hbm, ⟨3, _⟩ => ⟨S4x1024x514, .f32⟩
  | .hbm, ⟨4, _⟩ => ⟨S4096x514, .f32⟩
  | .hbm, ⟨5, _⟩ => ⟨S4096x514, .f32⟩
  | .hbm, ⟨6, _⟩ => ⟨S4096x514, .f32⟩
  | .hbm, ⟨7, _⟩ => ⟨S4096x514, .f32⟩
  | .hbm, ⟨8, _⟩ => ⟨S4096x514, .f32⟩
  | .hbm, ⟨9, _⟩ => ⟨S4096x514, .f32⟩
  | .hbm, ⟨10, _⟩ => ⟨S4096x514, .f32⟩
  | .local _ .vmem, ⟨0, _⟩ => ⟨S256x514, .f32⟩
  | .local _ .vmem, ⟨1, _⟩ => ⟨S256x514, .f32⟩
  | .local _ .vmem, ⟨2, _⟩ => ⟨S256x514, .f32⟩
  | .local _ .vmem, ⟨3, _⟩ => ⟨S256x514, .f32⟩
  | .local _ .vmem, ⟨4, _⟩ => ⟨S256x514, .f32⟩
  | .local _ .vmem, ⟨5, _⟩ => ⟨S256x514, .f32⟩
  | .local _ .vmem, ⟨6, _⟩ => ⟨S256x514, .f32⟩
  | .local _ .vmem, ⟨7, _⟩ => ⟨S256x514, .f32⟩
  | .local _ .vmem, ⟨8, _⟩ => ⟨S256x514, .f32⟩
  | .local _ .vmem, ⟨9, _⟩ => ⟨S256x514, .f32⟩
  | .local _ .vmem, ⟨10, _⟩ => ⟨S256x514, .f32⟩
  | .local _ .vmem, ⟨11, _⟩ => ⟨S256x514, .f32⟩
  | .local _ .vmem, ⟨12, _⟩ => ⟨S256x514, .f32⟩
  | .local _ .vmem, ⟨13, _⟩ => ⟨S256x514, .f32⟩
  | _, _ => ⟨S4x1024x514, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x514 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x514 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x514 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x514 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x514 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x514 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInIdeal.lean ====
abbrev S4x1024x514 : Shape := ⟨3, ![4, 1024, 514]⟩
abbrev S4096x514 : Shape := ⟨2, ![4096, 514]⟩
abbrev S256x514 : Shape := ⟨2, ![256, 514]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x514, .f32⟩
  | .hbm, ⟨1, _⟩ => ⟨S4x1024x514, .f32⟩
  | .hbm, ⟨2, _⟩ => ⟨S4x1024x514, .f32⟩
  | .hbm, ⟨3, _⟩ => ⟨S4x1024x514, .f32⟩
  | .hbm, ⟨4, _⟩ => ⟨S4096x514, .f32⟩
  | .hbm, ⟨5, _⟩ => ⟨S4096x514, .f32⟩
  | .hbm, ⟨6, _⟩ => ⟨S4096x514, .f32⟩
  | .hbm, ⟨7, _⟩ => ⟨S4096x514, .f32⟩
  | .hbm, ⟨8, _⟩ => ⟨S4096x514, .f32⟩
  | .hbm, ⟨9, _⟩ => ⟨S4096x514, .f32⟩
  | .hbm, ⟨10, _⟩ => ⟨S4096x514, .f32⟩
  | .local _ .vmem, ⟨0, _⟩ => ⟨S256x514, .f32⟩
  | .local _ .vmem, ⟨1, _⟩ => ⟨S256x514, .f32⟩
  | .local _ .vmem, ⟨2, _⟩ => ⟨S256x514, .f32⟩
  | .local _ .vmem, ⟨3, _⟩ => ⟨S256x514, .f32⟩
  | .local _ .vmem, ⟨4, _⟩ => ⟨S256x514, .f32⟩
  | .local _ .vmem, ⟨5, _⟩ => ⟨S256x514, .f32⟩
  | .local _ .vmem, ⟨6, _⟩ => ⟨S256x514, .f32⟩
  | .local _ .vmem, ⟨7, _⟩ => ⟨S256x514, .f32⟩
  | .local _ .vmem, ⟨8, _⟩ => ⟨S256x514, .f32⟩
  | .local _ .vmem, ⟨9, _⟩ => ⟨S256x514, .f32⟩
  | .local _ .vmem, ⟨10, _⟩ => ⟨S256x514, .f32⟩
  | .local _ .vmem, ⟨11, _⟩ => ⟨S256x514, .f32⟩
  | .local _ .vmem, ⟨12, _⟩ => ⟨S256x514, .f32⟩
  | .local _ .vmem, ⟨13, _⟩ => ⟨S256x514, .f32⟩
  | _, _ => ⟨S4x1024x514, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x514 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x514 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x514 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x514 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x514 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x514 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWInRefIdeal.lean ====
abbrev S4x1024x514 : Shape := ⟨3, ![4, 1024, 514]⟩
abbrev S_ : Shape := ⟨0, ![]⟩
abbrev S4096x514 : Shape := ⟨2, ![4096, 514]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x514, .f32⟩
  | .hbm, ⟨1, _⟩ => ⟨S4x1024x514, .f32⟩
  | .hbm, ⟨2, _⟩ => ⟨S4x1024x514, .f32⟩
  | .hbm, ⟨3, _⟩ => ⟨S4x1024x514, .f32⟩
  | .hbm, ⟨4, _⟩ => ⟨S_, .f32⟩
  | .hbm, ⟨5, _⟩ => ⟨S4x1024x514, .f32⟩
  | .hbm, ⟨6, _⟩ => ⟨S4x1024x514, .f32⟩
  | .hbm, ⟨7, _⟩ => ⟨S_, .f32⟩
  | .hbm, ⟨8, _⟩ => ⟨S4x1024x514, .f32⟩
  | .hbm, ⟨9, _⟩ => ⟨S4x1024x514, .f32⟩
  | .hbm, ⟨10, _⟩ => ⟨S4x1024x514, .f32⟩
  | .hbm, ⟨11, _⟩ => ⟨S_, .f32⟩
  | .hbm, ⟨12, _⟩ => ⟨S4x1024x514, .f32⟩
  | .hbm, ⟨13, _⟩ => ⟨S4x1024x514, .f32⟩
  | .hbm, ⟨14, _⟩ => ⟨S4x1024x514, .f32⟩
  | .hbm, ⟨15, _⟩ => ⟨S_, .f32⟩
  | .hbm, ⟨16, _⟩ => ⟨S4x1024x514, .f32⟩
  | .hbm, ⟨17, _⟩ => ⟨S4x1024x514, .f32⟩
  | .hbm, ⟨18, _⟩ => ⟨S4x1024x514, .f32⟩
  | .hbm, ⟨19, _⟩ => ⟨S_, .f32⟩
  | .hbm, ⟨20, _⟩ => ⟨S4x1024x514, .f32⟩
  | .hbm, ⟨21, _⟩ => ⟨S4x1024x514, .f32⟩
  | .hbm, ⟨22, _⟩ => ⟨S_, .f32⟩
  | .hbm, ⟨23, _⟩ => ⟨S4x1024x514, .f32⟩
  | .hbm, ⟨24, _⟩ => ⟨S4x1024x514, .f32⟩
  | .hbm, ⟨25, _⟩ => ⟨S4x1024x514, .f32⟩
  | .hbm, ⟨26, _⟩ => ⟨S_, .f32⟩
  | .hbm, ⟨27, _⟩ => ⟨S4x1024x514, .f32⟩
  | .hbm, ⟨28, _⟩ => ⟨S4x1024x514, .f32⟩
  | .hbm, ⟨29, _⟩ => ⟨S4x1024x514, .f32⟩
  | .hbm, ⟨30, _⟩ => ⟨S_, .f32⟩
  | .hbm, ⟨31, _⟩ => ⟨S4x1024x514, .f32⟩
  | .hbm, ⟨32, _⟩ => ⟨S4x1024x514, .f32⟩
  | .hbm, ⟨33, _⟩ => ⟨S4x1024x514, .f32⟩
  | .hbm, ⟨34, _⟩ => ⟨S_, .f32⟩
  | .hbm, ⟨35, _⟩ => ⟨S4x1024x514, .f32⟩
  | .hbm, ⟨36, _⟩ => ⟨S4x1024x514, .f32⟩
  | .hbm, ⟨37, _⟩ => ⟨S4096x514, .f32⟩
  | .hbm, ⟨38, _⟩ => ⟨S4096x514, .f32⟩
  | .hbm, ⟨39, _⟩ => ⟨S4096x514, .f32⟩
  | _, _ => ⟨S4x1024x514, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSsdConvW.lean ====
abbrev S4x4x256 : Shape := ⟨3, ![4, 4, 256]⟩
abbrev S16x256 : Shape := ⟨2, ![16, 256]⟩

abbrev nBuf : Space → Nat
  | .hbm => 11
  | .vmem => 7
  | .smem => 0
  | _ => 0

abbrev bufTy : (tb : Table) → Fin (tcTables nBuf tb) → BufTy
  | .hbm, ⟨0, _⟩ => ⟨S4x4x256, .f32⟩
  | .hbm, ⟨1, _⟩ => ⟨S4x4x256, .f32⟩
  | .hbm, ⟨2, _⟩ => ⟨S4x4x256, .f32⟩
  | .hbm, ⟨3, _⟩ => ⟨S4x4x256, .f32⟩
  | .hbm, ⟨4, _⟩ => ⟨S16x256, .f32⟩
  | .hbm, ⟨5, _⟩ => ⟨S16x256, .f32⟩
  | .hbm, ⟨6, _⟩ => ⟨S16x256, .f32⟩
  | .hbm, ⟨7, _⟩ => ⟨S16x256, .f32⟩
  | .hbm, ⟨8, _⟩ => ⟨S16x256, .f32⟩
  | .hbm, ⟨9, _⟩ => ⟨S16x256, .f32⟩
  | .hbm, ⟨10, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S4x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSsdConvWIdeal.lean ====
abbrev S4x4x256 : Shape := ⟨3, ![4, 4, 256]⟩
abbrev S16x256 : Shape := ⟨2, ![16, 256]⟩

abbrev nBuf : Space → Nat
  | .hbm => 11
  | .vmem => 7
  | .smem => 0
  | _ => 0

abbrev bufTy : (tb : Table) → Fin (tcTables nBuf tb) → BufTy
  | .hbm, ⟨0, _⟩ => ⟨S4x4x256, .f32⟩
  | .hbm, ⟨1, _⟩ => ⟨S4x4x256, .f32⟩
  | .hbm, ⟨2, _⟩ => ⟨S4x4x256, .f32⟩
  | .hbm, ⟨3, _⟩ => ⟨S4x4x256, .f32⟩
  | .hbm, ⟨4, _⟩ => ⟨S16x256, .f32⟩
  | .hbm, ⟨5, _⟩ => ⟨S16x256, .f32⟩
  | .hbm, ⟨6, _⟩ => ⟨S16x256, .f32⟩
  | .hbm, ⟨7, _⟩ => ⟨S16x256, .f32⟩
  | .hbm, ⟨8, _⟩ => ⟨S16x256, .f32⟩
  | .hbm, ⟨9, _⟩ => ⟨S16x256, .f32⟩
  | .hbm, ⟨10, _⟩ => ⟨S16x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | _, _ => ⟨S4x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S16x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSsdConvWRefIdeal.lean ====
abbrev S4x4x256 : Shape := ⟨3, ![4, 4, 256]⟩
abbrev S_ : Shape := ⟨0, ![]⟩
abbrev S16x256 : Shape := ⟨2, ![16, 256]⟩

abbrev nBuf : Space → Nat
  | .hbm => 40
  | .vmem => 0
  | .smem => 0
  | _ => 0

abbrev bufTy : (tb : Table) → Fin (tcTables nBuf tb) → BufTy
  | .hbm, ⟨0, _⟩ => ⟨S4x4x256, .f32⟩
  | .hbm, ⟨1, _⟩ => ⟨S4x4x256, .f32⟩
  | .hbm, ⟨2, _⟩ => ⟨S4x4x256, .f32⟩
  | .hbm, ⟨3, _⟩ => ⟨S4x4x256, .f32⟩
  | .hbm, ⟨4, _⟩ => ⟨S_, .f32⟩
  | .hbm, ⟨5, _⟩ => ⟨S4x4x256, .f32⟩
  | .hbm, ⟨6, _⟩ => ⟨S4x4x256, .f32⟩
  | .hbm, ⟨7, _⟩ => ⟨S_, .f32⟩
  | .hbm, ⟨8, _⟩ => ⟨S4x4x256, .f32⟩
  | .hbm, ⟨9, _⟩ => ⟨S4x4x256, .f32⟩
  | .hbm, ⟨10, _⟩ => ⟨S4x4x256, .f32⟩
  | .hbm, ⟨11, _⟩ => ⟨S_, .f32⟩
  | .hbm, ⟨12, _⟩ => ⟨S4x4x256, .f32⟩
  | .hbm, ⟨13, _⟩ => ⟨S4x4x256, .f32⟩
  | .hbm, ⟨14, _⟩ => ⟨S4x4x256, .f32⟩
  | .hbm, ⟨15, _⟩ => ⟨S_, .f32⟩
  | .hbm, ⟨16, _⟩ => ⟨S4x4x256, .f32⟩
  | .hbm, ⟨17, _⟩ => ⟨S4x4x256, .f32⟩
  | .hbm, ⟨18, _⟩ => ⟨S4x4x256, .f32⟩
  | .hbm, ⟨19, _⟩ => ⟨S_, .f32⟩
  | .hbm, ⟨20, _⟩ => ⟨S4x4x256, .f32⟩
  | .hbm, ⟨21, _⟩ => ⟨S4x4x256, .f32⟩
  | .hbm, ⟨22, _⟩ => ⟨S_, .f32⟩
  | .hbm, ⟨23, _⟩ => ⟨S4x4x256, .f32⟩
  | .hbm, ⟨24, _⟩ => ⟨S4x4x256, .f32⟩
  | .hbm, ⟨25, _⟩ => ⟨S4x4x256, .f32⟩
  | .hbm, ⟨26, _⟩ => ⟨S_, .f32⟩
  | .hbm, ⟨27, _⟩ => ⟨S4x4x256, .f32⟩
  | .hbm, ⟨28, _⟩ => ⟨S4x4x256, .f32⟩
  | .hbm, ⟨29, _⟩ => ⟨S4x4x256, .f32⟩
  | .hbm, ⟨30, _⟩ => ⟨S_, .f32⟩
  | .hbm, ⟨31, _⟩ => ⟨S4x4x256, .f32⟩
  | .hbm, ⟨32, _⟩ => ⟨S4x4x256, .f32⟩
  | .hbm, ⟨33, _⟩ => ⟨S4x4x256, .f32⟩
  | .hbm, ⟨34, _⟩ => ⟨S_, .f32⟩
  | .hbm, ⟨35, _⟩ => ⟨S4x4x256, .f32⟩
  | .hbm, ⟨36, _⟩ => ⟨S4x4x256, .f32⟩
  | .hbm, ⟨37, _⟩ => ⟨S16x256, .f32⟩
  | .hbm, ⟨38, _⟩ => ⟨S16x256, .f32⟩
  | .hbm, ⟨39, _⟩ => ⟨S16x256, .f32⟩
  | _, _ => ⟨S4x4x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamWOut.lean ====
abbrev S4x256x1024 : Shape := ⟨3, ![4, 256, 1024]⟩
abbrev S1024x1024 : Shape := ⟨2, ![1024, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWOutIdeal.lean ====
abbrev S4x256x1024 : Shape := ⟨3, ![4, 256, 1024]⟩
abbrev S1024x1024 : Shape := ⟨2, ![1024, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWOutRefIdeal.lean ====
abbrev S4x256x1024 : Shape := ⟨3, ![4, 256, 1024]⟩
abbrev S_ : Shape := ⟨0, ![]⟩
abbrev S1024x1024 : Shape := ⟨2, ![1024, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S4x256x1024, .f32⟩
  | .hbm, ⟨4, _⟩ => ⟨S_, .f32⟩
  | .hbm, ⟨5, _⟩ => ⟨S4x256x1024, .f32⟩
  | .hbm, ⟨6, _⟩ => ⟨S4x256x1024, .f32⟩
  | .hbm, ⟨7, _⟩ => ⟨S_, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .hbm, ⟨11, _⟩ => ⟨S_, .f32⟩
  | .hbm, ⟨12, _⟩ => ⟨S4x256x1024, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S_, .f32⟩
  | .hbm, ⟨23, _⟩ => ⟨S4x256x1024, .f32⟩
  | .hbm, ⟨24, _⟩ => ⟨S4x256x1024, .f32⟩
  | .hbm, ⟨25, _⟩ => ⟨S4x256x1024, .f32⟩
  | .hbm, ⟨26, _⟩ => ⟨S_, .f32⟩
  | .hbm, ⟨27, _⟩ => ⟨S4x256x1024, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S1024x1024, .f32⟩
  | .hbm, ⟨38, _⟩ => ⟨S1024x1024, .f32⟩
  | .hbm, ⟨39, _⟩ => ⟨S1024x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamMlpW1.lean ====
abbrev S4x1024x512 : Shape := ⟨3, ![4, 1024, 512]⟩
abbrev S4096x512 : Shape := ⟨2, ![4096, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMlpW1Ideal.lean ====
abbrev S4x1024x512 : Shape := ⟨3, ![4, 1024, 512]⟩
abbrev S4096x512 : Shape := ⟨2, ![4096, 512]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4096x512, .f32⟩
  | .hbm, ⟨5, _⟩ => ⟨S4096x512, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x512, .f32⟩
  | .hbm, ⟨10, _⟩ => ⟨S4096x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | _, _ => ⟨S4x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMlpW1RefIdeal.lean ====
abbrev S4x1024x512 : Shape := ⟨3, ![4, 1024, 512]⟩
abbrev S_ : Shape := ⟨0, ![]⟩
abbrev S4096x512 : Shape := ⟨2, ![4096, 512]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x512, .f32⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S_, .f32⟩
  | .hbm, ⟨5, _⟩ => ⟨S4x1024x512, .f32⟩
  | .hbm, ⟨6, _⟩ => ⟨S4x1024x512, .f32⟩
  | .hbm, ⟨7, _⟩ => ⟨S_, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S_, .f32⟩
  | .hbm, ⟨12, _⟩ => ⟨S4x1024x512, .f32⟩
  | .hbm, ⟨13, _⟩ => ⟨S4x1024x512, .f32⟩
  | .hbm, ⟨14, _⟩ => ⟨S4x1024x512, .f32⟩
  | .hbm, ⟨15, _⟩ => ⟨S_, .f32⟩
  | .hbm, ⟨16, _⟩ => ⟨S4x1024x512, .f32⟩
  | .hbm, ⟨17, _⟩ => ⟨S4x1024x512, .f32⟩
  | .hbm, ⟨18, _⟩ => ⟨S4x1024x512, .f32⟩
  | .hbm, ⟨19, _⟩ => ⟨S_, .f32⟩
  | .hbm, ⟨20, _⟩ => ⟨S4x1024x512, .f32⟩
  | .hbm, ⟨21, _⟩ => ⟨S4x1024x512, .f32⟩
  | .hbm, ⟨22, _⟩ => ⟨S_, .f32⟩
  | .hbm, ⟨23, _⟩ => ⟨S4x1024x512, .f32⟩
  | .hbm, ⟨24, _⟩ => ⟨S4x1024x512, .f32⟩
  | .hbm, ⟨25, _⟩ => ⟨S4x1024x512, .f32⟩
  | .hbm, ⟨26, _⟩ => ⟨S_, .f32⟩
  | .hbm, ⟨27, _⟩ => ⟨S4x1024x512, .f32⟩
  | .hbm, ⟨28, _⟩ => ⟨S4x1024x512, .f32⟩
  | .hbm, ⟨29, _⟩ => ⟨S4x1024x512, .f32⟩
  | .hbm, ⟨30, _⟩ => ⟨S_, .f32⟩
  | .hbm, ⟨31, _⟩ => ⟨S4x1024x512, .f32⟩
  | .hbm, ⟨32, _⟩ => ⟨S4x1024x512, .f32⟩
  | .hbm, ⟨33, _⟩ => ⟨S4x1024x512, .f32⟩
  | .hbm, ⟨34, _⟩ => ⟨S_, .f32⟩
  | .hbm, ⟨35, _⟩ => ⟨S4x1024x512, .f32⟩
  | .hbm, ⟨36, _⟩ => ⟨S4x1024x512, .f32⟩
  | .hbm, ⟨37, _⟩ => ⟨S4096x512, .f32⟩
  | .hbm, ⟨38, _⟩ => ⟨S4096x512, .f32⟩
  | .hbm, ⟨39, _⟩ => ⟨S4096x512, .f32⟩
  | _, _ => ⟨S4x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamMlpW2.lean ====
abbrev S4x512x1024 : Shape := ⟨3, ![4, 512, 1024]⟩
abbrev S2048x1024 : Shape := ⟨2, ![2048, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMlpW2Ideal.lean ====
abbrev S4x512x1024 : Shape := ⟨3, ![4, 512, 1024]⟩
abbrev S2048x1024 : Shape := ⟨2, ![2048, 1024]⟩
abbrev S256x1024 : Shape := ⟨2, ![256, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamMlpW2RefIdeal.lean ====
abbrev S4x512x1024 : Shape := ⟨3, ![4, 512, 1024]⟩
abbrev S_ : Shape := ⟨0, ![]⟩
abbrev S2048x1024 : Shape := ⟨2, ![2048, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S_, .f32⟩
  | .hbm, ⟨5, _⟩ => ⟨S4x512x1024, .f32⟩
  | .hbm, ⟨6, _⟩ => ⟨S4x512x1024, .f32⟩
  | .hbm, ⟨7, _⟩ => ⟨S_, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .hbm, ⟨11, _⟩ => ⟨S_, .f32⟩
  | .hbm, ⟨12, _⟩ => ⟨S4x512x1024, .f32⟩
  | .hbm, ⟨13, _⟩ => ⟨S4x512x1024, .f32⟩
  | .hbm, ⟨14, _⟩ => ⟨S4x512x1024, .f32⟩
  | .hbm, ⟨15, _⟩ => ⟨S_, .f32⟩
  | .hbm, ⟨16, _⟩ => ⟨S4x512x1024, .f32⟩
  | .hbm, ⟨17, _⟩ => ⟨S4x512x1024, .f32⟩
  | .hbm, ⟨18, _⟩ => ⟨S4x512x1024, .f32⟩
  | .hbm, ⟨19, _⟩ => ⟨S_, .f32⟩
  | .hbm, ⟨20, _⟩ => ⟨S4x512x1024, .f32⟩
  | .hbm, ⟨21, _⟩ => ⟨S4x512x1024, .f32⟩
  | .hbm, ⟨22, _⟩ => ⟨S_, .f32⟩
  | .hbm, ⟨23, _⟩ => ⟨S4x512x1024, .f32⟩
  | .hbm, ⟨24, _⟩ => ⟨S4x512x1024, .f32⟩
  | .hbm, ⟨25, _⟩ => ⟨S4x512x1024, .f32⟩
  | .hbm, ⟨26, _⟩ => ⟨S_, .f32⟩
  | .hbm, ⟨27, _⟩ => ⟨S4x512x1024, .f32⟩
  | .hbm, ⟨28, _⟩ => ⟨S4x512x1024, .f32⟩
  | .hbm, ⟨29, _⟩ => ⟨S4x512x1024, .f32⟩
  | .hbm, ⟨30, _⟩ => ⟨S_, .f32⟩
  | .hbm, ⟨31, _⟩ => ⟨S4x512x1024, .f32⟩
  | .hbm, ⟨32, _⟩ => ⟨S4x512x1024, .f32⟩
  | .hbm, ⟨33, _⟩ => ⟨S4x512x1024, .f32⟩
  | .hbm, ⟨34, _⟩ => ⟨S_, .f32⟩
  | .hbm, ⟨35, _⟩ => ⟨S4x512x1024, .f32⟩
  | .hbm, ⟨36, _⟩ => ⟨S4x512x1024, .f32⟩
  | .hbm, ⟨37, _⟩ => ⟨S2048x1024, .f32⟩
  | .hbm, ⟨38, _⟩ => ⟨S2048x1024, .f32⟩
  | .hbm, ⟨39, _⟩ => ⟨S2048x1024, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamNormMix.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormMixIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormMixRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSsdNorm.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSsdNormIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSsdNormRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNormXattn.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormXattnIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormXattnRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNormMem.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormMemIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormMemRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNormMlp.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormMlpIdeal.lean ====
abbrev S4x1024 : Shape := ⟨2, ![4, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S4x1024, .f32⟩
  | .hbm, ⟨5, _⟩ => ⟨S4x1024, .f32⟩
  | .hbm, ⟨6, _⟩ => ⟨S4x1024, .f32⟩
  | .local _ .vmem, ⟨0, _⟩ => ⟨S4x1024, .f32⟩
  | .local _ .vmem, ⟨1, _⟩ => ⟨S4x1024, .f32⟩
  | .local _ .vmem, ⟨2, _⟩ => ⟨S4x1024, .f32⟩
  | .local _ .vmem, ⟨3, _⟩ => ⟨S4x1024, .f32⟩
  | .local _ .vmem, ⟨4, _⟩ => ⟨S4x1024, .f32⟩
  | .local _ .vmem, ⟨5, _⟩ => ⟨S4x1024, .f32⟩
  | .local _ .vmem, ⟨6, _⟩ => ⟨S4x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormMlpRefIdeal.lean ====
abbrev S4x1024 : Shape := ⟨2, ![4, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024, .f32⟩
  | .hbm, ⟨2, _⟩ => ⟨S4x1024, .f32⟩
  | .hbm, ⟨3, _⟩ => ⟨S4x1024, .f32⟩
  | .hbm, ⟨4, _⟩ => ⟨S_, .f32⟩
  | .hbm, ⟨5, _⟩ => ⟨S4x1024, .f32⟩
  | .hbm, ⟨6, _⟩ => ⟨S4x1024, .f32⟩
  | .hbm, ⟨7, _⟩ => ⟨S_, .f32⟩
  | .hbm, ⟨8, _⟩ => ⟨S4x1024, .f32⟩
  | .hbm, ⟨9, _⟩ => ⟨S4x1024, .f32⟩
  | .hbm, ⟨10, _⟩ => ⟨S4x1024, .f32⟩
  | .hbm, ⟨11, _⟩ => ⟨S_, .f32⟩
  | .hbm, ⟨12, _⟩ => ⟨S4x1024, .f32⟩
  | .hbm, ⟨13, _⟩ => ⟨S4x1024, .f32⟩
  | .hbm, ⟨14, _⟩ => ⟨S4x1024, .f32⟩
  | .hbm, ⟨15, _⟩ => ⟨S_, .f32⟩
  | .hbm, ⟨16, _⟩ => ⟨S4x1024, .f32⟩
  | .hbm, ⟨17, _⟩ => ⟨S4x1024, .f32⟩
  | .hbm, ⟨18, _⟩ => ⟨S4x1024, .f32⟩
  | .hbm, ⟨19, _⟩ => ⟨S_, .f32⟩
  | .hbm, ⟨20, _⟩ => ⟨S4x1024, .f32⟩
  | .hbm, ⟨21, _⟩ => ⟨S4x1024, .f32⟩
  | .hbm, ⟨22, _⟩ => ⟨S_, .f32⟩
  | .hbm, ⟨23, _⟩ => ⟨S4x1024, .f32⟩
  | .hbm, ⟨24, _⟩ => ⟨S4x1024, .f32⟩
  | .hbm, ⟨25, _⟩ => ⟨S4x1024, .f32⟩
  | .hbm, ⟨26, _⟩ => ⟨S_, .f32⟩
  | .hbm, ⟨27, _⟩ => ⟨S4x1024, .f32⟩
  | .hbm, ⟨28, _⟩ => ⟨S4x1024, .f32⟩
  | .hbm, ⟨29, _⟩ => ⟨S4x1024, .f32⟩
  | .hbm, ⟨30, _⟩ => ⟨S_, .f32⟩
  | .hbm, ⟨31, _⟩ => ⟨S4x1024, .f32⟩
  | .hbm, ⟨32, _⟩ => ⟨S4x1024, .f32⟩
  | .hbm, ⟨33, _⟩ => ⟨S4x1024, .f32⟩
  | .hbm, ⟨34, _⟩ => ⟨S_, .f32⟩
  | .hbm, ⟨35, _⟩ => ⟨S4x1024, .f32⟩
  | .hbm, ⟨36, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNormFinal.lean ====
abbrev S1024 : Shape := ⟨1, ![1024]⟩
abbrev S8x128 : Shape := ⟨2, ![8, 128]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S8x128, .f32⟩
  | .hbm, ⟨10, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormFinalIdeal.lean ====
abbrev S1024 : Shape := ⟨1, ![1024]⟩
abbrev S8x128 : Shape := ⟨2, ![8, 128]⟩

abbrev nBuf : Space → Nat
  | .hbm => 11
  | .vmem => 7
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S8x128, .f32⟩
  | .hbm, ⟨5, _⟩ => ⟨S8x128, .f32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S8x128, .f32⟩
  | .hbm, ⟨10, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamNormFinalRefIdeal.lean ====
abbrev S1024 : Shape := ⟨1, ![1024]⟩
abbrev S_ : Shape := ⟨0, ![]⟩
abbrev S8x128 : Shape := ⟨2, ![8, 128]⟩

abbrev nBuf : Space → Nat
  | .hbm => 40
  | .vmem => 0
  | .smem => 0
  | _ => 0

abbrev bufTy : (tb : Table) → Fin (tcTables nBuf tb) → BufTy
  | .hbm, ⟨0, _⟩ => ⟨S1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S_, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S_, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S1024, .f32⟩
  | .hbm, ⟨36, _⟩ => ⟨S1024, .f32⟩
  | .hbm, ⟨37, _⟩ => ⟨S8x128, .f32⟩
  | .hbm, ⟨38, _⟩ => ⟨S8x128, .f32⟩
  | .hbm, ⟨39, _⟩ => ⟨S8x128, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSsdConvB.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSsdConvBIdeal.lean ====
abbrev S4x2048 : Shape := ⟨2, ![4, 2048]⟩

abbrev nBuf : Space → Nat
  | .hbm => 7
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S4x2048, .f32⟩
  | .hbm, ⟨5, _⟩ => ⟨S4x2048, .f32⟩
  | .hbm, ⟨6, _⟩ => ⟨S4x2048, .f32⟩
  | .local _ .vmem, ⟨0, _⟩ => ⟨S4x2048, .f32⟩
  | .local _ .vmem, ⟨1, _⟩ => ⟨S4x2048, .f32⟩
  | .local _ .vmem, ⟨2, _⟩ => ⟨S4x2048, .f32⟩
  | .local _ .vmem, ⟨3, _⟩ => ⟨S4x2048, .f32⟩
  | .local _ .vmem, ⟨4, _⟩ => ⟨S4x2048, .f32⟩
  | .local _ .vmem, ⟨5, _⟩ => ⟨S4x2048, .f32⟩
  | .local _ .vmem, ⟨6, _⟩ => ⟨S4x2048, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSsdConvBRefIdeal.lean ====
abbrev S4x2048 : Shape := ⟨2, ![4, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S4x2048, .f32⟩
  | .hbm, ⟨2, _⟩ => ⟨S4x2048, .f32⟩
  | .hbm, ⟨3, _⟩ => ⟨S4x2048, .f32⟩
  | .hbm, ⟨4, _⟩ => ⟨S_, .f32⟩
  | .hbm, ⟨5, _⟩ => ⟨S4x2048, .f32⟩
  | .hbm, ⟨6, _⟩ => ⟨S4x2048, .f32⟩
  | .hbm, ⟨7, _⟩ => ⟨S_, .f32⟩
  | .hbm, ⟨8, _⟩ => ⟨S4x2048, .f32⟩
  | .hbm, ⟨9, _⟩ => ⟨S4x2048, .f32⟩
  | .hbm, ⟨10, _⟩ => ⟨S4x2048, .f32⟩
  | .hbm, ⟨11, _⟩ => ⟨S_, .f32⟩
  | .hbm, ⟨12, _⟩ => ⟨S4x2048, .f32⟩
  | .hbm, ⟨13, _⟩ => ⟨S4x2048, .f32⟩
  | .hbm, ⟨14, _⟩ => ⟨S4x2048, .f32⟩
  | .hbm, ⟨15, _⟩ => ⟨S_, .f32⟩
  | .hbm, ⟨16, _⟩ => ⟨S4x2048, .f32⟩
  | .hbm, ⟨17, _⟩ => ⟨S4x2048, .f32⟩
  | .hbm, ⟨18, _⟩ => ⟨S4x2048, .f32⟩
  | .hbm, ⟨19, _⟩ => ⟨S_, .f32⟩
  | .hbm, ⟨20, _⟩ => ⟨S4x2048, .f32⟩
  | .hbm, ⟨21, _⟩ => ⟨S4x2048, .f32⟩
  | .hbm, ⟨22, _⟩ => ⟨S_, .f32⟩
  | .hbm, ⟨23, _⟩ => ⟨S4x2048, .f32⟩
  | .hbm, ⟨24, _⟩ => ⟨S4x2048, .f32⟩
  | .hbm, ⟨25, _⟩ => ⟨S4x2048, .f32⟩
  | .hbm, ⟨26, _⟩ => ⟨S_, .f32⟩
  | .hbm, ⟨27, _⟩ => ⟨S4x2048, .f32⟩
  | .hbm, ⟨28, _⟩ => ⟨S4x2048, .f32⟩
  | .hbm, ⟨29, _⟩ => ⟨S4x2048, .f32⟩
  | .hbm, ⟨30, _⟩ => ⟨S_, .f32⟩
  | .hbm, ⟨31, _⟩ => ⟨S4x2048, .f32⟩
  | .hbm, ⟨32, _⟩ => ⟨S4x2048, .f32⟩
  | .hbm, ⟨33, _⟩ => ⟨S4x2048, .f32⟩
  | .hbm, ⟨34, _⟩ => ⟨S_, .f32⟩
  | .hbm, ⟨35, _⟩ => ⟨S4x2048, .f32⟩
  | .hbm, ⟨36, _⟩ => ⟨S4x2048, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamS5ARe.lean ====
abbrev S4x64x64 : Shape := ⟨3, ![4, 64, 64]⟩
abbrev S128x128 : Shape := ⟨2, ![128, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x64x64, .f32⟩
  | .hbm, ⟨1, _⟩ => ⟨S4x64x64, .f32⟩
  | .hbm, ⟨2, _⟩ => ⟨S4x64x64, .f32⟩
  | .hbm, ⟨3, _⟩ => ⟨S4x64x64, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | _, _ => ⟨S4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamS5AReIdeal.lean ====
abbrev S4x64x64 : Shape := ⟨3, ![4, 64, 64]⟩
abbrev S128x128 : Shape := ⟨2, ![128, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x64x64, .f32⟩
  | .hbm, ⟨1, _⟩ => ⟨S4x64x64, .f32⟩
  | .hbm, ⟨2, _⟩ => ⟨S4x64x64, .f32⟩
  | .hbm, ⟨3, _⟩ => ⟨S4x64x64, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | _, _ => ⟨S4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamS5AReRefIdeal.lean ====
abbrev S4x64x64 : Shape := ⟨3, ![4, 64, 64]⟩
abbrev S_ : Shape := ⟨0, ![]⟩
abbrev S128x128 : Shape := ⟨2, ![128, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x64x64, .f32⟩
  | .hbm, ⟨1, _⟩ => ⟨S4x64x64, .f32⟩
  | .hbm, ⟨2, _⟩ => ⟨S4x64x64, .f32⟩
  | .hbm, ⟨3, _⟩ => ⟨S4x64x64, .f32⟩
  | .hbm, ⟨4, _⟩ => ⟨S_, .f32⟩
  | .hbm, ⟨5, _⟩ => ⟨S4x64x64, .f32⟩
  | .hbm, ⟨6, _⟩ => ⟨S4x64x64, .f32⟩
  | .hbm, ⟨7, _⟩ => ⟨S_, .f32⟩
  | .hbm, ⟨8, _⟩ => ⟨S4x64x64, .f32⟩
  | .hbm, ⟨9, _⟩ => ⟨S4x64x64, .f32⟩
  | .hbm, ⟨10, _⟩ => ⟨S4x64x64, .f32⟩
  | .hbm, ⟨11, _⟩ => ⟨S_, .f32⟩
  | .hbm, ⟨12, _⟩ => ⟨S4x64x64, .f32⟩
  | .hbm, ⟨13, _⟩ => ⟨S4x64x64, .f32⟩
  | .hbm, ⟨14, _⟩ => ⟨S4x64x64, .f32⟩
  | .hbm, ⟨15, _⟩ => ⟨S_, .f32⟩
  | .hbm, ⟨16, _⟩ => ⟨S4x64x64, .f32⟩
  | .hbm, ⟨17, _⟩ => ⟨S4x64x64, .f32⟩
  | .hbm, ⟨18, _⟩ => ⟨S4x64x64, .f32⟩
  | .hbm, ⟨19, _⟩ => ⟨S_, .f32⟩
  | .hbm, ⟨20, _⟩ => ⟨S4x64x64, .f32⟩
  | .hbm, ⟨21, _⟩ => ⟨S4x64x64, .f32⟩
  | .hbm, ⟨22, _⟩ => ⟨S_, .f32⟩
  | .hbm, ⟨23, _⟩ => ⟨S4x64x64, .f32⟩
  | .hbm, ⟨24, _⟩ => ⟨S4x64x64, .f32⟩
  | .hbm, ⟨25, _⟩ => ⟨S4x64x64, .f32⟩
  | .hbm, ⟨26, _⟩ => ⟨S_, .f32⟩
  | .hbm, ⟨27, _⟩ => ⟨S4x64x64, .f32⟩
  | .hbm, ⟨28, _⟩ => ⟨S4x64x64, .f32⟩
  | .hbm, ⟨29, _⟩ => ⟨S4x64x64, .f32⟩
  | .hbm, ⟨30, _⟩ => ⟨S_, .f32⟩
  | .hbm, ⟨31, _⟩ => ⟨S4x64x64, .f32⟩
  | .hbm, ⟨32, _⟩ => ⟨S4x64x64, .f32⟩
  | .hbm, ⟨33, _⟩ => ⟨S4x64x64, .f32⟩
  | .hbm, ⟨34, _⟩ => ⟨S_, .f32⟩
  | .hbm, ⟨35, _⟩ => ⟨S4x64x64, .f32⟩
  | .hbm, ⟨36, _⟩ => ⟨S4x64x64, .f32⟩
  | .hbm, ⟨37, _⟩ => ⟨S128x128, .f32⟩
  | .hbm, ⟨38, _⟩ => ⟨S128x128, .f32⟩
  | .hbm, ⟨39, _⟩ => ⟨S128x128, .f32⟩
  | _, _ => ⟨S4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamS5AIm.lean ====
abbrev S4x64x64 : Shape := ⟨3, ![4, 64, 64]⟩
abbrev S128x128 : Shape := ⟨2, ![128, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x64x64, .f32⟩
  | .hbm, ⟨1, _⟩ => ⟨S4x64x64, .f32⟩
  | .hbm, ⟨2, _⟩ => ⟨S4x64x64, .f32⟩
  | .hbm, ⟨3, _⟩ => ⟨S4x64x64, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | _, _ => ⟨S4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamS5AImIdeal.lean ====
abbrev S4x64x64 : Shape := ⟨3, ![4, 64, 64]⟩
abbrev S128x128 : Shape := ⟨2, ![128, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x64x64, .f32⟩
  | .hbm, ⟨1, _⟩ => ⟨S4x64x64, .f32⟩
  | .hbm, ⟨2, _⟩ => ⟨S4x64x64, .f32⟩
  | .hbm, ⟨3, _⟩ => ⟨S4x64x64, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | _, _ => ⟨S4x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamS5AImRefIdeal.lean ====
abbrev S4x64x64 : Shape := ⟨3, ![4, 64, 64]⟩
abbrev S_ : Shape := ⟨0, ![]⟩
abbrev S128x128 : Shape := ⟨2, ![128, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x64x64, .f32⟩
  | .hbm, ⟨1, _⟩ => ⟨S4x64x64, .f32⟩
  | .hbm, ⟨2, _⟩ => ⟨S4x64x64, .f32⟩
  | .hbm, ⟨3, _⟩ => ⟨S4x64x64, .f32⟩
  | .hbm, ⟨4, _⟩ => ⟨S_, .f32⟩
  | .hbm, ⟨5, _⟩ => ⟨S4x64x64, .f32⟩
  | .hbm, ⟨6, _⟩ => ⟨S4x64x64, .f32⟩
  | .hbm, ⟨7, _⟩ => ⟨S_, .f32⟩
  | .hbm, ⟨8, _⟩ => ⟨S4x64x64, .f32⟩
  | .hbm, ⟨9, _⟩ => ⟨S4x64x64, .f32⟩
  | .hbm, ⟨10, _⟩ => ⟨S4x64x64, .f32⟩
  | .hbm, ⟨11, _⟩ => ⟨S_, .f32⟩
  | .hbm, ⟨12, _⟩ => ⟨S4x64x64, .f32⟩
  | .hbm, ⟨13, _⟩ => ⟨S4x64x64, .f32⟩
  | .hbm, ⟨14, _⟩ => ⟨S4x64x64, .f32⟩
  | .hbm, ⟨15, _⟩ => ⟨S_, .f32⟩
  | .hbm, ⟨16, _⟩ => ⟨S4x64x64, .f32⟩
  | .hbm, ⟨17, _⟩ => ⟨S4x64x64, .f32⟩
  | .hbm, ⟨18, _⟩ => ⟨S4x64x64, .f32⟩
  | .hbm, ⟨19, _⟩ => ⟨S_, .f32⟩
  | .hbm, ⟨20, _⟩ => ⟨S4x64x64, .f32⟩
  | .hbm, ⟨21, _⟩ => ⟨S4x64x64, .f32⟩
  | .hbm, ⟨22, _⟩ => ⟨S_, .f32⟩
  | .hbm, ⟨23, _⟩ => ⟨S4x64x64, .f32⟩
  | .hbm, ⟨24, _⟩ => ⟨S4x64x64, .f32⟩
  | .hbm, ⟨25, _⟩ => ⟨S4x64x64, .f32⟩
  | .hbm, ⟨26, _⟩ => ⟨S_, .f32⟩
  | .hbm, ⟨27, _⟩ => ⟨S4x64x64, .f32⟩
  | .hbm, ⟨28, _⟩ => ⟨S4x64x64, .f32⟩
  | .hbm, ⟨29, _⟩ => ⟨S4x64x64, .f32⟩
  | .hbm, ⟨30, _⟩ => ⟨S_, .f32⟩
  | .hbm, ⟨31, _⟩ => ⟨S4x64x64, .f32⟩
  | .hbm, ⟨32, _⟩ => ⟨S4x64x64, .f32⟩
  | .hbm, ⟨33, _⟩ => ⟨S4x64x64, .f32⟩
  | .hbm, ⟨34, _⟩ => ⟨S_, .f32⟩
  | .hbm, ⟨35, _⟩ => ⟨S4x64x64, .f32⟩
  | .hbm, ⟨36, _⟩ => ⟨S4x64x64, .f32⟩
  | .hbm, ⟨37, _⟩ => ⟨S128x128, .f32⟩
  | .hbm, ⟨38, _⟩ => ⟨S128x128, .f32⟩
  | .hbm, ⟨39, _⟩ => ⟨S128x128, .f32⟩
  | _, _ => ⟨S4x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamS5LogDt.lean ====
abbrev S4x64 : Shape := ⟨2, ![4, 64]⟩
abbrev S2x128 : Shape := ⟨2, ![2, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S2x128, .f32⟩
  | .hbm, ⟨5, _⟩ => ⟨S2x128, .f32⟩
  | .hbm, ⟨6, _⟩ => ⟨S2x128, .f32⟩
  | .hbm, ⟨7, _⟩ => ⟨S2x128, .f32⟩
  | .hbm, ⟨8, _⟩ => ⟨S2x128, .f32⟩
  | .hbm, ⟨9, _⟩ => ⟨S2x128, .f32⟩
  | .hbm, ⟨10, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamS5LogDtIdeal.lean ====
abbrev S4x64 : Shape := ⟨2, ![4, 64]⟩
abbrev S2x128 : Shape := ⟨2, ![2, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S2x128, .f32⟩
  | .hbm, ⟨5, _⟩ => ⟨S2x128, .f32⟩
  | .hbm, ⟨6, _⟩ => ⟨S2x128, .f32⟩
  | .hbm, ⟨7, _⟩ => ⟨S2x128, .f32⟩
  | .hbm, ⟨8, _⟩ => ⟨S2x128, .f32⟩
  | .hbm, ⟨9, _⟩ => ⟨S2x128, .f32⟩
  | .hbm, ⟨10, _⟩ => ⟨S2x128, .f32⟩
  | .local _ .vmem, ⟨0, _⟩ => ⟨S2x128, .f32⟩
  | .local _ .vmem, ⟨1, _⟩ => ⟨S2x128, .f32⟩
  | .local _ .vmem, ⟨2, _⟩ => ⟨S2x128, .f32⟩
  | .local _ .vmem, ⟨3, _⟩ => ⟨S2x128, .f32⟩
  | .local _ .vmem, ⟨4, _⟩ => ⟨S2x128, .f32⟩
  | .local _ .vmem, ⟨5, _⟩ => ⟨S2x128, .f32⟩
  | .local _ .vmem, ⟨6, _⟩ => ⟨S2x128, .f32⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamS5LogDtRefIdeal.lean ====
abbrev S4x64 : Shape := ⟨2, ![4, 64]⟩
abbrev S_ : Shape := ⟨0, ![]⟩
abbrev S2x128 : Shape := ⟨2, ![2, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S4x64, .f32⟩
  | .hbm, ⟨2, _⟩ => ⟨S4x64, .f32⟩
  | .hbm, ⟨3, _⟩ => ⟨S4x64, .f32⟩
  | .hbm, ⟨4, _⟩ => ⟨S_, .f32⟩
  | .hbm, ⟨5, _⟩ => ⟨S4x64, .f32⟩
  | .hbm, ⟨6, _⟩ => ⟨S4x64, .f32⟩
  | .hbm, ⟨7, _⟩ => ⟨S_, .f32⟩
  | .hbm, ⟨8, _⟩ => ⟨S4x64, .f32⟩
  | .hbm, ⟨9, _⟩ => ⟨S4x64, .f32⟩
  | .hbm, ⟨10, _⟩ => ⟨S4x64, .f32⟩
  | .hbm, ⟨11, _⟩ => ⟨S_, .f32⟩
  | .hbm, ⟨12, _⟩ => ⟨S4x64, .f32⟩
  | .hbm, ⟨13, _⟩ => ⟨S4x64, .f32⟩
  | .hbm, ⟨14, _⟩ => ⟨S4x64, .f32⟩
  | .hbm, ⟨15, _⟩ => ⟨S_, .f32⟩
  | .hbm, ⟨16, _⟩ => ⟨S4x64, .f32⟩
  | .hbm, ⟨17, _⟩ => ⟨S4x64, .f32⟩
  | .hbm, ⟨18, _⟩ => ⟨S4x64, .f32⟩
  | .hbm, ⟨19, _⟩ => ⟨S_, .f32⟩
  | .hbm, ⟨20, _⟩ => ⟨S4x64, .f32⟩
  | .hbm, ⟨21, _⟩ => ⟨S4x64, .f32⟩
  | .hbm, ⟨22, _⟩ => ⟨S_, .f32⟩
  | .hbm, ⟨23, _⟩ => ⟨S4x64, .f32⟩
  | .hbm, ⟨24, _⟩ => ⟨S4x64, .f32⟩
  | .hbm, ⟨25, _⟩ => ⟨S4x64, .f32⟩
  | .hbm, ⟨26, _⟩ => ⟨S_, .f32⟩
  | .hbm, ⟨27, _⟩ => ⟨S4x64, .f32⟩
  | .hbm, ⟨28, _⟩ => ⟨S4x64, .f32⟩
  | .hbm, ⟨29, _⟩ => ⟨S4x64, .f32⟩
  | .hbm, ⟨30, _⟩ => ⟨S_, .f32⟩
  | .hbm, ⟨31, _⟩ => ⟨S4x64, .f32⟩
  | .hbm, ⟨32, _⟩ => ⟨S4x64, .f32⟩
  | .hbm, ⟨33, _⟩ => ⟨S4x64, .f32⟩
  | .hbm, ⟨34, _⟩ => ⟨S_, .f32⟩
  | .hbm, ⟨35, _⟩ => ⟨S4x64, .f32⟩
  | .hbm, ⟨36, _⟩ => ⟨S4x64, .f32⟩
  | .hbm, ⟨37, _⟩ => ⟨S2x128, .f32⟩
  | .hbm, ⟨38, _⟩ => ⟨S2x128, .f32⟩
  | .hbm, ⟨39, _⟩ => ⟨S2x128, .f32⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamS5BRe.lean ====
abbrev S4x64x64x16 : Shape := ⟨4, ![4, 64, 64, 16]⟩
abbrev S2048x128 : Shape := ⟨2, ![2048, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x64x64x16, .f32⟩
  | .hbm, ⟨1, _⟩ => ⟨S4x64x64x16, .f32⟩
  | .hbm, ⟨2, _⟩ => ⟨S4x64x64x16, .f32⟩
  | .hbm, ⟨3, _⟩ => ⟨S4x64x64x16, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S4x64x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamS5BReIdeal.lean ====
abbrev S4x64x64x16 : Shape := ⟨4, ![4, 64, 64, 16]⟩
abbrev S2048x128 : Shape := ⟨2, ![2048, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x64x64x16, .f32⟩
  | .hbm, ⟨1, _⟩ => ⟨S4x64x64x16, .f32⟩
  | .hbm, ⟨2, _⟩ => ⟨S4x64x64x16, .f32⟩
  | .hbm, ⟨3, _⟩ => ⟨S4x64x64x16, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S4x64x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamS5BReRefIdeal.lean ====
abbrev S4x64x64x16 : Shape := ⟨4, ![4, 64, 64, 16]⟩
abbrev S_ : Shape := ⟨0, ![]⟩
abbrev S2048x128 : Shape := ⟨2, ![2048, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x64x64x16, .f32⟩
  | .hbm, ⟨1, _⟩ => ⟨S4x64x64x16, .f32⟩
  | .hbm, ⟨2, _⟩ => ⟨S4x64x64x16, .f32⟩
  | .hbm, ⟨3, _⟩ => ⟨S4x64x64x16, .f32⟩
  | .hbm, ⟨4, _⟩ => ⟨S_, .f32⟩
  | .hbm, ⟨5, _⟩ => ⟨S4x64x64x16, .f32⟩
  | .hbm, ⟨6, _⟩ => ⟨S4x64x64x16, .f32⟩
  | .hbm, ⟨7, _⟩ => ⟨S_, .f32⟩
  | .hbm, ⟨8, _⟩ => ⟨S4x64x64x16, .f32⟩
  | .hbm, ⟨9, _⟩ => ⟨S4x64x64x16, .f32⟩
  | .hbm, ⟨10, _⟩ => ⟨S4x64x64x16, .f32⟩
  | .hbm, ⟨11, _⟩ => ⟨S_, .f32⟩
  | .hbm, ⟨12, _⟩ => ⟨S4x64x64x16, .f32⟩
  | .hbm, ⟨13, _⟩ => ⟨S4x64x64x16, .f32⟩
  | .hbm, ⟨14, _⟩ => ⟨S4x64x64x16, .f32⟩
  | .hbm, ⟨15, _⟩ => ⟨S_, .f32⟩
  | .hbm, ⟨16, _⟩ => ⟨S4x64x64x16, .f32⟩
  | .hbm, ⟨17, _⟩ => ⟨S4x64x64x16, .f32⟩
  | .hbm, ⟨18, _⟩ => ⟨S4x64x64x16, .f32⟩
  | .hbm, ⟨19, _⟩ => ⟨S_, .f32⟩
  | .hbm, ⟨20, _⟩ => ⟨S4x64x64x16, .f32⟩
  | .hbm, ⟨21, _⟩ => ⟨S4x64x64x16, .f32⟩
  | .hbm, ⟨22, _⟩ => ⟨S_, .f32⟩
  | .hbm, ⟨23, _⟩ => ⟨S4x64x64x16, .f32⟩
  | .hbm, ⟨24, _⟩ => ⟨S4x64x64x16, .f32⟩
  | .hbm, ⟨25, _⟩ => ⟨S4x64x64x16, .f32⟩
  | .hbm, ⟨26, _⟩ => ⟨S_, .f32⟩
  | .hbm, ⟨27, _⟩ => ⟨S4x64x64x16, .f32⟩
  | .hbm, ⟨28, _⟩ => ⟨S4x64x64x16, .f32⟩
  | .hbm, ⟨29, _⟩ => ⟨S4x64x64x16, .f32⟩
  | .hbm, ⟨30, _⟩ => ⟨S_, .f32⟩
  | .hbm, ⟨31, _⟩ => ⟨S4x64x64x16, .f32⟩
  | .hbm, ⟨32, _⟩ => ⟨S4x64x64x16, .f32⟩
  | .hbm, ⟨33, _⟩ => ⟨S4x64x64x16, .f32⟩
  | .hbm, ⟨34, _⟩ => ⟨S_, .f32⟩
  | .hbm, ⟨35, _⟩ => ⟨S4x64x64x16, .f32⟩
  | .hbm, ⟨36, _⟩ => ⟨S4x64x64x16, .f32⟩
  | .hbm, ⟨37, _⟩ => ⟨S2048x128, .f32⟩
  | .hbm, ⟨38, _⟩ => ⟨S2048x128, .f32⟩
  | .hbm, ⟨39, _⟩ => ⟨S2048x128, .f32⟩
  | _, _ => ⟨S4x64x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamS5BIm.lean ====
abbrev S4x64x64x16 : Shape := ⟨4, ![4, 64, 64, 16]⟩
abbrev S2048x128 : Shape := ⟨2, ![2048, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x64x64x16, .f32⟩
  | .hbm, ⟨1, _⟩ => ⟨S4x64x64x16, .f32⟩
  | .hbm, ⟨2, _⟩ => ⟨S4x64x64x16, .f32⟩
  | .hbm, ⟨3, _⟩ => ⟨S4x64x64x16, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S4x64x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamS5BImIdeal.lean ====
abbrev S4x64x64x16 : Shape := ⟨4, ![4, 64, 64, 16]⟩
abbrev S2048x128 : Shape := ⟨2, ![2048, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x64x64x16, .f32⟩
  | .hbm, ⟨1, _⟩ => ⟨S4x64x64x16, .f32⟩
  | .hbm, ⟨2, _⟩ => ⟨S4x64x64x16, .f32⟩
  | .hbm, ⟨3, _⟩ => ⟨S4x64x64x16, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S4x64x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamS5BImRefIdeal.lean ====
abbrev S4x64x64x16 : Shape := ⟨4, ![4, 64, 64, 16]⟩
abbrev S_ : Shape := ⟨0, ![]⟩
abbrev S2048x128 : Shape := ⟨2, ![2048, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x64x64x16, .f32⟩
  | .hbm, ⟨1, _⟩ => ⟨S4x64x64x16, .f32⟩
  | .hbm, ⟨2, _⟩ => ⟨S4x64x64x16, .f32⟩
  | .hbm, ⟨3, _⟩ => ⟨S4x64x64x16, .f32⟩
  | .hbm, ⟨4, _⟩ => ⟨S_, .f32⟩
  | .hbm, ⟨5, _⟩ => ⟨S4x64x64x16, .f32⟩
  | .hbm, ⟨6, _⟩ => ⟨S4x64x64x16, .f32⟩
  | .hbm, ⟨7, _⟩ => ⟨S_, .f32⟩
  | .hbm, ⟨8, _⟩ => ⟨S4x64x64x16, .f32⟩
  | .hbm, ⟨9, _⟩ => ⟨S4x64x64x16, .f32⟩
  | .hbm, ⟨10, _⟩ => ⟨S4x64x64x16, .f32⟩
  | .hbm, ⟨11, _⟩ => ⟨S_, .f32⟩
  | .hbm, ⟨12, _⟩ => ⟨S4x64x64x16, .f32⟩
  | .hbm, ⟨13, _⟩ => ⟨S4x64x64x16, .f32⟩
  | .hbm, ⟨14, _⟩ => ⟨S4x64x64x16, .f32⟩
  | .hbm, ⟨15, _⟩ => ⟨S_, .f32⟩
  | .hbm, ⟨16, _⟩ => ⟨S4x64x64x16, .f32⟩
  | .hbm, ⟨17, _⟩ => ⟨S4x64x64x16, .f32⟩
  | .hbm, ⟨18, _⟩ => ⟨S4x64x64x16, .f32⟩
  | .hbm, ⟨19, _⟩ => ⟨S_, .f32⟩
  | .hbm, ⟨20, _⟩ => ⟨S4x64x64x16, .f32⟩
  | .hbm, ⟨21, _⟩ => ⟨S4x64x64x16, .f32⟩
  | .hbm, ⟨22, _⟩ => ⟨S_, .f32⟩
  | .hbm, ⟨23, _⟩ => ⟨S4x64x64x16, .f32⟩
  | .hbm, ⟨24, _⟩ => ⟨S4x64x64x16, .f32⟩
  | .hbm, ⟨25, _⟩ => ⟨S4x64x64x16, .f32⟩
  | .hbm, ⟨26, _⟩ => ⟨S_, .f32⟩
  | .hbm, ⟨27, _⟩ => ⟨S4x64x64x16, .f32⟩
  | .hbm, ⟨28, _⟩ => ⟨S4x64x64x16, .f32⟩
  | .hbm, ⟨29, _⟩ => ⟨S4x64x64x16, .f32⟩
  | .hbm, ⟨30, _⟩ => ⟨S_, .f32⟩
  | .hbm, ⟨31, _⟩ => ⟨S4x64x64x16, .f32⟩
  | .hbm, ⟨32, _⟩ => ⟨S4x64x64x16, .f32⟩
  | .hbm, ⟨33, _⟩ => ⟨S4x64x64x16, .f32⟩
  | .hbm, ⟨34, _⟩ => ⟨S_, .f32⟩
  | .hbm, ⟨35, _⟩ => ⟨S4x64x64x16, .f32⟩
  | .hbm, ⟨36, _⟩ => ⟨S4x64x64x16, .f32⟩
  | .hbm, ⟨37, _⟩ => ⟨S2048x128, .f32⟩
  | .hbm, ⟨38, _⟩ => ⟨S2048x128, .f32⟩
  | .hbm, ⟨39, _⟩ => ⟨S2048x128, .f32⟩
  | _, _ => ⟨S4x64x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamS5CRe.lean ====
abbrev S4x64x16x64 : Shape := ⟨4, ![4, 64, 16, 64]⟩
abbrev S2048x128 : Shape := ⟨2, ![2048, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x64x16x64, .f32⟩
  | .hbm, ⟨1, _⟩ => ⟨S4x64x16x64, .f32⟩
  | .hbm, ⟨2, _⟩ => ⟨S4x64x16x64, .f32⟩
  | .hbm, ⟨3, _⟩ => ⟨S4x64x16x64, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S4x64x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamS5CReIdeal.lean ====
abbrev S4x64x16x64 : Shape := ⟨4, ![4, 64, 16, 64]⟩
abbrev S2048x128 : Shape := ⟨2, ![2048, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x64x16x64, .f32⟩
  | .hbm, ⟨1, _⟩ => ⟨S4x64x16x64, .f32⟩
  | .hbm, ⟨2, _⟩ => ⟨S4x64x16x64, .f32⟩
  | .hbm, ⟨3, _⟩ => ⟨S4x64x16x64, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S4x64x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamS5CReRefIdeal.lean ====
abbrev S4x64x16x64 : Shape := ⟨4, ![4, 64, 16, 64]⟩
abbrev S_ : Shape := ⟨0, ![]⟩
abbrev S2048x128 : Shape := ⟨2, ![2048, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x64x16x64, .f32⟩
  | .hbm, ⟨1, _⟩ => ⟨S4x64x16x64, .f32⟩
  | .hbm, ⟨2, _⟩ => ⟨S4x64x16x64, .f32⟩
  | .hbm, ⟨3, _⟩ => ⟨S4x64x16x64, .f32⟩
  | .hbm, ⟨4, _⟩ => ⟨S_, .f32⟩
  | .hbm, ⟨5, _⟩ => ⟨S4x64x16x64, .f32⟩
  | .hbm, ⟨6, _⟩ => ⟨S4x64x16x64, .f32⟩
  | .hbm, ⟨7, _⟩ => ⟨S_, .f32⟩
  | .hbm, ⟨8, _⟩ => ⟨S4x64x16x64, .f32⟩
  | .hbm, ⟨9, _⟩ => ⟨S4x64x16x64, .f32⟩
  | .hbm, ⟨10, _⟩ => ⟨S4x64x16x64, .f32⟩
  | .hbm, ⟨11, _⟩ => ⟨S_, .f32⟩
  | .hbm, ⟨12, _⟩ => ⟨S4x64x16x64, .f32⟩
  | .hbm, ⟨13, _⟩ => ⟨S4x64x16x64, .f32⟩
  | .hbm, ⟨14, _⟩ => ⟨S4x64x16x64, .f32⟩
  | .hbm, ⟨15, _⟩ => ⟨S_, .f32⟩
  | .hbm, ⟨16, _⟩ => ⟨S4x64x16x64, .f32⟩
  | .hbm, ⟨17, _⟩ => ⟨S4x64x16x64, .f32⟩
  | .hbm, ⟨18, _⟩ => ⟨S4x64x16x64, .f32⟩
  | .hbm, ⟨19, _⟩ => ⟨S_, .f32⟩
  | .hbm, ⟨20, _⟩ => ⟨S4x64x16x64, .f32⟩
  | .hbm, ⟨21, _⟩ => ⟨S4x64x16x64, .f32⟩
  | .hbm, ⟨22, _⟩ => ⟨S_, .f32⟩
  | .hbm, ⟨23, _⟩ => ⟨S4x64x16x64, .f32⟩
  | .hbm, ⟨24, _⟩ => ⟨S4x64x16x64, .f32⟩
  | .hbm, ⟨25, _⟩ => ⟨S4x64x16x64, .f32⟩
  | .hbm, ⟨26, _⟩ => ⟨S_, .f32⟩
  | .hbm, ⟨27, _⟩ => ⟨S4x64x16x64, .f32⟩
  | .hbm, ⟨28, _⟩ => ⟨S4x64x16x64, .f32⟩
  | .hbm, ⟨29, _⟩ => ⟨S4x64x16x64, .f32⟩
  | .hbm, ⟨30, _⟩ => ⟨S_, .f32⟩
  | .hbm, ⟨31, _⟩ => ⟨S4x64x16x64, .f32⟩
  | .hbm, ⟨32, _⟩ => ⟨S4x64x16x64, .f32⟩
  | .hbm, ⟨33, _⟩ => ⟨S4x64x16x64, .f32⟩
  | .hbm, ⟨34, _⟩ => ⟨S_, .f32⟩
  | .hbm, ⟨35, _⟩ => ⟨S4x64x16x64, .f32⟩
  | .hbm, ⟨36, _⟩ => ⟨S4x64x16x64, .f32⟩
  | .hbm, ⟨37, _⟩ => ⟨S2048x128, .f32⟩
  | .hbm, ⟨38, _⟩ => ⟨S2048x128, .f32⟩
  | .hbm, ⟨39, _⟩ => ⟨S2048x128, .f32⟩
  | _, _ => ⟨S4x64x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamS5CIm.lean ====
abbrev S4x64x16x64 : Shape := ⟨4, ![4, 64, 16, 64]⟩
abbrev S2048x128 : Shape := ⟨2, ![2048, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x64x16x64, .f32⟩
  | .hbm, ⟨1, _⟩ => ⟨S4x64x16x64, .f32⟩
  | .hbm, ⟨2, _⟩ => ⟨S4x64x16x64, .f32⟩
  | .hbm, ⟨3, _⟩ => ⟨S4x64x16x64, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S4x64x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamS5CImIdeal.lean ====
abbrev S4x64x16x64 : Shape := ⟨4, ![4, 64, 16, 64]⟩
abbrev S2048x128 : Shape := ⟨2, ![2048, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x64x16x64, .f32⟩
  | .hbm, ⟨1, _⟩ => ⟨S4x64x16x64, .f32⟩
  | .hbm, ⟨2, _⟩ => ⟨S4x64x16x64, .f32⟩
  | .hbm, ⟨3, _⟩ => ⟨S4x64x16x64, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .hbm, ⟨8, _⟩ => ⟨S2048x128, .f32⟩
  | .hbm, ⟨9, _⟩ => ⟨S2048x128, .f32⟩
  | .hbm, ⟨10, _⟩ => ⟨S2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | _, _ => ⟨S4x64x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamS5CImRefIdeal.lean ====
abbrev S4x64x16x64 : Shape := ⟨4, ![4, 64, 16, 64]⟩
abbrev S_ : Shape := ⟨0, ![]⟩
abbrev S2048x128 : Shape := ⟨2, ![2048, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x64x16x64, .f32⟩
  | .hbm, ⟨1, _⟩ => ⟨S4x64x16x64, .f32⟩
  | .hbm, ⟨2, _⟩ => ⟨S4x64x16x64, .f32⟩
  | .hbm, ⟨3, _⟩ => ⟨S4x64x16x64, .f32⟩
  | .hbm, ⟨4, _⟩ => ⟨S_, .f32⟩
  | .hbm, ⟨5, _⟩ => ⟨S4x64x16x64, .f32⟩
  | .hbm, ⟨6, _⟩ => ⟨S4x64x16x64, .f32⟩
  | .hbm, ⟨7, _⟩ => ⟨S_, .f32⟩
  | .hbm, ⟨8, _⟩ => ⟨S4x64x16x64, .f32⟩
  | .hbm, ⟨9, _⟩ => ⟨S4x64x16x64, .f32⟩
  | .hbm, ⟨10, _⟩ => ⟨S4x64x16x64, .f32⟩
  | .hbm, ⟨11, _⟩ => ⟨S_, .f32⟩
  | .hbm, ⟨12, _⟩ => ⟨S4x64x16x64, .f32⟩
  | .hbm, ⟨13, _⟩ => ⟨S4x64x16x64, .f32⟩
  | .hbm, ⟨14, _⟩ => ⟨S4x64x16x64, .f32⟩
  | .hbm, ⟨15, _⟩ => ⟨S_, .f32⟩
  | .hbm, ⟨16, _⟩ => ⟨S4x64x16x64, .f32⟩
  | .hbm, ⟨17, _⟩ => ⟨S4x64x16x64, .f32⟩
  | .hbm, ⟨18, _⟩ => ⟨S4x64x16x64, .f32⟩
  | .hbm, ⟨19, _⟩ => ⟨S_, .f32⟩
  | .hbm, ⟨20, _⟩ => ⟨S4x64x16x64, .f32⟩
  | .hbm, ⟨21, _⟩ => ⟨S4x64x16x64, .f32⟩
  | .hbm, ⟨22, _⟩ => ⟨S_, .f32⟩
  | .hbm, ⟨23, _⟩ => ⟨S4x64x16x64, .f32⟩
  | .hbm, ⟨24, _⟩ => ⟨S4x64x16x64, .f32⟩
  | .hbm, ⟨25, _⟩ => ⟨S4x64x16x64, .f32⟩
  | .hbm, ⟨26, _⟩ => ⟨S_, .f32⟩
  | .hbm, ⟨27, _⟩ => ⟨S4x64x16x64, .f32⟩
  | .hbm, ⟨28, _⟩ => ⟨S4x64x16x64, .f32⟩
  | .hbm, ⟨29, _⟩ => ⟨S4x64x16x64, .f32⟩
  | .hbm, ⟨30, _⟩ => ⟨S_, .f32⟩
  | .hbm, ⟨31, _⟩ => ⟨S4x64x16x64, .f32⟩
  | .hbm, ⟨32, _⟩ => ⟨S4x64x16x64, .f32⟩
  | .hbm, ⟨33, _⟩ => ⟨S4x64x16x64, .f32⟩
  | .hbm, ⟨34, _⟩ => ⟨S_, .f32⟩
  | .hbm, ⟨35, _⟩ => ⟨S4x64x16x64, .f32⟩
  | .hbm, ⟨36, _⟩ => ⟨S4x64x16x64, .f32⟩
  | .hbm, ⟨37, _⟩ => ⟨S2048x128, .f32⟩
  | .hbm, ⟨38, _⟩ => ⟨S2048x128, .f32⟩
  | .hbm, ⟨39, _⟩ => ⟨S2048x128, .f32⟩
  | _, _ => ⟨S4x64x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamS5D.lean ====
abbrev S4x64x16 : Shape := ⟨3, ![4, 64, 16]⟩
abbrev S32x128 : Shape := ⟨2, ![32, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x64x16, .f32⟩
  | .hbm, ⟨1, _⟩ => ⟨S4x64x16, .f32⟩
  | .hbm, ⟨2, _⟩ => ⟨S4x64x16, .f32⟩
  | .hbm, ⟨3, _⟩ => ⟨S4x64x16, .f32⟩
  | .hbm, ⟨4, _⟩ => ⟨S32x128, .f32⟩
  | .hbm, ⟨5, _⟩ => ⟨S32x128, .f32⟩
  | .hbm, ⟨6, _⟩ => ⟨S32x128, .f32⟩
  | .hbm, ⟨7, _⟩ => ⟨S32x128, .f32⟩
  | .hbm, ⟨8, _⟩ => ⟨S32x128, .f32⟩
  | .hbm, ⟨9, _⟩ => ⟨S32x128, .f32⟩
  | .hbm, ⟨10, _⟩ => ⟨S32x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | _, _ => ⟨S4x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamS5DIdeal.lean ====
abbrev S4x64x16 : Shape := ⟨3, ![4, 64, 16]⟩
abbrev S32x128 : Shape := ⟨2, ![32, 128]⟩

abbrev nBuf : Space → Nat
  | .hbm => 11
  | .vmem => 7
  | .smem => 0
  | _ => 0

abbrev bufTy : (tb : Table) → Fin (tcTables nBuf tb) → BufTy
  | .hbm, ⟨0, _⟩ => ⟨S4x64x16, .f32⟩
  | .hbm, ⟨1, _⟩ => ⟨S4x64x16, .f32⟩
  | .hbm, ⟨2, _⟩ => ⟨S4x64x16, .f32⟩
  | .hbm, ⟨3, _⟩ => ⟨S4x64x16, .f32⟩
  | .hbm, ⟨4, _⟩ => ⟨S32x128, .f32⟩
  | .hbm, ⟨5, _⟩ => ⟨S32x128, .f32⟩
  | .hbm, ⟨6, _⟩ => ⟨S32x128, .f32⟩
  | .hbm, ⟨7, _⟩ => ⟨S32x128, .f32⟩
  | .hbm, ⟨8, _⟩ => ⟨S32x128, .f32⟩
  | .hbm, ⟨9, _⟩ => ⟨S32x128, .f32⟩
  | .hbm, ⟨10, _⟩ => ⟨S32x128, .f32⟩
  | .local _ .vmem, ⟨0, _⟩ => ⟨S32x128, .f32⟩
  | .local _ .vmem, ⟨1, _⟩ => ⟨S32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | _, _ => ⟨S4x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S32x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S32x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S32x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamS5DRefIdeal.lean ====
abbrev S4x64x16 : Shape := ⟨3, ![4, 64, 16]⟩
abbrev S_ : Shape := ⟨0, ![]⟩
abbrev S32x128 : Shape := ⟨2, ![32, 128]⟩

abbrev nBuf : Space → Nat
  | .hbm => 40
  | .vmem => 0
  | .smem => 0
  | _ => 0

abbrev bufTy : (tb : Table) → Fin (tcTables nBuf tb) → BufTy
  | .hbm, ⟨0, _⟩ => ⟨S4x64x16, .f32⟩
  | .hbm, ⟨1, _⟩ => ⟨S4x64x16, .f32⟩
  | .hbm, ⟨2, _⟩ => ⟨S4x64x16, .f32⟩
  | .hbm, ⟨3, _⟩ => ⟨S4x64x16, .f32⟩
  | .hbm, ⟨4, _⟩ => ⟨S_, .f32⟩
  | .hbm, ⟨5, _⟩ => ⟨S4x64x16, .f32⟩
  | .hbm, ⟨6, _⟩ => ⟨S4x64x16, .f32⟩
  | .hbm, ⟨7, _⟩ => ⟨S_, .f32⟩
  | .hbm, ⟨8, _⟩ => ⟨S4x64x16, .f32⟩
  | .hbm, ⟨9, _⟩ => ⟨S4x64x16, .f32⟩
  | .hbm, ⟨10, _⟩ => ⟨S4x64x16, .f32⟩
  | .hbm, ⟨11, _⟩ => ⟨S_, .f32⟩
  | .hbm, ⟨12, _⟩ => ⟨S4x64x16, .f32⟩
  | .hbm, ⟨13, _⟩ => ⟨S4x64x16, .f32⟩
  | .hbm, ⟨14, _⟩ => ⟨S4x64x16, .f32⟩
  | .hbm, ⟨15, _⟩ => ⟨S_, .f32⟩
  | .hbm, ⟨16, _⟩ => ⟨S4x64x16, .f32⟩
  | .hbm, ⟨17, _⟩ => ⟨S4x64x16, .f32⟩
  | .hbm, ⟨18, _⟩ => ⟨S4x64x16, .f32⟩
  | .hbm, ⟨19, _⟩ => ⟨S_, .f32⟩
  | .hbm, ⟨20, _⟩ => ⟨S4x64x16, .f32⟩
  | .hbm, ⟨21, _⟩ => ⟨S4x64x16, .f32⟩
  | .hbm, ⟨22, _⟩ => ⟨S_, .f32⟩
  | .hbm, ⟨23, _⟩ => ⟨S4x64x16, .f32⟩
  | .hbm, ⟨24, _⟩ => ⟨S4x64x16, .f32⟩
  | .hbm, ⟨25, _⟩ => ⟨S4x64x16, .f32⟩
  | .hbm, ⟨26, _⟩ => ⟨S_, .f32⟩
  | .hbm, ⟨27, _⟩ => ⟨S4x64x16, .f32⟩
  | .hbm, ⟨28, _⟩ => ⟨S4x64x16, .f32⟩
  | .hbm, ⟨29, _⟩ => ⟨S4x64x16, .f32⟩
  | .hbm, ⟨30, _⟩ => ⟨S_, .f32⟩
  | .hbm, ⟨31, _⟩ => ⟨S4x64x16, .f32⟩
  | .hbm, ⟨32, _⟩ => ⟨S4x64x16, .f32⟩
  | .hbm, ⟨33, _⟩ => ⟨S4x64x16, .f32⟩
  | .hbm, ⟨34, _⟩ => ⟨S_, .f32⟩
  | .hbm, ⟨35, _⟩ => ⟨S4x64x16, .f32⟩
  | .hbm, ⟨36, _⟩ => ⟨S4x64x16, .f32⟩
  | .hbm, ⟨37, _⟩ => ⟨S32x128, .f32⟩
  | .hbm, ⟨38, _⟩ => ⟨S32x128, .f32⟩
  | .hbm, ⟨39, _⟩ => ⟨S32x128, .f32⟩
  | _, _ => ⟨S4x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSsdDtBias.lean ====
abbrev S4x16 : Shape := ⟨2, ![4, 16]⟩
abbrev S1x64 : Shape := ⟨2, ![1, 64]⟩

abbrev nBuf : Space → Nat
  | .hbm => 11
  | .vmem => 7
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x64, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | _, _ => ⟨S4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSsdDtBiasRefIdeal.lean ====
abbrev S4x16 : Shape := ⟨2, ![4, 16]⟩
abbrev S_ : Shape := ⟨0, ![]⟩
abbrev S1x64 : Shape := ⟨2, ![1, 64]⟩

abbrev nBuf : Space → Nat
  | .hbm => 40
  | .vmem => 0
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S_, .f32⟩
  | .hbm, ⟨5, _⟩ => ⟨S4x16, .f32⟩
  | .hbm, ⟨6, _⟩ => ⟨S4x16, .f32⟩
  | .hbm, ⟨7, _⟩ => ⟨S_, .f32⟩
  | .hbm, ⟨8, _⟩ => ⟨S4x16, .f32⟩
  | .hbm, ⟨9, _⟩ => ⟨S4x16, .f32⟩
  | .hbm, ⟨10, _⟩ => ⟨S4x16, .f32⟩
  | .hbm, ⟨11, _⟩ => ⟨S_, .f32⟩
  | .hbm, ⟨12, _⟩ => ⟨S4x16, .f32⟩
  | .hbm, ⟨13, _⟩ => ⟨S4x16, .f32⟩
  | .hbm, ⟨14, _⟩ => ⟨S4x16, .f32⟩
  | .hbm, ⟨15, _⟩ => ⟨S_, .f32⟩
  | .hbm, ⟨16, _⟩ => ⟨S4x16, .f32⟩
  | .hbm, ⟨17, _⟩ => ⟨S4x16, .f32⟩
  | .hbm, ⟨18, _⟩ => ⟨S4x16, .f32⟩
  | .hbm, ⟨19, _⟩ => ⟨S_, .f32⟩
  | .hbm, ⟨20, _⟩ => ⟨S4x16, .f32⟩
  | .hbm, ⟨21, _⟩ => ⟨S4x16, .f32⟩
  | .hbm, ⟨22, _⟩ => ⟨S_, .f32⟩
  | .hbm, ⟨23, _⟩ => ⟨S4x16, .f32⟩
  | .hbm, ⟨24, _⟩ => ⟨S4x16, .f32⟩
  | .hbm, ⟨25, _⟩ => ⟨S4x16, .f32⟩
  | .hbm, ⟨26, _⟩ => ⟨S_, .f32⟩
  | .hbm, ⟨27, _⟩ => ⟨S4x16, .f32⟩
  | .hbm, ⟨28, _⟩ => ⟨S4x16, .f32⟩
  | .hbm, ⟨29, _⟩ => ⟨S4x16, .f32⟩
  | .hbm, ⟨30, _⟩ => ⟨S_, .f32⟩
  | .hbm, ⟨31, _⟩ => ⟨S4x16, .f32⟩
  | .hbm, ⟨32, _⟩ => ⟨S4x16, .f32⟩
  | .hbm, ⟨33, _⟩ => ⟨S4x16, .f32⟩
  | .hbm, ⟨34, _⟩ => ⟨S_, .f32⟩
  | .hbm, ⟨35, _⟩ => ⟨S4x16, .f32⟩
  | .hbm, ⟨36, _⟩ => ⟨S4x16, .f32⟩
  | .hbm, ⟨37, _⟩ => ⟨S1x64, .f32⟩
  | .hbm, ⟨38, _⟩ => ⟨S1x64, .f32⟩
  | .hbm, ⟨39, _⟩ => ⟨S1x64, .f32⟩
  | _, _ => ⟨S4x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSsdALog.lean ====
abbrev S4x16 : Shape := ⟨2, ![4, 16]⟩
abbrev S1x64 : Shape := ⟨2, ![1, 64]⟩

abbrev nBuf : Space → Nat
  | .hbm => 11
  | .vmem => 7
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x64, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | _, _ => ⟨S4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSsdALogRefIdeal.lean ====
abbrev S4x16 : Shape := ⟨2, ![4, 16]⟩
abbrev S_ : Shape := ⟨0, ![]⟩
abbrev S1x64 : Shape := ⟨2, ![1, 64]⟩

abbrev nBuf : Space → Nat
  | .hbm => 40
  | .vmem => 0
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S_, .f32⟩
  | .hbm, ⟨5, _⟩ => ⟨S4x16, .f32⟩
  | .hbm, ⟨6, _⟩ => ⟨S4x16, .f32⟩
  | .hbm, ⟨7, _⟩ => ⟨S_, .f32⟩
  | .hbm, ⟨8, _⟩ => ⟨S4x16, .f32⟩
  | .hbm, ⟨9, _⟩ => ⟨S4x16, .f32⟩
  | .hbm, ⟨10, _⟩ => ⟨S4x16, .f32⟩
  | .hbm, ⟨11, _⟩ => ⟨S_, .f32⟩
  | .hbm, ⟨12, _⟩ => ⟨S4x16, .f32⟩
  | .hbm, ⟨13, _⟩ => ⟨S4x16, .f32⟩
  | .hbm, ⟨14, _⟩ => ⟨S4x16, .f32⟩
  | .hbm, ⟨15, _⟩ => ⟨S_, .f32⟩
  | .hbm, ⟨16, _⟩ => ⟨S4x16, .f32⟩
  | .hbm, ⟨17, _⟩ => ⟨S4x16, .f32⟩
  | .hbm, ⟨18, _⟩ => ⟨S4x16, .f32⟩
  | .hbm, ⟨19, _⟩ => ⟨S_, .f32⟩
  | .hbm, ⟨20, _⟩ => ⟨S4x16, .f32⟩
  | .hbm, ⟨21, _⟩ => ⟨S4x16, .f32⟩
  | .hbm, ⟨22, _⟩ => ⟨S_, .f32⟩
  | .hbm, ⟨23, _⟩ => ⟨S4x16, .f32⟩
  | .hbm, ⟨24, _⟩ => ⟨S4x16, .f32⟩
  | .hbm, ⟨25, _⟩ => ⟨S4x16, .f32⟩
  | .hbm, ⟨26, _⟩ => ⟨S_, .f32⟩
  | .hbm, ⟨27, _⟩ => ⟨S4x16, .f32⟩
  | .hbm, ⟨28, _⟩ => ⟨S4x16, .f32⟩
  | .hbm, ⟨29, _⟩ => ⟨S4x16, .f32⟩
  | .hbm, ⟨30, _⟩ => ⟨S_, .f32⟩
  | .hbm, ⟨31, _⟩ => ⟨S4x16, .f32⟩
  | .hbm, ⟨32, _⟩ => ⟨S4x16, .f32⟩
  | .hbm, ⟨33, _⟩ => ⟨S4x16, .f32⟩
  | .hbm, ⟨34, _⟩ => ⟨S_, .f32⟩
  | .hbm, ⟨35, _⟩ => ⟨S4x16, .f32⟩
  | .hbm, ⟨36, _⟩ => ⟨S4x16, .f32⟩
  | .hbm, ⟨37, _⟩ => ⟨S1x64, .f32⟩
  | .hbm, ⟨38, _⟩ => ⟨S1x64, .f32⟩
  | .hbm, ⟨39, _⟩ => ⟨S1x64, .f32⟩
  | _, _ => ⟨S4x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSsdD.lean ====
abbrev S4x16 : Shape := ⟨2, ![4, 16]⟩
abbrev S1x64 : Shape := ⟨2, ![1, 64]⟩

abbrev nBuf : Space → Nat
  | .hbm => 11
  | .vmem => 7
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x64, .f32⟩
  | .hbm, ⟨8, _⟩ => ⟨S1x64, .f32⟩
  | .hbm, ⟨9, _⟩ => ⟨S1x64, .f32⟩
  | .hbm, ⟨10, _⟩ => ⟨S1x64, .f32⟩
  | .local _ .vmem, ⟨0, _⟩ => ⟨S1x64, .f32⟩
  | .local _ .vmem, ⟨1, _⟩ => ⟨S1x64, .f32⟩
  | .local _ .vmem, ⟨2, _⟩ => ⟨S1x64, .f32⟩
  | .local _ .vmem, ⟨3, _⟩ => ⟨S1x64, .f32⟩
  | .local _ .vmem, ⟨4, _⟩ => ⟨S1x64, .f32⟩
  | .local _ .vmem, ⟨5, _⟩ => ⟨S1x64, .f32⟩
  | .local _ .vmem, ⟨6, _⟩ => ⟨S1x64, .f32⟩
  | _, _ => ⟨S4x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSsdDRefIdeal.lean ====
abbrev S4x16 : Shape := ⟨2, ![4, 16]⟩
abbrev S_ : Shape := ⟨0, ![]⟩
abbrev S1x64 : Shape := ⟨2, ![1, 64]⟩

abbrev nBuf : Space → Nat
  | .hbm => 40
  | .vmem => 0
  | .smem => 0
  | _ => 0

abbrev bufTy : (tb : Table) → Fin (tcTables nBuf tb) → BufTy
  | .hbm, ⟨0, _⟩ => ⟨S4x16, .f32⟩
  | .hbm, ⟨1, _⟩ => ⟨S4x16, .f32⟩
  | .hbm, ⟨2, _⟩ => ⟨S4x16, .f32⟩
  | .hbm, ⟨3, _⟩ => ⟨S4x16, .f32⟩
  | .hbm, ⟨4, _⟩ => ⟨S_, .f32⟩
  | .hbm, ⟨5, _⟩ => ⟨S4x16, .f32⟩
  | .hbm, ⟨6, _⟩ => ⟨S4x16, .f32⟩
  | .hbm, ⟨7, _⟩ => ⟨S_, .f32⟩
  | .hbm, ⟨8, _⟩ => ⟨S4x16, .f32⟩
  | .hbm, ⟨9, _⟩ => ⟨S4x16, .f32⟩
  | .hbm, ⟨10, _⟩ => ⟨S4x16, .f32⟩
  | .hbm, ⟨11, _⟩ => ⟨S_, .f32⟩
  | .hbm, ⟨12, _⟩ => ⟨S4x16, .f32⟩
  | .hbm, ⟨13, _⟩ => ⟨S4x16, .f32⟩
  | .hbm, ⟨14, _⟩ => ⟨S4x16, .f32⟩
  | .hbm, ⟨15, _⟩ => ⟨S_, .f32⟩
  | .hbm, ⟨16, _⟩ => ⟨S4x16, .f32⟩
  | .hbm, ⟨17, _⟩ => ⟨S4x16, .f32⟩
  | .hbm, ⟨18, _⟩ => ⟨S4x16, .f32⟩
  | .hbm, ⟨19, _⟩ => ⟨S_, .f32⟩
  | .hbm, ⟨20, _⟩ => ⟨S4x16, .f32⟩
  | .hbm, ⟨21, _⟩ => ⟨S4x16, .f32⟩
  | .hbm, ⟨22, _⟩ => ⟨S_, .f32⟩
  | .hbm, ⟨23, _⟩ => ⟨S4x16, .f32⟩
  | .hbm, ⟨24, _⟩ => ⟨S4x16, .f32⟩
  | .hbm, ⟨25, _⟩ => ⟨S4x16, .f32⟩
  | .hbm, ⟨26, _⟩ => ⟨S_, .f32⟩
  | .hbm, ⟨27, _⟩ => ⟨S4x16, .f32⟩
  | .hbm, ⟨28, _⟩ => ⟨S4x16, .f32⟩
  | .hbm, ⟨29, _⟩ => ⟨S4x16, .f32⟩
  | .hbm, ⟨30, _⟩ => ⟨S_, .f32⟩
  | .hbm, ⟨31, _⟩ => ⟨S4x16, .f32⟩
  | .hbm, ⟨32, _⟩ => ⟨S4x16, .f32⟩
  | .hbm, ⟨33, _⟩ => ⟨S4x16, .f32⟩
  | .hbm, ⟨34, _⟩ => ⟨S_, .f32⟩
  | .hbm, ⟨35, _⟩ => ⟨S4x16, .f32⟩
  | .hbm, ⟨36, _⟩ => ⟨S4x16, .f32⟩
  | .hbm, ⟨37, _⟩ => ⟨S1x64, .f32⟩
  | .hbm, ⟨38, _⟩ => ⟨S1x64, .f32⟩
  | .hbm, ⟨39, _⟩ => ⟨S1x64, .f32⟩
  | _, _ => ⟨S4x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Proof.AttnBlock.lean ====
/-
  The attention gradient, one grid point. The kernel's body treats four heads one after the other, each on its own 256 lanes of
  the blocks of q, k, v and of the incoming gradient. This module says, head by head and in one vocabulary, what the body leaves
  in the blocks of dq, dk and dv: `headP` is a head's row of probabilities, `headDS` the gradient of its scores, `headDQ`, `headDK`
  and `headDV` the three products; the printed body computes the same terms for every head, cut differently into named values.
-/
module

public import proofs.«01_k».proof.Proof.Gen.AttnIdeal.Value
public import Idealize.ShloMosaic.Lib.Pointwise
public import Idealize.ShloMosaic.Lib.Pipeline.ReadBack

@[expose] public section

set_option maxRecDepth 16384

noncomputable section

namespace Cert.AttnBlock

open Cert.AttnIdeal Cert.AttnIdeal.Gen Idealize.ShloMosaic Idealize.ShloMosaic.TcCoe Idealize.ShloMosaic.Tactic Idealize.SL.Sem

/-- Head `h`'s lanes of a block of 512 rows. -/
def cutR {e : EltTy} (x : Vec Ideal S512x1024 e) (h : Fin 4) : Vec Ideal S512x256 e :=
  View.ld (Val := Elt Ideal) x (Rect.unit (s := S512x1024) ![0, 256 * h.val] S512x256.size (by
    intro a; fin_cases h <;> fin_cases a <;> decide))

/-- Head `h`'s lanes of a block of 256 rows. -/
def cutM {e : EltTy} (x : Vec Ideal S256x1024 e) (h : Fin 4) : Vec Ideal S256x256 e :=
  View.ld (Val := Elt Ideal) x (Rect.unit (s := S256x1024) ![0, 256 * h.val] S256x256.size (by
    intro a; fin_cases h <;> fin_cases a <;> decide))

theorem cutR_apply {e : EltTy} (x : Vec Ideal S512x1024 e) (h : Fin 4) (r : Fin 512) (l : Fin 256) :
    cutR x h (ix2 r l) = x (ix2 r ⟨256 * h.val + l.val, by omega⟩) := by
  unfold cutR; pointwise

theorem cutM_apply {e : EltTy} (x : Vec Ideal S256x1024 e) (h : Fin 4) (r : Fin 256) (l : Fin 256) :
    cutM x h (ix2 r l) = x (ix2 r ⟨256 * h.val + l.val, by omega⟩) := by
  unfold cutM; pointwise

/-- Four heads' results side by side in a block of 512 rows. -/
def joinR {e : EltTy} (f : Fin 4 → Vec Ideal S512x256 e) : Vec Ideal S512x1024 e := fun y =>
  f ⟨(y 1).val / 256, Nat.div_lt_of_lt_mul (y 1).isLt⟩ (ix2 (y 0) ⟨(y 1).val % 256, Nat.mod_lt _ (by decide)⟩)

/-- Four heads' results side by side in a block of 256 rows. -/
def joinM {e : EltTy} (f : Fin 4 → Vec Ideal S256x256 e) : Vec Ideal S256x1024 e := fun y =>
  f ⟨(y 1).val / 256, Nat.div_lt_of_lt_mul (y 1).isLt⟩ (ix2 (y 0) ⟨(y 1).val % 256, Nat.mod_lt _ (by decide)⟩)

theorem joinR_apply {e : EltTy} (f : Fin 4 → Vec Ideal S512x256 e) (h : Fin 4) (r : Fin 512) (l : Fin 256) :
    joinR f (ix2 r ⟨256 * h.val + l.val, by omega⟩) = f h (ix2 r l) := by
  unfold joinR
  have h1 : (256 * h.val + l.val) / 256 = h.val := by omega
  have h2 : (256 * h.val + l.val) % 256 = l.val := by omega
  exact congrArg₂ (fun a b => f a (ix2 r b)) (Fin.ext h1) (Fin.ext h2)

theorem joinM_apply {e : EltTy} (f : Fin 4 → Vec Ideal S256x256 e) (h : Fin 4) (r : Fin 256) (l : Fin 256) :
    joinM f (ix2 r ⟨256 * h.val + l.val, by omega⟩) = f h (ix2 r l) := by
  unfold joinM
  have h1 : (256 * h.val + l.val) / 256 = h.val := by omega
  have h2 : (256 * h.val + l.val) % 256 = l.val := by omega
  exact congrArg₂ (fun a b => f a (ix2 r b)) (Fin.ext h1) (Fin.ext h2)

/-- The joined block at head `h`'s rectangle is head `h`'s result. -/
theorem joinR_emb {e : EltTy} (f : Fin 4 → Vec Ideal S512x256 e) (h : Fin 4) (o : ℕ) (ho : o = 256 * h.val)
    (inb : ∀ a, (![0, o] : Fin 2 → ℕ) a + S512x256.size a ≤ S512x1024.size a) (x : S512x256.Idx) :
    joinR f ((Rect.unit (s := S512x1024) ![0, o] S512x256.size inb).emb x) = f h x := by
  subst ho
  obtain ⟨r, l, rfl⟩ : ∃ (r : Fin 512) (l : Fin 256), x = ix2 r l := ⟨x 0, x 1, eq_ix2 x⟩
  rw [← joinR_apply f h r l]
  refine congrArg (joinR f) (funext fun a => ?_)
  fin_cases a <;> exact Fin.ext (by simp [Rect.emb_apply])

theorem joinM_emb {e : EltTy} (f : Fin 4 → Vec Ideal S256x256 e) (h : Fin 4) (o : ℕ) (ho : o = 256 * h.val)
    (inb : ∀ a, (![0, o] : Fin 2 → ℕ) a + S256x256.size a ≤ S256x1024.size a) (x : S256x256.Idx) :
    joinM f ((Rect.unit (s := S256x1024) ![0, o] S256x256.size inb).emb x) = f h x := by
  subst ho
  obtain ⟨r, l, rfl⟩ : ∃ (r : Fin 256) (l : Fin 256), x = ix2 r l := ⟨x 0, x 1, eq_ix2 x⟩
  rw [← joinM_apply f h r l]
  refine congrArg (joinM f) (funext fun a => ?_)
  fin_cases a <;> exact Fin.ext (by simp [Rect.emb_apply])

/-- A store of head `h`'s result at head `h`'s lanes is the joined block there. -/
theorem joinR_piece {e : EltTy} (f : Fin 4 → Vec Ideal S512x256 e) (h : Fin 4) (o : ℕ) (ho : o = 256 * h.val)
    (inb : ∀ a, (![0, o] : Fin 2 → ℕ) a + S512x256.size a ≤ S512x1024.size a) (w : Vec Ideal S512x256 e) (hw : w = f h)
    (x : S512x256.Idx) : w x = joinR f ((Rect.unit (s := S512x1024) ![0, o] S512x256.size inb).emb x) := by
  rw [joinR_emb f h o ho inb x, hw]

theorem joinM_piece {e : EltTy} (f : Fin 4 → Vec Ideal S256x256 e) (h : Fin 4) (o : ℕ) (ho : o = 256 * h.val)
    (inb : ∀ a, (![0, o] : Fin 2 → ℕ) a + S256x256.size a ≤ S256x1024.size a) (w : Vec Ideal S256x256 e) (hw : w = f h)
    (x : S256x256.Idx) : w x = joinM f ((Rect.unit (s := S256x1024) ![0, o] S256x256.size inb).emb x) := by
  rw [joinM_emb f h o ho inb x, hw]

/-- Four stores side by side, over whatever was stored before, leave the joined block. -/
theorem canon_joinM (f : Fin 4 → Vec Ideal S256x256 .f32) (L : List (View.Piece (Elt Ideal) S256x1024 .f32))
    (w3 w2 w1 w0 : Vec Ideal S256x256 .f32) (h3 : w3 = f 3) (h2 : w2 = f 2) (h1 : w1 = f 1) (h0 : w0 = f 0) (y : S256x1024.Idx) :
    View.canon (Val := Elt Ideal) (⟨Rect.unit (s := S256x1024) ![0, 768] S256x256.size inb_S256x1024_S256x256_0_768, w3⟩
      :: ⟨Rect.unit (s := S256x1024) ![0, 512] S256x256.size inb_S256x1024_S256x256_0_512, w2⟩
      :: ⟨Rect.unit (s := S256x1024) ![0, 256] S256x256.size inb_S256x1024_S256x256_0_256, w1⟩
      :: ⟨Rect.unit (s := S256x1024) ![0, 0] S256x256.size inb_S256x1024_S256x256_0_0, w0⟩ :: L) y = joinM f y := by
  refine View.canon_append_of_piecesOf (Val := Elt Ideal) (joinM f) L [⟨Rect.unit (s := S256x1024) ![0, 768] S256x256.size inb_S256x1024_S256x256_0_768, w3⟩,
      ⟨Rect.unit (s := S256x1024) ![0, 512] S256x256.size inb_S256x1024_S256x256_0_512, w2⟩,
      ⟨Rect.unit (s := S256x1024) ![0, 256] S256x256.size inb_S256x1024_S256x256_0_256, w1⟩,
      ⟨Rect.unit (s := S256x1024) ![0, 0] S256x256.size inb_S256x1024_S256x256_0_0, w0⟩]
    ⟨joinM_piece f 3 768 rfl inb_S256x1024_S256x256_0_768 w3 h3, joinM_piece f 2 512 rfl inb_S256x1024_S256x256_0_512 w2 h2,
      joinM_piece f 1 256 rfl inb_S256x1024_S256x256_0_256 w1 h1, joinM_piece f 0 0 rfl inb_S256x1024_S256x256_0_0 w0 h0, trivial⟩ y ?_
  exact View.cover_of_tiledL (s := S256x1024) [⟨Rect.unit (s := S256x1024) ![0, 768] S256x256.size inb_S256x1024_S256x256_0_768, w3⟩,
      ⟨Rect.unit (s := S256x1024) ![0, 512] S256x256.size inb_S256x1024_S256x256_0_512, w2⟩,
      ⟨Rect.unit (s := S256x1024) ![0, 256] S256x256.size inb_S256x1024_S256x256_0_256, w1⟩,
      ⟨Rect.unit (s := S256x1024) ![0, 0] S256x256.size inb_S256x1024_S256x256_0_0, w0⟩] S256x256.size (by sl_kernel_rfl) y

section Cover

variable (v : View sig .tc .vmem S256x1024 .f32) (Z : Vec Ideal S256x1024 .f32) (w0 w1 w2 : Vec Ideal S256x256 .f32)

/-- After a fill with `Z` and stores to the heads before it, head 0's lanes still read `Z`. -/
theorem fill_0 : View.readCov (Val := Elt Ideal) v ([⟨Rect.unit (s := S256x1024) ![0, 0] S256x1024.size inb_S256x1024_S256x1024_0_0, Z⟩]) (Rect.unit (s := S256x1024) ![0, 0] S256x256.size inb_S256x1024_S256x256_0_0).toLoadRect = cutM Z 0 := by
  skip
  exact View.readCov_fill v _ Z [] _ (by decide)

/-- After a fill with `Z` and stores to the heads before it, head 1's lanes still read `Z`. -/
theorem fill_1 : View.readCov (Val := Elt Ideal) v (⟨Rect.unit (s := S256x1024) ![0, 0] S256x256.size inb_S256x1024_S256x256_0_0, w0⟩ :: [⟨Rect.unit (s := S256x1024) ![0, 0] S256x1024.size inb_S256x1024_S256x1024_0_0, Z⟩]) (Rect.unit (s := S256x1024) ![0, 256] S256x256.size inb_S256x1024_S256x256_0_256).toLoadRect = cutM Z 1 := by
  rw [View.readCov_skip _ _ _ _ _ (by sl_kernel_rfl)]
  exact View.readCov_fill v _ Z [] _ (by decide)

/-- After a fill with `Z` and stores to the heads before it, head 2's lanes still read `Z`. -/
theorem fill_2 : View.readCov (Val := Elt Ideal) v (⟨Rect.unit (s := S256x1024) ![0, 256] S256x256.size inb_S256x1024_S256x256_0_256, w1⟩ :: ⟨Rect.unit (s := S256x1024) ![0, 0] S256x256.size inb_S256x1024_S256x256_0_0, w0⟩ :: [⟨Rect.unit (s := S256x1024) ![0, 0] S256x1024.size inb_S256x1024_S256x1024_0_0, Z⟩]) (Rect.unit (s := S256x1024) ![0, 512] S256x256.size inb_S256x1024_S256x256_0_512).toLoadRect = cutM Z 2 := by
  rw [View.readCov_skip _ _ _ _ _ (by sl_kernel_rfl), View.readCov_skip _ _ _ _ _ (by sl_kernel_rfl)]
  exact View.readCov_fill v _ Z [] _ (by decide)

/-- After a fill with `Z` and stores to the heads before it, head 3's lanes still read `Z`. -/
theorem fill_3 : View.readCov (Val := Elt Ideal) v (⟨Rect.unit (s := S256x1024) ![0, 512] S256x256.size inb_S256x1024_S256x256_0_512, w2⟩ :: ⟨Rect.unit (s := S256x1024) ![0, 256] S256x256.size inb_S256x1024_S256x256_0_256, w1⟩ :: ⟨Rect.unit (s := S256x1024) ![0, 0] S256x256.size inb_S256x1024_S256x256_0_0, w0⟩ :: [⟨Rect.unit (s := S256x1024) ![0, 0] S256x1024.size inb_S256x1024_S256x1024_0_0, Z⟩]) (Rect.unit (s := S256x1024) ![0, 768] S256x256.size inb_S256x1024_S256x256_0_768).toLoadRect = cutM Z 3 := by
  rw [View.readCov_skip _ _ _ _ _ (by sl_kernel_rfl), View.readCov_skip _ _ _ _ _ (by sl_kernel_rfl), View.readCov_skip _ _ _ _ _ (by sl_kernel_rfl)]
  exact View.readCov_fill v _ Z [] _ (by decide)

end Cover

/-! ## One head -/

section Head

variable (x0 : Vec Ideal S512x1024 .bf16) (x1 x2 : Vec Ideal S256x1024 .bf16) (x3 : Vec Ideal S512x1024 .bf16) (h : Fin 4)

/-- Head `h`'s probabilities for the block's rows. -/
def headP : FVec Ideal S512x256 .f32 := k0_pay24 (cutR x0 h) (cutM x1 h)
/-- The gradient of head `h`'s scores. -/
def headDS : FVec Ideal S512x256 .bf16 := k0_pay26 (cutR x0 h) (cutM x1 h) (cutM x2 h) (cutR x3 h)
/-- Head `h`'s block of dq. -/
def headDQ : FVec Ideal S512x256 .bf16 := k0_pay27 (cutR x0 h) (cutM x1 h) (cutM x2 h) (cutR x3 h)
/-- Head `h`'s dk: what it held before, and the block's part. -/
def headDK (acc : Vec Ideal S256x1024 .f32) : FVec Ideal S256x256 .f32 := k0_pay1 (cutR x0 h) (headDS x0 x1 x2 x3 h) (cutM acc h)
/-- Head `h`'s dv: what it held before, and the block's part. -/
def headDV (acc : Vec Ideal S256x1024 .f32) : FVec Ideal S256x256 .f32 := k0_pay25 (cutR x0 h) (cutM x1 h) (cutR x3 h) (cutM acc h)

end Head

/-- The zeros that the first grid point starts dk and dv from. -/
def zeroBlock : Vec Ideal S256x1024 .f32 := k0_pay2 (F := Ideal)

/-! ## The body's stores, read head by head -/

section Body

variable (c : Dev nD) (i : grid0.Coords) (arg1 : Memref sig .tc .vmem S512x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S256x1024 .f32) (harg6 : arg6.IsWhole) (arg7 : Memref sig .tc .vmem S256x1024 .f32) (harg7 : arg7.IsWhole)
  (x0 : Vec Ideal S512x1024 .bf16) (x1 x2 : Vec Ideal S256x1024 .bf16) (x3 : Vec Ideal S512x1024 .bf16) (xo5 xo6 : Vec Ideal S256x1024 .f32)

/-- A later point's dq block. -/
theorem out_B_4 (hc0 : ¬cond0_0 i) :
    out0_B_4 c i arg1 harg1 arg2 harg2 arg3 harg3 arg4 harg4 arg5 harg5 arg6 harg6 arg7 harg7 hc0 x0 x1 x2 x3 xo5 xo6
      = joinR (fun h => headDQ x0 x1 x2 x3 h) := by
  funext y
  unfold out0_B_4
  rw [View.read_writes_junk_eq_canon]
  refine View.canon_apply_of_pieces _ _ ?_ y (cover0_B_4 c i arg1 harg1 arg2 harg2 arg3 harg3 arg4 harg4 arg5 harg5 arg6 harg6 arg7 harg7 hc0 x0 x1 x2 x3 xo5 xo6 y)
  unfold kernelRun0_B
  dsimp only
  refine View.PiecesOf.mem ⟨joinR_piece _ 3 768 rfl inb_S512x1024_S512x256_0_768 _ ?_, joinR_piece _ 2 512 rfl inb_S512x1024_S512x256_0_512 _ ?_, joinR_piece _ 1 256 rfl inb_S512x1024_S512x256_0_256 _ ?_, joinR_piece _ 0 0 rfl inb_S512x1024_S512x256_0_0 _ ?_, trivial⟩
  all_goals
    dsimp only
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, View.readAt_eq_ld, harg1.read_unread, harg2.read_unread, harg3.read_unread, harg4.read_unread, harg6.read_unread, harg7.read_unread]
    rfl

/-- A later point's dk block: every head adds its part. -/
theorem out_B_5 (hc0 : ¬cond0_0 i) :
    out0_B_5 c i arg1 harg1 arg2 harg2 arg3 harg3 arg4 harg4 arg5 harg5 arg6 harg6 arg7 harg7 hc0 x0 x1 x2 x3 xo5 xo6
      = joinM (fun h => headDK x0 x1 x2 x3 h xo5) := by
  funext y
  unfold out0_B_5
  rw [View.read_writes_junk_eq_canon]
  refine View.canon_apply_of_pieces _ _ ?_ y (cover0_B_5 c i arg1 harg1 arg2 harg2 arg3 harg3 arg4 harg4 arg5 harg5 arg6 harg6 arg7 harg7 hc0 x0 x1 x2 x3 xo5 xo6 y)
  unfold kernelRun0_B
  dsimp only
  refine View.PiecesOf.mem ⟨joinM_piece _ 3 768 rfl inb_S256x1024_S256x256_0_768 _ ?_, joinM_piece _ 2 512 rfl inb_S256x1024_S256x256_0_512 _ ?_, joinM_piece _ 1 256 rfl inb_S256x1024_S256x256_0_256 _ ?_, joinM_piece _ 0 0 rfl inb_S256x1024_S256x256_0_0 _ ?_, trivial⟩
  all_goals
    dsimp only
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.v88, kernelRun0_B.sl.v133, kernelRun0_B.sl.v178, View.readAt_eq_ld, harg1.read_unread, harg2.read_unread, harg3.read_unread, harg4.read_unread, harg6.read_unread, harg7.read_unread]
    rfl

/-- A later point's dv block: every head adds its part. -/
theorem out_B_6 (hc0 : ¬cond0_0 i) :
    out0_B_6 c i arg1 harg1 arg2 harg2 arg3 harg3 arg4 harg4 arg5 harg5 arg6 harg6 arg7 harg7 hc0 x0 x1 x2 x3 xo5 xo6
      = joinM (fun h => headDV x0 x1 x3 h xo6) := by
  funext y
  unfold out0_B_6
  rw [View.read_writes_junk_eq_canon]
  refine View.canon_apply_of_pieces _ _ ?_ y (cover0_B_6 c i arg1 harg1 arg2 harg2 arg3 harg3 arg4 harg4 arg5 harg5 arg6 harg6 arg7 harg7 hc0 x0 x1 x2 x3 xo5 xo6 y)
  unfold kernelRun0_B
  dsimp only
  refine View.PiecesOf.mem ⟨joinM_piece _ 3 768 rfl inb_S256x1024_S256x256_0_768 _ ?_, joinM_piece _ 2 512 rfl inb_S256x1024_S256x256_0_512 _ ?_, joinM_piece _ 1 256 rfl inb_S256x1024_S256x256_0_256 _ ?_, joinM_piece _ 0 0 rfl inb_S256x1024_S256x256_0_0 _ ?_, trivial⟩
  all_goals
    dsimp only
    simp only [kernelRun0_B.sl.r, kernelRun0_B.sl.r_1, kernelRun0_B.sl.r_2, kernelRun0_B.sl.r_3, kernelRun0_B.sl.r_4, kernelRun0_B.sl.r_5, kernelRun0_B.sl.r_6, kernelRun0_B.sl.r_7, kernelRun0_B.sl.r_8, kernelRun0_B.sl.r_9, kernelRun0_B.sl.r_10, kernelRun0_B.sl.r_11, kernelRun0_B.sl.r_12, kernelRun0_B.sl.r_13, kernelRun0_B.sl.r_14, kernelRun0_B.sl.r_15, kernelRun0_B.sl.r_16, kernelRun0_B.sl.r_17, kernelRun0_B.sl.r_18, kernelRun0_B.sl.v70, kernelRun0_B.sl.v115, kernelRun0_B.sl.v160, View.readAt_eq_ld, harg1.read_unread, harg2.read_unread, harg3.read_unread, harg4.read_unread, harg6.read_unread, harg7.read_unread]
    rfl

/-- The first point's dq block. -/
theorem out_A_4 (hc0 : cond0_0 i) :
    out0_A_4 c i arg1 harg1 arg2 harg2 arg3 harg3 arg4 harg4 arg5 harg5 arg6 harg6 arg7 harg7 hc0 x0 x1 x2 x3
      = joinR (fun h => headDQ x0 x1 x2 x3 h) := by
  funext y
  unfold out0_A_4
  rw [View.read_writes_junk_eq_canon]
  refine View.canon_apply_of_pieces _ _ ?_ y (cover0_A_4 c i arg1 harg1 arg2 harg2 arg3 harg3 arg4 harg4 arg5 harg5 arg6 harg6 arg7 harg7 hc0 x0 x1 x2 x3 y)
  unfold kernelRun0_A
  dsimp only
  refine View.PiecesOf.mem ⟨joinR_piece _ 3 768 rfl inb_S512x1024_S512x256_0_768 _ ?_, joinR_piece _ 2 512 rfl inb_S512x1024_S512x256_0_512 _ ?_, joinR_piece _ 1 256 rfl inb_S512x1024_S512x256_0_256 _ ?_, joinR_piece _ 0 0 rfl inb_S512x1024_S512x256_0_0 _ ?_, trivial⟩
  all_goals
    dsimp only
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, View.readAt_eq_ld, harg1.read_unread, harg2.read_unread, harg3.read_unread, harg4.read_unread, harg6.read_unread, harg7.read_unread]
    rfl

/-- The first point's dk block: every head's part over zeros. -/
theorem out_A_5 (hc0 : cond0_0 i) :
    out0_A_5 c i arg1 harg1 arg2 harg2 arg3 harg3 arg4 harg4 arg5 harg5 arg6 harg6 arg7 harg7 hc0 x0 x1 x2 x3
      = joinM (fun h => headDK x0 x1 x2 x3 h zeroBlock) := by
  have e0 : kernelRun0_A.sl.v43 (F := Ideal) c arg6 = cutM zeroBlock 0 := fill_0 arg6.view zeroBlock
  have e1 : kernelRun0_A.sl.v88 (F := Ideal) c arg1 harg1 arg2 harg2 arg3 harg3 arg4 harg4 arg6 x0 x1 x2 x3 = cutM zeroBlock 1 := fill_1 arg6.view zeroBlock _
  have e2 : kernelRun0_A.sl.v133 (F := Ideal) c arg1 harg1 arg2 harg2 arg3 harg3 arg4 harg4 arg6 x0 x1 x2 x3 = cutM zeroBlock 2 := fill_2 arg6.view zeroBlock _ _
  have e3 : kernelRun0_A.sl.v178 (F := Ideal) c arg1 harg1 arg2 harg2 arg3 harg3 arg4 harg4 arg6 x0 x1 x2 x3 = cutM zeroBlock 3 := fill_3 arg6.view zeroBlock _ _ _
  funext y
  unfold out0_A_5
  rw [View.read_writes_junk_eq_canon]
  unfold kernelRun0_A
  dsimp only
  simp only [kernelRun0_A.sl.H5_1, kernelRun0_A.sl.H5_2, kernelRun0_A.sl.H5_3, kernelRun0_A.sl.H5_4, e0, e1, e2, e3]
  refine canon_joinM _ _ _ _ _ _ ?_ ?_ ?_ ?_ y
  all_goals
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, View.readAt_eq_ld, harg1.read_unread, harg2.read_unread, harg3.read_unread, harg4.read_unread]
    rfl

/-- The first point's dv block: every head's part over zeros. -/
theorem out_A_6 (hc0 : cond0_0 i) :
    out0_A_6 c i arg1 harg1 arg2 harg2 arg3 harg3 arg4 harg4 arg5 harg5 arg6 harg6 arg7 harg7 hc0 x0 x1 x2 x3
      = joinM (fun h => headDV x0 x1 x3 h zeroBlock) := by
  have e0 : kernelRun0_A.sl.v25 (F := Ideal) c arg7 = cutM zeroBlock 0 := fill_0 arg7.view zeroBlock
  have e1 : kernelRun0_A.sl.v70 (F := Ideal) c arg1 harg1 arg2 harg2 arg4 harg4 arg7 x0 x1 x3 = cutM zeroBlock 1 := fill_1 arg7.view zeroBlock _
  have e2 : kernelRun0_A.sl.v115 (F := Ideal) c arg1 harg1 arg2 harg2 arg4 harg4 arg7 x0 x1 x3 = cutM zeroBlock 2 := fill_2 arg7.view zeroBlock _ _
  have e3 : kernelRun0_A.sl.v160 (F := Ideal) c arg1 harg1 arg2 harg2 arg4 harg4 arg7 x0 x1 x3 = cutM zeroBlock 3 := fill_3 arg7.view zeroBlock _ _ _
  funext y
  unfold out0_A_6
  rw [View.read_writes_junk_eq_canon]
  unfold kernelRun0_A
  dsimp only
  simp only [kernelRun0_A.sl.H6_1, kernelRun0_A.sl.H6_2, kernelRun0_A.sl.H6_3, kernelRun0_A.sl.H6_4, e0, e1, e2, e3]
  refine canon_joinM _ _ _ _ _ _ ?_ ?_ ?_ ?_ y
  all_goals
    simp only [kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, View.readAt_eq_ld, harg1.read_unread, harg2.read_unread, harg3.read_unread, harg4.read_unread]
    rfl

end Body

end Cert.AttnBlock

end
-- ==== Proof.AttnMath.lean ====
/-
  Softmax attention's gradient over the real numbers, one row of queries at a time, and the few facts that carry a formula from
  the extended reals to the reals when what goes in is finite.
-/
module

public import Idealize.ShloMosaic.Lib.Pointwise

@[expose] public section

noncomputable section

namespace Cert.AttnMath

open Idealize.ShloMosaic

/-! ### Extended reals -/

theorem sum_lift {n : ℕ} (f : Fin n → ℝ) : (∑ x, ((f x : ℝ) : EReal)) = ((∑ x, f x : ℝ) : EReal) := by
  induction (Finset.univ : Finset (Fin n)) using Finset.induction with
  | empty => simp
  | insert a s ha ih => rw [Finset.sum_insert ha, Finset.sum_insert ha, ih, EReal.coe_add]

/-- The largest of finitely many reals, as the fold from minus infinity finds it. -/
def largest {n : ℕ} (f : Fin (n + 1) → ℝ) : ℝ := Finset.univ.sup' ⟨0, Finset.mem_univ _⟩ f

theorem fold_max_lift {n : ℕ} (f : Fin (n + 1) → ℝ) :
    Finset.fold max (⊥ : EReal) (fun x => ((f x : ℝ) : EReal)) Finset.univ = ((largest f : ℝ) : EReal) := by
  have h := Finset.sup'_eq_sup (s := Finset.univ) ⟨(0 : Fin (n + 1)), Finset.mem_univ _⟩ (fun x => ((f x : ℝ) : EReal))
  have h' := Finset.comp_sup'_eq_sup'_comp (s := Finset.univ) (f := f) ⟨(0 : Fin (n + 1)), Finset.mem_univ _⟩
    (fun r : ℝ => (r : EReal)) (fun x y => EReal.coe_strictMono.monotone.map_max)
  exact (h.symm.trans h'.symm)

theorem div_lift (x : ℝ) {y : ℝ} (h : y ≠ 0) : Ideal.div (x : EReal) (y : EReal) = ((x / y : ℝ) : EReal) := by
  rw [Ideal.div_coe h, ← EReal.coe_mul, div_eq_mul_one_div x y]

theorem word_sixteenth : Ideal.ofBits FTy.f32 1031798784#32 = ((1 / 16 : ℝ) : EReal) := by
  simp [Ideal.ofBits, Ideal.ieee]
  rw [← EReal.coe_mul]; norm_num

theorem word_two : Ideal.ofBits FTy.f32 1073741824#32 = ((2 : ℝ) : EReal) := by
  simp [Ideal.ofBits, Ideal.ieee]
  rw [← EReal.coe_mul]; norm_num

theorem word_bot : Ideal.ofBits FTy.f32 4286578688#32 = (⊥ : EReal) := by
  simp [Ideal.ofBits, Ideal.ieee]

theorem word_one : Ideal.ofBits FTy.f32 1065353216#32 = ((1 : ℝ) : EReal) := by
  simp [Ideal.ofBits, Ideal.ieee]
  rw [← EReal.coe_mul, ← EReal.coe_one]; norm_num

theorem word_zero : Ideal.ofBits FTy.f32 0#32 = ((0 : ℝ) : EReal) := by
  simp [Ideal.ofBits, Ideal.ieee]

/-! ### One row of queries -/

/-- The scaled product of a query with key `m`. -/
def score (q : Fin 256 → ℝ) (K : Fin 256 → Fin 256 → ℝ) (m : Fin 256) : ℝ := (∑ d, q d * K m d) * (1 / 16)

/-- The exponential of a score less the row's largest. -/
def raised (q : Fin 256 → ℝ) (K : Fin 256 → Fin 256 → ℝ) (m : Fin 256) : ℝ :=
  Real.exp (score q K m - largest (n := 255) (score q K))

/-- The row's denominator. -/
def total (q : Fin 256 → ℝ) (K : Fin 256 → Fin 256 → ℝ) : ℝ := ∑ m, raised q K m

/-- The softmax of the scores. -/
def prob (q : Fin 256 → ℝ) (K : Fin 256 → Fin 256 → ℝ) (m : Fin 256) : ℝ := raised q K m / total q K

/-- The gradient of the probabilities: the incoming gradient with the values. -/
def dprob (V : Fin 256 → Fin 256 → ℝ) (g : Fin 256 → ℝ) (m : Fin 256) : ℝ := ∑ x, g x * V m x

/-- The gradient of the unscaled scores. -/
def dscore (q : Fin 256 → ℝ) (K V : Fin 256 → Fin 256 → ℝ) (g : Fin 256 → ℝ) (m : Fin 256) : ℝ :=
  prob q K m * (dprob V g m - ∑ x, prob q K x * dprob V g x) * (1 / 16)

theorem total_pos (q : Fin 256 → ℝ) (K : Fin 256 → Fin 256 → ℝ) : 0 < total q K :=
  Finset.sum_pos (fun _ _ => Real.exp_pos _) ⟨0, Finset.mem_univ _⟩

theorem total_ne (q : Fin 256 → ℝ) (K : Fin 256 → Fin 256 → ℝ) : total q K ≠ 0 := (total_pos q K).ne'

/-- One step of Newton's iteration from the exact reciprocal stays there. -/
theorem newton_stays {z : ℝ} (h : z ≠ 0) : 1 / z * (2 - z * (1 / z)) = 1 / z := by field_simp; norm_num

/-- The derivative of the softmax as a derivative of a quotient gives it: the numerator's share and the denominator's share. -/
theorem dscore_quotient (q : Fin 256 → ℝ) (K V : Fin 256 → Fin 256 → ℝ) (g : Fin 256 → ℝ) (m : Fin 256) :
    (dprob V g m / total q K + -(∑ x, dprob V g x * (1 / (total q K * total q K)) * raised q K x)) * raised q K m * (1 / 16)
      = dscore q K V g m := by
  have hz := total_ne q K
  have hs : (∑ x, prob q K x * dprob V g x) = total q K * ∑ x, dprob V g x * (1 / (total q K * total q K)) * raised q K x := by
    rw [Finset.mul_sum]
    refine Finset.sum_congr rfl fun x _ => ?_
    unfold prob; field_simp
  unfold dscore
  rw [hs]
  unfold prob
  field_simp
  ring

/-! ### The whole arrays

Rows are numbered by all naturals, so that a block's rows are `512 * t + r` without a bound to carry. -/

/-- Lane `l` of head `h`. -/
def lane (h : Fin 4) (l : Fin 256) : Fin 1024 := ⟨256 * h.val + l.val, by omega⟩

/-- Head `h`'s lanes of one row. -/
def head (x : Fin 1024 → ℝ) (h : Fin 4) : Fin 256 → ℝ := fun l => x (lane h l)

/-- Head `h`'s lanes of a table of 256 rows. -/
def headT (x : Fin 256 → Fin 1024 → ℝ) (h : Fin 4) : Fin 256 → Fin 256 → ℝ := fun m l => x m (lane h l)

/-- A lane of 1024 read as a lane of a head. -/
def byHead {α : Type} (f : Fin 4 → Fin 256 → α) (j : Fin 1024) : α :=
  f ⟨j.val / 256, Nat.div_lt_of_lt_mul j.isLt⟩ ⟨j.val % 256, Nat.mod_lt _ (by decide)⟩

variable (q g : ℕ → Fin 1024 → ℝ) (k v : Fin 256 → Fin 1024 → ℝ)

/-- Row `i`, head `h`: the gradient of the scores. -/
def rowDS (i : ℕ) (h : Fin 4) (m : Fin 256) : ℝ := dscore (head (q i) h) (headT k h) (headT v h) (head (g i) h) m

/-- Row `i`, head `h`: the probabilities. -/
def rowP (i : ℕ) (h : Fin 4) (m : Fin 256) : ℝ := prob (head (q i) h) (headT k h) m

/-- The gradient of q. -/
def gradQ (i : ℕ) (h : Fin 4) (l : Fin 256) : ℝ := ∑ m, rowDS q g k v i h m * k m (lane h l)

/-- The gradient of k, over the first `n` rows. -/
def gradK (n : ℕ) (m : Fin 256) (h : Fin 4) (l : Fin 256) : ℝ := ∑ i ∈ Finset.range n, rowDS q g k v i h m * q i (lane h l)

/-- The gradient of v, over the first `n` rows. -/
def gradV (n : ℕ) (m : Fin 256) (h : Fin 4) (l : Fin 256) : ℝ := ∑ i ∈ Finset.range n, rowP q k i h m * g i (lane h l)

theorem gradK_step (n : ℕ) (m : Fin 256) (h : Fin 4) (l : Fin 256) :
    gradK q g k v (512 * n) m h l + ∑ r : Fin 512, rowDS q g k v (512 * n + r.val) h m * q (512 * n + r.val) (lane h l)
      = gradK q g k v (512 * (n + 1)) m h l := by
  unfold gradK
  rw [Nat.mul_succ, Finset.sum_range_add, Finset.sum_range (n := 512)]

theorem gradV_step (n : ℕ) (m : Fin 256) (h : Fin 4) (l : Fin 256) :
    gradV q g k (512 * n) m h l + ∑ r : Fin 512, rowP q k (512 * n + r.val) h m * g (512 * n + r.val) (lane h l)
      = gradV q g k (512 * (n + 1)) m h l := by
  unfold gradV
  rw [Nat.mul_succ, Finset.sum_range_add, Finset.sum_range (n := 512)]

end Cert.AttnMath

end
-- ==== Proof.AttnLift.lean ====
/-
  One head of one block on finite inputs: each term the kernel's body computes for a head is the real term of `Cert.AttnMath` at
  the block's rows.
-/
module

public import proofs.«01_k».proof.Proof.AttnBlock
public import proofs.«01_k».proof.Proof.AttnMath

@[expose] public section

set_option maxRecDepth 16384

noncomputable section

namespace Cert.AttnLift

open Cert.AttnIdeal Cert.AttnIdeal.Gen Cert.AttnMath Idealize.ShloMosaic Idealize.ShloMosaic.TcCoe Idealize.SL.Sem

variable {Q D : Vec Ideal S512x256 .bf16} {K V : Vec Ideal S256x256 .bf16} {A : Vec Ideal S256x256 .f32}
  {q d : Fin 512 → Fin 256 → ℝ} {k v a : Fin 256 → Fin 256 → ℝ}

theorem prob_lift (hQ : ∀ r l, Q (ix2 r l) = ((q r l : ℝ) : EReal)) (hK : ∀ r l, K (ix2 r l) = ((k r l : ℝ) : EReal))
    (r : Fin 512) (m : Fin 256) : k0_pay24 (F := Ideal) Q K (ix2 r m) = ((prob (q r) k m : ℝ) : EReal) := by
  have hS : ∀ x, (∑ d : Fin 256, (Q (ix2 r d) * K (ix2 x d) : EReal)) * Ideal.ofBits FTy.f32 1031798784#32 = ((score (q r) k x : ℝ) : EReal) := by
    intro x
    simp only [hQ, hK, word_sixteenth, ← EReal.coe_mul, sum_lift]; rfl
  have hM := fold_max_lift (n := 255) (score (q r) k)
  pointwise [k0_pay24]
  simp only [hS, word_bot, word_two]
  simp only [hM, ← EReal.coe_sub, Ideal.exp_coe, sum_lift]
  have hz : (∑ x, Real.exp (score (q r) k x - largest (n := 255) (score (q r) k))) ≠ 0 := total_ne (q r) k
  rw [show (1 : EReal) = ((1 : ℝ) : EReal) from rfl, div_lift _ hz]
  simp only [← EReal.coe_mul, ← EReal.coe_sub]
  rw [newton_stays hz]
  exact congrArg _ (div_eq_mul_one_div (raised (q r) k m) (total (q r) k)).symm

theorem dscore_lift (hQ : ∀ r l, Q (ix2 r l) = ((q r l : ℝ) : EReal)) (hK : ∀ r l, K (ix2 r l) = ((k r l : ℝ) : EReal))
    (hV : ∀ r l, V (ix2 r l) = ((v r l : ℝ) : EReal)) (hD : ∀ r l, D (ix2 r l) = ((d r l : ℝ) : EReal))
    (r : Fin 512) (m : Fin 256) : k0_pay26 (F := Ideal) Q K V D (ix2 r m) = ((dscore (q r) k v (d r) m : ℝ) : EReal) := by
  have hP := prob_lift hQ hK r
  have h : k0_pay26 (F := Ideal) Q K V D (ix2 r m)
      = (k0_pay24 (F := Ideal) Q K (ix2 r m) * ((∑ x : Fin 256, (D (ix2 r x) * V (ix2 m x) : EReal))
        - ∑ x : Fin 256, (k0_pay24 (F := Ideal) Q K (ix2 r x) * ∑ y : Fin 256, (D (ix2 r y) * V (ix2 x y) : EReal) : EReal)) * Ideal.ofBits FTy.f32 1031798784#32 : EReal) := by
    pointwise [k0_pay26, k0_pay24]
  rw [h]
  simp only [hP, hV, hD, word_sixteenth, ← EReal.coe_mul, sum_lift, ← EReal.coe_sub]
  rfl

theorem dq_lift (hQ : ∀ r l, Q (ix2 r l) = ((q r l : ℝ) : EReal)) (hK : ∀ r l, K (ix2 r l) = ((k r l : ℝ) : EReal))
    (hV : ∀ r l, V (ix2 r l) = ((v r l : ℝ) : EReal)) (hD : ∀ r l, D (ix2 r l) = ((d r l : ℝ) : EReal))
    (r : Fin 512) (l : Fin 256) :
    k0_pay27 (F := Ideal) Q K V D (ix2 r l) = ((∑ m, dscore (q r) k v (d r) m * k m l : ℝ) : EReal) := by
  have h : k0_pay27 (F := Ideal) Q K V D (ix2 r l)
      = (∑ m : Fin 256, (k0_pay26 (F := Ideal) Q K V D (ix2 r m) * K (ix2 m l) : EReal)) := by
    pointwise [k0_pay27]
  rw [h]
  simp only [dscore_lift hQ hK hV hD, hK, ← EReal.coe_mul, sum_lift]

theorem dv_lift (hQ : ∀ r l, Q (ix2 r l) = ((q r l : ℝ) : EReal)) (hK : ∀ r l, K (ix2 r l) = ((k r l : ℝ) : EReal))
    (hD : ∀ r l, D (ix2 r l) = ((d r l : ℝ) : EReal)) (hA : ∀ r l, A (ix2 r l) = ((a r l : ℝ) : EReal)) (m l : Fin 256) :
    k0_pay25 (F := Ideal) Q K D A (ix2 m l) = ((a m l + ∑ r, prob (q r) k m * d r l : ℝ) : EReal) := by
  have h : k0_pay25 (F := Ideal) Q K D A (ix2 m l)
      = (A (ix2 m l) + ∑ r : Fin 512, (k0_pay24 (F := Ideal) Q K (ix2 r m) * D (ix2 r l) : EReal) : EReal) := by
    pointwise [k0_pay25]
  rw [h]
  simp only [prob_lift hQ hK, hD, hA, ← EReal.coe_mul, sum_lift, ← EReal.coe_add]

theorem dk_lift {S : Vec Ideal S512x256 .bf16} {s : Fin 512 → Fin 256 → ℝ} (hS : ∀ r l, S (ix2 r l) = ((s r l : ℝ) : EReal))
    (hQ : ∀ r l, Q (ix2 r l) = ((q r l : ℝ) : EReal)) (hA : ∀ r l, A (ix2 r l) = ((a r l : ℝ) : EReal)) (m l : Fin 256) :
    k0_pay1 (F := Ideal) Q S A (ix2 m l) = ((a m l + ∑ r, s r m * q r l : ℝ) : EReal) := by
  have h : k0_pay1 (F := Ideal) Q S A (ix2 m l)
      = (A (ix2 m l) + ∑ r : Fin 512, (S (ix2 r m) * Q (ix2 r l) : EReal) : EReal) := by
    pointwise [k0_pay1]
  rw [h]
  simp only [hS, hQ, hA, ← EReal.coe_mul, sum_lift, ← EReal.coe_add]

end Cert.AttnLift

end
-- ==== Proof.AttnArray.lean ====
/-
  The attention gradient's arrays on finite inputs. A grid point holds 512 rows of q and of the incoming gradient, and all of k
  and v; it writes its own block of dq, and adds its rows' share to dk and dv, which the first point starts at zero and the last
  one writes back.
-/
module

public import proofs.«01_k».proof.Proof.AttnLift

@[expose] public section

set_option maxRecDepth 16384

noncomputable section

namespace Cert.AttnArray

open Cert.AttnIdeal Cert.AttnIdeal.Gen Cert.AttnIdeal.Value Cert.AttnBlock Cert.AttnLift Cert.AttnMath
open Idealize.ShloMosaic Idealize.ShloMosaic.TcCoe Idealize.SL.Sem

variable (m : (ℓ : Loc nD τ sig) → Buf (Elt Ideal) ℓ) (c : Dev nD)

theorem idx_rows : ∀ t : Fin cfg0.N, win0_0.index t 0 = t.val ∧ win0_0.index t 1 = 0 :=
  (by decide +kernel : ∀ t : Fin grid0.N, win0_0.index t 0 = t.val ∧ win0_0.index t 1 = 0)

theorem idx_whole : ∀ t : Fin cfg0.N, win0_1.index t 0 = 0 ∧ win0_1.index t 1 = 0 :=
  (by decide +kernel : ∀ t : Fin grid0.N, win0_1.index t 0 = 0 ∧ win0_1.index t 1 = 0)

theorem N_eq : cfg0.N = 16 := by decide

/-- Row `r` of point `t`'s block of q is row `512 t + r` of q. -/
theorem iblk_0 (t : Fin cfg0.N) (r : Fin 512) (j : Fin 1024) :
    (iblk m c 0 t : Vec Ideal S512x1024 .bf16) (ix2 r j)
      = (m ((c.tc : Thread nD τ).loc main_arg0) : Vec Ideal S8192x1024 .bf16)
          (ix2 ⟨512 * t.val + r.val, by have := t.isLt; have := N_eq; omega⟩ j) := by
  have hi := idx_rows t
  unfold iblk
  rw [View.read_apply]
  show V m c main_arg0 _ = m (c.tc.loc main_arg0) _
  unfold V
  congr 1
  funext a
  apply Fin.ext
  match a with
  | ⟨0, _⟩ => show win0_0.index t 0 * 512 + 1 * r.val = 512 * t.val + r.val; rw [hi.1]; omega
  | ⟨1, _⟩ => show win0_0.index t 1 * 1024 + 1 * j.val = j.val; rw [hi.2]; omega

/-- Row `r` of point `t`'s block of the incoming gradient is its row `512 t + r`. -/
theorem iblk_3 (t : Fin cfg0.N) (r : Fin 512) (j : Fin 1024) :
    (iblk m c 3 t : Vec Ideal S512x1024 .bf16) (ix2 r j)
      = (m ((c.tc : Thread nD τ).loc main_arg3) : Vec Ideal S8192x1024 .bf16)
          (ix2 ⟨512 * t.val + r.val, by have := t.isLt; have := N_eq; omega⟩ j) := by
  have hi := idx_rows t
  unfold iblk
  rw [View.read_apply]
  show V m c main_arg3 _ = m (c.tc.loc main_arg3) _
  unfold V
  congr 1
  funext a
  apply Fin.ext
  match a with
  | ⟨0, _⟩ => show win0_0.index t 0 * 512 + 1 * r.val = 512 * t.val + r.val; rw [hi.1]; omega
  | ⟨1, _⟩ => show win0_0.index t 1 * 1024 + 1 * j.val = j.val; rw [hi.2]; omega

/-- Every point's block of k is all of k. -/
theorem iblk_1 (t : Fin cfg0.N) (r : Fin 256) (j : Fin 1024) :
    (iblk m c 1 t : Vec Ideal S256x1024 .bf16) (ix2 r j)
      = (m ((c.tc : Thread nD τ).loc main_arg1) : Vec Ideal S256x1024 .bf16) (ix2 r j) := by
  have hi := idx_whole t
  unfold iblk
  rw [View.read_apply]
  show V m c main_arg1 _ = m (c.tc.loc main_arg1) _
  unfold V
  congr 1
  funext a
  apply Fin.ext
  match a with
  | ⟨0, _⟩ => show win0_1.index t 0 * 256 + 1 * r.val = r.val; rw [hi.1]; omega
  | ⟨1, _⟩ => show win0_1.index t 1 * 1024 + 1 * j.val = j.val; rw [hi.2]; omega

/-- Every point's block of v is all of v. -/
theorem iblk_2 (t : Fin cfg0.N) (r : Fin 256) (j : Fin 1024) :
    (iblk m c 2 t : Vec Ideal S256x1024 .bf16) (ix2 r j)
      = (m ((c.tc : Thread nD τ).loc main_arg2) : Vec Ideal S256x1024 .bf16) (ix2 r j) := by
  have hi := idx_whole t
  unfold iblk
  rw [View.read_apply]
  show V m c main_arg2 _ = m (c.tc.loc main_arg2) _
  unfold V
  congr 1
  funext a
  apply Fin.ext
  match a with
  | ⟨0, _⟩ => show win0_1.index t 0 * 256 + 1 * r.val = r.val; rw [hi.1]; omega
  | ⟨1, _⟩ => show win0_1.index t 1 * 1024 + 1 * j.val = j.val; rw [hi.2]; omega

/-- The four arguments hold reals. -/
structure Holds (q g : ℕ → Fin 1024 → ℝ) (k v : Fin 256 → Fin 1024 → ℝ) : Prop where
  q : ∀ (i : Fin 8192) j, (m ((c.tc : Thread nD τ).loc main_arg0) : Vec Ideal S8192x1024 .bf16) (ix2 i j) = ((q i.val j : ℝ) : EReal)
  k : ∀ i j, (m ((c.tc : Thread nD τ).loc main_arg1) : Vec Ideal S256x1024 .bf16) (ix2 i j) = ((k i j : ℝ) : EReal)
  v : ∀ i j, (m ((c.tc : Thread nD τ).loc main_arg2) : Vec Ideal S256x1024 .bf16) (ix2 i j) = ((v i j : ℝ) : EReal)
  g : ∀ (i : Fin 8192) j, (m ((c.tc : Thread nD τ).loc main_arg3) : Vec Ideal S8192x1024 .bf16) (ix2 i j) = ((g i.val j : ℝ) : EReal)

variable {m c} {q g : ℕ → Fin 1024 → ℝ} {k v : Fin 256 → Fin 1024 → ℝ} (H : Holds m c q g k v)
include H

theorem cut_q (t : Fin cfg0.N) (h : Fin 4) (r : Fin 512) (l : Fin 256) :
    cutR (e := .bf16) (iblk m c 0 t) h (ix2 r l) = ((head (q (512 * t.val + r.val)) h l : ℝ) : EReal) := by
  rw [cutR_apply, iblk_0]; exact H.q _ _

theorem cut_g (t : Fin cfg0.N) (h : Fin 4) (r : Fin 512) (l : Fin 256) :
    cutR (e := .bf16) (iblk m c 3 t) h (ix2 r l) = ((head (g (512 * t.val + r.val)) h l : ℝ) : EReal) := by
  rw [cutR_apply, iblk_3]; exact H.g _ _

theorem cut_k (t : Fin cfg0.N) (h : Fin 4) (r : Fin 256) (l : Fin 256) :
    cutM (e := .bf16) (iblk m c 1 t) h (ix2 r l) = ((headT k h r l : ℝ) : EReal) := by
  rw [cutM_apply, iblk_1]; exact H.k _ _

theorem cut_v (t : Fin cfg0.N) (h : Fin 4) (r : Fin 256) (l : Fin 256) :
    cutM (e := .bf16) (iblk m c 2 t) h (ix2 r l) = ((headT v h r l : ℝ) : EReal) := by
  rw [cutM_apply, iblk_2]; exact H.v _ _

/-- A head's block of dq at point `t`. -/
theorem headDQ_eq (t : Fin cfg0.N) (h : Fin 4) (r : Fin 512) (l : Fin 256) :
    headDQ (iblk m c 0 t) (iblk m c 1 t) (iblk m c 2 t) (iblk m c 3 t) h (ix2 r l)
      = ((gradQ q g k v (512 * t.val + r.val) h l : ℝ) : EReal) :=
  dq_lift (q := fun r => head (q (512 * t.val + r.val)) h) (d := fun r => head (g (512 * t.val + r.val)) h)
    (cut_q H t h) (cut_k H t h) (cut_v H t h) (cut_g H t h) r l

/-- A head's sum for dk after point `t`, from the sum before it. -/
theorem headDK_eq (t : Fin cfg0.N) (acc : Vec Ideal S256x1024 .f32)
    (hacc : ∀ h i l, acc (ix2 i (lane h l)) = ((gradK q g k v (512 * t.val) i h l : ℝ) : EReal)) (h : Fin 4) (i l : Fin 256) :
    headDK (iblk m c 0 t) (iblk m c 1 t) (iblk m c 2 t) (iblk m c 3 t) h acc (ix2 i l)
      = ((gradK q g k v (512 * (t.val + 1)) i h l : ℝ) : EReal) := by
  rw [← gradK_step]
  exact dk_lift (s := fun r m => rowDS q g k v (512 * t.val + r.val) h m) (q := fun r => head (q (512 * t.val + r.val)) h)
    (a := fun i l => gradK q g k v (512 * t.val) i h l)
    (fun r m => dscore_lift (q := fun r => head (q (512 * t.val + r.val)) h) (d := fun r => head (g (512 * t.val + r.val)) h)
      (cut_q H t h) (cut_k H t h) (cut_v H t h) (cut_g H t h) r m)
    (cut_q H t h) (fun i l => (cutM_apply acc h i l).trans (hacc h i l)) i l

/-- A head's sum for dv after point `t`, from the sum before it. -/
theorem headDV_eq (t : Fin cfg0.N) (acc : Vec Ideal S256x1024 .f32)
    (hacc : ∀ h i l, acc (ix2 i (lane h l)) = ((gradV q g k (512 * t.val) i h l : ℝ) : EReal)) (h : Fin 4) (i l : Fin 256) :
    headDV (iblk m c 0 t) (iblk m c 1 t) (iblk m c 3 t) h acc (ix2 i l)
      = ((gradV q g k (512 * (t.val + 1)) i h l : ℝ) : EReal) := by
  rw [← gradV_step]
  exact dv_lift (q := fun r => head (q (512 * t.val + r.val)) h) (d := fun r => head (g (512 * t.val + r.val)) h)
    (a := fun i l => gradV q g k (512 * t.val) i h l)
    (cut_q H t h) (cut_k H t h) (cut_g H t h) (fun i l => (cutM_apply acc h i l).trans (hacc h i l)) i l

omit H in
theorem zeroBlock_apply (i : Fin 256) (j : Fin 1024) : zeroBlock (ix2 i j) = ((0 : ℝ) : EReal) := by
  unfold zeroBlock
  pointwise [k0_pay2]
  exact EReal.coe_zero.symm

/-- What a point leaves: its rows of dq, and the sums for dk and dv over the rows so far. -/
theorem outs (n : ℕ) (hn : n < cfg0.N) :
    (∀ h r l, (outsAt0 m c n hn).1 (ix2 r (lane h l)) = ((gradQ q g k v (512 * n + r.val) h l : ℝ) : EReal))
    ∧ (∀ h i l, (outsAt0 m c n hn).2.1 (ix2 i (lane h l)) = ((gradK q g k v (512 * (n + 1)) i h l : ℝ) : EReal))
    ∧ (∀ h i l, (outsAt0 m c n hn).2.2 (ix2 i (lane h l)) = ((gradV q g k (512 * (n + 1)) i h l : ℝ) : EReal)) := by
  induction n with
  | zero =>
    rw [outsAt0_A m c ⟨0, hn⟩ rfl, out_A_4, out_A_5, out_A_6]
    dsimp only
    refine ⟨fun h r l => (joinR_apply _ h r l).trans (headDQ_eq H ⟨0, hn⟩ h r l),
      fun h i l => (joinM_apply _ h i l).trans (headDK_eq H ⟨0, hn⟩ _ (fun h i l => ?_) h i l),
      fun h i l => (joinM_apply _ h i l).trans (headDV_eq H ⟨0, hn⟩ _ (fun h i l => ?_) h i l)⟩
    · rw [zeroBlock_apply]; simp [gradK]
    · rw [zeroBlock_apply]; simp [gradV]
  | succ n ih =>
    have hp := ih (Nat.lt_of_succ_lt hn)
    have hne : ¬ (n + 1) % 16 = 0 := by have := N_eq; omega
    rw [outsAt0_B m c ⟨n + 1, hn⟩ hne, out_B_4, out_B_5, out_B_6]
    dsimp only
    exact ⟨fun h r l => (joinR_apply _ h r l).trans (headDQ_eq H ⟨n + 1, hn⟩ h r l),
      fun h i l => (joinM_apply _ h i l).trans (headDK_eq H ⟨n + 1, hn⟩ _ hp.2.1 h i l),
      fun h i l => (joinM_apply _ h i l).trans (headDV_eq H ⟨n + 1, hn⟩ _ hp.2.2 h i l)⟩

omit H in
theorem lane_split (j : Fin 1024) : lane ⟨j.val / 256, Nat.div_lt_of_lt_mul j.isLt⟩ ⟨j.val % 256, Nat.mod_lt _ (by decide)⟩ = j :=
  Fin.ext (Nat.div_add_mod j.val 256)

/-- The whole gradient of q. -/
def wholeQ (q g : ℕ → Fin 1024 → ℝ) (k v : Fin 256 → Fin 1024 → ℝ) : Vec Ideal S8192x1024 .bf16 := fun y =>
  ((byHead (gradQ q g k v (y 0).val) (y 1) : ℝ) : EReal)

/-- The whole gradient of k. -/
def wholeK (q g : ℕ → Fin 1024 → ℝ) (k v : Fin 256 → Fin 1024 → ℝ) : Vec Ideal S256x1024 .f32 := fun y =>
  ((byHead (gradK q g k v 8192 (y 0)) (y 1) : ℝ) : EReal)

/-- The whole gradient of v. -/
def wholeV (q g : ℕ → Fin 1024 → ℝ) (k : Fin 256 → Fin 1024 → ℝ) : Vec Ideal S256x1024 .f32 := fun y =>
  ((byHead (gradV q g k 8192 (y 0)) (y 1) : ℝ) : EReal)

omit H in
theorem idx_4 : ∀ t : Fin cfg0.N, win0_4.index t 0 = t.val ∧ win0_4.index t 1 = 0 :=
  (by decide +kernel : ∀ t : Fin grid0.N, win0_4.index t 0 = t.val ∧ win0_4.index t 1 = 0)

omit H in
theorem idx_5 : ∀ t : Fin cfg0.N, win0_5.index t 0 = 0 ∧ win0_5.index t 1 = 0 :=
  (by decide +kernel : ∀ t : Fin grid0.N, win0_5.index t 0 = 0 ∧ win0_5.index t 1 = 0)

omit H in
theorem idx_6 : ∀ t : Fin cfg0.N, win0_6.index t 0 = 0 ∧ win0_6.index t 1 = 0 :=
  (by decide +kernel : ∀ t : Fin grid0.N, win0_6.index t 0 = 0 ∧ win0_6.index t 1 = 0)

omit H in
/-- Where an element of point `t`'s block of dq lies in dq. -/
theorem emb_4 (t : Fin cfg0.N) (r : Fin 512) (j : Fin 1024) :
    (((cfg0.win 4).blk t).view.emb (ix2 r j) : S8192x1024.Idx)
      = ix2 ⟨512 * t.val + r.val, by have := t.isLt; have := N_eq; omega⟩ j := by
  have hi := idx_4 t
  funext a
  apply Fin.ext
  match a with
  | ⟨0, _⟩ => show win0_4.index t 0 * 512 + 1 * r.val = 512 * t.val + r.val; rw [hi.1]; omega
  | ⟨1, _⟩ => show win0_4.index t 1 * 1024 + 1 * j.val = j.val; rw [hi.2]; omega

omit H in
theorem emb_5 (t : Fin cfg0.N) (r : Fin 256) (j : Fin 1024) :
    (((cfg0.win 5).blk t).view.emb (ix2 r j) : S256x1024.Idx) = ix2 r j := by
  have hi := idx_5 t
  funext a
  apply Fin.ext
  match a with
  | ⟨0, _⟩ => show win0_5.index t 0 * 256 + 1 * r.val = r.val; rw [hi.1]; omega
  | ⟨1, _⟩ => show win0_5.index t 1 * 1024 + 1 * j.val = j.val; rw [hi.2]; omega

omit H in
theorem emb_6 (t : Fin cfg0.N) (r : Fin 256) (j : Fin 1024) :
    (((cfg0.win 6).blk t).view.emb (ix2 r j) : S256x1024.Idx) = ix2 r j := by
  have hi := idx_6 t
  funext a
  apply Fin.ext
  match a with
  | ⟨0, _⟩ => show win0_6.index t 0 * 256 + 1 * r.val = r.val; rw [hi.1]; omega
  | ⟨1, _⟩ => show win0_6.index t 1 * 1024 + 1 * j.val = j.val; rw [hi.2]; omega

/-- The array of dq after the run. -/
theorem final_q : (dats m 0 c).arrAt 4 cfg0.N = wholeQ q g k v := by
  refine (dats m 0 c).arrAt_eq_of_cover 4 _ (fun t _ => ?_) (fun i => ?_)
  · rw [flushed4]
    funext y
    obtain ⟨r, j, rfl⟩ : ∃ (r : Fin 512) (j : Fin 1024), y = (ix2 r j : S512x1024.Idx) := ⟨y 0, y 1, eq_ix2 y⟩
    rw [View.read_apply]
    have h := (outs H t.val t.isLt).1 ⟨j.val / 256, Nat.div_lt_of_lt_mul j.isLt⟩ r ⟨j.val % 256, Nat.mod_lt _ (by decide)⟩
    rw [lane_split] at h
    exact h.trans (congrArg (wholeQ q g k v) (emb_4 t r j)).symm
  · obtain ⟨a, b, rfl⟩ : ∃ (a : Fin 8192) (b : Fin 1024), i = (ix2 a b : S8192x1024.Idx) := ⟨i 0, i 1, eq_ix2 i⟩
    have ht : a.val / 512 < cfg0.N := by have := N_eq; omega
    refine ⟨⟨a.val / 512, ht⟩, flush0_4 _, ?_⟩
    have he : (ix2 a b : S8192x1024.Idx) = ((cfg0.win 4).blk ⟨a.val / 512, ht⟩).view.emb (ix2 ⟨a.val % 512, Nat.mod_lt _ (by decide)⟩ b) := by
      rw [emb_4]
      exact congrArg (fun x => ix2 x b) (Fin.ext (Nat.div_add_mod a.val 512).symm)
    rw [he]
    exact View.emb_mem_set _ _

/-- The array of dk after the run. -/
theorem final_k : (dats m 0 c).arrAt 5 cfg0.N = wholeK q g k v := by
  refine (dats m 0 c).arrAt_eq_of_cover 5 _ (fun t hf => ?_) (fun i => ?_)
  · have ht : t.val = 15 := by have := (flush0_5 t).mp hf; have := t.isLt; have := N_eq; omega
    rw [flushed5]
    funext y
    obtain ⟨r, j, rfl⟩ : ∃ (r : Fin 256) (j : Fin 1024), y = (ix2 r j : S256x1024.Idx) := ⟨y 0, y 1, eq_ix2 y⟩
    rw [View.read_apply]
    have h := (outs H t.val t.isLt).2.1 ⟨j.val / 256, Nat.div_lt_of_lt_mul j.isLt⟩ r ⟨j.val % 256, Nat.mod_lt _ (by decide)⟩
    rw [lane_split, show 512 * (t.val + 1) = 8192 by omega] at h
    exact h.trans (congrArg (wholeK q g k v) (emb_5 t r j)).symm
  · obtain ⟨a, b, rfl⟩ : ∃ (a : Fin 256) (b : Fin 1024), i = (ix2 a b : S256x1024.Idx) := ⟨i 0, i 1, eq_ix2 i⟩
    have ht : 15 < cfg0.N := by have := N_eq; omega
    exact ⟨⟨15, ht⟩, (flush0_5 _).mpr rfl, Eq.subst (motive := fun x : S256x1024.Idx => x ∈ ((cfg0.win 5).blk ⟨15, ht⟩).view.set)
      (emb_5 ⟨15, ht⟩ a b) (View.emb_mem_set _ _)⟩

/-- The array of dv after the run. -/
theorem final_v : (dats m 0 c).arrAt 6 cfg0.N = wholeV q g k := by
  refine (dats m 0 c).arrAt_eq_of_cover 6 _ (fun t hf => ?_) (fun i => ?_)
  · have ht : t.val = 15 := by have := (flush0_6 t).mp hf; have := t.isLt; have := N_eq; omega
    rw [flushed6]
    funext y
    obtain ⟨r, j, rfl⟩ : ∃ (r : Fin 256) (j : Fin 1024), y = (ix2 r j : S256x1024.Idx) := ⟨y 0, y 1, eq_ix2 y⟩
    rw [View.read_apply]
    have h := (outs H t.val t.isLt).2.2 ⟨j.val / 256, Nat.div_lt_of_lt_mul j.isLt⟩ r ⟨j.val % 256, Nat.mod_lt _ (by decide)⟩
    rw [lane_split, show 512 * (t.val + 1) = 8192 by omega] at h
    exact h.trans (congrArg (wholeV q g k) (emb_6 t r j)).symm
  · obtain ⟨a, b, rfl⟩ : ∃ (a : Fin 256) (b : Fin 1024), i = (ix2 a b : S256x1024.Idx) := ⟨i 0, i 1, eq_ix2 i⟩
    have ht : 15 < cfg0.N := by have := N_eq; omega
    exact ⟨⟨15, ht⟩, (flush0_6 _).mpr rfl, Eq.subst (motive := fun x : S256x1024.Idx => x ∈ ((cfg0.win 6).blk ⟨15, ht⟩).view.set)
      (emb_6 ⟨15, ht⟩ a b) (View.emb_mem_set _ _)⟩

end Cert.AttnArray

end
-- ==== Proof.AttnFinite.lean ====
/-
  What the precondition says at the ideal instance: every entry of the four arguments is a real number.
-/
module

public import proofs.«01_k».proof.Proof.AttnArray
public import proofs.«01_k».proof.Defs
public import proofs.«01_k».proof.Proof.Gen.Pre_attn_finite

@[expose] public section

set_option maxRecDepth 16384

noncomputable section

namespace Cert.AttnFinite

open Cert.AttnMath Idealize.ShloMosaic Idealize.ShloMosaic.TcCoe Idealize.SL.Sem

theorem word_top : ∃ b : ℝ, Ideal.ofBits FTy.f32 0x7F7FFFFF#32 = (b : EReal) := by
  simp [Ideal.ofBits, Ideal.ieee]
  exact ⟨_, (EReal.coe_mul _ _).symm⟩

/-- An extended real that is at most the largest float in size is a real. -/
theorem real_of_le {x : EReal} (h : Ideal.cmp .ole (max x (-x)) (Ideal.ofBits FTy.f32 0x7F7FFFFF#32) = 1#1) :
    x = ((x.toReal : ℝ) : EReal) := by
  obtain ⟨b, hb⟩ := word_top
  rw [hb] at h
  have hle : max x (-x) ≤ (b : EReal) := by
    by_contra hn
    simp [Ideal.cmp, hn] at h
  refine (EReal.coe_toReal ?_ ?_).symm
  · rintro rfl
    simp at hle
  · rintro rfl
    simp at hle

theorem finite_tall (x : Vec Ideal ⟨2, ![8192, 1024]⟩ .bf16) (i : Fin 8192) (j : Fin 1024) (hb : FTy.bits .bf16 < FTy.bits .f32)
    (hc : (⟨0, ![]⟩ : Shape).BroadcastsInDim ⟨2, ![8192, 1024]⟩ ![])
    (h : cmpf .ole (Host.absf (extf .f32 (x : FVec Ideal _ .bf16) hb)) (broadcastInDim _ ![] hc (constant (F := Ideal) ⟨0, ![]⟩ .f32 0x7F7FFFFF#32))
      = fun _ => 1#1) : x (ix2 i j) = (((x (ix2 i j) : EReal).toReal : ℝ) : EReal) := by
  refine real_of_le ?_
  rw [← congrFun h (ix2 i j)]
  pointwise
  rfl

theorem finite_small (x : Vec Ideal ⟨2, ![256, 1024]⟩ .bf16) (i : Fin 256) (j : Fin 1024) (hb : FTy.bits .bf16 < FTy.bits .f32)
    (hc : (⟨0, ![]⟩ : Shape).BroadcastsInDim ⟨2, ![256, 1024]⟩ ![])
    (h : cmpf .ole (Host.absf (extf .f32 (x : FVec Ideal _ .bf16) hb)) (broadcastInDim _ ![] hc (constant (F := Ideal) ⟨0, ![]⟩ .f32 0x7F7FFFFF#32))
      = fun _ => 1#1) : x (ix2 i j) = (((x (ix2 i j) : EReal).toReal : ℝ) : EReal) := by
  refine real_of_le ?_
  rw [← congrFun h (ix2 i j)]
  pointwise
  rfl

/-- Under the precondition the four arguments hold reals: each entry is its own real part. -/
theorem holds_of_pre (m : (ℓ : Loc AttnIdeal.nD AttnIdeal.τ AttnIdeal.sig) → Buf (Elt Ideal) ℓ) (h : Pre_AttnIdeal_attn_finite m)
    (c : Dev AttnIdeal.nD) : ∃ (q g : ℕ → Fin 1024 → ℝ) (k v : Fin 256 → Fin 1024 → ℝ), AttnArray.Holds m c q g k v := by
  obtain ⟨h0, h1, h2, h3⟩ := h c
  let x0 : Vec Ideal ⟨2, ![8192, 1024]⟩ .bf16 := m ((c.tc : Thread AttnIdeal.nD AttnIdeal.τ).loc AttnIdeal.main_arg0)
  let x1 : Vec Ideal ⟨2, ![256, 1024]⟩ .bf16 := m ((c.tc : Thread AttnIdeal.nD AttnIdeal.τ).loc AttnIdeal.main_arg1)
  let x2 : Vec Ideal ⟨2, ![256, 1024]⟩ .bf16 := m ((c.tc : Thread AttnIdeal.nD AttnIdeal.τ).loc AttnIdeal.main_arg2)
  let x3 : Vec Ideal ⟨2, ![8192, 1024]⟩ .bf16 := m ((c.tc : Thread AttnIdeal.nD AttnIdeal.τ).loc AttnIdeal.main_arg3)
  refine ⟨fun i j => if hi : i < 8192 then (x0 (ix2 ⟨i, hi⟩ j) : EReal).toReal else 0,
    fun i j => if hi : i < 8192 then (x3 (ix2 ⟨i, hi⟩ j) : EReal).toReal else 0,
    fun i j => (x1 (ix2 i j) : EReal).toReal, fun i j => (x2 (ix2 i j) : EReal).toReal, ⟨fun i j => ?_, fun i j => ?_, fun i j => ?_, fun i j => ?_⟩⟩
  · rw [dif_pos i.isLt]; exact finite_tall x0 i j _ _ h0
  · exact finite_small x1 i j _ _ h1
  · exact finite_small x2 i j _ _ h2
  · rw [dif_pos i.isLt]; exact finite_tall x3 i j _ _ h3

end Cert.AttnFinite

end
-- ==== Proof.AttnRefValue.lean ====
/-
  The reference's attention gradient on finite inputs: the array program, read one element at a time, is the real gradient of
  `Cert.AttnMath`. Its derivative of the softmax is a derivative of a quotient, where the kernel multiplies by probabilities.
-/
module

public import proofs.«01_k».proof.Proof.Gen.AttnRefIdeal.Read
public import proofs.«01_k».proof.Proof.AttnMath
public import Idealize.ShloMosaic.Lib.Pointwise
public import Idealize.ShloMosaic.Lib.KernelVsHost

@[expose] public section

set_option maxRecDepth 16384

noncomputable section

namespace Cert.AttnRefValue

open Cert.AttnRefIdeal Cert.AttnRefIdeal.Gen Cert.AttnRefIdeal.Read Cert.AttnMath
open Idealize.ShloMosaic Idealize.ShloMosaic.TcCoe Idealize.SL.Sem

/-- The largest element of a row. -/
theorem row_max (x : FVec Ideal S4x8192x256 .f32) (h : Fin 4) (s : Fin 8192) :
    Host.reduce FloatOps.maximumf x (constant (F := Ideal) S_ .f32 0xFF800000#32) reducesTo_S4x8192x256_S4x8192_d2 h_S_ (ix2 h s)
      = Finset.fold max (Ideal.ofBits FTy.f32 4286578688#32) (fun k => x (ix3 h s k)) Finset.univ := by
  rw [hostReduce_maximumf_eq_multiReduction x _ _ _ (by decide) (by decide) (by decide)]
  pointwise

/-- Minus infinity, everywhere, against an array: the larger of the two. -/
theorem floor_read (y : FVec Ideal S4x8192 .f32) (h : Fin 4) (s : Fin 8192) :
    maximumf (val_main_v15 (F := Ideal)) y (ix2 h s) = max (Ideal.ofBits FTy.f32 4286578688#32) (y (ix2 h s)) := by
  pointwise [val_main_v15, val_main_cst_2]

theorem lane_eq (h : Fin 4) (l : Fin 256) (p : h.val * 256 + l.val < 1024) : (⟨h.val * 256 + l.val, p⟩ : Fin 1024) = lane h l :=
  Fin.ext (by show h.val * 256 + l.val = 256 * h.val + l.val; omega)

variable {x0 x3 : Vec Ideal S8192x1024 .bf16} {x1 x2 : Vec Ideal S256x1024 .bf16}
  {q g : ℕ → Fin 1024 → ℝ} {k v : Fin 256 → Fin 1024 → ℝ}
  (hq : ∀ (i : Fin 8192) j, x0 (ix2 i j) = ((q i.val j : ℝ) : EReal)) (hk : ∀ i j, x1 (ix2 i j) = ((k i j : ℝ) : EReal))
  (hv : ∀ i j, x2 (ix2 i j) = ((v i j : ℝ) : EReal)) (hg : ∀ (i : Fin 8192) j, x3 (ix2 i j) = ((g i.val j : ℝ) : EReal))

section
include hq hk

theorem score_read (h : Fin 4) (s : Fin 8192) (i : Fin 256) :
    val_main_v8 (F := Ideal) x0 x1 (ix3 h s i) = ((score (head (q s) h) (headT k h) i : ℝ) : EReal) := by
  pointwise [val_main_v8, val_main_v6, val_main_v7, val_main_cst, val_main_v3, val_main_v4, val_main_v0, val_main_v1]
  simp only [hq, hk, lane_eq, word_sixteenth, ← EReal.coe_mul, sum_lift]
  rfl

theorem fold_read (h : Fin 4) (s : Fin 8192) :
    val_main_v9 (F := Ideal) x0 x1 (ix2 h s) = ((largest (n := 255) (score (head (q s) h) (headT k h)) : ℝ) : EReal) := by
  refine (row_max (val_main_v8 (F := Ideal) x0 x1) h s).trans ?_
  simp only [score_read hq hk, word_bot]
  exact fold_max_lift (n := 255) _

theorem top_read (h : Fin 4) (s : Fin 8192) :
    val_main_v16 (F := Ideal) x0 x1 (ix2 h s) = ((largest (n := 255) (score (head (q s) h) (headT k h)) : ℝ) : EReal) := by
  refine (floor_read (val_main_v9 (F := Ideal) x0 x1) h s).trans ?_
  rw [fold_read hq hk, word_bot]
  exact max_eq_right bot_le

theorem raised_read (h : Fin 4) (s : Fin 8192) (i : Fin 256) :
    val_main_v29 (F := Ideal) x0 x1 (ix3 h s i) = ((raised (head (q s) h) (headT k h) i : ℝ) : EReal) := by
  pointwise [val_main_v29, val_main_v28, val_main_v27, val_main_v26]
  rw [score_read hq hk, top_read hq hk, ← EReal.coe_sub, Ideal.exp_coe]
  rfl

theorem total_read (h : Fin 4) (s : Fin 8192) :
    val_main_v31 (F := Ideal) x0 x1 (ix3 h s 0) = ((total (head (q s) h) (headT k h) : ℝ) : EReal) := by
  pointwise [val_main_v31, val_main_v30, val_main_cst_8]
  simp only [raised_read hq hk, sum_lift]
  rfl

theorem prob_read (h : Fin 4) (s : Fin 8192) (i : Fin 256) :
    val_main_v33 (F := Ideal) x0 x1 (ix3 h s i) = ((rowP q k s h i : ℝ) : EReal) := by
  pointwise [val_main_v33, val_main_v32]
  rw [raised_read hq hk, total_read hq hk, div_lift _ (total_ne _ _)]
  rfl

theorem square_read (h : Fin 4) (s : Fin 8192) :
    val_main_v36 (F := Ideal) x0 x1 (ix3 h s 0)
      = ((1 / (total (head (q s) h) (headT k h) * total (head (q s) h) (headT k h)) : ℝ) : EReal) := by
  have hz := total_ne (head (q s) h) (headT k h)
  pointwise [val_main_v36, val_main_v35, val_main_v34, val_main_cst_9]
  rw [total_read hq hk, ← EReal.coe_mul]
  exact div_lift 1 (mul_ne_zero hz hz)

end

section
include hv hg

theorem dprob_read (h : Fin 4) (s : Fin 8192) (i : Fin 256) :
    val_main_v43 (F := Ideal) x2 x3 (ix3 h s i) = ((dprob (headT v h) (head (g s) h) i : ℝ) : EReal) := by
  pointwise [val_main_v43, val_main_v42, val_main_v41, val_main_v40, val_main_v5, val_main_v2]
  simp only [hv, hg, lane_eq, ← EReal.coe_mul, sum_lift]
  rfl

end

section
include hq hk hv hg

theorem dscore_read (h : Fin 4) (s : Fin 8192) (i : Fin 256) :
    val_main_v59 (F := Ideal) x0 x1 x2 x3 (ix3 h s i) = ((rowDS q g k v s h i : ℝ) : EReal) := by
  pointwise [val_main_v59, val_main_v58, val_main_cst_12, val_main_v57, val_main_v56, val_main_v55, val_main_v54, val_main_cst_11,
    val_main_v53, val_main_v52, val_main_v51, val_main_v50, val_main_v49, val_main_cst_10, val_main_v48, val_main_v47, val_main_v46]
  simp only [raised_read hq hk, total_read hq hk, square_read hq hk, dprob_read hv hg, div_lift _ (total_ne _ _), word_sixteenth,
    ← EReal.coe_mul, sum_lift, ← EReal.coe_neg, ← EReal.coe_add, Fin.sum_univ_one]
  exact congrArg _ (dscore_quotient _ _ _ _ _)

theorem dq_read (h : Fin 4) (s : Fin 8192) (l : Fin 256) :
    val_main_v67 (F := Ideal) x0 x1 x2 x3 (ix2 s (lane h l)) = ((gradQ q g k v s h l : ℝ) : EReal) := by
  unfold lane
  pointwise [val_main_v67, val_main_v66, val_main_v63, val_main_v62, val_main_v4, val_main_v1]
  simp only [dscore_read hq hk hv hg, hk, lane_eq, ← EReal.coe_mul, sum_lift]
  rfl

theorem dk_read (h : Fin 4) (i l : Fin 256) :
    val_main_v65 (F := Ideal) x0 x1 x2 x3 (ix2 i (lane h l)) = ((gradK q g k v 8192 i h l : ℝ) : EReal) := by
  unfold lane
  pointwise [val_main_v65, val_main_v61, val_main_v60, val_main_v3, val_main_v0]
  simp only [dscore_read hq hk hv hg, hq, lane_eq, ← EReal.coe_mul, sum_lift]
  unfold gradK
  rw [Finset.sum_range]

end

section
include hq hk hg

theorem dv_read (h : Fin 4) (i l : Fin 256) :
    val_main_v64 (F := Ideal) x0 x1 x3 (ix2 i (lane h l)) = ((gradV q g k 8192 i h l : ℝ) : EReal) := by
  unfold lane
  pointwise [val_main_v64, val_main_v45, val_main_v44, val_main_v42, val_main_v41, val_main_v40]
  simp only [prob_read hq hk, hg, lane_eq, ← EReal.coe_mul, sum_lift]
  unfold gradV
  rw [Finset.sum_range]
  exact congrArg _ (Finset.sum_congr rfl fun _ _ => mul_comm _ _)

end

end Cert.AttnRefValue

end
-- ==== Proof.AttnEq.lean ====
/-
  The reference's three results are the whole arrays the kernel leaves: both are the real gradients, element by element.
-/
module

public import proofs.«01_k».proof.Proof.AttnArray
public import proofs.«01_k».proof.Proof.AttnRefValue

@[expose] public section

set_option maxRecDepth 16384

noncomputable section

namespace Cert.AttnEq

open Cert.AttnRefIdeal.Read Cert.AttnMath Cert.AttnArray Cert.AttnRefValue
open Idealize.ShloMosaic Idealize.ShloMosaic.TcCoe Idealize.SL.Sem

variable {x0 x3 : Vec Ideal ⟨2, ![8192, 1024]⟩ .bf16} {x1 x2 : Vec Ideal ⟨2, ![256, 1024]⟩ .bf16}
  {q g : ℕ → Fin 1024 → ℝ} {k v : Fin 256 → Fin 1024 → ℝ}
  (hq : ∀ (i : Fin 8192) j, x0 (ix2 i j) = ((q i.val j : ℝ) : EReal)) (hk : ∀ i j, x1 (ix2 i j) = ((k i j : ℝ) : EReal))
  (hv : ∀ i j, x2 (ix2 i j) = ((v i j : ℝ) : EReal)) (hg : ∀ (i : Fin 8192) j, x3 (ix2 i j) = ((g i.val j : ℝ) : EReal))

include hq hk hv hg in
theorem ref_q : val_main_v67 (F := Ideal) x0 x1 x2 x3 = wholeQ q g k v := by
  funext y
  obtain ⟨r, j, rfl⟩ : ∃ (r : Fin 8192) (j : Fin 1024), y = (ix2 r j : (⟨2, ![8192, 1024]⟩ : Shape).Idx) := ⟨y 0, y 1, eq_ix2 y⟩
  have h := dq_read hq hk hv hg ⟨j.val / 256, Nat.div_lt_of_lt_mul j.isLt⟩ r ⟨j.val % 256, Nat.mod_lt _ (by decide)⟩
  rw [lane_split] at h
  exact h

include hq hk hv hg in
theorem ref_k : val_main_v65 (F := Ideal) x0 x1 x2 x3 = wholeK q g k v := by
  funext y
  obtain ⟨r, j, rfl⟩ : ∃ (r : Fin 256) (j : Fin 1024), y = (ix2 r j : (⟨2, ![256, 1024]⟩ : Shape).Idx) := ⟨y 0, y 1, eq_ix2 y⟩
  have h := dk_read hq hk hv hg ⟨j.val / 256, Nat.div_lt_of_lt_mul j.isLt⟩ r ⟨j.val % 256, Nat.mod_lt _ (by decide)⟩
  rw [lane_split] at h
  exact h

include hq hk hg in
theorem ref_v : val_main_v64 (F := Ideal) x0 x1 x3 = wholeV q g k := by
  funext y
  obtain ⟨r, j, rfl⟩ : ∃ (r : Fin 256) (j : Fin 1024), y = (ix2 r j : (⟨2, ![256, 1024]⟩ : Shape).Idx) := ⟨y 0, y 1, eq_ix2 y⟩
  have h := dv_read hq hk hg ⟨j.val / 256, Nat.div_lt_of_lt_mul j.isLt⟩ r ⟨j.val % 256, Nat.mod_lt _ (by decide)⟩
  rw [lane_split] at h
  exact h

end Cert.AttnEq

end
-- ==== Proof.AttnClaim.lean ====
/-
  The attention gradient's claims, each from one run of its program.
-/
module

public import proofs.«01_k».proof.Defs
public import proofs.«01_k».proof.Proof.AttnFinite
public import proofs.«01_k».proof.Proof.AttnEq
public import proofs.«01_k».proof.Proof.Gen.AttnRefIdeal.Run
public import proofs.«01_k».proof.Proof.Gen.Attn.Frame

@[expose] public section

set_option maxRecDepth 16384

noncomputable section

namespace Cert.AttnClaim

open Idealize.ShloMosaic Idealize.ShloMosaic.TcCoe Idealize.SL.Sem

theorem frame_kernel : Cert.quiescent_Attn := fun m ρ _ => Cert.Attn.Gen.frame m ρ

theorem frame_ideal : Cert.quiescent_AttnIdeal := fun m ρ _ => Cert.AttnIdeal.Gen.frame m ρ

theorem frame_ideal_pre : Cert.quiescent_AttnIdeal_pre_attn_finite := fun m ρ _ => Cert.AttnIdeal.Gen.frame m ρ

theorem frame_reference : Cert.quiescent_AttnRefIdeal := fun m ρ _ =>
  (θ_run Cert.AttnRefIdeal.defs _ _).mono (fun r h => ⟨fun c => (h c).2.2.2, sem_eq_zero_of_no_sems (by decide) r.2⟩)
    (Cert.AttnRefIdeal.Value.run m ρ)

theorem frame_reference_pre : Cert.quiescent_AttnRefIdeal_pre_attn_finite := fun m ρ _ => frame_reference m ρ trivial

theorem algebraic : Cert.algebraic_AttnIdeal_AttnRefIdeal_pre_attn_finite := by
  intro m g m' g' hpre hagree
  choose q d k v H using fun c => AttnFinite.holds_of_pre m hpre c
  refine ⟨fun c => AttnArray.wholeQ (q c) (d c) (k c) (v c), fun c => AttnArray.wholeK (q c) (d c) (k c) (v c),
    fun c => AttnArray.wholeV (q c) (d c) (k c), ?_, ?_⟩
  · refine (θ_run Cert.AttnIdeal.defs _ _).mono (fun r h c => ?_) (Cert.AttnIdeal.Value.run_blocks m g)
    obtain ⟨h4, h5, h6, h0, h1, h2, h3⟩ := h c
    exact ⟨h4.trans (AttnArray.final_q (H c)), h5.trans (AttnArray.final_k (H c)), h6.trans (AttnArray.final_v (H c)), h0, h1, h2, h3⟩
  · refine (θ_run Cert.AttnRefIdeal.defs _ _).mono (fun r h c => ?_) (Cert.AttnRefIdeal.Value.run m' g')
    obtain ⟨h4, h5, h6, h0, h1, h2, h3⟩ := h c
    obtain ⟨a0, a1, a2, a3⟩ := hagree c
    refine ⟨h4.trans ?_, h5.trans ?_, h6.trans ?_, h0, h1, h2, h3⟩
    · rw [Cert.AttnRefIdeal.Read.val_main_v67_eq, a0, a1, a2, a3]
      exact AttnEq.ref_q (H c).q (H c).k (H c).v (H c).g
    · rw [Cert.AttnRefIdeal.Read.val_main_v65_eq, a0, a1, a2, a3]
      exact AttnEq.ref_k (H c).q (H c).k (H c).v (H c).g
    · rw [Cert.AttnRefIdeal.Read.val_main_v64_eq, a0, a1, a3]
      exact AttnEq.ref_v (H c).q (H c).k (H c).g

end Cert.AttnClaim

end
-- ==== Proof.DownDxArray.lean ====
/-
  The gradient at the MLP's first product: the array the call leaves. A grid point holds 2048 tokens and 1024 hidden lanes; it
  multiplies the incoming gradient by the second weight and scales each element by twice the root of the saved activation.
-/
module

public import proofs.«01_k».proof.Proof.Gen.DownDxIdeal.Value
public import Idealize.ShloMosaic.Lib.Pointwise
public import Idealize.ShloMosaic.Lib.StableHlo.Run
public import Idealize.ShloMosaic.Lib.Tactic

@[expose] public section

set_option maxRecDepth 16384

noncomputable section

namespace Cert.DownDxArray

open Cert.DownDxIdeal Cert.DownDxIdeal.Gen Cert.DownDxIdeal.Value
open Idealize.ShloMosaic Idealize.ShloMosaic.TcCoe Idealize.SL.Sem

theorem hz : (![0, 0] : Fin 2 → Nat) = fun _ => 0 := funext fun a => by fin_cases a <;> rfl

/-- Twice the root of a saved activation: the squared ReLU's slope. -/
def slope (a : EReal) : EReal := Ideal.ofBits .f32 0x40000000#32 * Ideal.sqrt a

/-- What a point computes from its blocks. -/
theorem pay_apply (x0 : Vec Ideal S2048x1024 .bf16) (x1 : Vec Ideal S1024x1024 .bf16) (x2 : Vec Ideal S2048x1024 .bf16)
    (r : Fin 2048) (j : Fin 1024) :
    k0_pay1 x0 x1 x2 (ix2 r j) = (∑ k : Fin 1024, (x0 (ix2 r k) : EReal) * (x1 (ix2 j k) : EReal)) * slope (x2 (ix2 r j)) := by
  pointwise [k0_pay1]
  simp [slope, Ideal.ofBits, Ideal.ieee]

theorem out_eq (x0 : Vec Ideal S2048x1024 .bf16) (x1 : Vec Ideal S1024x1024 .bf16) (x2 : Vec Ideal S2048x1024 .bf16) :
    out0_3 x0 x1 x2 = k0_pay1 x0 x1 x2 := by
  unfold out0_3
  rw [View.canon_unit_zero hz]
  simp only [View.ld_unit_zero (S := S2048x1024) hz, View.ld_unit_zero (S := S1024x1024) hz]

/-! ### Where the blocks lie -/

theorem idx : ∀ t : Fin cfg0.N, (win0_0.index t 0 = t.val / 4 ∧ win0_0.index t 1 = 0)
    ∧ (win0_1.index t 0 = t.val % 4 ∧ win0_1.index t 1 = 0)
    ∧ (win0_2.index t 0 = t.val / 4 ∧ win0_2.index t 1 = t.val % 4) ∧ (win0_3.index t 0 = t.val / 4 ∧ win0_3.index t 1 = t.val % 4) :=
  (by decide +kernel : ∀ t : Fin grid0.N, (win0_0.index t 0 = t.val / 4 ∧ win0_0.index t 1 = 0)
    ∧ (win0_1.index t 0 = t.val % 4 ∧ win0_1.index t 1 = 0)
    ∧ (win0_2.index t 0 = t.val / 4 ∧ win0_2.index t 1 = t.val % 4) ∧ (win0_3.index t 0 = t.val / 4 ∧ win0_3.index t 1 = t.val % 4))

theorem N_eq : cfg0.N = 16 := by decide

variable (m : (ℓ : Loc nD τ sig) → Buf (Elt Ideal) ℓ) (c : Dev nD)

/-- The arrays the call reads: the incoming gradient, the second weight, the saved activation. -/
abbrev dx : Vec Ideal S8192x1024 .bf16 := V m c main_arg3
abbrev w2 : Vec Ideal S4096x1024 .bf16 := V m c main_arg2
abbrev act : Vec Ideal S8192x4096 .bf16 := V m c main_v5

/-- The token and the hidden lane of an element of point `t`'s blocks. -/
abbrev tok (t : Fin cfg0.N) (r : Fin 2048) : Fin 8192 := ⟨2048 * (t.val / 4) + r.val, by have := t.isLt; have := N_eq; omega⟩
abbrev hid (t : Fin cfg0.N) (j : Fin 1024) : Fin 4096 := ⟨1024 * (t.val % 4) + j.val, by omega⟩

theorem iblk_0 (t : Fin cfg0.N) (r : Fin 2048) (k : Fin 1024) :
    (iblk m c 0 t : Vec Ideal S2048x1024 .bf16) (ix2 r k) = dx m c (ix2 (tok t r) k) := by
  obtain ⟨⟨e0, e1⟩, -⟩ := idx t
  unfold iblk
  rw [View.read_apply]
  show V m c main_arg3 _ = V m c main_arg3 _
  congr 1
  funext a
  apply Fin.ext
  match a with
  | ⟨0, _⟩ => show win0_0.index t 0 * 2048 + 1 * r.val = 2048 * (t.val / 4) + r.val; rw [e0]; omega
  | ⟨1, _⟩ => show win0_0.index t 1 * 1024 + 1 * k.val = k.val; rw [e1]; omega

theorem iblk_1 (t : Fin cfg0.N) (j k : Fin 1024) :
    (iblk m c 1 t : Vec Ideal S1024x1024 .bf16) (ix2 j k) = w2 m c (ix2 (hid t j) k) := by
  obtain ⟨-, ⟨e0, e1⟩, -⟩ := idx t
  unfold iblk
  rw [View.read_apply]
  show V m c main_arg2 _ = V m c main_arg2 _
  congr 1
  funext a
  apply Fin.ext
  match a with
  | ⟨0, _⟩ => show win0_1.index t 0 * 1024 + 1 * j.val = 1024 * (t.val % 4) + j.val; rw [e0]; omega
  | ⟨1, _⟩ => show win0_1.index t 1 * 1024 + 1 * k.val = k.val; rw [e1]; omega

theorem iblk_2 (t : Fin cfg0.N) (r : Fin 2048) (j : Fin 1024) :
    (iblk m c 2 t : Vec Ideal S2048x1024 .bf16) (ix2 r j) = act m c (ix2 (tok t r) (hid t j)) := by
  obtain ⟨-, -, ⟨e0, e1⟩, -⟩ := idx t
  unfold iblk
  rw [View.read_apply]
  show V m c main_v5 _ = V m c main_v5 _
  congr 1
  funext a
  apply Fin.ext
  match a with
  | ⟨0, _⟩ => show win0_2.index t 0 * 2048 + 1 * r.val = 2048 * (t.val / 4) + r.val; rw [e0]; omega
  | ⟨1, _⟩ => show win0_2.index t 1 * 1024 + 1 * j.val = 1024 * (t.val % 4) + j.val; rw [e1]; omega

theorem emb (t : Fin cfg0.N) (r : Fin 2048) (j : Fin 1024) :
    (((cfg0.win 3).blk t).view.emb (ix2 r j) : S8192x4096.Idx) = ix2 (tok t r) (hid t j) := by
  obtain ⟨-, -, -, ⟨e0, e1⟩⟩ := idx t
  funext a
  apply Fin.ext
  match a with
  | ⟨0, _⟩ => show win0_3.index t 0 * 2048 + 1 * r.val = 2048 * (t.val / 4) + r.val; rw [e0]; omega
  | ⟨1, _⟩ => show win0_3.index t 1 * 1024 + 1 * j.val = 1024 * (t.val % 4) + j.val; rw [e1]; omega

/-! ### The whole array -/

/-- The incoming gradient times the second weight, times the slope. -/
def whole : Vec Ideal S8192x4096 .bf16 := fun y =>
  (∑ k : Fin 1024, (dx m c (ix2 (y 0) k) : EReal) * (w2 m c (ix2 (y 1) k) : EReal)) * slope (act m c y)

theorem whole_apply (r : Fin 8192) (j : Fin 4096) :
    whole m c (ix2 r j) = (∑ k : Fin 1024, (dx m c (ix2 r k) : EReal) * (w2 m c (ix2 j k) : EReal)) * slope (act m c (ix2 r j)) := rfl

/-- The array after the run. -/
theorem final : (dats m 0 c).arrAt 3 cfg0.N = whole m c := by
  refine (dats m 0 c).arrAt_eq_of_cover 3 _ (fun t _ => ?_) (fun i => ?_)
  · rw [flushed3, out_eq]
    funext y
    obtain ⟨r, j, rfl⟩ : ∃ (r : Fin 2048) (j : Fin 1024), y = (ix2 r j : S2048x1024.Idx) := ⟨y 0, y 1, eq_ix2 y⟩
    rw [View.read_apply]
    refine (pay_apply (iblk m c 0 t) (iblk m c 1 t) (iblk m c 2 t) r j).trans (.trans ?_ (congrArg (whole m c) (emb t r j)).symm)
    simp only [iblk_0, iblk_1, iblk_2]
    rfl
  · obtain ⟨a, b, rfl⟩ : ∃ (a : Fin 8192) (b : Fin 4096), i = (ix2 a b : S8192x4096.Idx) := ⟨i 0, i 1, eq_ix2 i⟩
    have ht : 4 * (a.val / 2048) + b.val / 1024 < cfg0.N := by have := N_eq; omega
    refine ⟨⟨_, ht⟩, flush0_3 _, ?_⟩
    have he : (ix2 a b : S8192x4096.Idx) = ((cfg0.win 3).blk ⟨_, ht⟩).view.emb
        (ix2 ⟨a.val % 2048, Nat.mod_lt _ (by decide)⟩ ⟨b.val % 1024, Nat.mod_lt _ (by decide)⟩) := by
      rw [emb]
      refine congrArg₂ ix2 (Fin.ext ?_) (Fin.ext ?_)
      · show a.val = 2048 * ((4 * (a.val / 2048) + b.val / 1024) / 4) + a.val % 2048
        omega
      · show b.val = 1024 * ((4 * (a.val / 2048) + b.val / 1024) % 4) + b.val % 1024
        omega
    rw [he]
    exact View.emb_mem_set _ _

end Cert.DownDxArray

end
-- ==== Proof.DownDxClaim.lean ====
/-
  The gradient at the MLP's first product: the call's slope, twice the root of the saved activation, is the squared ReLU's
  derivative at the first product.
-/
module

public import proofs.«01_k».proof.Defs
public import proofs.«01_k».proof.Proof.DownDxArray
public import proofs.«01_k».proof.Proof.Gen.DownDxRefIdeal.Run
public import proofs.«01_k».proof.Proof.Gen.DownDxRefIdeal.Read
public import proofs.«01_k».proof.Proof.Gen.DownDx.Frame

@[expose] public section

set_option maxRecDepth 16384

noncomputable section

namespace Cert.DownDxClaim

open Idealize.ShloMosaic Idealize.ShloMosaic.TcCoe Idealize.SL.Sem

theorem frame_kernel : Cert.quiescent_DownDx := fun m ρ _ => Cert.DownDx.Gen.frame m ρ

theorem frame_ideal : Cert.quiescent_DownDxIdeal := fun m ρ _ => Cert.DownDxIdeal.Gen.frame m ρ

theorem frame_reference : Cert.quiescent_DownDxRefIdeal := fun m ρ _ =>
  (θ_run Cert.DownDxRefIdeal.defs _ _).mono (fun r h => ⟨fun c => (h c).2, sem_eq_zero_of_no_sems (by decide) r.2⟩)
    (Cert.DownDxRefIdeal.Value.run m ρ)

/-! ### The slope -/

/-- The root of a square of a number that is not negative, infinity included. -/
theorem root_square (x : EReal) (hx : 0 ≤ x) : Ideal.sqrt (x * x) = x := by
  induction x with
  | bot => exact absurd hx (by simp)
  | coe x =>
    have hx' : 0 ≤ x := by exact_mod_cast hx
    rw [← EReal.coe_mul, Ideal.sqrt_coe, Real.sqrt_mul_self hx']
    exact if_neg (not_lt.mpr (mul_nonneg hx' hx'))
  | top =>
    rw [EReal.top_mul_top]
    rfl

/-- The kernel's slope at a saved activation against the derivative of the squared ReLU at `p`. -/
theorem slope_eq (s p : EReal) :
    s * DownDxArray.slope (max p 0 * max p 0) = if 0 < p then s * (Ideal.ofBits .f32 0x40000000#32 * max p 0) else 0 := by
  unfold DownDxArray.slope
  rw [root_square _ (le_max_right _ _)]
  split
  · rfl
  · rename_i h
    rw [max_eq_right (not_lt.mp h), mul_zero, mul_zero]

section
open Cert.DownDxIdeal Cert.DownDxIdeal.Gen

/-- The saved activation, as the host computes it before the call. -/
theorem act_eq (m : (ℓ : Loc nD τ sig) → Buf (Elt Ideal) ℓ) (c : Dev nD) :
    V m c main_v5 = Cert.DownDxRefIdeal.Read.val_main_v9 (F := Ideal) (m ((c : Thread nD τ).loc main_arg0)) (m ((c : Thread nD τ).loc main_arg1)) := by
  show StableHlo.after (List.flatten [hostOps0, hostOps0_1, hostOps0_2]) _ (Proc.devRef .tc main_v5) = _
  simp only [hostOps0, hostOps0_1, hostOps0_2, List.flatten_cons, List.flatten_nil, List.append_nil, List.cons_append, List.nil_append]
  after_results_simp <;> rfl

end

section
open Cert.DownDxRefIdeal Cert.DownDxRefIdeal.Read

variable (h : (⟨S8192x1024, .bf16⟩ : BufTy).Contents (Elt Ideal)) (w : (⟨S1024x4096, .bf16⟩ : BufTy).Contents (Elt Ideal))
  (v : (⟨S4096x1024, .bf16⟩ : BufTy).Contents (Elt Ideal)) (d : (⟨S8192x1024, .bf16⟩ : BufTy).Contents (Elt Ideal))

/-- The incoming gradient against the second weight. -/
def inner (d : Vec Ideal S8192x1024 .bf16) (v : Vec Ideal S4096x1024 .bf16) (r : Fin 8192) (j : Fin 4096) : EReal :=
  ∑ k : Fin 1024, (d (ix2 r k) : EReal) * (v (ix2 j k) : EReal)

/-- The saved activation's element. -/
theorem act_apply (r : Fin 8192) (j : Fin 4096) :
    val_main_v9 (F := Ideal) h w (ix2 r j)
      = (max (val_main_v4 (F := Ideal) h w (ix2 r j) : EReal) 0 * max (val_main_v4 (F := Ideal) h w (ix2 r j) : EReal) 0 : EReal) := by
  pointwise [val_main_v9, val_main_v5, val_main_call0_v0, val_main_call0_cst]

/-- The reference's element. -/
theorem ref_apply (r : Fin 8192) (j : Fin 4096) :
    val_main_v17 (F := Ideal) h w v d (ix2 r j)
      = if (0 : EReal) < val_main_v4 (F := Ideal) h w (ix2 r j)
        then inner d v r j * (Ideal.ofBits .f32 0x40000000#32 * max (val_main_v4 (F := Ideal) h w (ix2 r j) : EReal) 0) else 0 := by
  pointwise [val_main_v17, val_main_v16, val_main_v15, val_main_v14, val_main_v13, val_main_v11, val_main_v10, val_main_v7, val_main_v6,
    val_main_v5, val_main_v3, val_main_v2, val_main_call0_v0, val_main_call0_cst, val_main_cst, val_main_cst_1, val_main_cst_2]
  simp [Ideal.ofBits, Ideal.ieee, inner]

end

theorem algebraic : Cert.algebraic_DownDxIdeal_DownDxRefIdeal := by
  intro m g m' g' _ hagree
  refine ⟨fun c => DownDxArray.whole m c, ?_, ?_⟩
  · refine (θ_run Cert.DownDxIdeal.defs _ _).mono (fun r h c => ?_) (Cert.DownDxIdeal.Value.run_blocks m g)
    obtain ⟨hr, h0, h1, h2, h3⟩ := h c
    exact ⟨hr.trans (DownDxArray.final m c), h0, h1, h2, h3⟩
  · refine (θ_run Cert.DownDxRefIdeal.defs _ _).mono (fun r h c => ?_) (Cert.DownDxRefIdeal.Value.run m' g')
    obtain ⟨hr, h0, h1, h2, h3⟩ := h c
    obtain ⟨a0, a1, a2, a3⟩ := hagree c
    refine ⟨hr.trans ?_, h0, h1, h2, h3⟩
    rw [Cert.DownDxRefIdeal.Read.val_main_v17_eq, a0, a1, a2, a3]
    funext y
    obtain ⟨r, j, rfl⟩ : ∃ (r : Fin 8192) (j : Fin 4096), y = (ix2 r j : Cert.DownDxRefIdeal.S8192x4096.Idx) := ⟨y 0, y 1, eq_ix2 y⟩
    refine (ref_apply _ _ _ _ r j).trans ((slope_eq _ _).symm.trans ?_)
    rw [← act_apply, ← act_eq]
    refine Eq.trans ?_ (DownDxArray.whole_apply m c r j).symm
    unfold DownDxArray.dx DownDxArray.w2 DownDxArray.act
    rw [Cert.DownDxIdeal.Gen.V_main_arg2, Cert.DownDxIdeal.Gen.V_main_arg3]
    rfl

end Cert.DownDxClaim

end
-- ==== Proof.BlockSum.lean ====
/-
  A sum cut in two halves: what a product's two partial sums add up to.
-/
module

public import Idealize.ShloMosaic.Lib.Pointwise

@[expose] public section

noncomputable section

namespace Cert.BlockSum

/-- A sum of `b + b` terms is the sum of its first half and of its second half. -/
theorem halves {M : Type} [AddCommMonoid M] (b n : ℕ) (h : n = b + b) (f : ℕ → M) :
    (∑ k : Fin b, f (b * 0 + k.val)) + (∑ k : Fin b, f (b * 1 + k.val)) = ∑ k : Fin n, f k.val := by
  subst h
  rw [Fin.sum_univ_add]
  simp [add_comm]

/-- The same for a family over `Fin n`, each half read at its own indices. -/
theorem halves_fin {M : Type} [AddCommMonoid M] (b n : ℕ) (h : n = b + b) (g : Fin n → M) (p q : Fin b → M)
    (hp : ∀ k : Fin b, p k = g ⟨b * 0 + k.val, by omega⟩) (hq : ∀ k : Fin b, q k = g ⟨b * 1 + k.val, by omega⟩) :
    (∑ k, p k) + (∑ k, q k) = ∑ k, g k := by
  have e := halves b n h (fun i => if hi : i < n then g ⟨i, hi⟩ else 0)
  have er : (∑ k : Fin n, (if hi : k.val < n then g ⟨k.val, hi⟩ else 0)) = ∑ k, g k :=
    Finset.sum_congr rfl fun k _ => dif_pos k.isLt
  rw [← er, ← e]
  congr 1
  · exact Finset.sum_congr rfl fun k _ => by rw [dif_pos (show b * 0 + k.val < n by omega)]; exact hp k
  · exact Finset.sum_congr rfl fun k _ => by rw [dif_pos (show b * 1 + k.val < n by omega)]; exact hq k

end Cert.BlockSum

end
-- ==== Proof.DownDwArray.lean ====
/-
  The gradient of the MLP's second weight: the array the call leaves. A pair of grid points holds one block of 1024 rows of the
  result; the first point keeps the product over the first 4096 tokens, the second adds the other 4096 and writes the block.
-/
module

public import proofs.«01_k».proof.Proof.BlockSum
public import proofs.«01_k».proof.Proof.Gen.DownDwIdeal.Value
public import Idealize.ShloMosaic.Lib.StableHlo.Run
public import Idealize.ShloMosaic.Lib.Tactic

@[expose] public section

set_option maxRecDepth 16384

noncomputable section

namespace Cert.DownDwArray

open Cert.DownDwIdeal Cert.DownDwIdeal.Gen Cert.DownDwIdeal.Value
open Idealize.ShloMosaic Idealize.ShloMosaic.TcCoe Idealize.SL.Sem

theorem hz : (![0, 0] : Fin 2 → Nat) = fun _ => 0 := funext fun a => by fin_cases a <;> rfl

/-! ### What a point computes from its blocks -/

/-- The product of the two blocks, contracted over their rows. -/
theorem pay1_apply (x0 x1 : Vec Ideal S4096x1024 .bf16) (r j : Fin 1024) :
    k0_pay1 x0 x1 (ix2 r j) = ∑ k : Fin 4096, (x0 (ix2 k r) : EReal) * (x1 (ix2 k j) : EReal) := by
  pointwise [k0_pay1]

theorem pay2_apply (x0 x1 : Vec Ideal S4096x1024 .bf16) (r j : Fin 1024) :
    k0_pay2 x0 x1 (ix2 r j) = ∑ k : Fin 4096, (x0 (ix2 k r) : EReal) * (x1 (ix2 k j) : EReal) := by
  unfold k0_pay2
  rw [shapeCast_self]
  exact pay1_apply x0 x1 r j

theorem pay4_apply (x0 x1 : Vec Ideal S4096x1024 .bf16) (acc : Vec Ideal S1024x1024 .f32) (r j : Fin 1024) :
    k0_pay4 x0 x1 acc (ix2 r j) = (acc (ix2 r j) : EReal) + ∑ k : Fin 4096, (x0 (ix2 k r) : EReal) * (x1 (ix2 k j) : EReal) := by
  rw [← pay1_apply x0 x1 r j]
  rfl

section
variable {F : FTy → Type} [FloatOps F]
  (c : Dev nD) (i : grid0.Coords) (a3 : Memref sig .tc .vmem S4096x1024 .bf16) (h3 : a3.IsWhole)
  (a4 : Memref sig .tc .vmem S4096x1024 .bf16) (h4 : a4.IsWhole) (a5 : Memref sig .tc .vmem S1024x1024 .bf16) (h5 : a5.IsWhole)
  (a6 : Memref sig .tc .vmem S1024x1024 .f32) (h6 : a6.IsWhole)
  (x0 x1 : Vec F S4096x1024 .bf16) (xs : Vec F S1024x1024 .f32)

/-- The first point of a pair leaves its product in the scratch. -/
theorem first (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_junk_eq_canon]
  unfold kernelRun0_A
  dsimp only
  rw [View.canon_unit_zero hz]
  simp only [View.readAt_eq_ld, h3.read_unread, h4.read_unread, View.ld_unit_zero (S := S4096x1024) hz]

/-- The second point writes the scratch plus its product. -/
theorem second (hc0 : ¬cond0_0 i) (hc1 : ¬cond0_1 i) (hc2 : cond0_2 i) :
    out0_B_2 c i a3 h3 a4 h4 a5 h5 a6 h6 hc0 hc1 hc2 x0 x1 xs = k0_pay4 x0 x1 xs := by
  unfold out0_B_2
  rw [View.read_writes_junk_eq_canon]
  unfold kernelRun0_B
  dsimp only
  rw [View.canon_unit_zero hz]
  simp only [View.readAt_eq_ld, h3.read_unread, h4.read_unread, h6.read_unread, View.ld_unit_zero (S := S4096x1024) hz,
    View.ld_unit_zero (S := S1024x1024) hz]

end

/-! ### Where the blocks lie -/

theorem idx : ∀ t : Fin cfg0.N, win0_0.index t 0 = t.val % 2 ∧ win0_0.index t 1 = t.val / 2
    ∧ win0_1.index t 0 = t.val % 2 ∧ win0_1.index t 1 = 0 ∧ win0_2.index t 0 = t.val / 2 ∧ win0_2.index t 1 = 0 :=
  (by decide +kernel : ∀ t : Fin grid0.N, win0_0.index t 0 = t.val % 2 ∧ win0_0.index t 1 = t.val / 2
    ∧ win0_1.index t 0 = t.val % 2 ∧ win0_1.index t 1 = 0 ∧ win0_2.index t 0 = t.val / 2 ∧ win0_2.index t 1 = 0)

theorem N_eq : cfg0.N = 8 := by decide

variable (m : (ℓ : Loc nD τ sig) → Buf (Elt Ideal) ℓ) (c : Dev nD)

/-- The token and the hidden lane of an element of point `t`'s blocks. -/
abbrev tok (t : Fin cfg0.N) (k : Fin 4096) : Fin 8192 := ⟨4096 * (t.val % 2) + k.val, by omega⟩
abbrev hid (t : Fin cfg0.N) (r : Fin 1024) : Fin 4096 := ⟨1024 * (t.val / 2) + r.val, by have := t.isLt; have := N_eq; omega⟩

/-- The two arrays the call multiplies. -/
abbrev lhs : Vec Ideal S8192x4096 .bf16 := V m c main_v5
abbrev rhs : Vec Ideal S8192x1024 .bf16 := V m c main_arg2

theorem iblk_0 (t : Fin cfg0.N) (k : Fin 4096) (r : Fin 1024) :
    (iblk m c 0 t : Vec Ideal S4096x1024 .bf16) (ix2 k r)
      = lhs m c (ix2 (tok t k) (hid t r)) := by
  obtain ⟨e0, e1, -⟩ := idx t
  unfold iblk
  rw [View.read_apply]
  show V m c main_v5 _ = V m c main_v5 _
  congr 1
  funext a
  apply Fin.ext
  match a with
  | ⟨0, _⟩ => show win0_0.index t 0 * 4096 + 1 * k.val = 4096 * (t.val % 2) + k.val; rw [e0]; omega
  | ⟨1, _⟩ => show win0_0.index t 1 * 1024 + 1 * r.val = 1024 * (t.val / 2) + r.val; rw [e1]; omega

theorem iblk_1 (t : Fin cfg0.N) (k : Fin 4096) (j : Fin 1024) :
    (iblk m c 1 t : Vec Ideal S4096x1024 .bf16) (ix2 k j) = rhs m c (ix2 (tok t k) j) := by
  obtain ⟨-, -, e0, e1, -⟩ := idx t
  unfold iblk
  rw [View.read_apply]
  show V m c main_arg2 _ = V m c main_arg2 _
  congr 1
  funext a
  apply Fin.ext
  match a with
  | ⟨0, _⟩ => show win0_1.index t 0 * 4096 + 1 * k.val = 4096 * (t.val % 2) + k.val; rw [e0]; omega
  | ⟨1, _⟩ => show win0_1.index t 1 * 1024 + 1 * j.val = j.val; rw [e1]; omega

theorem emb (t : Fin cfg0.N) (r j : Fin 1024) :
    (((cfg0.win 2).blk t).view.emb (ix2 r j) : S4096x1024.Idx)
      = ix2 (hid t r) j := by
  obtain ⟨-, -, -, -, e0, e1⟩ := idx t
  funext a
  apply Fin.ext
  match a with
  | ⟨0, _⟩ => show win0_2.index t 0 * 1024 + 1 * r.val = 1024 * (t.val / 2) + r.val; rw [e0]; omega
  | ⟨1, _⟩ => show win0_2.index t 1 * 1024 + 1 * j.val = j.val; rw [e1]; omega

/-! ### The whole array -/

/-- The product over all tokens. -/
def whole : Vec Ideal S4096x1024 .bf16 := fun y =>
  (∑ k : Fin 8192, (lhs m c (ix2 k (y 0)) : EReal) * (rhs m c (ix2 k (y 1)) : EReal) : EReal)

theorem whole_apply (r : Fin 4096) (j : Fin 1024) :
    whole m c (ix2 r j) = ∑ k : Fin 8192, (lhs m c (ix2 k r) : EReal) * (rhs m c (ix2 k j) : EReal) := rfl

/-- What a pair of points writes: its block of the product. -/
theorem written (t : Fin cfg0.N) (ht : t.val % 2 = 1) (r j : Fin 1024) :
    (outsAt0 m c t.val t.isLt).1 (ix2 r j)
      = whole m c (ix2 (hid t r) j) := by
  have hlt : t.val - 1 < cfg0.N := lt_of_le_of_lt (Nat.sub_le _ _) t.isLt
  have hm : (t.val - 1) % 2 = 0 := by omega
  have hd : (t.val - 1) / 2 = t.val / 2 := by omega
  rw [outsAt0_B m c t (by omega) ht]
  dsimp only
  rw [second, pay4_apply, outsAt0_A m c ⟨t.val - 1, hlt⟩ hm (by dsimp only; omega)]
  dsimp only
  rw [first, pay2_apply]
  refine Cert.BlockSum.halves_fin 4096 8192 rfl (fun k => (lhs m c (ix2 k (hid t r)) : EReal) * (rhs m c (ix2 k j) : EReal)) _ _
    (fun k => ?_) (fun k => ?_)
  · rw [iblk_0, iblk_1]
    refine congrArg₂ (fun a b => (lhs m c a : EReal) * (rhs m c b : EReal)) (congrArg₂ ix2 (Fin.ext ?_) (Fin.ext ?_))
      (congrArg (ix2 · j) (Fin.ext ?_))
    all_goals simp [hm, hd]
  · rw [iblk_0, iblk_1]
    refine congrArg₂ (fun a b => (lhs m c a : EReal) * (rhs m c b : EReal)) (congrArg₂ ix2 (Fin.ext ?_) rfl)
      (congrArg (ix2 · j) (Fin.ext ?_))
    all_goals simp [ht]

/-- The array after the run. -/
theorem final : (dats m 0 c).arrAt 2 cfg0.N = whole m c := by
  refine (dats m 0 c).arrAt_eq_of_cover 2 _ (fun t hf => ?_) (fun i => (covered_iff2 i).2 ?_)
  · rw [flushed2]
    funext y
    obtain ⟨r, j, rfl⟩ : ∃ (r j : Fin 1024), y = (ix2 r j : S1024x1024.Idx) := ⟨y 0, y 1, eq_ix2 y⟩
    rw [View.read_apply]
    exact (written m c t ((flush0_2 t).mp hf) r j).trans (congrArg (whole m c) (emb t r j)).symm
  · have h0 : (i 0).val < 4096 := (i 0).isLt
    have h1 : (i 1).val < 1024 := (i 1).isLt
    omega

end Cert.DownDwArray

end
-- ==== Proof.DownDwClaim.lean ====
/-
  The second weight's gradient: the call's product over the saved activation is the derivative of the MLP at that weight.
-/
module

public import proofs.«01_k».proof.Defs
public import proofs.«01_k».proof.Proof.DownDwArray
public import proofs.«01_k».proof.Proof.Gen.DownDwRefIdeal.Run
public import proofs.«01_k».proof.Proof.Gen.DownDwRefIdeal.Read
public import proofs.«01_k».proof.Proof.Gen.DownDw.Frame

@[expose] public section

set_option maxRecDepth 16384

noncomputable section

namespace Cert.DownDwClaim

open Idealize.ShloMosaic Idealize.ShloMosaic.TcCoe Idealize.SL.Sem

theorem frame_kernel : Cert.quiescent_DownDw := fun m ρ _ => Cert.DownDw.Gen.frame m ρ

theorem frame_ideal : Cert.quiescent_DownDwIdeal := fun m ρ _ => Cert.DownDwIdeal.Gen.frame m ρ

theorem frame_reference : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run m ρ)

section
open Cert.DownDwIdeal Cert.DownDwIdeal.Gen

/-- The saved activation, as the host computes it before the call. -/
theorem act_eq (m : (ℓ : Loc nD τ sig) → Buf (Elt Ideal) ℓ) (c : Dev nD) :
    V m c main_v5 = Cert.DownDwRefIdeal.Read.val_main_v6 (F := Ideal) (m ((c : Thread nD τ).loc main_arg0)) (m ((c : Thread nD τ).loc main_arg1)) := by
  show StableHlo.after (List.flatten [hostOps0, hostOps0_1, hostOps0_2]) _ (Proc.devRef .tc main_v5) = _
  simp only [hostOps0, hostOps0_1, hostOps0_2, List.flatten_cons, List.flatten_nil, List.append_nil, List.cons_append, List.nil_append]
  after_results_simp <;> rfl

/-- The call's element, over the arguments. -/
theorem call_apply (m : (ℓ : Loc nD τ sig) → Buf (Elt Ideal) ℓ) (c : Dev nD) (r : Fin 4096) (j : Fin 1024) :
    DownDwArray.whole m c (ix2 r j) = ∑ k : Fin 8192,
      (Cert.DownDwRefIdeal.Read.val_main_v6 (F := Ideal) (m ((c : Thread nD τ).loc main_arg0)) (m ((c : Thread nD τ).loc main_arg1)) (ix2 k r) : EReal)
        * ((m ((c : Thread nD τ).loc main_arg2) : Vec Ideal S8192x1024 .bf16) (ix2 k j) : EReal) := by
  refine (DownDwArray.whole_apply m c r j).trans ?_
  unfold DownDwArray.lhs DownDwArray.rhs
  rw [act_eq, V_main_arg2]

end

/-- The reference's element: the incoming gradient against the activation, over all tokens. -/
theorem ref_apply (h : (⟨Cert.DownDwRefIdeal.S8192x1024, .bf16⟩ : BufTy).Contents (Elt Ideal))
    (w : (⟨Cert.DownDwRefIdeal.S1024x4096, .bf16⟩ : BufTy).Contents (Elt Ideal))
    (d : (⟨Cert.DownDwRefIdeal.S8192x1024, .bf16⟩ : BufTy).Contents (Elt Ideal)) (r : Fin 4096) (j : Fin 1024) :
    Cert.DownDwRefIdeal.Read.val_main_v10 (F := Ideal) h w d (ix2 r j)
      = ∑ k : Fin 8192, (d (ix2 k j) : EReal) * (Cert.DownDwRefIdeal.Read.val_main_v6 (F := Ideal) h w (ix2 k r) : EReal) := by
  pointwise [Cert.DownDwRefIdeal.Read.val_main_v10, Cert.DownDwRefIdeal.Read.val_main_v9, Cert.DownDwRefIdeal.Read.val_main_v8,
    Cert.DownDwRefIdeal.Read.val_main_v2]

theorem algebraic : Cert.algebraic_DownDwIdeal_DownDwRefIdeal := by
  intro m g m' g' _ hagree
  refine ⟨fun c => DownDwArray.whole m c, ?_, ?_⟩
  · refine (θ_run Cert.DownDwIdeal.defs _ _).mono (fun r h c => ?_) (Cert.DownDwIdeal.Value.run_blocks m g)
    obtain ⟨h3, h0, h1, h2⟩ := h c
    exact ⟨h3.trans (DownDwArray.final m c), h0, h1, h2⟩
  · refine (θ_run Cert.DownDwRefIdeal.defs _ _).mono (fun r h c => ?_) (Cert.DownDwRefIdeal.Value.run m' g')
    obtain ⟨h3, h0, h1, h2⟩ := h c
    obtain ⟨a0, a1, a2⟩ := hagree c
    refine ⟨h3.trans ?_, h0, h1, h2⟩
    rw [Cert.DownDwRefIdeal.Read.val_main_v10_eq, a0, a1, a2]
    funext y
    obtain ⟨r, j, rfl⟩ : ∃ (r : Fin 4096) (j : Fin 1024), y = (ix2 r j : Cert.DownDwRefIdeal.S4096x1024.Idx) := ⟨y 0, y 1, eq_ix2 y⟩
    exact (ref_apply _ _ _ r j).trans ((Finset.sum_congr rfl fun k _ => mul_comm _ _).trans (call_apply m c r j).symm)

end Cert.DownDwClaim

end
-- ==== Proof.UpDwArray.lean ====
/-
  The gradient of the MLP's first weight: the array the call leaves. A pair of grid points holds one block of 1024 lanes of the
  result; the first point keeps the product over the first 4096 tokens, the second adds the other 4096 and writes the block.
-/
module

public import proofs.«01_k».proof.Proof.BlockSum
public import proofs.«01_k».proof.Proof.Gen.UpDwIdeal.Value
public import Idealize.ShloMosaic.Lib.StableHlo.Run
public import Idealize.ShloMosaic.Lib.Tactic

@[expose] public section

set_option maxRecDepth 16384

noncomputable section

namespace Cert.UpDwArray

open Cert.UpDwIdeal Cert.UpDwIdeal.Gen Cert.UpDwIdeal.Value
open Idealize.ShloMosaic Idealize.ShloMosaic.TcCoe Idealize.SL.Sem

theorem hz : (![0, 0] : Fin 2 → Nat) = fun _ => 0 := funext fun a => by fin_cases a <;> rfl

/-! ### What a point computes from its blocks -/

/-- The product of the two blocks, contracted over their rows. -/
theorem pay1_apply (x0 x1 : Vec Ideal S4096x1024 .bf16) (r j : Fin 1024) :
    k0_pay1 x0 x1 (ix2 r j) = ∑ k : Fin 4096, (x0 (ix2 k r) : EReal) * (x1 (ix2 k j) : EReal) := by
  pointwise [k0_pay1]

theorem pay2_apply (x0 x1 : Vec Ideal S4096x1024 .bf16) (r j : Fin 1024) :
    k0_pay2 x0 x1 (ix2 r j) = ∑ k : Fin 4096, (x0 (ix2 k r) : EReal) * (x1 (ix2 k j) : EReal) := by
  unfold k0_pay2
  rw [shapeCast_self]
  exact pay1_apply x0 x1 r j

theorem pay4_apply (x0 x1 : Vec Ideal S4096x1024 .bf16) (acc : Vec Ideal S1024x1024 .f32) (r j : Fin 1024) :
    k0_pay4 x0 x1 acc (ix2 r j) = (acc (ix2 r j) : EReal) + ∑ k : Fin 4096, (x0 (ix2 k r) : EReal) * (x1 (ix2 k j) : EReal) := by
  rw [← pay1_apply x0 x1 r j]
  rfl

section
variable {F : FTy → Type} [FloatOps F]
  (c : Dev nD) (i : grid0.Coords) (a3 : Memref sig .tc .vmem S4096x1024 .bf16) (h3 : a3.IsWhole)
  (a4 : Memref sig .tc .vmem S4096x1024 .bf16) (h4 : a4.IsWhole) (a5 : Memref sig .tc .vmem S1024x1024 .bf16) (h5 : a5.IsWhole)
  (a6 : Memref sig .tc .vmem S1024x1024 .f32) (h6 : a6.IsWhole)
  (x0 x1 : Vec F S4096x1024 .bf16) (xs : Vec F S1024x1024 .f32)

/-- The first point of a pair leaves its product in the scratch. -/
theorem first (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_junk_eq_canon]
  unfold kernelRun0_A
  dsimp only
  rw [View.canon_unit_zero hz]
  simp only [View.readAt_eq_ld, h3.read_unread, h4.read_unread, View.ld_unit_zero (S := S4096x1024) hz]

/-- The second point writes the scratch plus its product. -/
theorem second (hc0 : ¬cond0_0 i) (hc1 : ¬cond0_1 i) (hc2 : cond0_2 i) :
    out0_B_2 c i a3 h3 a4 h4 a5 h5 a6 h6 hc0 hc1 hc2 x0 x1 xs = k0_pay4 x0 x1 xs := by
  unfold out0_B_2
  rw [View.read_writes_junk_eq_canon]
  unfold kernelRun0_B
  dsimp only
  rw [View.canon_unit_zero hz]
  simp only [View.readAt_eq_ld, h3.read_unread, h4.read_unread, h6.read_unread, View.ld_unit_zero (S := S4096x1024) hz,
    View.ld_unit_zero (S := S1024x1024) hz]

end

/-! ### Where the blocks lie -/

theorem idx : ∀ t : Fin cfg0.N, win0_0.index t 0 = t.val % 2 ∧ win0_0.index t 1 = 0
    ∧ win0_1.index t 0 = t.val % 2 ∧ win0_1.index t 1 = t.val / 2 ∧ win0_2.index t 0 = 0 ∧ win0_2.index t 1 = t.val / 2 :=
  (by decide +kernel : ∀ t : Fin grid0.N, win0_0.index t 0 = t.val % 2 ∧ win0_0.index t 1 = 0
    ∧ win0_1.index t 0 = t.val % 2 ∧ win0_1.index t 1 = t.val / 2 ∧ win0_2.index t 0 = 0 ∧ win0_2.index t 1 = t.val / 2)

theorem N_eq : cfg0.N = 8 := by decide

variable (m : (ℓ : Loc nD τ sig) → Buf (Elt Ideal) ℓ) (c : Dev nD)

/-- The token and the hidden lane of an element of point `t`'s blocks. -/
abbrev tok (t : Fin cfg0.N) (k : Fin 4096) : Fin 8192 := ⟨4096 * (t.val % 2) + k.val, by omega⟩
abbrev hid (t : Fin cfg0.N) (r : Fin 1024) : Fin 4096 := ⟨1024 * (t.val / 2) + r.val, by have := t.isLt; have := N_eq; omega⟩

/-- The two arrays the call multiplies. -/
abbrev lhs : Vec Ideal S8192x1024 .bf16 := V m c main_arg0
abbrev rhs : Vec Ideal S8192x4096 .bf16 := V m c main_v17

theorem iblk_0 (t : Fin cfg0.N) (k : Fin 4096) (r : Fin 1024) :
    (iblk m c 0 t : Vec Ideal S4096x1024 .bf16) (ix2 k r) = lhs m c (ix2 (tok t k) r) := by
  obtain ⟨e0, e1, -⟩ := idx t
  unfold iblk
  rw [View.read_apply]
  show V m c main_arg0 _ = V m c main_arg0 _
  congr 1
  funext a
  apply Fin.ext
  match a with
  | ⟨0, _⟩ => show win0_0.index t 0 * 4096 + 1 * k.val = 4096 * (t.val % 2) + k.val; rw [e0]; omega
  | ⟨1, _⟩ => show win0_0.index t 1 * 1024 + 1 * r.val = r.val; rw [e1]; omega

theorem iblk_1 (t : Fin cfg0.N) (k : Fin 4096) (j : Fin 1024) :
    (iblk m c 1 t : Vec Ideal S4096x1024 .bf16) (ix2 k j) = rhs m c (ix2 (tok t k) (hid t j)) := by
  obtain ⟨-, -, e0, e1, -⟩ := idx t
  unfold iblk
  rw [View.read_apply]
  show V m c main_v17 _ = V m c main_v17 _
  congr 1
  funext a
  apply Fin.ext
  match a with
  | ⟨0, _⟩ => show win0_1.index t 0 * 4096 + 1 * k.val = 4096 * (t.val % 2) + k.val; rw [e0]; omega
  | ⟨1, _⟩ => show win0_1.index t 1 * 1024 + 1 * j.val = 1024 * (t.val / 2) + j.val; rw [e1]; omega

theorem emb (t : Fin cfg0.N) (r j : Fin 1024) :
    (((cfg0.win 2).blk t).view.emb (ix2 r j) : S1024x4096.Idx) = ix2 r (hid t j) := by
  obtain ⟨-, -, -, -, e0, e1⟩ := idx t
  funext a
  apply Fin.ext
  match a with
  | ⟨0, _⟩ => show win0_2.index t 0 * 1024 + 1 * r.val = r.val; rw [e0]; omega
  | ⟨1, _⟩ => show win0_2.index t 1 * 1024 + 1 * j.val = 1024 * (t.val / 2) + j.val; rw [e1]; omega

/-! ### The whole array -/

/-- The product over all tokens. -/
def whole : Vec Ideal S1024x4096 .bf16 := fun y =>
  (∑ k : Fin 8192, (lhs m c (ix2 k (y 0)) : EReal) * (rhs m c (ix2 k (y 1)) : EReal) : EReal)

theorem whole_apply (r : Fin 1024) (j : Fin 4096) :
    whole m c (ix2 r j) = ∑ k : Fin 8192, (lhs m c (ix2 k r) : EReal) * (rhs m c (ix2 k j) : EReal) := rfl

/-- What a pair of points writes: its block of the product. -/
theorem written (t : Fin cfg0.N) (ht : t.val % 2 = 1) (r j : Fin 1024) :
    (outsAt0 m c t.val t.isLt).1 (ix2 r j) = whole m c (ix2 r (hid t j)) := by
  have hlt : t.val - 1 < cfg0.N := lt_of_le_of_lt (Nat.sub_le _ _) t.isLt
  have hm : (t.val - 1) % 2 = 0 := by omega
  have hd : (t.val - 1) / 2 = t.val / 2 := by omega
  rw [outsAt0_B m c t (by omega) ht]
  dsimp only
  rw [second, pay4_apply, outsAt0_A m c ⟨t.val - 1, hlt⟩ hm (by dsimp only; omega)]
  dsimp only
  rw [first, pay2_apply]
  refine Cert.BlockSum.halves_fin 4096 8192 rfl (fun k => (lhs m c (ix2 k r) : EReal) * (rhs m c (ix2 k (hid t j)) : EReal)) _ _
    (fun k => ?_) (fun k => ?_)
  · rw [iblk_0, iblk_1]
    refine congrArg₂ (fun a b => (lhs m c a : EReal) * (rhs m c b : EReal)) (congrArg (ix2 · r) (Fin.ext ?_))
      (congrArg₂ ix2 (Fin.ext ?_) (Fin.ext ?_))
    all_goals simp [hm, hd]
  · rw [iblk_0, iblk_1]
    refine congrArg₂ (fun a b => (lhs m c a : EReal) * (rhs m c b : EReal)) (congrArg (ix2 · r) (Fin.ext ?_))
      (congrArg₂ ix2 (Fin.ext ?_) rfl)
    all_goals simp [ht]

/-- The array after the run. -/
theorem final : (dats m 0 c).arrAt 2 cfg0.N = whole m c := by
  refine (dats m 0 c).arrAt_eq_of_cover 2 _ (fun t hf => ?_) (fun i => (covered_iff2 i).2 ?_)
  · rw [flushed2]
    funext y
    obtain ⟨r, j, rfl⟩ : ∃ (r j : Fin 1024), y = (ix2 r j : S1024x1024.Idx) := ⟨y 0, y 1, eq_ix2 y⟩
    rw [View.read_apply]
    exact (written m c t ((flush0_2 t).mp hf) r j).trans (congrArg (whole m c) (emb t r j)).symm
  · have h0 : (i 0).val < 1024 := (i 0).isLt
    have h1 : (i 1).val < 4096 := (i 1).isLt
    omega

end Cert.UpDwArray

end
-- ==== Proof.UpDwClaim.lean ====
/-
  The first weight's gradient: the call's product with the gradient at the first product is the derivative of the MLP at that weight.
-/
module

public import proofs.«01_k».proof.Defs
public import proofs.«01_k».proof.Proof.UpDwArray
public import proofs.«01_k».proof.Proof.Gen.UpDwRefIdeal.Run
public import proofs.«01_k».proof.Proof.Gen.UpDwRefIdeal.Read
public import proofs.«01_k».proof.Proof.Gen.UpDw.Frame

@[expose] public section

set_option maxRecDepth 16384

noncomputable section

namespace Cert.UpDwClaim

open Idealize.ShloMosaic Idealize.ShloMosaic.TcCoe Idealize.SL.Sem

theorem frame_kernel : Cert.quiescent_UpDw := fun m ρ _ => Cert.UpDw.Gen.frame m ρ

theorem frame_ideal : Cert.quiescent_UpDwIdeal := fun m ρ _ => Cert.UpDwIdeal.Gen.frame m ρ

theorem frame_reference : Cert.quiescent_UpDwRefIdeal := fun m ρ _ =>
  (θ_run Cert.UpDwRefIdeal.defs _ _).mono (fun r h => ⟨fun c => (h c).2, sem_eq_zero_of_no_sems (by decide) r.2⟩)
    (Cert.UpDwRefIdeal.Value.run m ρ)

section
open Cert.UpDwIdeal Cert.UpDwIdeal.Gen

/-- The gradient at the first product, as the host computes it before the call. -/
theorem pre_eq (m : (ℓ : Loc nD τ sig) → Buf (Elt Ideal) ℓ) (c : Dev nD) :
    V m c main_v17 = Cert.UpDwRefIdeal.Read.val_main_v16 (F := Ideal) (m ((c : Thread nD τ).loc main_arg0)) (m ((c : Thread nD τ).loc main_arg1))
        (m ((c : Thread nD τ).loc main_arg2)) (m ((c : Thread nD τ).loc main_arg3)) := by
  show StableHlo.after (List.flatten [hostOps0, hostOps0_1, hostOps0_2]) _ (Proc.devRef .tc main_v17) = _
  simp only [hostOps0, hostOps0_1, hostOps0_2, List.flatten_cons, List.flatten_nil, List.append_nil, List.cons_append, List.nil_append]
  after_results_simp <;> rfl

/-- One element of a product over all tokens. -/
def over (a : Vec Ideal S8192x1024 .bf16) (b : Vec Ideal S8192x4096 .bf16) (r : Fin 1024) (j : Fin 4096) : EReal :=
  ∑ k : Fin 8192, (a (ix2 k r) : EReal) * (b (ix2 k j) : EReal)

/-- The call's element, over the arguments. -/
theorem call_apply (m : (ℓ : Loc nD τ sig) → Buf (Elt Ideal) ℓ) (c : Dev nD) (r : Fin 1024) (j : Fin 4096) :
    UpDwArray.whole m c (ix2 r j) = over (m ((c : Thread nD τ).loc main_arg0))
      (Cert.UpDwRefIdeal.Read.val_main_v16 (F := Ideal) (m ((c : Thread nD τ).loc main_arg0)) (m ((c : Thread nD τ).loc main_arg1))
        (m ((c : Thread nD τ).loc main_arg2)) (m ((c : Thread nD τ).loc main_arg3))) r j := by
  refine (UpDwArray.whole_apply m c r j).trans ?_
  unfold UpDwArray.lhs UpDwArray.rhs
  rw [pre_eq, V_main_arg0]
  rfl

end

/-- The reference's element: the gradient at the first product against the MLP's input, over all tokens. -/
theorem ref_apply (h : (⟨Cert.UpDwRefIdeal.S8192x1024, .bf16⟩ : BufTy).Contents (Elt Ideal))
    (w : (⟨Cert.UpDwRefIdeal.S1024x4096, .bf16⟩ : BufTy).Contents (Elt Ideal))
    (v : (⟨Cert.UpDwRefIdeal.S4096x1024, .bf16⟩ : BufTy).Contents (Elt Ideal))
    (d : (⟨Cert.UpDwRefIdeal.S8192x1024, .bf16⟩ : BufTy).Contents (Elt Ideal)) (r : Fin 1024) (j : Fin 4096) :
    Cert.UpDwRefIdeal.Read.val_main_v19 (F := Ideal) h w v d (ix2 r j)
      = ∑ k : Fin 8192, (Cert.UpDwRefIdeal.Read.val_main_v16 (F := Ideal) h w v d (ix2 k j) : EReal) * (h (ix2 k r) : EReal) := by
  pointwise [Cert.UpDwRefIdeal.Read.val_main_v19, Cert.UpDwRefIdeal.Read.val_main_v18, Cert.UpDwRefIdeal.Read.val_main_v17,
    Cert.UpDwRefIdeal.Read.val_main_v0]

theorem algebraic : Cert.algebraic_UpDwIdeal_UpDwRefIdeal := by
  intro m g m' g' _ hagree
  refine ⟨fun c => UpDwArray.whole m c, ?_, ?_⟩
  · refine (θ_run Cert.UpDwIdeal.defs _ _).mono (fun r h c => ?_) (Cert.UpDwIdeal.Value.run_blocks m g)
    obtain ⟨hr, h0, h1, h2, h3⟩ := h c
    exact ⟨hr.trans (UpDwArray.final m c), h0, h1, h2, h3⟩
  · refine (θ_run Cert.UpDwRefIdeal.defs _ _).mono (fun r h c => ?_) (Cert.UpDwRefIdeal.Value.run m' g')
    obtain ⟨hr, h0, h1, h2, h3⟩ := h c
    obtain ⟨a0, a1, a2, a3⟩ := hagree c
    refine ⟨hr.trans ?_, h0, h1, h2, h3⟩
    rw [Cert.UpDwRefIdeal.Read.val_main_v19_eq, a0, a1, a2, a3]
    funext y
    obtain ⟨r, j, rfl⟩ : ∃ (r : Fin 1024) (j : Fin 4096), y = (ix2 r j : Cert.UpDwRefIdeal.S1024x4096.Idx) := ⟨y 0, y 1, eq_ix2 y⟩
    exact (ref_apply _ _ _ _ r j).trans ((Finset.sum_congr rfl fun k _ => mul_comm _ _).trans (call_apply m c r j).symm)

end Cert.UpDwClaim

end
-- ==== Proof.UpDxMath.lean ====
/-
  The gradient of an RMS norm over the extended reals: a row of inputs `x`, its gains `g`, the incoming gradient `d` of the normed
  row and what the residual branch adds. The kernel folds the mean of `dy * x̂` into one factor; the derivative of the formula, line
  by line, carries two equal shares through the mean of squares. The two agree for all rows, infinite entries among them: a row of
  reals has a positive real mean of squares, over which everything distributes; with an infinite entry the mean is infinite, its
  reciprocal root 0, and both sides are 0.
-/
module

public import proofs.«01_k».proof.Proof.AttnMath

@[expose] public section

noncomputable section

namespace Cert.UpDxMath

open Cert.AttnMath Idealize.ShloMosaic

/-! ### The words -/

/-- The small number under the root. -/
theorem word_eps : ∃ e : ℝ, 0 < e ∧ Ideal.ofBits FTy.f32 0x3727C5AC#32 = (e : EReal) := by
  simp [Ideal.ofBits, Ideal.ieee]
  exact ⟨_, by positivity, (EReal.coe_mul _ _).symm⟩

def eps : ℝ := word_eps.choose
theorem eps_pos : 0 < eps := word_eps.choose_spec.1
theorem eps_eq : Ideal.ofBits FTy.f32 0x3727C5AC#32 = (eps : EReal) := word_eps.choose_spec.2

theorem word_1024 : Ideal.ofBits FTy.f32 0x44800000#32 = ((1024 : ℝ) : EReal) := by
  simp [Ideal.ofBits, Ideal.ieee]
  rw [← EReal.coe_mul]; norm_num

theorem word_minus_half : Ideal.ofBits FTy.f32 0xBF000000#32 = ((-1 / 2 : ℝ) : EReal) := by
  simp [Ideal.ofBits, Ideal.ieee]
  rw [← EReal.coe_mul, ← EReal.coe_neg]; norm_num

/-! ### Extended reals -/

/-- A real factor that is not negative goes into a sum of extended reals. -/
theorem mul_sum_of_nonneg {ι : Type*} (s : Finset ι) {c : ℝ} (hc : 0 ≤ c) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (EReal.coe_nonneg.mpr hc) (EReal.coe_ne_top c), ih]

theorem square_nonneg (a : EReal) : 0 ≤ a * a := by
  induction a with
  | bot => simp
  | top => simp
  | coe a => rw [← EReal.coe_mul]; exact EReal.coe_nonneg.mpr (mul_self_nonneg a)

/-- A sum of squares with an infinite term is infinite. -/
theorem sum_square_top {n : ℕ} (x : Fin n → EReal) (k : Fin n) (hk : x k * x k = ⊤) : ∑ j, x j * x j = ⊤ := by
  rw [← Finset.add_sum_erase _ _ (Finset.mem_univ k), hk]
  exact EReal.top_add_of_ne_bot (ne_of_gt (lt_of_lt_of_le EReal.bot_lt_zero (Finset.sum_nonneg fun j _ => square_nonneg (x j))))

/-! ### One row -/

section
variable (x g d : Fin 1024 → EReal)

/-- The mean of squares, and the small number. -/
def mean : EReal := Ideal.div (∑ j, x j * x j) ((1024 : ℝ) : EReal) + (eps : EReal)

/-- The reciprocal root of the mean of squares. -/
def rstd : EReal := Ideal.rsqrt (mean x)

/-- The derivative of the reciprocal root. -/
def slope : EReal := ((-1 / 2 : ℝ) : EReal) * Ideal.div (rstd x) (mean x)

/-- The gradient of the row of inputs, as the kernel computes it. -/
def back (j : Fin 1024) : EReal :=
  rstd x * (d j * g j - x j * rstd x * Ideal.div (∑ l, d l * g l * (x l * rstd x)) ((1024 : ℝ) : EReal))

/-- The share that comes through the mean of squares, of which the derivative has two. -/
def share : EReal := Ideal.div ((∑ l, x l * (d l * g l)) * slope x) ((1024 : ℝ) : EReal)

end

/-- The mean of squares of a row of reals is a positive real. -/
theorem mean_real (a : Fin 1024 → ℝ) : ∃ μ : ℝ, 0 < μ ∧ mean (fun j => (a j : EReal)) = (μ : EReal) := by
  refine ⟨(∑ j, a j * a j) / 1024 + eps,
    add_pos_of_nonneg_of_pos (div_nonneg (Finset.sum_nonneg fun j _ => mul_self_nonneg (a j)) (by norm_num)) eps_pos, ?_⟩
  unfold mean
  simp only [← EReal.coe_mul, sum_lift]
  rw [div_lift _ (by norm_num), ← EReal.coe_add]

/-- Its reciprocal root is real, and the square of that is the reciprocal. -/
theorem rstd_real {x : Fin 1024 → EReal} {μ : ℝ} (hμ : 0 < μ) (h : mean x = (μ : EReal)) :
    ∃ ρ : ℝ, 0 ≤ ρ ∧ rstd x = (ρ : EReal) ∧ ρ * ρ = 1 / μ := by
  refine ⟨(Real.sqrt μ)⁻¹, inv_nonneg.mpr (Real.sqrt_nonneg μ), ?_, ?_⟩
  · rw [rstd, h, Ideal.rsqrt_coe, if_neg (not_lt.mpr hμ.le), if_neg hμ.ne']
  · rw [← mul_inv, Real.mul_self_sqrt hμ.le, one_div]

/-- The derivative as the lines of the norm give it, on a row of reals. -/
theorem back_eq_real (a : Fin 1024 → ℝ) (g d : Fin 1024 → EReal) (j : Fin 1024) :
    d j * g j * rstd (fun j => (a j : EReal)) + (a j : EReal) * share (fun j => (a j : EReal)) g d + share (fun j => (a j : EReal)) g d * (a j : EReal)
      = back (fun j => (a j : EReal)) g d j := by
  obtain ⟨μ, hμ, hm⟩ := mean_real a
  obtain ⟨ρ, hρ, hr, hsq⟩ := rstd_real hμ hm
  generalize hS : (∑ l, (a l : EReal) * (d l * g l)) = S
  have hs : (∑ l, d l * g l * ((a l : EReal) * (ρ : EReal))) = (ρ : EReal) * S := by
    rw [← hS, mul_sum_of_nonneg _ hρ]
    exact Finset.sum_congr rfl fun l _ => by ac_rfl
  have hk : -1 / 2 * (ρ / μ) = -(1 / 2 * (ρ * (ρ * ρ))) := by rw [hsq]; ring
  have hshare : share (fun j => (a j : EReal)) g d = ((-(1 / 2 * (ρ * (ρ * ρ))) * (1 / 1024) : ℝ) : EReal) * S := by
    unfold share slope
    rw [hS, hr, hm, div_lift _ hμ.ne', ← EReal.coe_mul, hk, Ideal.div_coe (by norm_num), EReal.coe_mul]
    ac_rfl
  have hone : (a j : EReal) * share (fun j => (a j : EReal)) g d = ((1 / 2 : ℝ) : EReal) * (((-(a j * (ρ * (ρ * ρ)) * (1 / 1024)) : ℝ) : EReal) * S) := by
    rw [hshare, ← mul_assoc (a j : EReal), ← EReal.coe_mul, ← mul_assoc ((1 / 2 : ℝ) : EReal), ← EReal.coe_mul]
    exact congrArg (fun c : ℝ => (c : EReal) * S) (by ring)
  have hsum : ∀ T : EReal, ((1 / 2 : ℝ) : EReal) * T + ((1 / 2 : ℝ) : EReal) * T = T := fun T => by
    rw [← EReal.right_distrib_of_nonneg (EReal.coe_nonneg.mpr (by norm_num)) (EReal.coe_nonneg.mpr (by norm_num)), ← EReal.coe_add]
    norm_num
  rw [mul_comm (share _ g d), add_assoc, hone, hsum]
  unfold back
  rw [hr, hs, Ideal.div_coe (by norm_num), sub_eq_add_neg, EReal.left_distrib_of_nonneg_of_ne_top (EReal.coe_nonneg.mpr hρ) (EReal.coe_ne_top ρ),
    mul_comm (d j * g j)]
  refine congrArg ((ρ : EReal) * (d j * g j) + ·) ?_
  rw [← EReal.coe_mul (a j) ρ, ← neg_mul ((a j * ρ : ℝ) : EReal), ← EReal.coe_neg (a j * ρ)]
  have hac : (ρ : EReal) * (((-(a j * ρ) : ℝ) : EReal) * ((ρ : EReal) * S * ((1 / 1024 : ℝ) : EReal)))
      = (ρ : EReal) * ((-(a j * ρ) : ℝ) : EReal) * (ρ : EReal) * ((1 / 1024 : ℝ) : EReal) * S := by ac_rfl
  rw [hac, ← EReal.coe_mul, ← EReal.coe_mul, ← EReal.coe_mul]
  exact congrArg (fun c : ℝ => (c : EReal) * S) (by ring)

/-- A row with an infinite entry has the reciprocal root 0, and the derivative of that is 0. -/
theorem infinite_row {x : Fin 1024 → EReal} (k : Fin 1024) (hk : x k * x k = ⊤) : rstd x = 0 ∧ slope x = 0 := by
  have hm : mean x = ⊤ := by
    unfold mean
    rw [sum_square_top x k hk, Ideal.div_coe (by norm_num), EReal.top_mul_of_pos (EReal.coe_pos.mpr (by norm_num)),
      EReal.top_add_of_ne_bot (EReal.coe_ne_bot _)]
  have hr : rstd x = 0 := by rw [rstd, hm, Ideal.rsqrt_top]
  refine ⟨hr, ?_⟩
  rw [slope, hr, hm, Ideal.div, if_neg EReal.top_ne_zero, zero_mul, mul_zero]

/-- The derivative as the lines of the norm give it, on any row. -/
theorem back_eq (x g d : Fin 1024 → EReal) (j : Fin 1024) :
    d j * g j * rstd x + x j * share x g d + share x g d * x j = back x g d j := by
  by_cases h : ∃ k, x k * x k = ⊤
  · obtain ⟨k, hk⟩ := h
    obtain ⟨hr, hs⟩ := infinite_row k hk
    rw [back, share, hr, hs, Ideal.div_coe (by norm_num)]
    simp
  · have hreal : ∀ k, ((x k).toReal : EReal) = x k := fun k =>
      EReal.coe_toReal (fun ht => h ⟨k, by rw [ht]; rfl⟩) (fun hb => h ⟨k, by rw [hb]; rfl⟩)
    have hx : x = fun k => (((x k).toReal : ℝ) : EReal) := funext fun k => (hreal k).symm
    have := back_eq_real (fun k => (x k).toReal) g d j
    rw [← hx] at this
    simpa only [hreal] using this

/-! ### The whole arrays, rows numbered by all naturals -/

/-- The gradient of the normed row: the incoming gradient against the weight. -/
def into (p : ℕ → Fin 4096 → EReal) (w : Fin 1024 → Fin 4096 → EReal) (i : ℕ) (j : Fin 1024) : EReal := ∑ k, p i k * w j k

/-- The gradient of the gains over the first `n` rows, the gradient of the normed rows being `d`. -/
def gains (x d : ℕ → Fin 1024 → EReal) (n : ℕ) (j : Fin 1024) : EReal :=
  ∑ i ∈ Finset.range n, d i j * (x i j * rstd (x i))

theorem gains_step (x d : ℕ → Fin 1024 → EReal) (n : ℕ) (j : Fin 1024) :
    gains x d (512 * n) j + ∑ r : Fin 512, d (512 * n + r.val) j * (x (512 * n + r.val) j * rstd (x (512 * n + r.val)))
      = gains x d (512 * (n + 1)) j := by
  unfold gains
  rw [Nat.mul_succ, Finset.sum_range_add, Finset.sum_range (n := 512)]

theorem gains_all (x d : ℕ → Fin 1024 → EReal) (j : Fin 1024) :
    ∑ i : Fin 8192, x i.val j * rstd (x i.val) * d i.val j = gains x d 8192 j := by
  unfold gains
  rw [Finset.sum_range]
  exact Finset.sum_congr rfl fun i _ => mul_comm _ _

end Cert.UpDxMath

end
-- ==== Proof.UpDxLift.lean ====
/-
  The gradient at the normed input: what one grid point computes from its blocks.
-/
module

public import proofs.«01_k».proof.Proof.UpDxMath
public import proofs.«01_k».proof.Proof.BlockSum
public import proofs.«01_k».proof.Proof.Gen.UpDxIdeal.Value
public import Idealize.ShloMosaic.Lib.Pointwise
public import Idealize.ShloMosaic.Lib.Tactic

@[expose] public section

set_option maxRecDepth 16384

noncomputable section

namespace Cert.UpDxLift

open Cert.UpDxIdeal Cert.UpDxIdeal.Gen Cert.UpDxMath Cert.AttnMath
open Idealize.ShloMosaic Idealize.ShloMosaic.TcCoe Idealize.SL.Sem

theorem hz : (![0, 0] : Fin 2 → Nat) = fun _ => 0 := funext fun a => by fin_cases a <;> rfl

theorem pay1_apply (x0 : Vec Ideal S512x2048 .bf16) (x1 : Vec Ideal S1024x2048 .bf16) (r : Fin 512) (j : Fin 1024) :
    k0_pay1 x0 x1 (ix2 r j) = ∑ k : Fin 2048, (x0 (ix2 r k) : EReal) * (x1 (ix2 j k) : EReal) := by
  pointwise [k0_pay1]

theorem pay2_apply (x0 : Vec Ideal S512x2048 .bf16) (x1 : Vec Ideal S1024x2048 .bf16) (r : Fin 512) (j : Fin 1024) :
    k0_pay2 x0 x1 (ix2 r j) = ∑ k : Fin 2048, (x0 (ix2 r k) : EReal) * (x1 (ix2 j k) : EReal) := by
  unfold k0_pay2
  rw [shapeCast_self]
  exact pay1_apply x0 x1 r j

section
variable {p acc X res : Vec Ideal S512x1024 .f32} {G : Vec Ideal S1x1024 .f32} {x d e : Fin 512 → Fin 1024 → EReal} {g : Fin 1024 → EReal}

/-- The reciprocal root of a row's mean of squares. -/
theorem pay6_lift (hX : ∀ r j, (X (ix2 r j) : EReal) = x r j) (r : Fin 512) (z : Fin 1) :
    k0_pay6 X (ix2 r z) = (rstd (x r) : EReal) := by
  pointwise [k0_pay6]
  simp only [hX, word_1024, eps_eq]
  rfl

/-- The normed input without its gain. -/
theorem pay7_lift (hX : ∀ r j, (X (ix2 r j) : EReal) = x r j) (r : Fin 512) (j : Fin 1024) :
    k0_pay7 X (ix2 r j) = (x r j * rstd (x r) : EReal) := by
  pointwise [k0_pay7]
  rw [pay6_lift hX, hX]

theorem pay5_lift (hd : ∀ r j, ((acc (ix2 r j) : EReal) + (p (ix2 r j) : EReal)) = d r j) (r : Fin 512) (j : Fin 1024) :
    k0_pay5 p acc (ix2 r j) = (d r j : EReal) := hd r j

/-- The block of the gradient at the normed input. -/
theorem pay8_lift (hd : ∀ r j, ((acc (ix2 r j) : EReal) + (p (ix2 r j) : EReal)) = d r j)
    (hX : ∀ r j, (X (ix2 r j) : EReal) = x r j) (he : ∀ r j, (res (ix2 r j) : EReal) = e r j)
    (hG : ∀ j, (G (ix2 0 j) : EReal) = g j) (r : Fin 512) (j : Fin 1024) :
    k0_pay8 p acc X res G (ix2 r j) = (back (x r) g (d r) j + e r j : EReal) := by
  pointwise [k0_pay8]
  simp only [pay5_lift hd, pay6_lift hX, pay7_lift hX, hG, he, word_1024]
  rfl

/-- A block's share of the gradient of the gains. -/
theorem pay9_lift (hd : ∀ r j, ((acc (ix2 r j) : EReal) + (p (ix2 r j) : EReal)) = d r j)
    (hX : ∀ r j, (X (ix2 r j) : EReal) = x r j) (z : Fin 1) (j : Fin 1024) :
    k0_pay9 p acc X (ix2 z j) = (∑ r, d r j * (x r j * rstd (x r)) : EReal) := by
  pointwise [k0_pay9]
  simp only [pay5_lift hd, pay7_lift hX]

theorem pay4_apply (a b : Vec Ideal S1x1024 .f32) (z : Fin 1) (j : Fin 1024) :
    k0_pay4 a b (ix2 z j) = (b (ix2 z j) : EReal) + (a (ix2 z j) : EReal) := by
  pointwise [k0_pay4]

end

/-! ### What the points leave -/

section
variable {F : FTy → Type} [FloatOps F]
  (c : Dev nD) (i : grid0.Coords) (a3 : Memref sig .tc .vmem S512x2048 .bf16) (h3 : a3.IsWhole)
  (a4 : Memref sig .tc .vmem S1024x2048 .bf16) (h4 : a4.IsWhole) (a5 : Memref sig .tc .vmem S512x1024 .f32) (h5 : a5.IsWhole)
  (a6 : Memref sig .tc .vmem S512x1024 .f32) (h6 : a6.IsWhole) (a7 : Memref sig .tc .vmem S1x1024 .f32) (h7 : a7.IsWhole)
  (a8 : Memref sig .tc .vmem S512x1024 .f32) (h8 : a8.IsWhole) (a9 : Memref sig .tc .vmem S512x1024 .bf16) (h9 : a9.IsWhole)
  (a10 : Memref sig .tc .vmem S1x1024 .f32) (h10 : a10.IsWhole) (a11 : Memref sig .tc .vmem S512x1024 .f32) (h11 : a11.IsWhole)
  (x0 : Vec F S512x2048 .bf16) (x1 : Vec F S1024x2048 .bf16) (x2 x3 : Vec F S512x1024 .f32) (x4 xo : Vec F S1x1024 .f32)
  (xs : Vec F S512x1024 .f32)

/-- The first point of a pair leaves its product in the scratch. -/
theorem scratch_A (hc0 : cond0_0 i) (hc1 : ¬cond0_1 i) (hc2 : ¬cond0_2 i) :
    sout0_A_0 c i a3 h3 a4 h4 a5 h5 a6 h6 a7 h7 a8 h8 a9 h9 a10 h10 a11 h11 hc0 hc1 hc2 x0 x1 x2 x3 x4 = k0_pay2 x0 x1 := by
  unfold sout0_A_0
  rw [View.read_writes_junk_eq_canon]
  unfold kernelRun0_A
  dsimp only
  rw [View.canon_unit_zero hz]
  simp only [View.readAt_eq_ld, h3.read_unread, h4.read_unread, View.ld_unit_zero (S := S512x2048) hz,
    View.ld_unit_zero (S := S1024x2048) hz]

section
variable (hc0 : ¬cond0_0 i) (hc1 : ¬cond0_1 i) (hc2 : cond0_2 i) (hc3 : cond0_3 i) (hc4 : ¬cond0_4 i)

theorem out_B_5 : out0_B_5 c i a3 h3 a4 h4 a5 h5 a6 h6 a7 h7 a8 h8 a9 h9 a10 h10 a11 h11 hc0 hc1 hc2 hc3 hc4 x0 x1 x2 x3 x4 xs
    = k0_pay8 (k0_pay1 x0 x1) xs x2 x3 x4 := by
  unfold out0_B_5
  rw [View.read_writes_junk_eq_canon]
  unfold kernelRun0_B
  dsimp only
  rw [View.canon_unit_zero hz]
  simp only [View.readAt_eq_ld, h3.read_unread, h4.read_unread, h5.read_unread, h6.read_unread, h7.read_unread, h11.read_unread,
    View.ld_unit_zero (S := S512x2048) hz, View.ld_unit_zero (S := S1024x2048) hz, View.ld_unit_zero (S := S512x1024) hz,
    View.ld_unit_zero (S := S1x1024) hz]

theorem out_B_6 : out0_B_6 c i a3 h3 a4 h4 a5 h5 a6 h6 a7 h7 a8 h8 a9 h9 a10 h10 a11 h11 hc0 hc1 hc2 hc3 hc4 x0 x1 x2 x3 x4 xs
    = k0_pay10 (k0_pay1 x0 x1) xs x2 x3 x4 := by
  unfold out0_B_6
  rw [View.read_writes_junk_eq_canon]
  unfold kernelRun0_B
  dsimp only
  rw [View.canon_unit_zero hz]
  simp only [View.readAt_eq_ld, h3.read_unread, h4.read_unread, h5.read_unread, h6.read_unread, h7.read_unread, h11.read_unread,
    View.ld_unit_zero (S := S512x2048) hz, View.ld_unit_zero (S := S1024x2048) hz, View.ld_unit_zero (S := S512x1024) hz,
    View.ld_unit_zero (S := S1x1024) hz]

theorem out_B_7 : out0_B_7 c i a3 h3 a4 h4 a5 h5 a6 h6 a7 h7 a8 h8 a9 h9 a10 h10 a11 h11 hc0 hc1 hc2 hc3 hc4 x0 x1 x2 x3 x4 xs
    = k0_pay9 (k0_pay1 x0 x1) xs x2 := by
  unfold out0_B_7
  rw [View.read_writes_junk_eq_canon]
  unfold kernelRun0_B
  dsimp only
  sl_unfold_words
  rw [View.canon_unit_zero hz]
  simp only [View.readAt_eq_ld, h3.read_unread, h4.read_unread, h5.read_unread, h6.read_unread, h7.read_unread, h11.read_unread,
    View.ld_unit_zero (S := S512x2048) hz, View.ld_unit_zero (S := S1024x2048) hz, View.ld_unit_zero (S := S512x1024) hz,
    View.ld_unit_zero (S := S1x1024) hz]

end

section
variable (hc0 : ¬cond0_0 i) (hc1 : ¬cond0_1 i) (hc2 : cond0_2 i) (hc3 : ¬cond0_3 i) (hc4 : cond0_4 i)

theorem out_C_5 : out0_C_5 c i a3 h3 a4 h4 a5 h5 a6 h6 a7 h7 a8 h8 a9 h9 a10 h10 a11 h11 hc0 hc1 hc2 hc3 hc4 x0 x1 x2 x3 x4 xo xs
    = k0_pay8 (k0_pay1 x0 x1) xs x2 x3 x4 := by
  unfold out0_C_5
  rw [View.read_writes_junk_eq_canon]
  unfold kernelRun0_C
  dsimp only
  rw [View.canon_unit_zero hz]
  simp only [View.readAt_eq_ld, h3.read_unread, h4.read_unread, h5.read_unread, h6.read_unread, h7.read_unread, h11.read_unread,
    View.ld_unit_zero (S := S512x2048) hz, View.ld_unit_zero (S := S1024x2048) hz, View.ld_unit_zero (S := S512x1024) hz,
    View.ld_unit_zero (S := S1x1024) hz]

theorem out_C_6 : out0_C_6 c i a3 h3 a4 h4 a5 h5 a6 h6 a7 h7 a8 h8 a9 h9 a10 h10 a11 h11 hc0 hc1 hc2 hc3 hc4 x0 x1 x2 x3 x4 xo xs
    = k0_pay10 (k0_pay1 x0 x1) xs x2 x3 x4 := by
  unfold out0_C_6
  rw [View.read_writes_junk_eq_canon]
  unfold kernelRun0_C
  dsimp only
  rw [View.canon_unit_zero hz]
  simp only [View.readAt_eq_ld, h3.read_unread, h4.read_unread, h5.read_unread, h6.read_unread, h7.read_unread, h11.read_unread,
    View.ld_unit_zero (S := S512x2048) hz, View.ld_unit_zero (S := S1024x2048) hz, View.ld_unit_zero (S := S512x1024) hz,
    View.ld_unit_zero (S := S1x1024) hz]

theorem out_C_7 : out0_C_7 c i a3 h3 a4 h4 a5 h5 a6 h6 a7 h7 a8 h8 a9 h9 a10 h10 a11 h11 hc0 hc1 hc2 hc3 hc4 x0 x1 x2 x3 x4 xo xs
    = k0_pay4 (k0_pay9 (k0_pay1 x0 x1) xs x2) xo := by
  unfold out0_C_7
  rw [View.read_writes_junk_eq_canon]
  unfold kernelRun0_C
  dsimp only
  sl_unfold_words
  rw [View.canon_unit_zero hz]
  simp only [View.readAt_eq_ld, h3.read_unread, h4.read_unread, h5.read_unread, h6.read_unread, h7.read_unread, h10.read_unread,
    h11.read_unread, View.ld_unit_zero (S := S512x2048) hz, View.ld_unit_zero (S := S1024x2048) hz,
    View.ld_unit_zero (S := S512x1024) hz, View.ld_unit_zero (S := S1x1024) hz]

end

end

end Cert.UpDxLift

end
-- ==== Proof.UpDxArray.lean ====
/-
  The gradient at the normed input: the arrays the call leaves. A pair of grid points holds
  512 tokens; its second point adds the two halves of the product, writes the tokens' gradient and adds their share to the
  gradient of the gains, which stays in one block over the whole grid.
-/
module

public import proofs.«01_k».proof.Proof.UpDxLift
public import Idealize.ShloMosaic.Lib.StableHlo.Run

@[expose] public section

set_option maxRecDepth 16384

noncomputable section

namespace Cert.UpDxArray

open Cert.UpDxIdeal Cert.UpDxIdeal.Gen Cert.UpDxIdeal.Value Cert.UpDxMath Cert.UpDxLift Cert.AttnMath
open Idealize.ShloMosaic Idealize.ShloMosaic.TcCoe Idealize.SL.Sem

variable (m : (ℓ : Loc nD τ sig) → Buf (Elt Ideal) ℓ) (c : Dev nD)

/-- The arguments hold these extended reals. -/
structure Holds (x e : ℕ → Fin 1024 → EReal) (g : Fin 1024 → EReal) (w : Fin 1024 → Fin 4096 → EReal) (p : ℕ → Fin 4096 → EReal) : Prop where
  x : ∀ (i : Fin 8192) (j : Fin 1024), ((m ((c : Thread nD τ).loc main_arg0) : Vec Ideal S8192x1024 .f32) (ix2 i j) : EReal) = (x i.val j : EReal)
  g : ∀ j : Fin 1024, ((m ((c : Thread nD τ).loc main_arg1) : Vec Ideal S1024 .f32) (ix1 j) : EReal) = (g j : EReal)
  w : ∀ (j : Fin 1024) (k : Fin 4096), ((m ((c : Thread nD τ).loc main_arg2) : Vec Ideal S1024x4096 .bf16) (ix2 j k) : EReal) = (w j k : EReal)
  p : ∀ (i : Fin 8192) (k : Fin 4096), ((m ((c : Thread nD τ).loc main_arg3) : Vec Ideal S8192x4096 .bf16) (ix2 i k) : EReal) = (p i.val k : EReal)
  e : ∀ (i : Fin 8192) (j : Fin 1024), ((m ((c : Thread nD τ).loc main_arg4) : Vec Ideal S8192x1024 .f32) (ix2 i j) : EReal) = (e i.val j : EReal)

/-! ### Where the blocks lie -/

theorem idx : ∀ t : Fin cfg0.N, (win0_0.index t 0 = t.val / 2 ∧ win0_0.index t 1 = t.val % 2)
    ∧ (win0_1.index t 0 = 0 ∧ win0_1.index t 1 = t.val % 2) ∧ (win0_2.index t 0 = t.val / 2 ∧ win0_2.index t 1 = 0)
    ∧ (win0_3.index t 0 = t.val / 2 ∧ win0_3.index t 1 = 0) ∧ (win0_4.index t 0 = 0 ∧ win0_4.index t 1 = 0)
    ∧ (win0_5.index t 0 = t.val / 2 ∧ win0_5.index t 1 = 0) ∧ (win0_6.index t 0 = t.val / 2 ∧ win0_6.index t 1 = 0)
    ∧ (win0_7.index t 0 = 0 ∧ win0_7.index t 1 = 0) :=
  (by decide +kernel : ∀ t : Fin grid0.N, (win0_0.index t 0 = t.val / 2 ∧ win0_0.index t 1 = t.val % 2)
    ∧ (win0_1.index t 0 = 0 ∧ win0_1.index t 1 = t.val % 2) ∧ (win0_2.index t 0 = t.val / 2 ∧ win0_2.index t 1 = 0)
    ∧ (win0_3.index t 0 = t.val / 2 ∧ win0_3.index t 1 = 0) ∧ (win0_4.index t 0 = 0 ∧ win0_4.index t 1 = 0)
    ∧ (win0_5.index t 0 = t.val / 2 ∧ win0_5.index t 1 = 0) ∧ (win0_6.index t 0 = t.val / 2 ∧ win0_6.index t 1 = 0)
    ∧ (win0_7.index t 0 = 0 ∧ win0_7.index t 1 = 0))

theorem N_eq : cfg0.N = 32 := by decide

/-- The token of an element of point `t`'s blocks, and its lane of the hidden width. -/
abbrev tok (t : Fin cfg0.N) (r : Fin 512) : Fin 8192 := ⟨512 * (t.val / 2) + r.val, by have := t.isLt; have := N_eq; omega⟩
abbrev hid (t : Fin cfg0.N) (k : Fin 2048) : Fin 4096 := ⟨2048 * (t.val % 2) + k.val, by omega⟩

theorem iblk_0 (t : Fin cfg0.N) (r : Fin 512) (k : Fin 2048) :
    (iblk m c 0 t : Vec Ideal S512x2048 .bf16) (ix2 r k) = (V m c main_arg3 : Vec Ideal S8192x4096 .bf16) (ix2 (tok t r) (hid t k)) := by
  obtain ⟨e0, e1⟩ := (idx t).1
  unfold iblk
  rw [View.read_apply]
  show V m c main_arg3 _ = V m c main_arg3 _
  congr 1
  funext a
  apply Fin.ext
  match a with
  | ⟨0, _⟩ => show win0_0.index t 0 * 512 + 1 * r.val = 512 * (t.val / 2) + r.val; rw [e0]; omega
  | ⟨1, _⟩ => show win0_0.index t 1 * 2048 + 1 * k.val = 2048 * (t.val % 2) + k.val; rw [e1]; omega

theorem iblk_1 (t : Fin cfg0.N) (j : Fin 1024) (k : Fin 2048) :
    (iblk m c 1 t : Vec Ideal S1024x2048 .bf16) (ix2 j k) = (V m c main_arg2 : Vec Ideal S1024x4096 .bf16) (ix2 j (hid t k)) := by
  obtain ⟨e0, e1⟩ := (idx t).2.1
  unfold iblk
  rw [View.read_apply]
  show V m c main_arg2 _ = V m c main_arg2 _
  congr 1
  funext a
  apply Fin.ext
  match a with
  | ⟨0, _⟩ => show win0_1.index t 0 * 1024 + 1 * j.val = j.val; rw [e0]; omega
  | ⟨1, _⟩ => show win0_1.index t 1 * 2048 + 1 * k.val = 2048 * (t.val % 2) + k.val; rw [e1]; omega

theorem iblk_2 (t : Fin cfg0.N) (r : Fin 512) (j : Fin 1024) :
    (iblk m c 2 t : Vec Ideal S512x1024 .f32) (ix2 r j) = (V m c main_arg0 : Vec Ideal S8192x1024 .f32) (ix2 (tok t r) j) := by
  obtain ⟨e0, e1⟩ := (idx t).2.2.1
  unfold iblk
  rw [View.read_apply]
  show V m c main_arg0 _ = V m c main_arg0 _
  congr 1
  funext a
  apply Fin.ext
  match a with
  | ⟨0, _⟩ => show win0_2.index t 0 * 512 + 1 * r.val = 512 * (t.val / 2) + r.val; rw [e0]; omega
  | ⟨1, _⟩ => show win0_2.index t 1 * 1024 + 1 * j.val = j.val; rw [e1]; omega

theorem iblk_3 (t : Fin cfg0.N) (r : Fin 512) (j : Fin 1024) :
    (iblk m c 3 t : Vec Ideal S512x1024 .f32) (ix2 r j) = (V m c main_arg4 : Vec Ideal S8192x1024 .f32) (ix2 (tok t r) j) := by
  obtain ⟨e0, e1⟩ := (idx t).2.2.2.1
  unfold iblk
  rw [View.read_apply]
  show V m c main_arg4 _ = V m c main_arg4 _
  congr 1
  funext a
  apply Fin.ext
  match a with
  | ⟨0, _⟩ => show win0_3.index t 0 * 512 + 1 * r.val = 512 * (t.val / 2) + r.val; rw [e0]; omega
  | ⟨1, _⟩ => show win0_3.index t 1 * 1024 + 1 * j.val = j.val; rw [e1]; omega

theorem iblk_4 (t : Fin cfg0.N) (j : Fin 1024) :
    (iblk m c 4 t : Vec Ideal S1x1024 .f32) (ix2 0 j) = (V m c main_v0 : Vec Ideal S1x1024 .f32) (ix2 0 j) := by
  obtain ⟨e0, e1⟩ := (idx t).2.2.2.2.1
  unfold iblk
  rw [View.read_apply]
  show V m c main_v0 _ = V m c main_v0 _
  congr 1
  funext a
  apply Fin.ext
  match a with
  | ⟨0, _⟩ => show win0_4.index t 0 * 1 + 1 * 0 = 0; rw [e0]
  | ⟨1, _⟩ => show win0_4.index t 1 * 1024 + 1 * j.val = j.val; rw [e1]; omega

theorem emb_5 (t : Fin cfg0.N) (r : Fin 512) (j : Fin 1024) :
    (((cfg0.win 5).blk t).view.emb (ix2 r j) : S8192x1024.Idx) = ix2 (tok t r) j := by
  obtain ⟨e0, e1⟩ := (idx t).2.2.2.2.2.1
  funext a
  apply Fin.ext
  match a with
  | ⟨0, _⟩ => show win0_5.index t 0 * 512 + 1 * r.val = 512 * (t.val / 2) + r.val; rw [e0]; omega
  | ⟨1, _⟩ => show win0_5.index t 1 * 1024 + 1 * j.val = j.val; rw [e1]; omega

theorem emb_6 (t : Fin cfg0.N) (r : Fin 512) (j : Fin 1024) :
    (((cfg0.win 6).blk t).view.emb (ix2 r j) : S8192x1024.Idx) = ix2 (tok t r) j := by
  obtain ⟨e0, e1⟩ := (idx t).2.2.2.2.2.2.1
  funext a
  apply Fin.ext
  match a with
  | ⟨0, _⟩ => show win0_6.index t 0 * 512 + 1 * r.val = 512 * (t.val / 2) + r.val; rw [e0]; omega
  | ⟨1, _⟩ => show win0_6.index t 1 * 1024 + 1 * j.val = j.val; rw [e1]; omega

theorem emb_7 (t : Fin cfg0.N) (z : Fin 1) (j : Fin 1024) :
    (((cfg0.win 7).blk t).view.emb (ix2 z j) : S1x1024.Idx) = ix2 z j := by
  obtain ⟨e0, e1⟩ := (idx t).2.2.2.2.2.2.2
  funext a
  apply Fin.ext
  match a with
  | ⟨0, _⟩ => show win0_7.index t 0 * 1 + 1 * z.val = z.val; rw [e0]; omega
  | ⟨1, _⟩ => show win0_7.index t 1 * 1024 + 1 * j.val = j.val; rw [e1]; omega

/-- The gains, laid out as one row before the call. -/
theorem gains_row (j : Fin 1024) :
    (V m c main_v0 : Vec Ideal S1x1024 .f32) (ix2 0 j) = (m ((c : Thread nD τ).loc main_arg1) : Vec Ideal S1024 .f32) (ix1 j) := by
  have h : V m c main_v0 = (shapeCast S1x1024 (m ((c : Thread nD τ).loc main_arg1) : Vec Ideal S1024 .f32) shapeCasts_S1024_S1x1024 : Vec Ideal S1x1024 .f32) := by
    show StableHlo.after (List.flatten [hostOps0]) _ (Proc.devRef .tc main_v0) = _
    simp only [hostOps0, List.flatten_cons, List.flatten_nil, List.append_nil, List.cons_append, List.nil_append]
    after_results_simp <;> rfl
  rw [h]
  generalize (m ((c : Thread nD τ).loc main_arg1) : Vec Ideal S1024 .f32) = y
  pointwise

/-! ### What a pair of points leaves -/

/-- Entries as extended reals, and one term of the product of `d_pre` with the transpose of `w1`. -/
abbrev at_ (D : Vec Ideal S8192x4096 .bf16) (i : S8192x4096.Idx) : EReal := D i
abbrev at_' (W : Vec Ideal S1024x4096 .bf16) (i : S1024x4096.Idx) : EReal := W i
def term (D : Vec Ideal S8192x4096 .bf16) (W : Vec Ideal S1024x4096 .bf16) (i : Fin 8192) (j : Fin 1024) (k : Fin 4096) : EReal :=
  at_ D (ix2 i k) * at_' W (ix2 j k)

section
variable {m c} {x e : ℕ → Fin 1024 → EReal} {g : Fin 1024 → EReal} {w : Fin 1024 → Fin 4096 → EReal} {p : ℕ → Fin 4096 → EReal} (H : Holds m c x e g w p)
include H

theorem p_at (i : Fin 8192) (k : Fin 4096) : ((V m c main_arg3 : Vec Ideal S8192x4096 .bf16) (ix2 i k) : EReal) = (p i.val k : EReal) := by
  rw [V_main_arg3]; exact H.p i k

theorem w_at (j : Fin 1024) (k : Fin 4096) : ((V m c main_arg2 : Vec Ideal S1024x4096 .bf16) (ix2 j k) : EReal) = (w j k : EReal) := by
  rw [V_main_arg2]; exact H.w j k

/-- The two halves of the product add up to the whole. -/
theorem halves (t : Fin cfg0.N) (ht : t.val % 2 = 1) (r : Fin 512) (j : Fin 1024) :
    (((outsAt0 m c (t.val - 1) (Nat.lt_of_le_of_lt (Nat.sub_le _ _) t.isLt)).2.2.2 (ix2 r j) : EReal)
      + (k0_pay1 (iblk m c 0 t) (iblk m c 1 t) (ix2 r j) : EReal)) = (into p w (512 * (t.val / 2) + r.val) j : EReal) := by
  have hlt : t.val - 1 < cfg0.N := lt_of_le_of_lt (Nat.sub_le _ _) t.isLt
  have hm : (t.val - 1) % 2 = 0 := by omega
  have hd : (t.val - 1) / 2 = t.val / 2 := by omega
  rw [outsAt0_A m c ⟨t.val - 1, hlt⟩ hm (by dsimp only; omega)]
  dsimp only
  rw [scratch_A, pay2_apply, pay1_apply]
  refine (Cert.BlockSum.halves_fin 2048 4096 rfl (term (V m c main_arg3) (V m c main_arg2) (tok t r) j) _ _ (fun k => ?_) (fun k => ?_)).trans ?_
  · rw [iblk_0, iblk_1]
    refine congrArg₂ (fun (a : S8192x4096.Idx) (b : S1024x4096.Idx) =>
        at_ (V m c main_arg3) a * at_' (V m c main_arg2) b) (congrArg₂ ix2 (Fin.ext ?_) (Fin.ext ?_)) (congrArg (ix2 j) (Fin.ext ?_))
    all_goals simp [hm, hd]
  · rw [iblk_0, iblk_1]
    refine congrArg₂ (fun (a : S8192x4096.Idx) (b : S1024x4096.Idx) =>
        at_ (V m c main_arg3) a * at_' (V m c main_arg2) b) (congrArg (ix2 _) (Fin.ext ?_)) (congrArg (ix2 j) (Fin.ext ?_))
    all_goals simp [ht]
  · exact Finset.sum_congr rfl fun k _ => congrArg₂ (fun a b : EReal => a * b) (p_at H (tok t r) k) (w_at H j k)

theorem x_blk (t : Fin cfg0.N) (r : Fin 512) (j : Fin 1024) :
    ((iblk m c 2 t : Vec Ideal S512x1024 .f32) (ix2 r j) : EReal) = (x (512 * (t.val / 2) + r.val) j : EReal) := by
  rw [iblk_2, V_main_arg0]; exact H.x _ j

theorem e_blk (t : Fin cfg0.N) (r : Fin 512) (j : Fin 1024) :
    ((iblk m c 3 t : Vec Ideal S512x1024 .f32) (ix2 r j) : EReal) = (e (512 * (t.val / 2) + r.val) j : EReal) := by
  rw [iblk_3, V_main_arg4]; exact H.e _ j

theorem g_blk (t : Fin cfg0.N) (j : Fin 1024) : ((iblk m c 4 t : Vec Ideal S1x1024 .f32) (ix2 0 j) : EReal) = (g j : EReal) := by
  rw [iblk_4, gains_row]; exact H.g j

/-- The gradient of one token, with what the residual branch adds. -/
theorem tokens (t : Fin cfg0.N) (ht : t.val % 2 = 1) (r : Fin 512) (j : Fin 1024) :
    ((outsAt0 m c t.val t.isLt).1 (ix2 r j) : EReal)
        = (back (x (512 * (t.val / 2) + r.val)) g (into p w (512 * (t.val / 2) + r.val)) j + e (512 * (t.val / 2) + r.val) j : EReal)
      ∧ ((outsAt0 m c t.val t.isLt).2.1 (ix2 r j) : EReal)
        = (back (x (512 * (t.val / 2) + r.val)) g (into p w (512 * (t.val / 2) + r.val)) j + e (512 * (t.val / 2) + r.val) j : EReal) := by
  have h := pay8_lift (halves H t ht) (x_blk H t) (e_blk H t) (g_blk H t) r j
  by_cases h2 : t.val < 2
  · rw [outsAt0_B m c t (by omega) ht h2 (by omega)]
    dsimp only
    rw [out_B_5, out_B_6]
    exact ⟨h, h⟩
  · rw [outsAt0_C m c t (by omega) ht h2 (by omega)]
    dsimp only
    rw [out_C_5, out_C_6]
    exact ⟨h, h⟩

end

variable {m c} {x e : ℕ → Fin 1024 → EReal} {g : Fin 1024 → EReal} {w : Fin 1024 → Fin 4096 → EReal} {p : ℕ → Fin 4096 → EReal}

/-- What one pair of points adds to the gradient of the gains. -/
theorem pair (H : Holds m c x e g w p) (n : ℕ) (hn : 2 * n + 1 < cfg0.N) (z : Fin 1) (j : Fin 1024) :
    (k0_pay9 (k0_pay1 (iblk m c 0 ⟨2 * n + 1, hn⟩) (iblk m c 1 ⟨2 * n + 1, hn⟩))
        (outsAt0 m c (2 * n + 1 - 1) (Nat.lt_of_le_of_lt (Nat.sub_le _ _) hn)).2.2.2 (iblk m c 2 ⟨2 * n + 1, hn⟩) (ix2 z j) : EReal)
      = (∑ r : Fin 512, into p w (512 * n + r.val) j * (x (512 * n + r.val) j * rstd (x (512 * n + r.val))) : EReal) := by
  have h := pay9_lift (halves H ⟨2 * n + 1, hn⟩ (by dsimp only; omega)) (x_blk H ⟨2 * n + 1, hn⟩) z j
  have hq : (2 * n + 1) / 2 = n := by omega
  simp only [hq] at h
  exact h

/-- The gradient of the gains after a pair of points: over the tokens so far. -/
theorem running (H : Holds m c x e g w p) (n : ℕ) (hn : 2 * n + 1 < cfg0.N) (z : Fin 1) (j : Fin 1024) :
    ((outsAt0 m c (2 * n + 1) hn).2.2.1 (ix2 z j) : EReal) = (gains x (into p w) (512 * (n + 1)) j : EReal) := by
  induction n with
  | zero =>
    rw [outsAt0_B m c ⟨2 * 0 + 1, hn⟩ (by simp) (by simp) (by simp) (by simp)]
    dsimp only
    rw [out_B_7]
    refine (pair H 0 hn z j).trans ?_
    rw [← gains_step]
    simp [gains]
  | succ n ih =>
    have hn' : 2 * n + 1 < cfg0.N := by omega
    have hc : (outsAt0 m c (2 * (n + 1) + 1 - 1) (Nat.lt_of_le_of_lt (Nat.sub_le _ _) hn)).2.2.1 = (outsAt0 m c (2 * n + 1) hn').2.2.1 := by
      rw [outsAt0_A m c ⟨2 * (n + 1) + 1 - 1, Nat.lt_of_le_of_lt (Nat.sub_le _ _) hn⟩ (by dsimp only; omega) (by dsimp only; omega)]
      rfl
    rw [outsAt0_C m c ⟨2 * (n + 1) + 1, hn⟩ (by dsimp only; omega) (by dsimp only; omega) (by dsimp only; omega) (by dsimp only; omega)]
    dsimp only
    rw [out_C_7, pay4_apply, pair H (n + 1) hn z j, hc, ih hn', gains_step]

/-! ### The arrays when the call is over -/

/-- The gradient of every token, and that of the gains. -/
def wholeX (x e : ℕ → Fin 1024 → EReal) (g : Fin 1024 → EReal) (w : Fin 1024 → Fin 4096 → EReal) (p : ℕ → Fin 4096 → EReal) : Vec Ideal S8192x1024 .f32 :=
  fun y => (back (x (y 0).val) g (into p w (y 0).val) (y 1) + e (y 0).val (y 1) : EReal)
def wholeX16 (x e : ℕ → Fin 1024 → EReal) (g : Fin 1024 → EReal) (w : Fin 1024 → Fin 4096 → EReal) (p : ℕ → Fin 4096 → EReal) : Vec Ideal S8192x1024 .bf16 :=
  wholeX x e g w p
def wholeG (x : ℕ → Fin 1024 → EReal) (w : Fin 1024 → Fin 4096 → EReal) (p : ℕ → Fin 4096 → EReal) : Vec Ideal S1x1024 .f32 :=
  fun y => (gains x (into p w) 8192 (y 1) : EReal)

/-- The last point of a token's pair. -/
abbrev owner (a : Fin 8192) : Fin cfg0.N := ⟨2 * (a.val / 512) + 1, by have := a.isLt; have := N_eq; omega⟩

theorem tok_owner (a : Fin 8192) : tok (owner a) ⟨a.val % 512, Nat.mod_lt _ (by decide)⟩ = a :=
  Fin.ext (by show 512 * ((2 * (a.val / 512) + 1) / 2) + a.val % 512 = a.val; omega)

theorem final_5 (H : Holds m c x e g w p) : (dats m 0 c).arrAt 5 cfg0.N = wholeX x e g w p := by
  refine (dats m 0 c).arrAt_eq_of_cover 5 _ (fun t hf => ?_) (fun i => ?_)
  · rw [flushed5]
    funext y
    obtain ⟨r, j, rfl⟩ : ∃ (r : Fin 512) (j : Fin 1024), y = (ix2 r j : S512x1024.Idx) := ⟨y 0, y 1, eq_ix2 y⟩
    rw [View.read_apply]
    exact (tokens H t ((flush0_5 t).mp hf) r j).1.trans (congrArg (wholeX x e g w p) (emb_5 t r j)).symm
  · obtain ⟨a, b, rfl⟩ : ∃ (a : Fin 8192) (b : Fin 1024), i = (ix2 a b : S8192x1024.Idx) := ⟨i 0, i 1, eq_ix2 i⟩
    refine ⟨owner a, (flush0_5 _).mpr (by dsimp only; omega), ?_⟩
    have he : (ix2 a b : S8192x1024.Idx) = ((cfg0.win 5).blk (owner a)).view.emb (ix2 ⟨a.val % 512, Nat.mod_lt _ (by decide)⟩ b) := by
      rw [emb_5, tok_owner]
    rw [he]
    exact View.emb_mem_set _ _

theorem final_6 (H : Holds m c x e g w p) : (dats m 0 c).arrAt 6 cfg0.N = wholeX16 x e g w p := by
  refine (dats m 0 c).arrAt_eq_of_cover 6 _ (fun t hf => ?_) (fun i => ?_)
  · rw [flushed6]
    funext y
    obtain ⟨r, j, rfl⟩ : ∃ (r : Fin 512) (j : Fin 1024), y = (ix2 r j : S512x1024.Idx) := ⟨y 0, y 1, eq_ix2 y⟩
    rw [View.read_apply]
    exact (tokens H t ((flush0_6 t).mp hf) r j).2.trans (congrArg (wholeX16 x e g w p) (emb_6 t r j)).symm
  · obtain ⟨a, b, rfl⟩ : ∃ (a : Fin 8192) (b : Fin 1024), i = (ix2 a b : S8192x1024.Idx) := ⟨i 0, i 1, eq_ix2 i⟩
    refine ⟨owner a, (flush0_6 _).mpr (by dsimp only; omega), ?_⟩
    have he : (ix2 a b : S8192x1024.Idx) = ((cfg0.win 6).blk (owner a)).view.emb (ix2 ⟨a.val % 512, Nat.mod_lt _ (by decide)⟩ b) := by
      rw [emb_6, tok_owner]
    rw [he]
    exact View.emb_mem_set _ _

theorem final_7 (H : Holds m c x e g w p) : (dats m 0 c).arrAt 7 cfg0.N = wholeG x w p := by
  refine (dats m 0 c).arrAt_eq_of_cover 7 _ (fun t hf => ?_) (fun i => ?_)
  · have ht : t.val = 2 * 15 + 1 := by have := (flush0_7 t).mp hf; have := t.isLt; have := N_eq; omega
    obtain ⟨n, hn⟩ := t
    dsimp only at ht
    subst ht
    rw [flushed7]
    funext y
    obtain ⟨z, j, rfl⟩ : ∃ (z : Fin 1) (j : Fin 1024), y = (ix2 z j : S1x1024.Idx) := ⟨y 0, y 1, eq_ix2 y⟩
    rw [View.read_apply]
    exact (running H 15 hn z j).trans (congrArg (wholeG x w p) (emb_7 ⟨2 * 15 + 1, hn⟩ z j)).symm
  · obtain ⟨a, b, rfl⟩ : ∃ (a : Fin 1) (b : Fin 1024), i = (ix2 a b : S1x1024.Idx) := ⟨i 0, i 1, eq_ix2 i⟩
    have ht : 31 < cfg0.N := by have := N_eq; omega
    exact ⟨⟨31, ht⟩, (flush0_7 _).mpr rfl, Eq.subst (motive := fun x : S1x1024.Idx => x ∈ ((cfg0.win 7).blk ⟨31, ht⟩).view.set)
      (emb_7 ⟨31, ht⟩ a b) (View.emb_mem_set _ _)⟩

end Cert.UpDxArray

end
-- ==== Proof.UpDxRef.lean ====
/-
  The reference's gradient at the normed input, on extended reals, stage by stage: the mean of squares, its reciprocal root, the
  product with the transpose of `w1`, and the derivative of the norm that the chain rule writes out.
-/
module

public import proofs.«01_k».proof.Proof.UpDxMath
public import proofs.«01_k».proof.Proof.Gen.UpDxRefIdeal.Read

@[expose] public section

set_option maxRecDepth 16384

noncomputable section

namespace Cert.UpDxRef

open Cert.UpDxRefIdeal Cert.UpDxRefIdeal.Gen Cert.UpDxRefIdeal.Read Cert.AttnMath Cert.UpDxMath
open Idealize.ShloMosaic Idealize.ShloMosaic.TcCoe Idealize.SL.Sem

variable {x0 x4 : Vec Ideal S8192x1024 .f32} {x1 : Vec Ideal S1024 .f32} {x2 : Vec Ideal S1024x4096 .bf16} {x3 : Vec Ideal S8192x4096 .bf16}
  {x e : ℕ → Fin 1024 → EReal} {g : Fin 1024 → EReal} {w : Fin 1024 → Fin 4096 → EReal} {p : ℕ → Fin 4096 → EReal}
  (hx : ∀ (i : Fin 8192) j, (x0 (ix2 i j) : EReal) = (x i.val j : EReal)) (hg : ∀ j, (x1 (ix1 j) : EReal) = (g j : EReal))
  (hw : ∀ j k, (x2 (ix2 j k) : EReal) = (w j k : EReal)) (hp : ∀ (i : Fin 8192) k, (x3 (ix2 i k) : EReal) = (p i.val k : EReal))
  (he : ∀ (i : Fin 8192) j, (x4 (ix2 i j) : EReal) = (e i.val j : EReal))

section
include hx

theorem mean_read (i : Fin 8192) : val_main_v8 (F := Ideal) x0 (ix2 i 0) = (mean (x i.val) : EReal) := by
  pointwise [val_main_v8, val_main_v7, val_main_cst_1, val_main_v6, val_main_v5, val_main_cst_0, val_main_v4, val_main_v3, val_main_cst, val_main_v2]
  simp only [hx, word_1024, eps_eq]
  rfl

theorem rstd_read (i : Fin 8192) : val_main_v9 (F := Ideal) x0 (ix2 i 0) = (rstd (x i.val) : EReal) := by
  rw [val_main_v9_apply, mean_read hx]
  rfl

theorem slope_read (i : Fin 8192) : val_main_v12 (F := Ideal) x0 (ix2 i 0) = slope (x i.val) := by
  rw [val_main_v12_apply, val_main_v10_apply, mean_read hx, rstd_read hx]
  pointwise [val_main_v11, val_main_cst_2]
  rw [word_minus_half]
  rfl

end

section
include hw hp

theorem into_read (i : Fin 8192) (j : Fin 1024) : val_main_v19 (F := Ideal) x2 x3 (ix2 i j) = (into p w i.val j : EReal) := by
  pointwise [val_main_v19, val_main_v1, val_main_v0]
  simp only [hw, hp]
  rfl

end

section
include hx hw hp

theorem gain_read (j : Fin 1024) : val_main_v42 (F := Ideal) x0 x2 x3 (ix2 0 j) = (gains x (into p w) 8192 j : EReal) := by
  pointwise [val_main_v42, val_main_v25, val_main_cst_4, val_main_v22, val_main_v21, val_main_cst_3, val_main_v20, val_main_v14, val_main_v13]
  simp only [hx, rstd_read hx, into_read hw hp, gains_all]
  exact Fin.sum_univ_one _

end

section
include hx hg hw hp

theorem share_read (i : Fin 8192) : val_main_v33 (F := Ideal) x0 x1 x2 x3 (ix2 i 0) = (share (x i.val) g (into p w i.val) : EReal) := by
  pointwise [val_main_v33, val_main_v32, val_main_cst_6, val_main_v31, val_main_v28, val_main_v27, val_main_cst_5, val_main_v26, val_main_v24, val_main_v23, val_main_v15]
  simp only [hx, hg, slope_read hx, into_read hw hp, word_1024]
  rfl

include he

theorem token_read (i : Fin 8192) (j : Fin 1024) : val_main_v40 (F := Ideal) x0 x1 x2 x3 x4 (ix2 i j)
    = (back (x i.val) g (into p w i.val) j + e i.val j : EReal) := by
  pointwise [val_main_v40, val_main_v39, val_main_v38, val_main_v37, val_main_v36, val_main_v35, val_main_v34, val_main_cst_7, val_main_v30, val_main_v29, val_main_v24, val_main_v23, val_main_v15]
  simp only [Finset.univ_unique, Finset.sum_singleton, Fin.default_eq_zero, hx, hg, he, rstd_read hx, into_read hw hp, share_read hx hg hw hp]
  rw [back_eq]

end

end Cert.UpDxRef

end
-- ==== Proof.UpDxClaim.lean ====
/-
  The claims on the gradient at the normed input, each from one run of its program.
-/
module

public import proofs.«01_k».proof.Defs
public import proofs.«01_k».proof.Proof.UpDxArray
public import proofs.«01_k».proof.Proof.UpDxRef
public import proofs.«01_k».proof.Proof.Gen.UpDxRefIdeal.Run
public import proofs.«01_k».proof.Proof.Gen.UpDx.Frame

@[expose] public section

set_option maxRecDepth 16384

noncomputable section

namespace Cert.UpDxClaim

open Idealize.ShloMosaic Idealize.ShloMosaic.TcCoe Idealize.SL.Sem

theorem frame_kernel : Cert.quiescent_UpDx := fun m ρ _ => Cert.UpDx.Gen.frame m ρ

theorem frame_ideal : Cert.quiescent_UpDxIdeal := fun m ρ _ => Cert.UpDxIdeal.Gen.frame m ρ

theorem frame_reference : Cert.quiescent_UpDxRefIdeal := fun m ρ _ =>
  (θ_run Cert.UpDxRefIdeal.defs _ _).mono (fun r h => ⟨fun c => (h c).2.2.2, sem_eq_zero_of_no_sems (by decide) r.2⟩)
    (Cert.UpDxRefIdeal.Value.run m ρ)

/-- The arguments hold their own entries; rows past the last one are told as 0. -/
theorem holds (m : (ℓ : Loc UpDxIdeal.nD UpDxIdeal.τ UpDxIdeal.sig) → Buf (Elt Ideal) ℓ) (c : Dev UpDxIdeal.nD) :
    ∃ (x : ℕ → Fin 1024 → EReal) (e : ℕ → Fin 1024 → EReal) (g : Fin 1024 → EReal) (w : Fin 1024 → Fin 4096 → EReal) (p : ℕ → Fin 4096 → EReal),
      UpDxArray.Holds m c x e g w p := by
  let x0 : Vec Ideal ⟨2, ![8192, 1024]⟩ .f32 := m ((c.tc : Thread UpDxIdeal.nD UpDxIdeal.τ).loc UpDxIdeal.main_arg0)
  let x1 : Vec Ideal ⟨1, ![1024]⟩ .f32 := m ((c.tc : Thread UpDxIdeal.nD UpDxIdeal.τ).loc UpDxIdeal.main_arg1)
  let x2 : Vec Ideal ⟨2, ![1024, 4096]⟩ .bf16 := m ((c.tc : Thread UpDxIdeal.nD UpDxIdeal.τ).loc UpDxIdeal.main_arg2)
  let x3 : Vec Ideal ⟨2, ![8192, 4096]⟩ .bf16 := m ((c.tc : Thread UpDxIdeal.nD UpDxIdeal.τ).loc UpDxIdeal.main_arg3)
  let x4 : Vec Ideal ⟨2, ![8192, 1024]⟩ .f32 := m ((c.tc : Thread UpDxIdeal.nD UpDxIdeal.τ).loc UpDxIdeal.main_arg4)
  exact ⟨fun i j => if hi : i < 8192 then (x0 (ix2 ⟨i, hi⟩ j) : EReal) else 0,
    fun i j => if hi : i < 8192 then (x4 (ix2 ⟨i, hi⟩ j) : EReal) else 0,
    fun j => x1 (ix1 j),
    fun j k => x2 (ix2 j k),
    fun i j => if hi : i < 8192 then (x3 (ix2 ⟨i, hi⟩ j) : EReal) else 0,
    ⟨fun i j => (dif_pos (t := fun h => (x0 (ix2 ⟨i.val, h⟩ j) : EReal)) i.isLt).symm, fun _ => rfl, fun _ _ => rfl, fun i j => (dif_pos (t := fun h => (x3 (ix2 ⟨i.val, h⟩ j) : EReal)) i.isLt).symm, fun i j => (dif_pos (t := fun h => (x4 (ix2 ⟨i.val, h⟩ j) : EReal)) i.isLt).symm⟩⟩

section
variable {x0 x4 : Vec Ideal Cert.UpDxRefIdeal.S8192x1024 .f32} {x1 : Vec Ideal Cert.UpDxRefIdeal.S1024 .f32}
  {x2 : Vec Ideal Cert.UpDxRefIdeal.S1024x4096 .bf16} {x3 : Vec Ideal Cert.UpDxRefIdeal.S8192x4096 .bf16}
  {x e : ℕ → Fin 1024 → EReal} {g : Fin 1024 → EReal} {w : Fin 1024 → Fin 4096 → EReal} {p : ℕ → Fin 4096 → EReal}
  (hx : ∀ (i : Fin 8192) j, (x0 (ix2 i j) : EReal) = (x i.val j : EReal)) (hg : ∀ j, (x1 (ix1 j) : EReal) = (g j : EReal))
  (hw : ∀ j k, (x2 (ix2 j k) : EReal) = (w j k : EReal)) (hp : ∀ (i : Fin 8192) k, (x3 (ix2 i k) : EReal) = (p i.val k : EReal))
  (he : ∀ (i : Fin 8192) j, (x4 (ix2 i j) : EReal) = (e i.val j : EReal))

section
include hx hg hw hp he

theorem ref_x : Cert.UpDxRefIdeal.Read.val_main_v40 (F := Ideal) x0 x1 x2 x3 x4 = UpDxArray.wholeX x e g w p := by
  funext y
  obtain ⟨i, j, rfl⟩ : ∃ (i : Fin 8192) (j : Fin 1024), y = ix2 i j := ⟨y 0, y 1, eq_ix2 y⟩
  exact UpDxRef.token_read hx hg hw hp he i j

theorem ref_x16 : Cert.UpDxRefIdeal.Read.val_main_v41 (F := Ideal) x0 x1 x2 x3 x4 = UpDxArray.wholeX16 x e g w p :=
  ref_x hx hg hw hp he

end

include hx hw hp in
theorem ref_g : Cert.UpDxRefIdeal.Read.val_main_v42 (F := Ideal) x0 x2 x3 = UpDxArray.wholeG x w p := by
  funext y
  obtain ⟨i, j, rfl⟩ : ∃ (i : Fin 1) (j : Fin 1024), y = ix2 i j := ⟨y 0, y 1, eq_ix2 y⟩
  obtain rfl : i = 0 := Subsingleton.elim _ _
  exact UpDxRef.gain_read hx hw hp j

end

theorem algebraic : Cert.algebraic_UpDxIdeal_UpDxRefIdeal := by
  intro m g m' g' _ hagree
  choose x e d w p H using fun c => holds m c
  refine ⟨fun c => UpDxArray.wholeX (x c) (e c) (d c) (w c) (p c), fun c => UpDxArray.wholeX16 (x c) (e c) (d c) (w c) (p c),
    fun c => UpDxArray.wholeG (x c) (w c) (p c), ?_, ?_⟩
  · refine (θ_run Cert.UpDxIdeal.defs _ _).mono (fun r h c => ?_) (Cert.UpDxIdeal.Value.run_blocks m g)
    obtain ⟨h5, h6, h7, h0⟩ := h c
    exact ⟨h5.trans (UpDxArray.final_5 (H c)), h6.trans (UpDxArray.final_6 (H c)), h7.trans (UpDxArray.final_7 (H c)), h0⟩
  · refine (θ_run Cert.UpDxRefIdeal.defs _ _).mono (fun r h c => ?_) (Cert.UpDxRefIdeal.Value.run m' g')
    obtain ⟨h5, h6, h7, h0⟩ := h c
    obtain ⟨a0, a1, a2, a3, a4⟩ := hagree c
    refine ⟨h5.trans ?_, h6.trans ?_, h7.trans ?_, h0⟩
    · rw [Cert.UpDxRefIdeal.Read.val_main_v40_eq, a0, a1, a2, a3, a4]
      exact ref_x (H c).x (H c).g (H c).w (H c).p (H c).e
    · rw [Cert.UpDxRefIdeal.Read.val_main_v41_eq, a0, a1, a2, a3, a4]
      exact ref_x16 (H c).x (H c).g (H c).w (H c).p (H c).e
    · rw [Cert.UpDxRefIdeal.Read.val_main_v42_eq, a0, a2, a3]
      exact ref_g (H c).x (H c).w (H c).p

end Cert.UpDxClaim

end
-- ==== Proof.InDwArray.lean ====
/-
  The gradient of the mixer's input projection. The array the call leaves: a pair of grid points holds one block of 1024 lanes of the
  result; the first point keeps the product over the first 4096 tokens, the second adds the other 4096 and writes the block.
-/
module

public import proofs.«01_k».proof.Proof.BlockSum
public import proofs.«01_k».proof.Proof.Gen.InDwIdeal.Value
public import Idealize.ShloMosaic.Lib.StableHlo.Run
public import Idealize.ShloMosaic.Lib.Tactic

@[expose] public section

set_option maxRecDepth 16384

noncomputable section

namespace Cert.InDwArray

open Cert.InDwIdeal Cert.InDwIdeal.Gen Cert.InDwIdeal.Value
open Idealize.ShloMosaic Idealize.ShloMosaic.TcCoe Idealize.SL.Sem

theorem hz : (![0, 0] : Fin 2 → Nat) = fun _ => 0 := funext fun a => by fin_cases a <;> rfl

/-! ### What a point computes from its blocks -/

/-- The product of the two blocks, contracted over their rows. -/
theorem pay1_apply (x0 x1 : Vec Ideal S4096x1024 .bf16) (r j : Fin 1024) :
    k0_pay1 x0 x1 (ix2 r j) = ∑ k : Fin 4096, (x0 (ix2 k r) : EReal) * (x1 (ix2 k j) : EReal) := by
  pointwise [k0_pay1]

theorem pay2_apply (x0 x1 : Vec Ideal S4096x1024 .bf16) (r j : Fin 1024) :
    k0_pay2 x0 x1 (ix2 r j) = ∑ k : Fin 4096, (x0 (ix2 k r) : EReal) * (x1 (ix2 k j) : EReal) := by
  unfold k0_pay2
  rw [shapeCast_self]
  exact pay1_apply x0 x1 r j

theorem pay4_apply (x0 x1 : Vec Ideal S4096x1024 .bf16) (acc : Vec Ideal S1024x1024 .f32) (r j : Fin 1024) :
    k0_pay4 x0 x1 acc (ix2 r j) = (acc (ix2 r j) : EReal) + ∑ k : Fin 4096, (x0 (ix2 k r) : EReal) * (x1 (ix2 k j) : EReal) := by
  rw [← pay1_apply x0 x1 r j]
  rfl

section
variable {F : FTy → Type} [FloatOps F]
  (c : Dev nD) (i : grid0.Coords) (a3 : Memref sig .tc .vmem S4096x1024 .bf16) (h3 : a3.IsWhole)
  (a4 : Memref sig .tc .vmem S4096x1024 .bf16) (h4 : a4.IsWhole) (a5 : Memref sig .tc .vmem S1024x1024 .bf16) (h5 : a5.IsWhole)
  (a6 : Memref sig .tc .vmem S1024x1024 .f32) (h6 : a6.IsWhole)
  (x0 x1 : Vec F S4096x1024 .bf16) (xs : Vec F S1024x1024 .f32)

/-- The first point of a pair leaves its product in the scratch. -/
theorem first (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_junk_eq_canon]
  unfold kernelRun0_A
  dsimp only
  rw [View.canon_unit_zero hz]
  simp only [View.readAt_eq_ld, h3.read_unread, h4.read_unread, View.ld_unit_zero (S := S4096x1024) hz]

/-- The second point writes the scratch plus its product. -/
theorem second (hc0 : ¬cond0_0 i) (hc1 : ¬cond0_1 i) (hc2 : cond0_2 i) :
    out0_B_2 c i a3 h3 a4 h4 a5 h5 a6 h6 hc0 hc1 hc2 x0 x1 xs = k0_pay4 x0 x1 xs := by
  unfold out0_B_2
  rw [View.read_writes_junk_eq_canon]
  unfold kernelRun0_B
  dsimp only
  rw [View.canon_unit_zero hz]
  simp only [View.readAt_eq_ld, h3.read_unread, h4.read_unread, h6.read_unread, View.ld_unit_zero (S := S4096x1024) hz,
    View.ld_unit_zero (S := S1024x1024) hz]

end

/-! ### Where the blocks lie -/

theorem idx : ∀ t : Fin cfg0.N, win0_0.index t 0 = t.val % 2 ∧ win0_0.index t 1 = 0
    ∧ win0_1.index t 0 = t.val % 2 ∧ win0_1.index t 1 = t.val / 2 ∧ win0_2.index t 0 = 0 ∧ win0_2.index t 1 = t.val / 2 :=
  (by decide +kernel : ∀ t : Fin grid0.N, win0_0.index t 0 = t.val % 2 ∧ win0_0.index t 1 = 0
    ∧ win0_1.index t 0 = t.val % 2 ∧ win0_1.index t 1 = t.val / 2 ∧ win0_2.index t 0 = 0 ∧ win0_2.index t 1 = t.val / 2)

theorem N_eq : cfg0.N = 8 := by decide

variable (m : (ℓ : Loc nD τ sig) → Buf (Elt Ideal) ℓ) (c : Dev nD)

/-- The token and the hidden lane of an element of point `t`'s blocks. -/
abbrev tok (t : Fin cfg0.N) (k : Fin 4096) : Fin 8192 := ⟨4096 * (t.val % 2) + k.val, by omega⟩
abbrev hid (t : Fin cfg0.N) (r : Fin 1024) : Fin 4096 := ⟨1024 * (t.val / 2) + r.val, by have := t.isLt; have := N_eq; omega⟩

/-- The two arrays the call multiplies. -/
abbrev lhs : Vec Ideal S8192x1024 .bf16 := V m c main_arg0
abbrev rhs : Vec Ideal S8192x4096 .bf16 := V m c main_arg1

theorem iblk_0 (t : Fin cfg0.N) (k : Fin 4096) (r : Fin 1024) :
    (iblk m c 0 t : Vec Ideal S4096x1024 .bf16) (ix2 k r) = lhs m c (ix2 (tok t k) r) := by
  obtain ⟨e0, e1, -⟩ := idx t
  unfold iblk
  rw [View.read_apply]
  show V m c main_arg0 _ = V m c main_arg0 _
  congr 1
  funext a
  apply Fin.ext
  match a with
  | ⟨0, _⟩ => show win0_0.index t 0 * 4096 + 1 * k.val = 4096 * (t.val % 2) + k.val; rw [e0]; omega
  | ⟨1, _⟩ => show win0_0.index t 1 * 1024 + 1 * r.val = r.val; rw [e1]; omega

theorem iblk_1 (t : Fin cfg0.N) (k : Fin 4096) (j : Fin 1024) :
    (iblk m c 1 t : Vec Ideal S4096x1024 .bf16) (ix2 k j) = rhs m c (ix2 (tok t k) (hid t j)) := by
  obtain ⟨-, -, e0, e1, -⟩ := idx t
  unfold iblk
  rw [View.read_apply]
  show V m c main_arg1 _ = V m c main_arg1 _
  congr 1
  funext a
  apply Fin.ext
  match a with
  | ⟨0, _⟩ => show win0_1.index t 0 * 4096 + 1 * k.val = 4096 * (t.val % 2) + k.val; rw [e0]; omega
  | ⟨1, _⟩ => show win0_1.index t 1 * 1024 + 1 * j.val = 1024 * (t.val / 2) + j.val; rw [e1]; omega

theorem emb (t : Fin cfg0.N) (r j : Fin 1024) :
    (((cfg0.win 2).blk t).view.emb (ix2 r j) : S1024x4096.Idx) = ix2 r (hid t j) := by
  obtain ⟨-, -, -, -, e0, e1⟩ := idx t
  funext a
  apply Fin.ext
  match a with
  | ⟨0, _⟩ => show win0_2.index t 0 * 1024 + 1 * r.val = r.val; rw [e0]; omega
  | ⟨1, _⟩ => show win0_2.index t 1 * 1024 + 1 * j.val = 1024 * (t.val / 2) + j.val; rw [e1]; omega

/-! ### The whole array -/

/-- The product over all tokens. -/
def whole : Vec Ideal S1024x4096 .bf16 := fun y =>
  (∑ k : Fin 8192, (lhs m c (ix2 k (y 0)) : EReal) * (rhs m c (ix2 k (y 1)) : EReal) : EReal)

theorem whole_apply (r : Fin 1024) (j : Fin 4096) :
    whole m c (ix2 r j) = ∑ k : Fin 8192, (lhs m c (ix2 k r) : EReal) * (rhs m c (ix2 k j) : EReal) := rfl

/-- What a pair of points writes: its block of the product. -/
theorem written (t : Fin cfg0.N) (ht : t.val % 2 = 1) (r j : Fin 1024) :
    (outsAt0 m c t.val t.isLt).1 (ix2 r j) = whole m c (ix2 r (hid t j)) := by
  have hlt : t.val - 1 < cfg0.N := lt_of_le_of_lt (Nat.sub_le _ _) t.isLt
  have hm : (t.val - 1) % 2 = 0 := by omega
  have hd : (t.val - 1) / 2 = t.val / 2 := by omega
  rw [outsAt0_B m c t (by omega) ht]
  dsimp only
  rw [second, pay4_apply, outsAt0_A m c ⟨t.val - 1, hlt⟩ hm (by dsimp only; omega)]
  dsimp only
  rw [first, pay2_apply]
  refine Cert.BlockSum.halves_fin 4096 8192 rfl (fun k => (lhs m c (ix2 k r) : EReal) * (rhs m c (ix2 k (hid t j)) : EReal)) _ _
    (fun k => ?_) (fun k => ?_)
  · rw [iblk_0, iblk_1]
    refine congrArg₂ (fun a b => (lhs m c a : EReal) * (rhs m c b : EReal)) (congrArg (ix2 · r) (Fin.ext ?_))
      (congrArg₂ ix2 (Fin.ext ?_) (Fin.ext ?_))
    all_goals simp [hm, hd]
  · rw [iblk_0, iblk_1]
    refine congrArg₂ (fun a b => (lhs m c a : EReal) * (rhs m c b : EReal)) (congrArg (ix2 · r) (Fin.ext ?_))
      (congrArg₂ ix2 (Fin.ext ?_) rfl)
    all_goals simp [ht]

/-- The array after the run. -/
theorem final : (dats m 0 c).arrAt 2 cfg0.N = whole m c := by
  refine (dats m 0 c).arrAt_eq_of_cover 2 _ (fun t hf => ?_) (fun i => (covered_iff2 i).2 ?_)
  · rw [flushed2]
    funext y
    obtain ⟨r, j, rfl⟩ : ∃ (r j : Fin 1024), y = (ix2 r j : S1024x1024.Idx) := ⟨y 0, y 1, eq_ix2 y⟩
    rw [View.read_apply]
    exact (written m c t ((flush0_2 t).mp hf) r j).trans (congrArg (whole m c) (emb t r j)).symm
  · have h0 : (i 0).val < 1024 := (i 0).isLt
    have h1 : (i 1).val < 4096 := (i 1).isLt
    omega

end Cert.InDwArray

end
-- ==== Proof.InDwClaim.lean ====
/-
  The input projection's gradient: the call's product is the derivative of the projection at its weight.
-/
module

public import proofs.«01_k».proof.Defs
public import proofs.«01_k».proof.Proof.InDwArray
public import proofs.«01_k».proof.Proof.Gen.InDwRefIdeal.Run
public import proofs.«01_k».proof.Proof.Gen.InDwRefIdeal.Read
public import proofs.«01_k».proof.Proof.Gen.InDw.Frame

@[expose] public section

set_option maxRecDepth 16384

noncomputable section

namespace Cert.InDwClaim

open Idealize.ShloMosaic Idealize.ShloMosaic.TcCoe Idealize.SL.Sem

theorem frame_kernel : Cert.quiescent_InDw := fun m ρ _ => Cert.InDw.Gen.frame m ρ

theorem frame_ideal : Cert.quiescent_InDwIdeal := fun m ρ _ => Cert.InDwIdeal.Gen.frame m ρ

theorem frame_reference : Cert.quiescent_InDwRefIdeal := fun m ρ _ =>
  (θ_run Cert.InDwRefIdeal.defs _ _).mono (fun r h => ⟨fun c => (h c).2, sem_eq_zero_of_no_sems (by decide) r.2⟩)
    (Cert.InDwRefIdeal.Value.run m ρ)

/-- One element of a product over all tokens. -/
def over (a : Vec Ideal Cert.InDwIdeal.S8192x1024 .bf16) (b : Vec Ideal Cert.InDwIdeal.S8192x4096 .bf16) (r : Fin 1024) (j : Fin 4096) : EReal :=
  ∑ k : Fin 8192, (a (ix2 k r) : EReal) * (b (ix2 k j) : EReal)

section
open Cert.InDwIdeal Cert.InDwIdeal.Gen

/-- The call's element, over the arguments. -/
theorem call_apply (m : (ℓ : Loc nD τ sig) → Buf (Elt Ideal) ℓ) (c : Dev nD) (r : Fin 1024) (j : Fin 4096) :
    InDwArray.whole m c (ix2 r j) = over (m ((c : Thread nD τ).loc main_arg0)) (m ((c : Thread nD τ).loc main_arg1)) r j := by
  refine (InDwArray.whole_apply m c r j).trans ?_
  unfold InDwArray.lhs InDwArray.rhs
  rw [V_main_arg0, V_main_arg1]
  rfl

end

section
open Cert.InDwRefIdeal Cert.InDwRefIdeal.Read

/-- The reference's element: the normalised input against the gradient at the projection, over all tokens. -/
theorem ref_apply (a : (⟨S8192x1024, .bf16⟩ : BufTy).Contents (Elt Ideal)) (b : (⟨S8192x4096, .bf16⟩ : BufTy).Contents (Elt Ideal))
    (r : Fin 1024) (j : Fin 4096) :
    val_main_v6 (F := Ideal) a b (ix2 r j) = ∑ k : Fin 8192, (b (ix2 k j) : EReal) * (a (ix2 k r) : EReal) := by
  pointwise [val_main_v6, val_main_v5, val_main_v4, val_main_v1, val_main_v0]

end

theorem algebraic : Cert.algebraic_InDwIdeal_InDwRefIdeal := by
  intro m g m' g' _ hagree
  refine ⟨fun c => InDwArray.whole m c, ?_, ?_⟩
  · refine (θ_run Cert.InDwIdeal.defs _ _).mono (fun r h c => ?_) (Cert.InDwIdeal.Value.run_blocks m g)
    obtain ⟨hr, h0, h1⟩ := h c
    exact ⟨hr.trans (InDwArray.final m c), h0, h1⟩
  · refine (θ_run Cert.InDwRefIdeal.defs _ _).mono (fun r h c => ?_) (Cert.InDwRefIdeal.Value.run m' g')
    obtain ⟨hr, h0, h1⟩ := h c
    obtain ⟨a0, a1⟩ := hagree c
    refine ⟨hr.trans ?_, h0, h1⟩
    rw [Cert.InDwRefIdeal.Read.val_main_v6_eq, a0, a1]
    funext y
    obtain ⟨r, j, rfl⟩ : ∃ (r : Fin 1024) (j : Fin 4096), y = (ix2 r j : Cert.InDwRefIdeal.S1024x4096.Idx) := ⟨y 0, y 1, eq_ix2 y⟩
    exact (ref_apply _ _ r j).trans ((Finset.sum_congr rfl fun k _ => mul_comm _ _).trans (call_apply m c r j).symm)

end Cert.InDwClaim

end
-- ==== Proof.InDxLift.lean ====
/-
  The gradient at the mixer's normed input: what one grid point computes from its blocks. The
  incoming gradient of the normed rows is the product with the transpose of the input projection plus the block that the
  projection to the step sizes hands back.
-/
module

public import proofs.«01_k».proof.Proof.UpDxMath
public import proofs.«01_k».proof.Proof.BlockSum
public import proofs.«01_k».proof.Proof.Gen.InDxIdeal.Value
public import Idealize.ShloMosaic.Lib.Pointwise
public import Idealize.ShloMosaic.Lib.Tactic

@[expose] public section

set_option maxRecDepth 16384

noncomputable section

namespace Cert.InDxLift

open Cert.InDxIdeal Cert.InDxIdeal.Gen Cert.UpDxMath Cert.AttnMath
open Idealize.ShloMosaic Idealize.ShloMosaic.TcCoe Idealize.SL.Sem

theorem hz : (![0, 0] : Fin 2 → Nat) = fun _ => 0 := funext fun a => by fin_cases a <;> rfl

theorem pay1_apply (x0 : Vec Ideal S512x2048 .bf16) (x1 : Vec Ideal S1024x2048 .bf16) (r : Fin 512) (j : Fin 1024) :
    k0_pay1 x0 x1 (ix2 r j) = ∑ k : Fin 2048, (x0 (ix2 r k) : EReal) * (x1 (ix2 j k) : EReal) := by
  pointwise [k0_pay1]

theorem pay2_apply (x0 : Vec Ideal S512x2048 .bf16) (x1 : Vec Ideal S1024x2048 .bf16) (r : Fin 512) (j : Fin 1024) :
    k0_pay2 x0 x1 (ix2 r j) = ∑ k : Fin 2048, (x0 (ix2 r k) : EReal) * (x1 (ix2 j k) : EReal) := by
  unfold k0_pay2
  rw [shapeCast_self]
  exact pay1_apply x0 x1 r j

section
variable {p acc dt X res : Vec Ideal S512x1024 .f32} {G : Vec Ideal S1x1024 .f32} {x d e : Fin 512 → Fin 1024 → EReal} {g : Fin 1024 → EReal}

/-- The reciprocal root of a row's mean of squares. -/
theorem pay6_lift (hX : ∀ r j, (X (ix2 r j) : EReal) = x r j) (r : Fin 512) (z : Fin 1) :
    k0_pay6 X (ix2 r z) = (rstd (x r) : EReal) := by
  pointwise [k0_pay6]
  simp only [hX, word_1024, eps_eq]
  rfl

/-- The normed input without its gain. -/
theorem pay7_lift (hX : ∀ r j, (X (ix2 r j) : EReal) = x r j) (r : Fin 512) (j : Fin 1024) :
    k0_pay7 X (ix2 r j) = (x r j * rstd (x r) : EReal) := by
  pointwise [k0_pay7]
  rw [pay6_lift hX, hX]

theorem pay5_lift (hd : ∀ r j, ((acc (ix2 r j) : EReal) + (p (ix2 r j) : EReal) + (dt (ix2 r j) : EReal)) = d r j) (r : Fin 512) (j : Fin 1024) :
    k0_pay5 p acc dt (ix2 r j) = (d r j : EReal) := by
  rw [← hd r j]
  unfold k0_pay5
  rw [shapeCast_self]
  rfl

/-- The block of the gradient at the normed input. -/
theorem pay8_lift (hd : ∀ r j, ((acc (ix2 r j) : EReal) + (p (ix2 r j) : EReal) + (dt (ix2 r j) : EReal)) = d r j)
    (hX : ∀ r j, (X (ix2 r j) : EReal) = x r j) (he : ∀ r j, (res (ix2 r j) : EReal) = e r j)
    (hG : ∀ j, (G (ix2 0 j) : EReal) = g j) (r : Fin 512) (j : Fin 1024) :
    k0_pay8 p acc dt X res G (ix2 r j) = (back (x r) g (d r) j + e r j : EReal) := by
  pointwise [k0_pay8]
  simp only [pay5_lift hd, pay6_lift hX, pay7_lift hX, hG, he, word_1024]
  rfl

/-- A block's share of the gradient of the gains. -/
theorem pay9_lift (hd : ∀ r j, ((acc (ix2 r j) : EReal) + (p (ix2 r j) : EReal) + (dt (ix2 r j) : EReal)) = d r j)
    (hX : ∀ r j, (X (ix2 r j) : EReal) = x r j) (z : Fin 1) (j : Fin 1024) :
    k0_pay9 p acc dt X (ix2 z j) = (∑ r, d r j * (x r j * rstd (x r)) : EReal) := by
  pointwise [k0_pay9]
  simp only [pay5_lift hd, pay7_lift hX]

theorem pay4_apply (a b : Vec Ideal S1x1024 .f32) (z : Fin 1) (j : Fin 1024) :
    k0_pay4 a b (ix2 z j) = (b (ix2 z j) : EReal) + (a (ix2 z j) : EReal) := by
  pointwise [k0_pay4]

end

/-! ### What the points leave -/

section
variable {F : FTy → Type} [FloatOps F]
  (c : Dev nD) (i : grid0.Coords) (a3 : Memref sig .tc .vmem S512x2048 .bf16) (h3 : a3.IsWhole)
  (a4 : Memref sig .tc .vmem S1024x2048 .bf16) (h4 : a4.IsWhole) (a5 : Memref sig .tc .vmem S512x1024 .f32) (h5 : a5.IsWhole)
  (a6 : Memref sig .tc .vmem S512x1024 .f32) (h6 : a6.IsWhole) (a7 : Memref sig .tc .vmem S512x1024 .f32) (h7 : a7.IsWhole)
  (a8 : Memref sig .tc .vmem S1x1024 .f32) (h8 : a8.IsWhole) (a9 : Memref sig .tc .vmem S512x1024 .f32) (h9 : a9.IsWhole)
  (a10 : Memref sig .tc .vmem S512x1024 .bf16) (h10 : a10.IsWhole) (a11 : Memref sig .tc .vmem S1x1024 .f32) (h11 : a11.IsWhole)
  (a12 : Memref sig .tc .vmem S512x1024 .f32) (h12 : a12.IsWhole)
  (x0 : Vec F S512x2048 .bf16) (x1 : Vec F S1024x2048 .bf16) (x2 x3 x4 : Vec F S512x1024 .f32) (x5 xo : Vec F S1x1024 .f32)
  (xs : Vec F S512x1024 .f32)

/-- The first point of a pair leaves its product in the scratch. -/
theorem scratch_A (hc0 : cond0_0 i) (hc1 : ¬cond0_1 i) (hc2 : ¬cond0_2 i) :
    sout0_A_0 c i a3 h3 a4 h4 a5 h5 a6 h6 a7 h7 a8 h8 a9 h9 a10 h10 a11 h11 a12 h12 hc0 hc1 hc2 x0 x1 x2 x3 x4 x5 = k0_pay2 x0 x1 := by
  unfold sout0_A_0
  rw [View.read_writes_junk_eq_canon]
  unfold kernelRun0_A
  dsimp only
  rw [View.canon_unit_zero hz]
  simp only [View.readAt_eq_ld, h3.read_unread, h4.read_unread, View.ld_unit_zero (S := S512x2048) hz,
    View.ld_unit_zero (S := S1024x2048) hz]

section
variable (hc0 : ¬cond0_0 i) (hc1 : ¬cond0_1 i) (hc2 : cond0_2 i) (hc3 : cond0_3 i) (hc4 : ¬cond0_4 i)

theorem out_B_6 : out0_B_6 c i a3 h3 a4 h4 a5 h5 a6 h6 a7 h7 a8 h8 a9 h9 a10 h10 a11 h11 a12 h12 hc0 hc1 hc2 hc3 hc4 x0 x1 x2 x3 x4 x5 xs
    = k0_pay8 (k0_pay1 x0 x1) xs x2 x3 x4 x5 := by
  unfold out0_B_6
  rw [View.read_writes_junk_eq_canon]
  unfold kernelRun0_B
  dsimp only
  rw [View.canon_unit_zero hz]
  simp only [View.readAt_eq_ld, h3.read_unread, h4.read_unread, h5.read_unread, h6.read_unread, h7.read_unread, h8.read_unread, h12.read_unread,
    View.ld_unit_zero (S := S512x2048) hz, View.ld_unit_zero (S := S1024x2048) hz, View.ld_unit_zero (S := S512x1024) hz,
    View.ld_unit_zero (S := S1x1024) hz]

theorem out_B_7 : out0_B_7 c i a3 h3 a4 h4 a5 h5 a6 h6 a7 h7 a8 h8 a9 h9 a10 h10 a11 h11 a12 h12 hc0 hc1 hc2 hc3 hc4 x0 x1 x2 x3 x4 x5 xs
    = k0_pay10 (k0_pay1 x0 x1) xs x2 x3 x4 x5 := by
  unfold out0_B_7
  rw [View.read_writes_junk_eq_canon]
  unfold kernelRun0_B
  dsimp only
  rw [View.canon_unit_zero hz]
  simp only [View.readAt_eq_ld, h3.read_unread, h4.read_unread, h5.read_unread, h6.read_unread, h7.read_unread, h8.read_unread, h12.read_unread,
    View.ld_unit_zero (S := S512x2048) hz, View.ld_unit_zero (S := S1024x2048) hz, View.ld_unit_zero (S := S512x1024) hz,
    View.ld_unit_zero (S := S1x1024) hz]

theorem out_B_8 : out0_B_8 c i a3 h3 a4 h4 a5 h5 a6 h6 a7 h7 a8 h8 a9 h9 a10 h10 a11 h11 a12 h12 hc0 hc1 hc2 hc3 hc4 x0 x1 x2 x3 x4 x5 xs
    = k0_pay9 (k0_pay1 x0 x1) xs x2 x3 := by
  unfold out0_B_8
  rw [View.read_writes_junk_eq_canon]
  unfold kernelRun0_B
  dsimp only
  sl_unfold_words
  rw [View.canon_unit_zero hz]
  simp only [View.readAt_eq_ld, h3.read_unread, h4.read_unread, h5.read_unread, h6.read_unread, h7.read_unread, h8.read_unread, h12.read_unread,
    View.ld_unit_zero (S := S512x2048) hz, View.ld_unit_zero (S := S1024x2048) hz, View.ld_unit_zero (S := S512x1024) hz,
    View.ld_unit_zero (S := S1x1024) hz]

end

section
variable (hc0 : ¬cond0_0 i) (hc1 : ¬cond0_1 i) (hc2 : cond0_2 i) (hc3 : ¬cond0_3 i) (hc4 : cond0_4 i)

theorem out_C_6 : out0_C_6 c i a3 h3 a4 h4 a5 h5 a6 h6 a7 h7 a8 h8 a9 h9 a10 h10 a11 h11 a12 h12 hc0 hc1 hc2 hc3 hc4 x0 x1 x2 x3 x4 x5 xo xs
    = k0_pay8 (k0_pay1 x0 x1) xs x2 x3 x4 x5 := by
  unfold out0_C_6
  rw [View.read_writes_junk_eq_canon]
  unfold kernelRun0_C
  dsimp only
  rw [View.canon_unit_zero hz]
  simp only [View.readAt_eq_ld, h3.read_unread, h4.read_unread, h5.read_unread, h6.read_unread, h7.read_unread, h8.read_unread, h12.read_unread,
    View.ld_unit_zero (S := S512x2048) hz, View.ld_unit_zero (S := S1024x2048) hz, View.ld_unit_zero (S := S512x1024) hz,
    View.ld_unit_zero (S := S1x1024) hz]

theorem out_C_7 : out0_C_7 c i a3 h3 a4 h4 a5 h5 a6 h6 a7 h7 a8 h8 a9 h9 a10 h10 a11 h11 a12 h12 hc0 hc1 hc2 hc3 hc4 x0 x1 x2 x3 x4 x5 xo xs
    = k0_pay10 (k0_pay1 x0 x1) xs x2 x3 x4 x5 := by
  unfold out0_C_7
  rw [View.read_writes_junk_eq_canon]
  unfold kernelRun0_C
  dsimp only
  rw [View.canon_unit_zero hz]
  simp only [View.readAt_eq_ld, h3.read_unread, h4.read_unread, h5.read_unread, h6.read_unread, h7.read_unread, h8.read_unread, h12.read_unread,
    View.ld_unit_zero (S := S512x2048) hz, View.ld_unit_zero (S := S1024x2048) hz, View.ld_unit_zero (S := S512x1024) hz,
    View.ld_unit_zero (S := S1x1024) hz]

theorem out_C_8 : out0_C_8 c i a3 h3 a4 h4 a5 h5 a6 h6 a7 h7 a8 h8 a9 h9 a10 h10 a11 h11 a12 h12 hc0 hc1 hc2 hc3 hc4 x0 x1 x2 x3 x4 x5 xo xs
    = k0_pay4 (k0_pay9 (k0_pay1 x0 x1) xs x2 x3) xo := by
  unfold out0_C_8
  rw [View.read_writes_junk_eq_canon]
  unfold kernelRun0_C
  dsimp only
  sl_unfold_words
  rw [View.canon_unit_zero hz]
  simp only [View.readAt_eq_ld, h3.read_unread, h4.read_unread, h5.read_unread, h6.read_unread, h7.read_unread, h8.read_unread, h11.read_unread,
    h12.read_unread, View.ld_unit_zero (S := S512x2048) hz, View.ld_unit_zero (S := S1024x2048) hz,
    View.ld_unit_zero (S := S512x1024) hz, View.ld_unit_zero (S := S1x1024) hz]

end

end

end Cert.InDxLift

end
-- ==== Proof.InDxArray.lean ====
/-
  The gradient at the mixer's normed input: the arrays the call leaves. A pair of grid points
  holds 512 tokens; its second point adds the two halves of the product and the block that the projection to the step sizes hands
  back, writes the tokens' gradient and adds their share to the gradient of the gains, which stays in one block over the whole grid.
-/
module

public import proofs.«01_k».proof.Proof.InDxLift
public import Idealize.ShloMosaic.Lib.StableHlo.Run

@[expose] public section

set_option maxRecDepth 16384

noncomputable section

namespace Cert.InDxArray

open Cert.InDxIdeal Cert.InDxIdeal.Gen Cert.InDxIdeal.Value Cert.UpDxMath Cert.InDxLift Cert.AttnMath
open Idealize.ShloMosaic Idealize.ShloMosaic.TcCoe Idealize.SL.Sem

variable (m : (ℓ : Loc nD τ sig) → Buf (Elt Ideal) ℓ) (c : Dev nD)

/-- The gradient of the normed rows: what comes back through the two projections, the main one and the one to the step sizes. -/
def both (p : ℕ → Fin 4096 → EReal) (w : Fin 1024 → Fin 4096 → EReal) (q : ℕ → Fin 128 → EReal) (v : Fin 1024 → Fin 128 → EReal) (i : ℕ) (j : Fin 1024) : EReal :=
  into p w i j + ∑ k, q i k * v j k

/-- The arguments hold these extended reals. -/
structure Holds (x e : ℕ → Fin 1024 → EReal) (g : Fin 1024 → EReal) (w : Fin 1024 → Fin 4096 → EReal) (p : ℕ → Fin 4096 → EReal)
    (v : Fin 1024 → Fin 128 → EReal) (q : ℕ → Fin 128 → EReal) : Prop where
  x : ∀ (i : Fin 8192) (j : Fin 1024), ((m ((c : Thread nD τ).loc main_arg0) : Vec Ideal S8192x1024 .f32) (ix2 i j) : EReal) = (x i.val j : EReal)
  g : ∀ j : Fin 1024, ((m ((c : Thread nD τ).loc main_arg1) : Vec Ideal S1024 .f32) (ix1 j) : EReal) = (g j : EReal)
  w : ∀ (j : Fin 1024) (k : Fin 4096), ((m ((c : Thread nD τ).loc main_arg2) : Vec Ideal S1024x4096 .bf16) (ix2 j k) : EReal) = (w j k : EReal)
  v : ∀ (j : Fin 1024) (k : Fin 128), ((m ((c : Thread nD τ).loc main_arg3) : Vec Ideal S1024x128 .bf16) (ix2 j k) : EReal) = (v j k : EReal)
  p : ∀ (i : Fin 8192) (k : Fin 4096), ((m ((c : Thread nD τ).loc main_arg4) : Vec Ideal S8192x4096 .bf16) (ix2 i k) : EReal) = (p i.val k : EReal)
  q : ∀ (i : Fin 8192) (k : Fin 128), ((m ((c : Thread nD τ).loc main_arg5) : Vec Ideal S8192x128 .f32) (ix2 i k) : EReal) = (q i.val k : EReal)
  e : ∀ (i : Fin 8192) (j : Fin 1024), ((m ((c : Thread nD τ).loc main_arg6) : Vec Ideal S8192x1024 .f32) (ix2 i j) : EReal) = (e i.val j : EReal)

/-! ### Where the blocks lie -/

theorem idx : ∀ t : Fin cfg0.N, (win0_0.index t 0 = t.val / 2 ∧ win0_0.index t 1 = t.val % 2)
    ∧ (win0_1.index t 0 = 0 ∧ win0_1.index t 1 = t.val % 2) ∧ (win0_2.index t 0 = t.val / 2 ∧ win0_2.index t 1 = 0)
    ∧ (win0_3.index t 0 = t.val / 2 ∧ win0_3.index t 1 = 0) ∧ (win0_4.index t 0 = t.val / 2 ∧ win0_4.index t 1 = 0)
    ∧ (win0_5.index t 0 = 0 ∧ win0_5.index t 1 = 0) ∧ (win0_6.index t 0 = t.val / 2 ∧ win0_6.index t 1 = 0)
    ∧ (win0_7.index t 0 = t.val / 2 ∧ win0_7.index t 1 = 0) ∧ (win0_8.index t 0 = 0 ∧ win0_8.index t 1 = 0) :=
  (by decide +kernel : ∀ t : Fin grid0.N, (win0_0.index t 0 = t.val / 2 ∧ win0_0.index t 1 = t.val % 2)
    ∧ (win0_1.index t 0 = 0 ∧ win0_1.index t 1 = t.val % 2) ∧ (win0_2.index t 0 = t.val / 2 ∧ win0_2.index t 1 = 0)
    ∧ (win0_3.index t 0 = t.val / 2 ∧ win0_3.index t 1 = 0) ∧ (win0_4.index t 0 = t.val / 2 ∧ win0_4.index t 1 = 0)
    ∧ (win0_5.index t 0 = 0 ∧ win0_5.index t 1 = 0) ∧ (win0_6.index t 0 = t.val / 2 ∧ win0_6.index t 1 = 0)
    ∧ (win0_7.index t 0 = t.val / 2 ∧ win0_7.index t 1 = 0) ∧ (win0_8.index t 0 = 0 ∧ win0_8.index t 1 = 0))

theorem N_eq : cfg0.N = 32 := by decide

/-- The token of an element of point `t`'s blocks, and its lane of the hidden width. -/
abbrev tok (t : Fin cfg0.N) (r : Fin 512) : Fin 8192 := ⟨512 * (t.val / 2) + r.val, by have := t.isLt; have := N_eq; omega⟩
abbrev hid (t : Fin cfg0.N) (k : Fin 2048) : Fin 4096 := ⟨2048 * (t.val % 2) + k.val, by omega⟩

theorem iblk_0 (t : Fin cfg0.N) (r : Fin 512) (k : Fin 2048) :
    (iblk m c 0 t : Vec Ideal S512x2048 .bf16) (ix2 r k) = (V m c main_arg4 : Vec Ideal S8192x4096 .bf16) (ix2 (tok t r) (hid t k)) := by
  obtain ⟨e0, e1⟩ := (idx t).1
  unfold iblk
  rw [View.read_apply]
  show V m c main_arg4 _ = V m c main_arg4 _
  congr 1
  funext a
  apply Fin.ext
  match a with
  | ⟨0, _⟩ => show win0_0.index t 0 * 512 + 1 * r.val = 512 * (t.val / 2) + r.val; rw [e0]; omega
  | ⟨1, _⟩ => show win0_0.index t 1 * 2048 + 1 * k.val = 2048 * (t.val % 2) + k.val; rw [e1]; omega

theorem iblk_1 (t : Fin cfg0.N) (j : Fin 1024) (k : Fin 2048) :
    (iblk m c 1 t : Vec Ideal S1024x2048 .bf16) (ix2 j k) = (V m c main_arg2 : Vec Ideal S1024x4096 .bf16) (ix2 j (hid t k)) := by
  obtain ⟨e0, e1⟩ := (idx t).2.1
  unfold iblk
  rw [View.read_apply]
  show V m c main_arg2 _ = V m c main_arg2 _
  congr 1
  funext a
  apply Fin.ext
  match a with
  | ⟨0, _⟩ => show win0_1.index t 0 * 1024 + 1 * j.val = j.val; rw [e0]; omega
  | ⟨1, _⟩ => show win0_1.index t 1 * 2048 + 1 * k.val = 2048 * (t.val % 2) + k.val; rw [e1]; omega

theorem iblk_2 (t : Fin cfg0.N) (r : Fin 512) (j : Fin 1024) :
    (iblk m c 2 t : Vec Ideal S512x1024 .f32) (ix2 r j) = (V m c main_v1 : Vec Ideal S8192x1024 .f32) (ix2 (tok t r) j) := by
  obtain ⟨e0, e1⟩ := (idx t).2.2.1
  unfold iblk
  rw [View.read_apply]
  show V m c main_v1 _ = V m c main_v1 _
  congr 1
  funext a
  apply Fin.ext
  match a with
  | ⟨0, _⟩ => show win0_2.index t 0 * 512 + 1 * r.val = 512 * (t.val / 2) + r.val; rw [e0]; omega
  | ⟨1, _⟩ => show win0_2.index t 1 * 1024 + 1 * j.val = j.val; rw [e1]; omega

theorem iblk_3 (t : Fin cfg0.N) (r : Fin 512) (j : Fin 1024) :
    (iblk m c 3 t : Vec Ideal S512x1024 .f32) (ix2 r j) = (V m c main_arg0 : Vec Ideal S8192x1024 .f32) (ix2 (tok t r) j) := by
  obtain ⟨e0, e1⟩ := (idx t).2.2.2.1
  unfold iblk
  rw [View.read_apply]
  show V m c main_arg0 _ = V m c main_arg0 _
  congr 1
  funext a
  apply Fin.ext
  match a with
  | ⟨0, _⟩ => show win0_3.index t 0 * 512 + 1 * r.val = 512 * (t.val / 2) + r.val; rw [e0]; omega
  | ⟨1, _⟩ => show win0_3.index t 1 * 1024 + 1 * j.val = j.val; rw [e1]; omega

theorem iblk_4 (t : Fin cfg0.N) (r : Fin 512) (j : Fin 1024) :
    (iblk m c 4 t : Vec Ideal S512x1024 .f32) (ix2 r j) = (V m c main_arg6 : Vec Ideal S8192x1024 .f32) (ix2 (tok t r) j) := by
  obtain ⟨e0, e1⟩ := (idx t).2.2.2.2.1
  unfold iblk
  rw [View.read_apply]
  show V m c main_arg6 _ = V m c main_arg6 _
  congr 1
  funext a
  apply Fin.ext
  match a with
  | ⟨0, _⟩ => show win0_4.index t 0 * 512 + 1 * r.val = 512 * (t.val / 2) + r.val; rw [e0]; omega
  | ⟨1, _⟩ => show win0_4.index t 1 * 1024 + 1 * j.val = j.val; rw [e1]; omega

theorem iblk_5 (t : Fin cfg0.N) (j : Fin 1024) :
    (iblk m c 5 t : Vec Ideal S1x1024 .f32) (ix2 0 j) = (V m c main_v2 : Vec Ideal S1x1024 .f32) (ix2 0 j) := by
  obtain ⟨e0, e1⟩ := (idx t).2.2.2.2.2.1
  unfold iblk
  rw [View.read_apply]
  show V m c main_v2 _ = V m c main_v2 _
  congr 1
  funext a
  apply Fin.ext
  match a with
  | ⟨0, _⟩ => show win0_5.index t 0 * 1 + 1 * 0 = 0; rw [e0]
  | ⟨1, _⟩ => show win0_5.index t 1 * 1024 + 1 * j.val = j.val; rw [e1]; omega

theorem emb_6 (t : Fin cfg0.N) (r : Fin 512) (j : Fin 1024) :
    (((cfg0.win 6).blk t).view.emb (ix2 r j) : S8192x1024.Idx) = ix2 (tok t r) j := by
  obtain ⟨e0, e1⟩ := (idx t).2.2.2.2.2.2.1
  funext a
  apply Fin.ext
  match a with
  | ⟨0, _⟩ => show win0_6.index t 0 * 512 + 1 * r.val = 512 * (t.val / 2) + r.val; rw [e0]; omega
  | ⟨1, _⟩ => show win0_6.index t 1 * 1024 + 1 * j.val = j.val; rw [e1]; omega

theorem emb_7 (t : Fin cfg0.N) (r : Fin 512) (j : Fin 1024) :
    (((cfg0.win 7).blk t).view.emb (ix2 r j) : S8192x1024.Idx) = ix2 (tok t r) j := by
  obtain ⟨e0, e1⟩ := (idx t).2.2.2.2.2.2.2.1
  funext a
  apply Fin.ext
  match a with
  | ⟨0, _⟩ => show win0_7.index t 0 * 512 + 1 * r.val = 512 * (t.val / 2) + r.val; rw [e0]; omega
  | ⟨1, _⟩ => show win0_7.index t 1 * 1024 + 1 * j.val = j.val; rw [e1]; omega

theorem emb_8 (t : Fin cfg0.N) (z : Fin 1) (j : Fin 1024) :
    (((cfg0.win 8).blk t).view.emb (ix2 z j) : S1x1024.Idx) = ix2 z j := by
  obtain ⟨e0, e1⟩ := (idx t).2.2.2.2.2.2.2.2
  funext a
  apply Fin.ext
  match a with
  | ⟨0, _⟩ => show win0_8.index t 0 * 1 + 1 * z.val = z.val; rw [e0]; omega
  | ⟨1, _⟩ => show win0_8.index t 1 * 1024 + 1 * j.val = j.val; rw [e1]; omega

/-- The gains, laid out as one row before the call. -/
theorem gains_row (j : Fin 1024) :
    (V m c main_v2 : Vec Ideal S1x1024 .f32) (ix2 0 j) = (m ((c : Thread nD τ).loc main_arg1) : Vec Ideal S1024 .f32) (ix1 j) := by
  have h : V m c main_v2 = (shapeCast S1x1024 (m ((c : Thread nD τ).loc main_arg1) : Vec Ideal S1024 .f32) shapeCasts_S1024_S1x1024 : Vec Ideal S1x1024 .f32) := by
    show StableHlo.after (List.flatten [hostOps0]) _ (Proc.devRef .tc main_v2) = _
    simp only [hostOps0, List.flatten_cons, List.flatten_nil, List.append_nil, List.cons_append, List.nil_append]
    after_results_simp <;> rfl
  rw [h]
  generalize (m ((c : Thread nD τ).loc main_arg1) : Vec Ideal S1024 .f32) = y
  pointwise

/-- What the projection to the step sizes hands back: the product with the transpose of its weights. -/
def handed (y : FVec Ideal S8192x128 .f32) (z : FVec Ideal S1024x128 .bf16) : FVec Ideal S8192x1024 .f32 :=
  Host.dotGeneral dot_S8192x128_S1024x128_S8192x1024_1_1_0_0_n_n none y (extf .f32 z bitsLt_bf16_f32)

theorem handed_at (y : Vec Ideal S8192x128 .f32) (z : Vec Ideal S1024x128 .bf16) (i : Fin 8192) (j : Fin 1024) :
    (handed y z (ix2 i j) : EReal) = ∑ k : Fin 128, (y (ix2 i k) : EReal) * (z (ix2 j k) : EReal) := by
  pointwise [handed]

/-- The host computes it before the call. -/
theorem steps_row : (V m c main_v1 : Vec Ideal S8192x1024 .f32)
    = handed (m ((c : Thread nD τ).loc main_arg5) : Vec Ideal S8192x128 .f32) (m ((c : Thread nD τ).loc main_arg3) : Vec Ideal S1024x128 .bf16) := by
  show StableHlo.after (List.flatten [hostOps0]) _ (Proc.devRef .tc main_v1) = _
  simp only [hostOps0, List.flatten_cons, List.flatten_nil, List.append_nil, List.cons_append, List.nil_append]
  after_results_simp <;> rfl

/-! ### What a pair of points leaves -/

/-- Entries as extended reals, and one term of the product of `d_pre` with the transpose of `w1`. -/
abbrev at_ (D : Vec Ideal S8192x4096 .bf16) (i : S8192x4096.Idx) : EReal := D i
abbrev at_' (W : Vec Ideal S1024x4096 .bf16) (i : S1024x4096.Idx) : EReal := W i
def term (D : Vec Ideal S8192x4096 .bf16) (W : Vec Ideal S1024x4096 .bf16) (i : Fin 8192) (j : Fin 1024) (k : Fin 4096) : EReal :=
  at_ D (ix2 i k) * at_' W (ix2 j k)

section
variable {m c} {x e : ℕ → Fin 1024 → EReal} {g : Fin 1024 → EReal} {w : Fin 1024 → Fin 4096 → EReal} {p : ℕ → Fin 4096 → EReal}
  {v : Fin 1024 → Fin 128 → EReal} {q : ℕ → Fin 128 → EReal} (H : Holds m c x e g w p v q)
include H

theorem p_at (i : Fin 8192) (k : Fin 4096) : ((V m c main_arg4 : Vec Ideal S8192x4096 .bf16) (ix2 i k) : EReal) = (p i.val k : EReal) := by
  rw [V_main_arg4]; exact H.p i k

theorem w_at (j : Fin 1024) (k : Fin 4096) : ((V m c main_arg2 : Vec Ideal S1024x4096 .bf16) (ix2 j k) : EReal) = (w j k : EReal) := by
  rw [V_main_arg2]; exact H.w j k

theorem q_blk (t : Fin cfg0.N) (r : Fin 512) (j : Fin 1024) : ((iblk m c 2 t : Vec Ideal S512x1024 .f32) (ix2 r j) : EReal)
    = (∑ k, q (512 * (t.val / 2) + r.val) k * v j k : EReal) := by
  rw [iblk_2, steps_row, handed_at]
  refine (Finset.sum_congr rfl fun k _ => congrArg₂ (fun a b : EReal => a * b) (H.q (tok t r) k) (H.v j k)).trans ?_
  rfl

/-- The two halves of the product and the step sizes' part add up to the whole. -/
theorem halves (t : Fin cfg0.N) (ht : t.val % 2 = 1) (r : Fin 512) (j : Fin 1024) :
    (((outsAt0 m c (t.val - 1) (Nat.lt_of_le_of_lt (Nat.sub_le _ _) t.isLt)).2.2.2 (ix2 r j) : EReal)
      + (k0_pay1 (iblk m c 0 t) (iblk m c 1 t) (ix2 r j) : EReal)
      + ((iblk m c 2 t : Vec Ideal S512x1024 .f32) (ix2 r j) : EReal)) = (both p w q v (512 * (t.val / 2) + r.val) j : EReal) := by
  have hlt : t.val - 1 < cfg0.N := lt_of_le_of_lt (Nat.sub_le _ _) t.isLt
  have hm : (t.val - 1) % 2 = 0 := by omega
  have hd : (t.val - 1) / 2 = t.val / 2 := by omega
  rw [outsAt0_A m c ⟨t.val - 1, hlt⟩ hm (by dsimp only; omega)]
  dsimp only
  rw [scratch_A, pay2_apply, pay1_apply, both]
  refine congrArg₂ (· + ·) ?_ (q_blk H t r j)
  refine (Cert.BlockSum.halves_fin 2048 4096 rfl (term (V m c main_arg4) (V m c main_arg2) (tok t r) j) _ _ (fun k => ?_) (fun k => ?_)).trans ?_
  · rw [iblk_0, iblk_1]
    refine congrArg₂ (fun (a : S8192x4096.Idx) (b : S1024x4096.Idx) =>
        at_ (V m c main_arg4) a * at_' (V m c main_arg2) b) (congrArg₂ ix2 (Fin.ext ?_) (Fin.ext ?_)) (congrArg (ix2 j) (Fin.ext ?_))
    all_goals simp [hm, hd]
  · rw [iblk_0, iblk_1]
    refine congrArg₂ (fun (a : S8192x4096.Idx) (b : S1024x4096.Idx) =>
        at_ (V m c main_arg4) a * at_' (V m c main_arg2) b) (congrArg (ix2 _) (Fin.ext ?_)) (congrArg (ix2 j) (Fin.ext ?_))
    all_goals simp [ht]
  · exact Finset.sum_congr rfl fun k _ => congrArg₂ (fun a b : EReal => a * b) (p_at H (tok t r) k) (w_at H j k)

theorem x_blk (t : Fin cfg0.N) (r : Fin 512) (j : Fin 1024) :
    ((iblk m c 3 t : Vec Ideal S512x1024 .f32) (ix2 r j) : EReal) = (x (512 * (t.val / 2) + r.val) j : EReal) := by
  rw [iblk_3, V_main_arg0]; exact H.x _ j

theorem e_blk (t : Fin cfg0.N) (r : Fin 512) (j : Fin 1024) :
    ((iblk m c 4 t : Vec Ideal S512x1024 .f32) (ix2 r j) : EReal) = (e (512 * (t.val / 2) + r.val) j : EReal) := by
  rw [iblk_4, V_main_arg6]; exact H.e _ j

theorem g_blk (t : Fin cfg0.N) (j : Fin 1024) : ((iblk m c 5 t : Vec Ideal S1x1024 .f32) (ix2 0 j) : EReal) = (g j : EReal) := by
  rw [iblk_5, gains_row]; exact H.g j

/-- The gradient of one token, with what the residual branch adds. -/
theorem tokens (t : Fin cfg0.N) (ht : t.val % 2 = 1) (r : Fin 512) (j : Fin 1024) :
    ((outsAt0 m c t.val t.isLt).1 (ix2 r j) : EReal)
        = (back (x (512 * (t.val / 2) + r.val)) g (both p w q v (512 * (t.val / 2) + r.val)) j + e (512 * (t.val / 2) + r.val) j : EReal)
      ∧ ((outsAt0 m c t.val t.isLt).2.1 (ix2 r j) : EReal)
        = (back (x (512 * (t.val / 2) + r.val)) g (both p w q v (512 * (t.val / 2) + r.val)) j + e (512 * (t.val / 2) + r.val) j : EReal) := by
  have h := pay8_lift (halves H t ht) (x_blk H t) (e_blk H t) (g_blk H t) r j
  by_cases h2 : t.val < 2
  · rw [outsAt0_B m c t (by omega) ht h2 (by omega)]
    dsimp only
    rw [out_B_6, out_B_7]
    exact ⟨h, h⟩
  · rw [outsAt0_C m c t (by omega) ht h2 (by omega)]
    dsimp only
    rw [out_C_6, out_C_7]
    exact ⟨h, h⟩

end

variable {m c} {x e : ℕ → Fin 1024 → EReal} {g : Fin 1024 → EReal} {w : Fin 1024 → Fin 4096 → EReal} {p : ℕ → Fin 4096 → EReal}
  {v : Fin 1024 → Fin 128 → EReal} {q : ℕ → Fin 128 → EReal}

/-- What one pair of points adds to the gradient of the gains. -/
theorem pair (H : Holds m c x e g w p v q) (n : ℕ) (hn : 2 * n + 1 < cfg0.N) (z : Fin 1) (j : Fin 1024) :
    (k0_pay9 (k0_pay1 (iblk m c 0 ⟨2 * n + 1, hn⟩) (iblk m c 1 ⟨2 * n + 1, hn⟩))
        (outsAt0 m c (2 * n + 1 - 1) (Nat.lt_of_le_of_lt (Nat.sub_le _ _) hn)).2.2.2 (iblk m c 2 ⟨2 * n + 1, hn⟩) (iblk m c 3 ⟨2 * n + 1, hn⟩) (ix2 z j) : EReal)
      = (∑ r : Fin 512, both p w q v (512 * n + r.val) j * (x (512 * n + r.val) j * rstd (x (512 * n + r.val))) : EReal) := by
  have h := pay9_lift (halves H ⟨2 * n + 1, hn⟩ (by dsimp only; omega)) (x_blk H ⟨2 * n + 1, hn⟩) z j
  have hq : (2 * n + 1) / 2 = n := by omega
  simp only [hq] at h
  exact h

/-- The gradient of the gains after a pair of points: over the tokens so far. -/
theorem running (H : Holds m c x e g w p v q) (n : ℕ) (hn : 2 * n + 1 < cfg0.N) (z : Fin 1) (j : Fin 1024) :
    ((outsAt0 m c (2 * n + 1) hn).2.2.1 (ix2 z j) : EReal) = (gains x (both p w q v) (512 * (n + 1)) j : EReal) := by
  induction n with
  | zero =>
    rw [outsAt0_B m c ⟨2 * 0 + 1, hn⟩ (by simp) (by simp) (by simp) (by simp)]
    dsimp only
    rw [out_B_8]
    refine (pair H 0 hn z j).trans ?_
    rw [← gains_step]
    simp [gains]
  | succ n ih =>
    have hn' : 2 * n + 1 < cfg0.N := by omega
    have hc : (outsAt0 m c (2 * (n + 1) + 1 - 1) (Nat.lt_of_le_of_lt (Nat.sub_le _ _) hn)).2.2.1 = (outsAt0 m c (2 * n + 1) hn').2.2.1 := by
      rw [outsAt0_A m c ⟨2 * (n + 1) + 1 - 1, Nat.lt_of_le_of_lt (Nat.sub_le _ _) hn⟩ (by dsimp only; omega) (by dsimp only; omega)]
      rfl
    rw [outsAt0_C m c ⟨2 * (n + 1) + 1, hn⟩ (by dsimp only; omega) (by dsimp only; omega) (by dsimp only; omega) (by dsimp only; omega)]
    dsimp only
    rw [out_C_8, pay4_apply, pair H (n + 1) hn z j, hc, ih hn', gains_step]

/-! ### The arrays when the call is over -/

/-- The gradient of every token, and that of the gains, the gradient of the normed rows being `d`. -/
def wholeX (x e : ℕ → Fin 1024 → EReal) (g : Fin 1024 → EReal) (d : ℕ → Fin 1024 → EReal) : Vec Ideal S8192x1024 .f32 :=
  fun y => (back (x (y 0).val) g (d (y 0).val) (y 1) + e (y 0).val (y 1) : EReal)
def wholeX16 (x e : ℕ → Fin 1024 → EReal) (g : Fin 1024 → EReal) (d : ℕ → Fin 1024 → EReal) : Vec Ideal S8192x1024 .bf16 :=
  wholeX x e g d
def wholeG (x d : ℕ → Fin 1024 → EReal) : Vec Ideal S1x1024 .f32 :=
  fun y => (gains x d 8192 (y 1) : EReal)

/-- The last point of a token's pair. -/
abbrev owner (a : Fin 8192) : Fin cfg0.N := ⟨2 * (a.val / 512) + 1, by have := a.isLt; have := N_eq; omega⟩

theorem tok_owner (a : Fin 8192) : tok (owner a) ⟨a.val % 512, Nat.mod_lt _ (by decide)⟩ = a :=
  Fin.ext (by show 512 * ((2 * (a.val / 512) + 1) / 2) + a.val % 512 = a.val; omega)

theorem final_6 (H : Holds m c x e g w p v q) : (dats m 0 c).arrAt 6 cfg0.N = wholeX x e g (both p w q v) := by
  refine (dats m 0 c).arrAt_eq_of_cover 6 _ (fun t hf => ?_) (fun i => ?_)
  · rw [flushed6]
    funext y
    obtain ⟨r, j, rfl⟩ : ∃ (r : Fin 512) (j : Fin 1024), y = (ix2 r j : S512x1024.Idx) := ⟨y 0, y 1, eq_ix2 y⟩
    rw [View.read_apply]
    exact (tokens H t ((flush0_6 t).mp hf) r j).1.trans (congrArg (wholeX x e g (both p w q v)) (emb_6 t r j)).symm
  · obtain ⟨a, b, rfl⟩ : ∃ (a : Fin 8192) (b : Fin 1024), i = (ix2 a b : S8192x1024.Idx) := ⟨i 0, i 1, eq_ix2 i⟩
    refine ⟨owner a, (flush0_6 _).mpr (by dsimp only; omega), ?_⟩
    have he : (ix2 a b : S8192x1024.Idx) = ((cfg0.win 6).blk (owner a)).view.emb (ix2 ⟨a.val % 512, Nat.mod_lt _ (by decide)⟩ b) := by
      rw [emb_6, tok_owner]
    rw [he]
    exact View.emb_mem_set _ _

theorem final_7 (H : Holds m c x e g w p v q) : (dats m 0 c).arrAt 7 cfg0.N = wholeX16 x e g (both p w q v) := by
  refine (dats m 0 c).arrAt_eq_of_cover 7 _ (fun t hf => ?_) (fun i => ?_)
  · rw [flushed7]
    funext y
    obtain ⟨r, j, rfl⟩ : ∃ (r : Fin 512) (j : Fin 1024), y = (ix2 r j : S512x1024.Idx) := ⟨y 0, y 1, eq_ix2 y⟩
    rw [View.read_apply]
    exact (tokens H t ((flush0_7 t).mp hf) r j).2.trans (congrArg (wholeX16 x e g (both p w q v)) (emb_7 t r j)).symm
  · obtain ⟨a, b, rfl⟩ : ∃ (a : Fin 8192) (b : Fin 1024), i = (ix2 a b : S8192x1024.Idx) := ⟨i 0, i 1, eq_ix2 i⟩
    refine ⟨owner a, (flush0_7 _).mpr (by dsimp only; omega), ?_⟩
    have he : (ix2 a b : S8192x1024.Idx) = ((cfg0.win 7).blk (owner a)).view.emb (ix2 ⟨a.val % 512, Nat.mod_lt _ (by decide)⟩ b) := by
      rw [emb_7, tok_owner]
    rw [he]
    exact View.emb_mem_set _ _

theorem final_8 (H : Holds m c x e g w p v q) : (dats m 0 c).arrAt 8 cfg0.N = wholeG x (both p w q v) := by
  refine (dats m 0 c).arrAt_eq_of_cover 8 _ (fun t hf => ?_) (fun i => ?_)
  · have ht : t.val = 2 * 15 + 1 := by have := (flush0_8 t).mp hf; have := t.isLt; have := N_eq; omega
    obtain ⟨n, hn⟩ := t
    dsimp only at ht
    subst ht
    rw [flushed8]
    funext y
    obtain ⟨z, j, rfl⟩ : ∃ (z : Fin 1) (j : Fin 1024), y = (ix2 z j : S1x1024.Idx) := ⟨y 0, y 1, eq_ix2 y⟩
    rw [View.read_apply]
    exact (running H 15 hn z j).trans (congrArg (wholeG x (both p w q v)) (emb_8 ⟨2 * 15 + 1, hn⟩ z j)).symm
  · obtain ⟨a, b, rfl⟩ : ∃ (a : Fin 1) (b : Fin 1024), i = (ix2 a b : S1x1024.Idx) := ⟨i 0, i 1, eq_ix2 i⟩
    have ht : 31 < cfg0.N := by have := N_eq; omega
    exact ⟨⟨31, ht⟩, (flush0_8 _).mpr rfl, Eq.subst (motive := fun x : S1x1024.Idx => x ∈ ((cfg0.win 8).blk ⟨31, ht⟩).view.set)
      (emb_8 ⟨31, ht⟩ a b) (View.emb_mem_set _ _)⟩

end Cert.InDxArray

end
-- ==== Proof.InDxRef.lean ====
/-
  The reference's gradient at the mixer's normed input, on extended reals, stage by stage: the mean of squares, its reciprocal root,
  the products with the transposes of the two projections, and the derivative of the norm that the chain rule writes out.
-/
module

public import proofs.«01_k».proof.Proof.InDxArray
public import proofs.«01_k».proof.Proof.Gen.InDxRefIdeal.Read

@[expose] public section

set_option maxRecDepth 16384

noncomputable section

namespace Cert.InDxRef

open Cert.InDxRefIdeal Cert.InDxRefIdeal.Gen Cert.InDxRefIdeal.Read Cert.AttnMath Cert.UpDxMath Cert.InDxArray
open Idealize.ShloMosaic Idealize.ShloMosaic.TcCoe Idealize.SL.Sem

variable {x0 x6 : Vec Ideal S8192x1024 .f32} {x1 : Vec Ideal S1024 .f32} {x2 : Vec Ideal S1024x4096 .bf16} {x3 : Vec Ideal S1024x128 .bf16}
  {x4 : Vec Ideal S8192x4096 .bf16} {x5 : Vec Ideal S8192x128 .f32}
  {x e : ℕ → Fin 1024 → EReal} {g : Fin 1024 → EReal} {w : Fin 1024 → Fin 4096 → EReal} {p : ℕ → Fin 4096 → EReal}
  {v : Fin 1024 → Fin 128 → EReal} {q : ℕ → Fin 128 → EReal}
  (hx : ∀ (i : Fin 8192) j, (x0 (ix2 i j) : EReal) = (x i.val j : EReal)) (hg : ∀ j, (x1 (ix1 j) : EReal) = (g j : EReal))
  (hw : ∀ j k, (x2 (ix2 j k) : EReal) = (w j k : EReal)) (hv : ∀ j k, (x3 (ix2 j k) : EReal) = (v j k : EReal))
  (hp : ∀ (i : Fin 8192) k, (x4 (ix2 i k) : EReal) = (p i.val k : EReal))
  (hq : ∀ (i : Fin 8192) k, (x5 (ix2 i k) : EReal) = (q i.val k : EReal))
  (he : ∀ (i : Fin 8192) j, (x6 (ix2 i j) : EReal) = (e i.val j : EReal))

section
include hx

theorem mean_read (i : Fin 8192) : val_main_v9 (F := Ideal) x0 (ix2 i 0) = (mean (x i.val) : EReal) := by
  pointwise [val_main_v9, val_main_v8, val_main_cst_1, val_main_v7, val_main_v6, val_main_cst_0, val_main_v5, val_main_v4, val_main_cst, val_main_v3]
  simp only [hx, word_1024, eps_eq]
  rfl

theorem rstd_read (i : Fin 8192) : val_main_v10 (F := Ideal) x0 (ix2 i 0) = (rstd (x i.val) : EReal) := by
  rw [val_main_v10_apply, mean_read hx]
  rfl

theorem slope_read (i : Fin 8192) : val_main_v13 (F := Ideal) x0 (ix2 i 0) = slope (x i.val) := by
  rw [val_main_v13_apply, val_main_v11_apply, mean_read hx, rstd_read hx]
  pointwise [val_main_v12, val_main_cst_2]
  rw [word_minus_half]
  rfl

end

section
include hw hv hp hq

/-- The chain rule adds what comes back through the two projections, the one to the step sizes first. -/
theorem both_read (i : Fin 8192) (j : Fin 1024) : val_main_v23 (F := Ideal) x2 x3 x4 x5 (ix2 i j) = (both p w q v i.val j : EReal) := by
  pointwise [val_main_v23, val_main_v22, val_main_v21, val_main_v2, val_main_v1, val_main_v0]
  simp only [hw, hv, hp, hq]
  exact add_comm _ _

end

section
include hx hw hv hp hq

theorem gain_read (j : Fin 1024) : val_main_v46 (F := Ideal) x0 x2 x3 x4 x5 (ix2 0 j) = (gains x (both p w q v) 8192 j : EReal) := by
  pointwise [val_main_v46, val_main_v29, val_main_v26, val_main_v25, val_main_v24, val_main_v15, val_main_v14, val_main_cst_3, val_main_cst_4]
  simp only [hx, rstd_read hx, both_read hw hv hp hq, gains_all]
  exact Fin.sum_univ_one _

end

section
include hx hg hw hv hp hq

theorem share_read (i : Fin 8192) : val_main_v37 (F := Ideal) x0 x1 x2 x3 x4 x5 (ix2 i 0)
    = (share (x i.val) g (both p w q v i.val) : EReal) := by
  pointwise [val_main_v37, val_main_v36, val_main_v35, val_main_v32, val_main_v31, val_main_v30, val_main_v28, val_main_v27, val_main_v16, val_main_cst_5, val_main_cst_6]
  simp only [hx, hg, slope_read hx, both_read hw hv hp hq, word_1024]
  rfl

include he

theorem token_read (i : Fin 8192) (j : Fin 1024) : val_main_v44 (F := Ideal) x0 x1 x2 x3 x4 x5 x6 (ix2 i j)
    = (back (x i.val) g (both p w q v i.val) j + e i.val j : EReal) := by
  pointwise [val_main_v44, val_main_v43, val_main_v41, val_main_v34, val_main_v28, val_main_v27, val_main_v16, val_main_v33, val_main_v40, val_main_v39, val_main_v38, val_main_cst_7, val_main_v42]
  simp only [Finset.univ_unique, Finset.sum_singleton, Fin.default_eq_zero, hx, hg, he, rstd_read hx, both_read hw hv hp hq, share_read hx hg hw hv hp hq]
  rw [back_eq]

end

end Cert.InDxRef

end
-- ==== Proof.InDxClaim.lean ====
/-
  The claims on the gradient at the mixer's normed input, each from one run of its program.
-/
module

public import proofs.«01_k».proof.Defs
public import proofs.«01_k».proof.Proof.InDxArray
public import proofs.«01_k».proof.Proof.InDxRef
public import proofs.«01_k».proof.Proof.Gen.InDxRefIdeal.Run
public import proofs.«01_k».proof.Proof.Gen.InDx.Frame

@[expose] public section

set_option maxRecDepth 16384

noncomputable section

namespace Cert.InDxClaim

open Idealize.ShloMosaic Idealize.ShloMosaic.TcCoe Idealize.SL.Sem

theorem frame_kernel : Cert.quiescent_InDx := fun m ρ _ => Cert.InDx.Gen.frame m ρ

theorem frame_ideal : Cert.quiescent_InDxIdeal := fun m ρ _ => Cert.InDxIdeal.Gen.frame m ρ

theorem frame_reference : Cert.quiescent_InDxRefIdeal := fun m ρ _ =>
  (θ_run Cert.InDxRefIdeal.defs _ _).mono (fun r h => ⟨fun c => (h c).2.2.2, sem_eq_zero_of_no_sems (by decide) r.2⟩)
    (Cert.InDxRefIdeal.Value.run m ρ)

/-- The arguments hold their own entries; rows past the last one are told as 0. -/
theorem holds (m : (ℓ : Loc InDxIdeal.nD InDxIdeal.τ InDxIdeal.sig) → Buf (Elt Ideal) ℓ) (c : Dev InDxIdeal.nD) :
    ∃ (x : ℕ → Fin 1024 → EReal) (e : ℕ → Fin 1024 → EReal) (g : Fin 1024 → EReal) (w : Fin 1024 → Fin 4096 → EReal) (p : ℕ → Fin 4096 → EReal) (v : Fin 1024 → Fin 128 → EReal) (q : ℕ → Fin 128 → EReal),
      InDxArray.Holds m c x e g w p v q := by
  let x0 : Vec Ideal ⟨2, ![8192, 1024]⟩ .f32 := m ((c.tc : Thread InDxIdeal.nD InDxIdeal.τ).loc InDxIdeal.main_arg0)
  let x1 : Vec Ideal ⟨1, ![1024]⟩ .f32 := m ((c.tc : Thread InDxIdeal.nD InDxIdeal.τ).loc InDxIdeal.main_arg1)
  let x2 : Vec Ideal ⟨2, ![1024, 4096]⟩ .bf16 := m ((c.tc : Thread InDxIdeal.nD InDxIdeal.τ).loc InDxIdeal.main_arg2)
  let x3 : Vec Ideal ⟨2, ![1024, 128]⟩ .bf16 := m ((c.tc : Thread InDxIdeal.nD InDxIdeal.τ).loc InDxIdeal.main_arg3)
  let x4 : Vec Ideal ⟨2, ![8192, 4096]⟩ .bf16 := m ((c.tc : Thread InDxIdeal.nD InDxIdeal.τ).loc InDxIdeal.main_arg4)
  let x5 : Vec Ideal ⟨2, ![8192, 128]⟩ .f32 := m ((c.tc : Thread InDxIdeal.nD InDxIdeal.τ).loc InDxIdeal.main_arg5)
  let x6 : Vec Ideal ⟨2, ![8192, 1024]⟩ .f32 := m ((c.tc : Thread InDxIdeal.nD InDxIdeal.τ).loc InDxIdeal.main_arg6)
  exact ⟨fun i j => if hi : i < 8192 then (x0 (ix2 ⟨i, hi⟩ j) : EReal) else 0,
    fun i j => if hi : i < 8192 then (x6 (ix2 ⟨i, hi⟩ j) : EReal) else 0,
    fun j => x1 (ix1 j),
    fun j k => x2 (ix2 j k),
    fun i j => if hi : i < 8192 then (x4 (ix2 ⟨i, hi⟩ j) : EReal) else 0,
    fun j k => x3 (ix2 j k),
    fun i j => if hi : i < 8192 then (x5 (ix2 ⟨i, hi⟩ j) : EReal) else 0,
    ⟨fun i j => (dif_pos (t := fun h => (x0 (ix2 ⟨i.val, h⟩ j) : EReal)) i.isLt).symm, fun _ => rfl, fun _ _ => rfl, fun _ _ => rfl, fun i j => (dif_pos (t := fun h => (x4 (ix2 ⟨i.val, h⟩ j) : EReal)) i.isLt).symm, fun i j => (dif_pos (t := fun h => (x5 (ix2 ⟨i.val, h⟩ j) : EReal)) i.isLt).symm, fun i j => (dif_pos (t := fun h => (x6 (ix2 ⟨i.val, h⟩ j) : EReal)) i.isLt).symm⟩⟩

section
variable {x0 x6 : Vec Ideal Cert.InDxRefIdeal.S8192x1024 .f32} {x1 : Vec Ideal Cert.InDxRefIdeal.S1024 .f32} {x2 : Vec Ideal Cert.InDxRefIdeal.S1024x4096 .bf16} {x3 : Vec Ideal Cert.InDxRefIdeal.S1024x128 .bf16}
  {x4 : Vec Ideal Cert.InDxRefIdeal.S8192x4096 .bf16} {x5 : Vec Ideal Cert.InDxRefIdeal.S8192x128 .f32}
  {x e : ℕ → Fin 1024 → EReal} {g : Fin 1024 → EReal} {w : Fin 1024 → Fin 4096 → EReal} {p : ℕ → Fin 4096 → EReal}
  {v : Fin 1024 → Fin 128 → EReal} {q : ℕ → Fin 128 → EReal}
  (hx : ∀ (i : Fin 8192) j, (x0 (ix2 i j) : EReal) = (x i.val j : EReal)) (hg : ∀ j, (x1 (ix1 j) : EReal) = (g j : EReal))
  (hw : ∀ j k, (x2 (ix2 j k) : EReal) = (w j k : EReal)) (hv : ∀ j k, (x3 (ix2 j k) : EReal) = (v j k : EReal))
  (hp : ∀ (i : Fin 8192) k, (x4 (ix2 i k) : EReal) = (p i.val k : EReal))
  (hq : ∀ (i : Fin 8192) k, (x5 (ix2 i k) : EReal) = (q i.val k : EReal))
  (he : ∀ (i : Fin 8192) j, (x6 (ix2 i j) : EReal) = (e i.val j : EReal))

section
include hx hg hw hv hp hq he

theorem ref_x : Cert.InDxRefIdeal.Read.val_main_v44 (F := Ideal) x0 x1 x2 x3 x4 x5 x6 = InDxArray.wholeX x e g (InDxArray.both p w q v) := by
  funext y
  obtain ⟨i, j, rfl⟩ : ∃ (i : Fin 8192) (j : Fin 1024), y = ix2 i j := ⟨y 0, y 1, eq_ix2 y⟩
  exact InDxRef.token_read hx hg hw hv hp hq he i j

theorem ref_x16 : Cert.InDxRefIdeal.Read.val_main_v45 (F := Ideal) x0 x1 x2 x3 x4 x5 x6 = InDxArray.wholeX16 x e g (InDxArray.both p w q v) :=
  ref_x hx hg hw hv hp hq he

end

include hx hw hv hp hq in
theorem ref_g : Cert.InDxRefIdeal.Read.val_main_v46 (F := Ideal) x0 x2 x3 x4 x5 = InDxArray.wholeG x (InDxArray.both p w q v) := by
  funext y
  obtain ⟨i, j, rfl⟩ : ∃ (i : Fin 1) (j : Fin 1024), y = ix2 i j := ⟨y 0, y 1, eq_ix2 y⟩
  obtain rfl : i = 0 := Subsingleton.elim _ _
  exact InDxRef.gain_read hx hw hv hp hq j

end

theorem algebraic : Cert.algebraic_InDxIdeal_InDxRefIdeal := by
  intro m g m' g' _ hagree
  choose x e d w p v q H using fun c => holds m c
  refine ⟨fun c => InDxArray.wholeX (x c) (e c) (d c) (InDxArray.both (p c) (w c) (q c) (v c)),
    fun c => InDxArray.wholeX16 (x c) (e c) (d c) (InDxArray.both (p c) (w c) (q c) (v c)),
    fun c => InDxArray.wholeG (x c) (InDxArray.both (p c) (w c) (q c) (v c)), ?_, ?_⟩
  · refine (θ_run Cert.InDxIdeal.defs _ _).mono (fun r h c => ?_) (Cert.InDxIdeal.Value.run_blocks m g)
    obtain ⟨h6, h7, h8, h0⟩ := h c
    exact ⟨h6.trans (InDxArray.final_6 (H c)), h7.trans (InDxArray.final_7 (H c)), h8.trans (InDxArray.final_8 (H c)), h0⟩
  · refine (θ_run Cert.InDxRefIdeal.defs _ _).mono (fun r h c => ?_) (Cert.InDxRefIdeal.Value.run m' g')
    obtain ⟨h6, h7, h8, h0⟩ := h c
    obtain ⟨a0, a1, a2, a3, a4, a5, a6⟩ := hagree c
    refine ⟨h6.trans ?_, h7.trans ?_, h8.trans ?_, h0⟩
    · rw [Cert.InDxRefIdeal.Read.val_main_v44_eq, a0, a1, a2, a3, a4, a5, a6]
      exact ref_x (H c).x (H c).g (H c).w (H c).v (H c).p (H c).q (H c).e
    · rw [Cert.InDxRefIdeal.Read.val_main_v45_eq, a0, a1, a2, a3, a4, a5, a6]
      exact ref_x16 (H c).x (H c).g (H c).w (H c).v (H c).p (H c).q (H c).e
    · rw [Cert.InDxRefIdeal.Read.val_main_v46_eq, a0, a2, a3, a4, a5]
      exact ref_g (H c).x (H c).w (H c).v (H c).p (H c).q

end Cert.InDxClaim

end
-- ==== Proof.OutDxClaim.lean ====
/-
  The gradient at the mixer's output: a grid point holds 1024 tokens and 1024 of the 2048 lanes and multiplies the incoming
  gradient by the transpose of the output projection; the derivative of the projection at its input is the same product.
-/
module

public import proofs.«01_k».proof.Defs
public import proofs.«01_k».proof.Proof.BlockSum
public import proofs.«01_k».proof.Proof.Gen.OutDxIdeal.Value
public import proofs.«01_k».proof.Proof.Gen.OutDxRefIdeal.Run
public import proofs.«01_k».proof.Proof.Gen.OutDxRefIdeal.Read
public import proofs.«01_k».proof.Proof.Gen.OutDx.Frame
public import Idealize.ShloMosaic.Lib.StableHlo.Run
public import Idealize.ShloMosaic.Lib.Tactic

@[expose] public section

set_option maxRecDepth 16384

noncomputable section

namespace Cert.OutDxClaim

open Idealize.ShloMosaic Idealize.ShloMosaic.TcCoe Idealize.SL.Sem

theorem frame_kernel : Cert.quiescent_OutDx := fun m ρ _ => Cert.OutDx.Gen.frame m ρ

theorem frame_ideal : Cert.quiescent_OutDxIdeal := fun m ρ _ => Cert.OutDxIdeal.Gen.frame m ρ

theorem frame_reference : Cert.quiescent_OutDxRefIdeal := fun m ρ _ =>
  (θ_run Cert.OutDxRefIdeal.defs _ _).mono (fun r h => ⟨fun c => (h c).2, sem_eq_zero_of_no_sems (by decide) r.2⟩)
    (Cert.OutDxRefIdeal.Value.run m ρ)

theorem hz : (![0, 0] : Fin 2 → Nat) = fun _ => 0 := funext fun a => by fin_cases a <;> rfl

section
open Cert.OutDxIdeal Cert.OutDxIdeal.Gen Cert.OutDxIdeal.Value

/-- What a point computes from its blocks. -/
theorem pay_apply (x0 : Vec Ideal S1024x1024 .bf16) (x1 : Vec Ideal S1024x1024 .bf16) (r : Fin 1024) (j : Fin 1024) :
    k0_pay1 x0 x1 (ix2 r j) = (∑ k : Fin 1024, (x0 (ix2 r k) : EReal) * (x1 (ix2 j k) : EReal)) := by
  pointwise [k0_pay1]

theorem out_eq (x0 : Vec Ideal S1024x1024 .bf16) (x1 : Vec Ideal S1024x1024 .bf16) : out0_2 x0 x1 = k0_pay1 x0 x1 := by
  unfold out0_2
  rw [View.canon_unit_zero hz]
  simp only [View.ld_unit_zero (S := S1024x1024) hz]

/-! ### Where the blocks lie -/

theorem idx : ∀ t : Fin cfg0.N, (win0_0.index t 0 = t.val / 2 ∧ win0_0.index t 1 = 0)
    ∧ (win0_1.index t 0 = t.val % 2 ∧ win0_1.index t 1 = 0) ∧ (win0_2.index t 0 = t.val / 2 ∧ win0_2.index t 1 = t.val % 2) :=
  (by decide +kernel : ∀ t : Fin grid0.N, (win0_0.index t 0 = t.val / 2 ∧ win0_0.index t 1 = 0)
    ∧ (win0_1.index t 0 = t.val % 2 ∧ win0_1.index t 1 = 0) ∧ (win0_2.index t 0 = t.val / 2 ∧ win0_2.index t 1 = t.val % 2))

theorem N_eq : cfg0.N = 16 := by decide

variable (m : (ℓ : Loc nD τ sig) → Buf (Elt Ideal) ℓ) (c : Dev nD)

/-- The two arrays the call multiplies. -/
abbrev lhs : Vec Ideal S8192x1024 .bf16 := V m c main_arg1
abbrev rhs : Vec Ideal S2048x1024 .bf16 := V m c main_arg0

/-- The token and the lane of an element of point `t`'s blocks. -/
abbrev tok (t : Fin cfg0.N) (r : Fin 1024) : Fin 8192 := ⟨1024 * (t.val / 2) + r.val, by have := t.isLt; have := N_eq; omega⟩
abbrev lane (t : Fin cfg0.N) (j : Fin 1024) : Fin 2048 := ⟨1024 * (t.val % 2) + j.val, by omega⟩

theorem iblk_0 (t : Fin cfg0.N) (r : Fin 1024) (k : Fin 1024) :
    (iblk m c 0 t : Vec Ideal S1024x1024 .bf16) (ix2 r k) = lhs m c (ix2 (tok t r) k) := by
  obtain ⟨⟨e0, e1⟩, -⟩ := idx t
  unfold iblk
  rw [View.read_apply]
  show V m c main_arg1 _ = V m c main_arg1 _
  congr 1
  funext a
  apply Fin.ext
  match a with
  | ⟨0, _⟩ => show win0_0.index t 0 * 1024 + 1 * r.val = 1024 * (t.val / 2) + r.val; rw [e0]; omega
  | ⟨1, _⟩ => show win0_0.index t 1 * 1024 + 1 * k.val = k.val; rw [e1]; omega

theorem iblk_1 (t : Fin cfg0.N) (j k : Fin 1024) :
    (iblk m c 1 t : Vec Ideal S1024x1024 .bf16) (ix2 j k) = rhs m c (ix2 (lane t j) k) := by
  obtain ⟨-, ⟨e0, e1⟩, -⟩ := idx t
  unfold iblk
  rw [View.read_apply]
  show V m c main_arg0 _ = V m c main_arg0 _
  congr 1
  funext a
  apply Fin.ext
  match a with
  | ⟨0, _⟩ => show win0_1.index t 0 * 1024 + 1 * j.val = 1024 * (t.val % 2) + j.val; rw [e0]; omega
  | ⟨1, _⟩ => show win0_1.index t 1 * 1024 + 1 * k.val = k.val; rw [e1]; omega

theorem emb (t : Fin cfg0.N) (r : Fin 1024) (j : Fin 1024) :
    (((cfg0.win 2).blk t).view.emb (ix2 r j) : S8192x2048.Idx) = ix2 (tok t r) (lane t j) := by
  obtain ⟨-, -, ⟨e0, e1⟩⟩ := idx t
  funext a
  apply Fin.ext
  match a with
  | ⟨0, _⟩ => show win0_2.index t 0 * 1024 + 1 * r.val = 1024 * (t.val / 2) + r.val; rw [e0]; omega
  | ⟨1, _⟩ => show win0_2.index t 1 * 1024 + 1 * j.val = 1024 * (t.val % 2) + j.val; rw [e1]; omega

/-! ### The whole array -/

/-- The incoming gradient times the transpose of the output projection. -/
def whole : Vec Ideal S8192x2048 .f32 := fun y =>
  ((∑ k : Fin 1024, (lhs m c (ix2 (y 0) k) : EReal) * (rhs m c (ix2 (y 1) k) : EReal)) : EReal)

theorem whole_apply (r : Fin 8192) (j : Fin 2048) : whole m c (ix2 r j)
    = (∑ k : Fin 1024, (lhs m c (ix2 r k) : EReal) * (rhs m c (ix2 j k) : EReal)) := rfl

/-- The array after the run. -/
theorem final : (dats m 0 c).arrAt 2 cfg0.N = whole m c := by
  refine (dats m 0 c).arrAt_eq_of_cover 2 _ (fun t _ => ?_) (fun i => ?_)
  · rw [flushed2, out_eq]
    funext y
    obtain ⟨r, j, rfl⟩ : ∃ (r : Fin 1024) (j : Fin 1024), y = (ix2 r j : S1024x1024.Idx) := ⟨y 0, y 1, eq_ix2 y⟩
    rw [View.read_apply]
    refine (pay_apply (iblk m c 0 t) (iblk m c 1 t) r j).trans (.trans ?_ (congrArg (whole m c) (emb t r j)).symm)
    simp only [iblk_0, iblk_1]
    rfl
  · obtain ⟨a, b, rfl⟩ : ∃ (a : Fin 8192) (b : Fin 2048), i = (ix2 a b : S8192x2048.Idx) := ⟨i 0, i 1, eq_ix2 i⟩
    have ht : 2 * (a.val / 1024) + b.val / 1024 < cfg0.N := by have := N_eq; omega
    refine ⟨⟨_, ht⟩, flush0_2 _, ?_⟩
    have he : (ix2 a b : S8192x2048.Idx) = ((cfg0.win 2).blk ⟨_, ht⟩).view.emb
        (ix2 ⟨a.val % 1024, Nat.mod_lt _ (by decide)⟩ ⟨b.val % 1024, Nat.mod_lt _ (by decide)⟩) := by
      rw [emb]
      refine congrArg₂ ix2 (Fin.ext ?_) (Fin.ext ?_)
      · show a.val = 1024 * ((2 * (a.val / 1024) + b.val / 1024) / 2) + a.val % 1024
        omega
      · show b.val = 1024 * ((2 * (a.val / 1024) + b.val / 1024) % 2) + b.val % 1024
        omega
    rw [he]
    exact View.emb_mem_set _ _

/-- One element of the product of two arrays. -/
def prod (a : Vec Ideal S8192x1024 .bf16) (b : Vec Ideal S2048x1024 .bf16) (r : Fin 8192) (j : Fin 2048) : EReal :=
  ∑ k : Fin 1024, (a (ix2 r k) : EReal) * (b (ix2 j k) : EReal)

/-- The call's element, over the arguments. -/
theorem call_apply (r : Fin 8192) (j : Fin 2048) : whole m c (ix2 r j)
    = prod (m ((c : Thread nD τ).loc main_arg1)) (m ((c : Thread nD τ).loc main_arg0)) r j := by
  refine (whole_apply m c r j).trans ?_
  unfold lhs rhs
  rw [V_main_arg0, V_main_arg1]
  rfl

end

section
open Cert.OutDxRefIdeal Cert.OutDxRefIdeal.Read

/-- The reference's element. -/
theorem ref_apply (a : (⟨S2048x1024, .bf16⟩ : BufTy).Contents (Elt Ideal)) (b : (⟨S8192x1024, .bf16⟩ : BufTy).Contents (Elt Ideal))
    (r : Fin 8192) (j : Fin 2048) :
    val_main_v4 (F := Ideal) a b (ix2 r j) = prod b a r j := by
  pointwise [val_main_v4, val_main_v1, val_main_v0]
  rfl

end

theorem algebraic : Cert.algebraic_OutDxIdeal_OutDxRefIdeal := by
  intro m g m' g' _ hagree
  refine ⟨fun c => whole m c, ?_, ?_⟩
  · refine (θ_run Cert.OutDxIdeal.defs _ _).mono (fun r h c => ?_) (Cert.OutDxIdeal.Value.run_blocks m g)
    obtain ⟨hr, h0, h1⟩ := h c
    exact ⟨hr.trans (final m c), h0, h1⟩
  · refine (θ_run Cert.OutDxRefIdeal.defs _ _).mono (fun r h c => ?_) (Cert.OutDxRefIdeal.Value.run m' g')
    obtain ⟨hr, h0, h1⟩ := h c
    obtain ⟨a0, a1⟩ := hagree c
    refine ⟨hr.trans ?_, h0, h1⟩
    rw [Cert.OutDxRefIdeal.Read.val_main_v4_eq, a0, a1]
    funext y
    obtain ⟨r, j, rfl⟩ : ∃ (r : Fin 8192) (j : Fin 2048), y = (ix2 r j : Cert.OutDxRefIdeal.S8192x2048.Idx) := ⟨y 0, y 1, eq_ix2 y⟩
    exact (ref_apply _ _ r j).trans (call_apply m c r j).symm

end Cert.OutDxClaim

end
-- ==== Proof.OutDwArray.lean ====
/-
  The gradient of the mixer's output projection. The array the call leaves: a pair of grid points holds 1024 rows of the result; the
  first point keeps the product over the first 4096 tokens, the second adds the other 4096 and writes the block.
-/
module

public import proofs.«01_k».proof.Proof.BlockSum
public import proofs.«01_k».proof.Proof.Gen.OutDwIdeal.Value
public import Idealize.ShloMosaic.Lib.StableHlo.Run
public import Idealize.ShloMosaic.Lib.Tactic

@[expose] public section

set_option maxRecDepth 16384

noncomputable section

namespace Cert.OutDwArray

open Cert.OutDwIdeal Cert.OutDwIdeal.Gen Cert.OutDwIdeal.Value
open Idealize.ShloMosaic Idealize.ShloMosaic.TcCoe Idealize.SL.Sem

theorem hz : (![0, 0] : Fin 2 → Nat) = fun _ => 0 := funext fun a => by fin_cases a <;> rfl

/-! ### What a point computes from its blocks -/

/-- The product of the two blocks, contracted over their rows. -/
theorem pay1_apply (x0 x1 : Vec Ideal S4096x1024 .bf16) (r j : Fin 1024) :
    k0_pay1 x0 x1 (ix2 r j) = ∑ k : Fin 4096, (x0 (ix2 k r) : EReal) * (x1 (ix2 k j) : EReal) := by
  pointwise [k0_pay1]

theorem pay2_apply (x0 x1 : Vec Ideal S4096x1024 .bf16) (r j : Fin 1024) :
    k0_pay2 x0 x1 (ix2 r j) = ∑ k : Fin 4096, (x0 (ix2 k r) : EReal) * (x1 (ix2 k j) : EReal) := by
  unfold k0_pay2
  rw [shapeCast_self]
  exact pay1_apply x0 x1 r j

theorem pay4_apply (x0 x1 : Vec Ideal S4096x1024 .bf16) (acc : Vec Ideal S1024x1024 .f32) (r j : Fin 1024) :
    k0_pay4 x0 x1 acc (ix2 r j) = (acc (ix2 r j) : EReal) + ∑ k : Fin 4096, (x0 (ix2 k r) : EReal) * (x1 (ix2 k j) : EReal) := by
  rw [← pay1_apply x0 x1 r j]
  rfl

section
variable {F : FTy → Type} [FloatOps F]
  (c : Dev nD) (i : grid0.Coords) (a3 : Memref sig .tc .vmem S4096x1024 .bf16) (h3 : a3.IsWhole)
  (a4 : Memref sig .tc .vmem S4096x1024 .bf16) (h4 : a4.IsWhole) (a5 : Memref sig .tc .vmem S1024x1024 .bf16) (h5 : a5.IsWhole)
  (a6 : Memref sig .tc .vmem S1024x1024 .f32) (h6 : a6.IsWhole)
  (x0 x1 : Vec F S4096x1024 .bf16) (xs : Vec F S1024x1024 .f32)

/-- The first point of a pair leaves its product in the scratch. -/
theorem first (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_junk_eq_canon]
  unfold kernelRun0_A
  dsimp only
  rw [View.canon_unit_zero hz]
  simp only [View.readAt_eq_ld, h3.read_unread, h4.read_unread, View.ld_unit_zero (S := S4096x1024) hz]

/-- The second point writes the scratch plus its product. -/
theorem second (hc0 : ¬cond0_0 i) (hc1 : ¬cond0_1 i) (hc2 : cond0_2 i) :
    out0_B_2 c i a3 h3 a4 h4 a5 h5 a6 h6 hc0 hc1 hc2 x0 x1 xs = k0_pay4 x0 x1 xs := by
  unfold out0_B_2
  rw [View.read_writes_junk_eq_canon]
  unfold kernelRun0_B
  dsimp only
  rw [View.canon_unit_zero hz]
  simp only [View.readAt_eq_ld, h3.read_unread, h4.read_unread, h6.read_unread, View.ld_unit_zero (S := S4096x1024) hz,
    View.ld_unit_zero (S := S1024x1024) hz]

end

/-! ### Where the blocks lie -/

theorem idx : ∀ t : Fin cfg0.N, win0_0.index t 0 = t.val % 2 ∧ win0_0.index t 1 = t.val / 2
    ∧ win0_1.index t 0 = t.val % 2 ∧ win0_1.index t 1 = 0 ∧ win0_2.index t 0 = t.val / 2 ∧ win0_2.index t 1 = 0 :=
  (by decide +kernel : ∀ t : Fin grid0.N, win0_0.index t 0 = t.val % 2 ∧ win0_0.index t 1 = t.val / 2
    ∧ win0_1.index t 0 = t.val % 2 ∧ win0_1.index t 1 = 0 ∧ win0_2.index t 0 = t.val / 2 ∧ win0_2.index t 1 = 0)

theorem N_eq : cfg0.N = 4 := by decide

variable (m : (ℓ : Loc nD τ sig) → Buf (Elt Ideal) ℓ) (c : Dev nD)

/-- The token and the row of an element of point `t`'s blocks. -/
abbrev tok (t : Fin cfg0.N) (k : Fin 4096) : Fin 8192 := ⟨4096 * (t.val % 2) + k.val, by omega⟩
abbrev row (t : Fin cfg0.N) (r : Fin 1024) : Fin 2048 := ⟨1024 * (t.val / 2) + r.val, by have := t.isLt; have := N_eq; omega⟩

/-- The two arrays the call multiplies. -/
abbrev lhs : Vec Ideal S8192x2048 .bf16 := V m c main_arg0
abbrev rhs : Vec Ideal S8192x1024 .bf16 := V m c main_arg1

theorem iblk_0 (t : Fin cfg0.N) (k : Fin 4096) (r : Fin 1024) :
    (iblk m c 0 t : Vec Ideal S4096x1024 .bf16) (ix2 k r) = lhs m c (ix2 (tok t k) (row t r)) := by
  obtain ⟨e0, e1, -⟩ := idx t
  unfold iblk
  rw [View.read_apply]
  show V m c main_arg0 _ = V m c main_arg0 _
  congr 1
  funext a
  apply Fin.ext
  match a with
  | ⟨0, _⟩ => show win0_0.index t 0 * 4096 + 1 * k.val = 4096 * (t.val % 2) + k.val; rw [e0]; omega
  | ⟨1, _⟩ => show win0_0.index t 1 * 1024 + 1 * r.val = 1024 * (t.val / 2) + r.val; rw [e1]; omega

theorem iblk_1 (t : Fin cfg0.N) (k : Fin 4096) (j : Fin 1024) :
    (iblk m c 1 t : Vec Ideal S4096x1024 .bf16) (ix2 k j) = rhs m c (ix2 (tok t k) j) := by
  obtain ⟨-, -, e0, e1, -⟩ := idx t
  unfold iblk
  rw [View.read_apply]
  show V m c main_arg1 _ = V m c main_arg1 _
  congr 1
  funext a
  apply Fin.ext
  match a with
  | ⟨0, _⟩ => show win0_1.index t 0 * 4096 + 1 * k.val = 4096 * (t.val % 2) + k.val; rw [e0]; omega
  | ⟨1, _⟩ => show win0_1.index t 1 * 1024 + 1 * j.val = j.val; rw [e1]; omega

theorem emb (t : Fin cfg0.N) (r j : Fin 1024) :
    (((cfg0.win 2).blk t).view.emb (ix2 r j) : S2048x1024.Idx) = ix2 (row t r) j := by
  obtain ⟨-, -, -, -, e0, e1⟩ := idx t
  funext a
  apply Fin.ext
  match a with
  | ⟨0, _⟩ => show win0_2.index t 0 * 1024 + 1 * r.val = 1024 * (t.val / 2) + r.val; rw [e0]; omega
  | ⟨1, _⟩ => show win0_2.index t 1 * 1024 + 1 * j.val = j.val; rw [e1]; omega

/-! ### The whole array -/

/-- The product over all tokens. -/
def whole : Vec Ideal S2048x1024 .bf16 := fun y =>
  (∑ k : Fin 8192, (lhs m c (ix2 k (y 0)) : EReal) * (rhs m c (ix2 k (y 1)) : EReal) : EReal)

theorem whole_apply (r : Fin 2048) (j : Fin 1024) :
    whole m c (ix2 r j) = ∑ k : Fin 8192, (lhs m c (ix2 k r) : EReal) * (rhs m c (ix2 k j) : EReal) := rfl

/-- What a pair of points writes: its block of the product. -/
theorem written (t : Fin cfg0.N) (ht : t.val % 2 = 1) (r j : Fin 1024) :
    (outsAt0 m c t.val t.isLt).1 (ix2 r j) = whole m c (ix2 (row t r) j) := by
  have hlt : t.val - 1 < cfg0.N := lt_of_le_of_lt (Nat.sub_le _ _) t.isLt
  have hm : (t.val - 1) % 2 = 0 := by omega
  have hd : (t.val - 1) / 2 = t.val / 2 := by omega
  rw [outsAt0_B m c t (by omega) ht]
  dsimp only
  rw [second, pay4_apply, outsAt0_A m c ⟨t.val - 1, hlt⟩ hm (by dsimp only; omega)]
  dsimp only
  rw [first, pay2_apply]
  refine Cert.BlockSum.halves_fin 4096 8192 rfl (fun k => (lhs m c (ix2 k (row t r)) : EReal) * (rhs m c (ix2 k j) : EReal)) _ _
    (fun k => ?_) (fun k => ?_)
  · rw [iblk_0, iblk_1]
    refine congrArg₂ (fun a b => (lhs m c a : EReal) * (rhs m c b : EReal)) (congrArg₂ ix2 (Fin.ext ?_) (Fin.ext ?_))
      (congrArg (ix2 · j) (Fin.ext ?_))
    all_goals simp [hm, hd]
  · rw [iblk_0, iblk_1]
    refine congrArg₂ (fun a b => (lhs m c a : EReal) * (rhs m c b : EReal)) (congrArg₂ ix2 (Fin.ext ?_) rfl)
      (congrArg (ix2 · j) (Fin.ext ?_))
    all_goals simp [ht]

/-- The array after the run. -/
theorem final : (dats m 0 c).arrAt 2 cfg0.N = whole m c := by
  refine (dats m 0 c).arrAt_eq_of_cover 2 _ (fun t hf => ?_) (fun i => (covered_iff2 i).2 ?_)
  · rw [flushed2]
    funext y
    obtain ⟨r, j, rfl⟩ : ∃ (r j : Fin 1024), y = (ix2 r j : S1024x1024.Idx) := ⟨y 0, y 1, eq_ix2 y⟩
    rw [View.read_apply]
    exact (written m c t ((flush0_2 t).mp hf) r j).trans (congrArg (whole m c) (emb t r j)).symm
  · have h0 : (i 0).val < 2048 := (i 0).isLt
    have h1 : (i 1).val < 1024 := (i 1).isLt
    omega

end Cert.OutDwArray

end
-- ==== Proof.OutDwClaim.lean ====
/-
  The output projection's gradient: the call's product is the derivative of the projection at its weight.
-/
module

public import proofs.«01_k».proof.Defs
public import proofs.«01_k».proof.Proof.OutDwArray
public import proofs.«01_k».proof.Proof.Gen.OutDwRefIdeal.Run
public import proofs.«01_k».proof.Proof.Gen.OutDwRefIdeal.Read
public import proofs.«01_k».proof.Proof.Gen.OutDw.Frame

@[expose] public section

set_option maxRecDepth 16384

noncomputable section

namespace Cert.OutDwClaim

open Idealize.ShloMosaic Idealize.ShloMosaic.TcCoe Idealize.SL.Sem

theorem frame_kernel : Cert.quiescent_OutDw := fun m ρ _ => Cert.OutDw.Gen.frame m ρ

theorem frame_ideal : Cert.quiescent_OutDwIdeal := fun m ρ _ => Cert.OutDwIdeal.Gen.frame m ρ

theorem frame_reference : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run m ρ)

/-- One element of a product over all tokens. -/
def over (a : Vec Ideal Cert.OutDwIdeal.S8192x2048 .bf16) (b : Vec Ideal Cert.OutDwIdeal.S8192x1024 .bf16) (r : Fin 2048) (j : Fin 1024) : EReal :=
  ∑ k : Fin 8192, (a (ix2 k r) : EReal) * (b (ix2 k j) : EReal)

section
open Cert.OutDwIdeal Cert.OutDwIdeal.Gen

/-- The call's element, over the arguments. -/
theorem call_apply (m : (ℓ : Loc nD τ sig) → Buf (Elt Ideal) ℓ) (c : Dev nD) (r : Fin 2048) (j : Fin 1024) :
    OutDwArray.whole m c (ix2 r j) = over (m ((c : Thread nD τ).loc main_arg0)) (m ((c : Thread nD τ).loc main_arg1)) r j := by
  refine (OutDwArray.whole_apply m c r j).trans ?_
  unfold OutDwArray.lhs OutDwArray.rhs
  rw [V_main_arg0, V_main_arg1]
  rfl

end

section
open Cert.OutDwRefIdeal Cert.OutDwRefIdeal.Read

/-- The reference's element: the mixer's output against the incoming gradient, over all tokens. -/
theorem ref_apply (a : (⟨S8192x2048, .bf16⟩ : BufTy).Contents (Elt Ideal)) (b : (⟨S8192x1024, .bf16⟩ : BufTy).Contents (Elt Ideal))
    (r : Fin 2048) (j : Fin 1024) :
    val_main_v6 (F := Ideal) a b (ix2 r j) = ∑ k : Fin 8192, (b (ix2 k j) : EReal) * (a (ix2 k r) : EReal) := by
  pointwise [val_main_v6, val_main_v5, val_main_v4, val_main_v1, val_main_v0]

end

theorem algebraic : Cert.algebraic_OutDwIdeal_OutDwRefIdeal := by
  intro m g m' g' _ hagree
  refine ⟨fun c => OutDwArray.whole m c, ?_, ?_⟩
  · refine (θ_run Cert.OutDwIdeal.defs _ _).mono (fun r h c => ?_) (Cert.OutDwIdeal.Value.run_blocks m g)
    obtain ⟨hr, h0, h1⟩ := h c
    exact ⟨hr.trans (OutDwArray.final m c), h0, h1⟩
  · refine (θ_run Cert.OutDwRefIdeal.defs _ _).mono (fun r h c => ?_) (Cert.OutDwRefIdeal.Value.run m' g')
    obtain ⟨hr, h0, h1⟩ := h c
    obtain ⟨a0, a1⟩ := hagree c
    refine ⟨hr.trans ?_, h0, h1⟩
    rw [Cert.OutDwRefIdeal.Read.val_main_v6_eq, a0, a1]
    funext y
    obtain ⟨r, j, rfl⟩ : ∃ (r : Fin 2048) (j : Fin 1024), y = (ix2 r j : Cert.OutDwRefIdeal.S2048x1024.Idx) := ⟨y 0, y 1, eq_ix2 y⟩
    exact (ref_apply _ _ r j).trans ((Finset.sum_congr rfl fun k _ => mul_comm _ _).trans (call_apply m c r j).symm)

end Cert.OutDwClaim

end
-- ==== Proof.UpClaim.lean ====
/-
  The MLP's activation: a grid point holds 2048 tokens and 1024 of the 4096 hidden lanes; it multiplies, takes the positive part
  and squares.
-/
module

public import proofs.«01_k».proof.Defs
public import proofs.«01_k».proof.Proof.BlockSum
public import proofs.«01_k».proof.Proof.Gen.UpIdeal.Value
public import proofs.«01_k».proof.Proof.Gen.UpRefIdeal.Run
public import proofs.«01_k».proof.Proof.Gen.UpRefIdeal.Read
public import proofs.«01_k».proof.Proof.Gen.Up.Frame
public import Idealize.ShloMosaic.Lib.StableHlo.Run
public import Idealize.ShloMosaic.Lib.Tactic

@[expose] public section

set_option maxRecDepth 16384

noncomputable section

namespace Cert.UpClaim

open Idealize.ShloMosaic Idealize.ShloMosaic.TcCoe Idealize.SL.Sem

theorem frame_kernel : Cert.quiescent_Up := fun m ρ _ => Cert.Up.Gen.frame m ρ

theorem frame_ideal : Cert.quiescent_UpIdeal := fun m ρ _ => Cert.UpIdeal.Gen.frame m ρ

theorem frame_reference : Cert.quiescent_UpRefIdeal := fun m ρ _ =>
  (θ_run Cert.UpRefIdeal.defs _ _).mono (fun r h => ⟨fun c => (h c).2, sem_eq_zero_of_no_sems (by decide) r.2⟩)
    (Cert.UpRefIdeal.Value.run m ρ)

/-- The squared positive part. -/
def act (p : EReal) : EReal := max p 0 * max p 0

theorem hz : (![0, 0] : Fin 2 → Nat) = fun _ => 0 := funext fun a => by fin_cases a <;> rfl

section
open Cert.UpIdeal Cert.UpIdeal.Gen Cert.UpIdeal.Value

/-- What a point computes from its blocks. -/
theorem pay_apply (x0 : Vec Ideal S2048x1024 .bf16) (x1 : Vec Ideal S1024x1024 .bf16) (r : Fin 2048) (j : Fin 1024) :
    k0_pay1 x0 x1 (ix2 r j) = act (∑ k : Fin 1024, (x0 (ix2 r k) : EReal) * (x1 (ix2 k j) : EReal)) := by
  pointwise [k0_pay1]
  simp [act, Ideal.ofBits, Ideal.ieee]

theorem out_eq (x0 : Vec Ideal S2048x1024 .bf16) (x1 : Vec Ideal S1024x1024 .bf16) : out0_2 x0 x1 = k0_pay1 x0 x1 := by
  unfold out0_2
  rw [View.canon_unit_zero hz]
  simp only [View.ld_unit_zero (S := S2048x1024) hz, View.ld_unit_zero (S := S1024x1024) hz]

/-! ### Where the blocks lie -/

theorem idx : ∀ t : Fin cfg0.N, (win0_0.index t 0 = t.val / 4 ∧ win0_0.index t 1 = 0)
    ∧ (win0_1.index t 0 = 0 ∧ win0_1.index t 1 = t.val % 4) ∧ (win0_2.index t 0 = t.val / 4 ∧ win0_2.index t 1 = t.val % 4) :=
  (by decide +kernel : ∀ t : Fin grid0.N, (win0_0.index t 0 = t.val / 4 ∧ win0_0.index t 1 = 0)
    ∧ (win0_1.index t 0 = 0 ∧ win0_1.index t 1 = t.val % 4) ∧ (win0_2.index t 0 = t.val / 4 ∧ win0_2.index t 1 = t.val % 4))

theorem N_eq : cfg0.N = 16 := by decide

variable (m : (ℓ : Loc nD τ sig) → Buf (Elt Ideal) ℓ) (c : Dev nD)

/-- The two arrays the call multiplies. -/
abbrev lhs : Vec Ideal S8192x1024 .bf16 := V m c main_arg0
abbrev rhs : Vec Ideal S1024x4096 .bf16 := V m c main_arg1

/-- The token and the lane of an element of point `t`'s blocks. -/
abbrev tok (t : Fin cfg0.N) (r : Fin 2048) : Fin 8192 := ⟨2048 * (t.val / 4) + r.val, by have := t.isLt; have := N_eq; omega⟩
abbrev lane (t : Fin cfg0.N) (j : Fin 1024) : Fin 4096 := ⟨1024 * (t.val % 4) + j.val, by omega⟩

theorem iblk_0 (t : Fin cfg0.N) (r : Fin 2048) (k : Fin 1024) :
    (iblk m c 0 t : Vec Ideal S2048x1024 .bf16) (ix2 r k) = lhs m c (ix2 (tok t r) k) := by
  obtain ⟨⟨e0, e1⟩, -⟩ := idx t
  unfold iblk
  rw [View.read_apply]
  show V m c main_arg0 _ = V m c main_arg0 _
  congr 1
  funext a
  apply Fin.ext
  match a with
  | ⟨0, _⟩ => show win0_0.index t 0 * 2048 + 1 * r.val = 2048 * (t.val / 4) + r.val; rw [e0]; omega
  | ⟨1, _⟩ => show win0_0.index t 1 * 1024 + 1 * k.val = k.val; rw [e1]; omega

theorem iblk_1 (t : Fin cfg0.N) (k j : Fin 1024) :
    (iblk m c 1 t : Vec Ideal S1024x1024 .bf16) (ix2 k j) = rhs m c (ix2 k (lane t j)) := by
  obtain ⟨-, ⟨e0, e1⟩, -⟩ := idx t
  unfold iblk
  rw [View.read_apply]
  show V m c main_arg1 _ = V m c main_arg1 _
  congr 1
  funext a
  apply Fin.ext
  match a with
  | ⟨0, _⟩ => show win0_1.index t 0 * 1024 + 1 * k.val = k.val; rw [e0]; omega
  | ⟨1, _⟩ => show win0_1.index t 1 * 1024 + 1 * j.val = 1024 * (t.val % 4) + j.val; rw [e1]; omega

theorem emb (t : Fin cfg0.N) (r : Fin 2048) (j : Fin 1024) :
    (((cfg0.win 2).blk t).view.emb (ix2 r j) : S8192x4096.Idx) = ix2 (tok t r) (lane t j) := by
  obtain ⟨-, -, ⟨e0, e1⟩⟩ := idx t
  funext a
  apply Fin.ext
  match a with
  | ⟨0, _⟩ => show win0_2.index t 0 * 2048 + 1 * r.val = 2048 * (t.val / 4) + r.val; rw [e0]; omega
  | ⟨1, _⟩ => show win0_2.index t 1 * 1024 + 1 * j.val = 1024 * (t.val % 4) + j.val; rw [e1]; omega

/-! ### The whole array -/

/-- The squared positive part of the product. -/
def whole : Vec Ideal S8192x4096 .bf16 := fun y =>
  (act (∑ k : Fin 1024, (lhs m c (ix2 (y 0) k) : EReal) * (rhs m c (ix2 k (y 1)) : EReal)) : EReal)

theorem whole_apply (r : Fin 8192) (j : Fin 4096) : whole m c (ix2 r j)
    = act (∑ k : Fin 1024, (lhs m c (ix2 r k) : EReal) * (rhs m c (ix2 k j) : EReal)) := rfl

/-- The array after the run. -/
theorem final : (dats m 0 c).arrAt 2 cfg0.N = whole m c := by
  refine (dats m 0 c).arrAt_eq_of_cover 2 _ (fun t _ => ?_) (fun i => ?_)
  · rw [flushed2, out_eq]
    funext y
    obtain ⟨r, j, rfl⟩ : ∃ (r : Fin 2048) (j : Fin 1024), y = (ix2 r j : S2048x1024.Idx) := ⟨y 0, y 1, eq_ix2 y⟩
    rw [View.read_apply]
    refine (pay_apply (iblk m c 0 t) (iblk m c 1 t) r j).trans (.trans ?_ (congrArg (whole m c) (emb t r j)).symm)
    simp only [iblk_0, iblk_1]
    rfl
  · obtain ⟨a, b, rfl⟩ : ∃ (a : Fin 8192) (b : Fin 4096), i = (ix2 a b : S8192x4096.Idx) := ⟨i 0, i 1, eq_ix2 i⟩
    have ht : 4 * (a.val / 2048) + b.val / 1024 < cfg0.N := by have := N_eq; omega
    refine ⟨⟨_, ht⟩, flush0_2 _, ?_⟩
    have he : (ix2 a b : S8192x4096.Idx) = ((cfg0.win 2).blk ⟨_, ht⟩).view.emb
        (ix2 ⟨a.val % 2048, Nat.mod_lt _ (by decide)⟩ ⟨b.val % 1024, Nat.mod_lt _ (by decide)⟩) := by
      rw [emb]
      refine congrArg₂ ix2 (Fin.ext ?_) (Fin.ext ?_)
      · show a.val = 2048 * ((4 * (a.val / 2048) + b.val / 1024) / 4) + a.val % 2048
        omega
      · show b.val = 1024 * ((4 * (a.val / 2048) + b.val / 1024) % 4) + b.val % 1024
        omega
    rw [he]
    exact View.emb_mem_set _ _

/-- One element of the product of two arrays. -/
def prod (a : Vec Ideal S8192x1024 .bf16) (b : Vec Ideal S1024x4096 .bf16) (r : Fin 8192) (j : Fin 4096) : EReal :=
  ∑ k : Fin 1024, (a (ix2 r k) : EReal) * (b (ix2 k j) : EReal)

/-- The call's element, over the arguments. -/
theorem call_apply (r : Fin 8192) (j : Fin 4096) : whole m c (ix2 r j)
    = act (prod (m ((c : Thread nD τ).loc main_arg0)) (m ((c : Thread nD τ).loc main_arg1)) r j) := by
  refine (whole_apply m c r j).trans ?_
  unfold lhs rhs
  rw [V_main_arg0, V_main_arg1]
  rfl

end

section
open Cert.UpRefIdeal Cert.UpRefIdeal.Read

/-- The reference's element. -/
theorem ref_apply (a : (⟨S8192x1024, .bf16⟩ : BufTy).Contents (Elt Ideal)) (b : (⟨S1024x4096, .bf16⟩ : BufTy).Contents (Elt Ideal))
    (r : Fin 8192) (j : Fin 4096) :
    val_main_v5 (F := Ideal) a b (ix2 r j) = act (prod a b r j) := by
  pointwise [val_main_v5, val_main_v4, val_main_v3, val_main_v2, val_main_v1, val_main_v0, val_main_call0_v0, val_main_call0_cst]
  rfl

end

theorem algebraic : Cert.algebraic_UpIdeal_UpRefIdeal := by
  intro m g m' g' _ hagree
  refine ⟨fun c => whole m c, ?_, ?_⟩
  · refine (θ_run Cert.UpIdeal.defs _ _).mono (fun r h c => ?_) (Cert.UpIdeal.Value.run_blocks m g)
    obtain ⟨hr, h0, h1⟩ := h c
    exact ⟨hr.trans (final m c), h0, h1⟩
  · refine (θ_run Cert.UpRefIdeal.defs _ _).mono (fun r h c => ?_) (Cert.UpRefIdeal.Value.run m' g')
    obtain ⟨hr, h0, h1⟩ := h c
    obtain ⟨a0, a1⟩ := hagree c
    refine ⟨hr.trans ?_, h0, h1⟩
    rw [Cert.UpRefIdeal.Read.val_main_v5_eq, a0, a1]
    funext y
    obtain ⟨r, j, rfl⟩ : ∃ (r : Fin 8192) (j : Fin 4096), y = (ix2 r j : Cert.UpRefIdeal.S8192x4096.Idx) := ⟨y 0, y 1, eq_ix2 y⟩
    exact (ref_apply _ _ r j).trans (call_apply m c r j).symm

end Cert.UpClaim

end
-- ==== Proof.DownClaim.lean ====
/-
  The MLP's output: a pair of grid points holds one block of 1024 tokens; the first point keeps the product over the first 2048
  hidden lanes, the second adds the other 2048 and the residual rows and writes the block.
-/
module

public import proofs.«01_k».proof.Defs
public import proofs.«01_k».proof.Proof.BlockSum
public import proofs.«01_k».proof.Proof.Gen.DownIdeal.Value
public import proofs.«01_k».proof.Proof.Gen.DownRefIdeal.Run
public import proofs.«01_k».proof.Proof.Gen.DownRefIdeal.Read
public import proofs.«01_k».proof.Proof.Gen.Down.Frame
public import Idealize.ShloMosaic.Lib.StableHlo.Run
public import Idealize.ShloMosaic.Lib.Tactic

@[expose] public section

set_option maxRecDepth 16384

noncomputable section

namespace Cert.DownClaim

open Idealize.ShloMosaic Idealize.ShloMosaic.TcCoe Idealize.SL.Sem

theorem frame_kernel : Cert.quiescent_Down := fun m ρ _ => Cert.Down.Gen.frame m ρ

theorem frame_ideal : Cert.quiescent_DownIdeal := fun m ρ _ => Cert.DownIdeal.Gen.frame m ρ

theorem frame_reference : Cert.quiescent_DownRefIdeal := fun m ρ _ =>
  (θ_run Cert.DownRefIdeal.defs _ _).mono (fun r h => ⟨fun c => (h c).2, sem_eq_zero_of_no_sems (by decide) r.2⟩)
    (Cert.DownRefIdeal.Value.run m ρ)

theorem hz : (![0, 0] : Fin 2 → Nat) = fun _ => 0 := funext fun a => by fin_cases a <;> rfl

section
open Cert.DownIdeal Cert.DownIdeal.Gen Cert.DownIdeal.Value

/-! ### What a point computes from its blocks -/

theorem pay1_apply (x0 : Vec Ideal S1024x2048 .bf16) (x1 : Vec Ideal S2048x1024 .bf16) (r j : Fin 1024) :
    k0_pay1 x0 x1 (ix2 r j) = ∑ k : Fin 2048, (x0 (ix2 r k) : EReal) * (x1 (ix2 k j) : EReal) := by
  pointwise [k0_pay1]

theorem pay2_apply (x0 : Vec Ideal S1024x2048 .bf16) (x1 : Vec Ideal S2048x1024 .bf16) (r j : Fin 1024) :
    k0_pay2 x0 x1 (ix2 r j) = ∑ k : Fin 2048, (x0 (ix2 r k) : EReal) * (x1 (ix2 k j) : EReal) := by
  unfold k0_pay2
  rw [shapeCast_self]
  exact pay1_apply x0 x1 r j

theorem pay4_apply (x0 : Vec Ideal S1024x2048 .bf16) (x1 : Vec Ideal S2048x1024 .bf16) (acc res : Vec Ideal S1024x1024 .f32) (r j : Fin 1024) :
    k0_pay4 x0 x1 acc res (ix2 r j)
      = ((acc (ix2 r j) : EReal) + ∑ k : Fin 2048, (x0 (ix2 r k) : EReal) * (x1 (ix2 k j) : EReal)) + (res (ix2 r j) : EReal) := by
  rw [← pay1_apply x0 x1 r j]
  rfl

section
variable {F : FTy → Type} [FloatOps F]
  (c : Dev nD) (i : grid0.Coords) (a3 : Memref sig .tc .vmem S1024x2048 .bf16) (h3 : a3.IsWhole)
  (a4 : Memref sig .tc .vmem S2048x1024 .bf16) (h4 : a4.IsWhole) (a5 : Memref sig .tc .vmem S1024x1024 .f32) (h5 : a5.IsWhole)
  (a6 : Memref sig .tc .vmem S1024x1024 .f32) (h6 : a6.IsWhole) (a7 : Memref sig .tc .vmem S1024x1024 .f32) (h7 : a7.IsWhole)
  (x0 : Vec F S1024x2048 .bf16) (x1 : Vec F S2048x1024 .bf16) (x2 xs : Vec F S1024x1024 .f32)

/-- The first point of a pair leaves its product in the scratch. -/
theorem first (hc0 : cond0_0 i) (hc1 : ¬cond0_1 i) (hc2 : ¬cond0_2 i) :
    sout0_A_0 c i a3 h3 a4 h4 a5 h5 a6 h6 a7 h7 hc0 hc1 hc2 x0 x1 x2 = k0_pay2 x0 x1 := by
  unfold sout0_A_0
  rw [View.read_writes_junk_eq_canon]
  unfold kernelRun0_A
  dsimp only
  rw [View.canon_unit_zero hz]
  simp only [View.readAt_eq_ld, h3.read_unread, h4.read_unread, View.ld_unit_zero (S := S1024x2048) hz,
    View.ld_unit_zero (S := S2048x1024) hz]

/-- The second point writes the scratch plus its product plus the residual rows. -/
theorem second (hc0 : ¬cond0_0 i) (hc1 : ¬cond0_1 i) (hc2 : cond0_2 i) :
    out0_B_3 c i a3 h3 a4 h4 a5 h5 a6 h6 a7 h7 hc0 hc1 hc2 x0 x1 x2 xs = k0_pay4 x0 x1 xs x2 := by
  unfold out0_B_3
  rw [View.read_writes_junk_eq_canon]
  unfold kernelRun0_B
  dsimp only
  rw [View.canon_unit_zero hz]
  simp only [View.readAt_eq_ld, h3.read_unread, h4.read_unread, h5.read_unread, h7.read_unread, View.ld_unit_zero (S := S1024x2048) hz,
    View.ld_unit_zero (S := S2048x1024) hz, View.ld_unit_zero (S := S1024x1024) hz]

end

/-! ### Where the blocks lie -/

theorem idx : ∀ t : Fin cfg0.N, (win0_0.index t 0 = t.val / 2 ∧ win0_0.index t 1 = t.val % 2)
    ∧ (win0_1.index t 0 = t.val % 2 ∧ win0_1.index t 1 = 0) ∧ (win0_2.index t 0 = t.val / 2 ∧ win0_2.index t 1 = 0)
    ∧ (win0_3.index t 0 = t.val / 2 ∧ win0_3.index t 1 = 0) :=
  (by decide +kernel : ∀ t : Fin grid0.N, (win0_0.index t 0 = t.val / 2 ∧ win0_0.index t 1 = t.val % 2)
    ∧ (win0_1.index t 0 = t.val % 2 ∧ win0_1.index t 1 = 0) ∧ (win0_2.index t 0 = t.val / 2 ∧ win0_2.index t 1 = 0)
    ∧ (win0_3.index t 0 = t.val / 2 ∧ win0_3.index t 1 = 0))

theorem N_eq : cfg0.N = 16 := by decide

variable (m : (ℓ : Loc nD τ sig) → Buf (Elt Ideal) ℓ) (c : Dev nD)

/-- The token and the hidden lane of an element of point `t`'s blocks. -/
abbrev tok (t : Fin cfg0.N) (r : Fin 1024) : Fin 8192 := ⟨1024 * (t.val / 2) + r.val, by have := t.isLt; have := N_eq; omega⟩
abbrev hid (t : Fin cfg0.N) (k : Fin 2048) : Fin 4096 := ⟨2048 * (t.val % 2) + k.val, by omega⟩

/-- The arrays of the call: the activation, the second weight, the residual rows. -/
abbrev lhs : Vec Ideal S8192x4096 .bf16 := V m c main_arg1
abbrev rhs : Vec Ideal S4096x1024 .bf16 := V m c main_arg2
abbrev res : Vec Ideal S8192x1024 .f32 := V m c main_arg0

theorem iblk_0 (t : Fin cfg0.N) (r : Fin 1024) (k : Fin 2048) :
    (iblk m c 0 t : Vec Ideal S1024x2048 .bf16) (ix2 r k) = lhs m c (ix2 (tok t r) (hid t k)) := by
  obtain ⟨e0, e1⟩ := (idx t).1
  unfold iblk
  rw [View.read_apply]
  show V m c main_arg1 _ = V m c main_arg1 _
  congr 1
  funext a
  apply Fin.ext
  match a with
  | ⟨0, _⟩ => show win0_0.index t 0 * 1024 + 1 * r.val = 1024 * (t.val / 2) + r.val; rw [e0]; omega
  | ⟨1, _⟩ => show win0_0.index t 1 * 2048 + 1 * k.val = 2048 * (t.val % 2) + k.val; rw [e1]; omega

theorem iblk_1 (t : Fin cfg0.N) (k : Fin 2048) (j : Fin 1024) :
    (iblk m c 1 t : Vec Ideal S2048x1024 .bf16) (ix2 k j) = rhs m c (ix2 (hid t k) j) := by
  obtain ⟨e0, e1⟩ := (idx t).2.1
  unfold iblk
  rw [View.read_apply]
  show V m c main_arg2 _ = V m c main_arg2 _
  congr 1
  funext a
  apply Fin.ext
  match a with
  | ⟨0, _⟩ => show win0_1.index t 0 * 2048 + 1 * k.val = 2048 * (t.val % 2) + k.val; rw [e0]; omega
  | ⟨1, _⟩ => show win0_1.index t 1 * 1024 + 1 * j.val = j.val; rw [e1]; omega

theorem iblk_2 (t : Fin cfg0.N) (r j : Fin 1024) :
    (iblk m c 2 t : Vec Ideal S1024x1024 .f32) (ix2 r j) = res m c (ix2 (tok t r) j) := by
  obtain ⟨e0, e1⟩ := (idx t).2.2.1
  unfold iblk
  rw [View.read_apply]
  show V m c main_arg0 _ = V m c main_arg0 _
  congr 1
  funext a
  apply Fin.ext
  match a with
  | ⟨0, _⟩ => show win0_2.index t 0 * 1024 + 1 * r.val = 1024 * (t.val / 2) + r.val; rw [e0]; omega
  | ⟨1, _⟩ => show win0_2.index t 1 * 1024 + 1 * j.val = j.val; rw [e1]; omega

theorem emb (t : Fin cfg0.N) (r j : Fin 1024) :
    (((cfg0.win 3).blk t).view.emb (ix2 r j) : S8192x1024.Idx) = ix2 (tok t r) j := by
  obtain ⟨e0, e1⟩ := (idx t).2.2.2
  funext a
  apply Fin.ext
  match a with
  | ⟨0, _⟩ => show win0_3.index t 0 * 1024 + 1 * r.val = 1024 * (t.val / 2) + r.val; rw [e0]; omega
  | ⟨1, _⟩ => show win0_3.index t 1 * 1024 + 1 * j.val = j.val; rw [e1]; omega

/-! ### The whole array -/

/-- One element: the product over all hidden lanes, plus the residual row's element. -/
def elem (x : Vec Ideal S8192x1024 .f32) (a : Vec Ideal S8192x4096 .bf16) (b : Vec Ideal S4096x1024 .bf16) (r : Fin 8192) (j : Fin 1024) : EReal :=
  (∑ k : Fin 4096, (a (ix2 r k) : EReal) * (b (ix2 k j) : EReal)) + (x (ix2 r j) : EReal)

def whole : Vec Ideal S8192x1024 .f32 := fun y => elem (res m c) (lhs m c) (rhs m c) (y 0) (y 1)

/-- What a pair of points writes: its block. -/
theorem written (t : Fin cfg0.N) (ht : t.val % 2 = 1) (r j : Fin 1024) :
    (outsAt0 m c t.val t.isLt).1 (ix2 r j) = whole m c (ix2 (tok t r) j) := by
  have hlt : t.val - 1 < cfg0.N := lt_of_le_of_lt (Nat.sub_le _ _) t.isLt
  have hm : (t.val - 1) % 2 = 0 := by omega
  have hd : (t.val - 1) / 2 = t.val / 2 := by omega
  rw [outsAt0_B m c t (by omega) ht]
  dsimp only
  rw [second, pay4_apply, outsAt0_A m c ⟨t.val - 1, hlt⟩ hm (by dsimp only; omega)]
  dsimp only
  rw [first, pay2_apply, iblk_2]
  refine congrArg (fun s : EReal => s + (res m c (ix2 (tok t r) j) : EReal)) ?_
  refine Cert.BlockSum.halves_fin 2048 4096 rfl (fun k => (lhs m c (ix2 (tok t r) k) : EReal) * (rhs m c (ix2 k j) : EReal)) _ _
    (fun k => ?_) (fun k => ?_)
  · rw [iblk_0, iblk_1]
    refine congrArg₂ (fun a b => (lhs m c a : EReal) * (rhs m c b : EReal)) (congrArg₂ ix2 (Fin.ext ?_) (Fin.ext ?_))
      (congrArg (ix2 · j) (Fin.ext ?_))
    all_goals simp [hm, hd]
  · rw [iblk_0, iblk_1]
    refine congrArg₂ (fun a b => (lhs m c a : EReal) * (rhs m c b : EReal)) (congrArg (ix2 _) (Fin.ext ?_))
      (congrArg (ix2 · j) (Fin.ext ?_))
    all_goals simp [ht]

/-- The array after the run. -/
theorem final : (dats m 0 c).arrAt 3 cfg0.N = whole m c := by
  refine (dats m 0 c).arrAt_eq_of_cover 3 _ (fun t hf => ?_) (fun i => (covered_iff3 i).2 ?_)
  · rw [flushed3]
    funext y
    obtain ⟨r, j, rfl⟩ : ∃ (r j : Fin 1024), y = (ix2 r j : S1024x1024.Idx) := ⟨y 0, y 1, eq_ix2 y⟩
    rw [View.read_apply]
    exact (written m c t ((flush0_3 t).mp hf) r j).trans (congrArg (whole m c) (emb t r j)).symm
  · have h0 : (i 0).val < 8192 := (i 0).isLt
    have h1 : (i 1).val < 1024 := (i 1).isLt
    omega

/-- The call's element, over the arguments. -/
theorem call_apply (r : Fin 8192) (j : Fin 1024) :
    whole m c (ix2 r j) = elem (m ((c : Thread nD τ).loc main_arg0)) (m ((c : Thread nD τ).loc main_arg1)) (m ((c : Thread nD τ).loc main_arg2)) r j := by
  show elem (V m c main_arg0) (V m c main_arg1) (V m c main_arg2) r j = _
  rw [V_main_arg0, V_main_arg1, V_main_arg2]

end

section
open Cert.DownRefIdeal Cert.DownRefIdeal.Gen Cert.DownRefIdeal.Read

/-- The reference adds the residual row's element first. -/
theorem ref_apply (x : Vec Ideal S8192x1024 .f32) (a : Vec Ideal S8192x4096 .bf16) (b : Vec Ideal S4096x1024 .bf16) (r : Fin 8192) (j : Fin 1024) :
    val_main_v3 (F := Ideal) x a b (ix2 r j) = elem x a b r j := by
  pointwise [val_main_v3, val_main_v2, val_main_v1, val_main_v0]
  exact add_comm _ _

end

theorem algebraic : Cert.algebraic_DownIdeal_DownRefIdeal := by
  intro m g m' g' _ hagree
  refine ⟨fun c => whole m c, ?_, ?_⟩
  · refine (θ_run Cert.DownIdeal.defs _ _).mono (fun r h c => ?_) (Cert.DownIdeal.Value.run_blocks m g)
    obtain ⟨hr, h0⟩ := h c
    exact ⟨hr.trans (final m c), h0⟩
  · refine (θ_run Cert.DownRefIdeal.defs _ _).mono (fun r h c => ?_) (Cert.DownRefIdeal.Value.run m' g')
    obtain ⟨hr, h0⟩ := h c
    obtain ⟨a0, a1, a2⟩ := hagree c
    refine ⟨hr.trans ?_, h0⟩
    rw [Cert.DownRefIdeal.Read.val_main_v3_eq, a0, a1, a2]
    funext y
    obtain ⟨r, j, rfl⟩ : ∃ (r : Fin 8192) (j : Fin 1024), y = (ix2 r j : Cert.DownRefIdeal.S8192x1024.Idx) := ⟨y 0, y 1, eq_ix2 y⟩
    exact (ref_apply _ _ _ r j).trans (call_apply m c r j).symm

end Cert.DownClaim

end
-- ==== Proof.InClaim.lean ====
/-
  The mixer's input projection: a grid point holds 2048 tokens and 1024 of the 4096 lanes of the product.
-/
module

public import proofs.«01_k».proof.Defs
public import proofs.«01_k».proof.Proof.BlockSum
public import proofs.«01_k».proof.Proof.Gen.InIdeal.Value
public import proofs.«01_k».proof.Proof.Gen.InRefIdeal.Run
public import proofs.«01_k».proof.Proof.Gen.InRefIdeal.Read
public import proofs.«01_k».proof.Proof.Gen.In.Frame
public import Idealize.ShloMosaic.Lib.StableHlo.Run
public import Idealize.ShloMosaic.Lib.Tactic

@[expose] public section

set_option maxRecDepth 16384

noncomputable section

namespace Cert.InClaim

open Idealize.ShloMosaic Idealize.ShloMosaic.TcCoe Idealize.SL.Sem

theorem frame_kernel : Cert.quiescent_In := fun m ρ _ => Cert.In.Gen.frame m ρ

theorem frame_ideal : Cert.quiescent_InIdeal := fun m ρ _ => Cert.InIdeal.Gen.frame m ρ

theorem frame_reference : Cert.quiescent_InRefIdeal := fun m ρ _ =>
  (θ_run Cert.InRefIdeal.defs _ _).mono (fun r h => ⟨fun c => (h c).2, sem_eq_zero_of_no_sems (by decide) r.2⟩)
    (Cert.InRefIdeal.Value.run m ρ)

theorem hz : (![0, 0] : Fin 2 → Nat) = fun _ => 0 := funext fun a => by fin_cases a <;> rfl

section
open Cert.InIdeal Cert.InIdeal.Gen Cert.InIdeal.Value

/-- What a point computes from its blocks. -/
theorem pay_apply (x0 : Vec Ideal S2048x1024 .bf16) (x1 : Vec Ideal S1024x1024 .bf16) (r : Fin 2048) (j : Fin 1024) :
    k0_pay1 x0 x1 (ix2 r j) = (∑ k : Fin 1024, (x0 (ix2 r k) : EReal) * (x1 (ix2 k j) : EReal)) := by
  pointwise [k0_pay1]

theorem out_eq (x0 : Vec Ideal S2048x1024 .bf16) (x1 : Vec Ideal S1024x1024 .bf16) : out0_2 x0 x1 = k0_pay1 x0 x1 := by
  unfold out0_2
  rw [View.canon_unit_zero hz]
  simp only [View.ld_unit_zero (S := S2048x1024) hz, View.ld_unit_zero (S := S1024x1024) hz]

/-! ### Where the blocks lie -/

theorem idx : ∀ t : Fin cfg0.N, (win0_0.index t 0 = t.val / 4 ∧ win0_0.index t 1 = 0)
    ∧ (win0_1.index t 0 = 0 ∧ win0_1.index t 1 = t.val % 4) ∧ (win0_2.index t 0 = t.val / 4 ∧ win0_2.index t 1 = t.val % 4) :=
  (by decide +kernel : ∀ t : Fin grid0.N, (win0_0.index t 0 = t.val / 4 ∧ win0_0.index t 1 = 0)
    ∧ (win0_1.index t 0 = 0 ∧ win0_1.index t 1 = t.val % 4) ∧ (win0_2.index t 0 = t.val / 4 ∧ win0_2.index t 1 = t.val % 4))

theorem N_eq : cfg0.N = 16 := by decide

variable (m : (ℓ : Loc nD τ sig) → Buf (Elt Ideal) ℓ) (c : Dev nD)

/-- The two arrays the call multiplies. -/
abbrev lhs : Vec Ideal S8192x1024 .bf16 := V m c main_arg0
abbrev rhs : Vec Ideal S1024x4096 .bf16 := V m c main_arg1

/-- The token and the lane of an element of point `t`'s blocks. -/
abbrev tok (t : Fin cfg0.N) (r : Fin 2048) : Fin 8192 := ⟨2048 * (t.val / 4) + r.val, by have := t.isLt; have := N_eq; omega⟩
abbrev lane (t : Fin cfg0.N) (j : Fin 1024) : Fin 4096 := ⟨1024 * (t.val % 4) + j.val, by omega⟩

theorem iblk_0 (t : Fin cfg0.N) (r : Fin 2048) (k : Fin 1024) :
    (iblk m c 0 t : Vec Ideal S2048x1024 .bf16) (ix2 r k) = lhs m c (ix2 (tok t r) k) := by
  obtain ⟨⟨e0, e1⟩, -⟩ := idx t
  unfold iblk
  rw [View.read_apply]
  show V m c main_arg0 _ = V m c main_arg0 _
  congr 1
  funext a
  apply Fin.ext
  match a with
  | ⟨0, _⟩ => show win0_0.index t 0 * 2048 + 1 * r.val = 2048 * (t.val / 4) + r.val; rw [e0]; omega
  | ⟨1, _⟩ => show win0_0.index t 1 * 1024 + 1 * k.val = k.val; rw [e1]; omega

theorem iblk_1 (t : Fin cfg0.N) (k j : Fin 1024) :
    (iblk m c 1 t : Vec Ideal S1024x1024 .bf16) (ix2 k j) = rhs m c (ix2 k (lane t j)) := by
  obtain ⟨-, ⟨e0, e1⟩, -⟩ := idx t
  unfold iblk
  rw [View.read_apply]
  show V m c main_arg1 _ = V m c main_arg1 _
  congr 1
  funext a
  apply Fin.ext
  match a with
  | ⟨0, _⟩ => show win0_1.index t 0 * 1024 + 1 * k.val = k.val; rw [e0]; omega
  | ⟨1, _⟩ => show win0_1.index t 1 * 1024 + 1 * j.val = 1024 * (t.val % 4) + j.val; rw [e1]; omega

theorem emb (t : Fin cfg0.N) (r : Fin 2048) (j : Fin 1024) :
    (((cfg0.win 2).blk t).view.emb (ix2 r j) : S8192x4096.Idx) = ix2 (tok t r) (lane t j) := by
  obtain ⟨-, -, ⟨e0, e1⟩⟩ := idx t
  funext a
  apply Fin.ext
  match a with
  | ⟨0, _⟩ => show win0_2.index t 0 * 2048 + 1 * r.val = 2048 * (t.val / 4) + r.val; rw [e0]; omega
  | ⟨1, _⟩ => show win0_2.index t 1 * 1024 + 1 * j.val = 1024 * (t.val % 4) + j.val; rw [e1]; omega

/-! ### The whole array -/

/-- The product. -/
def whole : Vec Ideal S8192x4096 .f32 := fun y =>
  ((∑ k : Fin 1024, (lhs m c (ix2 (y 0) k) : EReal) * (rhs m c (ix2 k (y 1)) : EReal)) : EReal)

theorem whole_apply (r : Fin 8192) (j : Fin 4096) : whole m c (ix2 r j)
    = (∑ k : Fin 1024, (lhs m c (ix2 r k) : EReal) * (rhs m c (ix2 k j) : EReal)) := rfl

/-- The array after the run. -/
theorem final : (dats m 0 c).arrAt 2 cfg0.N = whole m c := by
  refine (dats m 0 c).arrAt_eq_of_cover 2 _ (fun t _ => ?_) (fun i => ?_)
  · rw [flushed2, out_eq]
    funext y
    obtain ⟨r, j, rfl⟩ : ∃ (r : Fin 2048) (j : Fin 1024), y = (ix2 r j : S2048x1024.Idx) := ⟨y 0, y 1, eq_ix2 y⟩
    rw [View.read_apply]
    refine (pay_apply (iblk m c 0 t) (iblk m c 1 t) r j).trans (.trans ?_ (congrArg (whole m c) (emb t r j)).symm)
    simp only [iblk_0, iblk_1]
    rfl
  · obtain ⟨a, b, rfl⟩ : ∃ (a : Fin 8192) (b : Fin 4096), i = (ix2 a b : S8192x4096.Idx) := ⟨i 0, i 1, eq_ix2 i⟩
    have ht : 4 * (a.val / 2048) + b.val / 1024 < cfg0.N := by have := N_eq; omega
    refine ⟨⟨_, ht⟩, flush0_2 _, ?_⟩
    have he : (ix2 a b : S8192x4096.Idx) = ((cfg0.win 2).blk ⟨_, ht⟩).view.emb
        (ix2 ⟨a.val % 2048, Nat.mod_lt _ (by decide)⟩ ⟨b.val % 1024, Nat.mod_lt _ (by decide)⟩) := by
      rw [emb]
      refine congrArg₂ ix2 (Fin.ext ?_) (Fin.ext ?_)
      · show a.val = 2048 * ((4 * (a.val / 2048) + b.val / 1024) / 4) + a.val % 2048
        omega
      · show b.val = 1024 * ((4 * (a.val / 2048) + b.val / 1024) % 4) + b.val % 1024
        omega
    rw [he]
    exact View.emb_mem_set _ _

/-- One element of the product of two arrays. -/
def prod (a : Vec Ideal S8192x1024 .bf16) (b : Vec Ideal S1024x4096 .bf16) (r : Fin 8192) (j : Fin 4096) : EReal :=
  ∑ k : Fin 1024, (a (ix2 r k) : EReal) * (b (ix2 k j) : EReal)

/-- The call's element, over the arguments. -/
theorem call_apply (r : Fin 8192) (j : Fin 4096) : whole m c (ix2 r j)
    = prod (m ((c : Thread nD τ).loc main_arg0)) (m ((c : Thread nD τ).loc main_arg1)) r j := by
  refine (whole_apply m c r j).trans ?_
  unfold lhs rhs
  rw [V_main_arg0, V_main_arg1]
  rfl

end

section
open Cert.InRefIdeal Cert.InRefIdeal.Read

/-- The reference's element. -/
theorem ref_apply (a : (⟨S8192x1024, .bf16⟩ : BufTy).Contents (Elt Ideal)) (b : (⟨S1024x4096, .bf16⟩ : BufTy).Contents (Elt Ideal))
    (r : Fin 8192) (j : Fin 4096) :
    val_main_v2 (F := Ideal) a b (ix2 r j) = prod a b r j := by
  pointwise [val_main_v2, val_main_v1, val_main_v0]
  rfl

end

theorem algebraic : Cert.algebraic_InIdeal_InRefIdeal := by
  intro m g m' g' _ hagree
  refine ⟨fun c => whole m c, ?_, ?_⟩
  · refine (θ_run Cert.InIdeal.defs _ _).mono (fun r h c => ?_) (Cert.InIdeal.Value.run_blocks m g)
    obtain ⟨hr, h0, h1⟩ := h c
    exact ⟨hr.trans (final m c), h0, h1⟩
  · refine (θ_run Cert.InRefIdeal.defs _ _).mono (fun r h c => ?_) (Cert.InRefIdeal.Value.run m' g')
    obtain ⟨hr, h0, h1⟩ := h c
    obtain ⟨a0, a1⟩ := hagree c
    refine ⟨hr.trans ?_, h0, h1⟩
    rw [Cert.InRefIdeal.Read.val_main_v2_eq, a0, a1]
    funext y
    obtain ⟨r, j, rfl⟩ : ∃ (r : Fin 8192) (j : Fin 4096), y = (ix2 r j : Cert.InRefIdeal.S8192x4096.Idx) := ⟨y 0, y 1, eq_ix2 y⟩
    exact (ref_apply _ _ r j).trans (call_apply m c r j).symm

end Cert.InClaim

end
-- ==== Proof.AttnFwdArray.lean ====
/-
  Softmax attention's array on finite inputs. A grid point holds 512 rows of q and all of k and v, and writes its own 512 rows of
  the result, four heads side by side.
-/
module

public import proofs.«01_k».proof.Proof.AttnArray
public import proofs.«01_k».proof.Proof.Gen.AttnFwdIdeal.Value

@[expose] public section

set_option maxRecDepth 16384

noncomputable section

namespace Cert.AttnFwdArray

open Cert.AttnFwdIdeal Cert.AttnFwdIdeal.Gen Cert.AttnFwdIdeal.Value Cert.AttnMath
open Cert.AttnBlock (cutR cutM joinR joinR_piece cutR_apply cutM_apply)
open Idealize.ShloMosaic Idealize.ShloMosaic.TcCoe Idealize.SL.Sem

/-- Row `i`, head `h` of the result: the values weighted by the row's probabilities. -/
def mixed (q : ℕ → Fin 1024 → ℝ) (k v : Fin 256 → Fin 1024 → ℝ) (i : ℕ) (h : Fin 4) (l : Fin 256) : ℝ :=
  ∑ n, rowP q k i h n * v n (lane h l)

/-- The whole result. -/
def whole (q : ℕ → Fin 1024 → ℝ) (k v : Fin 256 → Fin 1024 → ℝ) : Vec Ideal S8192x1024 .bf16 := fun y =>
  ((byHead (mixed q k v (y 0).val) (y 1) : ℝ) : EReal)

/-! ### One head of one block -/

section
variable {Q : Vec Ideal S512x256 .bf16} {K V : Vec Ideal S256x256 .bf16} {q : Fin 512 → Fin 256 → ℝ} {k v : Fin 256 → Fin 256 → ℝ}

theorem head_lift (hQ : ∀ r l, Q (ix2 r l) = ((q r l : ℝ) : EReal)) (hK : ∀ r l, K (ix2 r l) = ((k r l : ℝ) : EReal))
    (hV : ∀ r l, V (ix2 r l) = ((v r l : ℝ) : EReal)) (r : Fin 512) (l : Fin 256) :
    k0_pay2 (F := Ideal) Q K V (ix2 r l) = ((∑ n, prob (q r) k n * v n l : ℝ) : EReal) := by
  have h : k0_pay2 (F := Ideal) Q K V (ix2 r l)
      = (∑ n : Fin 256, (Cert.AttnIdeal.Gen.k0_pay24 (F := Ideal) Q K (ix2 r n) * V (ix2 n l) : EReal)) := by
    pointwise [k0_pay2, Cert.AttnIdeal.Gen.k0_pay24]
  rw [h]
  simp only [Cert.AttnLift.prob_lift hQ hK, hV, ← EReal.coe_mul, sum_lift]

end

/-- What a point writes: four heads side by side. -/
theorem out_heads (x0 : Vec Ideal S512x1024 .bf16) (x1 x2 : Vec Ideal S256x1024 .bf16) :
    out0_3 (F := Ideal) x0 x1 x2 = joinR (fun h => k0_pay2 (F := Ideal) (cutR x0 h) (cutM x1 h) (cutM x2 h)) := by
  funext y
  unfold out0_3
  refine View.canon_apply_of_pieces (Val := Elt Ideal) (joinR (fun h => k0_pay2 (F := Ideal) (cutR x0 h) (cutM x1 h) (cutM x2 h))) _ ?_ y (cover0_3 _ _ _ _ y)
  refine View.PiecesOf.mem ⟨joinR_piece _ 3 768 rfl inb_S512x1024_S512x256_0_768 _ ?_, joinR_piece _ 2 512 rfl inb_S512x1024_S512x256_0_512 _ ?_,
    joinR_piece _ 1 256 rfl inb_S512x1024_S512x256_0_256 _ ?_, joinR_piece _ 0 0 rfl inb_S512x1024_S512x256_0_0 _ ?_, trivial⟩
  all_goals rfl

/-! ### Where the blocks lie -/

variable (m : (ℓ : Loc nD τ sig) → Buf (Elt Ideal) ℓ) (c : Dev nD)

/-- The three arguments hold reals. -/
structure Holds (q : ℕ → Fin 1024 → ℝ) (k v : Fin 256 → Fin 1024 → ℝ) : Prop where
  q : ∀ (i : Fin 8192) j, (m ((c.tc : Thread nD τ).loc main_arg0) : Vec Ideal S8192x1024 .bf16) (ix2 i j) = ((q i.val j : ℝ) : EReal)
  k : ∀ i j, (m ((c.tc : Thread nD τ).loc main_arg1) : Vec Ideal S256x1024 .bf16) (ix2 i j) = ((k i j : ℝ) : EReal)
  v : ∀ i j, (m ((c.tc : Thread nD τ).loc main_arg2) : Vec Ideal S256x1024 .bf16) (ix2 i j) = ((v i j : ℝ) : EReal)

theorem idx : ∀ t : Fin cfg0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0) :=
  (by decide +kernel : ∀ t : Fin grid0.N, (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0))

theorem N_eq : cfg0.N = 16 := by decide

/-- The row of an element of point `t`'s block. -/
abbrev row (t : Fin cfg0.N) (r : Fin 512) : Fin 8192 := ⟨512 * t.val + r.val, by have := t.isLt; have := N_eq; omega⟩

theorem iblk_0 (t : Fin cfg0.N) (r : Fin 512) (j : Fin 1024) : (iblk m c 0 t : Vec Ideal S512x1024 .bf16) (ix2 r j)
    = (m ((c.tc : Thread nD τ).loc main_arg0) : Vec Ideal S8192x1024 .bf16) (ix2 (row t r) j) := by
  obtain ⟨e0, e1⟩ := (idx t).1
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = 512 * t.val + r.val; rw [e0]; omega
  | ⟨1, _⟩ => show win0_0.index t 1 * 1024 + 1 * j.val = j.val; rw [e1]; omega

theorem iblk_1 (t : Fin cfg0.N) (r : Fin 256) (j : Fin 1024) : (iblk m c 1 t : Vec Ideal S256x1024 .bf16) (ix2 r j)
    = (m ((c.tc : Thread nD τ).loc main_arg1) : Vec Ideal S256x1024 .bf16) (ix2 r j) := by
  obtain ⟨e0, e1⟩ := (idx t).2.1
  unfold iblk
  rw [View.read_apply]
  show V m c main_arg1 _ = m (c.tc.loc main_arg1) _
  rw [V_main_arg1]
  congr 1
  funext a
  apply Fin.ext
  match a with
  | ⟨0, _⟩ => show win0_1.index t 0 * 256 + 1 * r.val = r.val; rw [e0]; omega
  | ⟨1, _⟩ => show win0_1.index t 1 * 1024 + 1 * j.val = j.val; rw [e1]; omega

theorem iblk_2 (t : Fin cfg0.N) (r : Fin 256) (j : Fin 1024) : (iblk m c 2 t : Vec Ideal S256x1024 .bf16) (ix2 r j)
    = (m ((c.tc : Thread nD τ).loc main_arg2) : Vec Ideal S256x1024 .bf16) (ix2 r j) := by
  obtain ⟨e0, e1⟩ := (idx t).2.2.1
  unfold iblk
  rw [View.read_apply]
  show V m c main_arg2 _ = m (c.tc.loc main_arg2) _
  rw [V_main_arg2]
  congr 1
  funext a
  apply Fin.ext
  match a with
  | ⟨0, _⟩ => show win0_2.index t 0 * 256 + 1 * r.val = r.val; rw [e0]; omega
  | ⟨1, _⟩ => show win0_2.index t 1 * 1024 + 1 * j.val = j.val; rw [e1]; omega

theorem emb_3 (t : Fin cfg0.N) (r : Fin 512) (j : Fin 1024) :
    (((cfg0.win 3).blk t).view.emb (ix2 r j) : S8192x1024.Idx) = ix2 (row t r) j := by
  obtain ⟨e0, e1⟩ := (idx t).2.2.2
  funext a
  apply Fin.ext
  match a with
  | ⟨0, _⟩ => show win0_3.index t 0 * 512 + 1 * r.val = 512 * t.val + r.val; rw [e0]; omega
  | ⟨1, _⟩ => show win0_3.index t 1 * 1024 + 1 * j.val = j.val; rw [e1]; omega

/-! ### The array after the run -/

variable {m c} {q : ℕ → Fin 1024 → ℝ} {k v : Fin 256 → Fin 1024 → ℝ}

theorem block (H : Holds m c q k v) (t : Fin cfg0.N) (h : Fin 4) (r : Fin 512) (l : Fin 256) :
    (out0_3 (F := Ideal) (iblk m c 0 t) (iblk m c 1 t) (iblk m c 2 t) : Vec Ideal S512x1024 .bf16) (ix2 r (lane h l))
      = ((mixed q k v (512 * t.val + r.val) h l : ℝ) : EReal) := by
  rw [out_heads]
  refine (Cert.AttnBlock.joinR_apply (e := .bf16) _ h r l).trans ?_
  refine head_lift (q := fun r => head (q (512 * t.val + r.val)) h) (k := headT k h) (v := headT v h) (fun r l => ?_) (fun r l => ?_) (fun r l => ?_) r l
  · rw [cutR_apply, iblk_0]; exact H.q _ _
  · rw [cutM_apply, iblk_1]; exact H.k _ _
  · rw [cutM_apply, iblk_2]; exact H.v _ _

theorem final (H : Holds m c q k v) : (dats m 0 c).arrAt 3 cfg0.N = whole q k v := by
  refine (dats m 0 c).arrAt_eq_of_cover 3 _ (fun t _ => ?_) (fun i => ?_)
  · rw [flushed3]
    funext y
    obtain ⟨r, j, rfl⟩ : ∃ (r : Fin 512) (j : Fin 1024), y = (ix2 r j : S512x1024.Idx) := ⟨y 0, y 1, eq_ix2 y⟩
    rw [View.read_apply]
    have h := block H t ⟨j.val / 256, Nat.div_lt_of_lt_mul j.isLt⟩ r ⟨j.val % 256, Nat.mod_lt _ (by decide)⟩
    rw [Cert.AttnArray.lane_split] at h
    exact h.trans (congrArg (whole q k v) (emb_3 t r j)).symm
  · obtain ⟨a, b, rfl⟩ : ∃ (a : Fin 8192) (b : Fin 1024), i = (ix2 a b : S8192x1024.Idx) := ⟨i 0, i 1, eq_ix2 i⟩
    have ht : a.val / 512 < cfg0.N := by have := N_eq; omega
    refine ⟨⟨a.val / 512, ht⟩, flush0_3 _, ?_⟩
    have he : (ix2 a b : S8192x1024.Idx) = ((cfg0.win 3).blk ⟨a.val / 512, ht⟩).view.emb (ix2 ⟨a.val % 512, Nat.mod_lt _ (by decide)⟩ b) := by
      rw [emb_3]
      exact congrArg (fun x => ix2 x b) (Fin.ext (Nat.div_add_mod a.val 512).symm)
    rw [he]
    exact View.emb_mem_set _ _

end Cert.AttnFwdArray

end
-- ==== Proof.AttnFwdRef.lean ====
/-
  The reference's softmax attention on finite inputs, one element at a time: scores, their largest, the exponentials, their sum,
  the quotient and the weighted sum of the values.
-/
module

public import proofs.«01_k».proof.Proof.Gen.AttnFwdRefIdeal.Read
public import proofs.«01_k».proof.Proof.AttnRefValue
public import proofs.«01_k».proof.Proof.AttnFwdArray

@[expose] public section

set_option maxRecDepth 16384

noncomputable section

namespace Cert.AttnFwdRef

open Cert.AttnFwdRefIdeal Cert.AttnFwdRefIdeal.Gen Cert.AttnFwdRefIdeal.Read Cert.AttnMath
open Cert.AttnFwdArray (mixed whole)
open Cert.AttnRefValue (row_max floor_read lane_eq)
open Idealize.ShloMosaic Idealize.ShloMosaic.TcCoe Idealize.SL.Sem

variable {x0 : Vec Ideal S8192x1024 .bf16} {x1 x2 : Vec Ideal S256x1024 .bf16}
  {q : ℕ → Fin 1024 → ℝ} {k v : Fin 256 → Fin 1024 → ℝ}
  (hq : ∀ (i : Fin 8192) j, x0 (ix2 i j) = ((q i.val j : ℝ) : EReal)) (hk : ∀ i j, x1 (ix2 i j) = ((k i j : ℝ) : EReal))
  (hv : ∀ i j, x2 (ix2 i j) = ((v i j : ℝ) : EReal))

section
include hq hk

theorem score_read (h : Fin 4) (s : Fin 8192) (i : Fin 256) :
    val_main_v8 (F := Ideal) x0 x1 (ix3 h s i) = ((score (head (q s) h) (headT k h) i : ℝ) : EReal) := by
  pointwise [val_main_v8, val_main_v6, val_main_v7, val_main_cst, val_main_v3, val_main_v4, val_main_v0, val_main_v1]
  simp only [hq, hk, lane_eq, word_sixteenth, ← EReal.coe_mul, sum_lift]
  rfl

theorem fold_read (h : Fin 4) (s : Fin 8192) :
    val_main_v9 (F := Ideal) x0 x1 (ix2 h s) = ((largest (n := 255) (score (head (q s) h) (headT k h)) : ℝ) : EReal) := by
  refine (row_max (val_main_v8 (F := Ideal) x0 x1) h s).trans ?_
  simp only [score_read hq hk, word_bot]
  exact fold_max_lift (n := 255) _

theorem top_read (h : Fin 4) (s : Fin 8192) :
    val_main_v11 (F := Ideal) x0 x1 (ix2 h s) = ((largest (n := 255) (score (head (q s) h) (headT k h)) : ℝ) : EReal) := by
  refine (floor_read (val_main_v9 (F := Ideal) x0 x1) h s).trans ?_
  rw [fold_read hq hk, word_bot]
  exact max_eq_right bot_le

theorem raised_read (h : Fin 4) (s : Fin 8192) (i : Fin 256) :
    val_main_v15 (F := Ideal) x0 x1 (ix3 h s i) = ((raised (head (q s) h) (headT k h) i : ℝ) : EReal) := by
  pointwise [val_main_v15, val_main_v14, val_main_v13, val_main_v12]
  rw [score_read hq hk, top_read hq hk, ← EReal.coe_sub, Ideal.exp_coe]
  rfl

theorem total_read (h : Fin 4) (s : Fin 8192) :
    val_main_v17 (F := Ideal) x0 x1 (ix3 h s 0) = ((total (head (q s) h) (headT k h) : ℝ) : EReal) := by
  pointwise [val_main_v17, val_main_v16, val_main_cst_2]
  simp only [raised_read hq hk, sum_lift]
  rfl

theorem prob_read (h : Fin 4) (s : Fin 8192) (i : Fin 256) :
    val_main_v19 (F := Ideal) x0 x1 (ix3 h s i) = ((rowP q k s h i : ℝ) : EReal) := by
  pointwise [val_main_v19, val_main_v18]
  rw [raised_read hq hk, total_read hq hk, div_lift _ (total_ne _ _)]
  rfl

include hv

theorem mixed_read (h : Fin 4) (s : Fin 8192) (l : Fin 256) :
    val_main_v23 (F := Ideal) x0 x1 x2 (ix2 s (lane h l)) = ((mixed q k v s h l : ℝ) : EReal) := by
  unfold lane
  pointwise [val_main_v23, val_main_v22, val_main_v21, val_main_v20, val_main_v5, val_main_v2]
  simp only [prob_read hq hk, hv, lane_eq, ← EReal.coe_mul, sum_lift]
  exact congrArg _ (Finset.sum_congr rfl fun _ _ => mul_comm _ _)

theorem ref_eq : val_main_v23 (F := Ideal) x0 x1 x2 = whole q k v := by
  funext y
  obtain ⟨r, j, rfl⟩ : ∃ (r : Fin 8192) (j : Fin 1024), y = (ix2 r j : (⟨2, ![8192, 1024]⟩ : Shape).Idx) := ⟨y 0, y 1, eq_ix2 y⟩
  have h := mixed_read hq hk hv ⟨j.val / 256, Nat.div_lt_of_lt_mul j.isLt⟩ r ⟨j.val % 256, Nat.mod_lt _ (by decide)⟩
  rw [Cert.AttnArray.lane_split] at h
  exact h

end

end Cert.AttnFwdRef

end
-- ==== Proof.AttnFwdClaim.lean ====
/-
  Softmax attention's claims, each from one run of its program.
-/
module

public import proofs.«01_k».proof.Defs
public import proofs.«01_k».proof.Proof.AttnFinite
public import proofs.«01_k».proof.Proof.AttnFwdRef
public import proofs.«01_k».proof.Proof.Gen.AttnFwdRefIdeal.Run
public import proofs.«01_k».proof.Proof.Gen.AttnFwd.Frame
public import proofs.«01_k».proof.Proof.Gen.Pre_attn_fwd_finite

@[expose] public section

set_option maxRecDepth 16384

noncomputable section

namespace Cert.AttnFwdClaim

open Cert.AttnFinite (finite_tall finite_small)
open Idealize.ShloMosaic Idealize.ShloMosaic.TcCoe Idealize.SL.Sem

theorem frame_kernel : Cert.quiescent_AttnFwd := fun m ρ _ => Cert.AttnFwd.Gen.frame m ρ

theorem frame_ideal : Cert.quiescent_AttnFwdIdeal := fun m ρ _ => Cert.AttnFwdIdeal.Gen.frame m ρ

theorem frame_ideal_pre : Cert.quiescent_AttnFwdIdeal_pre_attn_fwd_finite := fun m ρ _ => Cert.AttnFwdIdeal.Gen.frame m ρ

theorem frame_reference : Cert.quiescent_AttnFwdRefIdeal := fun m ρ _ =>
  (θ_run Cert.AttnFwdRefIdeal.defs _ _).mono (fun r h => ⟨fun c => (h c).2, sem_eq_zero_of_no_sems (by decide) r.2⟩)
    (Cert.AttnFwdRefIdeal.Value.run m ρ)

theorem frame_reference_pre : Cert.quiescent_AttnFwdRefIdeal_pre_attn_fwd_finite := fun m ρ _ => frame_reference m ρ trivial

/-- Under the precondition the three arguments hold reals: each entry is its own real part. -/
theorem holds_of_pre (m : (ℓ : Loc AttnFwdIdeal.nD AttnFwdIdeal.τ AttnFwdIdeal.sig) → Buf (Elt Ideal) ℓ)
    (h : Pre_AttnFwdIdeal_attn_fwd_finite m) (c : Dev AttnFwdIdeal.nD) :
    ∃ (q : ℕ → Fin 1024 → ℝ) (k v : Fin 256 → Fin 1024 → ℝ), AttnFwdArray.Holds m c q k v := by
  obtain ⟨h0, h1, h2⟩ := h c
  let x0 : Vec Ideal ⟨2, ![8192, 1024]⟩ .bf16 := m ((c.tc : Thread AttnFwdIdeal.nD AttnFwdIdeal.τ).loc AttnFwdIdeal.main_arg0)
  let x1 : Vec Ideal ⟨2, ![256, 1024]⟩ .bf16 := m ((c.tc : Thread AttnFwdIdeal.nD AttnFwdIdeal.τ).loc AttnFwdIdeal.main_arg1)
  let x2 : Vec Ideal ⟨2, ![256, 1024]⟩ .bf16 := m ((c.tc : Thread AttnFwdIdeal.nD AttnFwdIdeal.τ).loc AttnFwdIdeal.main_arg2)
  refine ⟨fun i j => if hi : i < 8192 then (x0 (ix2 ⟨i, hi⟩ j) : EReal).toReal else 0,
    fun i j => (x1 (ix2 i j) : EReal).toReal, fun i j => (x2 (ix2 i j) : EReal).toReal, ⟨fun i j => ?_, fun i j => ?_, fun i j => ?_⟩⟩
  · rw [dif_pos i.isLt]; exact finite_tall x0 i j _ _ h0
  · exact finite_small x1 i j _ _ h1
  · exact finite_small x2 i j _ _ h2

theorem algebraic : Cert.algebraic_AttnFwdIdeal_AttnFwdRefIdeal_pre_attn_fwd_finite := by
  intro m g m' g' hpre hagree
  choose q k v H using fun c => holds_of_pre m hpre c
  refine ⟨fun c => AttnFwdArray.whole (q c) (k c) (v c), ?_, ?_⟩
  · refine (θ_run Cert.AttnFwdIdeal.defs _ _).mono (fun r h c => ?_) (Cert.AttnFwdIdeal.Value.run_blocks m g)
    obtain ⟨h3, h0⟩ := h c
    exact ⟨h3.trans (AttnFwdArray.final (H c)), h0⟩
  · refine (θ_run Cert.AttnFwdRefIdeal.defs _ _).mono (fun r h c => ?_) (Cert.AttnFwdRefIdeal.Value.run m' g')
    obtain ⟨h3, h0⟩ := h c
    obtain ⟨a0, a1, a2⟩ := hagree c
    refine ⟨h3.trans ?_, h0⟩
    rw [Cert.AttnFwdRefIdeal.Read.val_main_v23_eq, a0, a1, a2]
    exact AttnFwdRef.ref_eq (H c).q (H c).k (H c).v

end Cert.AttnFwdClaim

end
-- ==== Proof.LossMath.lean ====
/-
  The loss head over the extended reals: half the mean square of the difference between the normed rows and their targets, and the
  gradient of a normed row that comes from it.
-/
module

public import proofs.«01_k».proof.Proof.UpDxMath

@[expose] public section

noncomputable section

namespace Cert.LossMath

open Cert.AttnMath Cert.UpDxMath Idealize.ShloMosaic

theorem word_half : Ideal.ofBits FTy.f32 0x3F000000#32 = ((1 / 2 : ℝ) : EReal) := by
  simp [Ideal.ofBits, Ideal.ieee]
  rw [← EReal.coe_mul]; norm_num

theorem word_per_1024 : Ideal.ofBits FTy.f32 0x3A800000#32 = ((1 / 1024 : ℝ) : EReal) := by
  simp [Ideal.ofBits, Ideal.ieee]
  rw [← EReal.coe_mul]; norm_num

/-- How far a normed row lies from its target. -/
def miss (x g y : Fin 1024 → EReal) (j : Fin 1024) : EReal := x j * rstd x * g j - y j

/-- The gradient of the normed row. -/
def pull (x g y : Fin 1024 → EReal) (j : Fin 1024) : EReal := miss x g y j * ((1 / 1024 : ℝ) : EReal)

/-- The mean square of one row's difference. -/
def square (x g y : Fin 1024 → EReal) : EReal := Ideal.div (∑ j, miss x g y j * miss x g y j) ((1024 : ℝ) : EReal)

/-- The loss of the first `n` rows. -/
def loss (x y : ℕ → Fin 1024 → EReal) (g : Fin 1024 → EReal) (n : ℕ) : EReal :=
  ((1 / 2 : ℝ) : EReal) * ∑ i ∈ Finset.range n, square (x i) g (y i)

/-- The rows' gradients of the normed rows. -/
abbrev pulls (x y : ℕ → Fin 1024 → EReal) (g : Fin 1024 → EReal) (i : ℕ) : Fin 1024 → EReal := pull (x i) g (y i)

/-- Half the derivative of a square, spread over the row. -/
theorem pull_eq (x g y : Fin 1024 → EReal) (j : Fin 1024) :
    ((1 / 2 / 1024 : ℝ) : EReal) * (((2 : ℝ) : EReal) * miss x g y j) = pull x g y j := by
  rw [pull, ← mul_assoc, ← EReal.coe_mul, mul_comm]
  exact congrArg (fun c : ℝ => miss x g y j * (c : EReal)) (by norm_num)

theorem loss_zero (x y : ℕ → Fin 1024 → EReal) (g : Fin 1024 → EReal) : loss x y g 0 = 0 := by simp [loss]

/-- Half goes into the sum over the blocks of rows: it is a real that is not negative. -/
theorem loss_step (x y : ℕ → Fin 1024 → EReal) (g : Fin 1024 → EReal) (n : ℕ) :
    loss x y g (256 * n) + ((1 / 2 : ℝ) : EReal) * ∑ r : Fin 256, square (x (256 * n + r.val)) g (y (256 * n + r.val))
      = loss x y g (256 * (n + 1)) := by
  unfold loss
  rw [Nat.mul_succ, Finset.sum_range_add, Finset.sum_range (n := 256),
    EReal.left_distrib_of_nonneg_of_ne_top (EReal.coe_nonneg.mpr (by norm_num)) (EReal.coe_ne_top _)]

theorem loss_all (x y : ℕ → Fin 1024 → EReal) (g : Fin 1024 → EReal) :
    ((1 / 2 : ℝ) : EReal) * ∑ i : Fin 8192, square (x i.val) g (y i.val) = loss x y g 8192 := by
  unfold loss
  rw [Finset.sum_range]

theorem gains_zero (x d : ℕ → Fin 1024 → EReal) (j : Fin 1024) : gains x d 0 j = 0 := by simp [gains]

theorem gains_step256 (x d : ℕ → Fin 1024 → EReal) (n : ℕ) (j : Fin 1024) :
    gains x d (256 * n) j + ∑ r : Fin 256, d (256 * n + r.val) j * (x (256 * n + r.val) j * rstd (x (256 * n + r.val)))
      = gains x d (256 * (n + 1)) j := by
  unfold gains
  rw [Nat.mul_succ, Finset.sum_range_add, Finset.sum_range (n := 256)]

end Cert.LossMath

end
-- ==== Proof.LossLift.lean ====
/-
  The loss head: what one grid point computes from its 256 rows.
-/
module

public import proofs.«01_k».proof.Proof.LossMath
public import proofs.«01_k».proof.Proof.Gen.LossIdeal.Value
public import Idealize.ShloMosaic.Lib.Pointwise
public import Idealize.ShloMosaic.Lib.Tactic
public import Idealize.ShloMosaic.Lib.Pipeline.ValueKit.Acc

@[expose] public section

set_option maxRecDepth 16384

noncomputable section

namespace Cert.LossLift

open Cert.LossIdeal Cert.LossIdeal.Gen Cert.LossMath Cert.UpDxMath Cert.AttnMath
open Idealize.ShloMosaic Idealize.ShloMosaic.TcCoe Idealize.SL.Sem

section
variable {X Y : Vec Ideal S256x1024 .f32} {G : Vec Ideal S1x1024 .f32} {x y : Fin 256 → Fin 1024 → EReal} {g : Fin 1024 → EReal}

/-- The reciprocal root of a row's mean of squares. -/
theorem pay7_lift (hX : ∀ r j, (X (ix2 r j) : EReal) = x r j) (r : Fin 256) (z : Fin 1) :
    k0_pay7 X (ix2 r z) = (rstd (x r) : EReal) := by
  pointwise [k0_pay7]
  simp only [hX, word_1024, eps_eq]
  rfl

/-- The normed row without its gain. -/
theorem pay8_lift (hX : ∀ r j, (X (ix2 r j) : EReal) = x r j) (r : Fin 256) (j : Fin 1024) :
    k0_pay8 X (ix2 r j) = (x r j * rstd (x r) : EReal) := by
  pointwise [k0_pay8]
  rw [pay7_lift hX, hX]

theorem pay6_lift (hG : ∀ j, (G (ix2 0 j) : EReal) = g j) (j : Fin 1024) : k0_pay6 G (ix2 0 j) = (g j : EReal) := by
  unfold k0_pay6
  rw [shapeCast_self]
  exact hG j

section
variable (hX : ∀ r j, (X (ix2 r j) : EReal) = x r j) (hG : ∀ j, (G (ix2 0 j) : EReal) = g j)
  (hY : ∀ r j, (Y (ix2 r j) : EReal) = y r j)
include hX hG hY

theorem pay9_lift (r : Fin 256) (j : Fin 1024) : k0_pay9 X G Y (ix2 r j) = (miss (x r) g (y r) j : EReal) := by
  pointwise [k0_pay9]
  rw [pay8_lift hX, pay6_lift hG, hY]
  rfl

theorem pay11_lift (r : Fin 256) (j : Fin 1024) : k0_pay11 X G Y (ix2 r j) = (pull (x r) g (y r) j : EReal) := by
  pointwise [k0_pay11]
  rw [pay9_lift hX hG hY, word_per_1024]
  rfl

/-- The rows' loss, added to what the rows before them left. -/
theorem pay10_lift {L : Vec Ideal S1x128 .f32} {l : EReal} (hL : ∀ z k, (L (ix2 z k) : EReal) = l) (z : Fin 1) (k : Fin 128) :
    k0_pay10 X G Y L (ix2 z k) = (l + ((1 / 2 : ℝ) : EReal) * ∑ r, square (x r) g (y r) : EReal) := by
  pointwise [k0_pay10]
  simp only [hL, pay9_lift hX hG hY, word_1024, word_half]
  rfl

/-- The gradient of the rows. -/
theorem pay2_lift (r : Fin 256) (j : Fin 1024) : k0_pay2 (k0_pay6 G) (k0_pay7 X) (k0_pay8 X) (k0_pay11 X G Y) (ix2 r j)
    = (back (x r) g (pull (x r) g (y r)) j : EReal) := by
  pointwise [k0_pay2]
  simp only [pay6_lift hG, pay7_lift hX, pay8_lift hX, pay11_lift hX hG hY, word_1024]
  rfl

/-- The rows' share of the gradient of the gains, added to that of the rows before them. -/
theorem pay1_lift {D : Vec Ideal S1x1024 .f32} {d : Fin 1024 → EReal} (hD : ∀ z j, (D (ix2 z j) : EReal) = d j) (z : Fin 1)
    (j : Fin 1024) : k0_pay1 (k0_pay8 X) (k0_pay11 X G Y) D (ix2 z j)
      = (d j + ∑ r, pull (x r) g (y r) j * (x r j * rstd (x r)) : EReal) := by
  pointwise [k0_pay1]
  simp only [hD, pay8_lift hX, pay11_lift hX hG hY]

end

theorem pay4_lift (z : Fin 1) (j : Fin 1024) : (k0_pay4 (F := Ideal) (ix2 z j) : EReal) = 0 := by
  pointwise [k0_pay4]

theorem pay5_lift (z : Fin 1) (j : Fin 128) : (k0_pay5 (F := Ideal) (ix2 z j) : EReal) = 0 := by
  pointwise [k0_pay5]

end

/-! ### What the points leave -/

section
variable {F : FTy → Type} [FloatOps F]
  (c : Dev nD) (i : grid0.Coords) (a1 : Memref sig .tc .vmem S256x1024 .f32) (h1 : a1.IsWhole)
  (a2 : Memref sig .tc .vmem S1x1024 .f32) (h2 : a2.IsWhole) (a3 : Memref sig .tc .vmem S256x1024 .f32) (h3 : a3.IsWhole)
  (a4 : Memref sig .tc .vmem S1x128 .f32) (h4 : a4.IsWhole) (a5 : Memref sig .tc .vmem S256x1024 .f32) (h5 : a5.IsWhole)
  (a6 : Memref sig .tc .vmem S256x1024 .bf16) (h6 : a6.IsWhole) (a7 : Memref sig .tc .vmem S1x1024 .f32) (h7 : a7.IsWhole)
  (x0 : Vec F S256x1024 .f32) (x1 : Vec F S1x1024 .f32) (x2 : Vec F S256x1024 .f32) (xl : Vec F S1x128 .f32) (xg : Vec F S1x1024 .f32)

section
variable (hc : cond0_0 i)

theorem out_A_3 : out0_A_3 c i a1 h1 a2 h2 a3 h3 a4 h4 a5 h5 a6 h6 a7 h7 hc x0 x1 x2 = k0_pay10 x0 x1 x2 k0_pay5 := by
  frame_out

theorem out_A_4 : out0_A_4 c i a1 h1 a2 h2 a3 h3 a4 h4 a5 h5 a6 h6 a7 h7 hc x0 x1 x2
    = k0_pay2 (k0_pay6 x1) (k0_pay7 x0) (k0_pay8 x0) (k0_pay11 x0 x1 x2) := by
  frame_out

theorem out_A_5 : out0_A_5 c i a1 h1 a2 h2 a3 h3 a4 h4 a5 h5 a6 h6 a7 h7 hc x0 x1 x2
    = k0_pay3 (k0_pay6 x1) (k0_pay7 x0) (k0_pay8 x0) (k0_pay11 x0 x1 x2) := by
  frame_out

theorem out_A_6 : out0_A_6 c i a1 h1 a2 h2 a3 h3 a4 h4 a5 h5 a6 h6 a7 h7 hc x0 x1 x2
    = k0_pay1 (k0_pay8 x0) (k0_pay11 x0 x1 x2) k0_pay4 := by
  frame_out

end

section
variable (hc : ¬cond0_0 i)

theorem out_B_3 : out0_B_3 c i a1 h1 a2 h2 a3 h3 a4 h4 a5 h5 a6 h6 a7 h7 hc x0 x1 x2 xl xg = k0_pay10 x0 x1 x2 xl := by
  frame_out

theorem out_B_4 : out0_B_4 c i a1 h1 a2 h2 a3 h3 a4 h4 a5 h5 a6 h6 a7 h7 hc x0 x1 x2 xl xg
    = k0_pay2 (k0_pay6 x1) (k0_pay7 x0) (k0_pay8 x0) (k0_pay11 x0 x1 x2) := by
  frame_out

theorem out_B_5 : out0_B_5 c i a1 h1 a2 h2 a3 h3 a4 h4 a5 h5 a6 h6 a7 h7 hc x0 x1 x2 xl xg
    = k0_pay3 (k0_pay6 x1) (k0_pay7 x0) (k0_pay8 x0) (k0_pay11 x0 x1 x2) := by
  frame_out

theorem out_B_6 : out0_B_6 c i a1 h1 a2 h2 a3 h3 a4 h4 a5 h5 a6 h6 a7 h7 hc x0 x1 x2 xl xg
    = k0_pay1 (k0_pay8 x0) (k0_pay11 x0 x1 x2) xg := by
  frame_out

end

end

end Cert.LossLift

end
-- ==== Proof.LossArray.lean ====
/-
  The loss head: the arrays the call leaves. A grid point holds 256 rows and writes their
  gradient; the loss and the gradient of the gains stay in one block over the whole grid, which the first point starts at zero.
-/
module

public import proofs.«01_k».proof.Proof.LossLift
public import Idealize.ShloMosaic.Lib.StableHlo.Run

@[expose] public section

set_option maxRecDepth 16384

noncomputable section

namespace Cert.LossArray

open Cert.LossIdeal Cert.LossIdeal.Gen Cert.LossIdeal.Value Cert.LossMath Cert.UpDxMath Cert.LossLift Cert.AttnMath
open Idealize.ShloMosaic Idealize.ShloMosaic.TcCoe Idealize.SL.Sem

variable (m : (ℓ : Loc nD τ sig) → Buf (Elt Ideal) ℓ) (c : Dev nD)

/-- The arguments hold these extended reals. -/
structure Holds (x y : ℕ → Fin 1024 → EReal) (g : Fin 1024 → EReal) : Prop where
  x : ∀ (i : Fin 8192) (j : Fin 1024), ((m ((c : Thread nD τ).loc main_arg0) : Vec Ideal S8192x1024 .f32) (ix2 i j) : EReal) = (x i.val j : EReal)
  g : ∀ j : Fin 1024, ((m ((c : Thread nD τ).loc main_arg1) : Vec Ideal S1024 .f32) (ix1 j) : EReal) = (g j : EReal)
  y : ∀ (i : Fin 8192) (j : Fin 1024), ((m ((c : Thread nD τ).loc main_arg2) : Vec Ideal S8192x1024 .f32) (ix2 i j) : EReal) = (y i.val j : EReal)

/-! ### Where the blocks lie -/

theorem idx_rows : ∀ t : Fin cfg0.N, (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0) :=
  (by decide +kernel : ∀ t : Fin grid0.N, (win0_0.index t 0 = t.val ∧ win0_0.index t 1 = 0) ∧ (win0_2.index t 0 = t.val ∧ win0_2.index t 1 = 0)
    ∧ (win0_4.index t 0 = t.val ∧ win0_4.index t 1 = 0) ∧ (win0_5.index t 0 = t.val ∧ win0_5.index t 1 = 0))

theorem idx_whole : ∀ t : Fin cfg0.N, (win0_1.index t 0 = 0 ∧ win0_1.index t 1 = 0) ∧ (win0_3.index t 0 = 0 ∧ win0_3.index t 1 = 0)
    ∧ (win0_6.index t 0 = 0 ∧ win0_6.index t 1 = 0) :=
  (by decide +kernel : ∀ t : Fin grid0.N, (win0_1.index t 0 = 0 ∧ win0_1.index t 1 = 0) ∧ (win0_3.index t 0 = 0 ∧ win0_3.index t 1 = 0)
    ∧ (win0_6.index t 0 = 0 ∧ win0_6.index t 1 = 0))

theorem N_eq : cfg0.N = 32 := by decide

/-- The row of an element of point `t`'s blocks. -/
abbrev row (t : Fin cfg0.N) (r : Fin 256) : Fin 8192 := ⟨256 * t.val + r.val, by have := t.isLt; have := N_eq; omega⟩

theorem iblk_0 (t : Fin cfg0.N) (r : Fin 256) (j : Fin 1024) :
    (iblk m c 0 t : Vec Ideal S256x1024 .f32) (ix2 r j) = (V m c main_arg0 : Vec Ideal S8192x1024 .f32) (ix2 (row t r) j) := by
  obtain ⟨e0, e1⟩ := (idx_rows t).1
  unfold iblk
  rw [View.read_apply]
  show V m c main_arg0 _ = V m c main_arg0 _
  congr 1
  funext a
  apply Fin.ext
  match a with
  | ⟨0, _⟩ => show win0_0.index t 0 * 256 + 1 * r.val = 256 * t.val + r.val; rw [e0]; omega
  | ⟨1, _⟩ => show win0_0.index t 1 * 1024 + 1 * j.val = j.val; rw [e1]; omega

theorem iblk_2 (t : Fin cfg0.N) (r : Fin 256) (j : Fin 1024) :
    (iblk m c 2 t : Vec Ideal S256x1024 .f32) (ix2 r j) = (V m c main_arg2 : Vec Ideal S8192x1024 .f32) (ix2 (row t r) j) := by
  obtain ⟨e0, e1⟩ := (idx_rows t).2.1
  unfold iblk
  rw [View.read_apply]
  show V m c main_arg2 _ = V m c main_arg2 _
  congr 1
  funext a
  apply Fin.ext
  match a with
  | ⟨0, _⟩ => show win0_2.index t 0 * 256 + 1 * r.val = 256 * t.val + r.val; rw [e0]; omega
  | ⟨1, _⟩ => show win0_2.index t 1 * 1024 + 1 * j.val = j.val; rw [e1]; omega

theorem iblk_1 (t : Fin cfg0.N) (j : Fin 1024) :
    (iblk m c 1 t : Vec Ideal S1x1024 .f32) (ix2 0 j) = (V m c main_v0 : Vec Ideal S1x1024 .f32) (ix2 0 j) := by
  obtain ⟨e0, e1⟩ := (idx_whole t).1
  unfold iblk
  rw [View.read_apply]
  show V m c main_v0 _ = V m c main_v0 _
  congr 1
  funext a
  apply Fin.ext
  match a with
  | ⟨0, _⟩ => show win0_1.index t 0 * 1 + 1 * 0 = 0; rw [e0]
  | ⟨1, _⟩ => show win0_1.index t 1 * 1024 + 1 * j.val = j.val; rw [e1]; omega

theorem emb_3 (t : Fin cfg0.N) (z : Fin 1) (k : Fin 128) : (((cfg0.win 3).blk t).view.emb (ix2 z k) : S1x128.Idx) = ix2 z k := by
  obtain ⟨e0, e1⟩ := (idx_whole t).2.1
  funext a
  apply Fin.ext
  match a with
  | ⟨0, _⟩ => show win0_3.index t 0 * 1 + 1 * z.val = z.val; rw [e0]; omega
  | ⟨1, _⟩ => show win0_3.index t 1 * 128 + 1 * k.val = k.val; rw [e1]; omega

theorem emb_4 (t : Fin cfg0.N) (r : Fin 256) (j : Fin 1024) :
    (((cfg0.win 4).blk t).view.emb (ix2 r j) : S8192x1024.Idx) = ix2 (row t r) j := by
  obtain ⟨e0, e1⟩ := (idx_rows t).2.2.1
  funext a
  apply Fin.ext
  match a with
  | ⟨0, _⟩ => show win0_4.index t 0 * 256 + 1 * r.val = 256 * t.val + r.val; rw [e0]; omega
  | ⟨1, _⟩ => show win0_4.index t 1 * 1024 + 1 * j.val = j.val; rw [e1]; omega

theorem emb_5 (t : Fin cfg0.N) (r : Fin 256) (j : Fin 1024) :
    (((cfg0.win 5).blk t).view.emb (ix2 r j) : S8192x1024.Idx) = ix2 (row t r) j := by
  obtain ⟨e0, e1⟩ := (idx_rows t).2.2.2
  funext a
  apply Fin.ext
  match a with
  | ⟨0, _⟩ => show win0_5.index t 0 * 256 + 1 * r.val = 256 * t.val + r.val; rw [e0]; omega
  | ⟨1, _⟩ => show win0_5.index t 1 * 1024 + 1 * j.val = j.val; rw [e1]; omega

theorem emb_6 (t : Fin cfg0.N) (z : Fin 1) (j : Fin 1024) : (((cfg0.win 6).blk t).view.emb (ix2 z j) : S1x1024.Idx) = ix2 z j := by
  obtain ⟨e0, e1⟩ := (idx_whole t).2.2
  funext a
  apply Fin.ext
  match a with
  | ⟨0, _⟩ => show win0_6.index t 0 * 1 + 1 * z.val = z.val; rw [e0]; omega
  | ⟨1, _⟩ => show win0_6.index t 1 * 1024 + 1 * j.val = j.val; rw [e1]; omega

/-- The gains, laid out as one row before the call. -/
theorem gains_row (j : Fin 1024) :
    (V m c main_v0 : Vec Ideal S1x1024 .f32) (ix2 0 j) = (m ((c : Thread nD τ).loc main_arg1) : Vec Ideal S1024 .f32) (ix1 j) := by
  have h : V m c main_v0 = (shapeCast S1x1024 (m ((c : Thread nD τ).loc main_arg1) : Vec Ideal S1024 .f32) shapeCasts_S1024_S1x1024 : Vec Ideal S1x1024 .f32) := by
    show StableHlo.after (List.flatten [hostOps0]) _ (Proc.devRef .tc main_v0) = _
    simp only [hostOps0, List.flatten_cons, List.flatten_nil, List.append_nil, List.cons_append, List.nil_append]
    after_results_simp <;> rfl
  rw [h]
  generalize (m ((c : Thread nD τ).loc main_arg1) : Vec Ideal S1024 .f32) = y
  pointwise

/-! ### What a point leaves -/

section
variable {m c} {x y : ℕ → Fin 1024 → EReal} {g : Fin 1024 → EReal} (H : Holds m c x y g)
include H

theorem x_blk (t : Fin cfg0.N) (r : Fin 256) (j : Fin 1024) :
    ((iblk m c 0 t : Vec Ideal S256x1024 .f32) (ix2 r j) : EReal) = (x (256 * t.val + r.val) j : EReal) := by
  rw [iblk_0, V_main_arg0]; exact H.x _ j

theorem y_blk (t : Fin cfg0.N) (r : Fin 256) (j : Fin 1024) :
    ((iblk m c 2 t : Vec Ideal S256x1024 .f32) (ix2 r j) : EReal) = (y (256 * t.val + r.val) j : EReal) := by
  rw [iblk_2, V_main_arg2]; exact H.y _ j

theorem g_blk (t : Fin cfg0.N) (j : Fin 1024) : ((iblk m c 1 t : Vec Ideal S1x1024 .f32) (ix2 0 j) : EReal) = (g j : EReal) := by
  rw [iblk_1, gains_row]; exact H.g j

/-- The gradient of one row. -/
theorem rows (t : Fin cfg0.N) (r : Fin 256) (j : Fin 1024) :
    ((outsAt0 m c t.val t.isLt).2.1 (ix2 r j) : EReal)
        = (back (x (256 * t.val + r.val)) g (pulls x y g (256 * t.val + r.val)) j : EReal)
      ∧ ((outsAt0 m c t.val t.isLt).2.2.1 (ix2 r j) : EReal)
        = (back (x (256 * t.val + r.val)) g (pulls x y g (256 * t.val + r.val)) j : EReal) := by
  have h := pay2_lift (x_blk H t) (g_blk H t) (y_blk H t) r j
  by_cases h0 : t.val % 32 = 0
  · rw [outsAt0_A m c t h0]
    dsimp only
    rw [out_A_4, out_A_5]
    exact ⟨h, h⟩
  · rw [outsAt0_B m c t h0]
    dsimp only
    rw [out_B_4, out_B_5]
    exact ⟨h, h⟩

/-- The loss and the gradient of the gains after a point: over the rows so far. -/
theorem running (n : ℕ) (hn : n < cfg0.N) :
    (∀ (z : Fin 1) (k : Fin 128), ((outsAt0 m c n hn).1 (ix2 z k) : EReal) = (loss x y g (256 * (n + 1)) : EReal))
      ∧ ∀ (z : Fin 1) (j : Fin 1024), ((outsAt0 m c n hn).2.2.2 (ix2 z j) : EReal) = (gains x (pulls x y g) (256 * (n + 1)) j : EReal) := by
  induction n with
  | zero =>
    rw [outsAt0_A m c ⟨0, hn⟩ (by simp)]
    dsimp only
    rw [out_A_3, out_A_6]
    refine ⟨fun z k => ?_, fun z j => ?_⟩
    · rw [pay10_lift (x_blk H ⟨0, hn⟩) (g_blk H ⟨0, hn⟩) (y_blk H ⟨0, hn⟩) pay5_lift, ← loss_step, Nat.mul_zero, loss_zero]
    · rw [pay1_lift (x_blk H ⟨0, hn⟩) (g_blk H ⟨0, hn⟩) (y_blk H ⟨0, hn⟩) pay4_lift, ← gains_step256, Nat.mul_zero, gains_zero]
  | succ n ih =>
    obtain ⟨i3, i6⟩ := ih (by omega)
    have h0 : ¬(⟨n + 1, hn⟩ : Fin cfg0.N).val % 32 = 0 := by have := N_eq; dsimp only; omega
    rw [outsAt0_B m c ⟨n + 1, hn⟩ h0]
    dsimp only
    rw [out_B_3, out_B_6]
    refine ⟨fun z k => ?_, fun z j => ?_⟩
    · rw [← loss_step x y g (n + 1)]
      exact pay10_lift (x_blk H ⟨n + 1, hn⟩) (g_blk H ⟨n + 1, hn⟩) (y_blk H ⟨n + 1, hn⟩) i3 z k
    · rw [← gains_step256 x (pulls x y g) (n + 1)]
      exact pay1_lift (x_blk H ⟨n + 1, hn⟩) (g_blk H ⟨n + 1, hn⟩) (y_blk H ⟨n + 1, hn⟩) i6 z j

end

/-! ### The arrays when the call is over -/

/-- The loss in every lane, the gradient of every row in both formats, and the gradient of the gains. -/
def wholeL (x y : ℕ → Fin 1024 → EReal) (g : Fin 1024 → EReal) : Vec Ideal S1x128 .f32 := fun _ => (loss x y g 8192 : EReal)
def wholeX (x y : ℕ → Fin 1024 → EReal) (g : Fin 1024 → EReal) : Vec Ideal S8192x1024 .f32 :=
  fun a => (back (x (a 0).val) g (pulls x y g (a 0).val) (a 1) : EReal)
def wholeX16 (x y : ℕ → Fin 1024 → EReal) (g : Fin 1024 → EReal) : Vec Ideal S8192x1024 .bf16 := wholeX x y g
def wholeG (x y : ℕ → Fin 1024 → EReal) (g : Fin 1024 → EReal) : Vec Ideal S1x1024 .f32 :=
  fun a => (gains x (pulls x y g) 8192 (a 1) : EReal)

/-- The point that holds a row. -/
abbrev owner (a : Fin 8192) : Fin cfg0.N := ⟨a.val / 256, by have := a.isLt; have := N_eq; omega⟩

theorem row_owner (a : Fin 8192) : row (owner a) ⟨a.val % 256, Nat.mod_lt _ (by decide)⟩ = a :=
  Fin.ext (by show 256 * (a.val / 256) + a.val % 256 = a.val; omega)

variable {m c} {x y : ℕ → Fin 1024 → EReal} {g : Fin 1024 → EReal} (H : Holds m c x y g)
include H

theorem final_4 : (dats m 0 c).arrAt 4 cfg0.N = wholeX x y g := by
  refine (dats m 0 c).arrAt_eq_of_cover 4 _ (fun t hf => ?_) (fun i => ?_)
  · rw [flushed4]
    funext a
    obtain ⟨r, j, rfl⟩ : ∃ (r : Fin 256) (j : Fin 1024), a = (ix2 r j : S256x1024.Idx) := ⟨a 0, a 1, eq_ix2 a⟩
    rw [View.read_apply]
    exact (rows H t r j).1.trans (congrArg (wholeX x y g) (emb_4 t r j)).symm
  · obtain ⟨a, b, rfl⟩ : ∃ (a : Fin 8192) (b : Fin 1024), i = (ix2 a b : S8192x1024.Idx) := ⟨i 0, i 1, eq_ix2 i⟩
    refine ⟨owner a, flush0_4 _, ?_⟩
    have he : (ix2 a b : S8192x1024.Idx) = ((cfg0.win 4).blk (owner a)).view.emb (ix2 ⟨a.val % 256, Nat.mod_lt _ (by decide)⟩ b) := by
      rw [emb_4, row_owner]
    rw [he]
    exact View.emb_mem_set _ _

theorem final_5 : (dats m 0 c).arrAt 5 cfg0.N = wholeX16 x y g := by
  refine (dats m 0 c).arrAt_eq_of_cover 5 _ (fun t hf => ?_) (fun i => ?_)
  · rw [flushed5]
    funext a
    obtain ⟨r, j, rfl⟩ : ∃ (r : Fin 256) (j : Fin 1024), a = (ix2 r j : S256x1024.Idx) := ⟨a 0, a 1, eq_ix2 a⟩
    rw [View.read_apply]
    exact (rows H t r j).2.trans (congrArg (wholeX16 x y g) (emb_5 t r j)).symm
  · obtain ⟨a, b, rfl⟩ : ∃ (a : Fin 8192) (b : Fin 1024), i = (ix2 a b : S8192x1024.Idx) := ⟨i 0, i 1, eq_ix2 i⟩
    refine ⟨owner a, flush0_5 _, ?_⟩
    have he : (ix2 a b : S8192x1024.Idx) = ((cfg0.win 5).blk (owner a)).view.emb (ix2 ⟨a.val % 256, Nat.mod_lt _ (by decide)⟩ b) := by
      rw [emb_5, row_owner]
    rw [he]
    exact View.emb_mem_set _ _

theorem final_3 : (dats m 0 c).arrAt 3 cfg0.N = wholeL x y g := by
  refine (dats m 0 c).arrAt_eq_of_cover 3 _ (fun t hf => ?_) (fun i => ?_)
  · have ht : t.val = 31 := by have := (flush0_3 t).mp hf; have := t.isLt; have := N_eq; omega
    obtain ⟨n, hn⟩ := t
    dsimp only at ht
    subst ht
    rw [flushed3]
    funext a
    obtain ⟨z, k, rfl⟩ : ∃ (z : Fin 1) (k : Fin 128), a = (ix2 z k : S1x128.Idx) := ⟨a 0, a 1, eq_ix2 a⟩
    rw [View.read_apply]
    exact (running H 31 hn).1 z k
  · obtain ⟨a, b, rfl⟩ : ∃ (a : Fin 1) (b : Fin 128), i = (ix2 a b : S1x128.Idx) := ⟨i 0, i 1, eq_ix2 i⟩
    have ht : 31 < cfg0.N := by have := N_eq; omega
    exact ⟨⟨31, ht⟩, (flush0_3 _).mpr rfl, Eq.subst (motive := fun x : S1x128.Idx => x ∈ ((cfg0.win 3).blk ⟨31, ht⟩).view.set)
      (emb_3 ⟨31, ht⟩ a b) (View.emb_mem_set _ _)⟩

omit H in
/-- The last point's block of the gains' gradient is the whole array. -/
theorem cover_6 (i : S1x1024.Idx) (ht : 31 < cfg0.N) : i ∈ ((cfg0.win 6).blk ⟨31, ht⟩).view.set := by
  obtain ⟨a, b, rfl⟩ : ∃ (a : Fin 1) (b : Fin 1024), i = (ix2 a b : S1x1024.Idx) := ⟨i 0, i 1, eq_ix2 i⟩
  exact Eq.subst (motive := fun x : S1x1024.Idx => x ∈ ((cfg0.win 6).blk ⟨31, ht⟩).view.set) (emb_6 ⟨31, ht⟩ a b) (View.emb_mem_set _ _)

theorem last_6 (hn : 31 < cfg0.N) (z : Fin 1) (j : Fin 1024) :
    ((outsAt0 m c 31 hn).2.2.2 (ix2 z j) : EReal) = wholeG x y g (ix2 z j) :=
  (running H 31 hn).2 z j

theorem final_6 : (dats m 0 c).arrAt 6 cfg0.N = wholeG x y g := by
  refine (dats m 0 c).arrAt_eq_of_cover 6 _ (fun t hf => ?_) (fun i => ?_)
  · have ht : t.val = 31 := by have := (flush0_6 t).mp hf; have := t.isLt; have := N_eq; omega
    obtain ⟨n, hn⟩ := t
    dsimp only at ht
    subst ht
    rw [flushed6]
    funext a
    obtain ⟨z, j, rfl⟩ : ∃ (z : Fin 1) (j : Fin 1024), a = (ix2 z j : S1x1024.Idx) := ⟨a 0, a 1, eq_ix2 a⟩
    rw [View.read_apply]
    exact (last_6 H hn z j).trans (congrArg (wholeG x y g) (emb_6 ⟨31, hn⟩ z j)).symm
  · have ht : 31 < cfg0.N := by have := N_eq; omega
    exact ⟨⟨31, ht⟩, (flush0_6 _).mpr rfl, cover_6 i ht⟩

end Cert.LossArray

end
-- ==== Proof.LossRef.lean ====
/-
  The reference's loss and its gradient, on extended reals, stage by stage: the normed rows, the loss, and the derivative that the
  chain rule writes out line by line.
-/
module

public import proofs.«01_k».proof.Proof.LossMath
public import proofs.«01_k».proof.Proof.Gen.LossRefIdeal.Read

@[expose] public section

set_option maxRecDepth 16384

noncomputable section

namespace Cert.LossRef

open Cert.LossRefIdeal Cert.LossRefIdeal.Gen Cert.LossRefIdeal.Read Cert.AttnMath Cert.UpDxMath Cert.LossMath
open Idealize.ShloMosaic Idealize.ShloMosaic.TcCoe Idealize.SL.Sem

variable {x0 x2 : Vec Ideal S8192x1024 .f32} {x1 : Vec Ideal S1024 .f32} {x y : ℕ → Fin 1024 → EReal} {g : Fin 1024 → EReal}
  (hx : ∀ (i : Fin 8192) j, (x0 (ix2 i j) : EReal) = (x i.val j : EReal)) (hg : ∀ j, (x1 (ix1 j) : EReal) = (g j : EReal))
  (hy : ∀ (i : Fin 8192) j, (x2 (ix2 i j) : EReal) = (y i.val j : EReal))

section
include hx

theorem mean_read (i : Fin 8192) : val_main_v6 (F := Ideal) x0 (ix2 i 0) = (mean (x i.val) : EReal) := by
  pointwise [val_main_v6, val_main_v5, val_main_cst_1, val_main_v4, val_main_v3, val_main_cst_0, val_main_v2, val_main_v1, val_main_cst, val_main_v0]
  simp only [hx, word_1024, eps_eq]
  rfl

theorem rstd_read (i : Fin 8192) : val_main_v7 (F := Ideal) x0 (ix2 i 0) = (rstd (x i.val) : EReal) := by
  rw [val_main_v7_apply, mean_read hx]
  rfl

theorem slope_read (i : Fin 8192) : val_main_v10 (F := Ideal) x0 (ix2 i 0) = slope (x i.val) := by
  rw [val_main_v10_apply, val_main_v8_apply, mean_read hx, rstd_read hx]
  pointwise [val_main_v9, val_main_cst_2]
  rw [word_minus_half]
  rfl

theorem norm_read (i : Fin 8192) (j : Fin 1024) : val_main_v12 (F := Ideal) x0 (ix2 i j) = (x i.val j * rstd (x i.val) : EReal) := by
  pointwise [val_main_v12, val_main_v11]
  rw [hx, rstd_read hx]

end

include hx hg hy

theorem miss_read (i : Fin 8192) (j : Fin 1024) : val_main_v16 (F := Ideal) x0 x1 x2 (ix2 i j)
    = (miss (x i.val) g (y i.val) j : EReal) := by
  pointwise [val_main_v16, val_main_v15, val_main_v14, val_main_v13]
  rw [norm_read hx, hg, hy]
  rfl

theorem square_read (i : Fin 8192) : val_main_v22 (F := Ideal) x0 x1 x2 (ix1 i) = (square (x i.val) g (y i.val) : EReal) := by
  pointwise [val_main_v22, val_main_v21, val_main_cst_5, val_main_v20, val_main_cst_4, val_main_v17]
  simp only [miss_read hx hg hy, word_1024]
  rfl

/-- The sum over the rows, told by their numbers. -/
theorem total_read (i : S_.Idx) : val_main_v23 (F := Ideal) x0 x1 x2 i = (∑ i : Fin 8192, square (x i.val) g (y i.val) : EReal) := by
  rw [val_main_v23_apply]
  refine (congrArg (fun a : EReal => a + _) (show (val_main_cst_6 (F := Ideal) (Shape.Idx.first h_S_) : EReal) = 0 from ?_)).trans
    ((zero_add _).trans ?_)
  · rw [val_main_cst_6_apply]; exact Ideal.ofBits_zero_f32
  · refine Fintype.sum_equiv ⟨fun j => j 0, fun i => ix1 i, fun j => (eq_ix1 j).symm, fun _ => rfl⟩ _ _ fun j => ?_
    obtain ⟨i, rfl⟩ : ∃ i : Fin 8192, j = ix1 i := ⟨j 0, eq_ix1 j⟩
    exact square_read hx hg hy i

theorem loss_read (z : Fin 1) (k : Fin 128) : val_main_v51 (F := Ideal) x0 x1 x2 (ix2 z k) = (loss x y g 8192 : EReal) := by
  rw [val_main_v51_apply, val_main_v24_apply, total_read hx hg hy, val_main_cst_7_apply, ← loss_all, ← word_half]
  rfl

theorem pull_read (i : Fin 8192) (j : Fin 1024) : val_main_v30 (F := Ideal) x0 x1 x2 (ix2 i j)
    = (pull (x i.val) g (y i.val) j : EReal) := by
  pointwise [val_main_v30, val_main_v29, val_main_v28, val_main_v27, val_main_cst_10, val_main_v26, val_main_v25, val_main_cst_9, val_main_cst_8, val_main_v19, val_main_v18, val_main_cst_3]
  simp only [miss_read hx hg hy, word_half, word_one, word_two, word_1024]
  rw [div_lift _ (by norm_num), pull_eq]

theorem gain_read (j : Fin 1024) : val_main_v53 (F := Ideal) x0 x1 x2 (ix2 0 j) = (gains x (pulls x y g) 8192 j : EReal) := by
  pointwise [val_main_v53, val_main_v36, val_main_cst_12, val_main_v33, val_main_v32, val_main_cst_11, val_main_v31]
  simp only [norm_read hx, pull_read hx hg hy, gains_all x (pulls x y g)]
  exact Fin.sum_univ_one _

theorem share_read (i : Fin 8192) : val_main_v44 (F := Ideal) x0 x1 x2 (ix2 i 0) = (share (x i.val) g (pulls x y g i.val) : EReal) := by
  pointwise [val_main_v44, val_main_v43, val_main_cst_14, val_main_v42, val_main_v39, val_main_v38, val_main_cst_13, val_main_v37, val_main_v35, val_main_v34, val_main_v13]
  simp only [hx, hg, slope_read hx, pull_read hx hg hy, word_1024]
  rfl

theorem row_read (i : Fin 8192) (j : Fin 1024) : val_main_v50 (F := Ideal) x0 x1 x2 (ix2 i j)
    = (back (x i.val) g (pulls x y g i.val) j : EReal) := by
  pointwise [val_main_v50, val_main_v49, val_main_v48, val_main_v47, val_main_v46, val_main_v45, val_main_cst_15, val_main_v41, val_main_v40, val_main_v35, val_main_v34, val_main_v13]
  simp only [Finset.univ_unique, Finset.sum_singleton, Fin.default_eq_zero, hx, hg, rstd_read hx, pull_read hx hg hy, share_read hx hg hy]
  rw [back_eq]

end Cert.LossRef

end
-- ==== Proof.LossClaim.lean ====
/-
  The claims on the loss head, each from one run of its program.
-/
module

public import proofs.«01_k».proof.Defs
public import proofs.«01_k».proof.Proof.LossArray
public import proofs.«01_k».proof.Proof.LossRef
public import proofs.«01_k».proof.Proof.Gen.LossRefIdeal.Run
public import proofs.«01_k».proof.Proof.Gen.Loss.Frame

@[expose] public section

set_option maxRecDepth 16384

noncomputable section

namespace Cert.LossClaim

open Idealize.ShloMosaic Idealize.ShloMosaic.TcCoe Idealize.SL.Sem

theorem frame_kernel : Cert.quiescent_Loss := fun m ρ _ => Cert.Loss.Gen.frame m ρ

theorem frame_ideal : Cert.quiescent_LossIdeal := fun m ρ _ => Cert.LossIdeal.Gen.frame m ρ

theorem frame_reference : Cert.quiescent_LossRefIdeal := fun m ρ _ =>
  (θ_run Cert.LossRefIdeal.defs _ _).mono (fun r h => ⟨fun c => (h c).2.2.2.2, sem_eq_zero_of_no_sems (by decide) r.2⟩)
    (Cert.LossRefIdeal.Value.run m ρ)

/-- The arguments hold their own entries; rows past the last one are told as 0. -/
theorem holds (m : (ℓ : Loc LossIdeal.nD LossIdeal.τ LossIdeal.sig) → Buf (Elt Ideal) ℓ) (c : Dev LossIdeal.nD) :
    ∃ (x : ℕ → Fin 1024 → EReal) (y : ℕ → Fin 1024 → EReal) (g : Fin 1024 → EReal),
      LossArray.Holds m c x y g := by
  let x0 : Vec Ideal ⟨2, ![8192, 1024]⟩ .f32 := m ((c.tc : Thread LossIdeal.nD LossIdeal.τ).loc LossIdeal.main_arg0)
  let x1 : Vec Ideal ⟨1, ![1024]⟩ .f32 := m ((c.tc : Thread LossIdeal.nD LossIdeal.τ).loc LossIdeal.main_arg1)
  let x2 : Vec Ideal ⟨2, ![8192, 1024]⟩ .f32 := m ((c.tc : Thread LossIdeal.nD LossIdeal.τ).loc LossIdeal.main_arg2)
  exact ⟨fun i j => if hi : i < 8192 then (x0 (ix2 ⟨i, hi⟩ j) : EReal) else 0,
    fun i j => if hi : i < 8192 then (x2 (ix2 ⟨i, hi⟩ j) : EReal) else 0,
    fun j => x1 (ix1 j),
    ⟨fun i j => (dif_pos (t := fun h => (x0 (ix2 ⟨i.val, h⟩ j) : EReal)) i.isLt).symm, fun _ => rfl, fun i j => (dif_pos (t := fun h => (x2 (ix2 ⟨i.val, h⟩ j) : EReal)) i.isLt).symm⟩⟩

section
variable {x0 x2 : Vec Ideal Cert.LossRefIdeal.S8192x1024 .f32} {x1 : Vec Ideal Cert.LossRefIdeal.S1024 .f32}
  {x y : ℕ → Fin 1024 → EReal} {g : Fin 1024 → EReal}
  (hx : ∀ (i : Fin 8192) j, (x0 (ix2 i j) : EReal) = (x i.val j : EReal)) (hg : ∀ j, (x1 (ix1 j) : EReal) = (g j : EReal))
  (hy : ∀ (i : Fin 8192) j, (x2 (ix2 i j) : EReal) = (y i.val j : EReal))
include hx hg hy

theorem ref_l : Cert.LossRefIdeal.Read.val_main_v51 (F := Ideal) x0 x1 x2 = LossArray.wholeL x y g := by
  funext a
  obtain ⟨i, j, rfl⟩ : ∃ (i : Fin 1) (j : Fin 128), a = ix2 i j := ⟨a 0, a 1, eq_ix2 a⟩
  exact LossRef.loss_read hx hg hy i j

theorem ref_x : Cert.LossRefIdeal.Read.val_main_v50 (F := Ideal) x0 x1 x2 = LossArray.wholeX x y g := by
  funext a
  obtain ⟨i, j, rfl⟩ : ∃ (i : Fin 8192) (j : Fin 1024), a = ix2 i j := ⟨a 0, a 1, eq_ix2 a⟩
  exact LossRef.row_read hx hg hy i j

theorem ref_x16 : Cert.LossRefIdeal.Read.val_main_v52 (F := Ideal) x0 x1 x2 = LossArray.wholeX16 x y g := ref_x hx hg hy

theorem ref_g : Cert.LossRefIdeal.Read.val_main_v53 (F := Ideal) x0 x1 x2 = LossArray.wholeG x y g := by
  funext a
  obtain ⟨i, j, rfl⟩ : ∃ (i : Fin 1) (j : Fin 1024), a = ix2 i j := ⟨a 0, a 1, eq_ix2 a⟩
  obtain rfl : i = 0 := Subsingleton.elim _ _
  exact LossRef.gain_read hx hg hy j

end

theorem algebraic : Cert.algebraic_LossIdeal_LossRefIdeal := by
  intro m g m' g' _ hagree
  choose x y d H using fun c => holds m c
  refine ⟨fun c => LossArray.wholeL (x c) (y c) (d c), fun c => LossArray.wholeX (x c) (y c) (d c),
    fun c => LossArray.wholeX16 (x c) (y c) (d c), fun c => LossArray.wholeG (x c) (y c) (d c), ?_, ?_⟩
  · refine (θ_run Cert.LossIdeal.defs _ _).mono (fun r h c => ?_) (Cert.LossIdeal.Value.run_blocks m g)
    obtain ⟨h3, h4, h5, h6, h0⟩ := h c
    exact ⟨h3.trans (LossArray.final_3 (H c)), h4.trans (LossArray.final_4 (H c)), h5.trans (LossArray.final_5 (H c)),
      h6.trans (LossArray.final_6 (H c)), h0⟩
  · refine (θ_run Cert.LossRefIdeal.defs _ _).mono (fun r h c => ?_) (Cert.LossRefIdeal.Value.run m' g')
    obtain ⟨h3, h4, h5, h6, h0⟩ := h c
    obtain ⟨a0, a1, a2⟩ := hagree c
    refine ⟨h3.trans ?_, h4.trans ?_, h5.trans ?_, h6.trans ?_, h0⟩
    · rw [Cert.LossRefIdeal.Read.val_main_v51_eq, a0, a1, a2]
      exact ref_l (H c).x (H c).g (H c).y
    · rw [Cert.LossRefIdeal.Read.val_main_v50_eq, a0, a1, a2]
      exact ref_x (H c).x (H c).g (H c).y
    · rw [Cert.LossRefIdeal.Read.val_main_v52_eq, a0, a1, a2]
      exact ref_x16 (H c).x (H c).g (H c).y
    · rw [Cert.LossRefIdeal.Read.val_main_v53_eq, a0, a1, a2]
      exact ref_g (H c).x (H c).g (H c).y

end Cert.LossClaim

end
-- ==== Proof.AdamStep.lean ====
/-
  AdamW for arrays of any shape, and how a grid whose points hold the rows in turn reaches every row of an array.
-/
module

public import proofs.«01_k».proof.Defs
public import Idealize.ShloMosaic.Lib.Pointwise
public import Idealize.ShloMosaic.Lib.StableHlo.Run
public import Idealize.ShloMosaic.Lib.Tactic

@[expose] public section

noncomputable section

namespace Cert.AdamStep

open Idealize.ShloMosaic Idealize.ShloMosaic.TcCoe Idealize.SL.Sem

section
variable {S : Shape}

/-- The new first moment. -/
def newM (g m : FVec Ideal S .f32) : FVec Ideal S .f32 :=
  addf (mulf (broadcast S (Scalar.ofBits .f32 0x3F666666#32)) m) (mulf (broadcast S (Scalar.ofBits .f32 0x3DCCCCCD#32)) g)

/-- The new second moment. -/
def newV (g v : FVec Ideal S .f32) : FVec Ideal S .f32 :=
  addf (mulf (broadcast S (Scalar.ofBits .f32 0x3F7FBE77#32)) v) (mulf (broadcast S (Scalar.ofBits .f32 0x3A83126F#32)) (mulf g g))

/-- The change of the weight. -/
def delta (w g m v : FVec Ideal S .f32) : FVec Ideal S .f32 :=
  mulf (broadcast S (Scalar.ofBits .f32 0xBA83126F#32))
    (addf (divf (divf (newM g m) (broadcast S (Scalar.ofBits .f32 0x3F26BD02#32)))
        (addf (sqrt (divf (newV g v) (broadcast S (Scalar.ofBits .f32 0x3C231ACC#32)))) (broadcast S (Scalar.ofBits .f32 0x322BCC77#32))))
      (mulf (broadcast S (Scalar.ofBits .f32 0x3C23D70A#32)) w))

end

section
variable {S S' : Shape} {w g m v : FVec Ideal S .f32} {w' g' m' v' : FVec Ideal S' .f32} {y : S.Idx} {i : S'.Idx}

/-- The step at an element depends on the arrays at that element alone. -/
theorem newM_at (hg : g y = g' i) (hm : m y = m' i) : newM g m y = newM g' m' i := by
  unfold newM
  simp only [addf, mulf, broadcast, hg, hm]

theorem newV_at (hg : g y = g' i) (hv : v y = v' i) : newV g v y = newV g' v' i := by
  unfold newV
  simp only [addf, mulf, broadcast, hg, hv]

theorem delta_at (hw : w y = w' i) (hg : g y = g' i) (hm : m y = m' i) (hv : v y = v' i) : delta w g m v y = delta w' g' m' v' i := by
  unfold delta
  simp only [addf, mulf, divf, sqrt, broadcast, newM_at hg hm, newV_at hg hv, hw]

end

theorem hz : (![0, 0] : Fin 2 → Nat) = fun _ => 0 := funext fun a => by fin_cases a <;> rfl

/-- Row `r` is row `r % T` of block `r / T`, and there are `R / T` blocks. -/
theorem row_split {R T N : Nat} (h : R = T * N) (hT : 0 < T) (r : Fin R) :
    r.val / T < N ∧ r.val % T < T ∧ r.val / T * T + 1 * (r.val % T) = r.val := by
  refine ⟨Nat.div_lt_of_lt_mul (by have := r.isLt; omega), Nat.mod_lt _ hT, ?_⟩
  have := Nat.div_add_mod r.val T
  rw [Nat.mul_comm] at this
  omega

end Cert.AdamStep

end
-- ==== Proof.AdamClaim.lean ====
/-
  AdamW for one device's block of `xa_wq`, 4 by 128 by 1024:
  seen as 512 rows of 1024 lanes, of which a grid point holds 256. Each new element depends on the elements at
  the same place alone.
-/
module

public import proofs.«01_k».proof.Proof.AdamStep
public import proofs.«01_k».proof.Proof.Gen.AdamIdeal.Value
public import proofs.«01_k».proof.Proof.Gen.AdamRefIdeal.Run
public import proofs.«01_k».proof.Proof.Gen.Adam.Frame

@[expose] public section

set_option maxRecDepth 16384

noncomputable section

namespace Cert.AdamClaim

open Idealize.ShloMosaic Idealize.ShloMosaic.TcCoe Idealize.SL.Sem Cert.AdamStep

theorem frame_kernel : Cert.quiescent_Adam := fun m ρ _ => Cert.Adam.Gen.frame m ρ

theorem frame_ideal : Cert.quiescent_AdamIdeal := fun m ρ _ => Cert.AdamIdeal.Gen.frame m ρ

theorem frame_reference : Cert.quiescent_AdamRefIdeal := fun m ρ _ =>
  (θ_run Cert.AdamRefIdeal.defs _ _).mono (fun r h => ⟨fun c => (h c).2.2.2, sem_eq_zero_of_no_sems (by decide) r.2⟩)
    (Cert.AdamRefIdeal.Value.run m ρ)

section
open Cert.AdamIdeal Cert.AdamIdeal.Gen Cert.AdamIdeal.Value

/-- What a grid point leaves in its three blocks. -/
theorem out_eq (x0 x1 x2 x3 : Vec Ideal S256x1024 .f32) :
    out0_4 x0 x1 x2 x3 = delta x0 x1 x2 x3 ∧ out0_5 x0 x1 x2 x3 = newM x1 x2 ∧ out0_6 x0 x1 x2 x3 = newV x1 x3 := by
  unfold out0_4 out0_5 out0_6
  rw [View.canon_unit_zero hz, View.canon_unit_zero hz, View.canon_unit_zero hz]
  simp only [View.ld_unit_zero (S := S256x1024) hz]
  unfold k0_pay4 k0_pay3 k0_pay2 k0_pay1
  simp only [shapeCast_self]
  exact ⟨rfl, rfl, rfl⟩

variable (m : (ℓ : Loc nD τ sig) → Buf (Elt Ideal) ℓ) (c : Dev nD)

/-- The weight, the gradient and the moments, as rows. -/
abbrev wt : Vec Ideal S512x1024 .f32 := V m c main_v0
abbrev gr : Vec Ideal S512x1024 .f32 := V m c main_v1
abbrev m1 : Vec Ideal S512x1024 .f32 := V m c main_v2
abbrev m2 : Vec Ideal S512x1024 .f32 := V m c main_v3

/-- Point `t` holds the `t`-th block of 256 rows. -/
theorem idx : ∀ t : Fin cfg0.N, win0_4.index t 0 = t.val ∧ win0_4.index t 1 = 0 :=
  (by decide +kernel : ∀ t : Fin grid0.N, win0_4.index t 0 = t.val ∧ win0_4.index t 1 = 0)

/-- Every element lies in some point's block. -/
theorem cover (i : S512x1024.Idx) : ∃ (t : Fin cfg0.N) (y : S256x1024.Idx), i = ((cfg0.win 4).blk t).view.emb y := by
  obtain ⟨a, b, rfl⟩ : ∃ (a : Fin 512) (b : Fin 1024), i = (ix2 a b : S512x1024.Idx) := ⟨i 0, i 1, eq_ix2 i⟩
  obtain ⟨ht, hr, e⟩ := row_split (R := 512) (T := 256) (N := cfg0.N) (by decide) (by decide) a
  obtain ⟨e0, e1⟩ := idx ⟨_, ht⟩
  refine ⟨⟨_, ht⟩, ix2 (⟨_, hr⟩ : Fin 256) b, funext fun d => Fin.ext ?_⟩
  match d with
  | ⟨0, _⟩ => show a.val = win0_4.index ⟨_, ht⟩ 0 * 256 + 1 * (a.val % 256); rw [e0]; exact e.symm
  | ⟨1, _⟩ => show b.val = win0_4.index ⟨_, ht⟩ 1 * 1024 + 1 * b.val; rw [e1]; omega

/-- The arrays that the call leaves. -/
theorem final_eq : (dats m 0 c).arrAt 4 cfg0.N = delta (wt m c) (gr m c) (m1 m c) (m2 m c)
    ∧ (dats m 0 c).arrAt 5 cfg0.N = newM (gr m c) (m1 m c) ∧ (dats m 0 c).arrAt 6 cfg0.N = newV (gr m c) (m2 m c) := by
  refine ⟨(dats m 0 c).arrAt_eq_of_cover 4 _ (fun t _ => ?_) (fun i => ?_), (dats m 0 c).arrAt_eq_of_cover 5 _ (fun t _ => ?_) (fun i => ?_),
    (dats m 0 c).arrAt_eq_of_cover 6 _ (fun t _ => ?_) (fun i => ?_)⟩
  · rw [flushed4, (out_eq _ _ _ _).1]
    exact funext fun y => delta_at rfl rfl rfl rfl
  · obtain ⟨t, y, rfl⟩ := cover i
    exact ⟨t, flush0_4 _, View.emb_mem_set _ _⟩
  · rw [flushed5, (out_eq _ _ _ _).2.1]
    exact funext fun y => newM_at rfl rfl
  · obtain ⟨t, y, rfl⟩ := cover i
    exact ⟨t, flush0_5 _, View.emb_mem_set _ _⟩
  · rw [flushed6, (out_eq _ _ _ _).2.2]
    exact funext fun y => newV_at rfl rfl
  · obtain ⟨t, y, rfl⟩ := cover i
    exact ⟨t, flush0_6 _, View.emb_mem_set _ _⟩

/-- The arrays are the arguments, laid out as rows. -/
theorem rows_eq : wt m c = shapeCast _ (m ((c : Thread nD τ).loc main_arg0)) shapeCasts_S4x128x1024_S512x1024
    ∧ gr m c = shapeCast _ (m ((c : Thread nD τ).loc main_arg1)) shapeCasts_S4x128x1024_S512x1024
    ∧ m1 m c = shapeCast _ (m ((c : Thread nD τ).loc main_arg2)) shapeCasts_S4x128x1024_S512x1024
    ∧ m2 m c = shapeCast _ (m ((c : Thread nD τ).loc main_arg3)) shapeCasts_S4x128x1024_S512x1024 := by
  refine ⟨?_, ?_, ?_, ?_⟩ <;>
  · show StableHlo.after hostOps0 _ _ = _
    simp only [hostOps0]
    after_results_simp <;> rfl

end

theorem algebraic : Cert.algebraic_AdamIdeal_AdamRefIdeal := by
  intro m g m' g' _ hagree
  refine ⟨fun c => delta (wt m c) (gr m c) (m1 m c) (m2 m c), fun c => newM (gr m c) (m1 m c), fun c => newV (gr m c) (m2 m c), ?_, ?_⟩
  · refine (θ_run Cert.AdamIdeal.defs _ _).mono (fun r h c => ?_) (Cert.AdamIdeal.Value.run_blocks m g)
    obtain ⟨hd, hm, hv, h⟩ := h c
    obtain ⟨fd, fm, fv⟩ := final_eq m c
    exact ⟨hd.trans fd, hm.trans fm, hv.trans fv, h⟩
  · refine (θ_run Cert.AdamRefIdeal.defs _ _).mono (fun r h c => ?_) (Cert.AdamRefIdeal.Value.run m' g')
    obtain ⟨hd, hm, hv, h⟩ := h c
    obtain ⟨a0, a1, a2, a3⟩ := hagree c
    obtain ⟨e0, e1, e2, e3⟩ := rows_eq m c
    beta_reduce
    rw [e0, e1, e2, e3]
    rw [a0, a1, a2, a3] at hd
    rw [a1, a2] at hm
    rw [a1, a3] at hv
    exact ⟨hd.trans rfl, hm.trans rfl, hv.trans rfl, h⟩

end Cert.AdamClaim

end
-- ==== Proof.AdamS5WGluClaim.lean ====
/-
  AdamW for one device's block of `s5_w_glu`, 4 by 128 by 1024:
  seen as 512 rows of 1024 lanes, of which a grid point holds 256. Each new element depends on the elements at
  the same place alone.
-/
module

public import proofs.«01_k».proof.Proof.AdamStep
public import proofs.«01_k».proof.Proof.Gen.AdamS5WGluIdeal.Value
public import proofs.«01_k».proof.Proof.Gen.AdamS5WGluRefIdeal.Run
public import proofs.«01_k».proof.Proof.Gen.AdamS5WGlu.Frame

@[expose] public section

set_option maxRecDepth 16384

noncomputable section

namespace Cert.AdamS5WGluClaim

open Idealize.ShloMosaic Idealize.ShloMosaic.TcCoe Idealize.SL.Sem Cert.AdamStep

theorem frame_kernel : Cert.quiescent_AdamS5WGlu := fun m ρ _ => Cert.AdamS5WGlu.Gen.frame m ρ

theorem frame_ideal : Cert.quiescent_AdamS5WGluIdeal := fun m ρ _ => Cert.AdamS5WGluIdeal.Gen.frame m ρ

theorem frame_reference : Cert.quiescent_AdamS5WGluRefIdeal := fun m ρ _ =>
  (θ_run Cert.AdamS5WGluRefIdeal.defs _ _).mono (fun r h => ⟨fun c => (h c).2.2.2, sem_eq_zero_of_no_sems (by decide) r.2⟩)
    (Cert.AdamS5WGluRefIdeal.Value.run m ρ)

section
open Cert.AdamS5WGluIdeal Cert.AdamS5WGluIdeal.Gen Cert.AdamS5WGluIdeal.Value

/-- What a grid point leaves in its three blocks. -/
theorem out_eq (x0 x1 x2 x3 : Vec Ideal S256x1024 .f32) :
    out0_4 x0 x1 x2 x3 = delta x0 x1 x2 x3 ∧ out0_5 x0 x1 x2 x3 = newM x1 x2 ∧ out0_6 x0 x1 x2 x3 = newV x1 x3 := by
  unfold out0_4 out0_5 out0_6
  rw [View.canon_unit_zero hz, View.canon_unit_zero hz, View.canon_unit_zero hz]
  simp only [View.ld_unit_zero (S := S256x1024) hz]
  unfold k0_pay4 k0_pay3 k0_pay2 k0_pay1
  simp only [shapeCast_self]
  exact ⟨rfl, rfl, rfl⟩

variable (m : (ℓ : Loc nD τ sig) → Buf (Elt Ideal) ℓ) (c : Dev nD)

/-- The weight, the gradient and the moments, as rows. -/
abbrev wt : Vec Ideal S512x1024 .f32 := V m c main_v0
abbrev gr : Vec Ideal S512x1024 .f32 := V m c main_v1
abbrev m1 : Vec Ideal S512x1024 .f32 := V m c main_v2
abbrev m2 : Vec Ideal S512x1024 .f32 := V m c main_v3

/-- Point `t` holds the `t`-th block of 256 rows. -/
theorem idx : ∀ t : Fin cfg0.N, win0_4.index t 0 = t.val ∧ win0_4.index t 1 = 0 :=
  (by decide +kernel : ∀ t : Fin grid0.N, win0_4.index t 0 = t.val ∧ win0_4.index t 1 = 0)

/-- Every element lies in some point's block. -/
theorem cover (i : S512x1024.Idx) : ∃ (t : Fin cfg0.N) (y : S256x1024.Idx), i = ((cfg0.win 4).blk t).view.emb y := by
  obtain ⟨a, b, rfl⟩ : ∃ (a : Fin 512) (b : Fin 1024), i = (ix2 a b : S512x1024.Idx) := ⟨i 0, i 1, eq_ix2 i⟩
  obtain ⟨ht, hr, e⟩ := row_split (R := 512) (T := 256) (N := cfg0.N) (by decide) (by decide) a
  obtain ⟨e0, e1⟩ := idx ⟨_, ht⟩
  refine ⟨⟨_, ht⟩, ix2 (⟨_, hr⟩ : Fin 256) b, funext fun d => Fin.ext ?_⟩
  match d with
  | ⟨0, _⟩ => show a.val = win0_4.index ⟨_, ht⟩ 0 * 256 + 1 * (a.val % 256); rw [e0]; exact e.symm
  | ⟨1, _⟩ => show b.val = win0_4.index ⟨_, ht⟩ 1 * 1024 + 1 * b.val; rw [e1]; omega

/-- The arrays that the call leaves. -/
theorem final_eq : (dats m 0 c).arrAt 4 cfg0.N = delta (wt m c) (gr m c) (m1 m c) (m2 m c)
    ∧ (dats m 0 c).arrAt 5 cfg0.N = newM (gr m c) (m1 m c) ∧ (dats m 0 c).arrAt 6 cfg0.N = newV (gr m c) (m2 m c) := by
  refine ⟨(dats m 0 c).arrAt_eq_of_cover 4 _ (fun t _ => ?_) (fun i => ?_), (dats m 0 c).arrAt_eq_of_cover 5 _ (fun t _ => ?_) (fun i => ?_),
    (dats m 0 c).arrAt_eq_of_cover 6 _ (fun t _ => ?_) (fun i => ?_)⟩
  · rw [flushed4, (out_eq _ _ _ _).1]
    exact funext fun y => delta_at rfl rfl rfl rfl
  · obtain ⟨t, y, rfl⟩ := cover i
    exact ⟨t, flush0_4 _, View.emb_mem_set _ _⟩
  · rw [flushed5, (out_eq _ _ _ _).2.1]
    exact funext fun y => newM_at rfl rfl
  · obtain ⟨t, y, rfl⟩ := cover i
    exact ⟨t, flush0_5 _, View.emb_mem_set _ _⟩
  · rw [flushed6, (out_eq _ _ _ _).2.2]
    exact funext fun y => newV_at rfl rfl
  · obtain ⟨t, y, rfl⟩ := cover i
    exact ⟨t, flush0_6 _, View.emb_mem_set _ _⟩

/-- The arrays are the arguments, laid out as rows. -/
theorem rows_eq : wt m c = shapeCast _ (m ((c : Thread nD τ).loc main_arg0)) shapeCasts_S4x128x1024_S512x1024
    ∧ gr m c = shapeCast _ (m ((c : Thread nD τ).loc main_arg1)) shapeCasts_S4x128x1024_S512x1024
    ∧ m1 m c = shapeCast _ (m ((c : Thread nD τ).loc main_arg2)) shapeCasts_S4x128x1024_S512x1024
    ∧ m2 m c = shapeCast _ (m ((c : Thread nD τ).loc main_arg3)) shapeCasts_S4x128x1024_S512x1024 := by
  refine ⟨?_, ?_, ?_, ?_⟩ <;>
  · show StableHlo.after hostOps0 _ _ = _
    simp only [hostOps0]
    after_results_simp <;> rfl

end

theorem algebraic : Cert.algebraic_AdamS5WGluIdeal_AdamS5WGluRefIdeal := by
  intro m g m' g' _ hagree
  refine ⟨fun c => delta (wt m c) (gr m c) (m1 m c) (m2 m c), fun c => newM (gr m c) (m1 m c), fun c => newV (gr m c) (m2 m c), ?_, ?_⟩
  · refine (θ_run Cert.AdamS5WGluIdeal.defs _ _).mono (fun r h c => ?_) (Cert.AdamS5WGluIdeal.Value.run_blocks m g)
    obtain ⟨hd, hm, hv, h⟩ := h c
    obtain ⟨fd, fm, fv⟩ := final_eq m c
    exact ⟨hd.trans fd, hm.trans fm, hv.trans fv, h⟩
  · refine (θ_run Cert.AdamS5WGluRefIdeal.defs _ _).mono (fun r h c => ?_) (Cert.AdamS5WGluRefIdeal.Value.run m' g')
    obtain ⟨hd, hm, hv, h⟩ := h c
    obtain ⟨a0, a1, a2, a3⟩ := hagree c
    obtain ⟨e0, e1, e2, e3⟩ := rows_eq m c
    beta_reduce
    rw [e0, e1, e2, e3]
    rw [a0, a1, a2, a3] at hd
    rw [a1, a2] at hm
    rw [a1, a3] at hv
    exact ⟨hd.trans rfl, hm.trans rfl, hv.trans rfl, h⟩

end Cert.AdamS5WGluClaim

end
-- ==== Proof.AdamXaWkClaim.lean ====
/-
  AdamW for one device's block of `xa_wk`, 4 by 128 by 1024:
  seen as 512 rows of 1024 lanes, of which a grid point holds 256. Each new element depends on the elements at
  the same place alone.
-/
module

public import proofs.«01_k».proof.Proof.AdamStep
public import proofs.«01_k».proof.Proof.Gen.AdamXaWkIdeal.Value
public import proofs.«01_k».proof.Proof.Gen.AdamXaWkRefIdeal.Run
public import proofs.«01_k».proof.Proof.Gen.AdamXaWk.Frame

@[expose] public section

set_option maxRecDepth 16384

noncomputable section

namespace Cert.AdamXaWkClaim

open Idealize.ShloMosaic Idealize.ShloMosaic.TcCoe Idealize.SL.Sem Cert.AdamStep

theorem frame_kernel : Cert.quiescent_AdamXaWk := fun m ρ _ => Cert.AdamXaWk.Gen.frame m ρ

theorem frame_ideal : Cert.quiescent_AdamXaWkIdeal := fun m ρ _ => Cert.AdamXaWkIdeal.Gen.frame m ρ

theorem frame_reference : Cert.quiescent_AdamXaWkRefIdeal := fun m ρ _ =>
  (θ_run Cert.AdamXaWkRefIdeal.defs _ _).mono (fun r h => ⟨fun c => (h c).2.2.2, sem_eq_zero_of_no_sems (by decide) r.2⟩)
    (Cert.AdamXaWkRefIdeal.Value.run m ρ)

section
open Cert.AdamXaWkIdeal Cert.AdamXaWkIdeal.Gen Cert.AdamXaWkIdeal.Value

/-- What a grid point leaves in its three blocks. -/
theorem out_eq (x0 x1 x2 x3 : Vec Ideal S256x1024 .f32) :
    out0_4 x0 x1 x2 x3 = delta x0 x1 x2 x3 ∧ out0_5 x0 x1 x2 x3 = newM x1 x2 ∧ out0_6 x0 x1 x2 x3 = newV x1 x3 := by
  unfold out0_4 out0_5 out0_6
  rw [View.canon_unit_zero hz, View.canon_unit_zero hz, View.canon_unit_zero hz]
  simp only [View.ld_unit_zero (S := S256x1024) hz]
  unfold k0_pay4 k0_pay3 k0_pay2 k0_pay1
  simp only [shapeCast_self]
  exact ⟨rfl, rfl, rfl⟩

variable (m : (ℓ : Loc nD τ sig) → Buf (Elt Ideal) ℓ) (c : Dev nD)

/-- The weight, the gradient and the moments, as rows. -/
abbrev wt : Vec Ideal S512x1024 .f32 := V m c main_v0
abbrev gr : Vec Ideal S512x1024 .f32 := V m c main_v1
abbrev m1 : Vec Ideal S512x1024 .f32 := V m c main_v2
abbrev m2 : Vec Ideal S512x1024 .f32 := V m c main_v3

/-- Point `t` holds the `t`-th block of 256 rows. -/
theorem idx : ∀ t : Fin cfg0.N, win0_4.index t 0 = t.val ∧ win0_4.index t 1 = 0 :=
  (by decide +kernel : ∀ t : Fin grid0.N, win0_4.index t 0 = t.val ∧ win0_4.index t 1 = 0)

/-- Every element lies in some point's block. -/
theorem cover (i : S512x1024.Idx) : ∃ (t : Fin cfg0.N) (y : S256x1024.Idx), i = ((cfg0.win 4).blk t).view.emb y := by
  obtain ⟨a, b, rfl⟩ : ∃ (a : Fin 512) (b : Fin 1024), i = (ix2 a b : S512x1024.Idx) := ⟨i 0, i 1, eq_ix2 i⟩
  obtain ⟨ht, hr, e⟩ := row_split (R := 512) (T := 256) (N := cfg0.N) (by decide) (by decide) a
  obtain ⟨e0, e1⟩ := idx ⟨_, ht⟩
  refine ⟨⟨_, ht⟩, ix2 (⟨_, hr⟩ : Fin 256) b, funext fun d => Fin.ext ?_⟩
  match d with
  | ⟨0, _⟩ => show a.val = win0_4.index ⟨_, ht⟩ 0 * 256 + 1 * (a.val % 256); rw [e0]; exact e.symm
  | ⟨1, _⟩ => show b.val = win0_4.index ⟨_, ht⟩ 1 * 1024 + 1 * b.val; rw [e1]; omega

/-- The arrays that the call leaves. -/
theorem final_eq : (dats m 0 c).arrAt 4 cfg0.N = delta (wt m c) (gr m c) (m1 m c) (m2 m c)
    ∧ (dats m 0 c).arrAt 5 cfg0.N = newM (gr m c) (m1 m c) ∧ (dats m 0 c).arrAt 6 cfg0.N = newV (gr m c) (m2 m c) := by
  refine ⟨(dats m 0 c).arrAt_eq_of_cover 4 _ (fun t _ => ?_) (fun i => ?_), (dats m 0 c).arrAt_eq_of_cover 5 _ (fun t _ => ?_) (fun i => ?_),
    (dats m 0 c).arrAt_eq_of_cover 6 _ (fun t _ => ?_) (fun i => ?_)⟩
  · rw [flushed4, (out_eq _ _ _ _).1]
    exact funext fun y => delta_at rfl rfl rfl rfl
  · obtain ⟨t, y, rfl⟩ := cover i
    exact ⟨t, flush0_4 _, View.emb_mem_set _ _⟩
  · rw [flushed5, (out_eq _ _ _ _).2.1]
    exact funext fun y => newM_at rfl rfl
  · obtain ⟨t, y, rfl⟩ := cover i
    exact ⟨t, flush0_5 _, View.emb_mem_set _ _⟩
  · rw [flushed6, (out_eq _ _ _ _).2.2]
    exact funext fun y => newV_at rfl rfl
  · obtain ⟨t, y, rfl⟩ := cover i
    exact ⟨t, flush0_6 _, View.emb_mem_set _ _⟩

/-- The arrays are the arguments, laid out as rows. -/
theorem rows_eq : wt m c = shapeCast _ (m ((c : Thread nD τ).loc main_arg0)) shapeCasts_S4x128x1024_S512x1024
    ∧ gr m c = shapeCast _ (m ((c : Thread nD τ).loc main_arg1)) shapeCasts_S4x128x1024_S512x1024
    ∧ m1 m c = shapeCast _ (m ((c : Thread nD τ).loc main_arg2)) shapeCasts_S4x128x1024_S512x1024
    ∧ m2 m c = shapeCast _ (m ((c : Thread nD τ).loc main_arg3)) shapeCasts_S4x128x1024_S512x1024 := by
  refine ⟨?_, ?_, ?_, ?_⟩ <;>
  · show StableHlo.after hostOps0 _ _ = _
    simp only [hostOps0]
    after_results_simp <;> rfl

end

theorem algebraic : Cert.algebraic_AdamXaWkIdeal_AdamXaWkRefIdeal := by
  intro m g m' g' _ hagree
  refine ⟨fun c => delta (wt m c) (gr m c) (m1 m c) (m2 m c), fun c => newM (gr m c) (m1 m c), fun c => newV (gr m c) (m2 m c), ?_, ?_⟩
  · refine (θ_run Cert.AdamXaWkIdeal.defs _ _).mono (fun r h c => ?_) (Cert.AdamXaWkIdeal.Value.run_blocks m g)
    obtain ⟨hd, hm, hv, h⟩ := h c
    obtain ⟨fd, fm, fv⟩ := final_eq m c
    exact ⟨hd.trans fd, hm.trans fm, hv.trans fv, h⟩
  · refine (θ_run Cert.AdamXaWkRefIdeal.defs _ _).mono (fun r h c => ?_) (Cert.AdamXaWkRefIdeal.Value.run m' g')
    obtain ⟨hd, hm, hv, h⟩ := h c
    obtain ⟨a0, a1, a2, a3⟩ := hagree c
    obtain ⟨e0, e1, e2, e3⟩ := rows_eq m c
    beta_reduce
    rw [e0, e1, e2, e3]
    rw [a0, a1, a2, a3] at hd
    rw [a1, a2] at hm
    rw [a1, a3] at hv
    exact ⟨hd.trans rfl, hm.trans rfl, hv.trans rfl, h⟩

end Cert.AdamXaWkClaim

end
-- ==== Proof.AdamXaWvClaim.lean ====
/-
  AdamW for one device's block of `xa_wv`, 4 by 128 by 1024:
  seen as 512 rows of 1024 lanes, of which a grid point holds 256. Each new element depends on the elements at
  the same place alone.
-/
module

public import proofs.«01_k».proof.Proof.AdamStep
public import proofs.«01_k».proof.Proof.Gen.AdamXaWvIdeal.Value
public import proofs.«01_k».proof.Proof.Gen.AdamXaWvRefIdeal.Run
public import proofs.«01_k».proof.Proof.Gen.AdamXaWv.Frame

@[expose] public section

set_option maxRecDepth 16384

noncomputable section

namespace Cert.AdamXaWvClaim

open Idealize.ShloMosaic Idealize.ShloMosaic.TcCoe Idealize.SL.Sem Cert.AdamStep

theorem frame_kernel : Cert.quiescent_AdamXaWv := fun m ρ _ => Cert.AdamXaWv.Gen.frame m ρ

theorem frame_ideal : Cert.quiescent_AdamXaWvIdeal := fun m ρ _ => Cert.AdamXaWvIdeal.Gen.frame m ρ

theorem frame_reference : Cert.quiescent_AdamXaWvRefIdeal := fun m ρ _ =>
  (θ_run Cert.AdamXaWvRefIdeal.defs _ _).mono (fun r h => ⟨fun c => (h c).2.2.2, sem_eq_zero_of_no_sems (by decide) r.2⟩)
    (Cert.AdamXaWvRefIdeal.Value.run m ρ)

section
open Cert.AdamXaWvIdeal Cert.AdamXaWvIdeal.Gen Cert.AdamXaWvIdeal.Value

/-- What a grid point leaves in its three blocks. -/
theorem out_eq (x0 x1 x2 x3 : Vec Ideal S256x1024 .f32) :
    out0_4 x0 x1 x2 x3 = delta x0 x1 x2 x3 ∧ out0_5 x0 x1 x2 x3 = newM x1 x2 ∧ out0_6 x0 x1 x2 x3 = newV x1 x3 := by
  unfold out0_4 out0_5 out0_6
  rw [View.canon_unit_zero hz, View.canon_unit_zero hz, View.canon_unit_zero hz]
  simp only [View.ld_unit_zero (S := S256x1024) hz]
  unfold k0_pay4 k0_pay3 k0_pay2 k0_pay1
  simp only [shapeCast_self]
  exact ⟨rfl, rfl, rfl⟩

variable (m : (ℓ : Loc nD τ sig) → Buf (Elt Ideal) ℓ) (c : Dev nD)

/-- The weight, the gradient and the moments, as rows. -/
abbrev wt : Vec Ideal S512x1024 .f32 := V m c main_v0
abbrev gr : Vec Ideal S512x1024 .f32 := V m c main_v1
abbrev m1 : Vec Ideal S512x1024 .f32 := V m c main_v2
abbrev m2 : Vec Ideal S512x1024 .f32 := V m c main_v3

/-- Point `t` holds the `t`-th block of 256 rows. -/
theorem idx : ∀ t : Fin cfg0.N, win0_4.index t 0 = t.val ∧ win0_4.index t 1 = 0 :=
  (by decide +kernel : ∀ t : Fin grid0.N, win0_4.index t 0 = t.val ∧ win0_4.index t 1 = 0)

/-- Every element lies in some point's block. -/
theorem cover (i : S512x1024.Idx) : ∃ (t : Fin cfg0.N) (y : S256x1024.Idx), i = ((cfg0.win 4).blk t).view.emb y := by
  obtain ⟨a, b, rfl⟩ : ∃ (a : Fin 512) (b : Fin 1024), i = (ix2 a b : S512x1024.Idx) := ⟨i 0, i 1, eq_ix2 i⟩
  obtain ⟨ht, hr, e⟩ := row_split (R := 512) (T := 256) (N := cfg0.N) (by decide) (by decide) a
  obtain ⟨e0, e1⟩ := idx ⟨_, ht⟩
  refine ⟨⟨_, ht⟩, ix2 (⟨_, hr⟩ : Fin 256) b, funext fun d => Fin.ext ?_⟩
  match d with
  | ⟨0, _⟩ => show a.val = win0_4.index ⟨_, ht⟩ 0 * 256 + 1 * (a.val % 256); rw [e0]; exact e.symm
  | ⟨1, _⟩ => show b.val = win0_4.index ⟨_, ht⟩ 1 * 1024 + 1 * b.val; rw [e1]; omega

/-- The arrays that the call leaves. -/
theorem final_eq : (dats m 0 c).arrAt 4 cfg0.N = delta (wt m c) (gr m c) (m1 m c) (m2 m c)
    ∧ (dats m 0 c).arrAt 5 cfg0.N = newM (gr m c) (m1 m c) ∧ (dats m 0 c).arrAt 6 cfg0.N = newV (gr m c) (m2 m c) := by
  refine ⟨(dats m 0 c).arrAt_eq_of_cover 4 _ (fun t _ => ?_) (fun i => ?_), (dats m 0 c).arrAt_eq_of_cover 5 _ (fun t _ => ?_) (fun i => ?_),
    (dats m 0 c).arrAt_eq_of_cover 6 _ (fun t _ => ?_) (fun i => ?_)⟩
  · rw [flushed4, (out_eq _ _ _ _).1]
    exact funext fun y => delta_at rfl rfl rfl rfl
  · obtain ⟨t, y, rfl⟩ := cover i
    exact ⟨t, flush0_4 _, View.emb_mem_set _ _⟩
  · rw [flushed5, (out_eq _ _ _ _).2.1]
    exact funext fun y => newM_at rfl rfl
  · obtain ⟨t, y, rfl⟩ := cover i
    exact ⟨t, flush0_5 _, View.emb_mem_set _ _⟩
  · rw [flushed6, (out_eq _ _ _ _).2.2]
    exact funext fun y => newV_at rfl rfl
  · obtain ⟨t, y, rfl⟩ := cover i
    exact ⟨t, flush0_6 _, View.emb_mem_set _ _⟩

/-- The arrays are the arguments, laid out as rows. -/
theorem rows_eq : wt m c = shapeCast _ (m ((c : Thread nD τ).loc main_arg0)) shapeCasts_S4x128x1024_S512x1024
    ∧ gr m c = shapeCast _ (m ((c : Thread nD τ).loc main_arg1)) shapeCasts_S4x128x1024_S512x1024
    ∧ m1 m c = shapeCast _ (m ((c : Thread nD τ).loc main_arg2)) shapeCasts_S4x128x1024_S512x1024
    ∧ m2 m c = shapeCast _ (m ((c : Thread nD τ).loc main_arg3)) shapeCasts_S4x128x1024_S512x1024 := by
  refine ⟨?_, ?_, ?_, ?_⟩ <;>
  · show StableHlo.after hostOps0 _ _ = _
    simp only [hostOps0]
    after_results_simp <;> rfl

end

theorem algebraic : Cert.algebraic_AdamXaWvIdeal_AdamXaWvRefIdeal := by
  intro m g m' g' _ hagree
  refine ⟨fun c => delta (wt m c) (gr m c) (m1 m c) (m2 m c), fun c => newM (gr m c) (m1 m c), fun c => newV (gr m c) (m2 m c), ?_, ?_⟩
  · refine (θ_run Cert.AdamXaWvIdeal.defs _ _).mono (fun r h c => ?_) (Cert.AdamXaWvIdeal.Value.run_blocks m g)
    obtain ⟨hd, hm, hv, h⟩ := h c
    obtain ⟨fd, fm, fv⟩ := final_eq m c
    exact ⟨hd.trans fd, hm.trans fm, hv.trans fv, h⟩
  · refine (θ_run Cert.AdamXaWvRefIdeal.defs _ _).mono (fun r h c => ?_) (Cert.AdamXaWvRefIdeal.Value.run m' g')
    obtain ⟨hd, hm, hv, h⟩ := h c
    obtain ⟨a0, a1, a2, a3⟩ := hagree c
    obtain ⟨e0, e1, e2, e3⟩ := rows_eq m c
    beta_reduce
    rw [e0, e1, e2, e3]
    rw [a0, a1, a2, a3] at hd
    rw [a1, a2] at hm
    rw [a1, a3] at hv
    exact ⟨hd.trans rfl, hm.trans rfl, hv.trans rfl, h⟩

end Cert.AdamXaWvClaim

end
-- ==== Proof.AdamXaWoClaim.lean ====
/-
  AdamW for one device's block of `xa_wo`, 4 by 128 by 1024:
  seen as 512 rows of 1024 lanes, of which a grid point holds 256. Each new element depends on the elements at
  the same place alone.
-/
module

public import proofs.«01_k».proof.Proof.AdamStep
public import proofs.«01_k».proof.Proof.Gen.AdamXaWoIdeal.Value
public import proofs.«01_k».proof.Proof.Gen.AdamXaWoRefIdeal.Run
public import proofs.«01_k».proof.Proof.Gen.AdamXaWo.Frame

@[expose] public section

set_option maxRecDepth 16384

noncomputable section

namespace Cert.AdamXaWoClaim

open Idealize.ShloMosaic Idealize.ShloMosaic.TcCoe Idealize.SL.Sem Cert.AdamStep

theorem frame_kernel : Cert.quiescent_AdamXaWo := fun m ρ _ => Cert.AdamXaWo.Gen.frame m ρ

theorem frame_ideal : Cert.quiescent_AdamXaWoIdeal := fun m ρ _ => Cert.AdamXaWoIdeal.Gen.frame m ρ

theorem frame_reference : Cert.quiescent_AdamXaWoRefIdeal := fun m ρ _ =>
  (θ_run Cert.AdamXaWoRefIdeal.defs _ _).mono (fun r h => ⟨fun c => (h c).2.2.2, sem_eq_zero_of_no_sems (by decide) r.2⟩)
    (Cert.AdamXaWoRefIdeal.Value.run m ρ)

section
open Cert.AdamXaWoIdeal Cert.AdamXaWoIdeal.Gen Cert.AdamXaWoIdeal.Value

/-- What a grid point leaves in its three blocks. -/
theorem out_eq (x0 x1 x2 x3 : Vec Ideal S256x1024 .f32) :
    out0_4 x0 x1 x2 x3 = delta x0 x1 x2 x3 ∧ out0_5 x0 x1 x2 x3 = newM x1 x2 ∧ out0_6 x0 x1 x2 x3 = newV x1 x3 := by
  unfold out0_4 out0_5 out0_6
  rw [View.canon_unit_zero hz, View.canon_unit_zero hz, View.canon_unit_zero hz]
  simp only [View.ld_unit_zero (S := S256x1024) hz]
  unfold k0_pay4 k0_pay3 k0_pay2 k0_pay1
  simp only [shapeCast_self]
  exact ⟨rfl, rfl, rfl⟩

variable (m : (ℓ : Loc nD τ sig) → Buf (Elt Ideal) ℓ) (c : Dev nD)

/-- The weight, the gradient and the moments, as rows. -/
abbrev wt : Vec Ideal S512x1024 .f32 := V m c main_v0
abbrev gr : Vec Ideal S512x1024 .f32 := V m c main_v1
abbrev m1 : Vec Ideal S512x1024 .f32 := V m c main_v2
abbrev m2 : Vec Ideal S512x1024 .f32 := V m c main_v3

/-- Point `t` holds the `t`-th block of 256 rows. -/
theorem idx : ∀ t : Fin cfg0.N, win0_4.index t 0 = t.val ∧ win0_4.index t 1 = 0 :=
  (by decide +kernel : ∀ t : Fin grid0.N, win0_4.index t 0 = t.val ∧ win0_4.index t 1 = 0)

/-- Every element lies in some point's block. -/
theorem cover (i : S512x1024.Idx) : ∃ (t : Fin cfg0.N) (y : S256x1024.Idx), i = ((cfg0.win 4).blk t).view.emb y := by
  obtain ⟨a, b, rfl⟩ : ∃ (a : Fin 512) (b : Fin 1024), i = (ix2 a b : S512x1024.Idx) := ⟨i 0, i 1, eq_ix2 i⟩
  obtain ⟨ht, hr, e⟩ := row_split (R := 512) (T := 256) (N := cfg0.N) (by decide) (by decide) a
  obtain ⟨e0, e1⟩ := idx ⟨_, ht⟩
  refine ⟨⟨_, ht⟩, ix2 (⟨_, hr⟩ : Fin 256) b, funext fun d => Fin.ext ?_⟩
  match d with
  | ⟨0, _⟩ => show a.val = win0_4.index ⟨_, ht⟩ 0 * 256 + 1 * (a.val % 256); rw [e0]; exact e.symm
  | ⟨1, _⟩ => show b.val = win0_4.index ⟨_, ht⟩ 1 * 1024 + 1 * b.val; rw [e1]; omega

/-- The arrays that the call leaves. -/
theorem final_eq : (dats m 0 c).arrAt 4 cfg0.N = delta (wt m c) (gr m c) (m1 m c) (m2 m c)
    ∧ (dats m 0 c).arrAt 5 cfg0.N = newM (gr m c) (m1 m c) ∧ (dats m 0 c).arrAt 6 cfg0.N = newV (gr m c) (m2 m c) := by
  refine ⟨(dats m 0 c).arrAt_eq_of_cover 4 _ (fun t _ => ?_) (fun i => ?_), (dats m 0 c).arrAt_eq_of_cover 5 _ (fun t _ => ?_) (fun i => ?_),
    (dats m 0 c).arrAt_eq_of_cover 6 _ (fun t _ => ?_) (fun i => ?_)⟩
  · rw [flushed4, (out_eq _ _ _ _).1]
    exact funext fun y => delta_at rfl rfl rfl rfl
  · obtain ⟨t, y, rfl⟩ := cover i
    exact ⟨t, flush0_4 _, View.emb_mem_set _ _⟩
  · rw [flushed5, (out_eq _ _ _ _).2.1]
    exact funext fun y => newM_at rfl rfl
  · obtain ⟨t, y, rfl⟩ := cover i
    exact ⟨t, flush0_5 _, View.emb_mem_set _ _⟩
  · rw [flushed6, (out_eq _ _ _ _).2.2]
    exact funext fun y => newV_at rfl rfl
  · obtain ⟨t, y, rfl⟩ := cover i
    exact ⟨t, flush0_6 _, View.emb_mem_set _ _⟩

/-- The arrays are the arguments, laid out as rows. -/
theorem rows_eq : wt m c = shapeCast _ (m ((c : Thread nD τ).loc main_arg0)) shapeCasts_S4x128x1024_S512x1024
    ∧ gr m c = shapeCast _ (m ((c : Thread nD τ).loc main_arg1)) shapeCasts_S4x128x1024_S512x1024
    ∧ m1 m c = shapeCast _ (m ((c : Thread nD τ).loc main_arg2)) shapeCasts_S4x128x1024_S512x1024
    ∧ m2 m c = shapeCast _ (m ((c : Thread nD τ).loc main_arg3)) shapeCasts_S4x128x1024_S512x1024 := by
  refine ⟨?_, ?_, ?_, ?_⟩ <;>
  · show StableHlo.after hostOps0 _ _ = _
    simp only [hostOps0]
    after_results_simp <;> rfl

end

theorem algebraic : Cert.algebraic_AdamXaWoIdeal_AdamXaWoRefIdeal := by
  intro m g m' g' _ hagree
  refine ⟨fun c => delta (wt m c) (gr m c) (m1 m c) (m2 m c), fun c => newM (gr m c) (m1 m c), fun c => newV (gr m c) (m2 m c), ?_, ?_⟩
  · refine (θ_run Cert.AdamXaWoIdeal.defs _ _).mono (fun r h c => ?_) (Cert.AdamXaWoIdeal.Value.run_blocks m g)
    obtain ⟨hd, hm, hv, h⟩ := h c
    obtain ⟨fd, fm, fv⟩ := final_eq m c
    exact ⟨hd.trans fd, hm.trans fm, hv.trans fv, h⟩
  · refine (θ_run Cert.AdamXaWoRefIdeal.defs _ _).mono (fun r h c => ?_) (Cert.AdamXaWoRefIdeal.Value.run m' g')
    obtain ⟨hd, hm, hv, h⟩ := h c
    obtain ⟨a0, a1, a2, a3⟩ := hagree c
    obtain ⟨e0, e1, e2, e3⟩ := rows_eq m c
    beta_reduce
    rw [e0, e1, e2, e3]
    rw [a0, a1, a2, a3] at hd
    rw [a1, a2] at hm
    rw [a1, a3] at hv
    exact ⟨hd.trans rfl, hm.trans rfl, hv.trans rfl, h⟩

end Cert.AdamXaWoClaim

end
-- ==== Proof.AdamWInClaim.lean ====
/-
  AdamW for one device's block of `w_in`, 4 by 1024 by 514:
  seen as 4096 rows of 514 lanes, of which a grid point holds 256. Each new element depends on the elements at
  the same place alone.
-/
module

public import proofs.«01_k».proof.Proof.AdamStep
public import proofs.«01_k».proof.Proof.Gen.AdamWInIdeal.Value
public import proofs.«01_k».proof.Proof.Gen.AdamWInRefIdeal.Run
public import proofs.«01_k».proof.Proof.Gen.AdamWIn.Frame

@[expose] public section

set_option maxRecDepth 16384

noncomputable section

namespace Cert.AdamWInClaim

open Idealize.ShloMosaic Idealize.ShloMosaic.TcCoe Idealize.SL.Sem Cert.AdamStep

theorem frame_kernel : Cert.quiescent_AdamWIn := fun m ρ _ => Cert.AdamWIn.Gen.frame m ρ

theorem frame_ideal : Cert.quiescent_AdamWInIdeal := fun m ρ _ => Cert.AdamWInIdeal.Gen.frame m ρ

theorem frame_reference : Cert.quiescent_AdamWInRefIdeal := fun m ρ _ =>
  (θ_run Cert.AdamWInRefIdeal.defs _ _).mono (fun r h => ⟨fun c => (h c).2.2.2, sem_eq_zero_of_no_sems (by decide) r.2⟩)
    (Cert.AdamWInRefIdeal.Value.run m ρ)

section
open Cert.AdamWInIdeal Cert.AdamWInIdeal.Gen Cert.AdamWInIdeal.Value

/-- What a grid point leaves in its three blocks. -/
theorem out_eq (x0 x1 x2 x3 : Vec Ideal S256x514 .f32) :
    out0_4 x0 x1 x2 x3 = delta x0 x1 x2 x3 ∧ out0_5 x0 x1 x2 x3 = newM x1 x2 ∧ out0_6 x0 x1 x2 x3 = newV x1 x3 := by
  unfold out0_4 out0_5 out0_6
  rw [View.canon_unit_zero hz, View.canon_unit_zero hz, View.canon_unit_zero hz]
  simp only [View.ld_unit_zero (S := S256x514) hz]
  unfold k0_pay4 k0_pay3 k0_pay2 k0_pay1
  simp only [shapeCast_self]
  exact ⟨rfl, rfl, rfl⟩

variable (m : (ℓ : Loc nD τ sig) → Buf (Elt Ideal) ℓ) (c : Dev nD)

/-- The weight, the gradient and the moments, as rows. -/
abbrev wt : Vec Ideal S4096x514 .f32 := V m c main_v0
abbrev gr : Vec Ideal S4096x514 .f32 := V m c main_v1
abbrev m1 : Vec Ideal S4096x514 .f32 := V m c main_v2
abbrev m2 : Vec Ideal S4096x514 .f32 := V m c main_v3

/-- Point `t` holds the `t`-th block of 256 rows. -/
theorem idx : ∀ t : Fin cfg0.N, win0_4.index t 0 = t.val ∧ win0_4.index t 1 = 0 :=
  (by decide +kernel : ∀ t : Fin grid0.N, win0_4.index t 0 = t.val ∧ win0_4.index t 1 = 0)

/-- Every element lies in some point's block. -/
theorem cover (i : S4096x514.Idx) : ∃ (t : Fin cfg0.N) (y : S256x514.Idx), i = ((cfg0.win 4).blk t).view.emb y := by
  obtain ⟨a, b, rfl⟩ : ∃ (a : Fin 4096) (b : Fin 514), i = (ix2 a b : S4096x514.Idx) := ⟨i 0, i 1, eq_ix2 i⟩
  obtain ⟨ht, hr, e⟩ := row_split (R := 4096) (T := 256) (N := cfg0.N) (by decide) (by decide) a
  obtain ⟨e0, e1⟩ := idx ⟨_, ht⟩
  refine ⟨⟨_, ht⟩, ix2 (⟨_, hr⟩ : Fin 256) b, funext fun d => Fin.ext ?_⟩
  match d with
  | ⟨0, _⟩ => show a.val = win0_4.index ⟨_, ht⟩ 0 * 256 + 1 * (a.val % 256); rw [e0]; exact e.symm
  | ⟨1, _⟩ => show b.val = win0_4.index ⟨_, ht⟩ 1 * 514 + 1 * b.val; rw [e1]; omega

/-- The arrays that the call leaves. -/
theorem final_eq : (dats m 0 c).arrAt 4 cfg0.N = delta (wt m c) (gr m c) (m1 m c) (m2 m c)
    ∧ (dats m 0 c).arrAt 5 cfg0.N = newM (gr m c) (m1 m c) ∧ (dats m 0 c).arrAt 6 cfg0.N = newV (gr m c) (m2 m c) := by
  refine ⟨(dats m 0 c).arrAt_eq_of_cover 4 _ (fun t _ => ?_) (fun i => ?_), (dats m 0 c).arrAt_eq_of_cover 5 _ (fun t _ => ?_) (fun i => ?_),
    (dats m 0 c).arrAt_eq_of_cover 6 _ (fun t _ => ?_) (fun i => ?_)⟩
  · rw [flushed4, (out_eq _ _ _ _).1]
    exact funext fun y => delta_at rfl rfl rfl rfl
  · obtain ⟨t, y, rfl⟩ := cover i
    exact ⟨t, flush0_4 _, View.emb_mem_set _ _⟩
  · rw [flushed5, (out_eq _ _ _ _).2.1]
    exact funext fun y => newM_at rfl rfl
  · obtain ⟨t, y, rfl⟩ := cover i
    exact ⟨t, flush0_5 _, View.emb_mem_set _ _⟩
  · rw [flushed6, (out_eq _ _ _ _).2.2]
    exact funext fun y => newV_at rfl rfl
  · obtain ⟨t, y, rfl⟩ := cover i
    exact ⟨t, flush0_6 _, View.emb_mem_set _ _⟩

/-- The arrays are the arguments, laid out as rows. -/
theorem rows_eq : wt m c = shapeCast _ (m ((c : Thread nD τ).loc main_arg0)) shapeCasts_S4x1024x514_S4096x514
    ∧ gr m c = shapeCast _ (m ((c : Thread nD τ).loc main_arg1)) shapeCasts_S4x1024x514_S4096x514
    ∧ m1 m c = shapeCast _ (m ((c : Thread nD τ).loc main_arg2)) shapeCasts_S4x1024x514_S4096x514
    ∧ m2 m c = shapeCast _ (m ((c : Thread nD τ).loc main_arg3)) shapeCasts_S4x1024x514_S4096x514 := by
  refine ⟨?_, ?_, ?_, ?_⟩ <;>
  · show StableHlo.after hostOps0 _ _ = _
    simp only [hostOps0]
    after_results_simp <;> rfl

end

theorem algebraic : Cert.algebraic_AdamWInIdeal_AdamWInRefIdeal := by
  intro m g m' g' _ hagree
  refine ⟨fun c => delta (wt m c) (gr m c) (m1 m c) (m2 m c), fun c => newM (gr m c) (m1 m c), fun c => newV (gr m c) (m2 m c), ?_, ?_⟩
  · refine (θ_run Cert.AdamWInIdeal.defs _ _).mono (fun r h c => ?_) (Cert.AdamWInIdeal.Value.run_blocks m g)
    obtain ⟨hd, hm, hv, h⟩ := h c
    obtain ⟨fd, fm, fv⟩ := final_eq m c
    exact ⟨hd.trans fd, hm.trans fm, hv.trans fv, h⟩
  · refine (θ_run Cert.AdamWInRefIdeal.defs _ _).mono (fun r h c => ?_) (Cert.AdamWInRefIdeal.Value.run m' g')
    obtain ⟨hd, hm, hv, h⟩ := h c
    obtain ⟨a0, a1, a2, a3⟩ := hagree c
    obtain ⟨e0, e1, e2, e3⟩ := rows_eq m c
    beta_reduce
    rw [e0, e1, e2, e3]
    rw [a0, a1, a2, a3] at hd
    rw [a1, a2] at hm
    rw [a1, a3] at hv
    exact ⟨hd.trans rfl, hm.trans rfl, hv.trans rfl, h⟩

end Cert.AdamWInClaim

end
-- ==== Proof.AdamSsdConvWClaim.lean ====
/-
  AdamW for one device's block of `ssd_conv_w`, 4 by 4 by 256:
  seen as 16 rows of 256 lanes, which one grid point holds. Each new element depends on the elements at
  the same place alone.
-/
module

public import proofs.«01_k».proof.Proof.AdamStep
public import proofs.«01_k».proof.Proof.Gen.AdamSsdConvWIdeal.Value
public import proofs.«01_k».proof.Proof.Gen.AdamSsdConvWRefIdeal.Run
public import proofs.«01_k».proof.Proof.Gen.AdamSsdConvW.Frame

@[expose] public section

set_option maxRecDepth 16384

noncomputable section

namespace Cert.AdamSsdConvWClaim

open Idealize.ShloMosaic Idealize.ShloMosaic.TcCoe Idealize.SL.Sem Cert.AdamStep

theorem frame_kernel : Cert.quiescent_AdamSsdConvW := fun m ρ _ => Cert.AdamSsdConvW.Gen.frame m ρ

theorem frame_ideal : Cert.quiescent_AdamSsdConvWIdeal := fun m ρ _ => Cert.AdamSsdConvWIdeal.Gen.frame m ρ

theorem frame_reference : Cert.quiescent_AdamSsdConvWRefIdeal := fun m ρ _ =>
  (θ_run Cert.AdamSsdConvWRefIdeal.defs _ _).mono (fun r h => ⟨fun c => (h c).2.2.2, sem_eq_zero_of_no_sems (by decide) r.2⟩)
    (Cert.AdamSsdConvWRefIdeal.Value.run m ρ)

section
open Cert.AdamSsdConvWIdeal Cert.AdamSsdConvWIdeal.Gen Cert.AdamSsdConvWIdeal.Value

/-- What a grid point leaves in its three blocks. -/
theorem out_eq (x0 x1 x2 x3 : Vec Ideal S16x256 .f32) :
    out0_4 x0 x1 x2 x3 = delta x0 x1 x2 x3 ∧ out0_5 x0 x1 x2 x3 = newM x1 x2 ∧ out0_6 x0 x1 x2 x3 = newV x1 x3 := by
  unfold out0_4 out0_5 out0_6
  rw [View.canon_unit_zero hz, View.canon_unit_zero hz, View.canon_unit_zero hz]
  simp only [View.ld_unit_zero (S := S16x256) hz]
  unfold k0_pay4 k0_pay3 k0_pay2 k0_pay1
  simp only [shapeCast_self]
  exact ⟨rfl, rfl, rfl⟩

variable (m : (ℓ : Loc nD τ sig) → Buf (Elt Ideal) ℓ) (c : Dev nD)

/-- The weight, the gradient and the moments, as rows. -/
abbrev wt : Vec Ideal S16x256 .f32 := V m c main_v0
abbrev gr : Vec Ideal S16x256 .f32 := V m c main_v1
abbrev m1 : Vec Ideal S16x256 .f32 := V m c main_v2
abbrev m2 : Vec Ideal S16x256 .f32 := V m c main_v3

/-- Point `t` holds the `t`-th block of 16 rows. -/
theorem idx : ∀ t : Fin cfg0.N, win0_4.index t 0 = t.val ∧ win0_4.index t 1 = 0 :=
  (by decide +kernel : ∀ t : Fin grid0.N, win0_4.index t 0 = t.val ∧ win0_4.index t 1 = 0)

/-- Every element lies in some point's block. -/
theorem cover (i : S16x256.Idx) : ∃ (t : Fin cfg0.N) (y : S16x256.Idx), i = ((cfg0.win 4).blk t).view.emb y := by
  obtain ⟨a, b, rfl⟩ : ∃ (a : Fin 16) (b : Fin 256), i = (ix2 a b : S16x256.Idx) := ⟨i 0, i 1, eq_ix2 i⟩
  obtain ⟨ht, hr, e⟩ := row_split (R := 16) (T := 16) (N := cfg0.N) (by decide) (by decide) a
  obtain ⟨e0, e1⟩ := idx ⟨_, ht⟩
  refine ⟨⟨_, ht⟩, ix2 (⟨_, hr⟩ : Fin 16) b, funext fun d => Fin.ext ?_⟩
  match d with
  | ⟨0, _⟩ => show a.val = win0_4.index ⟨_, ht⟩ 0 * 16 + 1 * (a.val % 16); rw [e0]; exact e.symm
  | ⟨1, _⟩ => show b.val = win0_4.index ⟨_, ht⟩ 1 * 256 + 1 * b.val; rw [e1]; omega

/-- The arrays that the call leaves. -/
theorem final_eq : (dats m 0 c).arrAt 4 cfg0.N = delta (wt m c) (gr m c) (m1 m c) (m2 m c)
    ∧ (dats m 0 c).arrAt 5 cfg0.N = newM (gr m c) (m1 m c) ∧ (dats m 0 c).arrAt 6 cfg0.N = newV (gr m c) (m2 m c) := by
  refine ⟨(dats m 0 c).arrAt_eq_of_cover 4 _ (fun t _ => ?_) (fun i => ?_), (dats m 0 c).arrAt_eq_of_cover 5 _ (fun t _ => ?_) (fun i => ?_),
    (dats m 0 c).arrAt_eq_of_cover 6 _ (fun t _ => ?_) (fun i => ?_)⟩
  · rw [flushed4, (out_eq _ _ _ _).1]
    exact funext fun y => delta_at rfl rfl rfl rfl
  · obtain ⟨t, y, rfl⟩ := cover i
    exact ⟨t, flush0_4 _, View.emb_mem_set _ _⟩
  · rw [flushed5, (out_eq _ _ _ _).2.1]
    exact funext fun y => newM_at rfl rfl
  · obtain ⟨t, y, rfl⟩ := cover i
    exact ⟨t, flush0_5 _, View.emb_mem_set _ _⟩
  · rw [flushed6, (out_eq _ _ _ _).2.2]
    exact funext fun y => newV_at rfl rfl
  · obtain ⟨t, y, rfl⟩ := cover i
    exact ⟨t, flush0_6 _, View.emb_mem_set _ _⟩

/-- The arrays are the arguments, laid out as rows. -/
theorem rows_eq : wt m c = shapeCast _ (m ((c : Thread nD τ).loc main_arg0)) shapeCasts_S4x4x256_S16x256
    ∧ gr m c = shapeCast _ (m ((c : Thread nD τ).loc main_arg1)) shapeCasts_S4x4x256_S16x256
    ∧ m1 m c = shapeCast _ (m ((c : Thread nD τ).loc main_arg2)) shapeCasts_S4x4x256_S16x256
    ∧ m2 m c = shapeCast _ (m ((c : Thread nD τ).loc main_arg3)) shapeCasts_S4x4x256_S16x256 := by
  refine ⟨?_, ?_, ?_, ?_⟩ <;>
  · show StableHlo.after hostOps0 _ _ = _
    simp only [hostOps0]
    after_results_simp <;> rfl

end

theorem algebraic : Cert.algebraic_AdamSsdConvWIdeal_AdamSsdConvWRefIdeal := by
  intro m g m' g' _ hagree
  refine ⟨fun c => delta (wt m c) (gr m c) (m1 m c) (m2 m c), fun c => newM (gr m c) (m1 m c), fun c => newV (gr m c) (m2 m c), ?_, ?_⟩
  · refine (θ_run Cert.AdamSsdConvWIdeal.defs _ _).mono (fun r h c => ?_) (Cert.AdamSsdConvWIdeal.Value.run_blocks m g)
    obtain ⟨hd, hm, hv, h⟩ := h c
    obtain ⟨fd, fm, fv⟩ := final_eq m c
    exact ⟨hd.trans fd, hm.trans fm, hv.trans fv, h⟩
  · refine (θ_run Cert.AdamSsdConvWRefIdeal.defs _ _).mono (fun r h c => ?_) (Cert.AdamSsdConvWRefIdeal.Value.run m' g')
    obtain ⟨hd, hm, hv, h⟩ := h c
    obtain ⟨a0, a1, a2, a3⟩ := hagree c
    obtain ⟨e0, e1, e2, e3⟩ := rows_eq m c
    beta_reduce
    rw [e0, e1, e2, e3]
    rw [a0, a1, a2, a3] at hd
    rw [a1, a2] at hm
    rw [a1, a3] at hv
    exact ⟨hd.trans rfl, hm.trans rfl, hv.trans rfl, h⟩

end Cert.AdamSsdConvWClaim

end
-- ==== Proof.AdamWOutClaim.lean ====
/-
  AdamW for one device's block of `w_out`, 4 by 256 by 1024:
  seen as 1024 rows of 1024 lanes, of which a grid point holds 256. Each new element depends on the elements at
  the same place alone.
-/
module

public import proofs.«01_k».proof.Proof.AdamStep
public import proofs.«01_k».proof.Proof.Gen.AdamWOutIdeal.Value
public import proofs.«01_k».proof.Proof.Gen.AdamWOutRefIdeal.Run
public import proofs.«01_k».proof.Proof.Gen.AdamWOut.Frame

@[expose] public section

set_option maxRecDepth 16384

noncomputable section

namespace Cert.AdamWOutClaim

open Idealize.ShloMosaic Idealize.ShloMosaic.TcCoe Idealize.SL.Sem Cert.AdamStep

theorem frame_kernel : Cert.quiescent_AdamWOut := fun m ρ _ => Cert.AdamWOut.Gen.frame m ρ

theorem frame_ideal : Cert.quiescent_AdamWOutIdeal := fun m ρ _ => Cert.AdamWOutIdeal.Gen.frame m ρ

theorem frame_reference : Cert.quiescent_AdamWOutRefIdeal := fun m ρ _ =>
  (θ_run Cert.AdamWOutRefIdeal.defs _ _).mono (fun r h => ⟨fun c => (h c).2.2.2, sem_eq_zero_of_no_sems (by decide) r.2⟩)
    (Cert.AdamWOutRefIdeal.Value.run m ρ)

section
open Cert.AdamWOutIdeal Cert.AdamWOutIdeal.Gen Cert.AdamWOutIdeal.Value

/-- What a grid point leaves in its three blocks. -/
theorem out_eq (x0 x1 x2 x3 : Vec Ideal S256x1024 .f32) :
    out0_4 x0 x1 x2 x3 = delta x0 x1 x2 x3 ∧ out0_5 x0 x1 x2 x3 = newM x1 x2 ∧ out0_6 x0 x1 x2 x3 = newV x1 x3 := by
  unfold out0_4 out0_5 out0_6
  rw [View.canon_unit_zero hz, View.canon_unit_zero hz, View.canon_unit_zero hz]
  simp only [View.ld_unit_zero (S := S256x1024) hz]
  unfold k0_pay4 k0_pay3 k0_pay2 k0_pay1
  simp only [shapeCast_self]
  exact ⟨rfl, rfl, rfl⟩

variable (m : (ℓ : Loc nD τ sig) → Buf (Elt Ideal) ℓ) (c : Dev nD)

/-- The weight, the gradient and the moments, as rows. -/
abbrev wt : Vec Ideal S1024x1024 .f32 := V m c main_v0
abbrev gr : Vec Ideal S1024x1024 .f32 := V m c main_v1
abbrev m1 : Vec Ideal S1024x1024 .f32 := V m c main_v2
abbrev m2 : Vec Ideal S1024x1024 .f32 := V m c main_v3

/-- Point `t` holds the `t`-th block of 256 rows. -/
theorem idx : ∀ t : Fin cfg0.N, win0_4.index t 0 = t.val ∧ win0_4.index t 1 = 0 :=
  (by decide +kernel : ∀ t : Fin grid0.N, win0_4.index t 0 = t.val ∧ win0_4.index t 1 = 0)

/-- Every element lies in some point's block. -/
theorem cover (i : S1024x1024.Idx) : ∃ (t : Fin cfg0.N) (y : S256x1024.Idx), i = ((cfg0.win 4).blk t).view.emb y := by
  obtain ⟨a, b, rfl⟩ : ∃ (a : Fin 1024) (b : Fin 1024), i = (ix2 a b : S1024x1024.Idx) := ⟨i 0, i 1, eq_ix2 i⟩
  obtain ⟨ht, hr, e⟩ := row_split (R := 1024) (T := 256) (N := cfg0.N) (by decide) (by decide) a
  obtain ⟨e0, e1⟩ := idx ⟨_, ht⟩
  refine ⟨⟨_, ht⟩, ix2 (⟨_, hr⟩ : Fin 256) b, funext fun d => Fin.ext ?_⟩
  match d with
  | ⟨0, _⟩ => show a.val = win0_4.index ⟨_, ht⟩ 0 * 256 + 1 * (a.val % 256); rw [e0]; exact e.symm
  | ⟨1, _⟩ => show b.val = win0_4.index ⟨_, ht⟩ 1 * 1024 + 1 * b.val; rw [e1]; omega

/-- The arrays that the call leaves. -/
theorem final_eq : (dats m 0 c).arrAt 4 cfg0.N = delta (wt m c) (gr m c) (m1 m c) (m2 m c)
    ∧ (dats m 0 c).arrAt 5 cfg0.N = newM (gr m c) (m1 m c) ∧ (dats m 0 c).arrAt 6 cfg0.N = newV (gr m c) (m2 m c) := by
  refine ⟨(dats m 0 c).arrAt_eq_of_cover 4 _ (fun t _ => ?_) (fun i => ?_), (dats m 0 c).arrAt_eq_of_cover 5 _ (fun t _ => ?_) (fun i => ?_),
    (dats m 0 c).arrAt_eq_of_cover 6 _ (fun t _ => ?_) (fun i => ?_)⟩
  · rw [flushed4, (out_eq _ _ _ _).1]
    exact funext fun y => delta_at rfl rfl rfl rfl
  · obtain ⟨t, y, rfl⟩ := cover i
    exact ⟨t, flush0_4 _, View.emb_mem_set _ _⟩
  · rw [flushed5, (out_eq _ _ _ _).2.1]
    exact funext fun y => newM_at rfl rfl
  · obtain ⟨t, y, rfl⟩ := cover i
    exact ⟨t, flush0_5 _, View.emb_mem_set _ _⟩
  · rw [flushed6, (out_eq _ _ _ _).2.2]
    exact funext fun y => newV_at rfl rfl
  · obtain ⟨t, y, rfl⟩ := cover i
    exact ⟨t, flush0_6 _, View.emb_mem_set _ _⟩

/-- The arrays are the arguments, laid out as rows. -/
theorem rows_eq : wt m c = shapeCast _ (m ((c : Thread nD τ).loc main_arg0)) shapeCasts_S4x256x1024_S1024x1024
    ∧ gr m c = shapeCast _ (m ((c : Thread nD τ).loc main_arg1)) shapeCasts_S4x256x1024_S1024x1024
    ∧ m1 m c = shapeCast _ (m ((c : Thread nD τ).loc main_arg2)) shapeCasts_S4x256x1024_S1024x1024
    ∧ m2 m c = shapeCast _ (m ((c : Thread nD τ).loc main_arg3)) shapeCasts_S4x256x1024_S1024x1024 := by
  refine ⟨?_, ?_, ?_, ?_⟩ <;>
  · show StableHlo.after hostOps0 _ _ = _
    simp only [hostOps0]
    after_results_simp <;> rfl

end

theorem algebraic : Cert.algebraic_AdamWOutIdeal_AdamWOutRefIdeal := by
  intro m g m' g' _ hagree
  refine ⟨fun c => delta (wt m c) (gr m c) (m1 m c) (m2 m c), fun c => newM (gr m c) (m1 m c), fun c => newV (gr m c) (m2 m c), ?_, ?_⟩
  · refine (θ_run Cert.AdamWOutIdeal.defs _ _).mono (fun r h c => ?_) (Cert.AdamWOutIdeal.Value.run_blocks m g)
    obtain ⟨hd, hm, hv, h⟩ := h c
    obtain ⟨fd, fm, fv⟩ := final_eq m c
    exact ⟨hd.trans fd, hm.trans fm, hv.trans fv, h⟩
  · refine (θ_run Cert.AdamWOutRefIdeal.defs _ _).mono (fun r h c => ?_) (Cert.AdamWOutRefIdeal.Value.run m' g')
    obtain ⟨hd, hm, hv, h⟩ := h c
    obtain ⟨a0, a1, a2, a3⟩ := hagree c
    obtain ⟨e0, e1, e2, e3⟩ := rows_eq m c
    beta_reduce
    rw [e0, e1, e2, e3]
    rw [a0, a1, a2, a3] at hd
    rw [a1, a2] at hm
    rw [a1, a3] at hv
    exact ⟨hd.trans rfl, hm.trans rfl, hv.trans rfl, h⟩

end Cert.AdamWOutClaim

end
-- ==== Proof.AdamMlpW1Claim.lean ====
/-
  AdamW for one device's block of `mlp_w1`, 4 by 1024 by 512:
  seen as 4096 rows of 512 lanes, of which a grid point holds 512. Each new element depends on the elements at
  the same place alone.
-/
module

public import proofs.«01_k».proof.Proof.AdamStep
public import proofs.«01_k».proof.Proof.Gen.AdamMlpW1Ideal.Value
public import proofs.«01_k».proof.Proof.Gen.AdamMlpW1RefIdeal.Run
public import proofs.«01_k».proof.Proof.Gen.AdamMlpW1.Frame

@[expose] public section

set_option maxRecDepth 16384

noncomputable section

namespace Cert.AdamMlpW1Claim

open Idealize.ShloMosaic Idealize.ShloMosaic.TcCoe Idealize.SL.Sem Cert.AdamStep

theorem frame_kernel : Cert.quiescent_AdamMlpW1 := fun m ρ _ => Cert.AdamMlpW1.Gen.frame m ρ

theorem frame_ideal : Cert.quiescent_AdamMlpW1Ideal := fun m ρ _ => Cert.AdamMlpW1Ideal.Gen.frame m ρ

theorem frame_reference : Cert.quiescent_AdamMlpW1RefIdeal := fun m ρ _ =>
  (θ_run Cert.AdamMlpW1RefIdeal.defs _ _).mono (fun r h => ⟨fun c => (h c).2.2.2, sem_eq_zero_of_no_sems (by decide) r.2⟩)
    (Cert.AdamMlpW1RefIdeal.Value.run m ρ)

section
open Cert.AdamMlpW1Ideal Cert.AdamMlpW1Ideal.Gen Cert.AdamMlpW1Ideal.Value

/-- What a grid point leaves in its three blocks. -/
theorem out_eq (x0 x1 x2 x3 : Vec Ideal S512x512 .f32) :
    out0_4 x0 x1 x2 x3 = delta x0 x1 x2 x3 ∧ out0_5 x0 x1 x2 x3 = newM x1 x2 ∧ out0_6 x0 x1 x2 x3 = newV x1 x3 := by
  unfold out0_4 out0_5 out0_6
  rw [View.canon_unit_zero hz, View.canon_unit_zero hz, View.canon_unit_zero hz]
  simp only [View.ld_unit_zero (S := S512x512) hz]
  unfold k0_pay4 k0_pay3 k0_pay2 k0_pay1
  simp only [shapeCast_self]
  exact ⟨rfl, rfl, rfl⟩

variable (m : (ℓ : Loc nD τ sig) → Buf (Elt Ideal) ℓ) (c : Dev nD)

/-- The weight, the gradient and the moments, as rows. -/
abbrev wt : Vec Ideal S4096x512 .f32 := V m c main_v0
abbrev gr : Vec Ideal S4096x512 .f32 := V m c main_v1
abbrev m1 : Vec Ideal S4096x512 .f32 := V m c main_v2
abbrev m2 : Vec Ideal S4096x512 .f32 := V m c main_v3

/-- Point `t` holds the `t`-th block of 512 rows. -/
theorem idx : ∀ t : Fin cfg0.N, win0_4.index t 0 = t.val ∧ win0_4.index t 1 = 0 :=
  (by decide +kernel : ∀ t : Fin grid0.N, win0_4.index t 0 = t.val ∧ win0_4.index t 1 = 0)

/-- Every element lies in some point's block. -/
theorem cover (i : S4096x512.Idx) : ∃ (t : Fin cfg0.N) (y : S512x512.Idx), i = ((cfg0.win 4).blk t).view.emb y := by
  obtain ⟨a, b, rfl⟩ : ∃ (a : Fin 4096) (b : Fin 512), i = (ix2 a b : S4096x512.Idx) := ⟨i 0, i 1, eq_ix2 i⟩
  obtain ⟨ht, hr, e⟩ := row_split (R := 4096) (T := 512) (N := cfg0.N) (by decide) (by decide) a
  obtain ⟨e0, e1⟩ := idx ⟨_, ht⟩
  refine ⟨⟨_, ht⟩, ix2 (⟨_, hr⟩ : Fin 512) b, funext fun d => Fin.ext ?_⟩
  match d with
  | ⟨0, _⟩ => show a.val = win0_4.index ⟨_, ht⟩ 0 * 512 + 1 * (a.val % 512); rw [e0]; exact e.symm
  | ⟨1, _⟩ => show b.val = win0_4.index ⟨_, ht⟩ 1 * 512 + 1 * b.val; rw [e1]; omega

/-- The arrays that the call leaves. -/
theorem final_eq : (dats m 0 c).arrAt 4 cfg0.N = delta (wt m c) (gr m c) (m1 m c) (m2 m c)
    ∧ (dats m 0 c).arrAt 5 cfg0.N = newM (gr m c) (m1 m c) ∧ (dats m 0 c).arrAt 6 cfg0.N = newV (gr m c) (m2 m c) := by
  refine ⟨(dats m 0 c).arrAt_eq_of_cover 4 _ (fun t _ => ?_) (fun i => ?_), (dats m 0 c).arrAt_eq_of_cover 5 _ (fun t _ => ?_) (fun i => ?_),
    (dats m 0 c).arrAt_eq_of_cover 6 _ (fun t _ => ?_) (fun i => ?_)⟩
  · rw [flushed4, (out_eq _ _ _ _).1]
    exact funext fun y => delta_at rfl rfl rfl rfl
  · obtain ⟨t, y, rfl⟩ := cover i
    exact ⟨t, flush0_4 _, View.emb_mem_set _ _⟩
  · rw [flushed5, (out_eq _ _ _ _).2.1]
    exact funext fun y => newM_at rfl rfl
  · obtain ⟨t, y, rfl⟩ := cover i
    exact ⟨t, flush0_5 _, View.emb_mem_set _ _⟩
  · rw [flushed6, (out_eq _ _ _ _).2.2]
    exact funext fun y => newV_at rfl rfl
  · obtain ⟨t, y, rfl⟩ := cover i
    exact ⟨t, flush0_6 _, View.emb_mem_set _ _⟩

/-- The arrays are the arguments, laid out as rows. -/
theorem rows_eq : wt m c = shapeCast _ (m ((c : Thread nD τ).loc main_arg0)) shapeCasts_S4x1024x512_S4096x512
    ∧ gr m c = shapeCast _ (m ((c : Thread nD τ).loc main_arg1)) shapeCasts_S4x1024x512_S4096x512
    ∧ m1 m c = shapeCast _ (m ((c : Thread nD τ).loc main_arg2)) shapeCasts_S4x1024x512_S4096x512
    ∧ m2 m c = shapeCast _ (m ((c : Thread nD τ).loc main_arg3)) shapeCasts_S4x1024x512_S4096x512 := by
  refine ⟨?_, ?_, ?_, ?_⟩ <;>
  · show StableHlo.after hostOps0 _ _ = _
    simp only [hostOps0]
    after_results_simp <;> rfl

end

theorem algebraic : Cert.algebraic_AdamMlpW1Ideal_AdamMlpW1RefIdeal := by
  intro m g m' g' _ hagree
  refine ⟨fun c => delta (wt m c) (gr m c) (m1 m c) (m2 m c), fun c => newM (gr m c) (m1 m c), fun c => newV (gr m c) (m2 m c), ?_, ?_⟩
  · refine (θ_run Cert.AdamMlpW1Ideal.defs _ _).mono (fun r h c => ?_) (Cert.AdamMlpW1Ideal.Value.run_blocks m g)
    obtain ⟨hd, hm, hv, h⟩ := h c
    obtain ⟨fd, fm, fv⟩ := final_eq m c
    exact ⟨hd.trans fd, hm.trans fm, hv.trans fv, h⟩
  · refine (θ_run Cert.AdamMlpW1RefIdeal.defs _ _).mono (fun r h c => ?_) (Cert.AdamMlpW1RefIdeal.Value.run m' g')
    obtain ⟨hd, hm, hv, h⟩ := h c
    obtain ⟨a0, a1, a2, a3⟩ := hagree c
    obtain ⟨e0, e1, e2, e3⟩ := rows_eq m c
    beta_reduce
    rw [e0, e1, e2, e3]
    rw [a0, a1, a2, a3] at hd
    rw [a1, a2] at hm
    rw [a1, a3] at hv
    exact ⟨hd.trans rfl, hm.trans rfl, hv.trans rfl, h⟩

end Cert.AdamMlpW1Claim

end
-- ==== Proof.AdamMlpW2Claim.lean ====
/-
  AdamW for one device's block of `mlp_w2`, 4 by 512 by 1024:
  seen as 2048 rows of 1024 lanes, of which a grid point holds 256. Each new element depends on the elements at
  the same place alone.
-/
module

public import proofs.«01_k».proof.Proof.AdamStep
public import proofs.«01_k».proof.Proof.Gen.AdamMlpW2Ideal.Value
public import proofs.«01_k».proof.Proof.Gen.AdamMlpW2RefIdeal.Run
public import proofs.«01_k».proof.Proof.Gen.AdamMlpW2.Frame

@[expose] public section

set_option maxRecDepth 16384

noncomputable section

namespace Cert.AdamMlpW2Claim

open Idealize.ShloMosaic Idealize.ShloMosaic.TcCoe Idealize.SL.Sem Cert.AdamStep

theorem frame_kernel : Cert.quiescent_AdamMlpW2 := fun m ρ _ => Cert.AdamMlpW2.Gen.frame m ρ

theorem frame_ideal : Cert.quiescent_AdamMlpW2Ideal := fun m ρ _ => Cert.AdamMlpW2Ideal.Gen.frame m ρ

theorem frame_reference : Cert.quiescent_AdamMlpW2RefIdeal := fun m ρ _ =>
  (θ_run Cert.AdamMlpW2RefIdeal.defs _ _).mono (fun r h => ⟨fun c => (h c).2.2.2, sem_eq_zero_of_no_sems (by decide) r.2⟩)
    (Cert.AdamMlpW2RefIdeal.Value.run m ρ)

section
open Cert.AdamMlpW2Ideal Cert.AdamMlpW2Ideal.Gen Cert.AdamMlpW2Ideal.Value

/-- What a grid point leaves in its three blocks. -/
theorem out_eq (x0 x1 x2 x3 : Vec Ideal S256x1024 .f32) :
    out0_4 x0 x1 x2 x3 = delta x0 x1 x2 x3 ∧ out0_5 x0 x1 x2 x3 = newM x1 x2 ∧ out0_6 x0 x1 x2 x3 = newV x1 x3 := by
  unfold out0_4 out0_5 out0_6
  rw [View.canon_unit_zero hz, View.canon_unit_zero hz, View.canon_unit_zero hz]
  simp only [View.ld_unit_zero (S := S256x1024) hz]
  unfold k0_pay4 k0_pay3 k0_pay2 k0_pay1
  simp only [shapeCast_self]
  exact ⟨rfl, rfl, rfl⟩

variable (m : (ℓ : Loc nD τ sig) → Buf (Elt Ideal) ℓ) (c : Dev nD)

/-- The weight, the gradient and the moments, as rows. -/
abbrev wt : Vec Ideal S2048x1024 .f32 := V m c main_v0
abbrev gr : Vec Ideal S2048x1024 .f32 := V m c main_v1
abbrev m1 : Vec Ideal S2048x1024 .f32 := V m c main_v2
abbrev m2 : Vec Ideal S2048x1024 .f32 := V m c main_v3

/-- Point `t` holds the `t`-th block of 256 rows. -/
theorem idx : ∀ t : Fin cfg0.N, win0_4.index t 0 = t.val ∧ win0_4.index t 1 = 0 :=
  (by decide +kernel : ∀ t : Fin grid0.N, win0_4.index t 0 = t.val ∧ win0_4.index t 1 = 0)

/-- Every element lies in some point's block. -/
theorem cover (i : S2048x1024.Idx) : ∃ (t : Fin cfg0.N) (y : S256x1024.Idx), i = ((cfg0.win 4).blk t).view.emb y := by
  obtain ⟨a, b, rfl⟩ : ∃ (a : Fin 2048) (b : Fin 1024), i = (ix2 a b : S2048x1024.Idx) := ⟨i 0, i 1, eq_ix2 i⟩
  obtain ⟨ht, hr, e⟩ := row_split (R := 2048) (T := 256) (N := cfg0.N) (by decide) (by decide) a
  obtain ⟨e0, e1⟩ := idx ⟨_, ht⟩
  refine ⟨⟨_, ht⟩, ix2 (⟨_, hr⟩ : Fin 256) b, funext fun d => Fin.ext ?_⟩
  match d with
  | ⟨0, _⟩ => show a.val = win0_4.index ⟨_, ht⟩ 0 * 256 + 1 * (a.val % 256); rw [e0]; exact e.symm
  | ⟨1, _⟩ => show b.val = win0_4.index ⟨_, ht⟩ 1 * 1024 + 1 * b.val; rw [e1]; omega

/-- The arrays that the call leaves. -/
theorem final_eq : (dats m 0 c).arrAt 4 cfg0.N = delta (wt m c) (gr m c) (m1 m c) (m2 m c)
    ∧ (dats m 0 c).arrAt 5 cfg0.N = newM (gr m c) (m1 m c) ∧ (dats m 0 c).arrAt 6 cfg0.N = newV (gr m c) (m2 m c) := by
  refine ⟨(dats m 0 c).arrAt_eq_of_cover 4 _ (fun t _ => ?_) (fun i => ?_), (dats m 0 c).arrAt_eq_of_cover 5 _ (fun t _ => ?_) (fun i => ?_),
    (dats m 0 c).arrAt_eq_of_cover 6 _ (fun t _ => ?_) (fun i => ?_)⟩
  · rw [flushed4, (out_eq _ _ _ _).1]
    exact funext fun y => delta_at rfl rfl rfl rfl
  · obtain ⟨t, y, rfl⟩ := cover i
    exact ⟨t, flush0_4 _, View.emb_mem_set _ _⟩
  · rw [flushed5, (out_eq _ _ _ _).2.1]
    exact funext fun y => newM_at rfl rfl
  · obtain ⟨t, y, rfl⟩ := cover i
    exact ⟨t, flush0_5 _, View.emb_mem_set _ _⟩
  · rw [flushed6, (out_eq _ _ _ _).2.2]
    exact funext fun y => newV_at rfl rfl
  · obtain ⟨t, y, rfl⟩ := cover i
    exact ⟨t, flush0_6 _, View.emb_mem_set _ _⟩

/-- The arrays are the arguments, laid out as rows. -/
theorem rows_eq : wt m c = shapeCast _ (m ((c : Thread nD τ).loc main_arg0)) shapeCasts_S4x512x1024_S2048x1024
    ∧ gr m c = shapeCast _ (m ((c : Thread nD τ).loc main_arg1)) shapeCasts_S4x512x1024_S2048x1024
    ∧ m1 m c = shapeCast _ (m ((c : Thread nD τ).loc main_arg2)) shapeCasts_S4x512x1024_S2048x1024
    ∧ m2 m c = shapeCast _ (m ((c : Thread nD τ).loc main_arg3)) shapeCasts_S4x512x1024_S2048x1024 := by
  refine ⟨?_, ?_, ?_, ?_⟩ <;>
  · show StableHlo.after hostOps0 _ _ = _
    simp only [hostOps0]
    after_results_simp <;> rfl

end

theorem algebraic : Cert.algebraic_AdamMlpW2Ideal_AdamMlpW2RefIdeal := by
  intro m g m' g' _ hagree
  refine ⟨fun c => delta (wt m c) (gr m c) (m1 m c) (m2 m c), fun c => newM (gr m c) (m1 m c), fun c => newV (gr m c) (m2 m c), ?_, ?_⟩
  · refine (θ_run Cert.AdamMlpW2Ideal.defs _ _).mono (fun r h c => ?_) (Cert.AdamMlpW2Ideal.Value.run_blocks m g)
    obtain ⟨hd, hm, hv, h⟩ := h c
    obtain ⟨fd, fm, fv⟩ := final_eq m c
    exact ⟨hd.trans fd, hm.trans fm, hv.trans fv, h⟩
  · refine (θ_run Cert.AdamMlpW2RefIdeal.defs _ _).mono (fun r h c => ?_) (Cert.AdamMlpW2RefIdeal.Value.run m' g')
    obtain ⟨hd, hm, hv, h⟩ := h c
    obtain ⟨a0, a1, a2, a3⟩ := hagree c
    obtain ⟨e0, e1, e2, e3⟩ := rows_eq m c
    beta_reduce
    rw [e0, e1, e2, e3]
    rw [a0, a1, a2, a3] at hd
    rw [a1, a2] at hm
    rw [a1, a3] at hv
    exact ⟨hd.trans rfl, hm.trans rfl, hv.trans rfl, h⟩

end Cert.AdamMlpW2Claim

end
-- ==== Proof.AdamNormMixClaim.lean ====
/-
  AdamW for one device's block of `norm_mix`, 4 by 1024:
  one grid point holds the whole array. The generated reading gives each new element as a function of
  the elements at the same place; the reference's is the same.
-/
module

public import proofs.«01_k».proof.Defs
public import proofs.«01_k».proof.Proof.Gen.AdamNormMixIdeal.Value
public import proofs.«01_k».proof.Proof.Gen.AdamNormMixRefIdeal.Run
public import proofs.«01_k».proof.Proof.Gen.AdamNormMix.Frame
public import Idealize.ShloMosaic.Lib.StableHlo.Run
public import Idealize.ShloMosaic.Lib.Tactic

@[expose] public section

set_option maxRecDepth 16384

noncomputable section

namespace Cert.AdamNormMixClaim

open Idealize.ShloMosaic Idealize.ShloMosaic.TcCoe Idealize.SL.Sem

theorem frame_kernel : Cert.quiescent_AdamNormMix := fun m ρ _ => Cert.AdamNormMix.Gen.frame m ρ

theorem frame_ideal : Cert.quiescent_AdamNormMixIdeal := fun m ρ _ => Cert.AdamNormMixIdeal.Gen.frame m ρ

theorem frame_reference : Cert.quiescent_AdamNormMixRefIdeal := fun m ρ _ =>
  (θ_run Cert.AdamNormMixRefIdeal.defs _ _).mono (fun r h => ⟨fun c => (h c).2.2.2, sem_eq_zero_of_no_sems (by decide) r.2⟩)
    (Cert.AdamNormMixRefIdeal.Value.run m ρ)

theorem algebraic : Cert.algebraic_AdamNormMixIdeal_AdamNormMixRefIdeal := by
  intro m g m' g' _ hagree
  refine ⟨fun c => _, fun c => _, fun c => _, Cert.AdamNormMixIdeal.Value.run m g, ?_⟩
  refine (θ_run Cert.AdamNormMixRefIdeal.defs _ _).mono (fun r h c => ?_) (Cert.AdamNormMixRefIdeal.Value.run m' g')
  obtain ⟨hd, hm, hv, h⟩ := h c
  obtain ⟨a0, a1, a2, a3⟩ := hagree c
  rw [a0, a1, a2, a3] at hd
  rw [a1, a2] at hm
  rw [a1, a3] at hv
  exact ⟨hd.trans rfl, hm.trans rfl, hv.trans rfl, h⟩

end Cert.AdamNormMixClaim

end
-- ==== Proof.AdamSsdNormClaim.lean ====
/-
  AdamW for one device's block of `ssd_norm`, 4 by 1024:
  one grid point holds the whole array. The generated reading gives each new element as a function of
  the elements at the same place; the reference's is the same.
-/
module

public import proofs.«01_k».proof.Defs
public import proofs.«01_k».proof.Proof.Gen.AdamSsdNormIdeal.Value
public import proofs.«01_k».proof.Proof.Gen.AdamSsdNormRefIdeal.Run
public import proofs.«01_k».proof.Proof.Gen.AdamSsdNorm.Frame
public import Idealize.ShloMosaic.Lib.StableHlo.Run
public import Idealize.ShloMosaic.Lib.Tactic

@[expose] public section

set_option maxRecDepth 16384

noncomputable section

namespace Cert.AdamSsdNormClaim

open Idealize.ShloMosaic Idealize.ShloMosaic.TcCoe Idealize.SL.Sem

theorem frame_kernel : Cert.quiescent_AdamSsdNorm := fun m ρ _ => Cert.AdamSsdNorm.Gen.frame m ρ

theorem frame_ideal : Cert.quiescent_AdamSsdNormIdeal := fun m ρ _ => Cert.AdamSsdNormIdeal.Gen.frame m ρ

theorem frame_reference : Cert.quiescent_AdamSsdNormRefIdeal := fun m ρ _ =>
  (θ_run Cert.AdamSsdNormRefIdeal.defs _ _).mono (fun r h => ⟨fun c => (h c).2.2.2, sem_eq_zero_of_no_sems (by decide) r.2⟩)
    (Cert.AdamSsdNormRefIdeal.Value.run m ρ)

theorem algebraic : Cert.algebraic_AdamSsdNormIdeal_AdamSsdNormRefIdeal := by
  intro m g m' g' _ hagree
  refine ⟨fun c => _, fun c => _, fun c => _, Cert.AdamSsdNormIdeal.Value.run m g, ?_⟩
  refine (θ_run Cert.AdamSsdNormRefIdeal.defs _ _).mono (fun r h c => ?_) (Cert.AdamSsdNormRefIdeal.Value.run m' g')
  obtain ⟨hd, hm, hv, h⟩ := h c
  obtain ⟨a0, a1, a2, a3⟩ := hagree c
  rw [a0, a1, a2, a3] at hd
  rw [a1, a2] at hm
  rw [a1, a3] at hv
  exact ⟨hd.trans rfl, hm.trans rfl, hv.trans rfl, h⟩

end Cert.AdamSsdNormClaim

end
-- ==== Proof.AdamNormXattnClaim.lean ====
/-
  AdamW for one device's block of `norm_xattn`, 4 by 1024:
  one grid point holds the whole array. The generated reading gives each new element as a function of
  the elements at the same place; the reference's is the same.
-/
module

public import proofs.«01_k».proof.Defs
public import proofs.«01_k».proof.Proof.Gen.AdamNormXattnIdeal.Value
public import proofs.«01_k».proof.Proof.Gen.AdamNormXattnRefIdeal.Run
public import proofs.«01_k».proof.Proof.Gen.AdamNormXattn.Frame
public import Idealize.ShloMosaic.Lib.StableHlo.Run
public import Idealize.ShloMosaic.Lib.Tactic

@[expose] public section

set_option maxRecDepth 16384

noncomputable section

namespace Cert.AdamNormXattnClaim

open Idealize.ShloMosaic Idealize.ShloMosaic.TcCoe Idealize.SL.Sem

theorem frame_kernel : Cert.quiescent_AdamNormXattn := fun m ρ _ => Cert.AdamNormXattn.Gen.frame m ρ

theorem frame_ideal : Cert.quiescent_AdamNormXattnIdeal := fun m ρ _ => Cert.AdamNormXattnIdeal.Gen.frame m ρ

theorem frame_reference : Cert.quiescent_AdamNormXattnRefIdeal := fun m ρ _ =>
  (θ_run Cert.AdamNormXattnRefIdeal.defs _ _).mono (fun r h => ⟨fun c => (h c).2.2.2, sem_eq_zero_of_no_sems (by decide) r.2⟩)
    (Cert.AdamNormXattnRefIdeal.Value.run m ρ)

theorem algebraic : Cert.algebraic_AdamNormXattnIdeal_AdamNormXattnRefIdeal := by
  intro m g m' g' _ hagree
  refine ⟨fun c => _, fun c => _, fun c => _, Cert.AdamNormXattnIdeal.Value.run m g, ?_⟩
  refine (θ_run Cert.AdamNormXattnRefIdeal.defs _ _).mono (fun r h c => ?_) (Cert.AdamNormXattnRefIdeal.Value.run m' g')
  obtain ⟨hd, hm, hv, h⟩ := h c
  obtain ⟨a0, a1, a2, a3⟩ := hagree c
  rw [a0, a1, a2, a3] at hd
  rw [a1, a2] at hm
  rw [a1, a3] at hv
  exact ⟨hd.trans rfl, hm.trans rfl, hv.trans rfl, h⟩

end Cert.AdamNormXattnClaim

end
-- ==== Proof.AdamNormMemClaim.lean ====
/-
  AdamW for one device's block of `norm_mem`, 4 by 1024:
  one grid point holds the whole array. The generated reading gives each new element as a function of
  the elements at the same place; the reference's is the same.
-/
module

public import proofs.«01_k».proof.Defs
public import proofs.«01_k».proof.Proof.Gen.AdamNormMemIdeal.Value
public import proofs.«01_k».proof.Proof.Gen.AdamNormMemRefIdeal.Run
public import proofs.«01_k».proof.Proof.Gen.AdamNormMem.Frame
public import Idealize.ShloMosaic.Lib.StableHlo.Run
public import Idealize.ShloMosaic.Lib.Tactic

@[expose] public section

set_option maxRecDepth 16384

noncomputable section

namespace Cert.AdamNormMemClaim

open Idealize.ShloMosaic Idealize.ShloMosaic.TcCoe Idealize.SL.Sem

theorem frame_kernel : Cert.quiescent_AdamNormMem := fun m ρ _ => Cert.AdamNormMem.Gen.frame m ρ

theorem frame_ideal : Cert.quiescent_AdamNormMemIdeal := fun m ρ _ => Cert.AdamNormMemIdeal.Gen.frame m ρ

theorem frame_reference : Cert.quiescent_AdamNormMemRefIdeal := fun m ρ _ =>
  (θ_run Cert.AdamNormMemRefIdeal.defs _ _).mono (fun r h => ⟨fun c => (h c).2.2.2, sem_eq_zero_of_no_sems (by decide) r.2⟩)
    (Cert.AdamNormMemRefIdeal.Value.run m ρ)

theorem algebraic : Cert.algebraic_AdamNormMemIdeal_AdamNormMemRefIdeal := by
  intro m g m' g' _ hagree
  refine ⟨fun c => _, fun c => _, fun c => _, Cert.AdamNormMemIdeal.Value.run m g, ?_⟩
  refine (θ_run Cert.AdamNormMemRefIdeal.defs _ _).mono (fun r h c => ?_) (Cert.AdamNormMemRefIdeal.Value.run m' g')
  obtain ⟨hd, hm, hv, h⟩ := h c
  obtain ⟨a0, a1, a2, a3⟩ := hagree c
  rw [a0, a1, a2, a3] at hd
  rw [a1, a2] at hm
  rw [a1, a3] at hv
  exact ⟨hd.trans rfl, hm.trans rfl, hv.trans rfl, h⟩

end Cert.AdamNormMemClaim

end
-- ==== Proof.AdamNormMlpClaim.lean ====
/-
  AdamW for one device's block of `norm_mlp`, 4 by 1024:
  one grid point holds the whole array. The generated reading gives each new element as a function of
  the elements at the same place; the reference's is the same.
-/
module

public import proofs.«01_k».proof.Defs
public import proofs.«01_k».proof.Proof.Gen.AdamNormMlpIdeal.Value
public import proofs.«01_k».proof.Proof.Gen.AdamNormMlpRefIdeal.Run
public import proofs.«01_k».proof.Proof.Gen.AdamNormMlp.Frame
public import Idealize.ShloMosaic.Lib.StableHlo.Run
public import Idealize.ShloMosaic.Lib.Tactic

@[expose] public section

set_option maxRecDepth 16384

noncomputable section

namespace Cert.AdamNormMlpClaim

open Idealize.ShloMosaic Idealize.ShloMosaic.TcCoe Idealize.SL.Sem

theorem frame_kernel : Cert.quiescent_AdamNormMlp := fun m ρ _ => Cert.AdamNormMlp.Gen.frame m ρ

theorem frame_ideal : Cert.quiescent_AdamNormMlpIdeal := fun m ρ _ => Cert.AdamNormMlpIdeal.Gen.frame m ρ

theorem frame_reference : Cert.quiescent_AdamNormMlpRefIdeal := fun m ρ _ =>
  (θ_run Cert.AdamNormMlpRefIdeal.defs _ _).mono (fun r h => ⟨fun c => (h c).2.2.2, sem_eq_zero_of_no_sems (by decide) r.2⟩)
    (Cert.AdamNormMlpRefIdeal.Value.run m ρ)

theorem algebraic : Cert.algebraic_AdamNormMlpIdeal_AdamNormMlpRefIdeal := by
  intro m g m' g' _ hagree
  refine ⟨fun c => _, fun c => _, fun c => _, Cert.AdamNormMlpIdeal.Value.run m g, ?_⟩
  refine (θ_run Cert.AdamNormMlpRefIdeal.defs _ _).mono (fun r h c => ?_) (Cert.AdamNormMlpRefIdeal.Value.run m' g')
  obtain ⟨hd, hm, hv, h⟩ := h c
  obtain ⟨a0, a1, a2, a3⟩ := hagree c
  rw [a0, a1, a2, a3] at hd
  rw [a1, a2] at hm
  rw [a1, a3] at hv
  exact ⟨hd.trans rfl, hm.trans rfl, hv.trans rfl, h⟩

end Cert.AdamNormMlpClaim

end
-- ==== Proof.AdamNormFinalClaim.lean ====
/-
  AdamW for one device's block of `norm_final`, 1024:
  seen as 8 rows of 128 lanes, which one grid point holds. Each new element depends on the elements at
  the same place alone.
-/
module

public import proofs.«01_k».proof.Proof.AdamStep
public import proofs.«01_k».proof.Proof.Gen.AdamNormFinalIdeal.Value
public import proofs.«01_k».proof.Proof.Gen.AdamNormFinalRefIdeal.Run
public import proofs.«01_k».proof.Proof.Gen.AdamNormFinal.Frame

@[expose] public section

set_option maxRecDepth 16384

noncomputable section

namespace Cert.AdamNormFinalClaim

open Idealize.ShloMosaic Idealize.ShloMosaic.TcCoe Idealize.SL.Sem Cert.AdamStep

theorem frame_kernel : Cert.quiescent_AdamNormFinal := fun m ρ _ => Cert.AdamNormFinal.Gen.frame m ρ

theorem frame_ideal : Cert.quiescent_AdamNormFinalIdeal := fun m ρ _ => Cert.AdamNormFinalIdeal.Gen.frame m ρ

theorem frame_reference : Cert.quiescent_AdamNormFinalRefIdeal := fun m ρ _ =>
  (θ_run Cert.AdamNormFinalRefIdeal.defs _ _).mono (fun r h => ⟨fun c => (h c).2.2.2, sem_eq_zero_of_no_sems (by decide) r.2⟩)
    (Cert.AdamNormFinalRefIdeal.Value.run m ρ)

section
open Cert.AdamNormFinalIdeal Cert.AdamNormFinalIdeal.Gen Cert.AdamNormFinalIdeal.Value

/-- What a grid point leaves in its three blocks. -/
theorem out_eq (x0 x1 x2 x3 : Vec Ideal S8x128 .f32) :
    out0_4 x0 x1 x2 x3 = delta x0 x1 x2 x3 ∧ out0_5 x0 x1 x2 x3 = newM x1 x2 ∧ out0_6 x0 x1 x2 x3 = newV x1 x3 := by
  unfold out0_4 out0_5 out0_6
  rw [View.canon_unit_zero hz, View.canon_unit_zero hz, View.canon_unit_zero hz]
  simp only [View.ld_unit_zero (S := S8x128) hz]
  unfold k0_pay4 k0_pay3 k0_pay2 k0_pay1
  simp only [shapeCast_self]
  exact ⟨rfl, rfl, rfl⟩

variable (m : (ℓ : Loc nD τ sig) → Buf (Elt Ideal) ℓ) (c : Dev nD)

/-- The weight, the gradient and the moments, as rows. -/
abbrev wt : Vec Ideal S8x128 .f32 := V m c main_v0
abbrev gr : Vec Ideal S8x128 .f32 := V m c main_v1
abbrev m1 : Vec Ideal S8x128 .f32 := V m c main_v2
abbrev m2 : Vec Ideal S8x128 .f32 := V m c main_v3

/-- Point `t` holds the `t`-th block of 8 rows. -/
theorem idx : ∀ t : Fin cfg0.N, win0_4.index t 0 = t.val ∧ win0_4.index t 1 = 0 :=
  (by decide +kernel : ∀ t : Fin grid0.N, win0_4.index t 0 = t.val ∧ win0_4.index t 1 = 0)

/-- Every element lies in some point's block. -/
theorem cover (i : S8x128.Idx) : ∃ (t : Fin cfg0.N) (y : S8x128.Idx), i = ((cfg0.win 4).blk t).view.emb y := by
  obtain ⟨a, b, rfl⟩ : ∃ (a : Fin 8) (b : Fin 128), i = (ix2 a b : S8x128.Idx) := ⟨i 0, i 1, eq_ix2 i⟩
  obtain ⟨ht, hr, e⟩ := row_split (R := 8) (T := 8) (N := cfg0.N) (by decide) (by decide) a
  obtain ⟨e0, e1⟩ := idx ⟨_, ht⟩
  refine ⟨⟨_, ht⟩, ix2 (⟨_, hr⟩ : Fin 8) b, funext fun d => Fin.ext ?_⟩
  match d with
  | ⟨0, _⟩ => show a.val = win0_4.index ⟨_, ht⟩ 0 * 8 + 1 * (a.val % 8); rw [e0]; exact e.symm
  | ⟨1, _⟩ => show b.val = win0_4.index ⟨_, ht⟩ 1 * 128 + 1 * b.val; rw [e1]; omega

/-- The arrays that the call leaves. -/
theorem final_eq : (dats m 0 c).arrAt 4 cfg0.N = delta (wt m c) (gr m c) (m1 m c) (m2 m c)
    ∧ (dats m 0 c).arrAt 5 cfg0.N = newM (gr m c) (m1 m c) ∧ (dats m 0 c).arrAt 6 cfg0.N = newV (gr m c) (m2 m c) := by
  refine ⟨(dats m 0 c).arrAt_eq_of_cover 4 _ (fun t _ => ?_) (fun i => ?_), (dats m 0 c).arrAt_eq_of_cover 5 _ (fun t _ => ?_) (fun i => ?_),
    (dats m 0 c).arrAt_eq_of_cover 6 _ (fun t _ => ?_) (fun i => ?_)⟩
  · rw [flushed4, (out_eq _ _ _ _).1]
    exact funext fun y => delta_at rfl rfl rfl rfl
  · obtain ⟨t, y, rfl⟩ := cover i
    exact ⟨t, flush0_4 _, View.emb_mem_set _ _⟩
  · rw [flushed5, (out_eq _ _ _ _).2.1]
    exact funext fun y => newM_at rfl rfl
  · obtain ⟨t, y, rfl⟩ := cover i
    exact ⟨t, flush0_5 _, View.emb_mem_set _ _⟩
  · rw [flushed6, (out_eq _ _ _ _).2.2]
    exact funext fun y => newV_at rfl rfl
  · obtain ⟨t, y, rfl⟩ := cover i
    exact ⟨t, flush0_6 _, View.emb_mem_set _ _⟩

/-- The arrays are the arguments, laid out as rows. -/
theorem rows_eq : wt m c = shapeCast _ (m ((c : Thread nD τ).loc main_arg0)) shapeCasts_S1024_S8x128
    ∧ gr m c = shapeCast _ (m ((c : Thread nD τ).loc main_arg1)) shapeCasts_S1024_S8x128
    ∧ m1 m c = shapeCast _ (m ((c : Thread nD τ).loc main_arg2)) shapeCasts_S1024_S8x128
    ∧ m2 m c = shapeCast _ (m ((c : Thread nD τ).loc main_arg3)) shapeCasts_S1024_S8x128 := by
  refine ⟨?_, ?_, ?_, ?_⟩ <;>
  · show StableHlo.after hostOps0 _ _ = _
    simp only [hostOps0]
    after_results_simp <;> rfl

end

theorem algebraic : Cert.algebraic_AdamNormFinalIdeal_AdamNormFinalRefIdeal := by
  intro m g m' g' _ hagree
  refine ⟨fun c => delta (wt m c) (gr m c) (m1 m c) (m2 m c), fun c => newM (gr m c) (m1 m c), fun c => newV (gr m c) (m2 m c), ?_, ?_⟩
  · refine (θ_run Cert.AdamNormFinalIdeal.defs _ _).mono (fun r h c => ?_) (Cert.AdamNormFinalIdeal.Value.run_blocks m g)
    obtain ⟨hd, hm, hv, h⟩ := h c
    obtain ⟨fd, fm, fv⟩ := final_eq m c
    exact ⟨hd.trans fd, hm.trans fm, hv.trans fv, h⟩
  · refine (θ_run Cert.AdamNormFinalRefIdeal.defs _ _).mono (fun r h c => ?_) (Cert.AdamNormFinalRefIdeal.Value.run m' g')
    obtain ⟨hd, hm, hv, h⟩ := h c
    obtain ⟨a0, a1, a2, a3⟩ := hagree c
    obtain ⟨e0, e1, e2, e3⟩ := rows_eq m c
    beta_reduce
    rw [e0, e1, e2, e3]
    rw [a0, a1, a2, a3] at hd
    rw [a1, a2] at hm
    rw [a1, a3] at hv
    exact ⟨hd.trans rfl, hm.trans rfl, hv.trans rfl, h⟩

end Cert.AdamNormFinalClaim

end
-- ==== Proof.AdamSsdConvBClaim.lean ====
/-
  AdamW for one device's block of `ssd_conv_b`, 4 by 2048:
  one grid point holds the whole array. The generated reading gives each new element as a function of
  the elements at the same place; the reference's is the same.
-/
module

public import proofs.«01_k».proof.Defs
public import proofs.«01_k».proof.Proof.Gen.AdamSsdConvBIdeal.Value
public import proofs.«01_k».proof.Proof.Gen.AdamSsdConvBRefIdeal.Run
public import proofs.«01_k».proof.Proof.Gen.AdamSsdConvB.Frame
public import Idealize.ShloMosaic.Lib.StableHlo.Run
public import Idealize.ShloMosaic.Lib.Tactic

@[expose] public section

set_option maxRecDepth 16384

noncomputable section

namespace Cert.AdamSsdConvBClaim

open Idealize.ShloMosaic Idealize.ShloMosaic.TcCoe Idealize.SL.Sem

theorem frame_kernel : Cert.quiescent_AdamSsdConvB := fun m ρ _ => Cert.AdamSsdConvB.Gen.frame m ρ

theorem frame_ideal : Cert.quiescent_AdamSsdConvBIdeal := fun m ρ _ => Cert.AdamSsdConvBIdeal.Gen.frame m ρ

theorem frame_reference : Cert.quiescent_AdamSsdConvBRefIdeal := fun m ρ _ =>
  (θ_run Cert.AdamSsdConvBRefIdeal.defs _ _).mono (fun r h => ⟨fun c => (h c).2.2.2, sem_eq_zero_of_no_sems (by decide) r.2⟩)
    (Cert.AdamSsdConvBRefIdeal.Value.run m ρ)

theorem algebraic : Cert.algebraic_AdamSsdConvBIdeal_AdamSsdConvBRefIdeal := by
  intro m g m' g' _ hagree
  refine ⟨fun c => _, fun c => _, fun c => _, Cert.AdamSsdConvBIdeal.Value.run m g, ?_⟩
  refine (θ_run Cert.AdamSsdConvBRefIdeal.defs _ _).mono (fun r h c => ?_) (Cert.AdamSsdConvBRefIdeal.Value.run m' g')
  obtain ⟨hd, hm, hv, h⟩ := h c
  obtain ⟨a0, a1, a2, a3⟩ := hagree c
  rw [a0, a1, a2, a3] at hd
  rw [a1, a2] at hm
  rw [a1, a3] at hv
  exact ⟨hd.trans rfl, hm.trans rfl, hv.trans rfl, h⟩

end Cert.AdamSsdConvBClaim

end
-- ==== Proof.AdamS5AReClaim.lean ====
/-
  AdamW for one device's block of `s5_a_re`, 4 by 64 by 64:
  seen as 128 rows of 128 lanes, which one grid point holds. Each new element depends on the elements at
  the same place alone.
-/
module

public import proofs.«01_k».proof.Proof.AdamStep
public import proofs.«01_k».proof.Proof.Gen.AdamS5AReIdeal.Value
public import proofs.«01_k».proof.Proof.Gen.AdamS5AReRefIdeal.Run
public import proofs.«01_k».proof.Proof.Gen.AdamS5ARe.Frame

@[expose] public section

set_option maxRecDepth 16384

noncomputable section

namespace Cert.AdamS5AReClaim

open Idealize.ShloMosaic Idealize.ShloMosaic.TcCoe Idealize.SL.Sem Cert.AdamStep

theorem frame_kernel : Cert.quiescent_AdamS5ARe := fun m ρ _ => Cert.AdamS5ARe.Gen.frame m ρ

theorem frame_ideal : Cert.quiescent_AdamS5AReIdeal := fun m ρ _ => Cert.AdamS5AReIdeal.Gen.frame m ρ

theorem frame_reference : Cert.quiescent_AdamS5AReRefIdeal := fun m ρ _ =>
  (θ_run Cert.AdamS5AReRefIdeal.defs _ _).mono (fun r h => ⟨fun c => (h c).2.2.2, sem_eq_zero_of_no_sems (by decide) r.2⟩)
    (Cert.AdamS5AReRefIdeal.Value.run m ρ)

section
open Cert.AdamS5AReIdeal Cert.AdamS5AReIdeal.Gen Cert.AdamS5AReIdeal.Value

/-- What a grid point leaves in its three blocks. -/
theorem out_eq (x0 x1 x2 x3 : Vec Ideal S128x128 .f32) :
    out0_4 x0 x1 x2 x3 = delta x0 x1 x2 x3 ∧ out0_5 x0 x1 x2 x3 = newM x1 x2 ∧ out0_6 x0 x1 x2 x3 = newV x1 x3 := by
  unfold out0_4 out0_5 out0_6
  rw [View.canon_unit_zero hz, View.canon_unit_zero hz, View.canon_unit_zero hz]
  simp only [View.ld_unit_zero (S := S128x128) hz]
  unfold k0_pay4 k0_pay3 k0_pay2 k0_pay1
  simp only [shapeCast_self]
  exact ⟨rfl, rfl, rfl⟩

variable (m : (ℓ : Loc nD τ sig) → Buf (Elt Ideal) ℓ) (c : Dev nD)

/-- The weight, the gradient and the moments, as rows. -/
abbrev wt : Vec Ideal S128x128 .f32 := V m c main_v0
abbrev gr : Vec Ideal S128x128 .f32 := V m c main_v1
abbrev m1 : Vec Ideal S128x128 .f32 := V m c main_v2
abbrev m2 : Vec Ideal S128x128 .f32 := V m c main_v3

/-- Point `t` holds the `t`-th block of 128 rows. -/
theorem idx : ∀ t : Fin cfg0.N, win0_4.index t 0 = t.val ∧ win0_4.index t 1 = 0 :=
  (by decide +kernel : ∀ t : Fin grid0.N, win0_4.index t 0 = t.val ∧ win0_4.index t 1 = 0)

/-- Every element lies in some point's block. -/
theorem cover (i : S128x128.Idx) : ∃ (t : Fin cfg0.N) (y : S128x128.Idx), i = ((cfg0.win 4).blk t).view.emb y := by
  obtain ⟨a, b, rfl⟩ : ∃ (a : Fin 128) (b : Fin 128), i = (ix2 a b : S128x128.Idx) := ⟨i 0, i 1, eq_ix2 i⟩
  obtain ⟨ht, hr, e⟩ := row_split (R := 128) (T := 128) (N := cfg0.N) (by decide) (by decide) a
  obtain ⟨e0, e1⟩ := idx ⟨_, ht⟩
  refine ⟨⟨_, ht⟩, ix2 (⟨_, hr⟩ : Fin 128) b, funext fun d => Fin.ext ?_⟩
  match d with
  | ⟨0, _⟩ => show a.val = win0_4.index ⟨_, ht⟩ 0 * 128 + 1 * (a.val % 128); rw [e0]; exact e.symm
  | ⟨1, _⟩ => show b.val = win0_4.index ⟨_, ht⟩ 1 * 128 + 1 * b.val; rw [e1]; omega

/-- The arrays that the call leaves. -/
theorem final_eq : (dats m 0 c).arrAt 4 cfg0.N = delta (wt m c) (gr m c) (m1 m c) (m2 m c)
    ∧ (dats m 0 c).arrAt 5 cfg0.N = newM (gr m c) (m1 m c) ∧ (dats m 0 c).arrAt 6 cfg0.N = newV (gr m c) (m2 m c) := by
  refine ⟨(dats m 0 c).arrAt_eq_of_cover 4 _ (fun t _ => ?_) (fun i => ?_), (dats m 0 c).arrAt_eq_of_cover 5 _ (fun t _ => ?_) (fun i => ?_),
    (dats m 0 c).arrAt_eq_of_cover 6 _ (fun t _ => ?_) (fun i => ?_)⟩
  · rw [flushed4, (out_eq _ _ _ _).1]
    exact funext fun y => delta_at rfl rfl rfl rfl
  · obtain ⟨t, y, rfl⟩ := cover i
    exact ⟨t, flush0_4 _, View.emb_mem_set _ _⟩
  · rw [flushed5, (out_eq _ _ _ _).2.1]
    exact funext fun y => newM_at rfl rfl
  · obtain ⟨t, y, rfl⟩ := cover i
    exact ⟨t, flush0_5 _, View.emb_mem_set _ _⟩
  · rw [flushed6, (out_eq _ _ _ _).2.2]
    exact funext fun y => newV_at rfl rfl
  · obtain ⟨t, y, rfl⟩ := cover i
    exact ⟨t, flush0_6 _, View.emb_mem_set _ _⟩

/-- The arrays are the arguments, laid out as rows. -/
theorem rows_eq : wt m c = shapeCast _ (m ((c : Thread nD τ).loc main_arg0)) shapeCasts_S4x64x64_S128x128
    ∧ gr m c = shapeCast _ (m ((c : Thread nD τ).loc main_arg1)) shapeCasts_S4x64x64_S128x128
    ∧ m1 m c = shapeCast _ (m ((c : Thread nD τ).loc main_arg2)) shapeCasts_S4x64x64_S128x128
    ∧ m2 m c = shapeCast _ (m ((c : Thread nD τ).loc main_arg3)) shapeCasts_S4x64x64_S128x128 := by
  refine ⟨?_, ?_, ?_, ?_⟩ <;>
  · show StableHlo.after hostOps0 _ _ = _
    simp only [hostOps0]
    after_results_simp <;> rfl

end

theorem algebraic : Cert.algebraic_AdamS5AReIdeal_AdamS5AReRefIdeal := by
  intro m g m' g' _ hagree
  refine ⟨fun c => delta (wt m c) (gr m c) (m1 m c) (m2 m c), fun c => newM (gr m c) (m1 m c), fun c => newV (gr m c) (m2 m c), ?_, ?_⟩
  · refine (θ_run Cert.AdamS5AReIdeal.defs _ _).mono (fun r h c => ?_) (Cert.AdamS5AReIdeal.Value.run_blocks m g)
    obtain ⟨hd, hm, hv, h⟩ := h c
    obtain ⟨fd, fm, fv⟩ := final_eq m c
    exact ⟨hd.trans fd, hm.trans fm, hv.trans fv, h⟩
  · refine (θ_run Cert.AdamS5AReRefIdeal.defs _ _).mono (fun r h c => ?_) (Cert.AdamS5AReRefIdeal.Value.run m' g')
    obtain ⟨hd, hm, hv, h⟩ := h c
    obtain ⟨a0, a1, a2, a3⟩ := hagree c
    obtain ⟨e0, e1, e2, e3⟩ := rows_eq m c
    beta_reduce
    rw [e0, e1, e2, e3]
    rw [a0, a1, a2, a3] at hd
    rw [a1, a2] at hm
    rw [a1, a3] at hv
    exact ⟨hd.trans rfl, hm.trans rfl, hv.trans rfl, h⟩

end Cert.AdamS5AReClaim

end
-- ==== Proof.AdamS5AImClaim.lean ====
/-
  AdamW for one device's block of `s5_a_im`, 4 by 64 by 64:
  seen as 128 rows of 128 lanes, which one grid point holds. Each new element depends on the elements at
  the same place alone.
-/
module

public import proofs.«01_k».proof.Proof.AdamStep
public import proofs.«01_k».proof.Proof.Gen.AdamS5AImIdeal.Value
public import proofs.«01_k».proof.Proof.Gen.AdamS5AImRefIdeal.Run
public import proofs.«01_k».proof.Proof.Gen.AdamS5AIm.Frame

@[expose] public section

set_option maxRecDepth 16384

noncomputable section

namespace Cert.AdamS5AImClaim

open Idealize.ShloMosaic Idealize.ShloMosaic.TcCoe Idealize.SL.Sem Cert.AdamStep

theorem frame_kernel : Cert.quiescent_AdamS5AIm := fun m ρ _ => Cert.AdamS5AIm.Gen.frame m ρ

theorem frame_ideal : Cert.quiescent_AdamS5AImIdeal := fun m ρ _ => Cert.AdamS5AImIdeal.Gen.frame m ρ

theorem frame_reference : Cert.quiescent_AdamS5AImRefIdeal := fun m ρ _ =>
  (θ_run Cert.AdamS5AImRefIdeal.defs _ _).mono (fun r h => ⟨fun c => (h c).2.2.2, sem_eq_zero_of_no_sems (by decide) r.2⟩)
    (Cert.AdamS5AImRefIdeal.Value.run m ρ)

section
open Cert.AdamS5AImIdeal Cert.AdamS5AImIdeal.Gen Cert.AdamS5AImIdeal.Value

/-- What a grid point leaves in its three blocks. -/
theorem out_eq (x0 x1 x2 x3 : Vec Ideal S128x128 .f32) :
    out0_4 x0 x1 x2 x3 = delta x0 x1 x2 x3 ∧ out0_5 x0 x1 x2 x3 = newM x1 x2 ∧ out0_6 x0 x1 x2 x3 = newV x1 x3 := by
  unfold out0_4 out0_5 out0_6
  rw [View.canon_unit_zero hz, View.canon_unit_zero hz, View.canon_unit_zero hz]
  simp only [View.ld_unit_zero (S := S128x128) hz]
  unfold k0_pay4 k0_pay3 k0_pay2 k0_pay1
  simp only [shapeCast_self]
  exact ⟨rfl, rfl, rfl⟩

variable (m : (ℓ : Loc nD τ sig) → Buf (Elt Ideal) ℓ) (c : Dev nD)

/-- The weight, the gradient and the moments, as rows. -/
abbrev wt : Vec Ideal S128x128 .f32 := V m c main_v0
abbrev gr : Vec Ideal S128x128 .f32 := V m c main_v1
abbrev m1 : Vec Ideal S128x128 .f32 := V m c main_v2
abbrev m2 : Vec Ideal S128x128 .f32 := V m c main_v3

/-- Point `t` holds the `t`-th block of 128 rows. -/
theorem idx : ∀ t : Fin cfg0.N, win0_4.index t 0 = t.val ∧ win0_4.index t 1 = 0 :=
  (by decide +kernel : ∀ t : Fin grid0.N, win0_4.index t 0 = t.val ∧ win0_4.index t 1 = 0)

/-- Every element lies in some point's block. -/
theorem cover (i : S128x128.Idx) : ∃ (t : Fin cfg0.N) (y : S128x128.Idx), i = ((cfg0.win 4).blk t).view.emb y := by
  obtain ⟨a, b, rfl⟩ : ∃ (a : Fin 128) (b : Fin 128), i = (ix2 a b : S128x128.Idx) := ⟨i 0, i 1, eq_ix2 i⟩
  obtain ⟨ht, hr, e⟩ := row_split (R := 128) (T := 128) (N := cfg0.N) (by decide) (by decide) a
  obtain ⟨e0, e1⟩ := idx ⟨_, ht⟩
  refine ⟨⟨_, ht⟩, ix2 (⟨_, hr⟩ : Fin 128) b, funext fun d => Fin.ext ?_⟩
  match d with
  | ⟨0, _⟩ => show a.val = win0_4.index ⟨_, ht⟩ 0 * 128 + 1 * (a.val % 128); rw [e0]; exact e.symm
  | ⟨1, _⟩ => show b.val = win0_4.index ⟨_, ht⟩ 1 * 128 + 1 * b.val; rw [e1]; omega

/-- The arrays that the call leaves. -/
theorem final_eq : (dats m 0 c).arrAt 4 cfg0.N = delta (wt m c) (gr m c) (m1 m c) (m2 m c)
    ∧ (dats m 0 c).arrAt 5 cfg0.N = newM (gr m c) (m1 m c) ∧ (dats m 0 c).arrAt 6 cfg0.N = newV (gr m c) (m2 m c) := by
  refine ⟨(dats m 0 c).arrAt_eq_of_cover 4 _ (fun t _ => ?_) (fun i => ?_), (dats m 0 c).arrAt_eq_of_cover 5 _ (fun t _ => ?_) (fun i => ?_),
    (dats m 0 c).arrAt_eq_of_cover 6 _ (fun t _ => ?_) (fun i => ?_)⟩
  · rw [flushed4, (out_eq _ _ _ _).1]
    exact funext fun y => delta_at rfl rfl rfl rfl
  · obtain ⟨t, y, rfl⟩ := cover i
    exact ⟨t, flush0_4 _, View.emb_mem_set _ _⟩
  · rw [flushed5, (out_eq _ _ _ _).2.1]
    exact funext fun y => newM_at rfl rfl
  · obtain ⟨t, y, rfl⟩ := cover i
    exact ⟨t, flush0_5 _, View.emb_mem_set _ _⟩
  · rw [flushed6, (out_eq _ _ _ _).2.2]
    exact funext fun y => newV_at rfl rfl
  · obtain ⟨t, y, rfl⟩ := cover i
    exact ⟨t, flush0_6 _, View.emb_mem_set _ _⟩

/-- The arrays are the arguments, laid out as rows. -/
theorem rows_eq : wt m c = shapeCast _ (m ((c : Thread nD τ).loc main_arg0)) shapeCasts_S4x64x64_S128x128
    ∧ gr m c = shapeCast _ (m ((c : Thread nD τ).loc main_arg1)) shapeCasts_S4x64x64_S128x128
    ∧ m1 m c = shapeCast _ (m ((c : Thread nD τ).loc main_arg2)) shapeCasts_S4x64x64_S128x128
    ∧ m2 m c = shapeCast _ (m ((c : Thread nD τ).loc main_arg3)) shapeCasts_S4x64x64_S128x128 := by
  refine ⟨?_, ?_, ?_, ?_⟩ <;>
  · show StableHlo.after hostOps0 _ _ = _
    simp only [hostOps0]
    after_results_simp <;> rfl

end

theorem algebraic : Cert.algebraic_AdamS5AImIdeal_AdamS5AImRefIdeal := by
  intro m g m' g' _ hagree
  refine ⟨fun c => delta (wt m c) (gr m c) (m1 m c) (m2 m c), fun c => newM (gr m c) (m1 m c), fun c => newV (gr m c) (m2 m c), ?_, ?_⟩
  · refine (θ_run Cert.AdamS5AImIdeal.defs _ _).mono (fun r h c => ?_) (Cert.AdamS5AImIdeal.Value.run_blocks m g)
    obtain ⟨hd, hm, hv, h⟩ := h c
    obtain ⟨fd, fm, fv⟩ := final_eq m c
    exact ⟨hd.trans fd, hm.trans fm, hv.trans fv, h⟩
  · refine (θ_run Cert.AdamS5AImRefIdeal.defs _ _).mono (fun r h c => ?_) (Cert.AdamS5AImRefIdeal.Value.run m' g')
    obtain ⟨hd, hm, hv, h⟩ := h c
    obtain ⟨a0, a1, a2, a3⟩ := hagree c
    obtain ⟨e0, e1, e2, e3⟩ := rows_eq m c
    beta_reduce
    rw [e0, e1, e2, e3]
    rw [a0, a1, a2, a3] at hd
    rw [a1, a2] at hm
    rw [a1, a3] at hv
    exact ⟨hd.trans rfl, hm.trans rfl, hv.trans rfl, h⟩

end Cert.AdamS5AImClaim

end
-- ==== Proof.AdamS5LogDtClaim.lean ====
/-
  AdamW for one device's block of `s5_log_dt`, 4 by 64:
  seen as 2 rows of 128 lanes, which one grid point holds. Each new element depends on the elements at
  the same place alone.
-/
module

public import proofs.«01_k».proof.Proof.AdamStep
public import proofs.«01_k».proof.Proof.Gen.AdamS5LogDtIdeal.Value
public import proofs.«01_k».proof.Proof.Gen.AdamS5LogDtRefIdeal.Run
public import proofs.«01_k».proof.Proof.Gen.AdamS5LogDt.Frame

@[expose] public section

set_option maxRecDepth 16384

noncomputable section

namespace Cert.AdamS5LogDtClaim

open Idealize.ShloMosaic Idealize.ShloMosaic.TcCoe Idealize.SL.Sem Cert.AdamStep

theorem frame_kernel : Cert.quiescent_AdamS5LogDt := fun m ρ _ => Cert.AdamS5LogDt.Gen.frame m ρ

theorem frame_ideal : Cert.quiescent_AdamS5LogDtIdeal := fun m ρ _ => Cert.AdamS5LogDtIdeal.Gen.frame m ρ

theorem frame_reference : Cert.quiescent_AdamS5LogDtRefIdeal := fun m ρ _ =>
  (θ_run Cert.AdamS5LogDtRefIdeal.defs _ _).mono (fun r h => ⟨fun c => (h c).2.2.2, sem_eq_zero_of_no_sems (by decide) r.2⟩)
    (Cert.AdamS5LogDtRefIdeal.Value.run m ρ)

section
open Cert.AdamS5LogDtIdeal Cert.AdamS5LogDtIdeal.Gen Cert.AdamS5LogDtIdeal.Value

/-- What a grid point leaves in its three blocks. -/
theorem out_eq (x0 x1 x2 x3 : Vec Ideal S2x128 .f32) :
    out0_4 x0 x1 x2 x3 = delta x0 x1 x2 x3 ∧ out0_5 x0 x1 x2 x3 = newM x1 x2 ∧ out0_6 x0 x1 x2 x3 = newV x1 x3 := by
  unfold out0_4 out0_5 out0_6
  rw [View.canon_unit_zero hz, View.canon_unit_zero hz, View.canon_unit_zero hz]
  simp only [View.ld_unit_zero (S := S2x128) hz]
  unfold k0_pay4 k0_pay3 k0_pay2 k0_pay1
  simp only [shapeCast_self]
  exact ⟨rfl, rfl, rfl⟩

variable (m : (ℓ : Loc nD τ sig) → Buf (Elt Ideal) ℓ) (c : Dev nD)

/-- The weight, the gradient and the moments, as rows. -/
abbrev wt : Vec Ideal S2x128 .f32 := V m c main_v0
abbrev gr : Vec Ideal S2x128 .f32 := V m c main_v1
abbrev m1 : Vec Ideal S2x128 .f32 := V m c main_v2
abbrev m2 : Vec Ideal S2x128 .f32 := V m c main_v3

/-- Point `t` holds the `t`-th block of 2 rows. -/
theorem idx : ∀ t : Fin cfg0.N, win0_4.index t 0 = t.val ∧ win0_4.index t 1 = 0 :=
  (by decide +kernel : ∀ t : Fin grid0.N, win0_4.index t 0 = t.val ∧ win0_4.index t 1 = 0)

/-- Every element lies in some point's block. -/
theorem cover (i : S2x128.Idx) : ∃ (t : Fin cfg0.N) (y : S2x128.Idx), i = ((cfg0.win 4).blk t).view.emb y := by
  obtain ⟨a, b, rfl⟩ : ∃ (a : Fin 2) (b : Fin 128), i = (ix2 a b : S2x128.Idx) := ⟨i 0, i 1, eq_ix2 i⟩
  obtain ⟨ht, hr, e⟩ := row_split (R := 2) (T := 2) (N := cfg0.N) (by decide) (by decide) a
  obtain ⟨e0, e1⟩ := idx ⟨_, ht⟩
  refine ⟨⟨_, ht⟩, ix2 (⟨_, hr⟩ : Fin 2) b, funext fun d => Fin.ext ?_⟩
  match d with
  | ⟨0, _⟩ => show a.val = win0_4.index ⟨_, ht⟩ 0 * 2 + 1 * (a.val % 2); rw [e0]; exact e.symm
  | ⟨1, _⟩ => show b.val = win0_4.index ⟨_, ht⟩ 1 * 128 + 1 * b.val; rw [e1]; omega

/-- The arrays that the call leaves. -/
theorem final_eq : (dats m 0 c).arrAt 4 cfg0.N = delta (wt m c) (gr m c) (m1 m c) (m2 m c)
    ∧ (dats m 0 c).arrAt 5 cfg0.N = newM (gr m c) (m1 m c) ∧ (dats m 0 c).arrAt 6 cfg0.N = newV (gr m c) (m2 m c) := by
  refine ⟨(dats m 0 c).arrAt_eq_of_cover 4 _ (fun t _ => ?_) (fun i => ?_), (dats m 0 c).arrAt_eq_of_cover 5 _ (fun t _ => ?_) (fun i => ?_),
    (dats m 0 c).arrAt_eq_of_cover 6 _ (fun t _ => ?_) (fun i => ?_)⟩
  · rw [flushed4, (out_eq _ _ _ _).1]
    exact funext fun y => delta_at rfl rfl rfl rfl
  · obtain ⟨t, y, rfl⟩ := cover i
    exact ⟨t, flush0_4 _, View.emb_mem_set _ _⟩
  · rw [flushed5, (out_eq _ _ _ _).2.1]
    exact funext fun y => newM_at rfl rfl
  · obtain ⟨t, y, rfl⟩ := cover i
    exact ⟨t, flush0_5 _, View.emb_mem_set _ _⟩
  · rw [flushed6, (out_eq _ _ _ _).2.2]
    exact funext fun y => newV_at rfl rfl
  · obtain ⟨t, y, rfl⟩ := cover i
    exact ⟨t, flush0_6 _, View.emb_mem_set _ _⟩

/-- The arrays are the arguments, laid out as rows. -/
theorem rows_eq : wt m c = shapeCast _ (m ((c : Thread nD τ).loc main_arg0)) shapeCasts_S4x64_S2x128
    ∧ gr m c = shapeCast _ (m ((c : Thread nD τ).loc main_arg1)) shapeCasts_S4x64_S2x128
    ∧ m1 m c = shapeCast _ (m ((c : Thread nD τ).loc main_arg2)) shapeCasts_S4x64_S2x128
    ∧ m2 m c = shapeCast _ (m ((c : Thread nD τ).loc main_arg3)) shapeCasts_S4x64_S2x128 := by
  refine ⟨?_, ?_, ?_, ?_⟩ <;>
  · show StableHlo.after hostOps0 _ _ = _
    simp only [hostOps0]
    after_results_simp <;> rfl

end

theorem algebraic : Cert.algebraic_AdamS5LogDtIdeal_AdamS5LogDtRefIdeal := by
  intro m g m' g' _ hagree
  refine ⟨fun c => delta (wt m c) (gr m c) (m1 m c) (m2 m c), fun c => newM (gr m c) (m1 m c), fun c => newV (gr m c) (m2 m c), ?_, ?_⟩
  · refine (θ_run Cert.AdamS5LogDtIdeal.defs _ _).mono (fun r h c => ?_) (Cert.AdamS5LogDtIdeal.Value.run_blocks m g)
    obtain ⟨hd, hm, hv, h⟩ := h c
    obtain ⟨fd, fm, fv⟩ := final_eq m c
    exact ⟨hd.trans fd, hm.trans fm, hv.trans fv, h⟩
  · refine (θ_run Cert.AdamS5LogDtRefIdeal.defs _ _).mono (fun r h c => ?_) (Cert.AdamS5LogDtRefIdeal.Value.run m' g')
    obtain ⟨hd, hm, hv, h⟩ := h c
    obtain ⟨a0, a1, a2, a3⟩ := hagree c
    obtain ⟨e0, e1, e2, e3⟩ := rows_eq m c
    beta_reduce
    rw [e0, e1, e2, e3]
    rw [a0, a1, a2, a3] at hd
    rw [a1, a2] at hm
    rw [a1, a3] at hv
    exact ⟨hd.trans rfl, hm.trans rfl, hv.trans rfl, h⟩

end Cert.AdamS5LogDtClaim

end
-- ==== Proof.AdamS5BReClaim.lean ====
/-
  AdamW for one device's block of `s5_b_re`, 4 by 64 by 64 by 16:
  seen as 2048 rows of 128 lanes, which one grid point holds. Each new element depends on the elements at
  the same place alone.
-/
module

public import proofs.«01_k».proof.Proof.AdamStep
public import proofs.«01_k».proof.Proof.Gen.AdamS5BReIdeal.Value
public import proofs.«01_k».proof.Proof.Gen.AdamS5BReRefIdeal.Run
public import proofs.«01_k».proof.Proof.Gen.AdamS5BRe.Frame

@[expose] public section

set_option maxRecDepth 16384

noncomputable section

namespace Cert.AdamS5BReClaim

open Idealize.ShloMosaic Idealize.ShloMosaic.TcCoe Idealize.SL.Sem Cert.AdamStep

theorem frame_kernel : Cert.quiescent_AdamS5BRe := fun m ρ _ => Cert.AdamS5BRe.Gen.frame m ρ

theorem frame_ideal : Cert.quiescent_AdamS5BReIdeal := fun m ρ _ => Cert.AdamS5BReIdeal.Gen.frame m ρ

theorem frame_reference : Cert.quiescent_AdamS5BReRefIdeal := fun m ρ _ =>
  (θ_run Cert.AdamS5BReRefIdeal.defs _ _).mono (fun r h => ⟨fun c => (h c).2.2.2, sem_eq_zero_of_no_sems (by decide) r.2⟩)
    (Cert.AdamS5BReRefIdeal.Value.run m ρ)

section
open Cert.AdamS5BReIdeal Cert.AdamS5BReIdeal.Gen Cert.AdamS5BReIdeal.Value

/-- What a grid point leaves in its three blocks. -/
theorem out_eq (x0 x1 x2 x3 : Vec Ideal S2048x128 .f32) :
    out0_4 x0 x1 x2 x3 = delta x0 x1 x2 x3 ∧ out0_5 x0 x1 x2 x3 = newM x1 x2 ∧ out0_6 x0 x1 x2 x3 = newV x1 x3 := by
  unfold out0_4 out0_5 out0_6
  rw [View.canon_unit_zero hz, View.canon_unit_zero hz, View.canon_unit_zero hz]
  simp only [View.ld_unit_zero (S := S2048x128) hz]
  unfold k0_pay4 k0_pay3 k0_pay2 k0_pay1
  simp only [shapeCast_self]
  exact ⟨rfl, rfl, rfl⟩

variable (m : (ℓ : Loc nD τ sig) → Buf (Elt Ideal) ℓ) (c : Dev nD)

/-- The weight, the gradient and the moments, as rows. -/
abbrev wt : Vec Ideal S2048x128 .f32 := V m c main_v0
abbrev gr : Vec Ideal S2048x128 .f32 := V m c main_v1
abbrev m1 : Vec Ideal S2048x128 .f32 := V m c main_v2
abbrev m2 : Vec Ideal S2048x128 .f32 := V m c main_v3

/-- Point `t` holds the `t`-th block of 2048 rows. -/
theorem idx : ∀ t : Fin cfg0.N, win0_4.index t 0 = t.val ∧ win0_4.index t 1 = 0 :=
  (by decide +kernel : ∀ t : Fin grid0.N, win0_4.index t 0 = t.val ∧ win0_4.index t 1 = 0)

/-- Every element lies in some point's block. -/
theorem cover (i : S2048x128.Idx) : ∃ (t : Fin cfg0.N) (y : S2048x128.Idx), i = ((cfg0.win 4).blk t).view.emb y := by
  obtain ⟨a, b, rfl⟩ : ∃ (a : Fin 2048) (b : Fin 128), i = (ix2 a b : S2048x128.Idx) := ⟨i 0, i 1, eq_ix2 i⟩
  obtain ⟨ht, hr, e⟩ := row_split (R := 2048) (T := 2048) (N := cfg0.N) (by decide) (by decide) a
  obtain ⟨e0, e1⟩ := idx ⟨_, ht⟩
  refine ⟨⟨_, ht⟩, ix2 (⟨_, hr⟩ : Fin 2048) b, funext fun d => Fin.ext ?_⟩
  match d with
  | ⟨0, _⟩ => show a.val = win0_4.index ⟨_, ht⟩ 0 * 2048 + 1 * (a.val % 2048); rw [e0]; exact e.symm
  | ⟨1, _⟩ => show b.val = win0_4.index ⟨_, ht⟩ 1 * 128 + 1 * b.val; rw [e1]; omega

/-- The arrays that the call leaves. -/
theorem final_eq : (dats m 0 c).arrAt 4 cfg0.N = delta (wt m c) (gr m c) (m1 m c) (m2 m c)
    ∧ (dats m 0 c).arrAt 5 cfg0.N = newM (gr m c) (m1 m c) ∧ (dats m 0 c).arrAt 6 cfg0.N = newV (gr m c) (m2 m c) := by
  refine ⟨(dats m 0 c).arrAt_eq_of_cover 4 _ (fun t _ => ?_) (fun i => ?_), (dats m 0 c).arrAt_eq_of_cover 5 _ (fun t _ => ?_) (fun i => ?_),
    (dats m 0 c).arrAt_eq_of_cover 6 _ (fun t _ => ?_) (fun i => ?_)⟩
  · rw [flushed4, (out_eq _ _ _ _).1]
    exact funext fun y => delta_at rfl rfl rfl rfl
  · obtain ⟨t, y, rfl⟩ := cover i
    exact ⟨t, flush0_4 _, View.emb_mem_set _ _⟩
  · rw [flushed5, (out_eq _ _ _ _).2.1]
    exact funext fun y => newM_at rfl rfl
  · obtain ⟨t, y, rfl⟩ := cover i
    exact ⟨t, flush0_5 _, View.emb_mem_set _ _⟩
  · rw [flushed6, (out_eq _ _ _ _).2.2]
    exact funext fun y => newV_at rfl rfl
  · obtain ⟨t, y, rfl⟩ := cover i
    exact ⟨t, flush0_6 _, View.emb_mem_set _ _⟩

/-- The arrays are the arguments, laid out as rows. -/
theorem rows_eq : wt m c = shapeCast _ (m ((c : Thread nD τ).loc main_arg0)) shapeCasts_S4x64x64x16_S2048x128
    ∧ gr m c = shapeCast _ (m ((c : Thread nD τ).loc main_arg1)) shapeCasts_S4x64x64x16_S2048x128
    ∧ m1 m c = shapeCast _ (m ((c : Thread nD τ).loc main_arg2)) shapeCasts_S4x64x64x16_S2048x128
    ∧ m2 m c = shapeCast _ (m ((c : Thread nD τ).loc main_arg3)) shapeCasts_S4x64x64x16_S2048x128 := by
  refine ⟨?_, ?_, ?_, ?_⟩ <;>
  · show StableHlo.after hostOps0 _ _ = _
    simp only [hostOps0]
    after_results_simp <;> rfl

end

theorem algebraic : Cert.algebraic_AdamS5BReIdeal_AdamS5BReRefIdeal := by
  intro m g m' g' _ hagree
  refine ⟨fun c => delta (wt m c) (gr m c) (m1 m c) (m2 m c), fun c => newM (gr m c) (m1 m c), fun c => newV (gr m c) (m2 m c), ?_, ?_⟩
  · refine (θ_run Cert.AdamS5BReIdeal.defs _ _).mono (fun r h c => ?_) (Cert.AdamS5BReIdeal.Value.run_blocks m g)
    obtain ⟨hd, hm, hv, h⟩ := h c
    obtain ⟨fd, fm, fv⟩ := final_eq m c
    exact ⟨hd.trans fd, hm.trans fm, hv.trans fv, h⟩
  · refine (θ_run Cert.AdamS5BReRefIdeal.defs _ _).mono (fun r h c => ?_) (Cert.AdamS5BReRefIdeal.Value.run m' g')
    obtain ⟨hd, hm, hv, h⟩ := h c
    obtain ⟨a0, a1, a2, a3⟩ := hagree c
    obtain ⟨e0, e1, e2, e3⟩ := rows_eq m c
    beta_reduce
    rw [e0, e1, e2, e3]
    rw [a0, a1, a2, a3] at hd
    rw [a1, a2] at hm
    rw [a1, a3] at hv
    exact ⟨hd.trans rfl, hm.trans rfl, hv.trans rfl, h⟩

end Cert.AdamS5BReClaim

end
-- ==== Proof.AdamS5BImClaim.lean ====
/-
  AdamW for one device's block of `s5_b_im`, 4 by 64 by 64 by 16:
  seen as 2048 rows of 128 lanes, which one grid point holds. Each new element depends on the elements at
  the same place alone.
-/
module

public import proofs.«01_k».proof.Proof.AdamStep
public import proofs.«01_k».proof.Proof.Gen.AdamS5BImIdeal.Value
public import proofs.«01_k».proof.Proof.Gen.AdamS5BImRefIdeal.Run
public import proofs.«01_k».proof.Proof.Gen.AdamS5BIm.Frame

@[expose] public section

set_option maxRecDepth 16384

noncomputable section

namespace Cert.AdamS5BImClaim

open Idealize.ShloMosaic Idealize.ShloMosaic.TcCoe Idealize.SL.Sem Cert.AdamStep

theorem frame_kernel : Cert.quiescent_AdamS5BIm := fun m ρ _ => Cert.AdamS5BIm.Gen.frame m ρ

theorem frame_ideal : Cert.quiescent_AdamS5BImIdeal := fun m ρ _ => Cert.AdamS5BImIdeal.Gen.frame m ρ

theorem frame_reference : Cert.quiescent_AdamS5BImRefIdeal := fun m ρ _ =>
  (θ_run Cert.AdamS5BImRefIdeal.defs _ _).mono (fun r h => ⟨fun c => (h c).2.2.2, sem_eq_zero_of_no_sems (by decide) r.2⟩)
    (Cert.AdamS5BImRefIdeal.Value.run m ρ)

section
open Cert.AdamS5BImIdeal Cert.AdamS5BImIdeal.Gen Cert.AdamS5BImIdeal.Value

/-- What a grid point leaves in its three blocks. -/
theorem out_eq (x0 x1 x2 x3 : Vec Ideal S2048x128 .f32) :
    out0_4 x0 x1 x2 x3 = delta x0 x1 x2 x3 ∧ out0_5 x0 x1 x2 x3 = newM x1 x2 ∧ out0_6 x0 x1 x2 x3 = newV x1 x3 := by
  unfold out0_4 out0_5 out0_6
  rw [View.canon_unit_zero hz, View.canon_unit_zero hz, View.canon_unit_zero hz]
  simp only [View.ld_unit_zero (S := S2048x128) hz]
  unfold k0_pay4 k0_pay3 k0_pay2 k0_pay1
  simp only [shapeCast_self]
  exact ⟨rfl, rfl, rfl⟩

variable (m : (ℓ : Loc nD τ sig) → Buf (Elt Ideal) ℓ) (c : Dev nD)

/-- The weight, the gradient and the moments, as rows. -/
abbrev wt : Vec Ideal S2048x128 .f32 := V m c main_v0
abbrev gr : Vec Ideal S2048x128 .f32 := V m c main_v1
abbrev m1 : Vec Ideal S2048x128 .f32 := V m c main_v2
abbrev m2 : Vec Ideal S2048x128 .f32 := V m c main_v3

/-- Point `t` holds the `t`-th block of 2048 rows. -/
theorem idx : ∀ t : Fin cfg0.N, win0_4.index t 0 = t.val ∧ win0_4.index t 1 = 0 :=
  (by decide +kernel : ∀ t : Fin grid0.N, win0_4.index t 0 = t.val ∧ win0_4.index t 1 = 0)

/-- Every element lies in some point's block. -/
theorem cover (i : S2048x128.Idx) : ∃ (t : Fin cfg0.N) (y : S2048x128.Idx), i = ((cfg0.win 4).blk t).view.emb y := by
  obtain ⟨a, b, rfl⟩ : ∃ (a : Fin 2048) (b : Fin 128), i = (ix2 a b : S2048x128.Idx) := ⟨i 0, i 1, eq_ix2 i⟩
  obtain ⟨ht, hr, e⟩ := row_split (R := 2048) (T := 2048) (N := cfg0.N) (by decide) (by decide) a
  obtain ⟨e0, e1⟩ := idx ⟨_, ht⟩
  refine ⟨⟨_, ht⟩, ix2 (⟨_, hr⟩ : Fin 2048) b, funext fun d => Fin.ext ?_⟩
  match d with
  | ⟨0, _⟩ => show a.val = win0_4.index ⟨_, ht⟩ 0 * 2048 + 1 * (a.val % 2048); rw [e0]; exact e.symm
  | ⟨1, _⟩ => show b.val = win0_4.index ⟨_, ht⟩ 1 * 128 + 1 * b.val; rw [e1]; omega

/-- The arrays that the call leaves. -/
theorem final_eq : (dats m 0 c).arrAt 4 cfg0.N = delta (wt m c) (gr m c) (m1 m c) (m2 m c)
    ∧ (dats m 0 c).arrAt 5 cfg0.N = newM (gr m c) (m1 m c) ∧ (dats m 0 c).arrAt 6 cfg0.N = newV (gr m c) (m2 m c) := by
  refine ⟨(dats m 0 c).arrAt_eq_of_cover 4 _ (fun t _ => ?_) (fun i => ?_), (dats m 0 c).arrAt_eq_of_cover 5 _ (fun t _ => ?_) (fun i => ?_),
    (dats m 0 c).arrAt_eq_of_cover 6 _ (fun t _ => ?_) (fun i => ?_)⟩
  · rw [flushed4, (out_eq _ _ _ _).1]
    exact funext fun y => delta_at rfl rfl rfl rfl
  · obtain ⟨t, y, rfl⟩ := cover i
    exact ⟨t, flush0_4 _, View.emb_mem_set _ _⟩
  · rw [flushed5, (out_eq _ _ _ _).2.1]
    exact funext fun y => newM_at rfl rfl
  · obtain ⟨t, y, rfl⟩ := cover i
    exact ⟨t, flush0_5 _, View.emb_mem_set _ _⟩
  · rw [flushed6, (out_eq _ _ _ _).2.2]
    exact funext fun y => newV_at rfl rfl
  · obtain ⟨t, y, rfl⟩ := cover i
    exact ⟨t, flush0_6 _, View.emb_mem_set _ _⟩

/-- The arrays are the arguments, laid out as rows. -/
theorem rows_eq : wt m c = shapeCast _ (m ((c : Thread nD τ).loc main_arg0)) shapeCasts_S4x64x64x16_S2048x128
    ∧ gr m c = shapeCast _ (m ((c : Thread nD τ).loc main_arg1)) shapeCasts_S4x64x64x16_S2048x128
    ∧ m1 m c = shapeCast _ (m ((c : Thread nD τ).loc main_arg2)) shapeCasts_S4x64x64x16_S2048x128
    ∧ m2 m c = shapeCast _ (m ((c : Thread nD τ).loc main_arg3)) shapeCasts_S4x64x64x16_S2048x128 := by
  refine ⟨?_, ?_, ?_, ?_⟩ <;>
  · show StableHlo.after hostOps0 _ _ = _
    simp only [hostOps0]
    after_results_simp <;> rfl

end

theorem algebraic : Cert.algebraic_AdamS5BImIdeal_AdamS5BImRefIdeal := by
  intro m g m' g' _ hagree
  refine ⟨fun c => delta (wt m c) (gr m c) (m1 m c) (m2 m c), fun c => newM (gr m c) (m1 m c), fun c => newV (gr m c) (m2 m c), ?_, ?_⟩
  · refine (θ_run Cert.AdamS5BImIdeal.defs _ _).mono (fun r h c => ?_) (Cert.AdamS5BImIdeal.Value.run_blocks m g)
    obtain ⟨hd, hm, hv, h⟩ := h c
    obtain ⟨fd, fm, fv⟩ := final_eq m c
    exact ⟨hd.trans fd, hm.trans fm, hv.trans fv, h⟩
  · refine (θ_run Cert.AdamS5BImRefIdeal.defs _ _).mono (fun r h c => ?_) (Cert.AdamS5BImRefIdeal.Value.run m' g')
    obtain ⟨hd, hm, hv, h⟩ := h c
    obtain ⟨a0, a1, a2, a3⟩ := hagree c
    obtain ⟨e0, e1, e2, e3⟩ := rows_eq m c
    beta_reduce
    rw [e0, e1, e2, e3]
    rw [a0, a1, a2, a3] at hd
    rw [a1, a2] at hm
    rw [a1, a3] at hv
    exact ⟨hd.trans rfl, hm.trans rfl, hv.trans rfl, h⟩

end Cert.AdamS5BImClaim

end
-- ==== Proof.AdamS5CReClaim.lean ====
/-
  AdamW for one device's block of `s5_c_re`, 4 by 64 by 16 by 64:
  seen as 2048 rows of 128 lanes, which one grid point holds. Each new element depends on the elements at
  the same place alone.
-/
module

public import proofs.«01_k».proof.Proof.AdamStep
public import proofs.«01_k».proof.Proof.Gen.AdamS5CReIdeal.Value
public import proofs.«01_k».proof.Proof.Gen.AdamS5CReRefIdeal.Run
public import proofs.«01_k».proof.Proof.Gen.AdamS5CRe.Frame

@[expose] public section

set_option maxRecDepth 16384

noncomputable section

namespace Cert.AdamS5CReClaim

open Idealize.ShloMosaic Idealize.ShloMosaic.TcCoe Idealize.SL.Sem Cert.AdamStep

theorem frame_kernel : Cert.quiescent_AdamS5CRe := fun m ρ _ => Cert.AdamS5CRe.Gen.frame m ρ

theorem frame_ideal : Cert.quiescent_AdamS5CReIdeal := fun m ρ _ => Cert.AdamS5CReIdeal.Gen.frame m ρ

theorem frame_reference : Cert.quiescent_AdamS5CReRefIdeal := fun m ρ _ =>
  (θ_run Cert.AdamS5CReRefIdeal.defs _ _).mono (fun r h => ⟨fun c => (h c).2.2.2, sem_eq_zero_of_no_sems (by decide) r.2⟩)
    (Cert.AdamS5CReRefIdeal.Value.run m ρ)

section
open Cert.AdamS5CReIdeal Cert.AdamS5CReIdeal.Gen Cert.AdamS5CReIdeal.Value

/-- What a grid point leaves in its three blocks. -/
theorem out_eq (x0 x1 x2 x3 : Vec Ideal S2048x128 .f32) :
    out0_4 x0 x1 x2 x3 = delta x0 x1 x2 x3 ∧ out0_5 x0 x1 x2 x3 = newM x1 x2 ∧ out0_6 x0 x1 x2 x3 = newV x1 x3 := by
  unfold out0_4 out0_5 out0_6
  rw [View.canon_unit_zero hz, View.canon_unit_zero hz, View.canon_unit_zero hz]
  simp only [View.ld_unit_zero (S := S2048x128) hz]
  unfold k0_pay4 k0_pay3 k0_pay2 k0_pay1
  simp only [shapeCast_self]
  exact ⟨rfl, rfl, rfl⟩

variable (m : (ℓ : Loc nD τ sig) → Buf (Elt Ideal) ℓ) (c : Dev nD)

/-- The weight, the gradient and the moments, as rows. -/
abbrev wt : Vec Ideal S2048x128 .f32 := V m c main_v0
abbrev gr : Vec Ideal S2048x128 .f32 := V m c main_v1
abbrev m1 : Vec Ideal S2048x128 .f32 := V m c main_v2
abbrev m2 : Vec Ideal S2048x128 .f32 := V m c main_v3

/-- Point `t` holds the `t`-th block of 2048 rows. -/
theorem idx : ∀ t : Fin cfg0.N, win0_4.index t 0 = t.val ∧ win0_4.index t 1 = 0 :=
  (by decide +kernel : ∀ t : Fin grid0.N, win0_4.index t 0 = t.val ∧ win0_4.index t 1 = 0)

/-- Every element lies in some point's block. -/
theorem cover (i : S2048x128.Idx) : ∃ (t : Fin cfg0.N) (y : S2048x128.Idx), i = ((cfg0.win 4).blk t).view.emb y := by
  obtain ⟨a, b, rfl⟩ : ∃ (a : Fin 2048) (b : Fin 128), i = (ix2 a b : S2048x128.Idx) := ⟨i 0, i 1, eq_ix2 i⟩
  obtain ⟨ht, hr, e⟩ := row_split (R := 2048) (T := 2048) (N := cfg0.N) (by decide) (by decide) a
  obtain ⟨e0, e1⟩ := idx ⟨_, ht⟩
  refine ⟨⟨_, ht⟩, ix2 (⟨_, hr⟩ : Fin 2048) b, funext fun d => Fin.ext ?_⟩
  match d with
  | ⟨0, _⟩ => show a.val = win0_4.index ⟨_, ht⟩ 0 * 2048 + 1 * (a.val % 2048); rw [e0]; exact e.symm
  | ⟨1, _⟩ => show b.val = win0_4.index ⟨_, ht⟩ 1 * 128 + 1 * b.val; rw [e1]; omega

/-- The arrays that the call leaves. -/
theorem final_eq : (dats m 0 c).arrAt 4 cfg0.N = delta (wt m c) (gr m c) (m1 m c) (m2 m c)
    ∧ (dats m 0 c).arrAt 5 cfg0.N = newM (gr m c) (m1 m c) ∧ (dats m 0 c).arrAt 6 cfg0.N = newV (gr m c) (m2 m c) := by
  refine ⟨(dats m 0 c).arrAt_eq_of_cover 4 _ (fun t _ => ?_) (fun i => ?_), (dats m 0 c).arrAt_eq_of_cover 5 _ (fun t _ => ?_) (fun i => ?_),
    (dats m 0 c).arrAt_eq_of_cover 6 _ (fun t _ => ?_) (fun i => ?_)⟩
  · rw [flushed4, (out_eq _ _ _ _).1]
    exact funext fun y => delta_at rfl rfl rfl rfl
  · obtain ⟨t, y, rfl⟩ := cover i
    exact ⟨t, flush0_4 _, View.emb_mem_set _ _⟩
  · rw [flushed5, (out_eq _ _ _ _).2.1]
    exact funext fun y => newM_at rfl rfl
  · obtain ⟨t, y, rfl⟩ := cover i
    exact ⟨t, flush0_5 _, View.emb_mem_set _ _⟩
  · rw [flushed6, (out_eq _ _ _ _).2.2]
    exact funext fun y => newV_at rfl rfl
  · obtain ⟨t, y, rfl⟩ := cover i
    exact ⟨t, flush0_6 _, View.emb_mem_set _ _⟩

/-- The arrays are the arguments, laid out as rows. -/
theorem rows_eq : wt m c = shapeCast _ (m ((c : Thread nD τ).loc main_arg0)) shapeCasts_S4x64x16x64_S2048x128
    ∧ gr m c = shapeCast _ (m ((c : Thread nD τ).loc main_arg1)) shapeCasts_S4x64x16x64_S2048x128
    ∧ m1 m c = shapeCast _ (m ((c : Thread nD τ).loc main_arg2)) shapeCasts_S4x64x16x64_S2048x128
    ∧ m2 m c = shapeCast _ (m ((c : Thread nD τ).loc main_arg3)) shapeCasts_S4x64x16x64_S2048x128 := by
  refine ⟨?_, ?_, ?_, ?_⟩ <;>
  · show StableHlo.after hostOps0 _ _ = _
    simp only [hostOps0]
    after_results_simp <;> rfl

end

theorem algebraic : Cert.algebraic_AdamS5CReIdeal_AdamS5CReRefIdeal := by
  intro m g m' g' _ hagree
  refine ⟨fun c => delta (wt m c) (gr m c) (m1 m c) (m2 m c), fun c => newM (gr m c) (m1 m c), fun c => newV (gr m c) (m2 m c), ?_, ?_⟩
  · refine (θ_run Cert.AdamS5CReIdeal.defs _ _).mono (fun r h c => ?_) (Cert.AdamS5CReIdeal.Value.run_blocks m g)
    obtain ⟨hd, hm, hv, h⟩ := h c
    obtain ⟨fd, fm, fv⟩ := final_eq m c
    exact ⟨hd.trans fd, hm.trans fm, hv.trans fv, h⟩
  · refine (θ_run Cert.AdamS5CReRefIdeal.defs _ _).mono (fun r h c => ?_) (Cert.AdamS5CReRefIdeal.Value.run m' g')
    obtain ⟨hd, hm, hv, h⟩ := h c
    obtain ⟨a0, a1, a2, a3⟩ := hagree c
    obtain ⟨e0, e1, e2, e3⟩ := rows_eq m c
    beta_reduce
    rw [e0, e1, e2, e3]
    rw [a0, a1, a2, a3] at hd
    rw [a1, a2] at hm
    rw [a1, a3] at hv
    exact ⟨hd.trans rfl, hm.trans rfl, hv.trans rfl, h⟩

end Cert.AdamS5CReClaim

end
-- ==== Proof.AdamS5CImClaim.lean ====
/-
  AdamW for one device's block of `s5_c_im`, 4 by 64 by 16 by 64:
  seen as 2048 rows of 128 lanes, which one grid point holds. Each new element depends on the elements at
  the same place alone.
-/
module

public import proofs.«01_k».proof.Proof.AdamStep
public import proofs.«01_k».proof.Proof.Gen.AdamS5CImIdeal.Value
public import proofs.«01_k».proof.Proof.Gen.AdamS5CImRefIdeal.Run
public import proofs.«01_k».proof.Proof.Gen.AdamS5CIm.Frame

@[expose] public section

set_option maxRecDepth 16384

noncomputable section

namespace Cert.AdamS5CImClaim

open Idealize.ShloMosaic Idealize.ShloMosaic.TcCoe Idealize.SL.Sem Cert.AdamStep

theorem frame_kernel : Cert.quiescent_AdamS5CIm := fun m ρ _ => Cert.AdamS5CIm.Gen.frame m ρ

theorem frame_ideal : Cert.quiescent_AdamS5CImIdeal := fun m ρ _ => Cert.AdamS5CImIdeal.Gen.frame m ρ

theorem frame_reference : Cert.quiescent_AdamS5CImRefIdeal := fun m ρ _ =>
  (θ_run Cert.AdamS5CImRefIdeal.defs _ _).mono (fun r h => ⟨fun c => (h c).2.2.2, sem_eq_zero_of_no_sems (by decide) r.2⟩)
    (Cert.AdamS5CImRefIdeal.Value.run m ρ)

section
open Cert.AdamS5CImIdeal Cert.AdamS5CImIdeal.Gen Cert.AdamS5CImIdeal.Value

/-- What a grid point leaves in its three blocks. -/
theorem out_eq (x0 x1 x2 x3 : Vec Ideal S2048x128 .f32) :
    out0_4 x0 x1 x2 x3 = delta x0 x1 x2 x3 ∧ out0_5 x0 x1 x2 x3 = newM x1 x2 ∧ out0_6 x0 x1 x2 x3 = newV x1 x3 := by
  unfold out0_4 out0_5 out0_6
  rw [View.canon_unit_zero hz, View.canon_unit_zero hz, View.canon_unit_zero hz]
  simp only [View.ld_unit_zero (S := S2048x128) hz]
  unfold k0_pay4 k0_pay3 k0_pay2 k0_pay1
  simp only [shapeCast_self]
  exact ⟨rfl, rfl, rfl⟩

variable (m : (ℓ : Loc nD τ sig) → Buf (Elt Ideal) ℓ) (c : Dev nD)

/-- The weight, the gradient and the moments, as rows. -/
abbrev wt : Vec Ideal S2048x128 .f32 := V m c main_v0
abbrev gr : Vec Ideal S2048x128 .f32 := V m c main_v1
abbrev m1 : Vec Ideal S2048x128 .f32 := V m c main_v2
abbrev m2 : Vec Ideal S2048x128 .f32 := V m c main_v3

/-- Point `t` holds the `t`-th block of 2048 rows. -/
theorem idx : ∀ t : Fin cfg0.N, win0_4.index t 0 = t.val ∧ win0_4.index t 1 = 0 :=
  (by decide +kernel : ∀ t : Fin grid0.N, win0_4.index t 0 = t.val ∧ win0_4.index t 1 = 0)

/-- Every element lies in some point's block. -/
theorem cover (i : S2048x128.Idx) : ∃ (t : Fin cfg0.N) (y : S2048x128.Idx), i = ((cfg0.win 4).blk t).view.emb y := by
  obtain ⟨a, b, rfl⟩ : ∃ (a : Fin 2048) (b : Fin 128), i = (ix2 a b : S2048x128.Idx) := ⟨i 0, i 1, eq_ix2 i⟩
  obtain ⟨ht, hr, e⟩ := row_split (R := 2048) (T := 2048) (N := cfg0.N) (by decide) (by decide) a
  obtain ⟨e0, e1⟩ := idx ⟨_, ht⟩
  refine ⟨⟨_, ht⟩, ix2 (⟨_, hr⟩ : Fin 2048) b, funext fun d => Fin.ext ?_⟩
  match d with
  | ⟨0, _⟩ => show a.val = win0_4.index ⟨_, ht⟩ 0 * 2048 + 1 * (a.val % 2048); rw [e0]; exact e.symm
  | ⟨1, _⟩ => show b.val = win0_4.index ⟨_, ht⟩ 1 * 128 + 1 * b.val; rw [e1]; omega

/-- The arrays that the call leaves. -/
theorem final_eq : (dats m 0 c).arrAt 4 cfg0.N = delta (wt m c) (gr m c) (m1 m c) (m2 m c)
    ∧ (dats m 0 c).arrAt 5 cfg0.N = newM (gr m c) (m1 m c) ∧ (dats m 0 c).arrAt 6 cfg0.N = newV (gr m c) (m2 m c) := by
  refine ⟨(dats m 0 c).arrAt_eq_of_cover 4 _ (fun t _ => ?_) (fun i => ?_), (dats m 0 c).arrAt_eq_of_cover 5 _ (fun t _ => ?_) (fun i => ?_),
    (dats m 0 c).arrAt_eq_of_cover 6 _ (fun t _ => ?_) (fun i => ?_)⟩
  · rw [flushed4, (out_eq _ _ _ _).1]
    exact funext fun y => delta_at rfl rfl rfl rfl
  · obtain ⟨t, y, rfl⟩ := cover i
    exact ⟨t, flush0_4 _, View.emb_mem_set _ _⟩
  · rw [flushed5, (out_eq _ _ _ _).2.1]
    exact funext fun y => newM_at rfl rfl
  · obtain ⟨t, y, rfl⟩ := cover i
    exact ⟨t, flush0_5 _, View.emb_mem_set _ _⟩
  · rw [flushed6, (out_eq _ _ _ _).2.2]
    exact funext fun y => newV_at rfl rfl
  · obtain ⟨t, y, rfl⟩ := cover i
    exact ⟨t, flush0_6 _, View.emb_mem_set _ _⟩

/-- The arrays are the arguments, laid out as rows. -/
theorem rows_eq : wt m c = shapeCast _ (m ((c : Thread nD τ).loc main_arg0)) shapeCasts_S4x64x16x64_S2048x128
    ∧ gr m c = shapeCast _ (m ((c : Thread nD τ).loc main_arg1)) shapeCasts_S4x64x16x64_S2048x128
    ∧ m1 m c = shapeCast _ (m ((c : Thread nD τ).loc main_arg2)) shapeCasts_S4x64x16x64_S2048x128
    ∧ m2 m c = shapeCast _ (m ((c : Thread nD τ).loc main_arg3)) shapeCasts_S4x64x16x64_S2048x128 := by
  refine ⟨?_, ?_, ?_, ?_⟩ <;>
  · show StableHlo.after hostOps0 _ _ = _
    simp only [hostOps0]
    after_results_simp <;> rfl

end

theorem algebraic : Cert.algebraic_AdamS5CImIdeal_AdamS5CImRefIdeal := by
  intro m g m' g' _ hagree
  refine ⟨fun c => delta (wt m c) (gr m c) (m1 m c) (m2 m c), fun c => newM (gr m c) (m1 m c), fun c => newV (gr m c) (m2 m c), ?_, ?_⟩
  · refine (θ_run Cert.AdamS5CImIdeal.defs _ _).mono (fun r h c => ?_) (Cert.AdamS5CImIdeal.Value.run_blocks m g)
    obtain ⟨hd, hm, hv, h⟩ := h c
    obtain ⟨fd, fm, fv⟩ := final_eq m c
    exact ⟨hd.trans fd, hm.trans fm, hv.trans fv, h⟩
  · refine (θ_run Cert.AdamS5CImRefIdeal.defs _ _).mono (fun r h c => ?_) (Cert.AdamS5CImRefIdeal.Value.run m' g')
    obtain ⟨hd, hm, hv, h⟩ := h c
    obtain ⟨a0, a1, a2, a3⟩ := hagree c
    obtain ⟨e0, e1, e2, e3⟩ := rows_eq m c
    beta_reduce
    rw [e0, e1, e2, e3]
    rw [a0, a1, a2, a3] at hd
    rw [a1, a2] at hm
    rw [a1, a3] at hv
    exact ⟨hd.trans rfl, hm.trans rfl, hv.trans rfl, h⟩

end Cert.AdamS5CImClaim

end
-- ==== Proof.AdamS5DClaim.lean ====
/-
  AdamW for one device's block of `s5_d`, 4 by 64 by 16:
  seen as 32 rows of 128 lanes, which one grid point holds. Each new element depends on the elements at
  the same place alone.
-/
module

public import proofs.«01_k».proof.Proof.AdamStep
public import proofs.«01_k».proof.Proof.Gen.AdamS5DIdeal.Value
public import proofs.«01_k».proof.Proof.Gen.AdamS5DRefIdeal.Run
public import proofs.«01_k».proof.Proof.Gen.AdamS5D.Frame

@[expose] public section

set_option maxRecDepth 16384

noncomputable section

namespace Cert.AdamS5DClaim

open Idealize.ShloMosaic Idealize.ShloMosaic.TcCoe Idealize.SL.Sem Cert.AdamStep

theorem frame_kernel : Cert.quiescent_AdamS5D := fun m ρ _ => Cert.AdamS5D.Gen.frame m ρ

theorem frame_ideal : Cert.quiescent_AdamS5DIdeal := fun m ρ _ => Cert.AdamS5DIdeal.Gen.frame m ρ

theorem frame_reference : Cert.quiescent_AdamS5DRefIdeal := fun m ρ _ =>
  (θ_run Cert.AdamS5DRefIdeal.defs _ _).mono (fun r h => ⟨fun c => (h c).2.2.2, sem_eq_zero_of_no_sems (by decide) r.2⟩)
    (Cert.AdamS5DRefIdeal.Value.run m ρ)

section
open Cert.AdamS5DIdeal Cert.AdamS5DIdeal.Gen Cert.AdamS5DIdeal.Value

/-- What a grid point leaves in its three blocks. -/
theorem out_eq (x0 x1 x2 x3 : Vec Ideal S32x128 .f32) :
    out0_4 x0 x1 x2 x3 = delta x0 x1 x2 x3 ∧ out0_5 x0 x1 x2 x3 = newM x1 x2 ∧ out0_6 x0 x1 x2 x3 = newV x1 x3 := by
  unfold out0_4 out0_5 out0_6
  rw [View.canon_unit_zero hz, View.canon_unit_zero hz, View.canon_unit_zero hz]
  simp only [View.ld_unit_zero (S := S32x128) hz]
  unfold k0_pay4 k0_pay3 k0_pay2 k0_pay1
  simp only [shapeCast_self]
  exact ⟨rfl, rfl, rfl⟩

variable (m : (ℓ : Loc nD τ sig) → Buf (Elt Ideal) ℓ) (c : Dev nD)

/-- The weight, the gradient and the moments, as rows. -/
abbrev wt : Vec Ideal S32x128 .f32 := V m c main_v0
abbrev gr : Vec Ideal S32x128 .f32 := V m c main_v1
abbrev m1 : Vec Ideal S32x128 .f32 := V m c main_v2
abbrev m2 : Vec Ideal S32x128 .f32 := V m c main_v3

/-- Point `t` holds the `t`-th block of 32 rows. -/
theorem idx : ∀ t : Fin cfg0.N, win0_4.index t 0 = t.val ∧ win0_4.index t 1 = 0 :=
  (by decide +kernel : ∀ t : Fin grid0.N, win0_4.index t 0 = t.val ∧ win0_4.index t 1 = 0)

/-- Every element lies in some point's block. -/
theorem cover (i : S32x128.Idx) : ∃ (t : Fin cfg0.N) (y : S32x128.Idx), i = ((cfg0.win 4).blk t).view.emb y := by
  obtain ⟨a, b, rfl⟩ : ∃ (a : Fin 32) (b : Fin 128), i = (ix2 a b : S32x128.Idx) := ⟨i 0, i 1, eq_ix2 i⟩
  obtain ⟨ht, hr, e⟩ := row_split (R := 32) (T := 32) (N := cfg0.N) (by decide) (by decide) a
  obtain ⟨e0, e1⟩ := idx ⟨_, ht⟩
  refine ⟨⟨_, ht⟩, ix2 (⟨_, hr⟩ : Fin 32) b, funext fun d => Fin.ext ?_⟩
  match d with
  | ⟨0, _⟩ => show a.val = win0_4.index ⟨_, ht⟩ 0 * 32 + 1 * (a.val % 32); rw [e0]; exact e.symm
  | ⟨1, _⟩ => show b.val = win0_4.index ⟨_, ht⟩ 1 * 128 + 1 * b.val; rw [e1]; omega

/-- The arrays that the call leaves. -/
theorem final_eq : (dats m 0 c).arrAt 4 cfg0.N = delta (wt m c) (gr m c) (m1 m c) (m2 m c)
    ∧ (dats m 0 c).arrAt 5 cfg0.N = newM (gr m c) (m1 m c) ∧ (dats m 0 c).arrAt 6 cfg0.N = newV (gr m c) (m2 m c) := by
  refine ⟨(dats m 0 c).arrAt_eq_of_cover 4 _ (fun t _ => ?_) (fun i => ?_), (dats m 0 c).arrAt_eq_of_cover 5 _ (fun t _ => ?_) (fun i => ?_),
    (dats m 0 c).arrAt_eq_of_cover 6 _ (fun t _ => ?_) (fun i => ?_)⟩
  · rw [flushed4, (out_eq _ _ _ _).1]
    exact funext fun y => delta_at rfl rfl rfl rfl
  · obtain ⟨t, y, rfl⟩ := cover i
    exact ⟨t, flush0_4 _, View.emb_mem_set _ _⟩
  · rw [flushed5, (out_eq _ _ _ _).2.1]
    exact funext fun y => newM_at rfl rfl
  · obtain ⟨t, y, rfl⟩ := cover i
    exact ⟨t, flush0_5 _, View.emb_mem_set _ _⟩
  · rw [flushed6, (out_eq _ _ _ _).2.2]
    exact funext fun y => newV_at rfl rfl
  · obtain ⟨t, y, rfl⟩ := cover i
    exact ⟨t, flush0_6 _, View.emb_mem_set _ _⟩

/-- The arrays are the arguments, laid out as rows. -/
theorem rows_eq : wt m c = shapeCast _ (m ((c : Thread nD τ).loc main_arg0)) shapeCasts_S4x64x16_S32x128
    ∧ gr m c = shapeCast _ (m ((c : Thread nD τ).loc main_arg1)) shapeCasts_S4x64x16_S32x128
    ∧ m1 m c = shapeCast _ (m ((c : Thread nD τ).loc main_arg2)) shapeCasts_S4x64x16_S32x128
    ∧ m2 m c = shapeCast _ (m ((c : Thread nD τ).loc main_arg3)) shapeCasts_S4x64x16_S32x128 := by
  refine ⟨?_, ?_, ?_, ?_⟩ <;>
  · show StableHlo.after hostOps0 _ _ = _
    simp only [hostOps0]
    after_results_simp <;> rfl

end

theorem algebraic : Cert.algebraic_AdamS5DIdeal_AdamS5DRefIdeal := by
  intro m g m' g' _ hagree
  refine ⟨fun c => delta (wt m c) (gr m c) (m1 m c) (m2 m c), fun c => newM (gr m c) (m1 m c), fun c => newV (gr m c) (m2 m c), ?_, ?_⟩
  · refine (θ_run Cert.AdamS5DIdeal.defs _ _).mono (fun r h c => ?_) (Cert.AdamS5DIdeal.Value.run_blocks m g)
    obtain ⟨hd, hm, hv, h⟩ := h c
    obtain ⟨fd, fm, fv⟩ := final_eq m c
    exact ⟨hd.trans fd, hm.trans fm, hv.trans fv, h⟩
  · refine (θ_run Cert.AdamS5DRefIdeal.defs _ _).mono (fun r h c => ?_) (Cert.AdamS5DRefIdeal.Value.run m' g')
    obtain ⟨hd, hm, hv, h⟩ := h c
    obtain ⟨a0, a1, a2, a3⟩ := hagree c
    obtain ⟨e0, e1, e2, e3⟩ := rows_eq m c
    beta_reduce
    rw [e0, e1, e2, e3]
    rw [a0, a1, a2, a3] at hd
    rw [a1, a2] at hm
    rw [a1, a3] at hv
    exact ⟨hd.trans rfl, hm.trans rfl, hv.trans rfl, h⟩

end Cert.AdamS5DClaim

end
-- ==== Proof.AdamSsdDtBiasClaim.lean ====
/-
  AdamW for one device's block of `ssd_dt_bias`, 4 by 16:
  seen as one row of 64 lanes, which one grid point holds. Each new element depends on the elements at
  the same place alone.
-/
module

public import proofs.«01_k».proof.Proof.AdamStep
public import proofs.«01_k».proof.Proof.Gen.AdamSsdDtBiasIdeal.Value
public import proofs.«01_k».proof.Proof.Gen.AdamSsdDtBiasRefIdeal.Run
public import proofs.«01_k».proof.Proof.Gen.AdamSsdDtBias.Frame

@[expose] public section

set_option maxRecDepth 16384

noncomputable section

namespace Cert.AdamSsdDtBiasClaim

open Idealize.ShloMosaic Idealize.ShloMosaic.TcCoe Idealize.SL.Sem Cert.AdamStep

theorem frame_kernel : Cert.quiescent_AdamSsdDtBias := fun m ρ _ => Cert.AdamSsdDtBias.Gen.frame m ρ

theorem frame_ideal : Cert.quiescent_AdamSsdDtBiasIdeal := fun m ρ _ => Cert.AdamSsdDtBiasIdeal.Gen.frame m ρ

theorem frame_reference : Cert.quiescent_AdamSsdDtBiasRefIdeal := fun m ρ _ =>
  (θ_run Cert.AdamSsdDtBiasRefIdeal.defs _ _).mono (fun r h => ⟨fun c => (h c).2.2.2, sem_eq_zero_of_no_sems (by decide) r.2⟩)
    (Cert.AdamSsdDtBiasRefIdeal.Value.run m ρ)

section
open Cert.AdamSsdDtBiasIdeal Cert.AdamSsdDtBiasIdeal.Gen Cert.AdamSsdDtBiasIdeal.Value

/-- What a grid point leaves in its three blocks. -/
theorem out_eq (x0 x1 x2 x3 : Vec Ideal S1x64 .f32) :
    out0_4 x0 x1 x2 x3 = delta x0 x1 x2 x3 ∧ out0_5 x0 x1 x2 x3 = newM x1 x2 ∧ out0_6 x0 x1 x2 x3 = newV x1 x3 := by
  unfold out0_4 out0_5 out0_6
  rw [View.canon_unit_zero hz, View.canon_unit_zero hz, View.canon_unit_zero hz]
  simp only [View.ld_unit_zero (S := S1x64) hz]
  unfold k0_pay4 k0_pay3 k0_pay2 k0_pay1
  simp only [shapeCast_self]
  exact ⟨rfl, rfl, rfl⟩

variable (m : (ℓ : Loc nD τ sig) → Buf (Elt Ideal) ℓ) (c : Dev nD)

/-- The weight, the gradient and the moments, as rows. -/
abbrev wt : Vec Ideal S1x64 .f32 := V m c main_v0
abbrev gr : Vec Ideal S1x64 .f32 := V m c main_v1
abbrev m1 : Vec Ideal S1x64 .f32 := V m c main_v2
abbrev m2 : Vec Ideal S1x64 .f32 := V m c main_v3

/-- Point `t` holds the `t`-th block of 1 rows. -/
theorem idx : ∀ t : Fin cfg0.N, win0_4.index t 0 = t.val ∧ win0_4.index t 1 = 0 :=
  (by decide +kernel : ∀ t : Fin grid0.N, win0_4.index t 0 = t.val ∧ win0_4.index t 1 = 0)

/-- Every element lies in some point's block. -/
theorem cover (i : S1x64.Idx) : ∃ (t : Fin cfg0.N) (y : S1x64.Idx), i = ((cfg0.win 4).blk t).view.emb y := by
  obtain ⟨a, b, rfl⟩ : ∃ (a : Fin 1) (b : Fin 64), i = (ix2 a b : S1x64.Idx) := ⟨i 0, i 1, eq_ix2 i⟩
  obtain ⟨ht, hr, e⟩ := row_split (R := 1) (T := 1) (N := cfg0.N) (by decide) (by decide) a
  obtain ⟨e0, e1⟩ := idx ⟨_, ht⟩
  refine ⟨⟨_, ht⟩, ix2 (⟨_, hr⟩ : Fin 1) b, funext fun d => Fin.ext ?_⟩
  match d with
  | ⟨0, _⟩ => show a.val = win0_4.index ⟨_, ht⟩ 0 * 1 + 1 * (a.val % 1); rw [e0]; exact e.symm
  | ⟨1, _⟩ => show b.val = win0_4.index ⟨_, ht⟩ 1 * 64 + 1 * b.val; rw [e1]; omega

/-- The arrays that the call leaves. -/
theorem final_eq : (dats m 0 c).arrAt 4 cfg0.N = delta (wt m c) (gr m c) (m1 m c) (m2 m c)
    ∧ (dats m 0 c).arrAt 5 cfg0.N = newM (gr m c) (m1 m c) ∧ (dats m 0 c).arrAt 6 cfg0.N = newV (gr m c) (m2 m c) := by
  refine ⟨(dats m 0 c).arrAt_eq_of_cover 4 _ (fun t _ => ?_) (fun i => ?_), (dats m 0 c).arrAt_eq_of_cover 5 _ (fun t _ => ?_) (fun i => ?_),
    (dats m 0 c).arrAt_eq_of_cover 6 _ (fun t _ => ?_) (fun i => ?_)⟩
  · rw [flushed4, (out_eq _ _ _ _).1]
    exact funext fun y => delta_at rfl rfl rfl rfl
  · obtain ⟨t, y, rfl⟩ := cover i
    exact ⟨t, flush0_4 _, View.emb_mem_set _ _⟩
  · rw [flushed5, (out_eq _ _ _ _).2.1]
    exact funext fun y => newM_at rfl rfl
  · obtain ⟨t, y, rfl⟩ := cover i
    exact ⟨t, flush0_5 _, View.emb_mem_set _ _⟩
  · rw [flushed6, (out_eq _ _ _ _).2.2]
    exact funext fun y => newV_at rfl rfl
  · obtain ⟨t, y, rfl⟩ := cover i
    exact ⟨t, flush0_6 _, View.emb_mem_set _ _⟩

/-- The arrays are the arguments, laid out as rows. -/
theorem rows_eq : wt m c = shapeCast _ (m ((c : Thread nD τ).loc main_arg0)) shapeCasts_S4x16_S1x64
    ∧ gr m c = shapeCast _ (m ((c : Thread nD τ).loc main_arg1)) shapeCasts_S4x16_S1x64
    ∧ m1 m c = shapeCast _ (m ((c : Thread nD τ).loc main_arg2)) shapeCasts_S4x16_S1x64
    ∧ m2 m c = shapeCast _ (m ((c : Thread nD τ).loc main_arg3)) shapeCasts_S4x16_S1x64 := by
  refine ⟨?_, ?_, ?_, ?_⟩ <;>
  · show StableHlo.after hostOps0 _ _ = _
    simp only [hostOps0]
    after_results_simp <;> rfl

end

theorem algebraic : Cert.algebraic_AdamSsdDtBiasIdeal_AdamSsdDtBiasRefIdeal := by
  intro m g m' g' _ hagree
  refine ⟨fun c => delta (wt m c) (gr m c) (m1 m c) (m2 m c), fun c => newM (gr m c) (m1 m c), fun c => newV (gr m c) (m2 m c), ?_, ?_⟩
  · refine (θ_run Cert.AdamSsdDtBiasIdeal.defs _ _).mono (fun r h c => ?_) (Cert.AdamSsdDtBiasIdeal.Value.run_blocks m g)
    obtain ⟨hd, hm, hv, h⟩ := h c
    obtain ⟨fd, fm, fv⟩ := final_eq m c
    exact ⟨hd.trans fd, hm.trans fm, hv.trans fv, h⟩
  · refine (θ_run Cert.AdamSsdDtBiasRefIdeal.defs _ _).mono (fun r h c => ?_) (Cert.AdamSsdDtBiasRefIdeal.Value.run m' g')
    obtain ⟨hd, hm, hv, h⟩ := h c
    obtain ⟨a0, a1, a2, a3⟩ := hagree c
    obtain ⟨e0, e1, e2, e3⟩ := rows_eq m c
    beta_reduce
    rw [e0, e1, e2, e3]
    rw [a0, a1, a2, a3] at hd
    rw [a1, a2] at hm
    rw [a1, a3] at hv
    exact ⟨hd.trans rfl, hm.trans rfl, hv.trans rfl, h⟩

end Cert.AdamSsdDtBiasClaim

end
-- ==== Proof.AdamSsdALogClaim.lean ====
/-
  AdamW for one device's block of `ssd_a_log`, 4 by 16:
  seen as one row of 64 lanes, which one grid point holds. Each new element depends on the elements at
  the same place alone.
-/
module

public import proofs.«01_k».proof.Proof.AdamStep
public import proofs.«01_k».proof.Proof.Gen.AdamSsdALogIdeal.Value
public import proofs.«01_k».proof.Proof.Gen.AdamSsdALogRefIdeal.Run
public import proofs.«01_k».proof.Proof.Gen.AdamSsdALog.Frame

@[expose] public section

set_option maxRecDepth 16384

noncomputable section

namespace Cert.AdamSsdALogClaim

open Idealize.ShloMosaic Idealize.ShloMosaic.TcCoe Idealize.SL.Sem Cert.AdamStep

theorem frame_kernel : Cert.quiescent_AdamSsdALog := fun m ρ _ => Cert.AdamSsdALog.Gen.frame m ρ

theorem frame_ideal : Cert.quiescent_AdamSsdALogIdeal := fun m ρ _ => Cert.AdamSsdALogIdeal.Gen.frame m ρ

theorem frame_reference : Cert.quiescent_AdamSsdALogRefIdeal := fun m ρ _ =>
  (θ_run Cert.AdamSsdALogRefIdeal.defs _ _).mono (fun r h => ⟨fun c => (h c).2.2.2, sem_eq_zero_of_no_sems (by decide) r.2⟩)
    (Cert.AdamSsdALogRefIdeal.Value.run m ρ)

section
open Cert.AdamSsdALogIdeal Cert.AdamSsdALogIdeal.Gen Cert.AdamSsdALogIdeal.Value

/-- What a grid point leaves in its three blocks. -/
theorem out_eq (x0 x1 x2 x3 : Vec Ideal S1x64 .f32) :
    out0_4 x0 x1 x2 x3 = delta x0 x1 x2 x3 ∧ out0_5 x0 x1 x2 x3 = newM x1 x2 ∧ out0_6 x0 x1 x2 x3 = newV x1 x3 := by
  unfold out0_4 out0_5 out0_6
  rw [View.canon_unit_zero hz, View.canon_unit_zero hz, View.canon_unit_zero hz]
  simp only [View.ld_unit_zero (S := S1x64) hz]
  unfold k0_pay4 k0_pay3 k0_pay2 k0_pay1
  simp only [shapeCast_self]
  exact ⟨rfl, rfl, rfl⟩

variable (m : (ℓ : Loc nD τ sig) → Buf (Elt Ideal) ℓ) (c : Dev nD)

/-- The weight, the gradient and the moments, as rows. -/
abbrev wt : Vec Ideal S1x64 .f32 := V m c main_v0
abbrev gr : Vec Ideal S1x64 .f32 := V m c main_v1
abbrev m1 : Vec Ideal S1x64 .f32 := V m c main_v2
abbrev m2 : Vec Ideal S1x64 .f32 := V m c main_v3

/-- Point `t` holds the `t`-th block of 1 rows. -/
theorem idx : ∀ t : Fin cfg0.N, win0_4.index t 0 = t.val ∧ win0_4.index t 1 = 0 :=
  (by decide +kernel : ∀ t : Fin grid0.N, win0_4.index t 0 = t.val ∧ win0_4.index t 1 = 0)

/-- Every element lies in some point's block. -/
theorem cover (i : S1x64.Idx) : ∃ (t : Fin cfg0.N) (y : S1x64.Idx), i = ((cfg0.win 4).blk t).view.emb y := by
  obtain ⟨a, b, rfl⟩ : ∃ (a : Fin 1) (b : Fin 64), i = (ix2 a b : S1x64.Idx) := ⟨i 0, i 1, eq_ix2 i⟩
  obtain ⟨ht, hr, e⟩ := row_split (R := 1) (T := 1) (N := cfg0.N) (by decide) (by decide) a
  obtain ⟨e0, e1⟩ := idx ⟨_, ht⟩
  refine ⟨⟨_, ht⟩, ix2 (⟨_, hr⟩ : Fin 1) b, funext fun d => Fin.ext ?_⟩
  match d with
  | ⟨0, _⟩ => show a.val = win0_4.index ⟨_, ht⟩ 0 * 1 + 1 * (a.val % 1); rw [e0]; exact e.symm
  | ⟨1, _⟩ => show b.val = win0_4.index ⟨_, ht⟩ 1 * 64 + 1 * b.val; rw [e1]; omega

/-- The arrays that the call leaves. -/
theorem final_eq : (dats m 0 c).arrAt 4 cfg0.N = delta (wt m c) (gr m c) (m1 m c) (m2 m c)
    ∧ (dats m 0 c).arrAt 5 cfg0.N = newM (gr m c) (m1 m c) ∧ (dats m 0 c).arrAt 6 cfg0.N = newV (gr m c) (m2 m c) := by
  refine ⟨(dats m 0 c).arrAt_eq_of_cover 4 _ (fun t _ => ?_) (fun i => ?_), (dats m 0 c).arrAt_eq_of_cover 5 _ (fun t _ => ?_) (fun i => ?_),
    (dats m 0 c).arrAt_eq_of_cover 6 _ (fun t _ => ?_) (fun i => ?_)⟩
  · rw [flushed4, (out_eq _ _ _ _).1]
    exact funext fun y => delta_at rfl rfl rfl rfl
  · obtain ⟨t, y, rfl⟩ := cover i
    exact ⟨t, flush0_4 _, View.emb_mem_set _ _⟩
  · rw [flushed5, (out_eq _ _ _ _).2.1]
    exact funext fun y => newM_at rfl rfl
  · obtain ⟨t, y, rfl⟩ := cover i
    exact ⟨t, flush0_5 _, View.emb_mem_set _ _⟩
  · rw [flushed6, (out_eq _ _ _ _).2.2]
    exact funext fun y => newV_at rfl rfl
  · obtain ⟨t, y, rfl⟩ := cover i
    exact ⟨t, flush0_6 _, View.emb_mem_set _ _⟩

/-- The arrays are the arguments, laid out as rows. -/
theorem rows_eq : wt m c = shapeCast _ (m ((c : Thread nD τ).loc main_arg0)) shapeCasts_S4x16_S1x64
    ∧ gr m c = shapeCast _ (m ((c : Thread nD τ).loc main_arg1)) shapeCasts_S4x16_S1x64
    ∧ m1 m c = shapeCast _ (m ((c : Thread nD τ).loc main_arg2)) shapeCasts_S4x16_S1x64
    ∧ m2 m c = shapeCast _ (m ((c : Thread nD τ).loc main_arg3)) shapeCasts_S4x16_S1x64 := by
  refine ⟨?_, ?_, ?_, ?_⟩ <;>
  · show StableHlo.after hostOps0 _ _ = _
    simp only [hostOps0]
    after_results_simp <;> rfl

end

theorem algebraic : Cert.algebraic_AdamSsdALogIdeal_AdamSsdALogRefIdeal := by
  intro m g m' g' _ hagree
  refine ⟨fun c => delta (wt m c) (gr m c) (m1 m c) (m2 m c), fun c => newM (gr m c) (m1 m c), fun c => newV (gr m c) (m2 m c), ?_, ?_⟩
  · refine (θ_run Cert.AdamSsdALogIdeal.defs _ _).mono (fun r h c => ?_) (Cert.AdamSsdALogIdeal.Value.run_blocks m g)
    obtain ⟨hd, hm, hv, h⟩ := h c
    obtain ⟨fd, fm, fv⟩ := final_eq m c
    exact ⟨hd.trans fd, hm.trans fm, hv.trans fv, h⟩
  · refine (θ_run Cert.AdamSsdALogRefIdeal.defs _ _).mono (fun r h c => ?_) (Cert.AdamSsdALogRefIdeal.Value.run m' g')
    obtain ⟨hd, hm, hv, h⟩ := h c
    obtain ⟨a0, a1, a2, a3⟩ := hagree c
    obtain ⟨e0, e1, e2, e3⟩ := rows_eq m c
    beta_reduce
    rw [e0, e1, e2, e3]
    rw [a0, a1, a2, a3] at hd
    rw [a1, a2] at hm
    rw [a1, a3] at hv
    exact ⟨hd.trans rfl, hm.trans rfl, hv.trans rfl, h⟩

end Cert.AdamSsdALogClaim

end
-- ==== Proof.AdamSsdDClaim.lean ====
/-
  AdamW for one device's block of `ssd_d`, 4 by 16:
  seen as one row of 64 lanes, which one grid point holds. Each new element depends on the elements at
  the same place alone.
-/
module

public import proofs.«01_k».proof.Proof.AdamStep
public import proofs.«01_k».proof.Proof.Gen.AdamSsdDIdeal.Value
public import proofs.«01_k».proof.Proof.Gen.AdamSsdDRefIdeal.Run
public import proofs.«01_k».proof.Proof.Gen.AdamSsdD.Frame

@[expose] public section

set_option maxRecDepth 16384

noncomputable section

namespace Cert.AdamSsdDClaim

open Idealize.ShloMosaic Idealize.ShloMosaic.TcCoe Idealize.SL.Sem Cert.AdamStep

theorem frame_kernel : Cert.quiescent_AdamSsdD := fun m ρ _ => Cert.AdamSsdD.Gen.frame m ρ

theorem frame_ideal : Cert.quiescent_AdamSsdDIdeal := fun m ρ _ => Cert.AdamSsdDIdeal.Gen.frame m ρ

theorem frame_reference : Cert.quiescent_AdamSsdDRefIdeal := fun m ρ _ =>
  (θ_run Cert.AdamSsdDRefIdeal.defs _ _).mono (fun r h => ⟨fun c => (h c).2.2.2, sem_eq_zero_of_no_sems (by decide) r.2⟩)
    (Cert.AdamSsdDRefIdeal.Value.run m ρ)

section
open Cert.AdamSsdDIdeal Cert.AdamSsdDIdeal.Gen Cert.AdamSsdDIdeal.Value

/-- What a grid point leaves in its three blocks. -/
theorem out_eq (x0 x1 x2 x3 : Vec Ideal S1x64 .f32) :
    out0_4 x0 x1 x2 x3 = delta x0 x1 x2 x3 ∧ out0_5 x0 x1 x2 x3 = newM x1 x2 ∧ out0_6 x0 x1 x2 x3 = newV x1 x3 := by
  unfold out0_4 out0_5 out0_6
  rw [View.canon_unit_zero hz, View.canon_unit_zero hz, View.canon_unit_zero hz]
  simp only [View.ld_unit_zero (S := S1x64) hz]
  unfold k0_pay4 k0_pay3 k0_pay2 k0_pay1
  simp only [shapeCast_self]
  exact ⟨rfl, rfl, rfl⟩

variable (m : (ℓ : Loc nD τ sig) → Buf (Elt Ideal) ℓ) (c : Dev nD)

/-- The weight, the gradient and the moments, as rows. -/
abbrev wt : Vec Ideal S1x64 .f32 := V m c main_v0
abbrev gr : Vec Ideal S1x64 .f32 := V m c main_v1
abbrev m1 : Vec Ideal S1x64 .f32 := V m c main_v2
abbrev m2 : Vec Ideal S1x64 .f32 := V m c main_v3

/-- Point `t` holds the `t`-th block of 1 rows. -/
theorem idx : ∀ t : Fin cfg0.N, win0_4.index t 0 = t.val ∧ win0_4.index t 1 = 0 :=
  (by decide +kernel : ∀ t : Fin grid0.N, win0_4.index t 0 = t.val ∧ win0_4.index t 1 = 0)

/-- Every element lies in some point's block. -/
theorem cover (i : S1x64.Idx) : ∃ (t : Fin cfg0.N) (y : S1x64.Idx), i = ((cfg0.win 4).blk t).view.emb y := by
  obtain ⟨a, b, rfl⟩ : ∃ (a : Fin 1) (b : Fin 64), i = (ix2 a b : S1x64.Idx) := ⟨i 0, i 1, eq_ix2 i⟩
  obtain ⟨ht, hr, e⟩ := row_split (R := 1) (T := 1) (N := cfg0.N) (by decide) (by decide) a
  obtain ⟨e0, e1⟩ := idx ⟨_, ht⟩
  refine ⟨⟨_, ht⟩, ix2 (⟨_, hr⟩ : Fin 1) b, funext fun d => Fin.ext ?_⟩
  match d with
  | ⟨0, _⟩ => show a.val = win0_4.index ⟨_, ht⟩ 0 * 1 + 1 * (a.val % 1); rw [e0]; exact e.symm
  | ⟨1, _⟩ => show b.val = win0_4.index ⟨_, ht⟩ 1 * 64 + 1 * b.val; rw [e1]; omega

/-- The arrays that the call leaves. -/
theorem final_eq : (dats m 0 c).arrAt 4 cfg0.N = delta (wt m c) (gr m c) (m1 m c) (m2 m c)
    ∧ (dats m 0 c).arrAt 5 cfg0.N = newM (gr m c) (m1 m c) ∧ (dats m 0 c).arrAt 6 cfg0.N = newV (gr m c) (m2 m c) := by
  refine ⟨(dats m 0 c).arrAt_eq_of_cover 4 _ (fun t _ => ?_) (fun i => ?_), (dats m 0 c).arrAt_eq_of_cover 5 _ (fun t _ => ?_) (fun i => ?_),
    (dats m 0 c).arrAt_eq_of_cover 6 _ (fun t _ => ?_) (fun i => ?_)⟩
  · rw [flushed4, (out_eq _ _ _ _).1]
    exact funext fun y => delta_at rfl rfl rfl rfl
  · obtain ⟨t, y, rfl⟩ := cover i
    exact ⟨t, flush0_4 _, View.emb_mem_set _ _⟩
  · rw [flushed5, (out_eq _ _ _ _).2.1]
    exact funext fun y => newM_at rfl rfl
  · obtain ⟨t, y, rfl⟩ := cover i
    exact ⟨t, flush0_5 _, View.emb_mem_set _ _⟩
  · rw [flushed6, (out_eq _ _ _ _).2.2]
    exact funext fun y => newV_at rfl rfl
  · obtain ⟨t, y, rfl⟩ := cover i
    exact ⟨t, flush0_6 _, View.emb_mem_set _ _⟩

/-- The arrays are the arguments, laid out as rows. -/
theorem rows_eq : wt m c = shapeCast _ (m ((c : Thread nD τ).loc main_arg0)) shapeCasts_S4x16_S1x64
    ∧ gr m c = shapeCast _ (m ((c : Thread nD τ).loc main_arg1)) shapeCasts_S4x16_S1x64
    ∧ m1 m c = shapeCast _ (m ((c : Thread nD τ).loc main_arg2)) shapeCasts_S4x16_S1x64
    ∧ m2 m c = shapeCast _ (m ((c : Thread nD τ).loc main_arg3)) shapeCasts_S4x16_S1x64 := by
  refine ⟨?_, ?_, ?_, ?_⟩ <;>
  · show StableHlo.after hostOps0 _ _ = _
    simp only [hostOps0]
    after_results_simp <;> rfl

end

theorem algebraic : Cert.algebraic_AdamSsdDIdeal_AdamSsdDRefIdeal := by
  intro m g m' g' _ hagree
  refine ⟨fun c => delta (wt m c) (gr m c) (m1 m c) (m2 m c), fun c => newM (gr m c) (m1 m c), fun c => newV (gr m c) (m2 m c), ?_, ?_⟩
  · refine (θ_run Cert.AdamSsdDIdeal.defs _ _).mono (fun r h c => ?_) (Cert.AdamSsdDIdeal.Value.run_blocks m g)
    obtain ⟨hd, hm, hv, h⟩ := h c
    obtain ⟨fd, fm, fv⟩ := final_eq m c
    exact ⟨hd.trans fd, hm.trans fm, hv.trans fv, h⟩
  · refine (θ_run Cert.AdamSsdDRefIdeal.defs _ _).mono (fun r h c => ?_) (Cert.AdamSsdDRefIdeal.Value.run m' g')
    obtain ⟨hd, hm, hv, h⟩ := h c
    obtain ⟨a0, a1, a2, a3⟩ := hagree c
    obtain ⟨e0, e1, e2, e3⟩ := rows_eq m c
    beta_reduce
    rw [e0, e1, e2, e3]
    rw [a0, a1, a2, a3] at hd
    rw [a1, a2] at hm
    rw [a1, a3] at hv
    exact ⟨hd.trans rfl, hm.trans rfl, hv.trans rfl, h⟩

end Cert.AdamSsdDClaim

end
-- ==== Proof.lean ====
module

public import proofs.«01_k».proof.Defs
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxRefIdeal
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwRefIdeal
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwRefIdeal
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxRefIdeal
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwRefIdeal
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxRefIdeal
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxRefIdeal
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwRefIdeal
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InRefIdeal
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdRefIdeal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamRefIdeal
public import proofs.«01_k».proof.Proof.Gen.AdamS5WGlu
public import proofs.«01_k».proof.Proof.Gen.AdamS5WGlu.Skeleton
public import proofs.«01_k».proof.Proof.Gen.AdamS5WGlu.Launch
public import proofs.«01_k».proof.Proof.Gen.AdamS5WGlu.Points
public import proofs.«01_k».proof.Proof.Gen.AdamS5WGlu.Frame
public import proofs.«01_k».proof.Proof.Gen.AdamS5WGluIdeal
public import proofs.«01_k».proof.Proof.Gen.AdamS5WGluIdeal.Skeleton
public import proofs.«01_k».proof.Proof.Gen.AdamS5WGluIdeal.Launch
public import proofs.«01_k».proof.Proof.Gen.AdamS5WGluIdeal.Points
public import proofs.«01_k».proof.Proof.Gen.AdamS5WGluIdeal.Frame
public import proofs.«01_k».proof.Proof.Gen.AdamS5WGluRefIdeal
public import proofs.«01_k».proof.Proof.Gen.AdamXaWk
public import proofs.«01_k».proof.Proof.Gen.AdamXaWk.Skeleton
public import proofs.«01_k».proof.Proof.Gen.AdamXaWk.Launch
public import proofs.«01_k».proof.Proof.Gen.AdamXaWk.Points
public import proofs.«01_k».proof.Proof.Gen.AdamXaWk.Frame
public import proofs.«01_k».proof.Proof.Gen.AdamXaWkIdeal
public import proofs.«01_k».proof.Proof.Gen.AdamXaWkIdeal.Skeleton
public import proofs.«01_k».proof.Proof.Gen.AdamXaWkIdeal.Launch
public import proofs.«01_k».proof.Proof.Gen.AdamXaWkIdeal.Points
public import proofs.«01_k».proof.Proof.Gen.AdamXaWkIdeal.Frame
public import proofs.«01_k».proof.Proof.Gen.AdamXaWkRefIdeal
public import proofs.«01_k».proof.Proof.Gen.AdamXaWv
public import proofs.«01_k».proof.Proof.Gen.AdamXaWv.Skeleton
public import proofs.«01_k».proof.Proof.Gen.AdamXaWv.Launch
public import proofs.«01_k».proof.Proof.Gen.AdamXaWv.Points
public import proofs.«01_k».proof.Proof.Gen.AdamXaWv.Frame
public import proofs.«01_k».proof.Proof.Gen.AdamXaWvIdeal
public import proofs.«01_k».proof.Proof.Gen.AdamXaWvIdeal.Skeleton
public import proofs.«01_k».proof.Proof.Gen.AdamXaWvIdeal.Launch
public import proofs.«01_k».proof.Proof.Gen.AdamXaWvIdeal.Points
public import proofs.«01_k».proof.Proof.Gen.AdamXaWvIdeal.Frame
public import proofs.«01_k».proof.Proof.Gen.AdamXaWvRefIdeal
public import proofs.«01_k».proof.Proof.Gen.AdamXaWo
public import proofs.«01_k».proof.Proof.Gen.AdamXaWo.Skeleton
public import proofs.«01_k».proof.Proof.Gen.AdamXaWo.Launch
public import proofs.«01_k».proof.Proof.Gen.AdamXaWo.Points
public import proofs.«01_k».proof.Proof.Gen.AdamXaWo.Frame
public import proofs.«01_k».proof.Proof.Gen.AdamXaWoIdeal
public import proofs.«01_k».proof.Proof.Gen.AdamXaWoIdeal.Skeleton
public import proofs.«01_k».proof.Proof.Gen.AdamXaWoIdeal.Launch
public import proofs.«01_k».proof.Proof.Gen.AdamXaWoIdeal.Points
public import proofs.«01_k».proof.Proof.Gen.AdamXaWoIdeal.Frame
public import proofs.«01_k».proof.Proof.Gen.AdamXaWoRefIdeal
public import proofs.«01_k».proof.Proof.Gen.AdamWIn
public import proofs.«01_k».proof.Proof.Gen.AdamWIn.Skeleton
public import proofs.«01_k».proof.Proof.Gen.AdamWIn.Launch
public import proofs.«01_k».proof.Proof.Gen.AdamWIn.Points
public import proofs.«01_k».proof.Proof.Gen.AdamWIn.Frame
public import proofs.«01_k».proof.Proof.Gen.AdamWInIdeal
public import proofs.«01_k».proof.Proof.Gen.AdamWInIdeal.Skeleton
public import proofs.«01_k».proof.Proof.Gen.AdamWInIdeal.Launch
public import proofs.«01_k».proof.Proof.Gen.AdamWInIdeal.Points
public import proofs.«01_k».proof.Proof.Gen.AdamWInIdeal.Frame
public import proofs.«01_k».proof.Proof.Gen.AdamWInRefIdeal
public import proofs.«01_k».proof.Proof.Gen.AdamSsdConvW
public import proofs.«01_k».proof.Proof.Gen.AdamSsdConvW.Skeleton
public import proofs.«01_k».proof.Proof.Gen.AdamSsdConvW.Launch
public import proofs.«01_k».proof.Proof.Gen.AdamSsdConvW.Points
public import proofs.«01_k».proof.Proof.Gen.AdamSsdConvW.Frame
public import proofs.«01_k».proof.Proof.Gen.AdamSsdConvWIdeal
public import proofs.«01_k».proof.Proof.Gen.AdamSsdConvWIdeal.Skeleton
public import proofs.«01_k».proof.Proof.Gen.AdamSsdConvWIdeal.Launch
public import proofs.«01_k».proof.Proof.Gen.AdamSsdConvWIdeal.Points
public import proofs.«01_k».proof.Proof.Gen.AdamSsdConvWIdeal.Frame
public import proofs.«01_k».proof.Proof.Gen.AdamSsdConvWRefIdeal
public import proofs.«01_k».proof.Proof.Gen.AdamWOut
public import proofs.«01_k».proof.Proof.Gen.AdamWOut.Skeleton
public import proofs.«01_k».proof.Proof.Gen.AdamWOut.Launch
public import proofs.«01_k».proof.Proof.Gen.AdamWOut.Points
public import proofs.«01_k».proof.Proof.Gen.AdamWOut.Frame
public import proofs.«01_k».proof.Proof.Gen.AdamWOutIdeal
public import proofs.«01_k».proof.Proof.Gen.AdamWOutIdeal.Skeleton
public import proofs.«01_k».proof.Proof.Gen.AdamWOutIdeal.Launch
public import proofs.«01_k».proof.Proof.Gen.AdamWOutIdeal.Points
public import proofs.«01_k».proof.Proof.Gen.AdamWOutIdeal.Frame
public import proofs.«01_k».proof.Proof.Gen.AdamWOutRefIdeal
public import proofs.«01_k».proof.Proof.Gen.AdamMlpW1
public import proofs.«01_k».proof.Proof.Gen.AdamMlpW1.Skeleton
public import proofs.«01_k».proof.Proof.Gen.AdamMlpW1.Launch
public import proofs.«01_k».proof.Proof.Gen.AdamMlpW1.Points
public import proofs.«01_k».proof.Proof.Gen.AdamMlpW1.Frame
public import proofs.«01_k».proof.Proof.Gen.AdamMlpW1Ideal
public import proofs.«01_k».proof.Proof.Gen.AdamMlpW1Ideal.Skeleton
public import proofs.«01_k».proof.Proof.Gen.AdamMlpW1Ideal.Launch
public import proofs.«01_k».proof.Proof.Gen.AdamMlpW1Ideal.Points
public import proofs.«01_k».proof.Proof.Gen.AdamMlpW1Ideal.Frame
public import proofs.«01_k».proof.Proof.Gen.AdamMlpW1RefIdeal
public import proofs.«01_k».proof.Proof.Gen.AdamMlpW2
public import proofs.«01_k».proof.Proof.Gen.AdamMlpW2.Skeleton
public import proofs.«01_k».proof.Proof.Gen.AdamMlpW2.Launch
public import proofs.«01_k».proof.Proof.Gen.AdamMlpW2.Points
public import proofs.«01_k».proof.Proof.Gen.AdamMlpW2.Frame
public import proofs.«01_k».proof.Proof.Gen.AdamMlpW2Ideal
public import proofs.«01_k».proof.Proof.Gen.AdamMlpW2Ideal.Skeleton
public import proofs.«01_k».proof.Proof.Gen.AdamMlpW2Ideal.Launch
public import proofs.«01_k».proof.Proof.Gen.AdamMlpW2Ideal.Points
public import proofs.«01_k».proof.Proof.Gen.AdamMlpW2Ideal.Frame
public import proofs.«01_k».proof.Proof.Gen.AdamMlpW2RefIdeal
public import proofs.«01_k».proof.Proof.Gen.AdamNormMix
public import proofs.«01_k».proof.Proof.Gen.AdamNormMix.Skeleton
public import proofs.«01_k».proof.Proof.Gen.AdamNormMix.Launch
public import proofs.«01_k».proof.Proof.Gen.AdamNormMix.Points
public import proofs.«01_k».proof.Proof.Gen.AdamNormMix.Frame
public import proofs.«01_k».proof.Proof.Gen.AdamNormMixIdeal
public import proofs.«01_k».proof.Proof.Gen.AdamNormMixIdeal.Skeleton
public import proofs.«01_k».proof.Proof.Gen.AdamNormMixIdeal.Launch
public import proofs.«01_k».proof.Proof.Gen.AdamNormMixIdeal.Points
public import proofs.«01_k».proof.Proof.Gen.AdamNormMixIdeal.Frame
public import proofs.«01_k».proof.Proof.Gen.AdamNormMixRefIdeal
public import proofs.«01_k».proof.Proof.Gen.AdamSsdNorm
public import proofs.«01_k».proof.Proof.Gen.AdamSsdNorm.Skeleton
public import proofs.«01_k».proof.Proof.Gen.AdamSsdNorm.Launch
public import proofs.«01_k».proof.Proof.Gen.AdamSsdNorm.Points
public import proofs.«01_k».proof.Proof.Gen.AdamSsdNorm.Frame
public import proofs.«01_k».proof.Proof.Gen.AdamSsdNormIdeal
public import proofs.«01_k».proof.Proof.Gen.AdamSsdNormIdeal.Skeleton
public import proofs.«01_k».proof.Proof.Gen.AdamSsdNormIdeal.Launch
public import proofs.«01_k».proof.Proof.Gen.AdamSsdNormIdeal.Points
public import proofs.«01_k».proof.Proof.Gen.AdamSsdNormIdeal.Frame
public import proofs.«01_k».proof.Proof.Gen.AdamSsdNormRefIdeal
public import proofs.«01_k».proof.Proof.Gen.AdamNormXattn
public import proofs.«01_k».proof.Proof.Gen.AdamNormXattn.Skeleton
public import proofs.«01_k».proof.Proof.Gen.AdamNormXattn.Launch
public import proofs.«01_k».proof.Proof.Gen.AdamNormXattn.Points
public import proofs.«01_k».proof.Proof.Gen.AdamNormXattn.Frame
public import proofs.«01_k».proof.Proof.Gen.AdamNormXattnIdeal
public import proofs.«01_k».proof.Proof.Gen.AdamNormXattnIdeal.Skeleton
public import proofs.«01_k».proof.Proof.Gen.AdamNormXattnIdeal.Launch
public import proofs.«01_k».proof.Proof.Gen.AdamNormXattnIdeal.Points
public import proofs.«01_k».proof.Proof.Gen.AdamNormXattnIdeal.Frame
public import proofs.«01_k».proof.Proof.Gen.AdamNormXattnRefIdeal
public import proofs.«01_k».proof.Proof.Gen.AdamNormMem
public import proofs.«01_k».proof.Proof.Gen.AdamNormMem.Skeleton
public import proofs.«01_k».proof.Proof.Gen.AdamNormMem.Launch
public import proofs.«01_k».proof.Proof.Gen.AdamNormMem.Points
public import proofs.«01_k».proof.Proof.Gen.AdamNormMem.Frame
public import proofs.«01_k».proof.Proof.Gen.AdamNormMemIdeal
public import proofs.«01_k».proof.Proof.Gen.AdamNormMemIdeal.Skeleton
public import proofs.«01_k».proof.Proof.Gen.AdamNormMemIdeal.Launch
public import proofs.«01_k».proof.Proof.Gen.AdamNormMemIdeal.Points
public import proofs.«01_k».proof.Proof.Gen.AdamNormMemIdeal.Frame
public import proofs.«01_k».proof.Proof.Gen.AdamNormMemRefIdeal
public import proofs.«01_k».proof.Proof.Gen.AdamNormMlp
public import proofs.«01_k».proof.Proof.Gen.AdamNormMlp.Skeleton
public import proofs.«01_k».proof.Proof.Gen.AdamNormMlp.Launch
public import proofs.«01_k».proof.Proof.Gen.AdamNormMlp.Points
public import proofs.«01_k».proof.Proof.Gen.AdamNormMlp.Frame
public import proofs.«01_k».proof.Proof.Gen.AdamNormMlpIdeal
public import proofs.«01_k».proof.Proof.Gen.AdamNormMlpIdeal.Skeleton
public import proofs.«01_k».proof.Proof.Gen.AdamNormMlpIdeal.Launch
public import proofs.«01_k».proof.Proof.Gen.AdamNormMlpIdeal.Points
public import proofs.«01_k».proof.Proof.Gen.AdamNormMlpIdeal.Frame
public import proofs.«01_k».proof.Proof.Gen.AdamNormMlpRefIdeal
public import proofs.«01_k».proof.Proof.Gen.AdamNormFinal
public import proofs.«01_k».proof.Proof.Gen.AdamNormFinal.Skeleton
public import proofs.«01_k».proof.Proof.Gen.AdamNormFinal.Launch
public import proofs.«01_k».proof.Proof.Gen.AdamNormFinal.Points
public import proofs.«01_k».proof.Proof.Gen.AdamNormFinal.Frame
public import proofs.«01_k».proof.Proof.Gen.AdamNormFinalIdeal
public import proofs.«01_k».proof.Proof.Gen.AdamNormFinalIdeal.Skeleton
public import proofs.«01_k».proof.Proof.Gen.AdamNormFinalIdeal.Launch
public import proofs.«01_k».proof.Proof.Gen.AdamNormFinalIdeal.Points
public import proofs.«01_k».proof.Proof.Gen.AdamNormFinalIdeal.Frame
public import proofs.«01_k».proof.Proof.Gen.AdamNormFinalRefIdeal
public import proofs.«01_k».proof.Proof.Gen.AdamSsdConvB
public import proofs.«01_k».proof.Proof.Gen.AdamSsdConvB.Skeleton
public import proofs.«01_k».proof.Proof.Gen.AdamSsdConvB.Launch
public import proofs.«01_k».proof.Proof.Gen.AdamSsdConvB.Points
public import proofs.«01_k».proof.Proof.Gen.AdamSsdConvB.Frame
public import proofs.«01_k».proof.Proof.Gen.AdamSsdConvBIdeal
public import proofs.«01_k».proof.Proof.Gen.AdamSsdConvBIdeal.Skeleton
public import proofs.«01_k».proof.Proof.Gen.AdamSsdConvBIdeal.Launch
public import proofs.«01_k».proof.Proof.Gen.AdamSsdConvBIdeal.Points
public import proofs.«01_k».proof.Proof.Gen.AdamSsdConvBIdeal.Frame
public import proofs.«01_k».proof.Proof.Gen.AdamSsdConvBRefIdeal
public import proofs.«01_k».proof.Proof.Gen.AdamS5ARe
public import proofs.«01_k».proof.Proof.Gen.AdamS5ARe.Skeleton
public import proofs.«01_k».proof.Proof.Gen.AdamS5ARe.Launch
public import proofs.«01_k».proof.Proof.Gen.AdamS5ARe.Points
public import proofs.«01_k».proof.Proof.Gen.AdamS5ARe.Frame
public import proofs.«01_k».proof.Proof.Gen.AdamS5AReIdeal
public import proofs.«01_k».proof.Proof.Gen.AdamS5AReIdeal.Skeleton
public import proofs.«01_k».proof.Proof.Gen.AdamS5AReIdeal.Launch
public import proofs.«01_k».proof.Proof.Gen.AdamS5AReIdeal.Points
public import proofs.«01_k».proof.Proof.Gen.AdamS5AReIdeal.Frame
public import proofs.«01_k».proof.Proof.Gen.AdamS5AReRefIdeal
public import proofs.«01_k».proof.Proof.Gen.AdamS5AIm
public import proofs.«01_k».proof.Proof.Gen.AdamS5AIm.Skeleton
public import proofs.«01_k».proof.Proof.Gen.AdamS5AIm.Launch
public import proofs.«01_k».proof.Proof.Gen.AdamS5AIm.Points
public import proofs.«01_k».proof.Proof.Gen.AdamS5AIm.Frame
public import proofs.«01_k».proof.Proof.Gen.AdamS5AImIdeal
public import proofs.«01_k».proof.Proof.Gen.AdamS5AImIdeal.Skeleton
public import proofs.«01_k».proof.Proof.Gen.AdamS5AImIdeal.Launch
public import proofs.«01_k».proof.Proof.Gen.AdamS5AImIdeal.Points
public import proofs.«01_k».proof.Proof.Gen.AdamS5AImIdeal.Frame
public import proofs.«01_k».proof.Proof.Gen.AdamS5AImRefIdeal
public import proofs.«01_k».proof.Proof.Gen.AdamS5LogDt
public import proofs.«01_k».proof.Proof.Gen.AdamS5LogDt.Skeleton
public import proofs.«01_k».proof.Proof.Gen.AdamS5LogDt.Launch
public import proofs.«01_k».proof.Proof.Gen.AdamS5LogDt.Points
public import proofs.«01_k».proof.Proof.Gen.AdamS5LogDt.Frame
public import proofs.«01_k».proof.Proof.Gen.AdamS5LogDtIdeal
public import proofs.«01_k».proof.Proof.Gen.AdamS5LogDtIdeal.Skeleton
public import proofs.«01_k».proof.Proof.Gen.AdamS5LogDtIdeal.Launch
public import proofs.«01_k».proof.Proof.Gen.AdamS5LogDtIdeal.Points
public import proofs.«01_k».proof.Proof.Gen.AdamS5LogDtIdeal.Frame
public import proofs.«01_k».proof.Proof.Gen.AdamS5LogDtRefIdeal
public import proofs.«01_k».proof.Proof.Gen.AdamS5BRe
public import proofs.«01_k».proof.Proof.Gen.AdamS5BRe.Skeleton
public import proofs.«01_k».proof.Proof.Gen.AdamS5BRe.Launch
public import proofs.«01_k».proof.Proof.Gen.AdamS5BRe.Points
public import proofs.«01_k».proof.Proof.Gen.AdamS5BRe.Frame
public import proofs.«01_k».proof.Proof.Gen.AdamS5BReIdeal
public import proofs.«01_k».proof.Proof.Gen.AdamS5BReIdeal.Skeleton
public import proofs.«01_k».proof.Proof.Gen.AdamS5BReIdeal.Launch
public import proofs.«01_k».proof.Proof.Gen.AdamS5BReIdeal.Points
public import proofs.«01_k».proof.Proof.Gen.AdamS5BReIdeal.Frame
public import proofs.«01_k».proof.Proof.Gen.AdamS5BReRefIdeal
public import proofs.«01_k».proof.Proof.Gen.AdamS5BIm
public import proofs.«01_k».proof.Proof.Gen.AdamS5BIm.Skeleton
public import proofs.«01_k».proof.Proof.Gen.AdamS5BIm.Launch
public import proofs.«01_k».proof.Proof.Gen.AdamS5BIm.Points
public import proofs.«01_k».proof.Proof.Gen.AdamS5BIm.Frame
public import proofs.«01_k».proof.Proof.Gen.AdamS5BImIdeal
public import proofs.«01_k».proof.Proof.Gen.AdamS5BImIdeal.Skeleton
public import proofs.«01_k».proof.Proof.Gen.AdamS5BImIdeal.Launch
public import proofs.«01_k».proof.Proof.Gen.AdamS5BImIdeal.Points
public import proofs.«01_k».proof.Proof.Gen.AdamS5BImIdeal.Frame
public import proofs.«01_k».proof.Proof.Gen.AdamS5BImRefIdeal
public import proofs.«01_k».proof.Proof.Gen.AdamS5CRe
public import proofs.«01_k».proof.Proof.Gen.AdamS5CRe.Skeleton
public import proofs.«01_k».proof.Proof.Gen.AdamS5CRe.Launch
public import proofs.«01_k».proof.Proof.Gen.AdamS5CRe.Points
public import proofs.«01_k».proof.Proof.Gen.AdamS5CRe.Frame
public import proofs.«01_k».proof.Proof.Gen.AdamS5CReIdeal
public import proofs.«01_k».proof.Proof.Gen.AdamS5CReIdeal.Skeleton
public import proofs.«01_k».proof.Proof.Gen.AdamS5CReIdeal.Launch
public import proofs.«01_k».proof.Proof.Gen.AdamS5CReIdeal.Points
public import proofs.«01_k».proof.Proof.Gen.AdamS5CReIdeal.Frame
public import proofs.«01_k».proof.Proof.Gen.AdamS5CReRefIdeal
public import proofs.«01_k».proof.Proof.Gen.AdamS5CIm
public import proofs.«01_k».proof.Proof.Gen.AdamS5CIm.Skeleton
public import proofs.«01_k».proof.Proof.Gen.AdamS5CIm.Launch
public import proofs.«01_k».proof.Proof.Gen.AdamS5CIm.Points
public import proofs.«01_k».proof.Proof.Gen.AdamS5CIm.Frame
public import proofs.«01_k».proof.Proof.Gen.AdamS5CImIdeal
public import proofs.«01_k».proof.Proof.Gen.AdamS5CImIdeal.Skeleton
public import proofs.«01_k».proof.Proof.Gen.AdamS5CImIdeal.Launch
public import proofs.«01_k».proof.Proof.Gen.AdamS5CImIdeal.Points
public import proofs.«01_k».proof.Proof.Gen.AdamS5CImIdeal.Frame
public import proofs.«01_k».proof.Proof.Gen.AdamS5CImRefIdeal
public import proofs.«01_k».proof.Proof.Gen.AdamS5D
public import proofs.«01_k».proof.Proof.Gen.AdamS5D.Skeleton
public import proofs.«01_k».proof.Proof.Gen.AdamS5D.Launch
public import proofs.«01_k».proof.Proof.Gen.AdamS5D.Points
public import proofs.«01_k».proof.Proof.Gen.AdamS5D.Frame
public import proofs.«01_k».proof.Proof.Gen.AdamS5DIdeal
public import proofs.«01_k».proof.Proof.Gen.AdamS5DIdeal.Skeleton
public import proofs.«01_k».proof.Proof.Gen.AdamS5DIdeal.Launch
public import proofs.«01_k».proof.Proof.Gen.AdamS5DIdeal.Points
public import proofs.«01_k».proof.Proof.Gen.AdamS5DIdeal.Frame
public import proofs.«01_k».proof.Proof.Gen.AdamS5DRefIdeal
public import proofs.«01_k».proof.Proof.Gen.AdamSsdDtBias
public import proofs.«01_k».proof.Proof.Gen.AdamSsdDtBias.Skeleton
public import proofs.«01_k».proof.Proof.Gen.AdamSsdDtBias.Launch
public import proofs.«01_k».proof.Proof.Gen.AdamSsdDtBias.Points
public import proofs.«01_k».proof.Proof.Gen.AdamSsdDtBias.Frame
public import proofs.«01_k».proof.Proof.Gen.AdamSsdDtBiasIdeal
public import proofs.«01_k».proof.Proof.Gen.AdamSsdDtBiasIdeal.Skeleton
public import proofs.«01_k».proof.Proof.Gen.AdamSsdDtBiasIdeal.Launch
public import proofs.«01_k».proof.Proof.Gen.AdamSsdDtBiasIdeal.Points
public import proofs.«01_k».proof.Proof.Gen.AdamSsdDtBiasIdeal.Frame
public import proofs.«01_k».proof.Proof.Gen.AdamSsdDtBiasRefIdeal
public import proofs.«01_k».proof.Proof.Gen.AdamSsdALog
public import proofs.«01_k».proof.Proof.Gen.AdamSsdALog.Skeleton
public import proofs.«01_k».proof.Proof.Gen.AdamSsdALog.Launch
public import proofs.«01_k».proof.Proof.Gen.AdamSsdALog.Points
public import proofs.«01_k».proof.Proof.Gen.AdamSsdALog.Frame
public import proofs.«01_k».proof.Proof.Gen.AdamSsdALogIdeal
public import proofs.«01_k».proof.Proof.Gen.AdamSsdALogIdeal.Skeleton
public import proofs.«01_k».proof.Proof.Gen.AdamSsdALogIdeal.Launch
public import proofs.«01_k».proof.Proof.Gen.AdamSsdALogIdeal.Points
public import proofs.«01_k».proof.Proof.Gen.AdamSsdALogIdeal.Frame
public import proofs.«01_k».proof.Proof.Gen.AdamSsdALogRefIdeal
public import proofs.«01_k».proof.Proof.Gen.AdamSsdD
public import proofs.«01_k».proof.Proof.Gen.AdamSsdD.Skeleton
public import proofs.«01_k».proof.Proof.Gen.AdamSsdD.Launch
public import proofs.«01_k».proof.Proof.Gen.AdamSsdD.Points
public import proofs.«01_k».proof.Proof.Gen.AdamSsdD.Frame
public import proofs.«01_k».proof.Proof.Gen.AdamSsdDIdeal
public import proofs.«01_k».proof.Proof.Gen.AdamSsdDIdeal.Skeleton
public import proofs.«01_k».proof.Proof.Gen.AdamSsdDIdeal.Launch
public import proofs.«01_k».proof.Proof.Gen.AdamSsdDIdeal.Points
public import proofs.«01_k».proof.Proof.Gen.AdamSsdDIdeal.Frame
public import proofs.«01_k».proof.Proof.Gen.AdamSsdDRefIdeal
public import proofs.«01_k».proof.Proof.Gen.Pre_attn_finite
public import proofs.«01_k».proof.Proof.Gen.Pre_attn_fwd_finite
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.DownDxIdeal.Value
public import proofs.«01_k».proof.Proof.Gen.DownDxRefIdeal.Run
public import proofs.«01_k».proof.Proof.Gen.DownDxRefIdeal.Read
public import proofs.«01_k».proof.Proof.Gen.DownDwIdeal.Value
public import proofs.«01_k».proof.Proof.Gen.DownDwRefIdeal.Run
public import proofs.«01_k».proof.Proof.Gen.DownDwRefIdeal.Read
public import proofs.«01_k».proof.Proof.Gen.UpDwIdeal.Value
public import proofs.«01_k».proof.Proof.Gen.UpDwRefIdeal.Run
public import proofs.«01_k».proof.Proof.Gen.UpDwRefIdeal.Read
public import proofs.«01_k».proof.Proof.Gen.UpDxIdeal.Value
public import proofs.«01_k».proof.Proof.Gen.UpDxRefIdeal.Run
public import proofs.«01_k».proof.Proof.Gen.UpDxRefIdeal.Read
public import proofs.«01_k».proof.Proof.Gen.InDwIdeal.Value
public import proofs.«01_k».proof.Proof.Gen.InDwRefIdeal.Run
public import proofs.«01_k».proof.Proof.Gen.InDwRefIdeal.Read
public import proofs.«01_k».proof.Proof.Gen.InDxIdeal.Value
public import proofs.«01_k».proof.Proof.Gen.InDxRefIdeal.Run
public import proofs.«01_k».proof.Proof.Gen.InDxRefIdeal.Read
public import proofs.«01_k».proof.Proof.Gen.OutDxIdeal.Value
public import proofs.«01_k».proof.Proof.Gen.OutDxRefIdeal.Run
public import proofs.«01_k».proof.Proof.Gen.OutDxRefIdeal.Read
public import proofs.«01_k».proof.Proof.Gen.OutDwIdeal.Value
public import proofs.«01_k».proof.Proof.Gen.OutDwRefIdeal.Run
public import proofs.«01_k».proof.Proof.Gen.OutDwRefIdeal.Read
public import proofs.«01_k».proof.Proof.Gen.UpIdeal.Value
public import proofs.«01_k».proof.Proof.Gen.UpRefIdeal.Run
public import proofs.«01_k».proof.Proof.Gen.UpRefIdeal.Read
public import proofs.«01_k».proof.Proof.Gen.DownIdeal.Value
public import proofs.«01_k».proof.Proof.Gen.DownRefIdeal.Run
public import proofs.«01_k».proof.Proof.Gen.DownRefIdeal.Read
public import proofs.«01_k».proof.Proof.Gen.InIdeal.Value
public import proofs.«01_k».proof.Proof.Gen.InRefIdeal.Run
public import proofs.«01_k».proof.Proof.Gen.InRefIdeal.Read
public import proofs.«01_k».proof.Proof.AttnClaim
public import proofs.«01_k».proof.Proof.DownDxClaim
public import proofs.«01_k».proof.Proof.DownDwClaim
public import proofs.«01_k».proof.Proof.UpDwClaim
public import proofs.«01_k».proof.Proof.UpDxClaim
public import proofs.«01_k».proof.Proof.InDwClaim
public import proofs.«01_k».proof.Proof.InDxClaim
public import proofs.«01_k».proof.Proof.OutDxClaim
public import proofs.«01_k».proof.Proof.OutDwClaim
public import proofs.«01_k».proof.Proof.UpClaim
public import proofs.«01_k».proof.Proof.DownClaim
public import proofs.«01_k».proof.Proof.InClaim
public import proofs.«01_k».proof.Proof.Gen.AttnFwdIdeal.Value
public import proofs.«01_k».proof.Proof.Gen.AttnFwdRefIdeal.Run
public import proofs.«01_k».proof.Proof.Gen.AttnFwdRefIdeal.Read
public import proofs.«01_k».proof.Proof.Gen.LossIdeal.Value
public import proofs.«01_k».proof.Proof.Gen.LossRefIdeal.Run
public import proofs.«01_k».proof.Proof.Gen.LossRefIdeal.Read
public import proofs.«01_k».proof.Proof.Gen.AdamIdeal.Value
public import proofs.«01_k».proof.Proof.Gen.AdamRefIdeal.Run
public import proofs.«01_k».proof.Proof.Gen.AdamRefIdeal.Read
public import proofs.«01_k».proof.Proof.AttnFwdClaim
public import proofs.«01_k».proof.Proof.LossClaim
public import proofs.«01_k».proof.Proof.AdamClaim
public import proofs.«01_k».proof.Proof.Gen.AdamS5WGluIdeal.Value
public import proofs.«01_k».proof.Proof.Gen.AdamS5WGluRefIdeal.Run
public import proofs.«01_k».proof.Proof.Gen.AdamS5WGluRefIdeal.Read
public import proofs.«01_k».proof.Proof.AdamS5WGluClaim
public import proofs.«01_k».proof.Proof.Gen.AdamXaWkIdeal.Value
public import proofs.«01_k».proof.Proof.Gen.AdamXaWkRefIdeal.Run
public import proofs.«01_k».proof.Proof.Gen.AdamXaWkRefIdeal.Read
public import proofs.«01_k».proof.Proof.AdamXaWkClaim
public import proofs.«01_k».proof.Proof.Gen.AdamXaWvIdeal.Value
public import proofs.«01_k».proof.Proof.Gen.AdamXaWvRefIdeal.Run
public import proofs.«01_k».proof.Proof.Gen.AdamXaWvRefIdeal.Read
public import proofs.«01_k».proof.Proof.AdamXaWvClaim
public import proofs.«01_k».proof.Proof.Gen.AdamXaWoIdeal.Value
public import proofs.«01_k».proof.Proof.Gen.AdamXaWoRefIdeal.Run
public import proofs.«01_k».proof.Proof.Gen.AdamXaWoRefIdeal.Read
public import proofs.«01_k».proof.Proof.AdamXaWoClaim
public import proofs.«01_k».proof.Proof.Gen.AdamWInIdeal.Value
public import proofs.«01_k».proof.Proof.Gen.AdamWInRefIdeal.Run
public import proofs.«01_k».proof.Proof.Gen.AdamWInRefIdeal.Read
public import proofs.«01_k».proof.Proof.AdamWInClaim
public import proofs.«01_k».proof.Proof.Gen.AdamSsdConvWIdeal.Value
public import proofs.«01_k».proof.Proof.Gen.AdamSsdConvWRefIdeal.Run
public import proofs.«01_k».proof.Proof.Gen.AdamSsdConvWRefIdeal.Read
public import proofs.«01_k».proof.Proof.AdamSsdConvWClaim
public import proofs.«01_k».proof.Proof.Gen.AdamWOutIdeal.Value
public import proofs.«01_k».proof.Proof.Gen.AdamWOutRefIdeal.Run
public import proofs.«01_k».proof.Proof.Gen.AdamWOutRefIdeal.Read
public import proofs.«01_k».proof.Proof.AdamWOutClaim
public import proofs.«01_k».proof.Proof.Gen.AdamMlpW1Ideal.Value
public import proofs.«01_k».proof.Proof.Gen.AdamMlpW1RefIdeal.Run
public import proofs.«01_k».proof.Proof.Gen.AdamMlpW1RefIdeal.Read
public import proofs.«01_k».proof.Proof.AdamMlpW1Claim
public import proofs.«01_k».proof.Proof.Gen.AdamMlpW2Ideal.Value
public import proofs.«01_k».proof.Proof.Gen.AdamMlpW2RefIdeal.Run
public import proofs.«01_k».proof.Proof.Gen.AdamMlpW2RefIdeal.Read
public import proofs.«01_k».proof.Proof.AdamMlpW2Claim
public import proofs.«01_k».proof.Proof.Gen.AdamNormMixIdeal.Value
public import proofs.«01_k».proof.Proof.Gen.AdamNormMixRefIdeal.Run
public import proofs.«01_k».proof.Proof.Gen.AdamNormMixRefIdeal.Read
public import proofs.«01_k».proof.Proof.AdamNormMixClaim
public import proofs.«01_k».proof.Proof.Gen.AdamSsdNormIdeal.Value
public import proofs.«01_k».proof.Proof.Gen.AdamSsdNormRefIdeal.Run
public import proofs.«01_k».proof.Proof.Gen.AdamSsdNormRefIdeal.Read
public import proofs.«01_k».proof.Proof.AdamSsdNormClaim
public import proofs.«01_k».proof.Proof.Gen.AdamNormXattnIdeal.Value
public import proofs.«01_k».proof.Proof.Gen.AdamNormXattnRefIdeal.Run
public import proofs.«01_k».proof.Proof.Gen.AdamNormXattnRefIdeal.Read
public import proofs.«01_k».proof.Proof.AdamNormXattnClaim
public import proofs.«01_k».proof.Proof.Gen.AdamNormMemIdeal.Value
public import proofs.«01_k».proof.Proof.Gen.AdamNormMemRefIdeal.Run
public import proofs.«01_k».proof.Proof.Gen.AdamNormMemRefIdeal.Read
public import proofs.«01_k».proof.Proof.AdamNormMemClaim
public import proofs.«01_k».proof.Proof.Gen.AdamNormMlpIdeal.Value
public import proofs.«01_k».proof.Proof.Gen.AdamNormMlpRefIdeal.Run
public import proofs.«01_k».proof.Proof.Gen.AdamNormMlpRefIdeal.Read
public import proofs.«01_k».proof.Proof.AdamNormMlpClaim
public import proofs.«01_k».proof.Proof.Gen.AdamNormFinalIdeal.Value
public import proofs.«01_k».proof.Proof.Gen.AdamNormFinalRefIdeal.Run
public import proofs.«01_k».proof.Proof.Gen.AdamNormFinalRefIdeal.Read
public import proofs.«01_k».proof.Proof.AdamNormFinalClaim
public import proofs.«01_k».proof.Proof.Gen.AdamSsdConvBIdeal.Value
public import proofs.«01_k».proof.Proof.Gen.AdamSsdConvBRefIdeal.Run
public import proofs.«01_k».proof.Proof.Gen.AdamSsdConvBRefIdeal.Read
public import proofs.«01_k».proof.Proof.AdamSsdConvBClaim
public import proofs.«01_k».proof.Proof.Gen.AdamS5AReIdeal.Value
public import proofs.«01_k».proof.Proof.Gen.AdamS5AReRefIdeal.Run
public import proofs.«01_k».proof.Proof.Gen.AdamS5AReRefIdeal.Read
public import proofs.«01_k».proof.Proof.AdamS5AReClaim
public import proofs.«01_k».proof.Proof.Gen.AdamS5AImIdeal.Value
public import proofs.«01_k».proof.Proof.Gen.AdamS5AImRefIdeal.Run
public import proofs.«01_k».proof.Proof.Gen.AdamS5AImRefIdeal.Read
public import proofs.«01_k».proof.Proof.AdamS5AImClaim
public import proofs.«01_k».proof.Proof.Gen.AdamS5LogDtIdeal.Value
public import proofs.«01_k».proof.Proof.Gen.AdamS5LogDtRefIdeal.Run
public import proofs.«01_k».proof.Proof.Gen.AdamS5LogDtRefIdeal.Read
public import proofs.«01_k».proof.Proof.AdamS5LogDtClaim
public import proofs.«01_k».proof.Proof.Gen.AdamS5BReIdeal.Value
public import proofs.«01_k».proof.Proof.Gen.AdamS5BReRefIdeal.Run
public import proofs.«01_k».proof.Proof.Gen.AdamS5BReRefIdeal.Read
public import proofs.«01_k».proof.Proof.AdamS5BReClaim
public import proofs.«01_k».proof.Proof.Gen.AdamS5BImIdeal.Value
public import proofs.«01_k».proof.Proof.Gen.AdamS5BImRefIdeal.Run
public import proofs.«01_k».proof.Proof.Gen.AdamS5BImRefIdeal.Read
public import proofs.«01_k».proof.Proof.AdamS5BImClaim
public import proofs.«01_k».proof.Proof.Gen.AdamS5CReIdeal.Value
public import proofs.«01_k».proof.Proof.Gen.AdamS5CReRefIdeal.Run
public import proofs.«01_k».proof.Proof.Gen.AdamS5CReRefIdeal.Read
public import proofs.«01_k».proof.Proof.AdamS5CReClaim
public import proofs.«01_k».proof.Proof.Gen.AdamS5CImIdeal.Value
public import proofs.«01_k».proof.Proof.Gen.AdamS5CImRefIdeal.Run
public import proofs.«01_k».proof.Proof.Gen.AdamS5CImRefIdeal.Read
public import proofs.«01_k».proof.Proof.AdamS5CImClaim
public import proofs.«01_k».proof.Proof.Gen.AdamS5DIdeal.Value
public import proofs.«01_k».proof.Proof.Gen.AdamS5DRefIdeal.Run
public import proofs.«01_k».proof.Proof.Gen.AdamS5DRefIdeal.Read
public import proofs.«01_k».proof.Proof.AdamS5DClaim
public import proofs.«01_k».proof.Proof.Gen.AdamSsdDtBiasIdeal.Value
public import proofs.«01_k».proof.Proof.Gen.AdamSsdDtBiasRefIdeal.Run
public import proofs.«01_k».proof.Proof.Gen.AdamSsdDtBiasRefIdeal.Read
public import proofs.«01_k».proof.Proof.AdamSsdDtBiasClaim
public import proofs.«01_k».proof.Proof.Gen.AdamSsdALogIdeal.Value
public import proofs.«01_k».proof.Proof.Gen.AdamSsdALogRefIdeal.Run
public import proofs.«01_k».proof.Proof.Gen.AdamSsdALogRefIdeal.Read
public import proofs.«01_k».proof.Proof.AdamSsdALogClaim
public import proofs.«01_k».proof.Proof.Gen.AdamSsdDIdeal.Value
public import proofs.«01_k».proof.Proof.Gen.AdamSsdDRefIdeal.Run
public import proofs.«01_k».proof.Proof.Gen.AdamSsdDRefIdeal.Read
public import proofs.«01_k».proof.Proof.AdamSsdDClaim
public import Idealize.ShloMosaic.Adequacy
public import Idealize.ShloMosaic.Init

@[expose] public section

noncomputable section

namespace Cert.Proof

open Idealize.ShloMosaic Idealize.SL.Sem Cert.Attn

theorem claim : Cert.Claim := ⟨Cert.Attn.Gen.facts, Cert.AttnIdeal.Gen.facts, Cert.AttnRefIdeal.Gen.facts, Cert.DownDx.Gen.facts, Cert.DownDxIdeal.Gen.facts, Cert.DownDxRefIdeal.Gen.facts, Cert.DownDw.Gen.facts, Cert.DownDwIdeal.Gen.facts, Cert.DownDwRefIdeal.Gen.facts, Cert.UpDw.Gen.facts, Cert.UpDwIdeal.Gen.facts, Cert.UpDwRefIdeal.Gen.facts, Cert.UpDx.Gen.facts, Cert.UpDxIdeal.Gen.facts, Cert.UpDxRefIdeal.Gen.facts, Cert.InDw.Gen.facts, Cert.InDwIdeal.Gen.facts, Cert.InDwRefIdeal.Gen.facts, Cert.InDx.Gen.facts, Cert.InDxIdeal.Gen.facts, Cert.InDxRefIdeal.Gen.facts, Cert.OutDx.Gen.facts, Cert.OutDxIdeal.Gen.facts, Cert.OutDxRefIdeal.Gen.facts, Cert.OutDw.Gen.facts, Cert.OutDwIdeal.Gen.facts, Cert.OutDwRefIdeal.Gen.facts, Cert.Up.Gen.facts, Cert.UpIdeal.Gen.facts, Cert.UpRefIdeal.Gen.facts, Cert.Down.Gen.facts, Cert.DownIdeal.Gen.facts, Cert.DownRefIdeal.Gen.facts, Cert.In.Gen.facts, Cert.InIdeal.Gen.facts, Cert.InRefIdeal.Gen.facts, Cert.AttnFwd.Gen.facts, Cert.AttnFwdIdeal.Gen.facts, Cert.AttnFwdRefIdeal.Gen.facts, Cert.Loss.Gen.facts, Cert.LossIdeal.Gen.facts, Cert.LossRefIdeal.Gen.facts, Cert.Adam.Gen.facts, Cert.AdamIdeal.Gen.facts, Cert.AdamRefIdeal.Gen.facts, Cert.AdamS5WGlu.Gen.facts, Cert.AdamS5WGluIdeal.Gen.facts, Cert.AdamS5WGluRefIdeal.Gen.facts, Cert.AdamXaWk.Gen.facts, Cert.AdamXaWkIdeal.Gen.facts, Cert.AdamXaWkRefIdeal.Gen.facts, Cert.AdamXaWv.Gen.facts, Cert.AdamXaWvIdeal.Gen.facts, Cert.AdamXaWvRefIdeal.Gen.facts, Cert.AdamXaWo.Gen.facts, Cert.AdamXaWoIdeal.Gen.facts, Cert.AdamXaWoRefIdeal.Gen.facts, Cert.AdamWIn.Gen.facts, Cert.AdamWInIdeal.Gen.facts, Cert.AdamWInRefIdeal.Gen.facts, Cert.AdamSsdConvW.Gen.facts, Cert.AdamSsdConvWIdeal.Gen.facts, Cert.AdamSsdConvWRefIdeal.Gen.facts, Cert.AdamWOut.Gen.facts, Cert.AdamWOutIdeal.Gen.facts, Cert.AdamWOutRefIdeal.Gen.facts, Cert.AdamMlpW1.Gen.facts, Cert.AdamMlpW1Ideal.Gen.facts, Cert.AdamMlpW1RefIdeal.Gen.facts, Cert.AdamMlpW2.Gen.facts, Cert.AdamMlpW2Ideal.Gen.facts, Cert.AdamMlpW2RefIdeal.Gen.facts, Cert.AdamNormMix.Gen.facts, Cert.AdamNormMixIdeal.Gen.facts, Cert.AdamNormMixRefIdeal.Gen.facts, Cert.AdamSsdNorm.Gen.facts, Cert.AdamSsdNormIdeal.Gen.facts, Cert.AdamSsdNormRefIdeal.Gen.facts, Cert.AdamNormXattn.Gen.facts, Cert.AdamNormXattnIdeal.Gen.facts, Cert.AdamNormXattnRefIdeal.Gen.facts, Cert.AdamNormMem.Gen.facts, Cert.AdamNormMemIdeal.Gen.facts, Cert.AdamNormMemRefIdeal.Gen.facts, Cert.AdamNormMlp.Gen.facts, Cert.AdamNormMlpIdeal.Gen.facts, Cert.AdamNormMlpRefIdeal.Gen.facts, Cert.AdamNormFinal.Gen.facts, Cert.AdamNormFinalIdeal.Gen.facts, Cert.AdamNormFinalRefIdeal.Gen.facts, Cert.AdamSsdConvB.Gen.facts, Cert.AdamSsdConvBIdeal.Gen.facts, Cert.AdamSsdConvBRefIdeal.Gen.facts, Cert.AdamS5ARe.Gen.facts, Cert.AdamS5AReIdeal.Gen.facts, Cert.AdamS5AReRefIdeal.Gen.facts, Cert.AdamS5AIm.Gen.facts, Cert.AdamS5AImIdeal.Gen.facts, Cert.AdamS5AImRefIdeal.Gen.facts, Cert.AdamS5LogDt.Gen.facts, Cert.AdamS5LogDtIdeal.Gen.facts, Cert.AdamS5LogDtRefIdeal.Gen.facts, Cert.AdamS5BRe.Gen.facts, Cert.AdamS5BReIdeal.Gen.facts, Cert.AdamS5BReRefIdeal.Gen.facts, Cert.AdamS5BIm.Gen.facts, Cert.AdamS5BImIdeal.Gen.facts, Cert.AdamS5BImRefIdeal.Gen.facts, Cert.AdamS5CRe.Gen.facts, Cert.AdamS5CReIdeal.Gen.facts, Cert.AdamS5CReRefIdeal.Gen.facts, Cert.AdamS5CIm.Gen.facts, Cert.AdamS5CImIdeal.Gen.facts, Cert.AdamS5CImRefIdeal.Gen.facts, Cert.AdamS5D.Gen.facts, Cert.AdamS5DIdeal.Gen.facts, Cert.AdamS5DRefIdeal.Gen.facts, Cert.AdamSsdDtBias.Gen.facts, Cert.AdamSsdDtBiasIdeal.Gen.facts, Cert.AdamSsdDtBiasRefIdeal.Gen.facts, Cert.AdamSsdALog.Gen.facts, Cert.AdamSsdALogIdeal.Gen.facts, Cert.AdamSsdALogRefIdeal.Gen.facts, Cert.AdamSsdD.Gen.facts, Cert.AdamSsdDIdeal.Gen.facts, Cert.AdamSsdDRefIdeal.Gen.facts, Cert.Pre_attn_finite.Gen.facts, Cert.Pre_attn_fwd_finite.Gen.facts,
  AttnClaim.frame_kernel, AttnClaim.frame_ideal, AttnClaim.frame_ideal_pre, AttnClaim.frame_reference, AttnClaim.frame_reference_pre,
  DownDxClaim.frame_kernel, DownDxClaim.frame_ideal, DownDxClaim.frame_reference,
  DownDwClaim.frame_kernel, DownDwClaim.frame_ideal, DownDwClaim.frame_reference,
  UpDwClaim.frame_kernel, UpDwClaim.frame_ideal, UpDwClaim.frame_reference,
  UpDxClaim.frame_kernel, UpDxClaim.frame_ideal, UpDxClaim.frame_reference,
  InDwClaim.frame_kernel, InDwClaim.frame_ideal, InDwClaim.frame_reference,
  InDxClaim.frame_kernel, InDxClaim.frame_ideal, InDxClaim.frame_reference,
  OutDxClaim.frame_kernel, OutDxClaim.frame_ideal, OutDxClaim.frame_reference,
  OutDwClaim.frame_kernel, OutDwClaim.frame_ideal, OutDwClaim.frame_reference,
  UpClaim.frame_kernel, UpClaim.frame_ideal, UpClaim.frame_reference,
  DownClaim.frame_kernel, DownClaim.frame_ideal, DownClaim.frame_reference,
  InClaim.frame_kernel, InClaim.frame_ideal, InClaim.frame_reference,
  AttnFwdClaim.frame_kernel, AttnFwdClaim.frame_ideal, AttnFwdClaim.frame_ideal_pre, AttnFwdClaim.frame_reference, AttnFwdClaim.frame_reference_pre,
  LossClaim.frame_kernel, LossClaim.frame_ideal, LossClaim.frame_reference,
  AdamClaim.frame_kernel, AdamClaim.frame_ideal, AdamClaim.frame_reference,
  AdamS5WGluClaim.frame_kernel, AdamS5WGluClaim.frame_ideal, AdamS5WGluClaim.frame_reference,
  AdamXaWkClaim.frame_kernel, AdamXaWkClaim.frame_ideal, AdamXaWkClaim.frame_reference,
  AdamXaWvClaim.frame_kernel, AdamXaWvClaim.frame_ideal, AdamXaWvClaim.frame_reference,
  AdamXaWoClaim.frame_kernel, AdamXaWoClaim.frame_ideal, AdamXaWoClaim.frame_reference,
  AdamWInClaim.frame_kernel, AdamWInClaim.frame_ideal, AdamWInClaim.frame_reference,
  AdamSsdConvWClaim.frame_kernel, AdamSsdConvWClaim.frame_ideal, AdamSsdConvWClaim.frame_reference,
  AdamWOutClaim.frame_kernel, AdamWOutClaim.frame_ideal, AdamWOutClaim.frame_reference,
  AdamMlpW1Claim.frame_kernel, AdamMlpW1Claim.frame_ideal, AdamMlpW1Claim.frame_reference,
  AdamMlpW2Claim.frame_kernel, AdamMlpW2Claim.frame_ideal, AdamMlpW2Claim.frame_reference,
  AdamNormMixClaim.frame_kernel, AdamNormMixClaim.frame_ideal, AdamNormMixClaim.frame_reference,
  AdamSsdNormClaim.frame_kernel, AdamSsdNormClaim.frame_ideal, AdamSsdNormClaim.frame_reference,
  AdamNormXattnClaim.frame_kernel, AdamNormXattnClaim.frame_ideal, AdamNormXattnClaim.frame_reference,
  AdamNormMemClaim.frame_kernel, AdamNormMemClaim.frame_ideal, AdamNormMemClaim.frame_reference,
  AdamNormMlpClaim.frame_kernel, AdamNormMlpClaim.frame_ideal, AdamNormMlpClaim.frame_reference,
  AdamNormFinalClaim.frame_kernel, AdamNormFinalClaim.frame_ideal, AdamNormFinalClaim.frame_reference,
  AdamSsdConvBClaim.frame_kernel, AdamSsdConvBClaim.frame_ideal, AdamSsdConvBClaim.frame_reference,
  AdamS5AReClaim.frame_kernel, AdamS5AReClaim.frame_ideal, AdamS5AReClaim.frame_reference,
  AdamS5AImClaim.frame_kernel, AdamS5AImClaim.frame_ideal, AdamS5AImClaim.frame_reference,
  AdamS5LogDtClaim.frame_kernel, AdamS5LogDtClaim.frame_ideal, AdamS5LogDtClaim.frame_reference,
  AdamS5BReClaim.frame_kernel, AdamS5BReClaim.frame_ideal, AdamS5BReClaim.frame_reference,
  AdamS5BImClaim.frame_kernel, AdamS5BImClaim.frame_ideal, AdamS5BImClaim.frame_reference,
  AdamS5CReClaim.frame_kernel, AdamS5CReClaim.frame_ideal, AdamS5CReClaim.frame_reference,
  AdamS5CImClaim.frame_kernel, AdamS5CImClaim.frame_ideal, AdamS5CImClaim.frame_reference,
  AdamS5DClaim.frame_kernel, AdamS5DClaim.frame_ideal, AdamS5DClaim.frame_reference,
  AdamSsdDtBiasClaim.frame_kernel, AdamSsdDtBiasClaim.frame_ideal, AdamSsdDtBiasClaim.frame_reference,
  AdamSsdALogClaim.frame_kernel, AdamSsdALogClaim.frame_ideal, AdamSsdALogClaim.frame_reference,
  AdamSsdDClaim.frame_kernel, AdamSsdDClaim.frame_ideal, AdamSsdDClaim.frame_reference,
  trivial, AttnClaim.algebraic,
  trivial, DownDxClaim.algebraic,
  trivial, DownDwClaim.algebraic,
  trivial, UpDwClaim.algebraic,
  trivial, UpDxClaim.algebraic,
  trivial, InDwClaim.algebraic,
  trivial, InDxClaim.algebraic,
  trivial, OutDxClaim.algebraic,
  trivial, OutDwClaim.algebraic,
  trivial, UpClaim.algebraic,
  trivial, DownClaim.algebraic,
  trivial, InClaim.algebraic,
  trivial, AttnFwdClaim.algebraic,
  trivial, LossClaim.algebraic,
  trivial, AdamClaim.algebraic,
  trivial, AdamS5WGluClaim.algebraic,
  trivial, AdamXaWkClaim.algebraic,
  trivial, AdamXaWvClaim.algebraic,
  trivial, AdamXaWoClaim.algebraic,
  trivial, AdamWInClaim.algebraic,
  trivial, AdamSsdConvWClaim.algebraic,
  trivial, AdamWOutClaim.algebraic,
  trivial, AdamMlpW1Claim.algebraic,
  trivial, AdamMlpW2Claim.algebraic,
  trivial, AdamNormMixClaim.algebraic,
  trivial, AdamSsdNormClaim.algebraic,
  trivial, AdamNormXattnClaim.algebraic,
  trivial, AdamNormMemClaim.algebraic,
  trivial, AdamNormMlpClaim.algebraic,
  trivial, AdamNormFinalClaim.algebraic,
  trivial, AdamSsdConvBClaim.algebraic,
  trivial, AdamS5AReClaim.algebraic,
  trivial, AdamS5AImClaim.algebraic,
  trivial, AdamS5LogDtClaim.algebraic,
  trivial, AdamS5BReClaim.algebraic,
  trivial, AdamS5BImClaim.algebraic,
  trivial, AdamS5CReClaim.algebraic,
  trivial, AdamS5CImClaim.algebraic,
  trivial, AdamS5DClaim.algebraic,
  trivial, AdamSsdDtBiasClaim.algebraic,
  trivial, AdamSsdALogClaim.algebraic,
  trivial, AdamSsdDClaim.algebraic⟩

end Cert.Proof

end
